-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_DUp (m : (ℓ : Loc Cert.DUp.nD Cert.DUp.τ Cert.DUp.sig) → Buf (Elt Bits) ℓ) : Prop :=
  True

def Pre_DUpIdeal (m : (ℓ : Loc Cert.DUpIdeal.nD Cert.DUpIdeal.τ Cert.DUpIdeal.sig) → Buf (Elt Ideal) ℓ) : Prop :=
  True

def Pre_DUpRefIdeal (m : (ℓ : Loc Cert.DUpRefIdeal.nD Cert.DUpRefIdeal.τ Cert.DUpRefIdeal.sig) → Buf (Elt Ideal) ℓ) : Prop :=
  True

def Pre_DDown (m : (ℓ : Loc Cert.DDown.nD Cert.DDown.τ Cert.DDown.sig) → Buf (Elt Bits) ℓ) : Prop :=
  True

def Pre_DDownIdeal (m : (ℓ : Loc Cert.DDownIdeal.nD Cert.DDownIdeal.τ Cert.DDownIdeal.sig) → Buf (Elt Ideal) ℓ) : Prop :=
  True

def Pre_DDownRefIdeal (m : (ℓ : Loc Cert.DDownRefIdeal.nD Cert.DDownRefIdeal.τ Cert.DDownRefIdeal.sig) → Buf (Elt Ideal) ℓ) : Prop :=
  True

def Pre_DIn (m : (ℓ : Loc Cert.DIn.nD Cert.DIn.τ Cert.DIn.sig) → Buf (Elt Bits) ℓ) : Prop :=
  True

def Pre_DInIdeal (m : (ℓ : Loc Cert.DInIdeal.nD Cert.DInIdeal.τ Cert.DInIdeal.sig) → Buf (Elt Ideal) ℓ) : Prop :=
  True

def Pre_DInRefIdeal (m : (ℓ : Loc Cert.DInRefIdeal.nD Cert.DInRefIdeal.τ Cert.DInRefIdeal.sig) → Buf (Elt Ideal) ℓ) : Prop :=
  True

def Pre_DGate (m : (ℓ : Loc Cert.DGate.nD Cert.DGate.τ Cert.DGate.sig) → Buf (Elt Bits) ℓ) : Prop :=
  True

def Pre_DGateIdeal (m : (ℓ : Loc Cert.DGateIdeal.nD Cert.DGateIdeal.τ Cert.DGateIdeal.sig) → Buf (Elt Ideal) ℓ) : Prop :=
  True

def Pre_DGateRefIdeal (m : (ℓ : Loc Cert.DGateRefIdeal.nD Cert.DGateRefIdeal.τ Cert.DGateRefIdeal.sig) → Buf (Elt Ideal) ℓ) : Prop :=
  True

def Pre_DOut (m : (ℓ : Loc Cert.DOut.nD Cert.DOut.τ Cert.DOut.sig) → Buf (Elt Bits) ℓ) : Prop :=
  True

def Pre_DOutIdeal (m : (ℓ : Loc Cert.DOutIdeal.nD Cert.DOutIdeal.τ Cert.DOutIdeal.sig) → Buf (Elt Ideal) ℓ) : Prop :=
  True

def Pre_DOutRefIdeal (m : (ℓ : Loc Cert.DOutRefIdeal.nD Cert.DOutRefIdeal.τ Cert.DOutRefIdeal.sig) → Buf (Elt Ideal) ℓ) : Prop :=
  True

def Pre_DProj (m : (ℓ : Loc Cert.DProj.nD Cert.DProj.τ Cert.DProj.sig) → Buf (Elt Bits) ℓ) : Prop :=
  True

def Pre_DProjIdeal (m : (ℓ : Loc Cert.DProjIdeal.nD Cert.DProjIdeal.τ Cert.DProjIdeal.sig) → Buf (Elt Ideal) ℓ) : Prop :=
  True

def Pre_DProjRefIdeal (m : (ℓ : Loc Cert.DProjRefIdeal.nD Cert.DProjRefIdeal.τ Cert.DProjRefIdeal.sig) → Buf (Elt Ideal) ℓ) : Prop :=
  True

def Pre_DGlu (m : (ℓ : Loc Cert.DGlu.nD Cert.DGlu.τ Cert.DGlu.sig) → Buf (Elt Bits) ℓ) : Prop :=
  True

def Pre_DGluIdeal (m : (ℓ : Loc Cert.DGluIdeal.nD Cert.DGluIdeal.τ Cert.DGluIdeal.sig) → Buf (Elt Ideal) ℓ) : Prop :=
  True

def Pre_DGluRefIdeal (m : (ℓ : Loc Cert.DGluRefIdeal.nD Cert.DGluRefIdeal.τ Cert.DGluRefIdeal.sig) → Buf (Elt Ideal) ℓ) : Prop :=
  True

def Pre_UpT (m : (ℓ : Loc Cert.UpT.nD Cert.UpT.τ Cert.UpT.sig) → Buf (Elt Bits) ℓ) : Prop :=
  True

def Pre_UpTIdeal (m : (ℓ : Loc Cert.UpTIdeal.nD Cert.UpTIdeal.τ Cert.UpTIdeal.sig) → Buf (Elt Ideal) ℓ) : Prop :=
  True

def Pre_UpTIdeal_finite_up [hPre_finite_up : Cert.Pre_finite_up.Facts] (m : (ℓ : Loc Cert.UpTIdeal.nD Cert.UpTIdeal.τ Cert.UpTIdeal.sig) → Buf (Elt Ideal) ℓ) : Prop :=
  ∀ c : Dev Cert.UpTIdeal.nD,
    (Cert.Pre_finite_up.fn (F := Ideal) (m ((c.tc : Thread Cert.UpTIdeal.nD Cert.UpTIdeal.τ).loc Cert.UpTIdeal.main_arg0)) (m ((c.tc : Thread Cert.UpTIdeal.nD Cert.UpTIdeal.τ).loc Cert.UpTIdeal.main_arg1)) (m ((c.tc : Thread Cert.UpTIdeal.nD Cert.UpTIdeal.τ).loc Cert.UpTIdeal.main_arg2)) (m ((c.tc : Thread Cert.UpTIdeal.nD Cert.UpTIdeal.τ).loc Cert.UpTIdeal.main_arg3)) (m ((c.tc : Thread Cert.UpTIdeal.nD Cert.UpTIdeal.τ).loc Cert.UpTIdeal.main_arg4))) = (fun _ => 1#1)

def Pre_UpTRefIdeal (m : (ℓ : Loc Cert.UpTRefIdeal.nD Cert.UpTRefIdeal.τ Cert.UpTRefIdeal.sig) → Buf (Elt Ideal) ℓ) : Prop :=
  True

def Pre_UpTRefIdeal_finite_up [hPre_finite_up : Cert.Pre_finite_up.Facts] (m : (ℓ : Loc Cert.UpTRefIdeal.nD Cert.UpTRefIdeal.τ Cert.UpTRefIdeal.sig) → Buf (Elt Ideal) ℓ) : Prop :=
  ∀ c : Dev Cert.UpTRefIdeal.nD,
    (Cert.Pre_finite_up.fn (F := Ideal) (m ((c.tc : Thread Cert.UpTRefIdeal.nD Cert.UpTRefIdeal.τ).loc Cert.UpTRefIdeal.main_arg0)) (m ((c.tc : Thread Cert.UpTRefIdeal.nD Cert.UpTRefIdeal.τ).loc Cert.UpTRefIdeal.main_arg1)) (m ((c.tc : Thread Cert.UpTRefIdeal.nD Cert.UpTRefIdeal.τ).loc Cert.UpTRefIdeal.main_arg2)) (m ((c.tc : Thread Cert.UpTRefIdeal.nD Cert.UpTRefIdeal.τ).loc Cert.UpTRefIdeal.main_arg3)) (m ((c.tc : Thread Cert.UpTRefIdeal.nD Cert.UpTRefIdeal.τ).loc Cert.UpTRefIdeal.main_arg4))) = (fun _ => 1#1)

def Pre_InT (m : (ℓ : Loc Cert.InT.nD Cert.InT.τ Cert.InT.sig) → Buf (Elt Bits) ℓ) : Prop :=
  True

def Pre_InTIdeal (m : (ℓ : Loc Cert.InTIdeal.nD Cert.InTIdeal.τ Cert.InTIdeal.sig) → Buf (Elt Ideal) ℓ) : Prop :=
  True

def Pre_InTIdeal_finite_in [hPre_finite_in : Cert.Pre_finite_in.Facts] (m : (ℓ : Loc Cert.InTIdeal.nD Cert.InTIdeal.τ Cert.InTIdeal.sig) → Buf (Elt Ideal) ℓ) : Prop :=
  ∀ c : Dev Cert.InTIdeal.nD,
    (Cert.Pre_finite_in.fn (F := Ideal) (m ((c.tc : Thread Cert.InTIdeal.nD Cert.InTIdeal.τ).loc Cert.InTIdeal.main_arg0)) (m ((c.tc : Thread Cert.InTIdeal.nD Cert.InTIdeal.τ).loc Cert.InTIdeal.main_arg1)) (m ((c.tc : Thread Cert.InTIdeal.nD Cert.InTIdeal.τ).loc Cert.InTIdeal.main_arg2)) (m ((c.tc : Thread Cert.InTIdeal.nD Cert.InTIdeal.τ).loc Cert.InTIdeal.main_arg3)) (m ((c.tc : Thread Cert.InTIdeal.nD Cert.InTIdeal.τ).loc Cert.InTIdeal.main_arg4))) = (fun _ => 1#1)

def Pre_InTRefIdeal (m : (ℓ : Loc Cert.InTRefIdeal.nD Cert.InTRefIdeal.τ Cert.InTRefIdeal.sig) → Buf (Elt Ideal) ℓ) : Prop :=
  True

def Pre_InTRefIdeal_finite_in [hPre_finite_in : Cert.Pre_finite_in.Facts] (m : (ℓ : Loc Cert.InTRefIdeal.nD Cert.InTRefIdeal.τ Cert.InTRefIdeal.sig) → Buf (Elt Ideal) ℓ) : Prop :=
  ∀ c : Dev Cert.InTRefIdeal.nD,
    (Cert.Pre_finite_in.fn (F := Ideal) (m ((c.tc : Thread Cert.InTRefIdeal.nD Cert.InTRefIdeal.τ).loc Cert.InTRefIdeal.main_arg0)) (m ((c.tc : Thread Cert.InTRefIdeal.nD Cert.InTRefIdeal.τ).loc Cert.InTRefIdeal.main_arg1)) (m ((c.tc : Thread Cert.InTRefIdeal.nD Cert.InTRefIdeal.τ).loc Cert.InTRefIdeal.main_arg2)) (m ((c.tc : Thread Cert.InTRefIdeal.nD Cert.InTRefIdeal.τ).loc Cert.InTRefIdeal.main_arg3)) (m ((c.tc : Thread Cert.InTRefIdeal.nD Cert.InTRefIdeal.τ).loc Cert.InTRefIdeal.main_arg4))) = (fun _ => 1#1)

def Pre_GateT (m : (ℓ : Loc Cert.GateT.nD Cert.GateT.τ Cert.GateT.sig) → Buf (Elt Bits) ℓ) : Prop :=
  True

def Pre_GateTIdeal (m : (ℓ : Loc Cert.GateTIdeal.nD Cert.GateTIdeal.τ Cert.GateTIdeal.sig) → Buf (Elt Ideal) ℓ) : Prop :=
  True

def Pre_GateTIdeal_finite_gate [hPre_finite_gate : Cert.Pre_finite_gate.Facts] (m : (ℓ : Loc Cert.GateTIdeal.nD Cert.GateTIdeal.τ Cert.GateTIdeal.sig) → Buf (Elt Ideal) ℓ) : Prop :=
  ∀ c : Dev Cert.GateTIdeal.nD,
    (Cert.Pre_finite_gate.fn (F := Ideal) (m ((c.tc : Thread Cert.GateTIdeal.nD Cert.GateTIdeal.τ).loc Cert.GateTIdeal.main_arg0)) (m ((c.tc : Thread Cert.GateTIdeal.nD Cert.GateTIdeal.τ).loc Cert.GateTIdeal.main_arg1)) (m ((c.tc : Thread Cert.GateTIdeal.nD Cert.GateTIdeal.τ).loc Cert.GateTIdeal.main_arg2)) (m ((c.tc : Thread Cert.GateTIdeal.nD Cert.GateTIdeal.τ).loc Cert.GateTIdeal.main_arg3)) (m ((c.tc : Thread Cert.GateTIdeal.nD Cert.GateTIdeal.τ).loc Cert.GateTIdeal.main_arg4))) = (fun _ => 1#1)

def Pre_GateTRefIdeal (m : (ℓ : Loc Cert.GateTRefIdeal.nD Cert.GateTRefIdeal.τ Cert.GateTRefIdeal.sig) → Buf (Elt Ideal) ℓ) : Prop :=
  True

def Pre_GateTRefIdeal_finite_gate [hPre_finite_gate : Cert.Pre_finite_gate.Facts] (m : (ℓ : Loc Cert.GateTRefIdeal.nD Cert.GateTRefIdeal.τ Cert.GateTRefIdeal.sig) → Buf (Elt Ideal) ℓ) : Prop :=
  ∀ c : Dev Cert.GateTRefIdeal.nD,
    (Cert.Pre_finite_gate.fn (F := Ideal) (m ((c.tc : Thread Cert.GateTRefIdeal.nD Cert.GateTRefIdeal.τ).loc Cert.GateTRefIdeal.main_arg0)) (m ((c.tc : Thread Cert.GateTRefIdeal.nD Cert.GateTRefIdeal.τ).loc Cert.GateTRefIdeal.main_arg1)) (m ((c.tc : Thread Cert.GateTRefIdeal.nD Cert.GateTRefIdeal.τ).loc Cert.GateTRefIdeal.main_arg2)) (m ((c.tc : Thread Cert.GateTRefIdeal.nD Cert.GateTRefIdeal.τ).loc Cert.GateTRefIdeal.main_arg3)) (m ((c.tc : Thread Cert.GateTRefIdeal.nD Cert.GateTRefIdeal.τ).loc Cert.GateTRefIdeal.main_arg4))) = (fun _ => 1#1)

def Pre_DownT (m : (ℓ : Loc Cert.DownT.nD Cert.DownT.τ Cert.DownT.sig) → Buf (Elt Bits) ℓ) : Prop :=
  True

def Pre_DownTIdeal (m : (ℓ : Loc Cert.DownTIdeal.nD Cert.DownTIdeal.τ Cert.DownTIdeal.sig) → Buf (Elt Ideal) ℓ) : Prop :=
  True

def Pre_DownTRefIdeal (m : (ℓ : Loc Cert.DownTRefIdeal.nD Cert.DownTRefIdeal.τ Cert.DownTRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_AIn (m : (ℓ : Loc Cert.AIn.nD Cert.AIn.τ Cert.AIn.sig) → Buf (Elt Bits) ℓ) : Prop :=
  True

def Pre_AInIdeal (m : (ℓ : Loc Cert.AInIdeal.nD Cert.AInIdeal.τ Cert.AInIdeal.sig) → Buf (Elt Ideal) ℓ) : Prop :=
  True

def Pre_AInRefIdeal (m : (ℓ : Loc Cert.AInRefIdeal.nD Cert.AInRefIdeal.τ Cert.AInRefIdeal.sig) → Buf (Elt Ideal) ℓ) : Prop :=
  True

def Pre_AUp (m : (ℓ : Loc Cert.AUp.nD Cert.AUp.τ Cert.AUp.sig) → Buf (Elt Bits) ℓ) : Prop :=
  True

def Pre_AUpIdeal (m : (ℓ : Loc Cert.AUpIdeal.nD Cert.AUpIdeal.τ Cert.AUpIdeal.sig) → Buf (Elt Ideal) ℓ) : Prop :=
  True

def Pre_AUpRefIdeal (m : (ℓ : Loc Cert.AUpRefIdeal.nD Cert.AUpRefIdeal.τ Cert.AUpRefIdeal.sig) → Buf (Elt Ideal) ℓ) : Prop :=
  True

def Pre_ADown (m : (ℓ : Loc Cert.ADown.nD Cert.ADown.τ Cert.ADown.sig) → Buf (Elt Bits) ℓ) : Prop :=
  True

def Pre_ADownIdeal (m : (ℓ : Loc Cert.ADownIdeal.nD Cert.ADownIdeal.τ Cert.ADownIdeal.sig) → Buf (Elt Ideal) ℓ) : Prop :=
  True

def Pre_ADownRefIdeal (m : (ℓ : Loc Cert.ADownRefIdeal.nD Cert.ADownRefIdeal.τ Cert.ADownRefIdeal.sig) → Buf (Elt Ideal) ℓ) : Prop :=
  True

def Pre_AOut (m : (ℓ : Loc Cert.AOut.nD Cert.AOut.τ Cert.AOut.sig) → Buf (Elt Bits) ℓ) : Prop :=
  True

def Pre_AOutIdeal (m : (ℓ : Loc Cert.AOutIdeal.nD Cert.AOutIdeal.τ Cert.AOutIdeal.sig) → Buf (Elt Ideal) ℓ) : Prop :=
  True

def Pre_AOutRefIdeal (m : (ℓ : Loc Cert.AOutRefIdeal.nD Cert.AOutRefIdeal.τ Cert.AOutRefIdeal.sig) → Buf (Elt Ideal) ℓ) : Prop :=
  True

def Pre_AGate (m : (ℓ : Loc Cert.AGate.nD Cert.AGate.τ Cert.AGate.sig) → Buf (Elt Bits) ℓ) : Prop :=
  True

def Pre_AGateIdeal (m : (ℓ : Loc Cert.AGateIdeal.nD Cert.AGateIdeal.τ Cert.AGateIdeal.sig) → Buf (Elt Ideal) ℓ) : Prop :=
  True

def Pre_AGateRefIdeal (m : (ℓ : Loc Cert.AGateRefIdeal.nD Cert.AGateRefIdeal.τ Cert.AGateRefIdeal.sig) → Buf (Elt Ideal) ℓ) : Prop :=
  True

def Pre_AProj (m : (ℓ : Loc Cert.AProj.nD Cert.AProj.τ Cert.AProj.sig) → Buf (Elt Bits) ℓ) : Prop :=
  True

def Pre_AProjIdeal (m : (ℓ : Loc Cert.AProjIdeal.nD Cert.AProjIdeal.τ Cert.AProjIdeal.sig) → Buf (Elt Ideal) ℓ) : Prop :=
  True

def Pre_AProjRefIdeal (m : (ℓ : Loc Cert.AProjRefIdeal.nD Cert.AProjRefIdeal.τ Cert.AProjRefIdeal.sig) → Buf (Elt Ideal) ℓ) : Prop :=
  True

def Pre_AGlu (m : (ℓ : Loc Cert.AGlu.nD Cert.AGlu.τ Cert.AGlu.sig) → Buf (Elt Bits) ℓ) : Prop :=
  True

def Pre_AGluIdeal (m : (ℓ : Loc Cert.AGluIdeal.nD Cert.AGluIdeal.τ Cert.AGluIdeal.sig) → Buf (Elt Ideal) ℓ) : Prop :=
  True

def Pre_AGluRefIdeal (m : (ℓ : Loc Cert.AGluRefIdeal.nD Cert.AGluRefIdeal.τ Cert.AGluRefIdeal.sig) → Buf (Elt Ideal) ℓ) : Prop :=
  True

def Pre_ASmall (m : (ℓ : Loc Cert.ASmall.nD Cert.ASmall.τ Cert.ASmall.sig) → Buf (Elt Bits) ℓ) : Prop :=
  True

def Pre_ASmallIdeal (m : (ℓ : Loc Cert.ASmallIdeal.nD Cert.ASmallIdeal.τ Cert.ASmallIdeal.sig) → Buf (Elt Ideal) ℓ) : Prop :=
  True

def Pre_ASmallRefIdeal (m : (ℓ : Loc Cert.ASmallRefIdeal.nD Cert.ASmallRefIdeal.τ Cert.ASmallRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_MixT (m : (ℓ : Loc Cert.MixT.nD Cert.MixT.τ Cert.MixT.sig) → Buf (Elt Bits) ℓ) : Prop :=
  True

def Pre_MixTIdeal (m : (ℓ : Loc Cert.MixTIdeal.nD Cert.MixTIdeal.τ Cert.MixTIdeal.sig) → Buf (Elt Ideal) ℓ) : Prop :=
  True

def Pre_MixTIdeal_finite_mix [hPre_finite_mix : Cert.Pre_finite_mix.Facts] (m : (ℓ : Loc Cert.MixTIdeal.nD Cert.MixTIdeal.τ Cert.MixTIdeal.sig) → Buf (Elt Ideal) ℓ) : Prop :=
  ∀ c : Dev Cert.MixTIdeal.nD,
    (Cert.Pre_finite_mix.fn (F := Ideal) (m ((c.tc : Thread Cert.MixTIdeal.nD Cert.MixTIdeal.τ).loc Cert.MixTIdeal.main_arg0)) (m ((c.tc : Thread Cert.MixTIdeal.nD Cert.MixTIdeal.τ).loc Cert.MixTIdeal.main_arg1)) (m ((c.tc : Thread Cert.MixTIdeal.nD Cert.MixTIdeal.τ).loc Cert.MixTIdeal.main_arg2)) (m ((c.tc : Thread Cert.MixTIdeal.nD Cert.MixTIdeal.τ).loc Cert.MixTIdeal.main_arg3)) (m ((c.tc : Thread Cert.MixTIdeal.nD Cert.MixTIdeal.τ).loc Cert.MixTIdeal.main_arg4)) (m ((c.tc : Thread Cert.MixTIdeal.nD Cert.MixTIdeal.τ).loc Cert.MixTIdeal.main_arg5))) = (fun _ => 1#1)

def Pre_MixTRefIdeal (m : (ℓ : Loc Cert.MixTRefIdeal.nD Cert.MixTRefIdeal.τ Cert.MixTRefIdeal.sig) → Buf (Elt Ideal) ℓ) : Prop :=
  True

def Pre_MixTRefIdeal_finite_mix [hPre_finite_mix : Cert.Pre_finite_mix.Facts] (m : (ℓ : Loc Cert.MixTRefIdeal.nD Cert.MixTRefIdeal.τ Cert.MixTRefIdeal.sig) → Buf (Elt Ideal) ℓ) : Prop :=
  ∀ c : Dev Cert.MixTRefIdeal.nD,
    (Cert.Pre_finite_mix.fn (F := Ideal) (m ((c.tc : Thread Cert.MixTRefIdeal.nD Cert.MixTRefIdeal.τ).loc Cert.MixTRefIdeal.main_arg0)) (m ((c.tc : Thread Cert.MixTRefIdeal.nD Cert.MixTRefIdeal.τ).loc Cert.MixTRefIdeal.main_arg1)) (m ((c.tc : Thread Cert.MixTRefIdeal.nD Cert.MixTRefIdeal.τ).loc Cert.MixTRefIdeal.main_arg2)) (m ((c.tc : Thread Cert.MixTRefIdeal.nD Cert.MixTRefIdeal.τ).loc Cert.MixTRefIdeal.main_arg3)) (m ((c.tc : Thread Cert.MixTRefIdeal.nD Cert.MixTRefIdeal.τ).loc Cert.MixTRefIdeal.main_arg4)) (m ((c.tc : Thread Cert.MixTRefIdeal.nD Cert.MixTRefIdeal.τ).loc Cert.MixTRefIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_DUp [hDUp : Cert.DUp.Facts] : Prop :=
  ∀ (m : (ℓ : Loc Cert.DUp.nD Cert.DUp.τ Cert.DUp.sig) → Buf (Elt Bits) ℓ) (g : Dev Cert.DUp.nD → PrngReg), Pre_DUp m →
    θ_run (Cert.DUp.defs (F := Bits)) (onTc (τ := Cert.DUp.τ) (Cert.DUp.main (F := Bits))) ⟨m, fun _ => 0, g⟩ (fun r => (∀ c : Dev Cert.DUp.nD,
      r.2.mem ((c.tc : Thread Cert.DUp.nD Cert.DUp.τ).loc Cert.DUp.main_arg0) = m ((c.tc : Thread Cert.DUp.nD Cert.DUp.τ).loc Cert.DUp.main_arg0)
      ∧ r.2.mem ((c.tc : Thread Cert.DUp.nD Cert.DUp.τ).loc Cert.DUp.main_arg1) = m ((c.tc : Thread Cert.DUp.nD Cert.DUp.τ).loc Cert.DUp.main_arg1))
      ∧ r.2.sem = fun _ => 0)

def quiescent_DUpIdeal [hDUpIdeal : Cert.DUpIdeal.Facts] : Prop :=
  ∀ (m : (ℓ : Loc Cert.DUpIdeal.nD Cert.DUpIdeal.τ Cert.DUpIdeal.sig) → Buf (Elt Ideal) ℓ) (g : Dev Cert.DUpIdeal.nD → PrngReg), Pre_DUpIdeal m →
    θ_run (Cert.DUpIdeal.defs (F := Ideal)) (onTc (τ := Cert.DUpIdeal.τ) (Cert.DUpIdeal.main (F := Ideal))) ⟨m, fun _ => 0, g⟩ (fun r => (∀ c : Dev Cert.DUpIdeal.nD,
      r.2.mem ((c.tc : Thread Cert.DUpIdeal.nD Cert.DUpIdeal.τ).loc Cert.DUpIdeal.main_arg0) = m ((c.tc : Thread Cert.DUpIdeal.nD Cert.DUpIdeal.τ).loc Cert.DUpIdeal.main_arg0)
      ∧ r.2.mem ((c.tc : Thread Cert.DUpIdeal.nD Cert.DUpIdeal.τ).loc Cert.DUpIdeal.main_arg1) = m ((c.tc : Thread Cert.DUpIdeal.nD Cert.DUpIdeal.τ).loc Cert.DUpIdeal.main_arg1))
      ∧ r.2.sem = fun _ => 0)

def quiescent_DUpRefIdeal [hDUpRefIdeal : Cert.DUpRefIdeal.Facts] : Prop :=
  ∀ (m : (ℓ : Loc Cert.DUpRefIdeal.nD Cert.DUpRefIdeal.τ Cert.DUpRefIdeal.sig) → Buf (Elt Ideal) ℓ) (g : Dev Cert.DUpRefIdeal.nD → PrngReg), Pre_DUpRefIdeal m →
    θ_run (Cert.DUpRefIdeal.defs (F := Ideal)) (onTc (τ := Cert.DUpRefIdeal.τ) (Cert.DUpRefIdeal.main (F := Ideal))) ⟨m, fun _ => 0, g⟩ (fun r => (∀ c : Dev Cert.DUpRefIdeal.nD,
      r.2.mem ((c.tc : Thread Cert.DUpRefIdeal.nD Cert.DUpRefIdeal.τ).loc Cert.DUpRefIdeal.main_arg0) = m ((c.tc : Thread Cert.DUpRefIdeal.nD Cert.DUpRefIdeal.τ).loc Cert.DUpRefIdeal.main_arg0)
      ∧ r.2.mem ((c.tc : Thread Cert.DUpRefIdeal.nD Cert.DUpRefIdeal.τ).loc Cert.DUpRefIdeal.main_arg1) = m ((c.tc : Thread Cert.DUpRefIdeal.nD Cert.DUpRefIdeal.τ).loc Cert.DUpRefIdeal.main_arg1))
      ∧ r.2.sem = fun _ => 0)

def quiescent_DDown [hDDown : Cert.DDown.Facts] : Prop :=
  ∀ (m : (ℓ : Loc Cert.DDown.nD Cert.DDown.τ Cert.DDown.sig) → Buf (Elt Bits) ℓ) (g : Dev Cert.DDown.nD → PrngReg), Pre_DDown m →
    θ_run (Cert.DDown.defs (F := Bits)) (onTc (τ := Cert.DDown.τ) (Cert.DDown.main (F := Bits))) ⟨m, fun _ => 0, g⟩ (fun r => (∀ c : Dev Cert.DDown.nD,
      r.2.mem ((c.tc : Thread Cert.DDown.nD Cert.DDown.τ).loc Cert.DDown.main_arg0) = m ((c.tc : Thread Cert.DDown.nD Cert.DDown.τ).loc Cert.DDown.main_arg0)
      ∧ r.2.mem ((c.tc : Thread Cert.DDown.nD Cert.DDown.τ).loc Cert.DDown.main_arg1) = m ((c.tc : Thread Cert.DDown.nD Cert.DDown.τ).loc Cert.DDown.main_arg1))
      ∧ r.2.sem = fun _ => 0)

def quiescent_DDownIdeal [hDDownIdeal : Cert.DDownIdeal.Facts] : Prop :=
  ∀ (m : (ℓ : Loc Cert.DDownIdeal.nD Cert.DDownIdeal.τ Cert.DDownIdeal.sig) → Buf (Elt Ideal) ℓ) (g : Dev Cert.DDownIdeal.nD → PrngReg), Pre_DDownIdeal m →
    θ_run (Cert.DDownIdeal.defs (F := Ideal)) (onTc (τ := Cert.DDownIdeal.τ) (Cert.DDownIdeal.main (F := Ideal))) ⟨m, fun _ => 0, g⟩ (fun r => (∀ c : Dev Cert.DDownIdeal.nD,
      r.2.mem ((c.tc : Thread Cert.DDownIdeal.nD Cert.DDownIdeal.τ).loc Cert.DDownIdeal.main_arg0) = m ((c.tc : Thread Cert.DDownIdeal.nD Cert.DDownIdeal.τ).loc Cert.DDownIdeal.main_arg0)
      ∧ r.2.mem ((c.tc : Thread Cert.DDownIdeal.nD Cert.DDownIdeal.τ).loc Cert.DDownIdeal.main_arg1) = m ((c.tc : Thread Cert.DDownIdeal.nD Cert.DDownIdeal.τ).loc Cert.DDownIdeal.main_arg1))
      ∧ r.2.sem = fun _ => 0)

def quiescent_DDownRefIdeal [hDDownRefIdeal : Cert.DDownRefIdeal.Facts] : Prop :=
  ∀ (m : (ℓ : Loc Cert.DDownRefIdeal.nD Cert.DDownRefIdeal.τ Cert.DDownRefIdeal.sig) → Buf (Elt Ideal) ℓ) (g : Dev Cert.DDownRefIdeal.nD → PrngReg), Pre_DDownRefIdeal m →
    θ_run (Cert.DDownRefIdeal.defs (F := Ideal)) (onTc (τ := Cert.DDownRefIdeal.τ) (Cert.DDownRefIdeal.main (F := Ideal))) ⟨m, fun _ => 0, g⟩ (fun r => (∀ c : Dev Cert.DDownRefIdeal.nD,
      r.2.mem ((c.tc : Thread Cert.DDownRefIdeal.nD Cert.DDownRefIdeal.τ).loc Cert.DDownRefIdeal.main_arg0) = m ((c.tc : Thread Cert.DDownRefIdeal.nD Cert.DDownRefIdeal.τ).loc Cert.DDownRefIdeal.main_arg0)
      ∧ r.2.mem ((c.tc : Thread Cert.DDownRefIdeal.nD Cert.DDownRefIdeal.τ).loc Cert.DDownRefIdeal.main_arg1) = m ((c.tc : Thread Cert.DDownRefIdeal.nD Cert.DDownRefIdeal.τ).loc Cert.DDownRefIdeal.main_arg1))
      ∧ r.2.sem = fun _ => 0)

def quiescent_DIn [hDIn : Cert.DIn.Facts] : Prop :=
  ∀ (m : (ℓ : Loc Cert.DIn.nD Cert.DIn.τ Cert.DIn.sig) → Buf (Elt Bits) ℓ) (g : Dev Cert.DIn.nD → PrngReg), Pre_DIn m →
    θ_run (Cert.DIn.defs (F := Bits)) (onTc (τ := Cert.DIn.τ) (Cert.DIn.main (F := Bits))) ⟨m, fun _ => 0, g⟩ (fun r => (∀ c : Dev Cert.DIn.nD,
      r.2.mem ((c.tc : Thread Cert.DIn.nD Cert.DIn.τ).loc Cert.DIn.main_arg0) = m ((c.tc : Thread Cert.DIn.nD Cert.DIn.τ).loc Cert.DIn.main_arg0)
      ∧ r.2.mem ((c.tc : Thread Cert.DIn.nD Cert.DIn.τ).loc Cert.DIn.main_arg1) = m ((c.tc : Thread Cert.DIn.nD Cert.DIn.τ).loc Cert.DIn.main_arg1))
      ∧ r.2.sem = fun _ => 0)

def quiescent_DInIdeal [hDInIdeal : Cert.DInIdeal.Facts] : Prop :=
  ∀ (m : (ℓ : Loc Cert.DInIdeal.nD Cert.DInIdeal.τ Cert.DInIdeal.sig) → Buf (Elt Ideal) ℓ) (g : Dev Cert.DInIdeal.nD → PrngReg), Pre_DInIdeal m →
    θ_run (Cert.DInIdeal.defs (F := Ideal)) (onTc (τ := Cert.DInIdeal.τ) (Cert.DInIdeal.main (F := Ideal))) ⟨m, fun _ => 0, g⟩ (fun r => (∀ c : Dev Cert.DInIdeal.nD,
      r.2.mem ((c.tc : Thread Cert.DInIdeal.nD Cert.DInIdeal.τ).loc Cert.DInIdeal.main_arg0) = m ((c.tc : Thread Cert.DInIdeal.nD Cert.DInIdeal.τ).loc Cert.DInIdeal.main_arg0)
      ∧ r.2.mem ((c.tc : Thread Cert.DInIdeal.nD Cert.DInIdeal.τ).loc Cert.DInIdeal.main_arg1) = m ((c.tc : Thread Cert.DInIdeal.nD Cert.DInIdeal.τ).loc Cert.DInIdeal.main_arg1))
      ∧ r.2.sem = fun _ => 0)

def quiescent_DInRefIdeal [hDInRefIdeal : Cert.DInRefIdeal.Facts] : Prop :=
  ∀ (m : (ℓ : Loc Cert.DInRefIdeal.nD Cert.DInRefIdeal.τ Cert.DInRefIdeal.sig) → Buf (Elt Ideal) ℓ) (g : Dev Cert.DInRefIdeal.nD → PrngReg), Pre_DInRefIdeal m →
    θ_run (Cert.DInRefIdeal.defs (F := Ideal)) (onTc (τ := Cert.DInRefIdeal.τ) (Cert.DInRefIdeal.main (F := Ideal))) ⟨m, fun _ => 0, g⟩ (fun r => (∀ c : Dev Cert.DInRefIdeal.nD,
      r.2.mem ((c.tc : Thread Cert.DInRefIdeal.nD Cert.DInRefIdeal.τ).loc Cert.DInRefIdeal.main_arg0) = m ((c.tc : Thread Cert.DInRefIdeal.nD Cert.DInRefIdeal.τ).loc Cert.DInRefIdeal.main_arg0)
      ∧ r.2.mem ((c.tc : Thread Cert.DInRefIdeal.nD Cert.DInRefIdeal.τ).loc Cert.DInRefIdeal.main_arg1) = m ((c.tc : Thread Cert.DInRefIdeal.nD Cert.DInRefIdeal.τ).loc Cert.DInRefIdeal.main_arg1))
      ∧ r.2.sem = fun _ => 0)

def quiescent_DGate [hDGate : Cert.DGate.Facts] : Prop :=
  ∀ (m : (ℓ : Loc Cert.DGate.nD Cert.DGate.τ Cert.DGate.sig) → Buf (Elt Bits) ℓ) (g : Dev Cert.DGate.nD → PrngReg), Pre_DGate m →
    θ_run (Cert.DGate.defs (F := Bits)) (onTc (τ := Cert.DGate.τ) (Cert.DGate.main (F := Bits))) ⟨m, fun _ => 0, g⟩ (fun r => (∀ c : Dev Cert.DGate.nD,
      r.2.mem ((c.tc : Thread Cert.DGate.nD Cert.DGate.τ).loc Cert.DGate.main_arg0) = m ((c.tc : Thread Cert.DGate.nD Cert.DGate.τ).loc Cert.DGate.main_arg0)
      ∧ r.2.mem ((c.tc : Thread Cert.DGate.nD Cert.DGate.τ).loc Cert.DGate.main_arg1) = m ((c.tc : Thread Cert.DGate.nD Cert.DGate.τ).loc Cert.DGate.main_arg1))
      ∧ r.2.sem = fun _ => 0)

def quiescent_DGateIdeal [hDGateIdeal : Cert.DGateIdeal.Facts] : Prop :=
  ∀ (m : (ℓ : Loc Cert.DGateIdeal.nD Cert.DGateIdeal.τ Cert.DGateIdeal.sig) → Buf (Elt Ideal) ℓ) (g : Dev Cert.DGateIdeal.nD → PrngReg), Pre_DGateIdeal m →
    θ_run (Cert.DGateIdeal.defs (F := Ideal)) (onTc (τ := Cert.DGateIdeal.τ) (Cert.DGateIdeal.main (F := Ideal))) ⟨m, fun _ => 0, g⟩ (fun r => (∀ c : Dev Cert.DGateIdeal.nD,
      r.2.mem ((c.tc : Thread Cert.DGateIdeal.nD Cert.DGateIdeal.τ).loc Cert.DGateIdeal.main_arg0) = m ((c.tc : Thread Cert.DGateIdeal.nD Cert.DGateIdeal.τ).loc Cert.DGateIdeal.main_arg0)
      ∧ r.2.mem ((c.tc : Thread Cert.DGateIdeal.nD Cert.DGateIdeal.τ).loc Cert.DGateIdeal.main_arg1) = m ((c.tc : Thread Cert.DGateIdeal.nD Cert.DGateIdeal.τ).loc Cert.DGateIdeal.main_arg1))
      ∧ r.2.sem = fun _ => 0)

def quiescent_DGateRefIdeal [hDGateRefIdeal : Cert.DGateRefIdeal.Facts] : Prop :=
  ∀ (m : (ℓ : Loc Cert.DGateRefIdeal.nD Cert.DGateRefIdeal.τ Cert.DGateRefIdeal.sig) → Buf (Elt Ideal) ℓ) (g : Dev Cert.DGateRefIdeal.nD → PrngReg), Pre_DGateRefIdeal m →
    θ_run (Cert.DGateRefIdeal.defs (F := Ideal)) (onTc (τ := Cert.DGateRefIdeal.τ) (Cert.DGateRefIdeal.main (F := Ideal))) ⟨m, fun _ => 0, g⟩ (fun r => (∀ c : Dev Cert.DGateRefIdeal.nD,
      r.2.mem ((c.tc : Thread Cert.DGateRefIdeal.nD Cert.DGateRefIdeal.τ).loc Cert.DGateRefIdeal.main_arg0) = m ((c.tc : Thread Cert.DGateRefIdeal.nD Cert.DGateRefIdeal.τ).loc Cert.DGateRefIdeal.main_arg0)
      ∧ r.2.mem ((c.tc : Thread Cert.DGateRefIdeal.nD Cert.DGateRefIdeal.τ).loc Cert.DGateRefIdeal.main_arg1) = m ((c.tc : Thread Cert.DGateRefIdeal.nD Cert.DGateRefIdeal.τ).loc Cert.DGateRefIdeal.main_arg1))
      ∧ r.2.sem = fun _ => 0)

def quiescent_DOut [hDOut : Cert.DOut.Facts] : Prop :=
  ∀ (m : (ℓ : Loc Cert.DOut.nD Cert.DOut.τ Cert.DOut.sig) → Buf (Elt Bits) ℓ) (g : Dev Cert.DOut.nD → PrngReg), Pre_DOut m →
    θ_run (Cert.DOut.defs (F := Bits)) (onTc (τ := Cert.DOut.τ) (Cert.DOut.main (F := Bits))) ⟨m, fun _ => 0, g⟩ (fun r => (∀ c : Dev Cert.DOut.nD,
      r.2.mem ((c.tc : Thread Cert.DOut.nD Cert.DOut.τ).loc Cert.DOut.main_arg0) = m ((c.tc : Thread Cert.DOut.nD Cert.DOut.τ).loc Cert.DOut.main_arg0)
      ∧ r.2.mem ((c.tc : Thread Cert.DOut.nD Cert.DOut.τ).loc Cert.DOut.main_arg1) = m ((c.tc : Thread Cert.DOut.nD Cert.DOut.τ).loc Cert.DOut.main_arg1))
      ∧ r.2.sem = fun _ => 0)

def quiescent_DOutIdeal [hDOutIdeal : Cert.DOutIdeal.Facts] : Prop :=
  ∀ (m : (ℓ : Loc Cert.DOutIdeal.nD Cert.DOutIdeal.τ Cert.DOutIdeal.sig) → Buf (Elt Ideal) ℓ) (g : Dev Cert.DOutIdeal.nD → PrngReg), Pre_DOutIdeal m →
    θ_run (Cert.DOutIdeal.defs (F := Ideal)) (onTc (τ := Cert.DOutIdeal.τ) (Cert.DOutIdeal.main (F := Ideal))) ⟨m, fun _ => 0, g⟩ (fun r => (∀ c : Dev Cert.DOutIdeal.nD,
      r.2.mem ((c.tc : Thread Cert.DOutIdeal.nD Cert.DOutIdeal.τ).loc Cert.DOutIdeal.main_arg0) = m ((c.tc : Thread Cert.DOutIdeal.nD Cert.DOutIdeal.τ).loc Cert.DOutIdeal.main_arg0)
      ∧ r.2.mem ((c.tc : Thread Cert.DOutIdeal.nD Cert.DOutIdeal.τ).loc Cert.DOutIdeal.main_arg1) = m ((c.tc : Thread Cert.DOutIdeal.nD Cert.DOutIdeal.τ).loc Cert.DOutIdeal.main_arg1))
      ∧ r.2.sem = fun _ => 0)

def quiescent_DOutRefIdeal [hDOutRefIdeal : Cert.DOutRefIdeal.Facts] : Prop :=
  ∀ (m : (ℓ : Loc Cert.DOutRefIdeal.nD Cert.DOutRefIdeal.τ Cert.DOutRefIdeal.sig) → Buf (Elt Ideal) ℓ) (g : Dev Cert.DOutRefIdeal.nD → PrngReg), Pre_DOutRefIdeal m →
    θ_run (Cert.DOutRefIdeal.defs (F := Ideal)) (onTc (τ := Cert.DOutRefIdeal.τ) (Cert.DOutRefIdeal.main (F := Ideal))) ⟨m, fun _ => 0, g⟩ (fun r => (∀ c : Dev Cert.DOutRefIdeal.nD,
      r.2.mem ((c.tc : Thread Cert.DOutRefIdeal.nD Cert.DOutRefIdeal.τ).loc Cert.DOutRefIdeal.main_arg0) = m ((c.tc : Thread Cert.DOutRefIdeal.nD Cert.DOutRefIdeal.τ).loc Cert.DOutRefIdeal.main_arg0)
      ∧ r.2.mem ((c.tc : Thread Cert.DOutRefIdeal.nD Cert.DOutRefIdeal.τ).loc Cert.DOutRefIdeal.main_arg1) = m ((c.tc : Thread Cert.DOutRefIdeal.nD Cert.DOutRefIdeal.τ).loc Cert.DOutRefIdeal.main_arg1))
      ∧ r.2.sem = fun _ => 0)

def quiescent_DProj [hDProj : Cert.DProj.Facts] : Prop :=
  ∀ (m : (ℓ : Loc Cert.DProj.nD Cert.DProj.τ Cert.DProj.sig) → Buf (Elt Bits) ℓ) (g : Dev Cert.DProj.nD → PrngReg), Pre_DProj m →
    θ_run (Cert.DProj.defs (F := Bits)) (onTc (τ := Cert.DProj.τ) (Cert.DProj.main (F := Bits))) ⟨m, fun _ => 0, g⟩ (fun r => (∀ c : Dev Cert.DProj.nD,
      r.2.mem ((c.tc : Thread Cert.DProj.nD Cert.DProj.τ).loc Cert.DProj.main_arg0) = m ((c.tc : Thread Cert.DProj.nD Cert.DProj.τ).loc Cert.DProj.main_arg0)
      ∧ r.2.mem ((c.tc : Thread Cert.DProj.nD Cert.DProj.τ).loc Cert.DProj.main_arg1) = m ((c.tc : Thread Cert.DProj.nD Cert.DProj.τ).loc Cert.DProj.main_arg1))
      ∧ r.2.sem = fun _ => 0)

def quiescent_DProjIdeal [hDProjIdeal : Cert.DProjIdeal.Facts] : Prop :=
  ∀ (m : (ℓ : Loc Cert.DProjIdeal.nD Cert.DProjIdeal.τ Cert.DProjIdeal.sig) → Buf (Elt Ideal) ℓ) (g : Dev Cert.DProjIdeal.nD → PrngReg), Pre_DProjIdeal m →
    θ_run (Cert.DProjIdeal.defs (F := Ideal)) (onTc (τ := Cert.DProjIdeal.τ) (Cert.DProjIdeal.main (F := Ideal))) ⟨m, fun _ => 0, g⟩ (fun r => (∀ c : Dev Cert.DProjIdeal.nD,
      r.2.mem ((c.tc : Thread Cert.DProjIdeal.nD Cert.DProjIdeal.τ).loc Cert.DProjIdeal.main_arg0) = m ((c.tc : Thread Cert.DProjIdeal.nD Cert.DProjIdeal.τ).loc Cert.DProjIdeal.main_arg0)
      ∧ r.2.mem ((c.tc : Thread Cert.DProjIdeal.nD Cert.DProjIdeal.τ).loc Cert.DProjIdeal.main_arg1) = m ((c.tc : Thread Cert.DProjIdeal.nD Cert.DProjIdeal.τ).loc Cert.DProjIdeal.main_arg1))
      ∧ r.2.sem = fun _ => 0)

def quiescent_DProjRefIdeal [hDProjRefIdeal : Cert.DProjRefIdeal.Facts] : Prop :=
  ∀ (m : (ℓ : Loc Cert.DProjRefIdeal.nD Cert.DProjRefIdeal.τ Cert.DProjRefIdeal.sig) → Buf (Elt Ideal) ℓ) (g : Dev Cert.DProjRefIdeal.nD → PrngReg), Pre_DProjRefIdeal m →
    θ_run (Cert.DProjRefIdeal.defs (F := Ideal)) (onTc (τ := Cert.DProjRefIdeal.τ) (Cert.DProjRefIdeal.main (F := Ideal))) ⟨m, fun _ => 0, g⟩ (fun r => (∀ c : Dev Cert.DProjRefIdeal.nD,
      r.2.mem ((c.tc : Thread Cert.DProjRefIdeal.nD Cert.DProjRefIdeal.τ).loc Cert.DProjRefIdeal.main_arg0) = m ((c.tc : Thread Cert.DProjRefIdeal.nD Cert.DProjRefIdeal.τ).loc Cert.DProjRefIdeal.main_arg0)
      ∧ r.2.mem ((c.tc : Thread Cert.DProjRefIdeal.nD Cert.DProjRefIdeal.τ).loc Cert.DProjRefIdeal.main_arg1) = m ((c.tc : Thread Cert.DProjRefIdeal.nD Cert.DProjRefIdeal.τ).loc Cert.DProjRefIdeal.main_arg1))
      ∧ r.2.sem = fun _ => 0)

def quiescent_DGlu [hDGlu : Cert.DGlu.Facts] : Prop :=
  ∀ (m : (ℓ : Loc Cert.DGlu.nD Cert.DGlu.τ Cert.DGlu.sig) → Buf (Elt Bits) ℓ) (g : Dev Cert.DGlu.nD → PrngReg), Pre_DGlu m →
    θ_run (Cert.DGlu.defs (F := Bits)) (onTc (τ := Cert.DGlu.τ) (Cert.DGlu.main (F := Bits))) ⟨m, fun _ => 0, g⟩ (fun r => (∀ c : Dev Cert.DGlu.nD,
      r.2.mem ((c.tc : Thread Cert.DGlu.nD Cert.DGlu.τ).loc Cert.DGlu.main_arg0) = m ((c.tc : Thread Cert.DGlu.nD Cert.DGlu.τ).loc Cert.DGlu.main_arg0)
      ∧ r.2.mem ((c.tc : Thread Cert.DGlu.nD Cert.DGlu.τ).loc Cert.DGlu.main_arg1) = m ((c.tc : Thread Cert.DGlu.nD Cert.DGlu.τ).loc Cert.DGlu.main_arg1))
      ∧ r.2.sem = fun _ => 0)

def quiescent_DGluIdeal [hDGluIdeal : Cert.DGluIdeal.Facts] : Prop :=
  ∀ (m : (ℓ : Loc Cert.DGluIdeal.nD Cert.DGluIdeal.τ Cert.DGluIdeal.sig) → Buf (Elt Ideal) ℓ) (g : Dev Cert.DGluIdeal.nD → PrngReg), Pre_DGluIdeal m →
    θ_run (Cert.DGluIdeal.defs (F := Ideal)) (onTc (τ := Cert.DGluIdeal.τ) (Cert.DGluIdeal.main (F := Ideal))) ⟨m, fun _ => 0, g⟩ (fun r => (∀ c : Dev Cert.DGluIdeal.nD,
      r.2.mem ((c.tc : Thread Cert.DGluIdeal.nD Cert.DGluIdeal.τ).loc Cert.DGluIdeal.main_arg0) = m ((c.tc : Thread Cert.DGluIdeal.nD Cert.DGluIdeal.τ).loc Cert.DGluIdeal.main_arg0)
      ∧ r.2.mem ((c.tc : Thread Cert.DGluIdeal.nD Cert.DGluIdeal.τ).loc Cert.DGluIdeal.main_arg1) = m ((c.tc : Thread Cert.DGluIdeal.nD Cert.DGluIdeal.τ).loc Cert.DGluIdeal.main_arg1))
      ∧ r.2.sem = fun _ => 0)

def quiescent_DGluRefIdeal [hDGluRefIdeal : Cert.DGluRefIdeal.Facts] : Prop :=
  ∀ (m : (ℓ : Loc Cert.DGluRefIdeal.nD Cert.DGluRefIdeal.τ Cert.DGluRefIdeal.sig) → Buf (Elt Ideal) ℓ) (g : Dev Cert.DGluRefIdeal.nD → PrngReg), Pre_DGluRefIdeal m →
    θ_run (Cert.DGluRefIdeal.defs (F := Ideal)) (onTc (τ := Cert.DGluRefIdeal.τ) (Cert.DGluRefIdeal.main (F := Ideal))) ⟨m, fun _ => 0, g⟩ (fun r => (∀ c : Dev Cert.DGluRefIdeal.nD,
      r.2.mem ((c.tc : Thread Cert.DGluRefIdeal.nD Cert.DGluRefIdeal.τ).loc Cert.DGluRefIdeal.main_arg0) = m ((c.tc : Thread Cert.DGluRefIdeal.nD Cert.DGluRefIdeal.τ).loc Cert.DGluRefIdeal.main_arg0)
      ∧ r.2.mem ((c.tc : Thread Cert.DGluRefIdeal.nD Cert.DGluRefIdeal.τ).loc Cert.DGluRefIdeal.main_arg1) = m ((c.tc : Thread Cert.DGluRefIdeal.nD Cert.DGluRefIdeal.τ).loc Cert.DGluRefIdeal.main_arg1))
      ∧ r.2.sem = fun _ => 0)

def quiescent_UpT [hUpT : Cert.UpT.Facts] : Prop :=
  ∀ (m : (ℓ : Loc Cert.UpT.nD Cert.UpT.τ Cert.UpT.sig) → Buf (Elt Bits) ℓ) (g : Dev Cert.UpT.nD → PrngReg), Pre_UpT m →
    θ_run (Cert.UpT.defs (F := Bits)) (onTc (τ := Cert.UpT.τ) (Cert.UpT.main (F := Bits))) ⟨m, fun _ => 0, g⟩ (fun r => (∀ c : Dev Cert.UpT.nD,
      r.2.mem ((c.tc : Thread Cert.UpT.nD Cert.UpT.τ).loc Cert.UpT.main_arg0) = m ((c.tc : Thread Cert.UpT.nD Cert.UpT.τ).loc Cert.UpT.main_arg0)
      ∧ r.2.mem ((c.tc : Thread Cert.UpT.nD Cert.UpT.τ).loc Cert.UpT.main_arg1) = m ((c.tc : Thread Cert.UpT.nD Cert.UpT.τ).loc Cert.UpT.main_arg1)
      ∧ r.2.mem ((c.tc : Thread Cert.UpT.nD Cert.UpT.τ).loc Cert.UpT.main_arg2) = m ((c.tc : Thread Cert.UpT.nD Cert.UpT.τ).loc Cert.UpT.main_arg2)
      ∧ r.2.mem ((c.tc : Thread Cert.UpT.nD Cert.UpT.τ).loc Cert.UpT.main_arg3) = m ((c.tc : Thread Cert.UpT.nD Cert.UpT.τ).loc Cert.UpT.main_arg3)
      ∧ r.2.mem ((c.tc : Thread Cert.UpT.nD Cert.UpT.τ).loc Cert.UpT.main_arg4) = m ((c.tc : Thread Cert.UpT.nD Cert.UpT.τ).loc Cert.UpT.main_arg4))
      ∧ r.2.sem = fun _ => 0)

def quiescent_UpTIdeal [hUpTIdeal : Cert.UpTIdeal.Facts] : Prop :=
  ∀ (m : (ℓ : Loc Cert.UpTIdeal.nD Cert.UpTIdeal.τ Cert.UpTIdeal.sig) → Buf (Elt Ideal) ℓ) (g : Dev Cert.UpTIdeal.nD → PrngReg), Pre_UpTIdeal m →
    θ_run (Cert.UpTIdeal.defs (F := Ideal)) (onTc (τ := Cert.UpTIdeal.τ) (Cert.UpTIdeal.main (F := Ideal))) ⟨m, fun _ => 0, g⟩ (fun r => (∀ c : Dev Cert.UpTIdeal.nD,
      r.2.mem ((c.tc : Thread Cert.UpTIdeal.nD Cert.UpTIdeal.τ).loc Cert.UpTIdeal.main_arg0) = m ((c.tc : Thread Cert.UpTIdeal.nD Cert.UpTIdeal.τ).loc Cert.UpTIdeal.main_arg0)
      ∧ r.2.mem ((c.tc : Thread Cert.UpTIdeal.nD Cert.UpTIdeal.τ).loc Cert.UpTIdeal.main_arg1) = m ((c.tc : Thread Cert.UpTIdeal.nD Cert.UpTIdeal.τ).loc Cert.UpTIdeal.main_arg1)
      ∧ r.2.mem ((c.tc : Thread Cert.UpTIdeal.nD Cert.UpTIdeal.τ).loc Cert.UpTIdeal.main_arg2) = m ((c.tc : Thread Cert.UpTIdeal.nD Cert.UpTIdeal.τ).loc Cert.UpTIdeal.main_arg2)
      ∧ r.2.mem ((c.tc : Thread Cert.UpTIdeal.nD Cert.UpTIdeal.τ).loc Cert.UpTIdeal.main_arg3) = m ((c.tc : Thread Cert.UpTIdeal.nD Cert.UpTIdeal.τ).loc Cert.UpTIdeal.main_arg3)
      ∧ r.2.mem ((c.tc : Thread Cert.UpTIdeal.nD Cert.UpTIdeal.τ).loc Cert.UpTIdeal.main_arg4) = m ((c.tc : Thread Cert.UpTIdeal.nD Cert.UpTIdeal.τ).loc Cert.UpTIdeal.main_arg4))
      ∧ r.2.sem = fun _ => 0)

def quiescent_UpTIdeal_pre_finite_up [hUpTIdeal : Cert.UpTIdeal.Facts] [hPre_finite_up : Cert.Pre_finite_up.Facts] : Prop :=
  ∀ (m : (ℓ : Loc Cert.UpTIdeal.nD Cert.UpTIdeal.τ Cert.UpTIdeal.sig) → Buf (Elt Ideal) ℓ) (g : Dev Cert.UpTIdeal.nD → PrngReg), Pre_UpTIdeal_finite_up m →
    θ_run (Cert.UpTIdeal.defs (F := Ideal)) (onTc (τ := Cert.UpTIdeal.τ) (Cert.UpTIdeal.main (F := Ideal))) ⟨m, fun _ => 0, g⟩ (fun r => (∀ c : Dev Cert.UpTIdeal.nD,
      r.2.mem ((c.tc : Thread Cert.UpTIdeal.nD Cert.UpTIdeal.τ).loc Cert.UpTIdeal.main_arg0) = m ((c.tc : Thread Cert.UpTIdeal.nD Cert.UpTIdeal.τ).loc Cert.UpTIdeal.main_arg0)
      ∧ r.2.mem ((c.tc : Thread Cert.UpTIdeal.nD Cert.UpTIdeal.τ).loc Cert.UpTIdeal.main_arg1) = m ((c.tc : Thread Cert.UpTIdeal.nD Cert.UpTIdeal.τ).loc Cert.UpTIdeal.main_arg1)
      ∧ r.2.mem ((c.tc : Thread Cert.UpTIdeal.nD Cert.UpTIdeal.τ).loc Cert.UpTIdeal.main_arg2) = m ((c.tc : Thread Cert.UpTIdeal.nD Cert.UpTIdeal.τ).loc Cert.UpTIdeal.main_arg2)
      ∧ r.2.mem ((c.tc : Thread Cert.UpTIdeal.nD Cert.UpTIdeal.τ).loc Cert.UpTIdeal.main_arg3) = m ((c.tc : Thread Cert.UpTIdeal.nD Cert.UpTIdeal.τ).loc Cert.UpTIdeal.main_arg3)
      ∧ r.2.mem ((c.tc : Thread Cert.UpTIdeal.nD Cert.UpTIdeal.τ).loc Cert.UpTIdeal.main_arg4) = m ((c.tc : Thread Cert.UpTIdeal.nD Cert.UpTIdeal.τ).loc Cert.UpTIdeal.main_arg4))
      ∧ r.2.sem = fun _ => 0)

def quiescent_UpTRefIdeal [hUpTRefIdeal : Cert.UpTRefIdeal.Facts] : Prop :=
  ∀ (m : (ℓ : Loc Cert.UpTRefIdeal.nD Cert.UpTRefIdeal.τ Cert.UpTRefIdeal.sig) → Buf (Elt Ideal) ℓ) (g : Dev Cert.UpTRefIdeal.nD → PrngReg), Pre_UpTRefIdeal m →
    θ_run (Cert.UpTRefIdeal.defs (F := Ideal)) (onTc (τ := Cert.UpTRefIdeal.τ) (Cert.UpTRefIdeal.main (F := Ideal))) ⟨m, fun _ => 0, g⟩ (fun r => (∀ c : Dev Cert.UpTRefIdeal.nD,
      r.2.mem ((c.tc : Thread Cert.UpTRefIdeal.nD Cert.UpTRefIdeal.τ).loc Cert.UpTRefIdeal.main_arg0) = m ((c.tc : Thread Cert.UpTRefIdeal.nD Cert.UpTRefIdeal.τ).loc Cert.UpTRefIdeal.main_arg0)
      ∧ r.2.mem ((c.tc : Thread Cert.UpTRefIdeal.nD Cert.UpTRefIdeal.τ).loc Cert.UpTRefIdeal.main_arg1) = m ((c.tc : Thread Cert.UpTRefIdeal.nD Cert.UpTRefIdeal.τ).loc Cert.UpTRefIdeal.main_arg1)
      ∧ r.2.mem ((c.tc : Thread Cert.UpTRefIdeal.nD Cert.UpTRefIdeal.τ).loc Cert.UpTRefIdeal.main_arg2) = m ((c.tc : Thread Cert.UpTRefIdeal.nD Cert.UpTRefIdeal.τ).loc Cert.UpTRefIdeal.main_arg2)
      ∧ r.2.mem ((c.tc : Thread Cert.UpTRefIdeal.nD Cert.UpTRefIdeal.τ).loc Cert.UpTRefIdeal.main_arg3) = m ((c.tc : Thread Cert.UpTRefIdeal.nD Cert.UpTRefIdeal.τ).loc Cert.UpTRefIdeal.main_arg3)
      ∧ r.2.mem ((c.tc : Thread Cert.UpTRefIdeal.nD Cert.UpTRefIdeal.τ).loc Cert.UpTRefIdeal.main_arg4) = m ((c.tc : Thread Cert.UpTRefIdeal.nD Cert.UpTRefIdeal.τ).loc Cert.UpTRefIdeal.main_arg4))
      ∧ r.2.sem = fun _ => 0)

def quiescent_UpTRefIdeal_pre_finite_up [hUpTRefIdeal : Cert.UpTRefIdeal.Facts] [hPre_finite_up : Cert.Pre_finite_up.Facts] : Prop :=
  ∀ (m : (ℓ : Loc Cert.UpTRefIdeal.nD Cert.UpTRefIdeal.τ Cert.UpTRefIdeal.sig) → Buf (Elt Ideal) ℓ) (g : Dev Cert.UpTRefIdeal.nD → PrngReg), Pre_UpTRefIdeal_finite_up m →
    θ_run (Cert.UpTRefIdeal.defs (F := Ideal)) (onTc (τ := Cert.UpTRefIdeal.τ) (Cert.UpTRefIdeal.main (F := Ideal))) ⟨m, fun _ => 0, g⟩ (fun r => (∀ c : Dev Cert.UpTRefIdeal.nD,
      r.2.mem ((c.tc : Thread Cert.UpTRefIdeal.nD Cert.UpTRefIdeal.τ).loc Cert.UpTRefIdeal.main_arg0) = m ((c.tc : Thread Cert.UpTRefIdeal.nD Cert.UpTRefIdeal.τ).loc Cert.UpTRefIdeal.main_arg0)
      ∧ r.2.mem ((c.tc : Thread Cert.UpTRefIdeal.nD Cert.UpTRefIdeal.τ).loc Cert.UpTRefIdeal.main_arg1) = m ((c.tc : Thread Cert.UpTRefIdeal.nD Cert.UpTRefIdeal.τ).loc Cert.UpTRefIdeal.main_arg1)
      ∧ r.2.mem ((c.tc : Thread Cert.UpTRefIdeal.nD Cert.UpTRefIdeal.τ).loc Cert.UpTRefIdeal.main_arg2) = m ((c.tc : Thread Cert.UpTRefIdeal.nD Cert.UpTRefIdeal.τ).loc Cert.UpTRefIdeal.main_arg2)
      ∧ r.2.mem ((c.tc : Thread Cert.UpTRefIdeal.nD Cert.UpTRefIdeal.τ).loc Cert.UpTRefIdeal.main_arg3) = m ((c.tc : Thread Cert.UpTRefIdeal.nD Cert.UpTRefIdeal.τ).loc Cert.UpTRefIdeal.main_arg3)
      ∧ r.2.mem ((c.tc : Thread Cert.UpTRefIdeal.nD Cert.UpTRefIdeal.τ).loc Cert.UpTRefIdeal.main_arg4) = m ((c.tc : Thread Cert.UpTRefIdeal.nD Cert.UpTRefIdeal.τ).loc Cert.UpTRefIdeal.main_arg4))
      ∧ r.2.sem = fun _ => 0)

def quiescent_InT [hInT : Cert.InT.Facts] : Prop :=
  ∀ (m : (ℓ : Loc Cert.InT.nD Cert.InT.τ Cert.InT.sig) → Buf (Elt Bits) ℓ) (g : Dev Cert.InT.nD → PrngReg), Pre_InT m →
    θ_run (Cert.InT.defs (F := Bits)) (onTc (τ := Cert.InT.τ) (Cert.InT.main (F := Bits))) ⟨m, fun _ => 0, g⟩ (fun r => (∀ c : Dev Cert.InT.nD,
      r.2.mem ((c.tc : Thread Cert.InT.nD Cert.InT.τ).loc Cert.InT.main_arg0) = m ((c.tc : Thread Cert.InT.nD Cert.InT.τ).loc Cert.InT.main_arg0)
      ∧ r.2.mem ((c.tc : Thread Cert.InT.nD Cert.InT.τ).loc Cert.InT.main_arg1) = m ((c.tc : Thread Cert.InT.nD Cert.InT.τ).loc Cert.InT.main_arg1)
      ∧ r.2.mem ((c.tc : Thread Cert.InT.nD Cert.InT.τ).loc Cert.InT.main_arg2) = m ((c.tc : Thread Cert.InT.nD Cert.InT.τ).loc Cert.InT.main_arg2)
      ∧ r.2.mem ((c.tc : Thread Cert.InT.nD Cert.InT.τ).loc Cert.InT.main_arg3) = m ((c.tc : Thread Cert.InT.nD Cert.InT.τ).loc Cert.InT.main_arg3)
      ∧ r.2.mem ((c.tc : Thread Cert.InT.nD Cert.InT.τ).loc Cert.InT.main_arg4) = m ((c.tc : Thread Cert.InT.nD Cert.InT.τ).loc Cert.InT.main_arg4))
      ∧ r.2.sem = fun _ => 0)

def quiescent_InTIdeal [hInTIdeal : Cert.InTIdeal.Facts] : Prop :=
  ∀ (m : (ℓ : Loc Cert.InTIdeal.nD Cert.InTIdeal.τ Cert.InTIdeal.sig) → Buf (Elt Ideal) ℓ) (g : Dev Cert.InTIdeal.nD → PrngReg), Pre_InTIdeal m →
    θ_run (Cert.InTIdeal.defs (F := Ideal)) (onTc (τ := Cert.InTIdeal.τ) (Cert.InTIdeal.main (F := Ideal))) ⟨m, fun _ => 0, g⟩ (fun r => (∀ c : Dev Cert.InTIdeal.nD,
      r.2.mem ((c.tc : Thread Cert.InTIdeal.nD Cert.InTIdeal.τ).loc Cert.InTIdeal.main_arg0) = m ((c.tc : Thread Cert.InTIdeal.nD Cert.InTIdeal.τ).loc Cert.InTIdeal.main_arg0)
      ∧ r.2.mem ((c.tc : Thread Cert.InTIdeal.nD Cert.InTIdeal.τ).loc Cert.InTIdeal.main_arg1) = m ((c.tc : Thread Cert.InTIdeal.nD Cert.InTIdeal.τ).loc Cert.InTIdeal.main_arg1)
      ∧ r.2.mem ((c.tc : Thread Cert.InTIdeal.nD Cert.InTIdeal.τ).loc Cert.InTIdeal.main_arg2) = m ((c.tc : Thread Cert.InTIdeal.nD Cert.InTIdeal.τ).loc Cert.InTIdeal.main_arg2)
      ∧ r.2.mem ((c.tc : Thread Cert.InTIdeal.nD Cert.InTIdeal.τ).loc Cert.InTIdeal.main_arg3) = m ((c.tc : Thread Cert.InTIdeal.nD Cert.InTIdeal.τ).loc Cert.InTIdeal.main_arg3)
      ∧ r.2.mem ((c.tc : Thread Cert.InTIdeal.nD Cert.InTIdeal.τ).loc Cert.InTIdeal.main_arg4) = m ((c.tc : Thread Cert.InTIdeal.nD Cert.InTIdeal.τ).loc Cert.InTIdeal.main_arg4))
      ∧ r.2.sem = fun _ => 0)

def quiescent_InTIdeal_pre_finite_in [hInTIdeal : Cert.InTIdeal.Facts] [hPre_finite_in : Cert.Pre_finite_in.Facts] : Prop :=
  ∀ (m : (ℓ : Loc Cert.InTIdeal.nD Cert.InTIdeal.τ Cert.InTIdeal.sig) → Buf (Elt Ideal) ℓ) (g : Dev Cert.InTIdeal.nD → PrngReg), Pre_InTIdeal_finite_in m →
    θ_run (Cert.InTIdeal.defs (F := Ideal)) (onTc (τ := Cert.InTIdeal.τ) (Cert.InTIdeal.main (F := Ideal))) ⟨m, fun _ => 0, g⟩ (fun r => (∀ c : Dev Cert.InTIdeal.nD,
      r.2.mem ((c.tc : Thread Cert.InTIdeal.nD Cert.InTIdeal.τ).loc Cert.InTIdeal.main_arg0) = m ((c.tc : Thread Cert.InTIdeal.nD Cert.InTIdeal.τ).loc Cert.InTIdeal.main_arg0)
      ∧ r.2.mem ((c.tc : Thread Cert.InTIdeal.nD Cert.InTIdeal.τ).loc Cert.InTIdeal.main_arg1) = m ((c.tc : Thread Cert.InTIdeal.nD Cert.InTIdeal.τ).loc Cert.InTIdeal.main_arg1)
      ∧ r.2.mem ((c.tc : Thread Cert.InTIdeal.nD Cert.InTIdeal.τ).loc Cert.InTIdeal.main_arg2) = m ((c.tc : Thread Cert.InTIdeal.nD Cert.InTIdeal.τ).loc Cert.InTIdeal.main_arg2)
      ∧ r.2.mem ((c.tc : Thread Cert.InTIdeal.nD Cert.InTIdeal.τ).loc Cert.InTIdeal.main_arg3) = m ((c.tc : Thread Cert.InTIdeal.nD Cert.InTIdeal.τ).loc Cert.InTIdeal.main_arg3)
      ∧ r.2.mem ((c.tc : Thread Cert.InTIdeal.nD Cert.InTIdeal.τ).loc Cert.InTIdeal.main_arg4) = m ((c.tc : Thread Cert.InTIdeal.nD Cert.InTIdeal.τ).loc Cert.InTIdeal.main_arg4))
      ∧ r.2.sem = fun _ => 0)

def quiescent_InTRefIdeal [hInTRefIdeal : Cert.InTRefIdeal.Facts] : Prop :=
  ∀ (m : (ℓ : Loc Cert.InTRefIdeal.nD Cert.InTRefIdeal.τ Cert.InTRefIdeal.sig) → Buf (Elt Ideal) ℓ) (g : Dev Cert.InTRefIdeal.nD → PrngReg), Pre_InTRefIdeal m →
    θ_run (Cert.InTRefIdeal.defs (F := Ideal)) (onTc (τ := Cert.InTRefIdeal.τ) (Cert.InTRefIdeal.main (F := Ideal))) ⟨m, fun _ => 0, g⟩ (fun r => (∀ c : Dev Cert.InTRefIdeal.nD,
      r.2.mem ((c.tc : Thread Cert.InTRefIdeal.nD Cert.InTRefIdeal.τ).loc Cert.InTRefIdeal.main_arg0) = m ((c.tc : Thread Cert.InTRefIdeal.nD Cert.InTRefIdeal.τ).loc Cert.InTRefIdeal.main_arg0)
      ∧ r.2.mem ((c.tc : Thread Cert.InTRefIdeal.nD Cert.InTRefIdeal.τ).loc Cert.InTRefIdeal.main_arg1) = m ((c.tc : Thread Cert.InTRefIdeal.nD Cert.InTRefIdeal.τ).loc Cert.InTRefIdeal.main_arg1)
      ∧ r.2.mem ((c.tc : Thread Cert.InTRefIdeal.nD Cert.InTRefIdeal.τ).loc Cert.InTRefIdeal.main_arg2) = m ((c.tc : Thread Cert.InTRefIdeal.nD Cert.InTRefIdeal.τ).loc Cert.InTRefIdeal.main_arg2)
      ∧ r.2.mem ((c.tc : Thread Cert.InTRefIdeal.nD Cert.InTRefIdeal.τ).loc Cert.InTRefIdeal.main_arg3) = m ((c.tc : Thread Cert.InTRefIdeal.nD Cert.InTRefIdeal.τ).loc Cert.InTRefIdeal.main_arg3)
      ∧ r.2.mem ((c.tc : Thread Cert.InTRefIdeal.nD Cert.InTRefIdeal.τ).loc Cert.InTRefIdeal.main_arg4) = m ((c.tc : Thread Cert.InTRefIdeal.nD Cert.InTRefIdeal.τ).loc Cert.InTRefIdeal.main_arg4))
      ∧ r.2.sem = fun _ => 0)

def quiescent_InTRefIdeal_pre_finite_in [hInTRefIdeal : Cert.InTRefIdeal.Facts] [hPre_finite_in : Cert.Pre_finite_in.Facts] : Prop :=
  ∀ (m : (ℓ : Loc Cert.InTRefIdeal.nD Cert.InTRefIdeal.τ Cert.InTRefIdeal.sig) → Buf (Elt Ideal) ℓ) (g : Dev Cert.InTRefIdeal.nD → PrngReg), Pre_InTRefIdeal_finite_in m →
    θ_run (Cert.InTRefIdeal.defs (F := Ideal)) (onTc (τ := Cert.InTRefIdeal.τ) (Cert.InTRefIdeal.main (F := Ideal))) ⟨m, fun _ => 0, g⟩ (fun r => (∀ c : Dev Cert.InTRefIdeal.nD,
      r.2.mem ((c.tc : Thread Cert.InTRefIdeal.nD Cert.InTRefIdeal.τ).loc Cert.InTRefIdeal.main_arg0) = m ((c.tc : Thread Cert.InTRefIdeal.nD Cert.InTRefIdeal.τ).loc Cert.InTRefIdeal.main_arg0)
      ∧ r.2.mem ((c.tc : Thread Cert.InTRefIdeal.nD Cert.InTRefIdeal.τ).loc Cert.InTRefIdeal.main_arg1) = m ((c.tc : Thread Cert.InTRefIdeal.nD Cert.InTRefIdeal.τ).loc Cert.InTRefIdeal.main_arg1)
      ∧ r.2.mem ((c.tc : Thread Cert.InTRefIdeal.nD Cert.InTRefIdeal.τ).loc Cert.InTRefIdeal.main_arg2) = m ((c.tc : Thread Cert.InTRefIdeal.nD Cert.InTRefIdeal.τ).loc Cert.InTRefIdeal.main_arg2)
      ∧ r.2.mem ((c.tc : Thread Cert.InTRefIdeal.nD Cert.InTRefIdeal.τ).loc Cert.InTRefIdeal.main_arg3) = m ((c.tc : Thread Cert.InTRefIdeal.nD Cert.InTRefIdeal.τ).loc Cert.InTRefIdeal.main_arg3)
      ∧ r.2.mem ((c.tc : Thread Cert.InTRefIdeal.nD Cert.InTRefIdeal.τ).loc Cert.InTRefIdeal.main_arg4) = m ((c.tc : Thread Cert.InTRefIdeal.nD Cert.InTRefIdeal.τ).loc Cert.InTRefIdeal.main_arg4))
      ∧ r.2.sem = fun _ => 0)

def quiescent_GateT [hGateT : Cert.GateT.Facts] : Prop :=
  ∀ (m : (ℓ : Loc Cert.GateT.nD Cert.GateT.τ Cert.GateT.sig) → Buf (Elt Bits) ℓ) (g : Dev Cert.GateT.nD → PrngReg), Pre_GateT m →
    θ_run (Cert.GateT.defs (F := Bits)) (onTc (τ := Cert.GateT.τ) (Cert.GateT.main (F := Bits))) ⟨m, fun _ => 0, g⟩ (fun r => (∀ c : Dev Cert.GateT.nD,
      r.2.mem ((c.tc : Thread Cert.GateT.nD Cert.GateT.τ).loc Cert.GateT.main_arg0) = m ((c.tc : Thread Cert.GateT.nD Cert.GateT.τ).loc Cert.GateT.main_arg0)
      ∧ r.2.mem ((c.tc : Thread Cert.GateT.nD Cert.GateT.τ).loc Cert.GateT.main_arg1) = m ((c.tc : Thread Cert.GateT.nD Cert.GateT.τ).loc Cert.GateT.main_arg1)
      ∧ r.2.mem ((c.tc : Thread Cert.GateT.nD Cert.GateT.τ).loc Cert.GateT.main_arg2) = m ((c.tc : Thread Cert.GateT.nD Cert.GateT.τ).loc Cert.GateT.main_arg2)
      ∧ r.2.mem ((c.tc : Thread Cert.GateT.nD Cert.GateT.τ).loc Cert.GateT.main_arg3) = m ((c.tc : Thread Cert.GateT.nD Cert.GateT.τ).loc Cert.GateT.main_arg3)
      ∧ r.2.mem ((c.tc : Thread Cert.GateT.nD Cert.GateT.τ).loc Cert.GateT.main_arg4) = m ((c.tc : Thread Cert.GateT.nD Cert.GateT.τ).loc Cert.GateT.main_arg4))
      ∧ r.2.sem = fun _ => 0)

def quiescent_GateTIdeal [hGateTIdeal : Cert.GateTIdeal.Facts] : Prop :=
  ∀ (m : (ℓ : Loc Cert.GateTIdeal.nD Cert.GateTIdeal.τ Cert.GateTIdeal.sig) → Buf (Elt Ideal) ℓ) (g : Dev Cert.GateTIdeal.nD → PrngReg), Pre_GateTIdeal m →
    θ_run (Cert.GateTIdeal.defs (F := Ideal)) (onTc (τ := Cert.GateTIdeal.τ) (Cert.GateTIdeal.main (F := Ideal))) ⟨m, fun _ => 0, g⟩ (fun r => (∀ c : Dev Cert.GateTIdeal.nD,
      r.2.mem ((c.tc : Thread Cert.GateTIdeal.nD Cert.GateTIdeal.τ).loc Cert.GateTIdeal.main_arg0) = m ((c.tc : Thread Cert.GateTIdeal.nD Cert.GateTIdeal.τ).loc Cert.GateTIdeal.main_arg0)
      ∧ r.2.mem ((c.tc : Thread Cert.GateTIdeal.nD Cert.GateTIdeal.τ).loc Cert.GateTIdeal.main_arg1) = m ((c.tc : Thread Cert.GateTIdeal.nD Cert.GateTIdeal.τ).loc Cert.GateTIdeal.main_arg1)
      ∧ r.2.mem ((c.tc : Thread Cert.GateTIdeal.nD Cert.GateTIdeal.τ).loc Cert.GateTIdeal.main_arg2) = m ((c.tc : Thread Cert.GateTIdeal.nD Cert.GateTIdeal.τ).loc Cert.GateTIdeal.main_arg2)
      ∧ r.2.mem ((c.tc : Thread Cert.GateTIdeal.nD Cert.GateTIdeal.τ).loc Cert.GateTIdeal.main_arg3) = m ((c.tc : Thread Cert.GateTIdeal.nD Cert.GateTIdeal.τ).loc Cert.GateTIdeal.main_arg3)
      ∧ r.2.mem ((c.tc : Thread Cert.GateTIdeal.nD Cert.GateTIdeal.τ).loc Cert.GateTIdeal.main_arg4) = m ((c.tc : Thread Cert.GateTIdeal.nD Cert.GateTIdeal.τ).loc Cert.GateTIdeal.main_arg4))
      ∧ r.2.sem = fun _ => 0)

def quiescent_GateTIdeal_pre_finite_gate [hGateTIdeal : Cert.GateTIdeal.Facts] [hPre_finite_gate : Cert.Pre_finite_gate.Facts] : Prop :=
  ∀ (m : (ℓ : Loc Cert.GateTIdeal.nD Cert.GateTIdeal.τ Cert.GateTIdeal.sig) → Buf (Elt Ideal) ℓ) (g : Dev Cert.GateTIdeal.nD → PrngReg), Pre_GateTIdeal_finite_gate m →
    θ_run (Cert.GateTIdeal.defs (F := Ideal)) (onTc (τ := Cert.GateTIdeal.τ) (Cert.GateTIdeal.main (F := Ideal))) ⟨m, fun _ => 0, g⟩ (fun r => (∀ c : Dev Cert.GateTIdeal.nD,
      r.2.mem ((c.tc : Thread Cert.GateTIdeal.nD Cert.GateTIdeal.τ).loc Cert.GateTIdeal.main_arg0) = m ((c.tc : Thread Cert.GateTIdeal.nD Cert.GateTIdeal.τ).loc Cert.GateTIdeal.main_arg0)
      ∧ r.2.mem ((c.tc : Thread Cert.GateTIdeal.nD Cert.GateTIdeal.τ).loc Cert.GateTIdeal.main_arg1) = m ((c.tc : Thread Cert.GateTIdeal.nD Cert.GateTIdeal.τ).loc Cert.GateTIdeal.main_arg1)
      ∧ r.2.mem ((c.tc : Thread Cert.GateTIdeal.nD Cert.GateTIdeal.τ).loc Cert.GateTIdeal.main_arg2) = m ((c.tc : Thread Cert.GateTIdeal.nD Cert.GateTIdeal.τ).loc Cert.GateTIdeal.main_arg2)
      ∧ r.2.mem ((c.tc : Thread Cert.GateTIdeal.nD Cert.GateTIdeal.τ).loc Cert.GateTIdeal.main_arg3) = m ((c.tc : Thread Cert.GateTIdeal.nD Cert.GateTIdeal.τ).loc Cert.GateTIdeal.main_arg3)
      ∧ r.2.mem ((c.tc : Thread Cert.GateTIdeal.nD Cert.GateTIdeal.τ).loc Cert.GateTIdeal.main_arg4) = m ((c.tc : Thread Cert.GateTIdeal.nD Cert.GateTIdeal.τ).loc Cert.GateTIdeal.main_arg4))
      ∧ r.2.sem = fun _ => 0)

def quiescent_GateTRefIdeal [hGateTRefIdeal : Cert.GateTRefIdeal.Facts] : Prop :=
  ∀ (m : (ℓ : Loc Cert.GateTRefIdeal.nD Cert.GateTRefIdeal.τ Cert.GateTRefIdeal.sig) → Buf (Elt Ideal) ℓ) (g : Dev Cert.GateTRefIdeal.nD → PrngReg), Pre_GateTRefIdeal m →
    θ_run (Cert.GateTRefIdeal.defs (F := Ideal)) (onTc (τ := Cert.GateTRefIdeal.τ) (Cert.GateTRefIdeal.main (F := Ideal))) ⟨m, fun _ => 0, g⟩ (fun r => (∀ c : Dev Cert.GateTRefIdeal.nD,
      r.2.mem ((c.tc : Thread Cert.GateTRefIdeal.nD Cert.GateTRefIdeal.τ).loc Cert.GateTRefIdeal.main_arg0) = m ((c.tc : Thread Cert.GateTRefIdeal.nD Cert.GateTRefIdeal.τ).loc Cert.GateTRefIdeal.main_arg0)
      ∧ r.2.mem ((c.tc : Thread Cert.GateTRefIdeal.nD Cert.GateTRefIdeal.τ).loc Cert.GateTRefIdeal.main_arg1) = m ((c.tc : Thread Cert.GateTRefIdeal.nD Cert.GateTRefIdeal.τ).loc Cert.GateTRefIdeal.main_arg1)
      ∧ r.2.mem ((c.tc : Thread Cert.GateTRefIdeal.nD Cert.GateTRefIdeal.τ).loc Cert.GateTRefIdeal.main_arg2) = m ((c.tc : Thread Cert.GateTRefIdeal.nD Cert.GateTRefIdeal.τ).loc Cert.GateTRefIdeal.main_arg2)
      ∧ r.2.mem ((c.tc : Thread Cert.GateTRefIdeal.nD Cert.GateTRefIdeal.τ).loc Cert.GateTRefIdeal.main_arg3) = m ((c.tc : Thread Cert.GateTRefIdeal.nD Cert.GateTRefIdeal.τ).loc Cert.GateTRefIdeal.main_arg3)
      ∧ r.2.mem ((c.tc : Thread Cert.GateTRefIdeal.nD Cert.GateTRefIdeal.τ).loc Cert.GateTRefIdeal.main_arg4) = m ((c.tc : Thread Cert.GateTRefIdeal.nD Cert.GateTRefIdeal.τ).loc Cert.GateTRefIdeal.main_arg4))
      ∧ r.2.sem = fun _ => 0)

def quiescent_GateTRefIdeal_pre_finite_gate [hGateTRefIdeal : Cert.GateTRefIdeal.Facts] [hPre_finite_gate : Cert.Pre_finite_gate.Facts] : Prop :=
  ∀ (m : (ℓ : Loc Cert.GateTRefIdeal.nD Cert.GateTRefIdeal.τ Cert.GateTRefIdeal.sig) → Buf (Elt Ideal) ℓ) (g : Dev Cert.GateTRefIdeal.nD → PrngReg), Pre_GateTRefIdeal_finite_gate m →
    θ_run (Cert.GateTRefIdeal.defs (F := Ideal)) (onTc (τ := Cert.GateTRefIdeal.τ) (Cert.GateTRefIdeal.main (F := Ideal))) ⟨m, fun _ => 0, g⟩ (fun r => (∀ c : Dev Cert.GateTRefIdeal.nD,
      r.2.mem ((c.tc : Thread Cert.GateTRefIdeal.nD Cert.GateTRefIdeal.τ).loc Cert.GateTRefIdeal.main_arg0) = m ((c.tc : Thread Cert.GateTRefIdeal.nD Cert.GateTRefIdeal.τ).loc Cert.GateTRefIdeal.main_arg0)
      ∧ r.2.mem ((c.tc : Thread Cert.GateTRefIdeal.nD Cert.GateTRefIdeal.τ).loc Cert.GateTRefIdeal.main_arg1) = m ((c.tc : Thread Cert.GateTRefIdeal.nD Cert.GateTRefIdeal.τ).loc Cert.GateTRefIdeal.main_arg1)
      ∧ r.2.mem ((c.tc : Thread Cert.GateTRefIdeal.nD Cert.GateTRefIdeal.τ).loc Cert.GateTRefIdeal.main_arg2) = m ((c.tc : Thread Cert.GateTRefIdeal.nD Cert.GateTRefIdeal.τ).loc Cert.GateTRefIdeal.main_arg2)
      ∧ r.2.mem ((c.tc : Thread Cert.GateTRefIdeal.nD Cert.GateTRefIdeal.τ).loc Cert.GateTRefIdeal.main_arg3) = m ((c.tc : Thread Cert.GateTRefIdeal.nD Cert.GateTRefIdeal.τ).loc Cert.GateTRefIdeal.main_arg3)
      ∧ r.2.mem ((c.tc : Thread Cert.GateTRefIdeal.nD Cert.GateTRefIdeal.τ).loc Cert.GateTRefIdeal.main_arg4) = m ((c.tc : Thread Cert.GateTRefIdeal.nD Cert.GateTRefIdeal.τ).loc Cert.GateTRefIdeal.main_arg4))
      ∧ r.2.sem = fun _ => 0)

def quiescent_DownT [hDownT : Cert.DownT.Facts] : Prop :=
  ∀ (m : (ℓ : Loc Cert.DownT.nD Cert.DownT.τ Cert.DownT.sig) → Buf (Elt Bits) ℓ) (g : Dev Cert.DownT.nD → PrngReg), Pre_DownT m →
    θ_run (Cert.DownT.defs (F := Bits)) (onTc (τ := Cert.DownT.τ) (Cert.DownT.main (F := Bits))) ⟨m, fun _ => 0, g⟩ (fun r => (∀ c : Dev Cert.DownT.nD,
      r.2.mem ((c.tc : Thread Cert.DownT.nD Cert.DownT.τ).loc Cert.DownT.main_arg0) = m ((c.tc : Thread Cert.DownT.nD Cert.DownT.τ).loc Cert.DownT.main_arg0)
      ∧ r.2.mem ((c.tc : Thread Cert.DownT.nD Cert.DownT.τ).loc Cert.DownT.main_arg1) = m ((c.tc : Thread Cert.DownT.nD Cert.DownT.τ).loc Cert.DownT.main_arg1))
      ∧ r.2.sem = fun _ => 0)

def quiescent_DownTIdeal [hDownTIdeal : Cert.DownTIdeal.Facts] : Prop :=
  ∀ (m : (ℓ : Loc Cert.DownTIdeal.nD Cert.DownTIdeal.τ Cert.DownTIdeal.sig) → Buf (Elt Ideal) ℓ) (g : Dev Cert.DownTIdeal.nD → PrngReg), Pre_DownTIdeal m →
    θ_run (Cert.DownTIdeal.defs (F := Ideal)) (onTc (τ := Cert.DownTIdeal.τ) (Cert.DownTIdeal.main (F := Ideal))) ⟨m, fun _ => 0, g⟩ (fun r => (∀ c : Dev Cert.DownTIdeal.nD,
      r.2.mem ((c.tc : Thread Cert.DownTIdeal.nD Cert.DownTIdeal.τ).loc Cert.DownTIdeal.main_arg0) = m ((c.tc : Thread Cert.DownTIdeal.nD Cert.DownTIdeal.τ).loc Cert.DownTIdeal.main_arg0)
      ∧ r.2.mem ((c.tc : Thread Cert.DownTIdeal.nD Cert.DownTIdeal.τ).loc Cert.DownTIdeal.main_arg1) = m ((c.tc : Thread Cert.DownTIdeal.nD Cert.DownTIdeal.τ).loc Cert.DownTIdeal.main_arg1))
      ∧ r.2.sem = fun _ => 0)

def quiescent_DownTRefIdeal [hDownTRefIdeal : Cert.DownTRefIdeal.Facts] : Prop :=
  ∀ (m : (ℓ : Loc Cert.DownTRefIdeal.nD Cert.DownTRefIdeal.τ Cert.DownTRefIdeal.sig) → Buf (Elt Ideal) ℓ) (g : Dev Cert.DownTRefIdeal.nD → PrngReg), Pre_DownTRefIdeal m →
    θ_run (Cert.DownTRefIdeal.defs (F := Ideal)) (onTc (τ := Cert.DownTRefIdeal.τ) (Cert.DownTRefIdeal.main (F := Ideal))) ⟨m, fun _ => 0, g⟩ (fun r => (∀ c : Dev Cert.DownTRefIdeal.nD,
      r.2.mem ((c.tc : Thread Cert.DownTRefIdeal.nD Cert.DownTRefIdeal.τ).loc Cert.DownTRefIdeal.main_arg0) = m ((c.tc : Thread Cert.DownTRefIdeal.nD Cert.DownTRefIdeal.τ).loc Cert.DownTRefIdeal.main_arg0)
      ∧ r.2.mem ((c.tc : Thread Cert.DownTRefIdeal.nD Cert.DownTRefIdeal.τ).loc Cert.DownTRefIdeal.main_arg1) = m ((c.tc : Thread Cert.DownTRefIdeal.nD Cert.DownTRefIdeal.τ).loc Cert.DownTRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_AIn [hAIn : Cert.AIn.Facts] : Prop :=
  ∀ (m : (ℓ : Loc Cert.AIn.nD Cert.AIn.τ Cert.AIn.sig) → Buf (Elt Bits) ℓ) (g : Dev Cert.AIn.nD → PrngReg), Pre_AIn m →
    θ_run (Cert.AIn.defs (F := Bits)) (onTc (τ := Cert.AIn.τ) (Cert.AIn.main (F := Bits))) ⟨m, fun _ => 0, g⟩ (fun r => (∀ c : Dev Cert.AIn.nD,
      r.2.mem ((c.tc : Thread Cert.AIn.nD Cert.AIn.τ).loc Cert.AIn.main_arg0) = m ((c.tc : Thread Cert.AIn.nD Cert.AIn.τ).loc Cert.AIn.main_arg0)
      ∧ r.2.mem ((c.tc : Thread Cert.AIn.nD Cert.AIn.τ).loc Cert.AIn.main_arg1) = m ((c.tc : Thread Cert.AIn.nD Cert.AIn.τ).loc Cert.AIn.main_arg1)
      ∧ r.2.mem ((c.tc : Thread Cert.AIn.nD Cert.AIn.τ).loc Cert.AIn.main_arg2) = m ((c.tc : Thread Cert.AIn.nD Cert.AIn.τ).loc Cert.AIn.main_arg2)
      ∧ r.2.mem ((c.tc : Thread Cert.AIn.nD Cert.AIn.τ).loc Cert.AIn.main_arg3) = m ((c.tc : Thread Cert.AIn.nD Cert.AIn.τ).loc Cert.AIn.main_arg3)
      ∧ r.2.mem ((c.tc : Thread Cert.AIn.nD Cert.AIn.τ).loc Cert.AIn.main_arg4) = m ((c.tc : Thread Cert.AIn.nD Cert.AIn.τ).loc Cert.AIn.main_arg4))
      ∧ r.2.sem = fun _ => 0)

def quiescent_AInIdeal [hAInIdeal : Cert.AInIdeal.Facts] : Prop :=
  ∀ (m : (ℓ : Loc Cert.AInIdeal.nD Cert.AInIdeal.τ Cert.AInIdeal.sig) → Buf (Elt Ideal) ℓ) (g : Dev Cert.AInIdeal.nD → PrngReg), Pre_AInIdeal m →
    θ_run (Cert.AInIdeal.defs (F := Ideal)) (onTc (τ := Cert.AInIdeal.τ) (Cert.AInIdeal.main (F := Ideal))) ⟨m, fun _ => 0, g⟩ (fun r => (∀ c : Dev Cert.AInIdeal.nD,
      r.2.mem ((c.tc : Thread Cert.AInIdeal.nD Cert.AInIdeal.τ).loc Cert.AInIdeal.main_arg0) = m ((c.tc : Thread Cert.AInIdeal.nD Cert.AInIdeal.τ).loc Cert.AInIdeal.main_arg0)
      ∧ r.2.mem ((c.tc : Thread Cert.AInIdeal.nD Cert.AInIdeal.τ).loc Cert.AInIdeal.main_arg1) = m ((c.tc : Thread Cert.AInIdeal.nD Cert.AInIdeal.τ).loc Cert.AInIdeal.main_arg1)
      ∧ r.2.mem ((c.tc : Thread Cert.AInIdeal.nD Cert.AInIdeal.τ).loc Cert.AInIdeal.main_arg2) = m ((c.tc : Thread Cert.AInIdeal.nD Cert.AInIdeal.τ).loc Cert.AInIdeal.main_arg2)
      ∧ r.2.mem ((c.tc : Thread Cert.AInIdeal.nD Cert.AInIdeal.τ).loc Cert.AInIdeal.main_arg3) = m ((c.tc : Thread Cert.AInIdeal.nD Cert.AInIdeal.τ).loc Cert.AInIdeal.main_arg3)
      ∧ r.2.mem ((c.tc : Thread Cert.AInIdeal.nD Cert.AInIdeal.τ).loc Cert.AInIdeal.main_arg4) = m ((c.tc : Thread Cert.AInIdeal.nD Cert.AInIdeal.τ).loc Cert.AInIdeal.main_arg4))
      ∧ r.2.sem = fun _ => 0)

def quiescent_AInRefIdeal [hAInRefIdeal : Cert.AInRefIdeal.Facts] : Prop :=
  ∀ (m : (ℓ : Loc Cert.AInRefIdeal.nD Cert.AInRefIdeal.τ Cert.AInRefIdeal.sig) → Buf (Elt Ideal) ℓ) (g : Dev Cert.AInRefIdeal.nD → PrngReg), Pre_AInRefIdeal m →
    θ_run (Cert.AInRefIdeal.defs (F := Ideal)) (onTc (τ := Cert.AInRefIdeal.τ) (Cert.AInRefIdeal.main (F := Ideal))) ⟨m, fun _ => 0, g⟩ (fun r => (∀ c : Dev Cert.AInRefIdeal.nD,
      r.2.mem ((c.tc : Thread Cert.AInRefIdeal.nD Cert.AInRefIdeal.τ).loc Cert.AInRefIdeal.main_arg0) = m ((c.tc : Thread Cert.AInRefIdeal.nD Cert.AInRefIdeal.τ).loc Cert.AInRefIdeal.main_arg0)
      ∧ r.2.mem ((c.tc : Thread Cert.AInRefIdeal.nD Cert.AInRefIdeal.τ).loc Cert.AInRefIdeal.main_arg1) = m ((c.tc : Thread Cert.AInRefIdeal.nD Cert.AInRefIdeal.τ).loc Cert.AInRefIdeal.main_arg1)
      ∧ r.2.mem ((c.tc : Thread Cert.AInRefIdeal.nD Cert.AInRefIdeal.τ).loc Cert.AInRefIdeal.main_arg2) = m ((c.tc : Thread Cert.AInRefIdeal.nD Cert.AInRefIdeal.τ).loc Cert.AInRefIdeal.main_arg2)
      ∧ r.2.mem ((c.tc : Thread Cert.AInRefIdeal.nD Cert.AInRefIdeal.τ).loc Cert.AInRefIdeal.main_arg3) = m ((c.tc : Thread Cert.AInRefIdeal.nD Cert.AInRefIdeal.τ).loc Cert.AInRefIdeal.main_arg3)
      ∧ r.2.mem ((c.tc : Thread Cert.AInRefIdeal.nD Cert.AInRefIdeal.τ).loc Cert.AInRefIdeal.main_arg4) = m ((c.tc : Thread Cert.AInRefIdeal.nD Cert.AInRefIdeal.τ).loc Cert.AInRefIdeal.main_arg4))
      ∧ r.2.sem = fun _ => 0)

def quiescent_AUp [hAUp : Cert.AUp.Facts] : Prop :=
  ∀ (m : (ℓ : Loc Cert.AUp.nD Cert.AUp.τ Cert.AUp.sig) → Buf (Elt Bits) ℓ) (g : Dev Cert.AUp.nD → PrngReg), Pre_AUp m →
    θ_run (Cert.AUp.defs (F := Bits)) (onTc (τ := Cert.AUp.τ) (Cert.AUp.main (F := Bits))) ⟨m, fun _ => 0, g⟩ (fun r => (∀ c : Dev Cert.AUp.nD,
      r.2.mem ((c.tc : Thread Cert.AUp.nD Cert.AUp.τ).loc Cert.AUp.main_arg0) = m ((c.tc : Thread Cert.AUp.nD Cert.AUp.τ).loc Cert.AUp.main_arg0)
      ∧ r.2.mem ((c.tc : Thread Cert.AUp.nD Cert.AUp.τ).loc Cert.AUp.main_arg1) = m ((c.tc : Thread Cert.AUp.nD Cert.AUp.τ).loc Cert.AUp.main_arg1)
      ∧ r.2.mem ((c.tc : Thread Cert.AUp.nD Cert.AUp.τ).loc Cert.AUp.main_arg2) = m ((c.tc : Thread Cert.AUp.nD Cert.AUp.τ).loc Cert.AUp.main_arg2)
      ∧ r.2.mem ((c.tc : Thread Cert.AUp.nD Cert.AUp.τ).loc Cert.AUp.main_arg3) = m ((c.tc : Thread Cert.AUp.nD Cert.AUp.τ).loc Cert.AUp.main_arg3)
      ∧ r.2.mem ((c.tc : Thread Cert.AUp.nD Cert.AUp.τ).loc Cert.AUp.main_arg4) = m ((c.tc : Thread Cert.AUp.nD Cert.AUp.τ).loc Cert.AUp.main_arg4))
      ∧ r.2.sem = fun _ => 0)

def quiescent_AUpIdeal [hAUpIdeal : Cert.AUpIdeal.Facts] : Prop :=
  ∀ (m : (ℓ : Loc Cert.AUpIdeal.nD Cert.AUpIdeal.τ Cert.AUpIdeal.sig) → Buf (Elt Ideal) ℓ) (g : Dev Cert.AUpIdeal.nD → PrngReg), Pre_AUpIdeal m →
    θ_run (Cert.AUpIdeal.defs (F := Ideal)) (onTc (τ := Cert.AUpIdeal.τ) (Cert.AUpIdeal.main (F := Ideal))) ⟨m, fun _ => 0, g⟩ (fun r => (∀ c : Dev Cert.AUpIdeal.nD,
      r.2.mem ((c.tc : Thread Cert.AUpIdeal.nD Cert.AUpIdeal.τ).loc Cert.AUpIdeal.main_arg0) = m ((c.tc : Thread Cert.AUpIdeal.nD Cert.AUpIdeal.τ).loc Cert.AUpIdeal.main_arg0)
      ∧ r.2.mem ((c.tc : Thread Cert.AUpIdeal.nD Cert.AUpIdeal.τ).loc Cert.AUpIdeal.main_arg1) = m ((c.tc : Thread Cert.AUpIdeal.nD Cert.AUpIdeal.τ).loc Cert.AUpIdeal.main_arg1)
      ∧ r.2.mem ((c.tc : Thread Cert.AUpIdeal.nD Cert.AUpIdeal.τ).loc Cert.AUpIdeal.main_arg2) = m ((c.tc : Thread Cert.AUpIdeal.nD Cert.AUpIdeal.τ).loc Cert.AUpIdeal.main_arg2)
      ∧ r.2.mem ((c.tc : Thread Cert.AUpIdeal.nD Cert.AUpIdeal.τ).loc Cert.AUpIdeal.main_arg3) = m ((c.tc : Thread Cert.AUpIdeal.nD Cert.AUpIdeal.τ).loc Cert.AUpIdeal.main_arg3)
      ∧ r.2.mem ((c.tc : Thread Cert.AUpIdeal.nD Cert.AUpIdeal.τ).loc Cert.AUpIdeal.main_arg4) = m ((c.tc : Thread Cert.AUpIdeal.nD Cert.AUpIdeal.τ).loc Cert.AUpIdeal.main_arg4))
      ∧ r.2.sem = fun _ => 0)

def quiescent_AUpRefIdeal [hAUpRefIdeal : Cert.AUpRefIdeal.Facts] : Prop :=
  ∀ (m : (ℓ : Loc Cert.AUpRefIdeal.nD Cert.AUpRefIdeal.τ Cert.AUpRefIdeal.sig) → Buf (Elt Ideal) ℓ) (g : Dev Cert.AUpRefIdeal.nD → PrngReg), Pre_AUpRefIdeal m →
    θ_run (Cert.AUpRefIdeal.defs (F := Ideal)) (onTc (τ := Cert.AUpRefIdeal.τ) (Cert.AUpRefIdeal.main (F := Ideal))) ⟨m, fun _ => 0, g⟩ (fun r => (∀ c : Dev Cert.AUpRefIdeal.nD,
      r.2.mem ((c.tc : Thread Cert.AUpRefIdeal.nD Cert.AUpRefIdeal.τ).loc Cert.AUpRefIdeal.main_arg0) = m ((c.tc : Thread Cert.AUpRefIdeal.nD Cert.AUpRefIdeal.τ).loc Cert.AUpRefIdeal.main_arg0)
      ∧ r.2.mem ((c.tc : Thread Cert.AUpRefIdeal.nD Cert.AUpRefIdeal.τ).loc Cert.AUpRefIdeal.main_arg1) = m ((c.tc : Thread Cert.AUpRefIdeal.nD Cert.AUpRefIdeal.τ).loc Cert.AUpRefIdeal.main_arg1)
      ∧ r.2.mem ((c.tc : Thread Cert.AUpRefIdeal.nD Cert.AUpRefIdeal.τ).loc Cert.AUpRefIdeal.main_arg2) = m ((c.tc : Thread Cert.AUpRefIdeal.nD Cert.AUpRefIdeal.τ).loc Cert.AUpRefIdeal.main_arg2)
      ∧ r.2.mem ((c.tc : Thread Cert.AUpRefIdeal.nD Cert.AUpRefIdeal.τ).loc Cert.AUpRefIdeal.main_arg3) = m ((c.tc : Thread Cert.AUpRefIdeal.nD Cert.AUpRefIdeal.τ).loc Cert.AUpRefIdeal.main_arg3)
      ∧ r.2.mem ((c.tc : Thread Cert.AUpRefIdeal.nD Cert.AUpRefIdeal.τ).loc Cert.AUpRefIdeal.main_arg4) = m ((c.tc : Thread Cert.AUpRefIdeal.nD Cert.AUpRefIdeal.τ).loc Cert.AUpRefIdeal.main_arg4))
      ∧ r.2.sem = fun _ => 0)

def quiescent_ADown [hADown : Cert.ADown.Facts] : Prop :=
  ∀ (m : (ℓ : Loc Cert.ADown.nD Cert.ADown.τ Cert.ADown.sig) → Buf (Elt Bits) ℓ) (g : Dev Cert.ADown.nD → PrngReg), Pre_ADown m →
    θ_run (Cert.ADown.defs (F := Bits)) (onTc (τ := Cert.ADown.τ) (Cert.ADown.main (F := Bits))) ⟨m, fun _ => 0, g⟩ (fun r => (∀ c : Dev Cert.ADown.nD,
      r.2.mem ((c.tc : Thread Cert.ADown.nD Cert.ADown.τ).loc Cert.ADown.main_arg0) = m ((c.tc : Thread Cert.ADown.nD Cert.ADown.τ).loc Cert.ADown.main_arg0)
      ∧ r.2.mem ((c.tc : Thread Cert.ADown.nD Cert.ADown.τ).loc Cert.ADown.main_arg1) = m ((c.tc : Thread Cert.ADown.nD Cert.ADown.τ).loc Cert.ADown.main_arg1)
      ∧ r.2.mem ((c.tc : Thread Cert.ADown.nD Cert.ADown.τ).loc Cert.ADown.main_arg2) = m ((c.tc : Thread Cert.ADown.nD Cert.ADown.τ).loc Cert.ADown.main_arg2)
      ∧ r.2.mem ((c.tc : Thread Cert.ADown.nD Cert.ADown.τ).loc Cert.ADown.main_arg3) = m ((c.tc : Thread Cert.ADown.nD Cert.ADown.τ).loc Cert.ADown.main_arg3)
      ∧ r.2.mem ((c.tc : Thread Cert.ADown.nD Cert.ADown.τ).loc Cert.ADown.main_arg4) = m ((c.tc : Thread Cert.ADown.nD Cert.ADown.τ).loc Cert.ADown.main_arg4))
      ∧ r.2.sem = fun _ => 0)

def quiescent_ADownIdeal [hADownIdeal : Cert.ADownIdeal.Facts] : Prop :=
  ∀ (m : (ℓ : Loc Cert.ADownIdeal.nD Cert.ADownIdeal.τ Cert.ADownIdeal.sig) → Buf (Elt Ideal) ℓ) (g : Dev Cert.ADownIdeal.nD → PrngReg), Pre_ADownIdeal m →
    θ_run (Cert.ADownIdeal.defs (F := Ideal)) (onTc (τ := Cert.ADownIdeal.τ) (Cert.ADownIdeal.main (F := Ideal))) ⟨m, fun _ => 0, g⟩ (fun r => (∀ c : Dev Cert.ADownIdeal.nD,
      r.2.mem ((c.tc : Thread Cert.ADownIdeal.nD Cert.ADownIdeal.τ).loc Cert.ADownIdeal.main_arg0) = m ((c.tc : Thread Cert.ADownIdeal.nD Cert.ADownIdeal.τ).loc Cert.ADownIdeal.main_arg0)
      ∧ r.2.mem ((c.tc : Thread Cert.ADownIdeal.nD Cert.ADownIdeal.τ).loc Cert.ADownIdeal.main_arg1) = m ((c.tc : Thread Cert.ADownIdeal.nD Cert.ADownIdeal.τ).loc Cert.ADownIdeal.main_arg1)
      ∧ r.2.mem ((c.tc : Thread Cert.ADownIdeal.nD Cert.ADownIdeal.τ).loc Cert.ADownIdeal.main_arg2) = m ((c.tc : Thread Cert.ADownIdeal.nD Cert.ADownIdeal.τ).loc Cert.ADownIdeal.main_arg2)
      ∧ r.2.mem ((c.tc : Thread Cert.ADownIdeal.nD Cert.ADownIdeal.τ).loc Cert.ADownIdeal.main_arg3) = m ((c.tc : Thread Cert.ADownIdeal.nD Cert.ADownIdeal.τ).loc Cert.ADownIdeal.main_arg3)
      ∧ r.2.mem ((c.tc : Thread Cert.ADownIdeal.nD Cert.ADownIdeal.τ).loc Cert.ADownIdeal.main_arg4) = m ((c.tc : Thread Cert.ADownIdeal.nD Cert.ADownIdeal.τ).loc Cert.ADownIdeal.main_arg4))
      ∧ r.2.sem = fun _ => 0)

def quiescent_ADownRefIdeal [hADownRefIdeal : Cert.ADownRefIdeal.Facts] : Prop :=
  ∀ (m : (ℓ : Loc Cert.ADownRefIdeal.nD Cert.ADownRefIdeal.τ Cert.ADownRefIdeal.sig) → Buf (Elt Ideal) ℓ) (g : Dev Cert.ADownRefIdeal.nD → PrngReg), Pre_ADownRefIdeal m →
    θ_run (Cert.ADownRefIdeal.defs (F := Ideal)) (onTc (τ := Cert.ADownRefIdeal.τ) (Cert.ADownRefIdeal.main (F := Ideal))) ⟨m, fun _ => 0, g⟩ (fun r => (∀ c : Dev Cert.ADownRefIdeal.nD,
      r.2.mem ((c.tc : Thread Cert.ADownRefIdeal.nD Cert.ADownRefIdeal.τ).loc Cert.ADownRefIdeal.main_arg0) = m ((c.tc : Thread Cert.ADownRefIdeal.nD Cert.ADownRefIdeal.τ).loc Cert.ADownRefIdeal.main_arg0)
      ∧ r.2.mem ((c.tc : Thread Cert.ADownRefIdeal.nD Cert.ADownRefIdeal.τ).loc Cert.ADownRefIdeal.main_arg1) = m ((c.tc : Thread Cert.ADownRefIdeal.nD Cert.ADownRefIdeal.τ).loc Cert.ADownRefIdeal.main_arg1)
      ∧ r.2.mem ((c.tc : Thread Cert.ADownRefIdeal.nD Cert.ADownRefIdeal.τ).loc Cert.ADownRefIdeal.main_arg2) = m ((c.tc : Thread Cert.ADownRefIdeal.nD Cert.ADownRefIdeal.τ).loc Cert.ADownRefIdeal.main_arg2)
      ∧ r.2.mem ((c.tc : Thread Cert.ADownRefIdeal.nD Cert.ADownRefIdeal.τ).loc Cert.ADownRefIdeal.main_arg3) = m ((c.tc : Thread Cert.ADownRefIdeal.nD Cert.ADownRefIdeal.τ).loc Cert.ADownRefIdeal.main_arg3)
      ∧ r.2.mem ((c.tc : Thread Cert.ADownRefIdeal.nD Cert.ADownRefIdeal.τ).loc Cert.ADownRefIdeal.main_arg4) = m ((c.tc : Thread Cert.ADownRefIdeal.nD Cert.ADownRefIdeal.τ).loc Cert.ADownRefIdeal.main_arg4))
      ∧ r.2.sem = fun _ => 0)

def quiescent_AOut [hAOut : Cert.AOut.Facts] : Prop :=
  ∀ (m : (ℓ : Loc Cert.AOut.nD Cert.AOut.τ Cert.AOut.sig) → Buf (Elt Bits) ℓ) (g : Dev Cert.AOut.nD → PrngReg), Pre_AOut m →
    θ_run (Cert.AOut.defs (F := Bits)) (onTc (τ := Cert.AOut.τ) (Cert.AOut.main (F := Bits))) ⟨m, fun _ => 0, g⟩ (fun r => (∀ c : Dev Cert.AOut.nD,
      r.2.mem ((c.tc : Thread Cert.AOut.nD Cert.AOut.τ).loc Cert.AOut.main_arg0) = m ((c.tc : Thread Cert.AOut.nD Cert.AOut.τ).loc Cert.AOut.main_arg0)
      ∧ r.2.mem ((c.tc : Thread Cert.AOut.nD Cert.AOut.τ).loc Cert.AOut.main_arg1) = m ((c.tc : Thread Cert.AOut.nD Cert.AOut.τ).loc Cert.AOut.main_arg1)
      ∧ r.2.mem ((c.tc : Thread Cert.AOut.nD Cert.AOut.τ).loc Cert.AOut.main_arg2) = m ((c.tc : Thread Cert.AOut.nD Cert.AOut.τ).loc Cert.AOut.main_arg2)
      ∧ r.2.mem ((c.tc : Thread Cert.AOut.nD Cert.AOut.τ).loc Cert.AOut.main_arg3) = m ((c.tc : Thread Cert.AOut.nD Cert.AOut.τ).loc Cert.AOut.main_arg3)
      ∧ r.2.mem ((c.tc : Thread Cert.AOut.nD Cert.AOut.τ).loc Cert.AOut.main_arg4) = m ((c.tc : Thread Cert.AOut.nD Cert.AOut.τ).loc Cert.AOut.main_arg4))
      ∧ r.2.sem = fun _ => 0)

def quiescent_AOutIdeal [hAOutIdeal : Cert.AOutIdeal.Facts] : Prop :=
  ∀ (m : (ℓ : Loc Cert.AOutIdeal.nD Cert.AOutIdeal.τ Cert.AOutIdeal.sig) → Buf (Elt Ideal) ℓ) (g : Dev Cert.AOutIdeal.nD → PrngReg), Pre_AOutIdeal m →
    θ_run (Cert.AOutIdeal.defs (F := Ideal)) (onTc (τ := Cert.AOutIdeal.τ) (Cert.AOutIdeal.main (F := Ideal))) ⟨m, fun _ => 0, g⟩ (fun r => (∀ c : Dev Cert.AOutIdeal.nD,
      r.2.mem ((c.tc : Thread Cert.AOutIdeal.nD Cert.AOutIdeal.τ).loc Cert.AOutIdeal.main_arg0) = m ((c.tc : Thread Cert.AOutIdeal.nD Cert.AOutIdeal.τ).loc Cert.AOutIdeal.main_arg0)
      ∧ r.2.mem ((c.tc : Thread Cert.AOutIdeal.nD Cert.AOutIdeal.τ).loc Cert.AOutIdeal.main_arg1) = m ((c.tc : Thread Cert.AOutIdeal.nD Cert.AOutIdeal.τ).loc Cert.AOutIdeal.main_arg1)
      ∧ r.2.mem ((c.tc : Thread Cert.AOutIdeal.nD Cert.AOutIdeal.τ).loc Cert.AOutIdeal.main_arg2) = m ((c.tc : Thread Cert.AOutIdeal.nD Cert.AOutIdeal.τ).loc Cert.AOutIdeal.main_arg2)
      ∧ r.2.mem ((c.tc : Thread Cert.AOutIdeal.nD Cert.AOutIdeal.τ).loc Cert.AOutIdeal.main_arg3) = m ((c.tc : Thread Cert.AOutIdeal.nD Cert.AOutIdeal.τ).loc Cert.AOutIdeal.main_arg3)
      ∧ r.2.mem ((c.tc : Thread Cert.AOutIdeal.nD Cert.AOutIdeal.τ).loc Cert.AOutIdeal.main_arg4) = m ((c.tc : Thread Cert.AOutIdeal.nD Cert.AOutIdeal.τ).loc Cert.AOutIdeal.main_arg4))
      ∧ r.2.sem = fun _ => 0)

def quiescent_AOutRefIdeal [hAOutRefIdeal : Cert.AOutRefIdeal.Facts] : Prop :=
  ∀ (m : (ℓ : Loc Cert.AOutRefIdeal.nD Cert.AOutRefIdeal.τ Cert.AOutRefIdeal.sig) → Buf (Elt Ideal) ℓ) (g : Dev Cert.AOutRefIdeal.nD → PrngReg), Pre_AOutRefIdeal m →
    θ_run (Cert.AOutRefIdeal.defs (F := Ideal)) (onTc (τ := Cert.AOutRefIdeal.τ) (Cert.AOutRefIdeal.main (F := Ideal))) ⟨m, fun _ => 0, g⟩ (fun r => (∀ c : Dev Cert.AOutRefIdeal.nD,
      r.2.mem ((c.tc : Thread Cert.AOutRefIdeal.nD Cert.AOutRefIdeal.τ).loc Cert.AOutRefIdeal.main_arg0) = m ((c.tc : Thread Cert.AOutRefIdeal.nD Cert.AOutRefIdeal.τ).loc Cert.AOutRefIdeal.main_arg0)
      ∧ r.2.mem ((c.tc : Thread Cert.AOutRefIdeal.nD Cert.AOutRefIdeal.τ).loc Cert.AOutRefIdeal.main_arg1) = m ((c.tc : Thread Cert.AOutRefIdeal.nD Cert.AOutRefIdeal.τ).loc Cert.AOutRefIdeal.main_arg1)
      ∧ r.2.mem ((c.tc : Thread Cert.AOutRefIdeal.nD Cert.AOutRefIdeal.τ).loc Cert.AOutRefIdeal.main_arg2) = m ((c.tc : Thread Cert.AOutRefIdeal.nD Cert.AOutRefIdeal.τ).loc Cert.AOutRefIdeal.main_arg2)
      ∧ r.2.mem ((c.tc : Thread Cert.AOutRefIdeal.nD Cert.AOutRefIdeal.τ).loc Cert.AOutRefIdeal.main_arg3) = m ((c.tc : Thread Cert.AOutRefIdeal.nD Cert.AOutRefIdeal.τ).loc Cert.AOutRefIdeal.main_arg3)
      ∧ r.2.mem ((c.tc : Thread Cert.AOutRefIdeal.nD Cert.AOutRefIdeal.τ).loc Cert.AOutRefIdeal.main_arg4) = m ((c.tc : Thread Cert.AOutRefIdeal.nD Cert.AOutRefIdeal.τ).loc Cert.AOutRefIdeal.main_arg4))
      ∧ r.2.sem = fun _ => 0)

def quiescent_AGate [hAGate : Cert.AGate.Facts] : Prop :=
  ∀ (m : (ℓ : Loc Cert.AGate.nD Cert.AGate.τ Cert.AGate.sig) → Buf (Elt Bits) ℓ) (g : Dev Cert.AGate.nD → PrngReg), Pre_AGate m →
    θ_run (Cert.AGate.defs (F := Bits)) (onTc (τ := Cert.AGate.τ) (Cert.AGate.main (F := Bits))) ⟨m, fun _ => 0, g⟩ (fun r => (∀ c : Dev Cert.AGate.nD,
      r.2.mem ((c.tc : Thread Cert.AGate.nD Cert.AGate.τ).loc Cert.AGate.main_arg0) = m ((c.tc : Thread Cert.AGate.nD Cert.AGate.τ).loc Cert.AGate.main_arg0)
      ∧ r.2.mem ((c.tc : Thread Cert.AGate.nD Cert.AGate.τ).loc Cert.AGate.main_arg1) = m ((c.tc : Thread Cert.AGate.nD Cert.AGate.τ).loc Cert.AGate.main_arg1)
      ∧ r.2.mem ((c.tc : Thread Cert.AGate.nD Cert.AGate.τ).loc Cert.AGate.main_arg2) = m ((c.tc : Thread Cert.AGate.nD Cert.AGate.τ).loc Cert.AGate.main_arg2)
      ∧ r.2.mem ((c.tc : Thread Cert.AGate.nD Cert.AGate.τ).loc Cert.AGate.main_arg3) = m ((c.tc : Thread Cert.AGate.nD Cert.AGate.τ).loc Cert.AGate.main_arg3)
      ∧ r.2.mem ((c.tc : Thread Cert.AGate.nD Cert.AGate.τ).loc Cert.AGate.main_arg4) = m ((c.tc : Thread Cert.AGate.nD Cert.AGate.τ).loc Cert.AGate.main_arg4))
      ∧ r.2.sem = fun _ => 0)

def quiescent_AGateIdeal [hAGateIdeal : Cert.AGateIdeal.Facts] : Prop :=
  ∀ (m : (ℓ : Loc Cert.AGateIdeal.nD Cert.AGateIdeal.τ Cert.AGateIdeal.sig) → Buf (Elt Ideal) ℓ) (g : Dev Cert.AGateIdeal.nD → PrngReg), Pre_AGateIdeal m →
    θ_run (Cert.AGateIdeal.defs (F := Ideal)) (onTc (τ := Cert.AGateIdeal.τ) (Cert.AGateIdeal.main (F := Ideal))) ⟨m, fun _ => 0, g⟩ (fun r => (∀ c : Dev Cert.AGateIdeal.nD,
      r.2.mem ((c.tc : Thread Cert.AGateIdeal.nD Cert.AGateIdeal.τ).loc Cert.AGateIdeal.main_arg0) = m ((c.tc : Thread Cert.AGateIdeal.nD Cert.AGateIdeal.τ).loc Cert.AGateIdeal.main_arg0)
      ∧ r.2.mem ((c.tc : Thread Cert.AGateIdeal.nD Cert.AGateIdeal.τ).loc Cert.AGateIdeal.main_arg1) = m ((c.tc : Thread Cert.AGateIdeal.nD Cert.AGateIdeal.τ).loc Cert.AGateIdeal.main_arg1)
      ∧ r.2.mem ((c.tc : Thread Cert.AGateIdeal.nD Cert.AGateIdeal.τ).loc Cert.AGateIdeal.main_arg2) = m ((c.tc : Thread Cert.AGateIdeal.nD Cert.AGateIdeal.τ).loc Cert.AGateIdeal.main_arg2)
      ∧ r.2.mem ((c.tc : Thread Cert.AGateIdeal.nD Cert.AGateIdeal.τ).loc Cert.AGateIdeal.main_arg3) = m ((c.tc : Thread Cert.AGateIdeal.nD Cert.AGateIdeal.τ).loc Cert.AGateIdeal.main_arg3)
      ∧ r.2.mem ((c.tc : Thread Cert.AGateIdeal.nD Cert.AGateIdeal.τ).loc Cert.AGateIdeal.main_arg4) = m ((c.tc : Thread Cert.AGateIdeal.nD Cert.AGateIdeal.τ).loc Cert.AGateIdeal.main_arg4))
      ∧ r.2.sem = fun _ => 0)

def quiescent_AGateRefIdeal [hAGateRefIdeal : Cert.AGateRefIdeal.Facts] : Prop :=
  ∀ (m : (ℓ : Loc Cert.AGateRefIdeal.nD Cert.AGateRefIdeal.τ Cert.AGateRefIdeal.sig) → Buf (Elt Ideal) ℓ) (g : Dev Cert.AGateRefIdeal.nD → PrngReg), Pre_AGateRefIdeal m →
    θ_run (Cert.AGateRefIdeal.defs (F := Ideal)) (onTc (τ := Cert.AGateRefIdeal.τ) (Cert.AGateRefIdeal.main (F := Ideal))) ⟨m, fun _ => 0, g⟩ (fun r => (∀ c : Dev Cert.AGateRefIdeal.nD,
      r.2.mem ((c.tc : Thread Cert.AGateRefIdeal.nD Cert.AGateRefIdeal.τ).loc Cert.AGateRefIdeal.main_arg0) = m ((c.tc : Thread Cert.AGateRefIdeal.nD Cert.AGateRefIdeal.τ).loc Cert.AGateRefIdeal.main_arg0)
      ∧ r.2.mem ((c.tc : Thread Cert.AGateRefIdeal.nD Cert.AGateRefIdeal.τ).loc Cert.AGateRefIdeal.main_arg1) = m ((c.tc : Thread Cert.AGateRefIdeal.nD Cert.AGateRefIdeal.τ).loc Cert.AGateRefIdeal.main_arg1)
      ∧ r.2.mem ((c.tc : Thread Cert.AGateRefIdeal.nD Cert.AGateRefIdeal.τ).loc Cert.AGateRefIdeal.main_arg2) = m ((c.tc : Thread Cert.AGateRefIdeal.nD Cert.AGateRefIdeal.τ).loc Cert.AGateRefIdeal.main_arg2)
      ∧ r.2.mem ((c.tc : Thread Cert.AGateRefIdeal.nD Cert.AGateRefIdeal.τ).loc Cert.AGateRefIdeal.main_arg3) = m ((c.tc : Thread Cert.AGateRefIdeal.nD Cert.AGateRefIdeal.τ).loc Cert.AGateRefIdeal.main_arg3)
      ∧ r.2.mem ((c.tc : Thread Cert.AGateRefIdeal.nD Cert.AGateRefIdeal.τ).loc Cert.AGateRefIdeal.main_arg4) = m ((c.tc : Thread Cert.AGateRefIdeal.nD Cert.AGateRefIdeal.τ).loc Cert.AGateRefIdeal.main_arg4))
      ∧ r.2.sem = fun _ => 0)

def quiescent_AProj [hAProj : Cert.AProj.Facts] : Prop :=
  ∀ (m : (ℓ : Loc Cert.AProj.nD Cert.AProj.τ Cert.AProj.sig) → Buf (Elt Bits) ℓ) (g : Dev Cert.AProj.nD → PrngReg), Pre_AProj m →
    θ_run (Cert.AProj.defs (F := Bits)) (onTc (τ := Cert.AProj.τ) (Cert.AProj.main (F := Bits))) ⟨m, fun _ => 0, g⟩ (fun r => (∀ c : Dev Cert.AProj.nD,
      r.2.mem ((c.tc : Thread Cert.AProj.nD Cert.AProj.τ).loc Cert.AProj.main_arg0) = m ((c.tc : Thread Cert.AProj.nD Cert.AProj.τ).loc Cert.AProj.main_arg0)
      ∧ r.2.mem ((c.tc : Thread Cert.AProj.nD Cert.AProj.τ).loc Cert.AProj.main_arg1) = m ((c.tc : Thread Cert.AProj.nD Cert.AProj.τ).loc Cert.AProj.main_arg1)
      ∧ r.2.mem ((c.tc : Thread Cert.AProj.nD Cert.AProj.τ).loc Cert.AProj.main_arg2) = m ((c.tc : Thread Cert.AProj.nD Cert.AProj.τ).loc Cert.AProj.main_arg2)
      ∧ r.2.mem ((c.tc : Thread Cert.AProj.nD Cert.AProj.τ).loc Cert.AProj.main_arg3) = m ((c.tc : Thread Cert.AProj.nD Cert.AProj.τ).loc Cert.AProj.main_arg3)
      ∧ r.2.mem ((c.tc : Thread Cert.AProj.nD Cert.AProj.τ).loc Cert.AProj.main_arg4) = m ((c.tc : Thread Cert.AProj.nD Cert.AProj.τ).loc Cert.AProj.main_arg4))
      ∧ r.2.sem = fun _ => 0)

def quiescent_AProjIdeal [hAProjIdeal : Cert.AProjIdeal.Facts] : Prop :=
  ∀ (m : (ℓ : Loc Cert.AProjIdeal.nD Cert.AProjIdeal.τ Cert.AProjIdeal.sig) → Buf (Elt Ideal) ℓ) (g : Dev Cert.AProjIdeal.nD → PrngReg), Pre_AProjIdeal m →
    θ_run (Cert.AProjIdeal.defs (F := Ideal)) (onTc (τ := Cert.AProjIdeal.τ) (Cert.AProjIdeal.main (F := Ideal))) ⟨m, fun _ => 0, g⟩ (fun r => (∀ c : Dev Cert.AProjIdeal.nD,
      r.2.mem ((c.tc : Thread Cert.AProjIdeal.nD Cert.AProjIdeal.τ).loc Cert.AProjIdeal.main_arg0) = m ((c.tc : Thread Cert.AProjIdeal.nD Cert.AProjIdeal.τ).loc Cert.AProjIdeal.main_arg0)
      ∧ r.2.mem ((c.tc : Thread Cert.AProjIdeal.nD Cert.AProjIdeal.τ).loc Cert.AProjIdeal.main_arg1) = m ((c.tc : Thread Cert.AProjIdeal.nD Cert.AProjIdeal.τ).loc Cert.AProjIdeal.main_arg1)
      ∧ r.2.mem ((c.tc : Thread Cert.AProjIdeal.nD Cert.AProjIdeal.τ).loc Cert.AProjIdeal.main_arg2) = m ((c.tc : Thread Cert.AProjIdeal.nD Cert.AProjIdeal.τ).loc Cert.AProjIdeal.main_arg2)
      ∧ r.2.mem ((c.tc : Thread Cert.AProjIdeal.nD Cert.AProjIdeal.τ).loc Cert.AProjIdeal.main_arg3) = m ((c.tc : Thread Cert.AProjIdeal.nD Cert.AProjIdeal.τ).loc Cert.AProjIdeal.main_arg3)
      ∧ r.2.mem ((c.tc : Thread Cert.AProjIdeal.nD Cert.AProjIdeal.τ).loc Cert.AProjIdeal.main_arg4) = m ((c.tc : Thread Cert.AProjIdeal.nD Cert.AProjIdeal.τ).loc Cert.AProjIdeal.main_arg4))
      ∧ r.2.sem = fun _ => 0)

def quiescent_AProjRefIdeal [hAProjRefIdeal : Cert.AProjRefIdeal.Facts] : Prop :=
  ∀ (m : (ℓ : Loc Cert.AProjRefIdeal.nD Cert.AProjRefIdeal.τ Cert.AProjRefIdeal.sig) → Buf (Elt Ideal) ℓ) (g : Dev Cert.AProjRefIdeal.nD → PrngReg), Pre_AProjRefIdeal m →
    θ_run (Cert.AProjRefIdeal.defs (F := Ideal)) (onTc (τ := Cert.AProjRefIdeal.τ) (Cert.AProjRefIdeal.main (F := Ideal))) ⟨m, fun _ => 0, g⟩ (fun r => (∀ c : Dev Cert.AProjRefIdeal.nD,
      r.2.mem ((c.tc : Thread Cert.AProjRefIdeal.nD Cert.AProjRefIdeal.τ).loc Cert.AProjRefIdeal.main_arg0) = m ((c.tc : Thread Cert.AProjRefIdeal.nD Cert.AProjRefIdeal.τ).loc Cert.AProjRefIdeal.main_arg0)
      ∧ r.2.mem ((c.tc : Thread Cert.AProjRefIdeal.nD Cert.AProjRefIdeal.τ).loc Cert.AProjRefIdeal.main_arg1) = m ((c.tc : Thread Cert.AProjRefIdeal.nD Cert.AProjRefIdeal.τ).loc Cert.AProjRefIdeal.main_arg1)
      ∧ r.2.mem ((c.tc : Thread Cert.AProjRefIdeal.nD Cert.AProjRefIdeal.τ).loc Cert.AProjRefIdeal.main_arg2) = m ((c.tc : Thread Cert.AProjRefIdeal.nD Cert.AProjRefIdeal.τ).loc Cert.AProjRefIdeal.main_arg2)
      ∧ r.2.mem ((c.tc : Thread Cert.AProjRefIdeal.nD Cert.AProjRefIdeal.τ).loc Cert.AProjRefIdeal.main_arg3) = m ((c.tc : Thread Cert.AProjRefIdeal.nD Cert.AProjRefIdeal.τ).loc Cert.AProjRefIdeal.main_arg3)
      ∧ r.2.mem ((c.tc : Thread Cert.AProjRefIdeal.nD Cert.AProjRefIdeal.τ).loc Cert.AProjRefIdeal.main_arg4) = m ((c.tc : Thread Cert.AProjRefIdeal.nD Cert.AProjRefIdeal.τ).loc Cert.AProjRefIdeal.main_arg4))
      ∧ r.2.sem = fun _ => 0)

def quiescent_AGlu [hAGlu : Cert.AGlu.Facts] : Prop :=
  ∀ (m : (ℓ : Loc Cert.AGlu.nD Cert.AGlu.τ Cert.AGlu.sig) → Buf (Elt Bits) ℓ) (g : Dev Cert.AGlu.nD → PrngReg), Pre_AGlu m →
    θ_run (Cert.AGlu.defs (F := Bits)) (onTc (τ := Cert.AGlu.τ) (Cert.AGlu.main (F := Bits))) ⟨m, fun _ => 0, g⟩ (fun r => (∀ c : Dev Cert.AGlu.nD,
      r.2.mem ((c.tc : Thread Cert.AGlu.nD Cert.AGlu.τ).loc Cert.AGlu.main_arg0) = m ((c.tc : Thread Cert.AGlu.nD Cert.AGlu.τ).loc Cert.AGlu.main_arg0)
      ∧ r.2.mem ((c.tc : Thread Cert.AGlu.nD Cert.AGlu.τ).loc Cert.AGlu.main_arg1) = m ((c.tc : Thread Cert.AGlu.nD Cert.AGlu.τ).loc Cert.AGlu.main_arg1)
      ∧ r.2.mem ((c.tc : Thread Cert.AGlu.nD Cert.AGlu.τ).loc Cert.AGlu.main_arg2) = m ((c.tc : Thread Cert.AGlu.nD Cert.AGlu.τ).loc Cert.AGlu.main_arg2)
      ∧ r.2.mem ((c.tc : Thread Cert.AGlu.nD Cert.AGlu.τ).loc Cert.AGlu.main_arg3) = m ((c.tc : Thread Cert.AGlu.nD Cert.AGlu.τ).loc Cert.AGlu.main_arg3)
      ∧ r.2.mem ((c.tc : Thread Cert.AGlu.nD Cert.AGlu.τ).loc Cert.AGlu.main_arg4) = m ((c.tc : Thread Cert.AGlu.nD Cert.AGlu.τ).loc Cert.AGlu.main_arg4))
      ∧ r.2.sem = fun _ => 0)

def quiescent_AGluIdeal [hAGluIdeal : Cert.AGluIdeal.Facts] : Prop :=
  ∀ (m : (ℓ : Loc Cert.AGluIdeal.nD Cert.AGluIdeal.τ Cert.AGluIdeal.sig) → Buf (Elt Ideal) ℓ) (g : Dev Cert.AGluIdeal.nD → PrngReg), Pre_AGluIdeal m →
    θ_run (Cert.AGluIdeal.defs (F := Ideal)) (onTc (τ := Cert.AGluIdeal.τ) (Cert.AGluIdeal.main (F := Ideal))) ⟨m, fun _ => 0, g⟩ (fun r => (∀ c : Dev Cert.AGluIdeal.nD,
      r.2.mem ((c.tc : Thread Cert.AGluIdeal.nD Cert.AGluIdeal.τ).loc Cert.AGluIdeal.main_arg0) = m ((c.tc : Thread Cert.AGluIdeal.nD Cert.AGluIdeal.τ).loc Cert.AGluIdeal.main_arg0)
      ∧ r.2.mem ((c.tc : Thread Cert.AGluIdeal.nD Cert.AGluIdeal.τ).loc Cert.AGluIdeal.main_arg1) = m ((c.tc : Thread Cert.AGluIdeal.nD Cert.AGluIdeal.τ).loc Cert.AGluIdeal.main_arg1)
      ∧ r.2.mem ((c.tc : Thread Cert.AGluIdeal.nD Cert.AGluIdeal.τ).loc Cert.AGluIdeal.main_arg2) = m ((c.tc : Thread Cert.AGluIdeal.nD Cert.AGluIdeal.τ).loc Cert.AGluIdeal.main_arg2)
      ∧ r.2.mem ((c.tc : Thread Cert.AGluIdeal.nD Cert.AGluIdeal.τ).loc Cert.AGluIdeal.main_arg3) = m ((c.tc : Thread Cert.AGluIdeal.nD Cert.AGluIdeal.τ).loc Cert.AGluIdeal.main_arg3)
      ∧ r.2.mem ((c.tc : Thread Cert.AGluIdeal.nD Cert.AGluIdeal.τ).loc Cert.AGluIdeal.main_arg4) = m ((c.tc : Thread Cert.AGluIdeal.nD Cert.AGluIdeal.τ).loc Cert.AGluIdeal.main_arg4))
      ∧ r.2.sem = fun _ => 0)

def quiescent_AGluRefIdeal [hAGluRefIdeal : Cert.AGluRefIdeal.Facts] : Prop :=
  ∀ (m : (ℓ : Loc Cert.AGluRefIdeal.nD Cert.AGluRefIdeal.τ Cert.AGluRefIdeal.sig) → Buf (Elt Ideal) ℓ) (g : Dev Cert.AGluRefIdeal.nD → PrngReg), Pre_AGluRefIdeal m →
    θ_run (Cert.AGluRefIdeal.defs (F := Ideal)) (onTc (τ := Cert.AGluRefIdeal.τ) (Cert.AGluRefIdeal.main (F := Ideal))) ⟨m, fun _ => 0, g⟩ (fun r => (∀ c : Dev Cert.AGluRefIdeal.nD,
      r.2.mem ((c.tc : Thread Cert.AGluRefIdeal.nD Cert.AGluRefIdeal.τ).loc Cert.AGluRefIdeal.main_arg0) = m ((c.tc : Thread Cert.AGluRefIdeal.nD Cert.AGluRefIdeal.τ).loc Cert.AGluRefIdeal.main_arg0)
      ∧ r.2.mem ((c.tc : Thread Cert.AGluRefIdeal.nD Cert.AGluRefIdeal.τ).loc Cert.AGluRefIdeal.main_arg1) = m ((c.tc : Thread Cert.AGluRefIdeal.nD Cert.AGluRefIdeal.τ).loc Cert.AGluRefIdeal.main_arg1)
      ∧ r.2.mem ((c.tc : Thread Cert.AGluRefIdeal.nD Cert.AGluRefIdeal.τ).loc Cert.AGluRefIdeal.main_arg2) = m ((c.tc : Thread Cert.AGluRefIdeal.nD Cert.AGluRefIdeal.τ).loc Cert.AGluRefIdeal.main_arg2)
      ∧ r.2.mem ((c.tc : Thread Cert.AGluRefIdeal.nD Cert.AGluRefIdeal.τ).loc Cert.AGluRefIdeal.main_arg3) = m ((c.tc : Thread Cert.AGluRefIdeal.nD Cert.AGluRefIdeal.τ).loc Cert.AGluRefIdeal.main_arg3)
      ∧ r.2.mem ((c.tc : Thread Cert.AGluRefIdeal.nD Cert.AGluRefIdeal.τ).loc Cert.AGluRefIdeal.main_arg4) = m ((c.tc : Thread Cert.AGluRefIdeal.nD Cert.AGluRefIdeal.τ).loc Cert.AGluRefIdeal.main_arg4))
      ∧ r.2.sem = fun _ => 0)

def quiescent_ASmall [hASmall : Cert.ASmall.Facts] : Prop :=
  ∀ (m : (ℓ : Loc Cert.ASmall.nD Cert.ASmall.τ Cert.ASmall.sig) → Buf (Elt Bits) ℓ) (g : Dev Cert.ASmall.nD → PrngReg), Pre_ASmall m →
    θ_run (Cert.ASmall.defs (F := Bits)) (onTc (τ := Cert.ASmall.τ) (Cert.ASmall.main (F := Bits))) ⟨m, fun _ => 0, g⟩ (fun r => (∀ c : Dev Cert.ASmall.nD,
      r.2.mem ((c.tc : Thread Cert.ASmall.nD Cert.ASmall.τ).loc Cert.ASmall.main_arg0) = m ((c.tc : Thread Cert.ASmall.nD Cert.ASmall.τ).loc Cert.ASmall.main_arg0)
      ∧ r.2.mem ((c.tc : Thread Cert.ASmall.nD Cert.ASmall.τ).loc Cert.ASmall.main_arg1) = m ((c.tc : Thread Cert.ASmall.nD Cert.ASmall.τ).loc Cert.ASmall.main_arg1)
      ∧ r.2.mem ((c.tc : Thread Cert.ASmall.nD Cert.ASmall.τ).loc Cert.ASmall.main_arg2) = m ((c.tc : Thread Cert.ASmall.nD Cert.ASmall.τ).loc Cert.ASmall.main_arg2)
      ∧ r.2.mem ((c.tc : Thread Cert.ASmall.nD Cert.ASmall.τ).loc Cert.ASmall.main_arg3) = m ((c.tc : Thread Cert.ASmall.nD Cert.ASmall.τ).loc Cert.ASmall.main_arg3))
      ∧ r.2.sem = fun _ => 0)

def quiescent_ASmallIdeal [hASmallIdeal : Cert.ASmallIdeal.Facts] : Prop :=
  ∀ (m : (ℓ : Loc Cert.ASmallIdeal.nD Cert.ASmallIdeal.τ Cert.ASmallIdeal.sig) → Buf (Elt Ideal) ℓ) (g : Dev Cert.ASmallIdeal.nD → PrngReg), Pre_ASmallIdeal m →
    θ_run (Cert.ASmallIdeal.defs (F := Ideal)) (onTc (τ := Cert.ASmallIdeal.τ) (Cert.ASmallIdeal.main (F := Ideal))) ⟨m, fun _ => 0, g⟩ (fun r => (∀ c : Dev Cert.ASmallIdeal.nD,
      r.2.mem ((c.tc : Thread Cert.ASmallIdeal.nD Cert.ASmallIdeal.τ).loc Cert.ASmallIdeal.main_arg0) = m ((c.tc : Thread Cert.ASmallIdeal.nD Cert.ASmallIdeal.τ).loc Cert.ASmallIdeal.main_arg0)
      ∧ r.2.mem ((c.tc : Thread Cert.ASmallIdeal.nD Cert.ASmallIdeal.τ).loc Cert.ASmallIdeal.main_arg1) = m ((c.tc : Thread Cert.ASmallIdeal.nD Cert.ASmallIdeal.τ).loc Cert.ASmallIdeal.main_arg1)
      ∧ r.2.mem ((c.tc : Thread Cert.ASmallIdeal.nD Cert.ASmallIdeal.τ).loc Cert.ASmallIdeal.main_arg2) = m ((c.tc : Thread Cert.ASmallIdeal.nD Cert.ASmallIdeal.τ).loc Cert.ASmallIdeal.main_arg2)
      ∧ r.2.mem ((c.tc : Thread Cert.ASmallIdeal.nD Cert.ASmallIdeal.τ).loc Cert.ASmallIdeal.main_arg3) = m ((c.tc : Thread Cert.ASmallIdeal.nD Cert.ASmallIdeal.τ).loc Cert.ASmallIdeal.main_arg3))
      ∧ r.2.sem = fun _ => 0)

def quiescent_ASmallRefIdeal [hASmallRefIdeal : Cert.ASmallRefIdeal.Facts] : Prop :=
  ∀ (m : (ℓ : Loc Cert.ASmallRefIdeal.nD Cert.ASmallRefIdeal.τ Cert.ASmallRefIdeal.sig) → Buf (Elt Ideal) ℓ) (g : Dev Cert.ASmallRefIdeal.nD → PrngReg), Pre_ASmallRefIdeal m →
    θ_run (Cert.ASmallRefIdeal.defs (F := Ideal)) (onTc (τ := Cert.ASmallRefIdeal.τ) (Cert.ASmallRefIdeal.main (F := Ideal))) ⟨m, fun _ => 0, g⟩ (fun r => (∀ c : Dev Cert.ASmallRefIdeal.nD,
      r.2.mem ((c.tc : Thread Cert.ASmallRefIdeal.nD Cert.ASmallRefIdeal.τ).loc Cert.ASmallRefIdeal.main_arg0) = m ((c.tc : Thread Cert.ASmallRefIdeal.nD Cert.ASmallRefIdeal.τ).loc Cert.ASmallRefIdeal.main_arg0)
      ∧ r.2.mem ((c.tc : Thread Cert.ASmallRefIdeal.nD Cert.ASmallRefIdeal.τ).loc Cert.ASmallRefIdeal.main_arg1) = m ((c.tc : Thread Cert.ASmallRefIdeal.nD Cert.ASmallRefIdeal.τ).loc Cert.ASmallRefIdeal.main_arg1)
      ∧ r.2.mem ((c.tc : Thread Cert.ASmallRefIdeal.nD Cert.ASmallRefIdeal.τ).loc Cert.ASmallRefIdeal.main_arg2) = m ((c.tc : Thread Cert.ASmallRefIdeal.nD Cert.ASmallRefIdeal.τ).loc Cert.ASmallRefIdeal.main_arg2)
      ∧ r.2.mem ((c.tc : Thread Cert.ASmallRefIdeal.nD Cert.ASmallRefIdeal.τ).loc Cert.ASmallRefIdeal.main_arg3) = m ((c.tc : Thread Cert.ASmallRefIdeal.nD Cert.ASmallRefIdeal.τ).loc Cert.ASmallRefIdeal.main_arg3))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6))
      ∧ r.2.sem = fun _ => 0)

def quiescent_MixT [hMixT : Cert.MixT.Facts] : Prop :=
  ∀ (m : (ℓ : Loc Cert.MixT.nD Cert.MixT.τ Cert.MixT.sig) → Buf (Elt Bits) ℓ) (g : Dev Cert.MixT.nD → PrngReg), Pre_MixT m →
    θ_run (Cert.MixT.defs (F := Bits)) (onTc (τ := Cert.MixT.τ) (Cert.MixT.main (F := Bits))) ⟨m, fun _ => 0, g⟩ (fun r => (∀ c : Dev Cert.MixT.nD,
      r.2.mem ((c.tc : Thread Cert.MixT.nD Cert.MixT.τ).loc Cert.MixT.main_arg0) = m ((c.tc : Thread Cert.MixT.nD Cert.MixT.τ).loc Cert.MixT.main_arg0)
      ∧ r.2.mem ((c.tc : Thread Cert.MixT.nD Cert.MixT.τ).loc Cert.MixT.main_arg1) = m ((c.tc : Thread Cert.MixT.nD Cert.MixT.τ).loc Cert.MixT.main_arg1)
      ∧ r.2.mem ((c.tc : Thread Cert.MixT.nD Cert.MixT.τ).loc Cert.MixT.main_arg2) = m ((c.tc : Thread Cert.MixT.nD Cert.MixT.τ).loc Cert.MixT.main_arg2)
      ∧ r.2.mem ((c.tc : Thread Cert.MixT.nD Cert.MixT.τ).loc Cert.MixT.main_arg3) = m ((c.tc : Thread Cert.MixT.nD Cert.MixT.τ).loc Cert.MixT.main_arg3)
      ∧ r.2.mem ((c.tc : Thread Cert.MixT.nD Cert.MixT.τ).loc Cert.MixT.main_arg4) = m ((c.tc : Thread Cert.MixT.nD Cert.MixT.τ).loc Cert.MixT.main_arg4)
      ∧ r.2.mem ((c.tc : Thread Cert.MixT.nD Cert.MixT.τ).loc Cert.MixT.main_arg5) = m ((c.tc : Thread Cert.MixT.nD Cert.MixT.τ).loc Cert.MixT.main_arg5))
      ∧ r.2.sem = fun _ => 0)

def quiescent_MixTIdeal [hMixTIdeal : Cert.MixTIdeal.Facts] : Prop :=
  ∀ (m : (ℓ : Loc Cert.MixTIdeal.nD Cert.MixTIdeal.τ Cert.MixTIdeal.sig) → Buf (Elt Ideal) ℓ) (g : Dev Cert.MixTIdeal.nD → PrngReg), Pre_MixTIdeal m →
    θ_run (Cert.MixTIdeal.defs (F := Ideal)) (onTc (τ := Cert.MixTIdeal.τ) (Cert.MixTIdeal.main (F := Ideal))) ⟨m, fun _ => 0, g⟩ (fun r => (∀ c : Dev Cert.MixTIdeal.nD,
      r.2.mem ((c.tc : Thread Cert.MixTIdeal.nD Cert.MixTIdeal.τ).loc Cert.MixTIdeal.main_arg0) = m ((c.tc : Thread Cert.MixTIdeal.nD Cert.MixTIdeal.τ).loc Cert.MixTIdeal.main_arg0)
      ∧ r.2.mem ((c.tc : Thread Cert.MixTIdeal.nD Cert.MixTIdeal.τ).loc Cert.MixTIdeal.main_arg1) = m ((c.tc : Thread Cert.MixTIdeal.nD Cert.MixTIdeal.τ).loc Cert.MixTIdeal.main_arg1)
      ∧ r.2.mem ((c.tc : Thread Cert.MixTIdeal.nD Cert.MixTIdeal.τ).loc Cert.MixTIdeal.main_arg2) = m ((c.tc : Thread Cert.MixTIdeal.nD Cert.MixTIdeal.τ).loc Cert.MixTIdeal.main_arg2)
      ∧ r.2.mem ((c.tc : Thread Cert.MixTIdeal.nD Cert.MixTIdeal.τ).loc Cert.MixTIdeal.main_arg3) = m ((c.tc : Thread Cert.MixTIdeal.nD Cert.MixTIdeal.τ).loc Cert.MixTIdeal.main_arg3)
      ∧ r.2.mem ((c.tc : Thread Cert.MixTIdeal.nD Cert.MixTIdeal.τ).loc Cert.MixTIdeal.main_arg4) = m ((c.tc : Thread Cert.MixTIdeal.nD Cert.MixTIdeal.τ).loc Cert.MixTIdeal.main_arg4)
      ∧ r.2.mem ((c.tc : Thread Cert.MixTIdeal.nD Cert.MixTIdeal.τ).loc Cert.MixTIdeal.main_arg5) = m ((c.tc : Thread Cert.MixTIdeal.nD Cert.MixTIdeal.τ).loc Cert.MixTIdeal.main_arg5))
      ∧ r.2.sem = fun _ => 0)

def quiescent_MixTIdeal_pre_finite_mix [hMixTIdeal : Cert.MixTIdeal.Facts] [hPre_finite_mix : Cert.Pre_finite_mix.Facts] : Prop :=
  ∀ (m : (ℓ : Loc Cert.MixTIdeal.nD Cert.MixTIdeal.τ Cert.MixTIdeal.sig) → Buf (Elt Ideal) ℓ) (g : Dev Cert.MixTIdeal.nD → PrngReg), Pre_MixTIdeal_finite_mix m →
    θ_run (Cert.MixTIdeal.defs (F := Ideal)) (onTc (τ := Cert.MixTIdeal.τ) (Cert.MixTIdeal.main (F := Ideal))) ⟨m, fun _ => 0, g⟩ (fun r => (∀ c : Dev Cert.MixTIdeal.nD,
      r.2.mem ((c.tc : Thread Cert.MixTIdeal.nD Cert.MixTIdeal.τ).loc Cert.MixTIdeal.main_arg0) = m ((c.tc : Thread Cert.MixTIdeal.nD Cert.MixTIdeal.τ).loc Cert.MixTIdeal.main_arg0)
      ∧ r.2.mem ((c.tc : Thread Cert.MixTIdeal.nD Cert.MixTIdeal.τ).loc Cert.MixTIdeal.main_arg1) = m ((c.tc : Thread Cert.MixTIdeal.nD Cert.MixTIdeal.τ).loc Cert.MixTIdeal.main_arg1)
      ∧ r.2.mem ((c.tc : Thread Cert.MixTIdeal.nD Cert.MixTIdeal.τ).loc Cert.MixTIdeal.main_arg2) = m ((c.tc : Thread Cert.MixTIdeal.nD Cert.MixTIdeal.τ).loc Cert.MixTIdeal.main_arg2)
      ∧ r.2.mem ((c.tc : Thread Cert.MixTIdeal.nD Cert.MixTIdeal.τ).loc Cert.MixTIdeal.main_arg3) = m ((c.tc : Thread Cert.MixTIdeal.nD Cert.MixTIdeal.τ).loc Cert.MixTIdeal.main_arg3)
      ∧ r.2.mem ((c.tc : Thread Cert.MixTIdeal.nD Cert.MixTIdeal.τ).loc Cert.MixTIdeal.main_arg4) = m ((c.tc : Thread Cert.MixTIdeal.nD Cert.MixTIdeal.τ).loc Cert.MixTIdeal.main_arg4)
      ∧ r.2.mem ((c.tc : Thread Cert.MixTIdeal.nD Cert.MixTIdeal.τ).loc Cert.MixTIdeal.main_arg5) = m ((c.tc : Thread Cert.MixTIdeal.nD Cert.MixTIdeal.τ).loc Cert.MixTIdeal.main_arg5))
      ∧ r.2.sem = fun _ => 0)

def quiescent_MixTRefIdeal [hMixTRefIdeal : Cert.MixTRefIdeal.Facts] : Prop :=
  ∀ (m : (ℓ : Loc Cert.MixTRefIdeal.nD Cert.MixTRefIdeal.τ Cert.MixTRefIdeal.sig) → Buf (Elt Ideal) ℓ) (g : Dev Cert.MixTRefIdeal.nD → PrngReg), Pre_MixTRefIdeal m →
    θ_run (Cert.MixTRefIdeal.defs (F := Ideal)) (onTc (τ := Cert.MixTRefIdeal.τ) (Cert.MixTRefIdeal.main (F := Ideal))) ⟨m, fun _ => 0, g⟩ (fun r => (∀ c : Dev Cert.MixTRefIdeal.nD,
      r.2.mem ((c.tc : Thread Cert.MixTRefIdeal.nD Cert.MixTRefIdeal.τ).loc Cert.MixTRefIdeal.main_arg0) = m ((c.tc : Thread Cert.MixTRefIdeal.nD Cert.MixTRefIdeal.τ).loc Cert.MixTRefIdeal.main_arg0)
      ∧ r.2.mem ((c.tc : Thread Cert.MixTRefIdeal.nD Cert.MixTRefIdeal.τ).loc Cert.MixTRefIdeal.main_arg1) = m ((c.tc : Thread Cert.MixTRefIdeal.nD Cert.MixTRefIdeal.τ).loc Cert.MixTRefIdeal.main_arg1)
      ∧ r.2.mem ((c.tc : Thread Cert.MixTRefIdeal.nD Cert.MixTRefIdeal.τ).loc Cert.MixTRefIdeal.main_arg2) = m ((c.tc : Thread Cert.MixTRefIdeal.nD Cert.MixTRefIdeal.τ).loc Cert.MixTRefIdeal.main_arg2)
      ∧ r.2.mem ((c.tc : Thread Cert.MixTRefIdeal.nD Cert.MixTRefIdeal.τ).loc Cert.MixTRefIdeal.main_arg3) = m ((c.tc : Thread Cert.MixTRefIdeal.nD Cert.MixTRefIdeal.τ).loc Cert.MixTRefIdeal.main_arg3)
      ∧ r.2.mem ((c.tc : Thread Cert.MixTRefIdeal.nD Cert.MixTRefIdeal.τ).loc Cert.MixTRefIdeal.main_arg4) = m ((c.tc : Thread Cert.MixTRefIdeal.nD Cert.MixTRefIdeal.τ).loc Cert.MixTRefIdeal.main_arg4)
      ∧ r.2.mem ((c.tc : Thread Cert.MixTRefIdeal.nD Cert.MixTRefIdeal.τ).loc Cert.MixTRefIdeal.main_arg5) = m ((c.tc : Thread Cert.MixTRefIdeal.nD Cert.MixTRefIdeal.τ).loc Cert.MixTRefIdeal.main_arg5))
      ∧ r.2.sem = fun _ => 0)

def quiescent_MixTRefIdeal_pre_finite_mix [hMixTRefIdeal : Cert.MixTRefIdeal.Facts] [hPre_finite_mix : Cert.Pre_finite_mix.Facts] : Prop :=
  ∀ (m : (ℓ : Loc Cert.MixTRefIdeal.nD Cert.MixTRefIdeal.τ Cert.MixTRefIdeal.sig) → Buf (Elt Ideal) ℓ) (g : Dev Cert.MixTRefIdeal.nD → PrngReg), Pre_MixTRefIdeal_finite_mix m →
    θ_run (Cert.MixTRefIdeal.defs (F := Ideal)) (onTc (τ := Cert.MixTRefIdeal.τ) (Cert.MixTRefIdeal.main (F := Ideal))) ⟨m, fun _ => 0, g⟩ (fun r => (∀ c : Dev Cert.MixTRefIdeal.nD,
      r.2.mem ((c.tc : Thread Cert.MixTRefIdeal.nD Cert.MixTRefIdeal.τ).loc Cert.MixTRefIdeal.main_arg0) = m ((c.tc : Thread Cert.MixTRefIdeal.nD Cert.MixTRefIdeal.τ).loc Cert.MixTRefIdeal.main_arg0)
      ∧ r.2.mem ((c.tc : Thread Cert.MixTRefIdeal.nD Cert.MixTRefIdeal.τ).loc Cert.MixTRefIdeal.main_arg1) = m ((c.tc : Thread Cert.MixTRefIdeal.nD Cert.MixTRefIdeal.τ).loc Cert.MixTRefIdeal.main_arg1)
      ∧ r.2.mem ((c.tc : Thread Cert.MixTRefIdeal.nD Cert.MixTRefIdeal.τ).loc Cert.MixTRefIdeal.main_arg2) = m ((c.tc : Thread Cert.MixTRefIdeal.nD Cert.MixTRefIdeal.τ).loc Cert.MixTRefIdeal.main_arg2)
      ∧ r.2.mem ((c.tc : Thread Cert.MixTRefIdeal.nD Cert.MixTRefIdeal.τ).loc Cert.MixTRefIdeal.main_arg3) = m ((c.tc : Thread Cert.MixTRefIdeal.nD Cert.MixTRefIdeal.τ).loc Cert.MixTRefIdeal.main_arg3)
      ∧ r.2.mem ((c.tc : Thread Cert.MixTRefIdeal.nD Cert.MixTRefIdeal.τ).loc Cert.MixTRefIdeal.main_arg4) = m ((c.tc : Thread Cert.MixTRefIdeal.nD Cert.MixTRefIdeal.τ).loc Cert.MixTRefIdeal.main_arg4)
      ∧ r.2.mem ((c.tc : Thread Cert.MixTRefIdeal.nD Cert.MixTRefIdeal.τ).loc Cert.MixTRefIdeal.main_arg5) = m ((c.tc : Thread Cert.MixTRefIdeal.nD Cert.MixTRefIdeal.τ).loc Cert.MixTRefIdeal.main_arg5))
      ∧ r.2.sem = fun _ => 0)

def preserves_Kernel_KernelIdeal : Prop :=
  IdealRules.named_const.Statement Cert.KernelIdeal.κ "cube" .f32 0x3D372713#32 ((8943 / 200000 : ℝ) : EReal)
  ∧ IdealRules.named_const.Statement Cert.KernelIdeal.κ "cube_slope" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v30_0)) (v1 : (c : Dev Cert.KernelIdeal.nD) → Buf (Elt Ideal) ((c.tc : Thread Cert.KernelIdeal.nD Cert.KernelIdeal.τ).loc Cert.KernelIdeal.main_v30_1)) (v2 : (c : Dev Cert.KernelIdeal.nD) → Buf (Elt Ideal) ((c.tc : Thread Cert.KernelIdeal.nD Cert.KernelIdeal.τ).loc Cert.KernelIdeal.main_v30_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30_0) = v0 c
          ∧ r.2.mem ((c.tc : Thread Cert.KernelIdeal.nD Cert.KernelIdeal.τ).loc Cert.KernelIdeal.main_v30_1) = v1 c
          ∧ r.2.mem ((c.tc : Thread Cert.KernelIdeal.nD Cert.KernelIdeal.τ).loc Cert.KernelIdeal.main_v30_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_v101) = v1 c
          ∧ r.2.mem ((c.tc : Thread Cert.ReferenceIdeal.nD Cert.ReferenceIdeal.τ).loc Cert.ReferenceIdeal.main_v105) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_DUp_DUpIdeal : Prop :=
  True

def algebraic_DUpIdeal_DUpRefIdeal [hDUpIdeal : Cert.DUpIdeal.Facts] [hDUpRefIdeal : Cert.DUpRefIdeal.Facts] : Prop :=
  ∀ (m : (ℓ : Loc Cert.DUpIdeal.nD Cert.DUpIdeal.τ Cert.DUpIdeal.sig) → Buf (Elt Ideal) ℓ) (g : Dev Cert.DUpIdeal.nD → PrngReg)
    (m' : (ℓ : Loc Cert.DUpRefIdeal.nD Cert.DUpRefIdeal.τ Cert.DUpRefIdeal.sig) → Buf (Elt Ideal) ℓ) (g' : Dev Cert.DUpRefIdeal.nD → PrngReg), Pre_DUpIdeal m →
    (∀ c : Dev Cert.DUpIdeal.nD,
      m' ((c.tc : Thread Cert.DUpRefIdeal.nD Cert.DUpRefIdeal.τ).loc Cert.DUpRefIdeal.main_arg0) = m ((c.tc : Thread Cert.DUpIdeal.nD Cert.DUpIdeal.τ).loc Cert.DUpIdeal.main_arg0)
      ∧ m' ((c.tc : Thread Cert.DUpRefIdeal.nD Cert.DUpRefIdeal.τ).loc Cert.DUpRefIdeal.main_arg1) = m ((c.tc : Thread Cert.DUpIdeal.nD Cert.DUpIdeal.τ).loc Cert.DUpIdeal.main_arg1)) →
    ∃ (v0 : (c : Dev Cert.DUpIdeal.nD) → Buf (Elt Ideal) ((c.tc : Thread Cert.DUpIdeal.nD Cert.DUpIdeal.τ).loc Cert.DUpIdeal.main_v0)),
      θ_run (Cert.DUpIdeal.defs (F := Ideal)) (onTc (τ := Cert.DUpIdeal.τ) (Cert.DUpIdeal.main (F := Ideal))) ⟨m, fun _ => 0, g⟩ (fun r => ∀ c : Dev Cert.DUpIdeal.nD,
          r.2.mem ((c.tc : Thread Cert.DUpIdeal.nD Cert.DUpIdeal.τ).loc Cert.DUpIdeal.main_v0) = v0 c
          ∧ r.2.mem ((c.tc : Thread Cert.DUpIdeal.nD Cert.DUpIdeal.τ).loc Cert.DUpIdeal.main_arg0) = m ((c.tc : Thread Cert.DUpIdeal.nD Cert.DUpIdeal.τ).loc Cert.DUpIdeal.main_arg0)
          ∧ r.2.mem ((c.tc : Thread Cert.DUpIdeal.nD Cert.DUpIdeal.τ).loc Cert.DUpIdeal.main_arg1) = m ((c.tc : Thread Cert.DUpIdeal.nD Cert.DUpIdeal.τ).loc Cert.DUpIdeal.main_arg1))
      ∧ θ_run (Cert.DUpRefIdeal.defs (F := Ideal)) (onTc (τ := Cert.DUpRefIdeal.τ) (Cert.DUpRefIdeal.main (F := Ideal))) ⟨m', fun _ => 0, g'⟩ (fun r => ∀ c : Dev Cert.DUpRefIdeal.nD,
          r.2.mem ((c.tc : Thread Cert.DUpRefIdeal.nD Cert.DUpRefIdeal.τ).loc Cert.DUpRefIdeal.main_v9) = v0 c
          ∧ r.2.mem ((c.tc : Thread Cert.DUpRefIdeal.nD Cert.DUpRefIdeal.τ).loc Cert.DUpRefIdeal.main_arg0) = m' ((c.tc : Thread Cert.DUpRefIdeal.nD Cert.DUpRefIdeal.τ).loc Cert.DUpRefIdeal.main_arg0)
          ∧ r.2.mem ((c.tc : Thread Cert.DUpRefIdeal.nD Cert.DUpRefIdeal.τ).loc Cert.DUpRefIdeal.main_arg1) = m' ((c.tc : Thread Cert.DUpRefIdeal.nD Cert.DUpRefIdeal.τ).loc Cert.DUpRefIdeal.main_arg1))

def preserves_DDown_DDownIdeal : Prop :=
  True

def algebraic_DDownIdeal_DDownRefIdeal [hDDownIdeal : Cert.DDownIdeal.Facts] [hDDownRefIdeal : Cert.DDownRefIdeal.Facts] : Prop :=
  ∀ (m : (ℓ : Loc Cert.DDownIdeal.nD Cert.DDownIdeal.τ Cert.DDownIdeal.sig) → Buf (Elt Ideal) ℓ) (g : Dev Cert.DDownIdeal.nD → PrngReg)
    (m' : (ℓ : Loc Cert.DDownRefIdeal.nD Cert.DDownRefIdeal.τ Cert.DDownRefIdeal.sig) → Buf (Elt Ideal) ℓ) (g' : Dev Cert.DDownRefIdeal.nD → PrngReg), Pre_DDownIdeal m →
    (∀ c : Dev Cert.DDownIdeal.nD,
      m' ((c.tc : Thread Cert.DDownRefIdeal.nD Cert.DDownRefIdeal.τ).loc Cert.DDownRefIdeal.main_arg0) = m ((c.tc : Thread Cert.DDownIdeal.nD Cert.DDownIdeal.τ).loc Cert.DDownIdeal.main_arg0)
      ∧ m' ((c.tc : Thread Cert.DDownRefIdeal.nD Cert.DDownRefIdeal.τ).loc Cert.DDownRefIdeal.main_arg1) = m ((c.tc : Thread Cert.DDownIdeal.nD Cert.DDownIdeal.τ).loc Cert.DDownIdeal.main_arg1)) →
    ∃ (v0 : (c : Dev Cert.DDownIdeal.nD) → Buf (Elt Ideal) ((c.tc : Thread Cert.DDownIdeal.nD Cert.DDownIdeal.τ).loc Cert.DDownIdeal.main_v0)),
      θ_run (Cert.DDownIdeal.defs (F := Ideal)) (onTc (τ := Cert.DDownIdeal.τ) (Cert.DDownIdeal.main (F := Ideal))) ⟨m, fun _ => 0, g⟩ (fun r => ∀ c : Dev Cert.DDownIdeal.nD,
          r.2.mem ((c.tc : Thread Cert.DDownIdeal.nD Cert.DDownIdeal.τ).loc Cert.DDownIdeal.main_v0) = v0 c
          ∧ r.2.mem ((c.tc : Thread Cert.DDownIdeal.nD Cert.DDownIdeal.τ).loc Cert.DDownIdeal.main_arg0) = m ((c.tc : Thread Cert.DDownIdeal.nD Cert.DDownIdeal.τ).loc Cert.DDownIdeal.main_arg0)
          ∧ r.2.mem ((c.tc : Thread Cert.DDownIdeal.nD Cert.DDownIdeal.τ).loc Cert.DDownIdeal.main_arg1) = m ((c.tc : Thread Cert.DDownIdeal.nD Cert.DDownIdeal.τ).loc Cert.DDownIdeal.main_arg1))
      ∧ θ_run (Cert.DDownRefIdeal.defs (F := Ideal)) (onTc (τ := Cert.DDownRefIdeal.τ) (Cert.DDownRefIdeal.main (F := Ideal))) ⟨m', fun _ => 0, g'⟩ (fun r => ∀ c : Dev Cert.DDownRefIdeal.nD,
          r.2.mem ((c.tc : Thread Cert.DDownRefIdeal.nD Cert.DDownRefIdeal.τ).loc Cert.DDownRefIdeal.main_v6) = v0 c
          ∧ r.2.mem ((c.tc : Thread Cert.DDownRefIdeal.nD Cert.DDownRefIdeal.τ).loc Cert.DDownRefIdeal.main_arg0) = m' ((c.tc : Thread Cert.DDownRefIdeal.nD Cert.DDownRefIdeal.τ).loc Cert.DDownRefIdeal.main_arg0)
          ∧ r.2.mem ((c.tc : Thread Cert.DDownRefIdeal.nD Cert.DDownRefIdeal.τ).loc Cert.DDownRefIdeal.main_arg1) = m' ((c.tc : Thread Cert.DDownRefIdeal.nD Cert.DDownRefIdeal.τ).loc Cert.DDownRefIdeal.main_arg1))

def preserves_DIn_DInIdeal : Prop :=
  True

def algebraic_DInIdeal_DInRefIdeal [hDInIdeal : Cert.DInIdeal.Facts] [hDInRefIdeal : Cert.DInRefIdeal.Facts] : Prop :=
  ∀ (m : (ℓ : Loc Cert.DInIdeal.nD Cert.DInIdeal.τ Cert.DInIdeal.sig) → Buf (Elt Ideal) ℓ) (g : Dev Cert.DInIdeal.nD → PrngReg)
    (m' : (ℓ : Loc Cert.DInRefIdeal.nD Cert.DInRefIdeal.τ Cert.DInRefIdeal.sig) → Buf (Elt Ideal) ℓ) (g' : Dev Cert.DInRefIdeal.nD → PrngReg), Pre_DInIdeal m →
    (∀ c : Dev Cert.DInIdeal.nD,
      m' ((c.tc : Thread Cert.DInRefIdeal.nD Cert.DInRefIdeal.τ).loc Cert.DInRefIdeal.main_arg0) = m ((c.tc : Thread Cert.DInIdeal.nD Cert.DInIdeal.τ).loc Cert.DInIdeal.main_arg0)
      ∧ m' ((c.tc : Thread Cert.DInRefIdeal.nD Cert.DInRefIdeal.τ).loc Cert.DInRefIdeal.main_arg1) = m ((c.tc : Thread Cert.DInIdeal.nD Cert.DInIdeal.τ).loc Cert.DInIdeal.main_arg1)) →
    ∃ (v0 : (c : Dev Cert.DInIdeal.nD) → Buf (Elt Ideal) ((c.tc : Thread Cert.DInIdeal.nD Cert.DInIdeal.τ).loc Cert.DInIdeal.main_v0)),
      θ_run (Cert.DInIdeal.defs (F := Ideal)) (onTc (τ := Cert.DInIdeal.τ) (Cert.DInIdeal.main (F := Ideal))) ⟨m, fun _ => 0, g⟩ (fun r => ∀ c : Dev Cert.DInIdeal.nD,
          r.2.mem ((c.tc : Thread Cert.DInIdeal.nD Cert.DInIdeal.τ).loc Cert.DInIdeal.main_v0) = v0 c
          ∧ r.2.mem ((c.tc : Thread Cert.DInIdeal.nD Cert.DInIdeal.τ).loc Cert.DInIdeal.main_arg0) = m ((c.tc : Thread Cert.DInIdeal.nD Cert.DInIdeal.τ).loc Cert.DInIdeal.main_arg0)
          ∧ r.2.mem ((c.tc : Thread Cert.DInIdeal.nD Cert.DInIdeal.τ).loc Cert.DInIdeal.main_arg1) = m ((c.tc : Thread Cert.DInIdeal.nD Cert.DInIdeal.τ).loc Cert.DInIdeal.main_arg1))
      ∧ θ_run (Cert.DInRefIdeal.defs (F := Ideal)) (onTc (τ := Cert.DInRefIdeal.τ) (Cert.DInRefIdeal.main (F := Ideal))) ⟨m', fun _ => 0, g'⟩ (fun r => ∀ c : Dev Cert.DInRefIdeal.nD,
          r.2.mem ((c.tc : Thread Cert.DInRefIdeal.nD Cert.DInRefIdeal.τ).loc Cert.DInRefIdeal.main_v9) = v0 c
          ∧ r.2.mem ((c.tc : Thread Cert.DInRefIdeal.nD Cert.DInRefIdeal.τ).loc Cert.DInRefIdeal.main_arg0) = m' ((c.tc : Thread Cert.DInRefIdeal.nD Cert.DInRefIdeal.τ).loc Cert.DInRefIdeal.main_arg0)
          ∧ r.2.mem ((c.tc : Thread Cert.DInRefIdeal.nD Cert.DInRefIdeal.τ).loc Cert.DInRefIdeal.main_arg1) = m' ((c.tc : Thread Cert.DInRefIdeal.nD Cert.DInRefIdeal.τ).loc Cert.DInRefIdeal.main_arg1))

def preserves_DGate_DGateIdeal : Prop :=
  True

def algebraic_DGateIdeal_DGateRefIdeal [hDGateIdeal : Cert.DGateIdeal.Facts] [hDGateRefIdeal : Cert.DGateRefIdeal.Facts] : Prop :=
  ∀ (m : (ℓ : Loc Cert.DGateIdeal.nD Cert.DGateIdeal.τ Cert.DGateIdeal.sig) → Buf (Elt Ideal) ℓ) (g : Dev Cert.DGateIdeal.nD → PrngReg)
    (m' : (ℓ : Loc Cert.DGateRefIdeal.nD Cert.DGateRefIdeal.τ Cert.DGateRefIdeal.sig) → Buf (Elt Ideal) ℓ) (g' : Dev Cert.DGateRefIdeal.nD → PrngReg), Pre_DGateIdeal m →
    (∀ c : Dev Cert.DGateIdeal.nD,
      m' ((c.tc : Thread Cert.DGateRefIdeal.nD Cert.DGateRefIdeal.τ).loc Cert.DGateRefIdeal.main_arg0) = m ((c.tc : Thread Cert.DGateIdeal.nD Cert.DGateIdeal.τ).loc Cert.DGateIdeal.main_arg0)
      ∧ m' ((c.tc : Thread Cert.DGateRefIdeal.nD Cert.DGateRefIdeal.τ).loc Cert.DGateRefIdeal.main_arg1) = m ((c.tc : Thread Cert.DGateIdeal.nD Cert.DGateIdeal.τ).loc Cert.DGateIdeal.main_arg1)) →
    ∃ (v0 : (c : Dev Cert.DGateIdeal.nD) → Buf (Elt Ideal) ((c.tc : Thread Cert.DGateIdeal.nD Cert.DGateIdeal.τ).loc Cert.DGateIdeal.main_v0)),
      θ_run (Cert.DGateIdeal.defs (F := Ideal)) (onTc (τ := Cert.DGateIdeal.τ) (Cert.DGateIdeal.main (F := Ideal))) ⟨m, fun _ => 0, g⟩ (fun r => ∀ c : Dev Cert.DGateIdeal.nD,
          r.2.mem ((c.tc : Thread Cert.DGateIdeal.nD Cert.DGateIdeal.τ).loc Cert.DGateIdeal.main_v0) = v0 c
          ∧ r.2.mem ((c.tc : Thread Cert.DGateIdeal.nD Cert.DGateIdeal.τ).loc Cert.DGateIdeal.main_arg0) = m ((c.tc : Thread Cert.DGateIdeal.nD Cert.DGateIdeal.τ).loc Cert.DGateIdeal.main_arg0)
          ∧ r.2.mem ((c.tc : Thread Cert.DGateIdeal.nD Cert.DGateIdeal.τ).loc Cert.DGateIdeal.main_arg1) = m ((c.tc : Thread Cert.DGateIdeal.nD Cert.DGateIdeal.τ).loc Cert.DGateIdeal.main_arg1))
      ∧ θ_run (Cert.DGateRefIdeal.defs (F := Ideal)) (onTc (τ := Cert.DGateRefIdeal.τ) (Cert.DGateRefIdeal.main (F := Ideal))) ⟨m', fun _ => 0, g'⟩ (fun r => ∀ c : Dev Cert.DGateRefIdeal.nD,
          r.2.mem ((c.tc : Thread Cert.DGateRefIdeal.nD Cert.DGateRefIdeal.τ).loc Cert.DGateRefIdeal.main_v7) = v0 c
          ∧ r.2.mem ((c.tc : Thread Cert.DGateRefIdeal.nD Cert.DGateRefIdeal.τ).loc Cert.DGateRefIdeal.main_arg0) = m' ((c.tc : Thread Cert.DGateRefIdeal.nD Cert.DGateRefIdeal.τ).loc Cert.DGateRefIdeal.main_arg0)
          ∧ r.2.mem ((c.tc : Thread Cert.DGateRefIdeal.nD Cert.DGateRefIdeal.τ).loc Cert.DGateRefIdeal.main_arg1) = m' ((c.tc : Thread Cert.DGateRefIdeal.nD Cert.DGateRefIdeal.τ).loc Cert.DGateRefIdeal.main_arg1))

def preserves_DOut_DOutIdeal : Prop :=
  True

def algebraic_DOutIdeal_DOutRefIdeal [hDOutIdeal : Cert.DOutIdeal.Facts] [hDOutRefIdeal : Cert.DOutRefIdeal.Facts] : Prop :=
  ∀ (m : (ℓ : Loc Cert.DOutIdeal.nD Cert.DOutIdeal.τ Cert.DOutIdeal.sig) → Buf (Elt Ideal) ℓ) (g : Dev Cert.DOutIdeal.nD → PrngReg)
    (m' : (ℓ : Loc Cert.DOutRefIdeal.nD Cert.DOutRefIdeal.τ Cert.DOutRefIdeal.sig) → Buf (Elt Ideal) ℓ) (g' : Dev Cert.DOutRefIdeal.nD → PrngReg), Pre_DOutIdeal m →
    (∀ c : Dev Cert.DOutIdeal.nD,
      m' ((c.tc : Thread Cert.DOutRefIdeal.nD Cert.DOutRefIdeal.τ).loc Cert.DOutRefIdeal.main_arg0) = m ((c.tc : Thread Cert.DOutIdeal.nD Cert.DOutIdeal.τ).loc Cert.DOutIdeal.main_arg0)
      ∧ m' ((c.tc : Thread Cert.DOutRefIdeal.nD Cert.DOutRefIdeal.τ).loc Cert.DOutRefIdeal.main_arg1) = m ((c.tc : Thread Cert.DOutIdeal.nD Cert.DOutIdeal.τ).loc Cert.DOutIdeal.main_arg1)) →
    ∃ (v0 : (c : Dev Cert.DOutIdeal.nD) → Buf (Elt Ideal) ((c.tc : Thread Cert.DOutIdeal.nD Cert.DOutIdeal.τ).loc Cert.DOutIdeal.main_v0)),
      θ_run (Cert.DOutIdeal.defs (F := Ideal)) (onTc (τ := Cert.DOutIdeal.τ) (Cert.DOutIdeal.main (F := Ideal))) ⟨m, fun _ => 0, g⟩ (fun r => ∀ c : Dev Cert.DOutIdeal.nD,
          r.2.mem ((c.tc : Thread Cert.DOutIdeal.nD Cert.DOutIdeal.τ).loc Cert.DOutIdeal.main_v0) = v0 c
          ∧ r.2.mem ((c.tc : Thread Cert.DOutIdeal.nD Cert.DOutIdeal.τ).loc Cert.DOutIdeal.main_arg0) = m ((c.tc : Thread Cert.DOutIdeal.nD Cert.DOutIdeal.τ).loc Cert.DOutIdeal.main_arg0)
          ∧ r.2.mem ((c.tc : Thread Cert.DOutIdeal.nD Cert.DOutIdeal.τ).loc Cert.DOutIdeal.main_arg1) = m ((c.tc : Thread Cert.DOutIdeal.nD Cert.DOutIdeal.τ).loc Cert.DOutIdeal.main_arg1))
      ∧ θ_run (Cert.DOutRefIdeal.defs (F := Ideal)) (onTc (τ := Cert.DOutRefIdeal.τ) (Cert.DOutRefIdeal.main (F := Ideal))) ⟨m', fun _ => 0, g'⟩ (fun r => ∀ c : Dev Cert.DOutRefIdeal.nD,
          r.2.mem ((c.tc : Thread Cert.DOutRefIdeal.nD Cert.DOutRefIdeal.τ).loc Cert.DOutRefIdeal.main_v6) = v0 c
          ∧ r.2.mem ((c.tc : Thread Cert.DOutRefIdeal.nD Cert.DOutRefIdeal.τ).loc Cert.DOutRefIdeal.main_arg0) = m' ((c.tc : Thread Cert.DOutRefIdeal.nD Cert.DOutRefIdeal.τ).loc Cert.DOutRefIdeal.main_arg0)
          ∧ r.2.mem ((c.tc : Thread Cert.DOutRefIdeal.nD Cert.DOutRefIdeal.τ).loc Cert.DOutRefIdeal.main_arg1) = m' ((c.tc : Thread Cert.DOutRefIdeal.nD Cert.DOutRefIdeal.τ).loc Cert.DOutRefIdeal.main_arg1))

def preserves_DProj_DProjIdeal : Prop :=
  True

def algebraic_DProjIdeal_DProjRefIdeal [hDProjIdeal : Cert.DProjIdeal.Facts] [hDProjRefIdeal : Cert.DProjRefIdeal.Facts] : Prop :=
  ∀ (m : (ℓ : Loc Cert.DProjIdeal.nD Cert.DProjIdeal.τ Cert.DProjIdeal.sig) → Buf (Elt Ideal) ℓ) (g : Dev Cert.DProjIdeal.nD → PrngReg)
    (m' : (ℓ : Loc Cert.DProjRefIdeal.nD Cert.DProjRefIdeal.τ Cert.DProjRefIdeal.sig) → Buf (Elt Ideal) ℓ) (g' : Dev Cert.DProjRefIdeal.nD → PrngReg), Pre_DProjIdeal m →
    (∀ c : Dev Cert.DProjIdeal.nD,
      m' ((c.tc : Thread Cert.DProjRefIdeal.nD Cert.DProjRefIdeal.τ).loc Cert.DProjRefIdeal.main_arg0) = m ((c.tc : Thread Cert.DProjIdeal.nD Cert.DProjIdeal.τ).loc Cert.DProjIdeal.main_arg0)
      ∧ m' ((c.tc : Thread Cert.DProjRefIdeal.nD Cert.DProjRefIdeal.τ).loc Cert.DProjRefIdeal.main_arg1) = m ((c.tc : Thread Cert.DProjIdeal.nD Cert.DProjIdeal.τ).loc Cert.DProjIdeal.main_arg1)) →
    ∃ (v0 : (c : Dev Cert.DProjIdeal.nD) → Buf (Elt Ideal) ((c.tc : Thread Cert.DProjIdeal.nD Cert.DProjIdeal.τ).loc Cert.DProjIdeal.main_v0)),
      θ_run (Cert.DProjIdeal.defs (F := Ideal)) (onTc (τ := Cert.DProjIdeal.τ) (Cert.DProjIdeal.main (F := Ideal))) ⟨m, fun _ => 0, g⟩ (fun r => ∀ c : Dev Cert.DProjIdeal.nD,
          r.2.mem ((c.tc : Thread Cert.DProjIdeal.nD Cert.DProjIdeal.τ).loc Cert.DProjIdeal.main_v0) = v0 c
          ∧ r.2.mem ((c.tc : Thread Cert.DProjIdeal.nD Cert.DProjIdeal.τ).loc Cert.DProjIdeal.main_arg0) = m ((c.tc : Thread Cert.DProjIdeal.nD Cert.DProjIdeal.τ).loc Cert.DProjIdeal.main_arg0)
          ∧ r.2.mem ((c.tc : Thread Cert.DProjIdeal.nD Cert.DProjIdeal.τ).loc Cert.DProjIdeal.main_arg1) = m ((c.tc : Thread Cert.DProjIdeal.nD Cert.DProjIdeal.τ).loc Cert.DProjIdeal.main_arg1))
      ∧ θ_run (Cert.DProjRefIdeal.defs (F := Ideal)) (onTc (τ := Cert.DProjRefIdeal.τ) (Cert.DProjRefIdeal.main (F := Ideal))) ⟨m', fun _ => 0, g'⟩ (fun r => ∀ c : Dev Cert.DProjRefIdeal.nD,
          r.2.mem ((c.tc : Thread Cert.DProjRefIdeal.nD Cert.DProjRefIdeal.τ).loc Cert.DProjRefIdeal.main_v8) = v0 c
          ∧ r.2.mem ((c.tc : Thread Cert.DProjRefIdeal.nD Cert.DProjRefIdeal.τ).loc Cert.DProjRefIdeal.main_arg0) = m' ((c.tc : Thread Cert.DProjRefIdeal.nD Cert.DProjRefIdeal.τ).loc Cert.DProjRefIdeal.main_arg0)
          ∧ r.2.mem ((c.tc : Thread Cert.DProjRefIdeal.nD Cert.DProjRefIdeal.τ).loc Cert.DProjRefIdeal.main_arg1) = m' ((c.tc : Thread Cert.DProjRefIdeal.nD Cert.DProjRefIdeal.τ).loc Cert.DProjRefIdeal.main_arg1))

def preserves_DGlu_DGluIdeal : Prop :=
  True

def algebraic_DGluIdeal_DGluRefIdeal [hDGluIdeal : Cert.DGluIdeal.Facts] [hDGluRefIdeal : Cert.DGluRefIdeal.Facts] : Prop :=
  ∀ (m : (ℓ : Loc Cert.DGluIdeal.nD Cert.DGluIdeal.τ Cert.DGluIdeal.sig) → Buf (Elt Ideal) ℓ) (g : Dev Cert.DGluIdeal.nD → PrngReg)
    (m' : (ℓ : Loc Cert.DGluRefIdeal.nD Cert.DGluRefIdeal.τ Cert.DGluRefIdeal.sig) → Buf (Elt Ideal) ℓ) (g' : Dev Cert.DGluRefIdeal.nD → PrngReg), Pre_DGluIdeal m →
    (∀ c : Dev Cert.DGluIdeal.nD,
      m' ((c.tc : Thread Cert.DGluRefIdeal.nD Cert.DGluRefIdeal.τ).loc Cert.DGluRefIdeal.main_arg0) = m ((c.tc : Thread Cert.DGluIdeal.nD Cert.DGluIdeal.τ).loc Cert.DGluIdeal.main_arg0)
      ∧ m' ((c.tc : Thread Cert.DGluRefIdeal.nD Cert.DGluRefIdeal.τ).loc Cert.DGluRefIdeal.main_arg1) = m ((c.tc : Thread Cert.DGluIdeal.nD Cert.DGluIdeal.τ).loc Cert.DGluIdeal.main_arg1)) →
    ∃ (v0 : (c : Dev Cert.DGluIdeal.nD) → Buf (Elt Ideal) ((c.tc : Thread Cert.DGluIdeal.nD Cert.DGluIdeal.τ).loc Cert.DGluIdeal.main_v0)),
      θ_run (Cert.DGluIdeal.defs (F := Ideal)) (onTc (τ := Cert.DGluIdeal.τ) (Cert.DGluIdeal.main (F := Ideal))) ⟨m, fun _ => 0, g⟩ (fun r => ∀ c : Dev Cert.DGluIdeal.nD,
          r.2.mem ((c.tc : Thread Cert.DGluIdeal.nD Cert.DGluIdeal.τ).loc Cert.DGluIdeal.main_v0) = v0 c
          ∧ r.2.mem ((c.tc : Thread Cert.DGluIdeal.nD Cert.DGluIdeal.τ).loc Cert.DGluIdeal.main_arg0) = m ((c.tc : Thread Cert.DGluIdeal.nD Cert.DGluIdeal.τ).loc Cert.DGluIdeal.main_arg0)
          ∧ r.2.mem ((c.tc : Thread Cert.DGluIdeal.nD Cert.DGluIdeal.τ).loc Cert.DGluIdeal.main_arg1) = m ((c.tc : Thread Cert.DGluIdeal.nD Cert.DGluIdeal.τ).loc Cert.DGluIdeal.main_arg1))
      ∧ θ_run (Cert.DGluRefIdeal.defs (F := Ideal)) (onTc (τ := Cert.DGluRefIdeal.τ) (Cert.DGluRefIdeal.main (F := Ideal))) ⟨m', fun _ => 0, g'⟩ (fun r => ∀ c : Dev Cert.DGluRefIdeal.nD,
          r.2.mem ((c.tc : Thread Cert.DGluRefIdeal.nD Cert.DGluRefIdeal.τ).loc Cert.DGluRefIdeal.main_v7) = v0 c
          ∧ r.2.mem ((c.tc : Thread Cert.DGluRefIdeal.nD Cert.DGluRefIdeal.τ).loc Cert.DGluRefIdeal.main_arg0) = m' ((c.tc : Thread Cert.DGluRefIdeal.nD Cert.DGluRefIdeal.τ).loc Cert.DGluRefIdeal.main_arg0)
          ∧ r.2.mem ((c.tc : Thread Cert.DGluRefIdeal.nD Cert.DGluRefIdeal.τ).loc Cert.DGluRefIdeal.main_arg1) = m' ((c.tc : Thread Cert.DGluRefIdeal.nD Cert.DGluRefIdeal.τ).loc Cert.DGluRefIdeal.main_arg1))

def preserves_UpT_UpTIdeal : Prop :=
  True

def algebraic_UpTIdeal_UpTRefIdeal_pre_finite_up [hUpTIdeal : Cert.UpTIdeal.Facts] [hUpTRefIdeal : Cert.UpTRefIdeal.Facts] [hPre_finite_up : Cert.Pre_finite_up.Facts] : Prop :=
  ∀ (m : (ℓ : Loc Cert.UpTIdeal.nD Cert.UpTIdeal.τ Cert.UpTIdeal.sig) → Buf (Elt Ideal) ℓ) (g : Dev Cert.UpTIdeal.nD → PrngReg)
    (m' : (ℓ : Loc Cert.UpTRefIdeal.nD Cert.UpTRefIdeal.τ Cert.UpTRefIdeal.sig) → Buf (Elt Ideal) ℓ) (g' : Dev Cert.UpTRefIdeal.nD → PrngReg), Pre_UpTIdeal_finite_up m →
    (∀ c : Dev Cert.UpTIdeal.nD,
      m' ((c.tc : Thread Cert.UpTRefIdeal.nD Cert.UpTRefIdeal.τ).loc Cert.UpTRefIdeal.main_arg0) = m ((c.tc : Thread Cert.UpTIdeal.nD Cert.UpTIdeal.τ).loc Cert.UpTIdeal.main_arg0)
      ∧ m' ((c.tc : Thread Cert.UpTRefIdeal.nD Cert.UpTRefIdeal.τ).loc Cert.UpTRefIdeal.main_arg1) = m ((c.tc : Thread Cert.UpTIdeal.nD Cert.UpTIdeal.τ).loc Cert.UpTIdeal.main_arg1)
      ∧ m' ((c.tc : Thread Cert.UpTRefIdeal.nD Cert.UpTRefIdeal.τ).loc Cert.UpTRefIdeal.main_arg2) = m ((c.tc : Thread Cert.UpTIdeal.nD Cert.UpTIdeal.τ).loc Cert.UpTIdeal.main_arg2)
      ∧ m' ((c.tc : Thread Cert.UpTRefIdeal.nD Cert.UpTRefIdeal.τ).loc Cert.UpTRefIdeal.main_arg3) = m ((c.tc : Thread Cert.UpTIdeal.nD Cert.UpTIdeal.τ).loc Cert.UpTIdeal.main_arg3)
      ∧ m' ((c.tc : Thread Cert.UpTRefIdeal.nD Cert.UpTRefIdeal.τ).loc Cert.UpTRefIdeal.main_arg4) = m ((c.tc : Thread Cert.UpTIdeal.nD Cert.UpTIdeal.τ).loc Cert.UpTIdeal.main_arg4)) →
    ∃ (v0 : (c : Dev Cert.UpTIdeal.nD) → Buf (Elt Ideal) ((c.tc : Thread Cert.UpTIdeal.nD Cert.UpTIdeal.τ).loc Cert.UpTIdeal.main_v1_0)) (v1 : (c : Dev Cert.UpTIdeal.nD) → Buf (Elt Ideal) ((c.tc : Thread Cert.UpTIdeal.nD Cert.UpTIdeal.τ).loc Cert.UpTIdeal.main_v1_1)),
      θ_run (Cert.UpTIdeal.defs (F := Ideal)) (onTc (τ := Cert.UpTIdeal.τ) (Cert.UpTIdeal.main (F := Ideal))) ⟨m, fun _ => 0, g⟩ (fun r => ∀ c : Dev Cert.UpTIdeal.nD,
          r.2.mem ((c.tc : Thread Cert.UpTIdeal.nD Cert.UpTIdeal.τ).loc Cert.UpTIdeal.main_v1_0) = v0 c
          ∧ r.2.mem ((c.tc : Thread Cert.UpTIdeal.nD Cert.UpTIdeal.τ).loc Cert.UpTIdeal.main_v1_1) = v1 c
          ∧ r.2.mem ((c.tc : Thread Cert.UpTIdeal.nD Cert.UpTIdeal.τ).loc Cert.UpTIdeal.main_arg0) = m ((c.tc : Thread Cert.UpTIdeal.nD Cert.UpTIdeal.τ).loc Cert.UpTIdeal.main_arg0)
          ∧ r.2.mem ((c.tc : Thread Cert.UpTIdeal.nD Cert.UpTIdeal.τ).loc Cert.UpTIdeal.main_arg1) = m ((c.tc : Thread Cert.UpTIdeal.nD Cert.UpTIdeal.τ).loc Cert.UpTIdeal.main_arg1)
          ∧ r.2.mem ((c.tc : Thread Cert.UpTIdeal.nD Cert.UpTIdeal.τ).loc Cert.UpTIdeal.main_arg2) = m ((c.tc : Thread Cert.UpTIdeal.nD Cert.UpTIdeal.τ).loc Cert.UpTIdeal.main_arg2)
          ∧ r.2.mem ((c.tc : Thread Cert.UpTIdeal.nD Cert.UpTIdeal.τ).loc Cert.UpTIdeal.main_arg3) = m ((c.tc : Thread Cert.UpTIdeal.nD Cert.UpTIdeal.τ).loc Cert.UpTIdeal.main_arg3)
          ∧ r.2.mem ((c.tc : Thread Cert.UpTIdeal.nD Cert.UpTIdeal.τ).loc Cert.UpTIdeal.main_arg4) = m ((c.tc : Thread Cert.UpTIdeal.nD Cert.UpTIdeal.τ).loc Cert.UpTIdeal.main_arg4))
      ∧ θ_run (Cert.UpTRefIdeal.defs (F := Ideal)) (onTc (τ := Cert.UpTRefIdeal.τ) (Cert.UpTRefIdeal.main (F := Ideal))) ⟨m', fun _ => 0, g'⟩ (fun r => ∀ c : Dev Cert.UpTRefIdeal.nD,
          r.2.mem ((c.tc : Thread Cert.UpTRefIdeal.nD Cert.UpTRefIdeal.τ).loc Cert.UpTRefIdeal.main_v41) = v0 c
          ∧ r.2.mem ((c.tc : Thread Cert.UpTRefIdeal.nD Cert.UpTRefIdeal.τ).loc Cert.UpTRefIdeal.main_v42) = v1 c
          ∧ r.2.mem ((c.tc : Thread Cert.UpTRefIdeal.nD Cert.UpTRefIdeal.τ).loc Cert.UpTRefIdeal.main_arg0) = m' ((c.tc : Thread Cert.UpTRefIdeal.nD Cert.UpTRefIdeal.τ).loc Cert.UpTRefIdeal.main_arg0)
          ∧ r.2.mem ((c.tc : Thread Cert.UpTRefIdeal.nD Cert.UpTRefIdeal.τ).loc Cert.UpTRefIdeal.main_arg1) = m' ((c.tc : Thread Cert.UpTRefIdeal.nD Cert.UpTRefIdeal.τ).loc Cert.UpTRefIdeal.main_arg1)
          ∧ r.2.mem ((c.tc : Thread Cert.UpTRefIdeal.nD Cert.UpTRefIdeal.τ).loc Cert.UpTRefIdeal.main_arg2) = m' ((c.tc : Thread Cert.UpTRefIdeal.nD Cert.UpTRefIdeal.τ).loc Cert.UpTRefIdeal.main_arg2)
          ∧ r.2.mem ((c.tc : Thread Cert.UpTRefIdeal.nD Cert.UpTRefIdeal.τ).loc Cert.UpTRefIdeal.main_arg3) = m' ((c.tc : Thread Cert.UpTRefIdeal.nD Cert.UpTRefIdeal.τ).loc Cert.UpTRefIdeal.main_arg3)
          ∧ r.2.mem ((c.tc : Thread Cert.UpTRefIdeal.nD Cert.UpTRefIdeal.τ).loc Cert.UpTRefIdeal.main_arg4) = m' ((c.tc : Thread Cert.UpTRefIdeal.nD Cert.UpTRefIdeal.τ).loc Cert.UpTRefIdeal.main_arg4))

def preserves_InT_InTIdeal : Prop :=
  True

def algebraic_InTIdeal_InTRefIdeal_pre_finite_in [hInTIdeal : Cert.InTIdeal.Facts] [hInTRefIdeal : Cert.InTRefIdeal.Facts] [hPre_finite_in : Cert.Pre_finite_in.Facts] : Prop :=
  ∀ (m : (ℓ : Loc Cert.InTIdeal.nD Cert.InTIdeal.τ Cert.InTIdeal.sig) → Buf (Elt Ideal) ℓ) (g : Dev Cert.InTIdeal.nD → PrngReg)
    (m' : (ℓ : Loc Cert.InTRefIdeal.nD Cert.InTRefIdeal.τ Cert.InTRefIdeal.sig) → Buf (Elt Ideal) ℓ) (g' : Dev Cert.InTRefIdeal.nD → PrngReg), Pre_InTIdeal_finite_in m →
    (∀ c : Dev Cert.InTIdeal.nD,
      m' ((c.tc : Thread Cert.InTRefIdeal.nD Cert.InTRefIdeal.τ).loc Cert.InTRefIdeal.main_arg0) = m ((c.tc : Thread Cert.InTIdeal.nD Cert.InTIdeal.τ).loc Cert.InTIdeal.main_arg0)
      ∧ m' ((c.tc : Thread Cert.InTRefIdeal.nD Cert.InTRefIdeal.τ).loc Cert.InTRefIdeal.main_arg1) = m ((c.tc : Thread Cert.InTIdeal.nD Cert.InTIdeal.τ).loc Cert.InTIdeal.main_arg1)
      ∧ m' ((c.tc : Thread Cert.InTRefIdeal.nD Cert.InTRefIdeal.τ).loc Cert.InTRefIdeal.main_arg2) = m ((c.tc : Thread Cert.InTIdeal.nD Cert.InTIdeal.τ).loc Cert.InTIdeal.main_arg2)
      ∧ m' ((c.tc : Thread Cert.InTRefIdeal.nD Cert.InTRefIdeal.τ).loc Cert.InTRefIdeal.main_arg3) = m ((c.tc : Thread Cert.InTIdeal.nD Cert.InTIdeal.τ).loc Cert.InTIdeal.main_arg3)
      ∧ m' ((c.tc : Thread Cert.InTRefIdeal.nD Cert.InTRefIdeal.τ).loc Cert.InTRefIdeal.main_arg4) = m ((c.tc : Thread Cert.InTIdeal.nD Cert.InTIdeal.τ).loc Cert.InTIdeal.main_arg4)) →
    ∃ (v0 : (c : Dev Cert.InTIdeal.nD) → Buf (Elt Ideal) ((c.tc : Thread Cert.InTIdeal.nD Cert.InTIdeal.τ).loc Cert.InTIdeal.main_v1_0)) (v1 : (c : Dev Cert.InTIdeal.nD) → Buf (Elt Ideal) ((c.tc : Thread Cert.InTIdeal.nD Cert.InTIdeal.τ).loc Cert.InTIdeal.main_v1_1)),
      θ_run (Cert.InTIdeal.defs (F := Ideal)) (onTc (τ := Cert.InTIdeal.τ) (Cert.InTIdeal.main (F := Ideal))) ⟨m, fun _ => 0, g⟩ (fun r => ∀ c : Dev Cert.InTIdeal.nD,
          r.2.mem ((c.tc : Thread Cert.InTIdeal.nD Cert.InTIdeal.τ).loc Cert.InTIdeal.main_v1_0) = v0 c
          ∧ r.2.mem ((c.tc : Thread Cert.InTIdeal.nD Cert.InTIdeal.τ).loc Cert.InTIdeal.main_v1_1) = v1 c
          ∧ r.2.mem ((c.tc : Thread Cert.InTIdeal.nD Cert.InTIdeal.τ).loc Cert.InTIdeal.main_arg0) = m ((c.tc : Thread Cert.InTIdeal.nD Cert.InTIdeal.τ).loc Cert.InTIdeal.main_arg0)
          ∧ r.2.mem ((c.tc : Thread Cert.InTIdeal.nD Cert.InTIdeal.τ).loc Cert.InTIdeal.main_arg1) = m ((c.tc : Thread Cert.InTIdeal.nD Cert.InTIdeal.τ).loc Cert.InTIdeal.main_arg1)
          ∧ r.2.mem ((c.tc : Thread Cert.InTIdeal.nD Cert.InTIdeal.τ).loc Cert.InTIdeal.main_arg2) = m ((c.tc : Thread Cert.InTIdeal.nD Cert.InTIdeal.τ).loc Cert.InTIdeal.main_arg2)
          ∧ r.2.mem ((c.tc : Thread Cert.InTIdeal.nD Cert.InTIdeal.τ).loc Cert.InTIdeal.main_arg3) = m ((c.tc : Thread Cert.InTIdeal.nD Cert.InTIdeal.τ).loc Cert.InTIdeal.main_arg3)
          ∧ r.2.mem ((c.tc : Thread Cert.InTIdeal.nD Cert.InTIdeal.τ).loc Cert.InTIdeal.main_arg4) = m ((c.tc : Thread Cert.InTIdeal.nD Cert.InTIdeal.τ).loc Cert.InTIdeal.main_arg4))
      ∧ θ_run (Cert.InTRefIdeal.defs (F := Ideal)) (onTc (τ := Cert.InTRefIdeal.τ) (Cert.InTRefIdeal.main (F := Ideal))) ⟨m', fun _ => 0, g'⟩ (fun r => ∀ c : Dev Cert.InTRefIdeal.nD,
          r.2.mem ((c.tc : Thread Cert.InTRefIdeal.nD Cert.InTRefIdeal.τ).loc Cert.InTRefIdeal.main_v41) = v0 c
          ∧ r.2.mem ((c.tc : Thread Cert.InTRefIdeal.nD Cert.InTRefIdeal.τ).loc Cert.InTRefIdeal.main_v42) = v1 c
          ∧ r.2.mem ((c.tc : Thread Cert.InTRefIdeal.nD Cert.InTRefIdeal.τ).loc Cert.InTRefIdeal.main_arg0) = m' ((c.tc : Thread Cert.InTRefIdeal.nD Cert.InTRefIdeal.τ).loc Cert.InTRefIdeal.main_arg0)
          ∧ r.2.mem ((c.tc : Thread Cert.InTRefIdeal.nD Cert.InTRefIdeal.τ).loc Cert.InTRefIdeal.main_arg1) = m' ((c.tc : Thread Cert.InTRefIdeal.nD Cert.InTRefIdeal.τ).loc Cert.InTRefIdeal.main_arg1)
          ∧ r.2.mem ((c.tc : Thread Cert.InTRefIdeal.nD Cert.InTRefIdeal.τ).loc Cert.InTRefIdeal.main_arg2) = m' ((c.tc : Thread Cert.InTRefIdeal.nD Cert.InTRefIdeal.τ).loc Cert.InTRefIdeal.main_arg2)
          ∧ r.2.mem ((c.tc : Thread Cert.InTRefIdeal.nD Cert.InTRefIdeal.τ).loc Cert.InTRefIdeal.main_arg3) = m' ((c.tc : Thread Cert.InTRefIdeal.nD Cert.InTRefIdeal.τ).loc Cert.InTRefIdeal.main_arg3)
          ∧ r.2.mem ((c.tc : Thread Cert.InTRefIdeal.nD Cert.InTRefIdeal.τ).loc Cert.InTRefIdeal.main_arg4) = m' ((c.tc : Thread Cert.InTRefIdeal.nD Cert.InTRefIdeal.τ).loc Cert.InTRefIdeal.main_arg4))

def preserves_GateT_GateTIdeal : Prop :=
  True

def algebraic_GateTIdeal_GateTRefIdeal_pre_finite_gate [hGateTIdeal : Cert.GateTIdeal.Facts] [hGateTRefIdeal : Cert.GateTRefIdeal.Facts] [hPre_finite_gate : Cert.Pre_finite_gate.Facts] : Prop :=
  ∀ (m : (ℓ : Loc Cert.GateTIdeal.nD Cert.GateTIdeal.τ Cert.GateTIdeal.sig) → Buf (Elt Ideal) ℓ) (g : Dev Cert.GateTIdeal.nD → PrngReg)
    (m' : (ℓ : Loc Cert.GateTRefIdeal.nD Cert.GateTRefIdeal.τ Cert.GateTRefIdeal.sig) → Buf (Elt Ideal) ℓ) (g' : Dev Cert.GateTRefIdeal.nD → PrngReg), Pre_GateTIdeal_finite_gate m →
    (∀ c : Dev Cert.GateTIdeal.nD,
      m' ((c.tc : Thread Cert.GateTRefIdeal.nD Cert.GateTRefIdeal.τ).loc Cert.GateTRefIdeal.main_arg0) = m ((c.tc : Thread Cert.GateTIdeal.nD Cert.GateTIdeal.τ).loc Cert.GateTIdeal.main_arg0)
      ∧ m' ((c.tc : Thread Cert.GateTRefIdeal.nD Cert.GateTRefIdeal.τ).loc Cert.GateTRefIdeal.main_arg1) = m ((c.tc : Thread Cert.GateTIdeal.nD Cert.GateTIdeal.τ).loc Cert.GateTIdeal.main_arg1)
      ∧ m' ((c.tc : Thread Cert.GateTRefIdeal.nD Cert.GateTRefIdeal.τ).loc Cert.GateTRefIdeal.main_arg2) = m ((c.tc : Thread Cert.GateTIdeal.nD Cert.GateTIdeal.τ).loc Cert.GateTIdeal.main_arg2)
      ∧ m' ((c.tc : Thread Cert.GateTRefIdeal.nD Cert.GateTRefIdeal.τ).loc Cert.GateTRefIdeal.main_arg3) = m ((c.tc : Thread Cert.GateTIdeal.nD Cert.GateTIdeal.τ).loc Cert.GateTIdeal.main_arg3)
      ∧ m' ((c.tc : Thread Cert.GateTRefIdeal.nD Cert.GateTRefIdeal.τ).loc Cert.GateTRefIdeal.main_arg4) = m ((c.tc : Thread Cert.GateTIdeal.nD Cert.GateTIdeal.τ).loc Cert.GateTIdeal.main_arg4)) →
    ∃ (v0 : (c : Dev Cert.GateTIdeal.nD) → Buf (Elt Ideal) ((c.tc : Thread Cert.GateTIdeal.nD Cert.GateTIdeal.τ).loc Cert.GateTIdeal.main_v1_0)) (v1 : (c : Dev Cert.GateTIdeal.nD) → Buf (Elt Ideal) ((c.tc : Thread Cert.GateTIdeal.nD Cert.GateTIdeal.τ).loc Cert.GateTIdeal.main_v1_1)),
      θ_run (Cert.GateTIdeal.defs (F := Ideal)) (onTc (τ := Cert.GateTIdeal.τ) (Cert.GateTIdeal.main (F := Ideal))) ⟨m, fun _ => 0, g⟩ (fun r => ∀ c : Dev Cert.GateTIdeal.nD,
          r.2.mem ((c.tc : Thread Cert.GateTIdeal.nD Cert.GateTIdeal.τ).loc Cert.GateTIdeal.main_v1_0) = v0 c
          ∧ r.2.mem ((c.tc : Thread Cert.GateTIdeal.nD Cert.GateTIdeal.τ).loc Cert.GateTIdeal.main_v1_1) = v1 c
          ∧ r.2.mem ((c.tc : Thread Cert.GateTIdeal.nD Cert.GateTIdeal.τ).loc Cert.GateTIdeal.main_arg0) = m ((c.tc : Thread Cert.GateTIdeal.nD Cert.GateTIdeal.τ).loc Cert.GateTIdeal.main_arg0)
          ∧ r.2.mem ((c.tc : Thread Cert.GateTIdeal.nD Cert.GateTIdeal.τ).loc Cert.GateTIdeal.main_arg1) = m ((c.tc : Thread Cert.GateTIdeal.nD Cert.GateTIdeal.τ).loc Cert.GateTIdeal.main_arg1)
          ∧ r.2.mem ((c.tc : Thread Cert.GateTIdeal.nD Cert.GateTIdeal.τ).loc Cert.GateTIdeal.main_arg2) = m ((c.tc : Thread Cert.GateTIdeal.nD Cert.GateTIdeal.τ).loc Cert.GateTIdeal.main_arg2)
          ∧ r.2.mem ((c.tc : Thread Cert.GateTIdeal.nD Cert.GateTIdeal.τ).loc Cert.GateTIdeal.main_arg3) = m ((c.tc : Thread Cert.GateTIdeal.nD Cert.GateTIdeal.τ).loc Cert.GateTIdeal.main_arg3)
          ∧ r.2.mem ((c.tc : Thread Cert.GateTIdeal.nD Cert.GateTIdeal.τ).loc Cert.GateTIdeal.main_arg4) = m ((c.tc : Thread Cert.GateTIdeal.nD Cert.GateTIdeal.τ).loc Cert.GateTIdeal.main_arg4))
      ∧ θ_run (Cert.GateTRefIdeal.defs (F := Ideal)) (onTc (τ := Cert.GateTRefIdeal.τ) (Cert.GateTRefIdeal.main (F := Ideal))) ⟨m', fun _ => 0, g'⟩ (fun r => ∀ c : Dev Cert.GateTRefIdeal.nD,
          r.2.mem ((c.tc : Thread Cert.GateTRefIdeal.nD Cert.GateTRefIdeal.τ).loc Cert.GateTRefIdeal.main_v40) = v0 c
          ∧ r.2.mem ((c.tc : Thread Cert.GateTRefIdeal.nD Cert.GateTRefIdeal.τ).loc Cert.GateTRefIdeal.main_v41) = v1 c
          ∧ r.2.mem ((c.tc : Thread Cert.GateTRefIdeal.nD Cert.GateTRefIdeal.τ).loc Cert.GateTRefIdeal.main_arg0) = m' ((c.tc : Thread Cert.GateTRefIdeal.nD Cert.GateTRefIdeal.τ).loc Cert.GateTRefIdeal.main_arg0)
          ∧ r.2.mem ((c.tc : Thread Cert.GateTRefIdeal.nD Cert.GateTRefIdeal.τ).loc Cert.GateTRefIdeal.main_arg1) = m' ((c.tc : Thread Cert.GateTRefIdeal.nD Cert.GateTRefIdeal.τ).loc Cert.GateTRefIdeal.main_arg1)
          ∧ r.2.mem ((c.tc : Thread Cert.GateTRefIdeal.nD Cert.GateTRefIdeal.τ).loc Cert.GateTRefIdeal.main_arg2) = m' ((c.tc : Thread Cert.GateTRefIdeal.nD Cert.GateTRefIdeal.τ).loc Cert.GateTRefIdeal.main_arg2)
          ∧ r.2.mem ((c.tc : Thread Cert.GateTRefIdeal.nD Cert.GateTRefIdeal.τ).loc Cert.GateTRefIdeal.main_arg3) = m' ((c.tc : Thread Cert.GateTRefIdeal.nD Cert.GateTRefIdeal.τ).loc Cert.GateTRefIdeal.main_arg3)
          ∧ r.2.mem ((c.tc : Thread Cert.GateTRefIdeal.nD Cert.GateTRefIdeal.τ).loc Cert.GateTRefIdeal.main_arg4) = m' ((c.tc : Thread Cert.GateTRefIdeal.nD Cert.GateTRefIdeal.τ).loc Cert.GateTRefIdeal.main_arg4))

def preserves_DownT_DownTIdeal : Prop :=
  True

def algebraic_DownTIdeal_DownTRefIdeal [hDownTIdeal : Cert.DownTIdeal.Facts] [hDownTRefIdeal : Cert.DownTRefIdeal.Facts] : Prop :=
  ∀ (m : (ℓ : Loc Cert.DownTIdeal.nD Cert.DownTIdeal.τ Cert.DownTIdeal.sig) → Buf (Elt Ideal) ℓ) (g : Dev Cert.DownTIdeal.nD → PrngReg)
    (m' : (ℓ : Loc Cert.DownTRefIdeal.nD Cert.DownTRefIdeal.τ Cert.DownTRefIdeal.sig) → Buf (Elt Ideal) ℓ) (g' : Dev Cert.DownTRefIdeal.nD → PrngReg), Pre_DownTIdeal m →
    (∀ c : Dev Cert.DownTIdeal.nD,
      m' ((c.tc : Thread Cert.DownTRefIdeal.nD Cert.DownTRefIdeal.τ).loc Cert.DownTRefIdeal.main_arg0) = m ((c.tc : Thread Cert.DownTIdeal.nD Cert.DownTIdeal.τ).loc Cert.DownTIdeal.main_arg0)
      ∧ m' ((c.tc : Thread Cert.DownTRefIdeal.nD Cert.DownTRefIdeal.τ).loc Cert.DownTRefIdeal.main_arg1) = m ((c.tc : Thread Cert.DownTIdeal.nD Cert.DownTIdeal.τ).loc Cert.DownTIdeal.main_arg1)) →
    ∃ (v0 : (c : Dev Cert.DownTIdeal.nD) → Buf (Elt Ideal) ((c.tc : Thread Cert.DownTIdeal.nD Cert.DownTIdeal.τ).loc Cert.DownTIdeal.main_v0)),
      θ_run (Cert.DownTIdeal.defs (F := Ideal)) (onTc (τ := Cert.DownTIdeal.τ) (Cert.DownTIdeal.main (F := Ideal))) ⟨m, fun _ => 0, g⟩ (fun r => ∀ c : Dev Cert.DownTIdeal.nD,
          r.2.mem ((c.tc : Thread Cert.DownTIdeal.nD Cert.DownTIdeal.τ).loc Cert.DownTIdeal.main_v0) = v0 c
          ∧ r.2.mem ((c.tc : Thread Cert.DownTIdeal.nD Cert.DownTIdeal.τ).loc Cert.DownTIdeal.main_arg0) = m ((c.tc : Thread Cert.DownTIdeal.nD Cert.DownTIdeal.τ).loc Cert.DownTIdeal.main_arg0)
          ∧ r.2.mem ((c.tc : Thread Cert.DownTIdeal.nD Cert.DownTIdeal.τ).loc Cert.DownTIdeal.main_arg1) = m ((c.tc : Thread Cert.DownTIdeal.nD Cert.DownTIdeal.τ).loc Cert.DownTIdeal.main_arg1))
      ∧ θ_run (Cert.DownTRefIdeal.defs (F := Ideal)) (onTc (τ := Cert.DownTRefIdeal.τ) (Cert.DownTRefIdeal.main (F := Ideal))) ⟨m', fun _ => 0, g'⟩ (fun r => ∀ c : Dev Cert.DownTRefIdeal.nD,
          r.2.mem ((c.tc : Thread Cert.DownTRefIdeal.nD Cert.DownTRefIdeal.τ).loc Cert.DownTRefIdeal.main_v5) = v0 c
          ∧ r.2.mem ((c.tc : Thread Cert.DownTRefIdeal.nD Cert.DownTRefIdeal.τ).loc Cert.DownTRefIdeal.main_arg0) = m' ((c.tc : Thread Cert.DownTRefIdeal.nD Cert.DownTRefIdeal.τ).loc Cert.DownTRefIdeal.main_arg0)
          ∧ r.2.mem ((c.tc : Thread Cert.DownTRefIdeal.nD Cert.DownTRefIdeal.τ).loc Cert.DownTRefIdeal.main_arg1) = m' ((c.tc : Thread Cert.DownTRefIdeal.nD Cert.DownTRefIdeal.τ).loc Cert.DownTRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v4) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v1_0)) (v1 : (c : Dev Cert.DownIdeal.nD) → Buf (Elt Ideal) ((c.tc : Thread Cert.DownIdeal.nD Cert.DownIdeal.τ).loc Cert.DownIdeal.main_v1_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1_0) = v0 c
          ∧ r.2.mem ((c.tc : Thread Cert.DownIdeal.nD Cert.DownIdeal.τ).loc Cert.DownIdeal.main_v1_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_v17) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v3) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v0)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v3) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v3) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_AIn_AInIdeal : Prop :=
  True

def algebraic_AInIdeal_AInRefIdeal [hAInIdeal : Cert.AInIdeal.Facts] [hAInRefIdeal : Cert.AInRefIdeal.Facts] : Prop :=
  ∀ (m : (ℓ : Loc Cert.AInIdeal.nD Cert.AInIdeal.τ Cert.AInIdeal.sig) → Buf (Elt Ideal) ℓ) (g : Dev Cert.AInIdeal.nD → PrngReg)
    (m' : (ℓ : Loc Cert.AInRefIdeal.nD Cert.AInRefIdeal.τ Cert.AInRefIdeal.sig) → Buf (Elt Ideal) ℓ) (g' : Dev Cert.AInRefIdeal.nD → PrngReg), Pre_AInIdeal m →
    (∀ c : Dev Cert.AInIdeal.nD,
      m' ((c.tc : Thread Cert.AInRefIdeal.nD Cert.AInRefIdeal.τ).loc Cert.AInRefIdeal.main_arg0) = m ((c.tc : Thread Cert.AInIdeal.nD Cert.AInIdeal.τ).loc Cert.AInIdeal.main_arg0)
      ∧ m' ((c.tc : Thread Cert.AInRefIdeal.nD Cert.AInRefIdeal.τ).loc Cert.AInRefIdeal.main_arg1) = m ((c.tc : Thread Cert.AInIdeal.nD Cert.AInIdeal.τ).loc Cert.AInIdeal.main_arg1)
      ∧ m' ((c.tc : Thread Cert.AInRefIdeal.nD Cert.AInRefIdeal.τ).loc Cert.AInRefIdeal.main_arg2) = m ((c.tc : Thread Cert.AInIdeal.nD Cert.AInIdeal.τ).loc Cert.AInIdeal.main_arg2)
      ∧ m' ((c.tc : Thread Cert.AInRefIdeal.nD Cert.AInRefIdeal.τ).loc Cert.AInRefIdeal.main_arg3) = m ((c.tc : Thread Cert.AInIdeal.nD Cert.AInIdeal.τ).loc Cert.AInIdeal.main_arg3)
      ∧ m' ((c.tc : Thread Cert.AInRefIdeal.nD Cert.AInRefIdeal.τ).loc Cert.AInRefIdeal.main_arg4) = m ((c.tc : Thread Cert.AInIdeal.nD Cert.AInIdeal.τ).loc Cert.AInIdeal.main_arg4)) →
    ∃ (v0 : (c : Dev Cert.AInIdeal.nD) → Buf (Elt Ideal) ((c.tc : Thread Cert.AInIdeal.nD Cert.AInIdeal.τ).loc Cert.AInIdeal.main_v0_0)) (v1 : (c : Dev Cert.AInIdeal.nD) → Buf (Elt Ideal) ((c.tc : Thread Cert.AInIdeal.nD Cert.AInIdeal.τ).loc Cert.AInIdeal.main_v0_1)) (v2 : (c : Dev Cert.AInIdeal.nD) → Buf (Elt Ideal) ((c.tc : Thread Cert.AInIdeal.nD Cert.AInIdeal.τ).loc Cert.AInIdeal.main_v0_2)) (v3 : (c : Dev Cert.AInIdeal.nD) → Buf (Elt Ideal) ((c.tc : Thread Cert.AInIdeal.nD Cert.AInIdeal.τ).loc Cert.AInIdeal.main_v0_3)),
      θ_run (Cert.AInIdeal.defs (F := Ideal)) (onTc (τ := Cert.AInIdeal.τ) (Cert.AInIdeal.main (F := Ideal))) ⟨m, fun _ => 0, g⟩ (fun r => ∀ c : Dev Cert.AInIdeal.nD,
          r.2.mem ((c.tc : Thread Cert.AInIdeal.nD Cert.AInIdeal.τ).loc Cert.AInIdeal.main_v0_0) = v0 c
          ∧ r.2.mem ((c.tc : Thread Cert.AInIdeal.nD Cert.AInIdeal.τ).loc Cert.AInIdeal.main_v0_1) = v1 c
          ∧ r.2.mem ((c.tc : Thread Cert.AInIdeal.nD Cert.AInIdeal.τ).loc Cert.AInIdeal.main_v0_2) = v2 c
          ∧ r.2.mem ((c.tc : Thread Cert.AInIdeal.nD Cert.AInIdeal.τ).loc Cert.AInIdeal.main_v0_3) = v3 c
          ∧ r.2.mem ((c.tc : Thread Cert.AInIdeal.nD Cert.AInIdeal.τ).loc Cert.AInIdeal.main_arg0) = m ((c.tc : Thread Cert.AInIdeal.nD Cert.AInIdeal.τ).loc Cert.AInIdeal.main_arg0)
          ∧ r.2.mem ((c.tc : Thread Cert.AInIdeal.nD Cert.AInIdeal.τ).loc Cert.AInIdeal.main_arg1) = m ((c.tc : Thread Cert.AInIdeal.nD Cert.AInIdeal.τ).loc Cert.AInIdeal.main_arg1)
          ∧ r.2.mem ((c.tc : Thread Cert.AInIdeal.nD Cert.AInIdeal.τ).loc Cert.AInIdeal.main_arg2) = m ((c.tc : Thread Cert.AInIdeal.nD Cert.AInIdeal.τ).loc Cert.AInIdeal.main_arg2)
          ∧ r.2.mem ((c.tc : Thread Cert.AInIdeal.nD Cert.AInIdeal.τ).loc Cert.AInIdeal.main_arg3) = m ((c.tc : Thread Cert.AInIdeal.nD Cert.AInIdeal.τ).loc Cert.AInIdeal.main_arg3)
          ∧ r.2.mem ((c.tc : Thread Cert.AInIdeal.nD Cert.AInIdeal.τ).loc Cert.AInIdeal.main_arg4) = m ((c.tc : Thread Cert.AInIdeal.nD Cert.AInIdeal.τ).loc Cert.AInIdeal.main_arg4))
      ∧ θ_run (Cert.AInRefIdeal.defs (F := Ideal)) (onTc (τ := Cert.AInRefIdeal.τ) (Cert.AInRefIdeal.main (F := Ideal))) ⟨m', fun _ => 0, g'⟩ (fun r => ∀ c : Dev Cert.AInRefIdeal.nD,
          r.2.mem ((c.tc : Thread Cert.AInRefIdeal.nD Cert.AInRefIdeal.τ).loc Cert.AInRefIdeal.main_v6) = v0 c
          ∧ r.2.mem ((c.tc : Thread Cert.AInRefIdeal.nD Cert.AInRefIdeal.τ).loc Cert.AInRefIdeal.main_v30) = v1 c
          ∧ r.2.mem ((c.tc : Thread Cert.AInRefIdeal.nD Cert.AInRefIdeal.τ).loc Cert.AInRefIdeal.main_v11) = v2 c
          ∧ r.2.mem ((c.tc : Thread Cert.AInRefIdeal.nD Cert.AInRefIdeal.τ).loc Cert.AInRefIdeal.main_v17) = v3 c
          ∧ r.2.mem ((c.tc : Thread Cert.AInRefIdeal.nD Cert.AInRefIdeal.τ).loc Cert.AInRefIdeal.main_arg0) = m' ((c.tc : Thread Cert.AInRefIdeal.nD Cert.AInRefIdeal.τ).loc Cert.AInRefIdeal.main_arg0)
          ∧ r.2.mem ((c.tc : Thread Cert.AInRefIdeal.nD Cert.AInRefIdeal.τ).loc Cert.AInRefIdeal.main_arg1) = m' ((c.tc : Thread Cert.AInRefIdeal.nD Cert.AInRefIdeal.τ).loc Cert.AInRefIdeal.main_arg1)
          ∧ r.2.mem ((c.tc : Thread Cert.AInRefIdeal.nD Cert.AInRefIdeal.τ).loc Cert.AInRefIdeal.main_arg2) = m' ((c.tc : Thread Cert.AInRefIdeal.nD Cert.AInRefIdeal.τ).loc Cert.AInRefIdeal.main_arg2)
          ∧ r.2.mem ((c.tc : Thread Cert.AInRefIdeal.nD Cert.AInRefIdeal.τ).loc Cert.AInRefIdeal.main_arg3) = m' ((c.tc : Thread Cert.AInRefIdeal.nD Cert.AInRefIdeal.τ).loc Cert.AInRefIdeal.main_arg3)
          ∧ r.2.mem ((c.tc : Thread Cert.AInRefIdeal.nD Cert.AInRefIdeal.τ).loc Cert.AInRefIdeal.main_arg4) = m' ((c.tc : Thread Cert.AInRefIdeal.nD Cert.AInRefIdeal.τ).loc Cert.AInRefIdeal.main_arg4))

def preserves_AUp_AUpIdeal : Prop :=
  True

def algebraic_AUpIdeal_AUpRefIdeal [hAUpIdeal : Cert.AUpIdeal.Facts] [hAUpRefIdeal : Cert.AUpRefIdeal.Facts] : Prop :=
  ∀ (m : (ℓ : Loc Cert.AUpIdeal.nD Cert.AUpIdeal.τ Cert.AUpIdeal.sig) → Buf (Elt Ideal) ℓ) (g : Dev Cert.AUpIdeal.nD → PrngReg)
    (m' : (ℓ : Loc Cert.AUpRefIdeal.nD Cert.AUpRefIdeal.τ Cert.AUpRefIdeal.sig) → Buf (Elt Ideal) ℓ) (g' : Dev Cert.AUpRefIdeal.nD → PrngReg), Pre_AUpIdeal m →
    (∀ c : Dev Cert.AUpIdeal.nD,
      m' ((c.tc : Thread Cert.AUpRefIdeal.nD Cert.AUpRefIdeal.τ).loc Cert.AUpRefIdeal.main_arg0) = m ((c.tc : Thread Cert.AUpIdeal.nD Cert.AUpIdeal.τ).loc Cert.AUpIdeal.main_arg0)
      ∧ m' ((c.tc : Thread Cert.AUpRefIdeal.nD Cert.AUpRefIdeal.τ).loc Cert.AUpRefIdeal.main_arg1) = m ((c.tc : Thread Cert.AUpIdeal.nD Cert.AUpIdeal.τ).loc Cert.AUpIdeal.main_arg1)
      ∧ m' ((c.tc : Thread Cert.AUpRefIdeal.nD Cert.AUpRefIdeal.τ).loc Cert.AUpRefIdeal.main_arg2) = m ((c.tc : Thread Cert.AUpIdeal.nD Cert.AUpIdeal.τ).loc Cert.AUpIdeal.main_arg2)
      ∧ m' ((c.tc : Thread Cert.AUpRefIdeal.nD Cert.AUpRefIdeal.τ).loc Cert.AUpRefIdeal.main_arg3) = m ((c.tc : Thread Cert.AUpIdeal.nD Cert.AUpIdeal.τ).loc Cert.AUpIdeal.main_arg3)
      ∧ m' ((c.tc : Thread Cert.AUpRefIdeal.nD Cert.AUpRefIdeal.τ).loc Cert.AUpRefIdeal.main_arg4) = m ((c.tc : Thread Cert.AUpIdeal.nD Cert.AUpIdeal.τ).loc Cert.AUpIdeal.main_arg4)) →
    ∃ (v0 : (c : Dev Cert.AUpIdeal.nD) → Buf (Elt Ideal) ((c.tc : Thread Cert.AUpIdeal.nD Cert.AUpIdeal.τ).loc Cert.AUpIdeal.main_v0_0)) (v1 : (c : Dev Cert.AUpIdeal.nD) → Buf (Elt Ideal) ((c.tc : Thread Cert.AUpIdeal.nD Cert.AUpIdeal.τ).loc Cert.AUpIdeal.main_v0_1)) (v2 : (c : Dev Cert.AUpIdeal.nD) → Buf (Elt Ideal) ((c.tc : Thread Cert.AUpIdeal.nD Cert.AUpIdeal.τ).loc Cert.AUpIdeal.main_v0_2)) (v3 : (c : Dev Cert.AUpIdeal.nD) → Buf (Elt Ideal) ((c.tc : Thread Cert.AUpIdeal.nD Cert.AUpIdeal.τ).loc Cert.AUpIdeal.main_v0_3)),
      θ_run (Cert.AUpIdeal.defs (F := Ideal)) (onTc (τ := Cert.AUpIdeal.τ) (Cert.AUpIdeal.main (F := Ideal))) ⟨m, fun _ => 0, g⟩ (fun r => ∀ c : Dev Cert.AUpIdeal.nD,
          r.2.mem ((c.tc : Thread Cert.AUpIdeal.nD Cert.AUpIdeal.τ).loc Cert.AUpIdeal.main_v0_0) = v0 c
          ∧ r.2.mem ((c.tc : Thread Cert.AUpIdeal.nD Cert.AUpIdeal.τ).loc Cert.AUpIdeal.main_v0_1) = v1 c
          ∧ r.2.mem ((c.tc : Thread Cert.AUpIdeal.nD Cert.AUpIdeal.τ).loc Cert.AUpIdeal.main_v0_2) = v2 c
          ∧ r.2.mem ((c.tc : Thread Cert.AUpIdeal.nD Cert.AUpIdeal.τ).loc Cert.AUpIdeal.main_v0_3) = v3 c
          ∧ r.2.mem ((c.tc : Thread Cert.AUpIdeal.nD Cert.AUpIdeal.τ).loc Cert.AUpIdeal.main_arg0) = m ((c.tc : Thread Cert.AUpIdeal.nD Cert.AUpIdeal.τ).loc Cert.AUpIdeal.main_arg0)
          ∧ r.2.mem ((c.tc : Thread Cert.AUpIdeal.nD Cert.AUpIdeal.τ).loc Cert.AUpIdeal.main_arg1) = m ((c.tc : Thread Cert.AUpIdeal.nD Cert.AUpIdeal.τ).loc Cert.AUpIdeal.main_arg1)
          ∧ r.2.mem ((c.tc : Thread Cert.AUpIdeal.nD Cert.AUpIdeal.τ).loc Cert.AUpIdeal.main_arg2) = m ((c.tc : Thread Cert.AUpIdeal.nD Cert.AUpIdeal.τ).loc Cert.AUpIdeal.main_arg2)
          ∧ r.2.mem ((c.tc : Thread Cert.AUpIdeal.nD Cert.AUpIdeal.τ).loc Cert.AUpIdeal.main_arg3) = m ((c.tc : Thread Cert.AUpIdeal.nD Cert.AUpIdeal.τ).loc Cert.AUpIdeal.main_arg3)
          ∧ r.2.mem ((c.tc : Thread Cert.AUpIdeal.nD Cert.AUpIdeal.τ).loc Cert.AUpIdeal.main_arg4) = m ((c.tc : Thread Cert.AUpIdeal.nD Cert.AUpIdeal.τ).loc Cert.AUpIdeal.main_arg4))
      ∧ θ_run (Cert.AUpRefIdeal.defs (F := Ideal)) (onTc (τ := Cert.AUpRefIdeal.τ) (Cert.AUpRefIdeal.main (F := Ideal))) ⟨m', fun _ => 0, g'⟩ (fun r => ∀ c : Dev Cert.AUpRefIdeal.nD,
          r.2.mem ((c.tc : Thread Cert.AUpRefIdeal.nD Cert.AUpRefIdeal.τ).loc Cert.AUpRefIdeal.main_v6) = v0 c
          ∧ r.2.mem ((c.tc : Thread Cert.AUpRefIdeal.nD Cert.AUpRefIdeal.τ).loc Cert.AUpRefIdeal.main_v30) = v1 c
          ∧ r.2.mem ((c.tc : Thread Cert.AUpRefIdeal.nD Cert.AUpRefIdeal.τ).loc Cert.AUpRefIdeal.main_v11) = v2 c
          ∧ r.2.mem ((c.tc : Thread Cert.AUpRefIdeal.nD Cert.AUpRefIdeal.τ).loc Cert.AUpRefIdeal.main_v17) = v3 c
          ∧ r.2.mem ((c.tc : Thread Cert.AUpRefIdeal.nD Cert.AUpRefIdeal.τ).loc Cert.AUpRefIdeal.main_arg0) = m' ((c.tc : Thread Cert.AUpRefIdeal.nD Cert.AUpRefIdeal.τ).loc Cert.AUpRefIdeal.main_arg0)
          ∧ r.2.mem ((c.tc : Thread Cert.AUpRefIdeal.nD Cert.AUpRefIdeal.τ).loc Cert.AUpRefIdeal.main_arg1) = m' ((c.tc : Thread Cert.AUpRefIdeal.nD Cert.AUpRefIdeal.τ).loc Cert.AUpRefIdeal.main_arg1)
          ∧ r.2.mem ((c.tc : Thread Cert.AUpRefIdeal.nD Cert.AUpRefIdeal.τ).loc Cert.AUpRefIdeal.main_arg2) = m' ((c.tc : Thread Cert.AUpRefIdeal.nD Cert.AUpRefIdeal.τ).loc Cert.AUpRefIdeal.main_arg2)
          ∧ r.2.mem ((c.tc : Thread Cert.AUpRefIdeal.nD Cert.AUpRefIdeal.τ).loc Cert.AUpRefIdeal.main_arg3) = m' ((c.tc : Thread Cert.AUpRefIdeal.nD Cert.AUpRefIdeal.τ).loc Cert.AUpRefIdeal.main_arg3)
          ∧ r.2.mem ((c.tc : Thread Cert.AUpRefIdeal.nD Cert.AUpRefIdeal.τ).loc Cert.AUpRefIdeal.main_arg4) = m' ((c.tc : Thread Cert.AUpRefIdeal.nD Cert.AUpRefIdeal.τ).loc Cert.AUpRefIdeal.main_arg4))

def preserves_ADown_ADownIdeal : Prop :=
  True

def algebraic_ADownIdeal_ADownRefIdeal [hADownIdeal : Cert.ADownIdeal.Facts] [hADownRefIdeal : Cert.ADownRefIdeal.Facts] : Prop :=
  ∀ (m : (ℓ : Loc Cert.ADownIdeal.nD Cert.ADownIdeal.τ Cert.ADownIdeal.sig) → Buf (Elt Ideal) ℓ) (g : Dev Cert.ADownIdeal.nD → PrngReg)
    (m' : (ℓ : Loc Cert.ADownRefIdeal.nD Cert.ADownRefIdeal.τ Cert.ADownRefIdeal.sig) → Buf (Elt Ideal) ℓ) (g' : Dev Cert.ADownRefIdeal.nD → PrngReg), Pre_ADownIdeal m →
    (∀ c : Dev Cert.ADownIdeal.nD,
      m' ((c.tc : Thread Cert.ADownRefIdeal.nD Cert.ADownRefIdeal.τ).loc Cert.ADownRefIdeal.main_arg0) = m ((c.tc : Thread Cert.ADownIdeal.nD Cert.ADownIdeal.τ).loc Cert.ADownIdeal.main_arg0)
      ∧ m' ((c.tc : Thread Cert.ADownRefIdeal.nD Cert.ADownRefIdeal.τ).loc Cert.ADownRefIdeal.main_arg1) = m ((c.tc : Thread Cert.ADownIdeal.nD Cert.ADownIdeal.τ).loc Cert.ADownIdeal.main_arg1)
      ∧ m' ((c.tc : Thread Cert.ADownRefIdeal.nD Cert.ADownRefIdeal.τ).loc Cert.ADownRefIdeal.main_arg2) = m ((c.tc : Thread Cert.ADownIdeal.nD Cert.ADownIdeal.τ).loc Cert.ADownIdeal.main_arg2)
      ∧ m' ((c.tc : Thread Cert.ADownRefIdeal.nD Cert.ADownRefIdeal.τ).loc Cert.ADownRefIdeal.main_arg3) = m ((c.tc : Thread Cert.ADownIdeal.nD Cert.ADownIdeal.τ).loc Cert.ADownIdeal.main_arg3)
      ∧ m' ((c.tc : Thread Cert.ADownRefIdeal.nD Cert.ADownRefIdeal.τ).loc Cert.ADownRefIdeal.main_arg4) = m ((c.tc : Thread Cert.ADownIdeal.nD Cert.ADownIdeal.τ).loc Cert.ADownIdeal.main_arg4)) →
    ∃ (v0 : (c : Dev Cert.ADownIdeal.nD) → Buf (Elt Ideal) ((c.tc : Thread Cert.ADownIdeal.nD Cert.ADownIdeal.τ).loc Cert.ADownIdeal.main_v0_0)) (v1 : (c : Dev Cert.ADownIdeal.nD) → Buf (Elt Ideal) ((c.tc : Thread Cert.ADownIdeal.nD Cert.ADownIdeal.τ).loc Cert.ADownIdeal.main_v0_1)) (v2 : (c : Dev Cert.ADownIdeal.nD) → Buf (Elt Ideal) ((c.tc : Thread Cert.ADownIdeal.nD Cert.ADownIdeal.τ).loc Cert.ADownIdeal.main_v0_2)) (v3 : (c : Dev Cert.ADownIdeal.nD) → Buf (Elt Ideal) ((c.tc : Thread Cert.ADownIdeal.nD Cert.ADownIdeal.τ).loc Cert.ADownIdeal.main_v0_3)),
      θ_run (Cert.ADownIdeal.defs (F := Ideal)) (onTc (τ := Cert.ADownIdeal.τ) (Cert.ADownIdeal.main (F := Ideal))) ⟨m, fun _ => 0, g⟩ (fun r => ∀ c : Dev Cert.ADownIdeal.nD,
          r.2.mem ((c.tc : Thread Cert.ADownIdeal.nD Cert.ADownIdeal.τ).loc Cert.ADownIdeal.main_v0_0) = v0 c
          ∧ r.2.mem ((c.tc : Thread Cert.ADownIdeal.nD Cert.ADownIdeal.τ).loc Cert.ADownIdeal.main_v0_1) = v1 c
          ∧ r.2.mem ((c.tc : Thread Cert.ADownIdeal.nD Cert.ADownIdeal.τ).loc Cert.ADownIdeal.main_v0_2) = v2 c
          ∧ r.2.mem ((c.tc : Thread Cert.ADownIdeal.nD Cert.ADownIdeal.τ).loc Cert.ADownIdeal.main_v0_3) = v3 c
          ∧ r.2.mem ((c.tc : Thread Cert.ADownIdeal.nD Cert.ADownIdeal.τ).loc Cert.ADownIdeal.main_arg0) = m ((c.tc : Thread Cert.ADownIdeal.nD Cert.ADownIdeal.τ).loc Cert.ADownIdeal.main_arg0)
          ∧ r.2.mem ((c.tc : Thread Cert.ADownIdeal.nD Cert.ADownIdeal.τ).loc Cert.ADownIdeal.main_arg1) = m ((c.tc : Thread Cert.ADownIdeal.nD Cert.ADownIdeal.τ).loc Cert.ADownIdeal.main_arg1)
          ∧ r.2.mem ((c.tc : Thread Cert.ADownIdeal.nD Cert.ADownIdeal.τ).loc Cert.ADownIdeal.main_arg2) = m ((c.tc : Thread Cert.ADownIdeal.nD Cert.ADownIdeal.τ).loc Cert.ADownIdeal.main_arg2)
          ∧ r.2.mem ((c.tc : Thread Cert.ADownIdeal.nD Cert.ADownIdeal.τ).loc Cert.ADownIdeal.main_arg3) = m ((c.tc : Thread Cert.ADownIdeal.nD Cert.ADownIdeal.τ).loc Cert.ADownIdeal.main_arg3)
          ∧ r.2.mem ((c.tc : Thread Cert.ADownIdeal.nD Cert.ADownIdeal.τ).loc Cert.ADownIdeal.main_arg4) = m ((c.tc : Thread Cert.ADownIdeal.nD Cert.ADownIdeal.τ).loc Cert.ADownIdeal.main_arg4))
      ∧ θ_run (Cert.ADownRefIdeal.defs (F := Ideal)) (onTc (τ := Cert.ADownRefIdeal.τ) (Cert.ADownRefIdeal.main (F := Ideal))) ⟨m', fun _ => 0, g'⟩ (fun r => ∀ c : Dev Cert.ADownRefIdeal.nD,
          r.2.mem ((c.tc : Thread Cert.ADownRefIdeal.nD Cert.ADownRefIdeal.τ).loc Cert.ADownRefIdeal.main_v6) = v0 c
          ∧ r.2.mem ((c.tc : Thread Cert.ADownRefIdeal.nD Cert.ADownRefIdeal.τ).loc Cert.ADownRefIdeal.main_v30) = v1 c
          ∧ r.2.mem ((c.tc : Thread Cert.ADownRefIdeal.nD Cert.ADownRefIdeal.τ).loc Cert.ADownRefIdeal.main_v11) = v2 c
          ∧ r.2.mem ((c.tc : Thread Cert.ADownRefIdeal.nD Cert.ADownRefIdeal.τ).loc Cert.ADownRefIdeal.main_v17) = v3 c
          ∧ r.2.mem ((c.tc : Thread Cert.ADownRefIdeal.nD Cert.ADownRefIdeal.τ).loc Cert.ADownRefIdeal.main_arg0) = m' ((c.tc : Thread Cert.ADownRefIdeal.nD Cert.ADownRefIdeal.τ).loc Cert.ADownRefIdeal.main_arg0)
          ∧ r.2.mem ((c.tc : Thread Cert.ADownRefIdeal.nD Cert.ADownRefIdeal.τ).loc Cert.ADownRefIdeal.main_arg1) = m' ((c.tc : Thread Cert.ADownRefIdeal.nD Cert.ADownRefIdeal.τ).loc Cert.ADownRefIdeal.main_arg1)
          ∧ r.2.mem ((c.tc : Thread Cert.ADownRefIdeal.nD Cert.ADownRefIdeal.τ).loc Cert.ADownRefIdeal.main_arg2) = m' ((c.tc : Thread Cert.ADownRefIdeal.nD Cert.ADownRefIdeal.τ).loc Cert.ADownRefIdeal.main_arg2)
          ∧ r.2.mem ((c.tc : Thread Cert.ADownRefIdeal.nD Cert.ADownRefIdeal.τ).loc Cert.ADownRefIdeal.main_arg3) = m' ((c.tc : Thread Cert.ADownRefIdeal.nD Cert.ADownRefIdeal.τ).loc Cert.ADownRefIdeal.main_arg3)
          ∧ r.2.mem ((c.tc : Thread Cert.ADownRefIdeal.nD Cert.ADownRefIdeal.τ).loc Cert.ADownRefIdeal.main_arg4) = m' ((c.tc : Thread Cert.ADownRefIdeal.nD Cert.ADownRefIdeal.τ).loc Cert.ADownRefIdeal.main_arg4))

def preserves_AOut_AOutIdeal : Prop :=
  True

def algebraic_AOutIdeal_AOutRefIdeal [hAOutIdeal : Cert.AOutIdeal.Facts] [hAOutRefIdeal : Cert.AOutRefIdeal.Facts] : Prop :=
  ∀ (m : (ℓ : Loc Cert.AOutIdeal.nD Cert.AOutIdeal.τ Cert.AOutIdeal.sig) → Buf (Elt Ideal) ℓ) (g : Dev Cert.AOutIdeal.nD → PrngReg)
    (m' : (ℓ : Loc Cert.AOutRefIdeal.nD Cert.AOutRefIdeal.τ Cert.AOutRefIdeal.sig) → Buf (Elt Ideal) ℓ) (g' : Dev Cert.AOutRefIdeal.nD → PrngReg), Pre_AOutIdeal m →
    (∀ c : Dev Cert.AOutIdeal.nD,
      m' ((c.tc : Thread Cert.AOutRefIdeal.nD Cert.AOutRefIdeal.τ).loc Cert.AOutRefIdeal.main_arg0) = m ((c.tc : Thread Cert.AOutIdeal.nD Cert.AOutIdeal.τ).loc Cert.AOutIdeal.main_arg0)
      ∧ m' ((c.tc : Thread Cert.AOutRefIdeal.nD Cert.AOutRefIdeal.τ).loc Cert.AOutRefIdeal.main_arg1) = m ((c.tc : Thread Cert.AOutIdeal.nD Cert.AOutIdeal.τ).loc Cert.AOutIdeal.main_arg1)
      ∧ m' ((c.tc : Thread Cert.AOutRefIdeal.nD Cert.AOutRefIdeal.τ).loc Cert.AOutRefIdeal.main_arg2) = m ((c.tc : Thread Cert.AOutIdeal.nD Cert.AOutIdeal.τ).loc Cert.AOutIdeal.main_arg2)
      ∧ m' ((c.tc : Thread Cert.AOutRefIdeal.nD Cert.AOutRefIdeal.τ).loc Cert.AOutRefIdeal.main_arg3) = m ((c.tc : Thread Cert.AOutIdeal.nD Cert.AOutIdeal.τ).loc Cert.AOutIdeal.main_arg3)
      ∧ m' ((c.tc : Thread Cert.AOutRefIdeal.nD Cert.AOutRefIdeal.τ).loc Cert.AOutRefIdeal.main_arg4) = m ((c.tc : Thread Cert.AOutIdeal.nD Cert.AOutIdeal.τ).loc Cert.AOutIdeal.main_arg4)) →
    ∃ (v0 : (c : Dev Cert.AOutIdeal.nD) → Buf (Elt Ideal) ((c.tc : Thread Cert.AOutIdeal.nD Cert.AOutIdeal.τ).loc Cert.AOutIdeal.main_v0_0)) (v1 : (c : Dev Cert.AOutIdeal.nD) → Buf (Elt Ideal) ((c.tc : Thread Cert.AOutIdeal.nD Cert.AOutIdeal.τ).loc Cert.AOutIdeal.main_v0_1)) (v2 : (c : Dev Cert.AOutIdeal.nD) → Buf (Elt Ideal) ((c.tc : Thread Cert.AOutIdeal.nD Cert.AOutIdeal.τ).loc Cert.AOutIdeal.main_v0_2)) (v3 : (c : Dev Cert.AOutIdeal.nD) → Buf (Elt Ideal) ((c.tc : Thread Cert.AOutIdeal.nD Cert.AOutIdeal.τ).loc Cert.AOutIdeal.main_v0_3)),
      θ_run (Cert.AOutIdeal.defs (F := Ideal)) (onTc (τ := Cert.AOutIdeal.τ) (Cert.AOutIdeal.main (F := Ideal))) ⟨m, fun _ => 0, g⟩ (fun r => ∀ c : Dev Cert.AOutIdeal.nD,
          r.2.mem ((c.tc : Thread Cert.AOutIdeal.nD Cert.AOutIdeal.τ).loc Cert.AOutIdeal.main_v0_0) = v0 c
          ∧ r.2.mem ((c.tc : Thread Cert.AOutIdeal.nD Cert.AOutIdeal.τ).loc Cert.AOutIdeal.main_v0_1) = v1 c
          ∧ r.2.mem ((c.tc : Thread Cert.AOutIdeal.nD Cert.AOutIdeal.τ).loc Cert.AOutIdeal.main_v0_2) = v2 c
          ∧ r.2.mem ((c.tc : Thread Cert.AOutIdeal.nD Cert.AOutIdeal.τ).loc Cert.AOutIdeal.main_v0_3) = v3 c
          ∧ r.2.mem ((c.tc : Thread Cert.AOutIdeal.nD Cert.AOutIdeal.τ).loc Cert.AOutIdeal.main_arg0) = m ((c.tc : Thread Cert.AOutIdeal.nD Cert.AOutIdeal.τ).loc Cert.AOutIdeal.main_arg0)
          ∧ r.2.mem ((c.tc : Thread Cert.AOutIdeal.nD Cert.AOutIdeal.τ).loc Cert.AOutIdeal.main_arg1) = m ((c.tc : Thread Cert.AOutIdeal.nD Cert.AOutIdeal.τ).loc Cert.AOutIdeal.main_arg1)
          ∧ r.2.mem ((c.tc : Thread Cert.AOutIdeal.nD Cert.AOutIdeal.τ).loc Cert.AOutIdeal.main_arg2) = m ((c.tc : Thread Cert.AOutIdeal.nD Cert.AOutIdeal.τ).loc Cert.AOutIdeal.main_arg2)
          ∧ r.2.mem ((c.tc : Thread Cert.AOutIdeal.nD Cert.AOutIdeal.τ).loc Cert.AOutIdeal.main_arg3) = m ((c.tc : Thread Cert.AOutIdeal.nD Cert.AOutIdeal.τ).loc Cert.AOutIdeal.main_arg3)
          ∧ r.2.mem ((c.tc : Thread Cert.AOutIdeal.nD Cert.AOutIdeal.τ).loc Cert.AOutIdeal.main_arg4) = m ((c.tc : Thread Cert.AOutIdeal.nD Cert.AOutIdeal.τ).loc Cert.AOutIdeal.main_arg4))
      ∧ θ_run (Cert.AOutRefIdeal.defs (F := Ideal)) (onTc (τ := Cert.AOutRefIdeal.τ) (Cert.AOutRefIdeal.main (F := Ideal))) ⟨m', fun _ => 0, g'⟩ (fun r => ∀ c : Dev Cert.AOutRefIdeal.nD,
          r.2.mem ((c.tc : Thread Cert.AOutRefIdeal.nD Cert.AOutRefIdeal.τ).loc Cert.AOutRefIdeal.main_v6) = v0 c
          ∧ r.2.mem ((c.tc : Thread Cert.AOutRefIdeal.nD Cert.AOutRefIdeal.τ).loc Cert.AOutRefIdeal.main_v30) = v1 c
          ∧ r.2.mem ((c.tc : Thread Cert.AOutRefIdeal.nD Cert.AOutRefIdeal.τ).loc Cert.AOutRefIdeal.main_v11) = v2 c
          ∧ r.2.mem ((c.tc : Thread Cert.AOutRefIdeal.nD Cert.AOutRefIdeal.τ).loc Cert.AOutRefIdeal.main_v17) = v3 c
          ∧ r.2.mem ((c.tc : Thread Cert.AOutRefIdeal.nD Cert.AOutRefIdeal.τ).loc Cert.AOutRefIdeal.main_arg0) = m' ((c.tc : Thread Cert.AOutRefIdeal.nD Cert.AOutRefIdeal.τ).loc Cert.AOutRefIdeal.main_arg0)
          ∧ r.2.mem ((c.tc : Thread Cert.AOutRefIdeal.nD Cert.AOutRefIdeal.τ).loc Cert.AOutRefIdeal.main_arg1) = m' ((c.tc : Thread Cert.AOutRefIdeal.nD Cert.AOutRefIdeal.τ).loc Cert.AOutRefIdeal.main_arg1)
          ∧ r.2.mem ((c.tc : Thread Cert.AOutRefIdeal.nD Cert.AOutRefIdeal.τ).loc Cert.AOutRefIdeal.main_arg2) = m' ((c.tc : Thread Cert.AOutRefIdeal.nD Cert.AOutRefIdeal.τ).loc Cert.AOutRefIdeal.main_arg2)
          ∧ r.2.mem ((c.tc : Thread Cert.AOutRefIdeal.nD Cert.AOutRefIdeal.τ).loc Cert.AOutRefIdeal.main_arg3) = m' ((c.tc : Thread Cert.AOutRefIdeal.nD Cert.AOutRefIdeal.τ).loc Cert.AOutRefIdeal.main_arg3)
          ∧ r.2.mem ((c.tc : Thread Cert.AOutRefIdeal.nD Cert.AOutRefIdeal.τ).loc Cert.AOutRefIdeal.main_arg4) = m' ((c.tc : Thread Cert.AOutRefIdeal.nD Cert.AOutRefIdeal.τ).loc Cert.AOutRefIdeal.main_arg4))

def preserves_AGate_AGateIdeal : Prop :=
  True

def algebraic_AGateIdeal_AGateRefIdeal [hAGateIdeal : Cert.AGateIdeal.Facts] [hAGateRefIdeal : Cert.AGateRefIdeal.Facts] : Prop :=
  ∀ (m : (ℓ : Loc Cert.AGateIdeal.nD Cert.AGateIdeal.τ Cert.AGateIdeal.sig) → Buf (Elt Ideal) ℓ) (g : Dev Cert.AGateIdeal.nD → PrngReg)
    (m' : (ℓ : Loc Cert.AGateRefIdeal.nD Cert.AGateRefIdeal.τ Cert.AGateRefIdeal.sig) → Buf (Elt Ideal) ℓ) (g' : Dev Cert.AGateRefIdeal.nD → PrngReg), Pre_AGateIdeal m →
    (∀ c : Dev Cert.AGateIdeal.nD,
      m' ((c.tc : Thread Cert.AGateRefIdeal.nD Cert.AGateRefIdeal.τ).loc Cert.AGateRefIdeal.main_arg0) = m ((c.tc : Thread Cert.AGateIdeal.nD Cert.AGateIdeal.τ).loc Cert.AGateIdeal.main_arg0)
      ∧ m' ((c.tc : Thread Cert.AGateRefIdeal.nD Cert.AGateRefIdeal.τ).loc Cert.AGateRefIdeal.main_arg1) = m ((c.tc : Thread Cert.AGateIdeal.nD Cert.AGateIdeal.τ).loc Cert.AGateIdeal.main_arg1)
      ∧ m' ((c.tc : Thread Cert.AGateRefIdeal.nD Cert.AGateRefIdeal.τ).loc Cert.AGateRefIdeal.main_arg2) = m ((c.tc : Thread Cert.AGateIdeal.nD Cert.AGateIdeal.τ).loc Cert.AGateIdeal.main_arg2)
      ∧ m' ((c.tc : Thread Cert.AGateRefIdeal.nD Cert.AGateRefIdeal.τ).loc Cert.AGateRefIdeal.main_arg3) = m ((c.tc : Thread Cert.AGateIdeal.nD Cert.AGateIdeal.τ).loc Cert.AGateIdeal.main_arg3)
      ∧ m' ((c.tc : Thread Cert.AGateRefIdeal.nD Cert.AGateRefIdeal.τ).loc Cert.AGateRefIdeal.main_arg4) = m ((c.tc : Thread Cert.AGateIdeal.nD Cert.AGateIdeal.τ).loc Cert.AGateIdeal.main_arg4)) →
    ∃ (v0 : (c : Dev Cert.AGateIdeal.nD) → Buf (Elt Ideal) ((c.tc : Thread Cert.AGateIdeal.nD Cert.AGateIdeal.τ).loc Cert.AGateIdeal.main_v0_0)) (v1 : (c : Dev Cert.AGateIdeal.nD) → Buf (Elt Ideal) ((c.tc : Thread Cert.AGateIdeal.nD Cert.AGateIdeal.τ).loc Cert.AGateIdeal.main_v0_1)) (v2 : (c : Dev Cert.AGateIdeal.nD) → Buf (Elt Ideal) ((c.tc : Thread Cert.AGateIdeal.nD Cert.AGateIdeal.τ).loc Cert.AGateIdeal.main_v0_2)) (v3 : (c : Dev Cert.AGateIdeal.nD) → Buf (Elt Ideal) ((c.tc : Thread Cert.AGateIdeal.nD Cert.AGateIdeal.τ).loc Cert.AGateIdeal.main_v0_3)),
      θ_run (Cert.AGateIdeal.defs (F := Ideal)) (onTc (τ := Cert.AGateIdeal.τ) (Cert.AGateIdeal.main (F := Ideal))) ⟨m, fun _ => 0, g⟩ (fun r => ∀ c : Dev Cert.AGateIdeal.nD,
          r.2.mem ((c.tc : Thread Cert.AGateIdeal.nD Cert.AGateIdeal.τ).loc Cert.AGateIdeal.main_v0_0) = v0 c
          ∧ r.2.mem ((c.tc : Thread Cert.AGateIdeal.nD Cert.AGateIdeal.τ).loc Cert.AGateIdeal.main_v0_1) = v1 c
          ∧ r.2.mem ((c.tc : Thread Cert.AGateIdeal.nD Cert.AGateIdeal.τ).loc Cert.AGateIdeal.main_v0_2) = v2 c
          ∧ r.2.mem ((c.tc : Thread Cert.AGateIdeal.nD Cert.AGateIdeal.τ).loc Cert.AGateIdeal.main_v0_3) = v3 c
          ∧ r.2.mem ((c.tc : Thread Cert.AGateIdeal.nD Cert.AGateIdeal.τ).loc Cert.AGateIdeal.main_arg0) = m ((c.tc : Thread Cert.AGateIdeal.nD Cert.AGateIdeal.τ).loc Cert.AGateIdeal.main_arg0)
          ∧ r.2.mem ((c.tc : Thread Cert.AGateIdeal.nD Cert.AGateIdeal.τ).loc Cert.AGateIdeal.main_arg1) = m ((c.tc : Thread Cert.AGateIdeal.nD Cert.AGateIdeal.τ).loc Cert.AGateIdeal.main_arg1)
          ∧ r.2.mem ((c.tc : Thread Cert.AGateIdeal.nD Cert.AGateIdeal.τ).loc Cert.AGateIdeal.main_arg2) = m ((c.tc : Thread Cert.AGateIdeal.nD Cert.AGateIdeal.τ).loc Cert.AGateIdeal.main_arg2)
          ∧ r.2.mem ((c.tc : Thread Cert.AGateIdeal.nD Cert.AGateIdeal.τ).loc Cert.AGateIdeal.main_arg3) = m ((c.tc : Thread Cert.AGateIdeal.nD Cert.AGateIdeal.τ).loc Cert.AGateIdeal.main_arg3)
          ∧ r.2.mem ((c.tc : Thread Cert.AGateIdeal.nD Cert.AGateIdeal.τ).loc Cert.AGateIdeal.main_arg4) = m ((c.tc : Thread Cert.AGateIdeal.nD Cert.AGateIdeal.τ).loc Cert.AGateIdeal.main_arg4))
      ∧ θ_run (Cert.AGateRefIdeal.defs (F := Ideal)) (onTc (τ := Cert.AGateRefIdeal.τ) (Cert.AGateRefIdeal.main (F := Ideal))) ⟨m', fun _ => 0, g'⟩ (fun r => ∀ c : Dev Cert.AGateRefIdeal.nD,
          r.2.mem ((c.tc : Thread Cert.AGateRefIdeal.nD Cert.AGateRefIdeal.τ).loc Cert.AGateRefIdeal.main_v6) = v0 c
          ∧ r.2.mem ((c.tc : Thread Cert.AGateRefIdeal.nD Cert.AGateRefIdeal.τ).loc Cert.AGateRefIdeal.main_v30) = v1 c
          ∧ r.2.mem ((c.tc : Thread Cert.AGateRefIdeal.nD Cert.AGateRefIdeal.τ).loc Cert.AGateRefIdeal.main_v11) = v2 c
          ∧ r.2.mem ((c.tc : Thread Cert.AGateRefIdeal.nD Cert.AGateRefIdeal.τ).loc Cert.AGateRefIdeal.main_v17) = v3 c
          ∧ r.2.mem ((c.tc : Thread Cert.AGateRefIdeal.nD Cert.AGateRefIdeal.τ).loc Cert.AGateRefIdeal.main_arg0) = m' ((c.tc : Thread Cert.AGateRefIdeal.nD Cert.AGateRefIdeal.τ).loc Cert.AGateRefIdeal.main_arg0)
          ∧ r.2.mem ((c.tc : Thread Cert.AGateRefIdeal.nD Cert.AGateRefIdeal.τ).loc Cert.AGateRefIdeal.main_arg1) = m' ((c.tc : Thread Cert.AGateRefIdeal.nD Cert.AGateRefIdeal.τ).loc Cert.AGateRefIdeal.main_arg1)
          ∧ r.2.mem ((c.tc : Thread Cert.AGateRefIdeal.nD Cert.AGateRefIdeal.τ).loc Cert.AGateRefIdeal.main_arg2) = m' ((c.tc : Thread Cert.AGateRefIdeal.nD Cert.AGateRefIdeal.τ).loc Cert.AGateRefIdeal.main_arg2)
          ∧ r.2.mem ((c.tc : Thread Cert.AGateRefIdeal.nD Cert.AGateRefIdeal.τ).loc Cert.AGateRefIdeal.main_arg3) = m' ((c.tc : Thread Cert.AGateRefIdeal.nD Cert.AGateRefIdeal.τ).loc Cert.AGateRefIdeal.main_arg3)
          ∧ r.2.mem ((c.tc : Thread Cert.AGateRefIdeal.nD Cert.AGateRefIdeal.τ).loc Cert.AGateRefIdeal.main_arg4) = m' ((c.tc : Thread Cert.AGateRefIdeal.nD Cert.AGateRefIdeal.τ).loc Cert.AGateRefIdeal.main_arg4))

def preserves_AProj_AProjIdeal : Prop :=
  True

def algebraic_AProjIdeal_AProjRefIdeal [hAProjIdeal : Cert.AProjIdeal.Facts] [hAProjRefIdeal : Cert.AProjRefIdeal.Facts] : Prop :=
  ∀ (m : (ℓ : Loc Cert.AProjIdeal.nD Cert.AProjIdeal.τ Cert.AProjIdeal.sig) → Buf (Elt Ideal) ℓ) (g : Dev Cert.AProjIdeal.nD → PrngReg)
    (m' : (ℓ : Loc Cert.AProjRefIdeal.nD Cert.AProjRefIdeal.τ Cert.AProjRefIdeal.sig) → Buf (Elt Ideal) ℓ) (g' : Dev Cert.AProjRefIdeal.nD → PrngReg), Pre_AProjIdeal m →
    (∀ c : Dev Cert.AProjIdeal.nD,
      m' ((c.tc : Thread Cert.AProjRefIdeal.nD Cert.AProjRefIdeal.τ).loc Cert.AProjRefIdeal.main_arg0) = m ((c.tc : Thread Cert.AProjIdeal.nD Cert.AProjIdeal.τ).loc Cert.AProjIdeal.main_arg0)
      ∧ m' ((c.tc : Thread Cert.AProjRefIdeal.nD Cert.AProjRefIdeal.τ).loc Cert.AProjRefIdeal.main_arg1) = m ((c.tc : Thread Cert.AProjIdeal.nD Cert.AProjIdeal.τ).loc Cert.AProjIdeal.main_arg1)
      ∧ m' ((c.tc : Thread Cert.AProjRefIdeal.nD Cert.AProjRefIdeal.τ).loc Cert.AProjRefIdeal.main_arg2) = m ((c.tc : Thread Cert.AProjIdeal.nD Cert.AProjIdeal.τ).loc Cert.AProjIdeal.main_arg2)
      ∧ m' ((c.tc : Thread Cert.AProjRefIdeal.nD Cert.AProjRefIdeal.τ).loc Cert.AProjRefIdeal.main_arg3) = m ((c.tc : Thread Cert.AProjIdeal.nD Cert.AProjIdeal.τ).loc Cert.AProjIdeal.main_arg3)
      ∧ m' ((c.tc : Thread Cert.AProjRefIdeal.nD Cert.AProjRefIdeal.τ).loc Cert.AProjRefIdeal.main_arg4) = m ((c.tc : Thread Cert.AProjIdeal.nD Cert.AProjIdeal.τ).loc Cert.AProjIdeal.main_arg4)) →
    ∃ (v0 : (c : Dev Cert.AProjIdeal.nD) → Buf (Elt Ideal) ((c.tc : Thread Cert.AProjIdeal.nD Cert.AProjIdeal.τ).loc Cert.AProjIdeal.main_v0_0)) (v1 : (c : Dev Cert.AProjIdeal.nD) → Buf (Elt Ideal) ((c.tc : Thread Cert.AProjIdeal.nD Cert.AProjIdeal.τ).loc Cert.AProjIdeal.main_v0_1)) (v2 : (c : Dev Cert.AProjIdeal.nD) → Buf (Elt Ideal) ((c.tc : Thread Cert.AProjIdeal.nD Cert.AProjIdeal.τ).loc Cert.AProjIdeal.main_v0_2)) (v3 : (c : Dev Cert.AProjIdeal.nD) → Buf (Elt Ideal) ((c.tc : Thread Cert.AProjIdeal.nD Cert.AProjIdeal.τ).loc Cert.AProjIdeal.main_v0_3)),
      θ_run (Cert.AProjIdeal.defs (F := Ideal)) (onTc (τ := Cert.AProjIdeal.τ) (Cert.AProjIdeal.main (F := Ideal))) ⟨m, fun _ => 0, g⟩ (fun r => ∀ c : Dev Cert.AProjIdeal.nD,
          r.2.mem ((c.tc : Thread Cert.AProjIdeal.nD Cert.AProjIdeal.τ).loc Cert.AProjIdeal.main_v0_0) = v0 c
          ∧ r.2.mem ((c.tc : Thread Cert.AProjIdeal.nD Cert.AProjIdeal.τ).loc Cert.AProjIdeal.main_v0_1) = v1 c
          ∧ r.2.mem ((c.tc : Thread Cert.AProjIdeal.nD Cert.AProjIdeal.τ).loc Cert.AProjIdeal.main_v0_2) = v2 c
          ∧ r.2.mem ((c.tc : Thread Cert.AProjIdeal.nD Cert.AProjIdeal.τ).loc Cert.AProjIdeal.main_v0_3) = v3 c
          ∧ r.2.mem ((c.tc : Thread Cert.AProjIdeal.nD Cert.AProjIdeal.τ).loc Cert.AProjIdeal.main_arg0) = m ((c.tc : Thread Cert.AProjIdeal.nD Cert.AProjIdeal.τ).loc Cert.AProjIdeal.main_arg0)
          ∧ r.2.mem ((c.tc : Thread Cert.AProjIdeal.nD Cert.AProjIdeal.τ).loc Cert.AProjIdeal.main_arg1) = m ((c.tc : Thread Cert.AProjIdeal.nD Cert.AProjIdeal.τ).loc Cert.AProjIdeal.main_arg1)
          ∧ r.2.mem ((c.tc : Thread Cert.AProjIdeal.nD Cert.AProjIdeal.τ).loc Cert.AProjIdeal.main_arg2) = m ((c.tc : Thread Cert.AProjIdeal.nD Cert.AProjIdeal.τ).loc Cert.AProjIdeal.main_arg2)
          ∧ r.2.mem ((c.tc : Thread Cert.AProjIdeal.nD Cert.AProjIdeal.τ).loc Cert.AProjIdeal.main_arg3) = m ((c.tc : Thread Cert.AProjIdeal.nD Cert.AProjIdeal.τ).loc Cert.AProjIdeal.main_arg3)
          ∧ r.2.mem ((c.tc : Thread Cert.AProjIdeal.nD Cert.AProjIdeal.τ).loc Cert.AProjIdeal.main_arg4) = m ((c.tc : Thread Cert.AProjIdeal.nD Cert.AProjIdeal.τ).loc Cert.AProjIdeal.main_arg4))
      ∧ θ_run (Cert.AProjRefIdeal.defs (F := Ideal)) (onTc (τ := Cert.AProjRefIdeal.τ) (Cert.AProjRefIdeal.main (F := Ideal))) ⟨m', fun _ => 0, g'⟩ (fun r => ∀ c : Dev Cert.AProjRefIdeal.nD,
          r.2.mem ((c.tc : Thread Cert.AProjRefIdeal.nD Cert.AProjRefIdeal.τ).loc Cert.AProjRefIdeal.main_v6) = v0 c
          ∧ r.2.mem ((c.tc : Thread Cert.AProjRefIdeal.nD Cert.AProjRefIdeal.τ).loc Cert.AProjRefIdeal.main_v30) = v1 c
          ∧ r.2.mem ((c.tc : Thread Cert.AProjRefIdeal.nD Cert.AProjRefIdeal.τ).loc Cert.AProjRefIdeal.main_v11) = v2 c
          ∧ r.2.mem ((c.tc : Thread Cert.AProjRefIdeal.nD Cert.AProjRefIdeal.τ).loc Cert.AProjRefIdeal.main_v17) = v3 c
          ∧ r.2.mem ((c.tc : Thread Cert.AProjRefIdeal.nD Cert.AProjRefIdeal.τ).loc Cert.AProjRefIdeal.main_arg0) = m' ((c.tc : Thread Cert.AProjRefIdeal.nD Cert.AProjRefIdeal.τ).loc Cert.AProjRefIdeal.main_arg0)
          ∧ r.2.mem ((c.tc : Thread Cert.AProjRefIdeal.nD Cert.AProjRefIdeal.τ).loc Cert.AProjRefIdeal.main_arg1) = m' ((c.tc : Thread Cert.AProjRefIdeal.nD Cert.AProjRefIdeal.τ).loc Cert.AProjRefIdeal.main_arg1)
          ∧ r.2.mem ((c.tc : Thread Cert.AProjRefIdeal.nD Cert.AProjRefIdeal.τ).loc Cert.AProjRefIdeal.main_arg2) = m' ((c.tc : Thread Cert.AProjRefIdeal.nD Cert.AProjRefIdeal.τ).loc Cert.AProjRefIdeal.main_arg2)
          ∧ r.2.mem ((c.tc : Thread Cert.AProjRefIdeal.nD Cert.AProjRefIdeal.τ).loc Cert.AProjRefIdeal.main_arg3) = m' ((c.tc : Thread Cert.AProjRefIdeal.nD Cert.AProjRefIdeal.τ).loc Cert.AProjRefIdeal.main_arg3)
          ∧ r.2.mem ((c.tc : Thread Cert.AProjRefIdeal.nD Cert.AProjRefIdeal.τ).loc Cert.AProjRefIdeal.main_arg4) = m' ((c.tc : Thread Cert.AProjRefIdeal.nD Cert.AProjRefIdeal.τ).loc Cert.AProjRefIdeal.main_arg4))

def preserves_AGlu_AGluIdeal : Prop :=
  True

def algebraic_AGluIdeal_AGluRefIdeal [hAGluIdeal : Cert.AGluIdeal.Facts] [hAGluRefIdeal : Cert.AGluRefIdeal.Facts] : Prop :=
  ∀ (m : (ℓ : Loc Cert.AGluIdeal.nD Cert.AGluIdeal.τ Cert.AGluIdeal.sig) → Buf (Elt Ideal) ℓ) (g : Dev Cert.AGluIdeal.nD → PrngReg)
    (m' : (ℓ : Loc Cert.AGluRefIdeal.nD Cert.AGluRefIdeal.τ Cert.AGluRefIdeal.sig) → Buf (Elt Ideal) ℓ) (g' : Dev Cert.AGluRefIdeal.nD → PrngReg), Pre_AGluIdeal m →
    (∀ c : Dev Cert.AGluIdeal.nD,
      m' ((c.tc : Thread Cert.AGluRefIdeal.nD Cert.AGluRefIdeal.τ).loc Cert.AGluRefIdeal.main_arg0) = m ((c.tc : Thread Cert.AGluIdeal.nD Cert.AGluIdeal.τ).loc Cert.AGluIdeal.main_arg0)
      ∧ m' ((c.tc : Thread Cert.AGluRefIdeal.nD Cert.AGluRefIdeal.τ).loc Cert.AGluRefIdeal.main_arg1) = m ((c.tc : Thread Cert.AGluIdeal.nD Cert.AGluIdeal.τ).loc Cert.AGluIdeal.main_arg1)
      ∧ m' ((c.tc : Thread Cert.AGluRefIdeal.nD Cert.AGluRefIdeal.τ).loc Cert.AGluRefIdeal.main_arg2) = m ((c.tc : Thread Cert.AGluIdeal.nD Cert.AGluIdeal.τ).loc Cert.AGluIdeal.main_arg2)
      ∧ m' ((c.tc : Thread Cert.AGluRefIdeal.nD Cert.AGluRefIdeal.τ).loc Cert.AGluRefIdeal.main_arg3) = m ((c.tc : Thread Cert.AGluIdeal.nD Cert.AGluIdeal.τ).loc Cert.AGluIdeal.main_arg3)
      ∧ m' ((c.tc : Thread Cert.AGluRefIdeal.nD Cert.AGluRefIdeal.τ).loc Cert.AGluRefIdeal.main_arg4) = m ((c.tc : Thread Cert.AGluIdeal.nD Cert.AGluIdeal.τ).loc Cert.AGluIdeal.main_arg4)) →
    ∃ (v0 : (c : Dev Cert.AGluIdeal.nD) → Buf (Elt Ideal) ((c.tc : Thread Cert.AGluIdeal.nD Cert.AGluIdeal.τ).loc Cert.AGluIdeal.main_v0_0)) (v1 : (c : Dev Cert.AGluIdeal.nD) → Buf (Elt Ideal) ((c.tc : Thread Cert.AGluIdeal.nD Cert.AGluIdeal.τ).loc Cert.AGluIdeal.main_v0_1)) (v2 : (c : Dev Cert.AGluIdeal.nD) → Buf (Elt Ideal) ((c.tc : Thread Cert.AGluIdeal.nD Cert.AGluIdeal.τ).loc Cert.AGluIdeal.main_v0_2)) (v3 : (c : Dev Cert.AGluIdeal.nD) → Buf (Elt Ideal) ((c.tc : Thread Cert.AGluIdeal.nD Cert.AGluIdeal.τ).loc Cert.AGluIdeal.main_v0_3)),
      θ_run (Cert.AGluIdeal.defs (F := Ideal)) (onTc (τ := Cert.AGluIdeal.τ) (Cert.AGluIdeal.main (F := Ideal))) ⟨m, fun _ => 0, g⟩ (fun r => ∀ c : Dev Cert.AGluIdeal.nD,
          r.2.mem ((c.tc : Thread Cert.AGluIdeal.nD Cert.AGluIdeal.τ).loc Cert.AGluIdeal.main_v0_0) = v0 c
          ∧ r.2.mem ((c.tc : Thread Cert.AGluIdeal.nD Cert.AGluIdeal.τ).loc Cert.AGluIdeal.main_v0_1) = v1 c
          ∧ r.2.mem ((c.tc : Thread Cert.AGluIdeal.nD Cert.AGluIdeal.τ).loc Cert.AGluIdeal.main_v0_2) = v2 c
          ∧ r.2.mem ((c.tc : Thread Cert.AGluIdeal.nD Cert.AGluIdeal.τ).loc Cert.AGluIdeal.main_v0_3) = v3 c
          ∧ r.2.mem ((c.tc : Thread Cert.AGluIdeal.nD Cert.AGluIdeal.τ).loc Cert.AGluIdeal.main_arg0) = m ((c.tc : Thread Cert.AGluIdeal.nD Cert.AGluIdeal.τ).loc Cert.AGluIdeal.main_arg0)
          ∧ r.2.mem ((c.tc : Thread Cert.AGluIdeal.nD Cert.AGluIdeal.τ).loc Cert.AGluIdeal.main_arg1) = m ((c.tc : Thread Cert.AGluIdeal.nD Cert.AGluIdeal.τ).loc Cert.AGluIdeal.main_arg1)
          ∧ r.2.mem ((c.tc : Thread Cert.AGluIdeal.nD Cert.AGluIdeal.τ).loc Cert.AGluIdeal.main_arg2) = m ((c.tc : Thread Cert.AGluIdeal.nD Cert.AGluIdeal.τ).loc Cert.AGluIdeal.main_arg2)
          ∧ r.2.mem ((c.tc : Thread Cert.AGluIdeal.nD Cert.AGluIdeal.τ).loc Cert.AGluIdeal.main_arg3) = m ((c.tc : Thread Cert.AGluIdeal.nD Cert.AGluIdeal.τ).loc Cert.AGluIdeal.main_arg3)
          ∧ r.2.mem ((c.tc : Thread Cert.AGluIdeal.nD Cert.AGluIdeal.τ).loc Cert.AGluIdeal.main_arg4) = m ((c.tc : Thread Cert.AGluIdeal.nD Cert.AGluIdeal.τ).loc Cert.AGluIdeal.main_arg4))
      ∧ θ_run (Cert.AGluRefIdeal.defs (F := Ideal)) (onTc (τ := Cert.AGluRefIdeal.τ) (Cert.AGluRefIdeal.main (F := Ideal))) ⟨m', fun _ => 0, g'⟩ (fun r => ∀ c : Dev Cert.AGluRefIdeal.nD,
          r.2.mem ((c.tc : Thread Cert.AGluRefIdeal.nD Cert.AGluRefIdeal.τ).loc Cert.AGluRefIdeal.main_v6) = v0 c
          ∧ r.2.mem ((c.tc : Thread Cert.AGluRefIdeal.nD Cert.AGluRefIdeal.τ).loc Cert.AGluRefIdeal.main_v30) = v1 c
          ∧ r.2.mem ((c.tc : Thread Cert.AGluRefIdeal.nD Cert.AGluRefIdeal.τ).loc Cert.AGluRefIdeal.main_v11) = v2 c
          ∧ r.2.mem ((c.tc : Thread Cert.AGluRefIdeal.nD Cert.AGluRefIdeal.τ).loc Cert.AGluRefIdeal.main_v17) = v3 c
          ∧ r.2.mem ((c.tc : Thread Cert.AGluRefIdeal.nD Cert.AGluRefIdeal.τ).loc Cert.AGluRefIdeal.main_arg0) = m' ((c.tc : Thread Cert.AGluRefIdeal.nD Cert.AGluRefIdeal.τ).loc Cert.AGluRefIdeal.main_arg0)
          ∧ r.2.mem ((c.tc : Thread Cert.AGluRefIdeal.nD Cert.AGluRefIdeal.τ).loc Cert.AGluRefIdeal.main_arg1) = m' ((c.tc : Thread Cert.AGluRefIdeal.nD Cert.AGluRefIdeal.τ).loc Cert.AGluRefIdeal.main_arg1)
          ∧ r.2.mem ((c.tc : Thread Cert.AGluRefIdeal.nD Cert.AGluRefIdeal.τ).loc Cert.AGluRefIdeal.main_arg2) = m' ((c.tc : Thread Cert.AGluRefIdeal.nD Cert.AGluRefIdeal.τ).loc Cert.AGluRefIdeal.main_arg2)
          ∧ r.2.mem ((c.tc : Thread Cert.AGluRefIdeal.nD Cert.AGluRefIdeal.τ).loc Cert.AGluRefIdeal.main_arg3) = m' ((c.tc : Thread Cert.AGluRefIdeal.nD Cert.AGluRefIdeal.τ).loc Cert.AGluRefIdeal.main_arg3)
          ∧ r.2.mem ((c.tc : Thread Cert.AGluRefIdeal.nD Cert.AGluRefIdeal.τ).loc Cert.AGluRefIdeal.main_arg4) = m' ((c.tc : Thread Cert.AGluRefIdeal.nD Cert.AGluRefIdeal.τ).loc Cert.AGluRefIdeal.main_arg4))

def preserves_ASmall_ASmallIdeal : Prop :=
  True

def algebraic_ASmallIdeal_ASmallRefIdeal [hASmallIdeal : Cert.ASmallIdeal.Facts] [hASmallRefIdeal : Cert.ASmallRefIdeal.Facts] : Prop :=
  ∀ (m : (ℓ : Loc Cert.ASmallIdeal.nD Cert.ASmallIdeal.τ Cert.ASmallIdeal.sig) → Buf (Elt Ideal) ℓ) (g : Dev Cert.ASmallIdeal.nD → PrngReg)
    (m' : (ℓ : Loc Cert.ASmallRefIdeal.nD Cert.ASmallRefIdeal.τ Cert.ASmallRefIdeal.sig) → Buf (Elt Ideal) ℓ) (g' : Dev Cert.ASmallRefIdeal.nD → PrngReg), Pre_ASmallIdeal m →
    (∀ c : Dev Cert.ASmallIdeal.nD,
      m' ((c.tc : Thread Cert.ASmallRefIdeal.nD Cert.ASmallRefIdeal.τ).loc Cert.ASmallRefIdeal.main_arg0) = m ((c.tc : Thread Cert.ASmallIdeal.nD Cert.ASmallIdeal.τ).loc Cert.ASmallIdeal.main_arg0)
      ∧ m' ((c.tc : Thread Cert.ASmallRefIdeal.nD Cert.ASmallRefIdeal.τ).loc Cert.ASmallRefIdeal.main_arg1) = m ((c.tc : Thread Cert.ASmallIdeal.nD Cert.ASmallIdeal.τ).loc Cert.ASmallIdeal.main_arg1)
      ∧ m' ((c.tc : Thread Cert.ASmallRefIdeal.nD Cert.ASmallRefIdeal.τ).loc Cert.ASmallRefIdeal.main_arg2) = m ((c.tc : Thread Cert.ASmallIdeal.nD Cert.ASmallIdeal.τ).loc Cert.ASmallIdeal.main_arg2)
      ∧ m' ((c.tc : Thread Cert.ASmallRefIdeal.nD Cert.ASmallRefIdeal.τ).loc Cert.ASmallRefIdeal.main_arg3) = m ((c.tc : Thread Cert.ASmallIdeal.nD Cert.ASmallIdeal.τ).loc Cert.ASmallIdeal.main_arg3)) →
    ∃ (v0 : (c : Dev Cert.ASmallIdeal.nD) → Buf (Elt Ideal) ((c.tc : Thread Cert.ASmallIdeal.nD Cert.ASmallIdeal.τ).loc Cert.ASmallIdeal.main_v0_0)) (v1 : (c : Dev Cert.ASmallIdeal.nD) → Buf (Elt Ideal) ((c.tc : Thread Cert.ASmallIdeal.nD Cert.ASmallIdeal.τ).loc Cert.ASmallIdeal.main_v0_1)) (v2 : (c : Dev Cert.ASmallIdeal.nD) → Buf (Elt Ideal) ((c.tc : Thread Cert.ASmallIdeal.nD Cert.ASmallIdeal.τ).loc Cert.ASmallIdeal.main_v0_2)) (v3 : (c : Dev Cert.ASmallIdeal.nD) → Buf (Elt Ideal) ((c.tc : Thread Cert.ASmallIdeal.nD Cert.ASmallIdeal.τ).loc Cert.ASmallIdeal.main_v0_3)),
      θ_run (Cert.ASmallIdeal.defs (F := Ideal)) (onTc (τ := Cert.ASmallIdeal.τ) (Cert.ASmallIdeal.main (F := Ideal))) ⟨m, fun _ => 0, g⟩ (fun r => ∀ c : Dev Cert.ASmallIdeal.nD,
          r.2.mem ((c.tc : Thread Cert.ASmallIdeal.nD Cert.ASmallIdeal.τ).loc Cert.ASmallIdeal.main_v0_0) = v0 c
          ∧ r.2.mem ((c.tc : Thread Cert.ASmallIdeal.nD Cert.ASmallIdeal.τ).loc Cert.ASmallIdeal.main_v0_1) = v1 c
          ∧ r.2.mem ((c.tc : Thread Cert.ASmallIdeal.nD Cert.ASmallIdeal.τ).loc Cert.ASmallIdeal.main_v0_2) = v2 c
          ∧ r.2.mem ((c.tc : Thread Cert.ASmallIdeal.nD Cert.ASmallIdeal.τ).loc Cert.ASmallIdeal.main_v0_3) = v3 c
          ∧ r.2.mem ((c.tc : Thread Cert.ASmallIdeal.nD Cert.ASmallIdeal.τ).loc Cert.ASmallIdeal.main_arg0) = m ((c.tc : Thread Cert.ASmallIdeal.nD Cert.ASmallIdeal.τ).loc Cert.ASmallIdeal.main_arg0)
          ∧ r.2.mem ((c.tc : Thread Cert.ASmallIdeal.nD Cert.ASmallIdeal.τ).loc Cert.ASmallIdeal.main_arg1) = m ((c.tc : Thread Cert.ASmallIdeal.nD Cert.ASmallIdeal.τ).loc Cert.ASmallIdeal.main_arg1)
          ∧ r.2.mem ((c.tc : Thread Cert.ASmallIdeal.nD Cert.ASmallIdeal.τ).loc Cert.ASmallIdeal.main_arg2) = m ((c.tc : Thread Cert.ASmallIdeal.nD Cert.ASmallIdeal.τ).loc Cert.ASmallIdeal.main_arg2)
          ∧ r.2.mem ((c.tc : Thread Cert.ASmallIdeal.nD Cert.ASmallIdeal.τ).loc Cert.ASmallIdeal.main_arg3) = m ((c.tc : Thread Cert.ASmallIdeal.nD Cert.ASmallIdeal.τ).loc Cert.ASmallIdeal.main_arg3))
      ∧ θ_run (Cert.ASmallRefIdeal.defs (F := Ideal)) (onTc (τ := Cert.ASmallRefIdeal.τ) (Cert.ASmallRefIdeal.main (F := Ideal))) ⟨m', fun _ => 0, g'⟩ (fun r => ∀ c : Dev Cert.ASmallRefIdeal.nD,
          r.2.mem ((c.tc : Thread Cert.ASmallRefIdeal.nD Cert.ASmallRefIdeal.τ).loc Cert.ASmallRefIdeal.main_v1) = v0 c
          ∧ r.2.mem ((c.tc : Thread Cert.ASmallRefIdeal.nD Cert.ASmallRefIdeal.τ).loc Cert.ASmallRefIdeal.main_v25) = v1 c
          ∧ r.2.mem ((c.tc : Thread Cert.ASmallRefIdeal.nD Cert.ASmallRefIdeal.τ).loc Cert.ASmallRefIdeal.main_v6) = v2 c
          ∧ r.2.mem ((c.tc : Thread Cert.ASmallRefIdeal.nD Cert.ASmallRefIdeal.τ).loc Cert.ASmallRefIdeal.main_v12) = v3 c
          ∧ r.2.mem ((c.tc : Thread Cert.ASmallRefIdeal.nD Cert.ASmallRefIdeal.τ).loc Cert.ASmallRefIdeal.main_arg0) = m' ((c.tc : Thread Cert.ASmallRefIdeal.nD Cert.ASmallRefIdeal.τ).loc Cert.ASmallRefIdeal.main_arg0)
          ∧ r.2.mem ((c.tc : Thread Cert.ASmallRefIdeal.nD Cert.ASmallRefIdeal.τ).loc Cert.ASmallRefIdeal.main_arg1) = m' ((c.tc : Thread Cert.ASmallRefIdeal.nD Cert.ASmallRefIdeal.τ).loc Cert.ASmallRefIdeal.main_arg1)
          ∧ r.2.mem ((c.tc : Thread Cert.ASmallRefIdeal.nD Cert.ASmallRefIdeal.τ).loc Cert.ASmallRefIdeal.main_arg2) = m' ((c.tc : Thread Cert.ASmallRefIdeal.nD Cert.ASmallRefIdeal.τ).loc Cert.ASmallRefIdeal.main_arg2)
          ∧ r.2.mem ((c.tc : Thread Cert.ASmallRefIdeal.nD Cert.ASmallRefIdeal.τ).loc Cert.ASmallRefIdeal.main_arg3) = m' ((c.tc : Thread Cert.ASmallRefIdeal.nD Cert.ASmallRefIdeal.τ).loc Cert.ASmallRefIdeal.main_arg3))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)) →
    ∃ (v0 : (c : Dev Cert.MixIdeal.nD) → Buf (Elt Ideal) ((c.tc : Thread Cert.MixIdeal.nD Cert.MixIdeal.τ).loc Cert.MixIdeal.main_v2_0)) (v1 : (c : Dev Cert.MixIdeal.nD) → Buf (Elt Ideal) ((c.tc : Thread Cert.MixIdeal.nD Cert.MixIdeal.τ).loc Cert.MixIdeal.main_v2_1)) (v2 : (c : Dev Cert.MixIdeal.nD) → Buf (Elt Ideal) ((c.tc : Thread Cert.MixIdeal.nD Cert.MixIdeal.τ).loc Cert.MixIdeal.main_v2_2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v2_0) = v0 c
          ∧ r.2.mem ((c.tc : Thread Cert.MixIdeal.nD Cert.MixIdeal.τ).loc Cert.MixIdeal.main_v2_1) = v1 c
          ∧ r.2.mem ((c.tc : Thread Cert.MixIdeal.nD Cert.MixIdeal.τ).loc Cert.MixIdeal.main_v2_2) = v2 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v37) = v0 c
          ∧ r.2.mem ((c.tc : Thread Cert.MixRefIdeal.nD Cert.MixRefIdeal.τ).loc Cert.MixRefIdeal.main_v36) = v1 c
          ∧ r.2.mem ((c.tc : Thread Cert.MixRefIdeal.nD Cert.MixRefIdeal.τ).loc Cert.MixRefIdeal.main_v51) = v2 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6))

def preserves_MixT_MixTIdeal : Prop :=
  True

def algebraic_MixTIdeal_MixTRefIdeal_pre_finite_mix [hMixTIdeal : Cert.MixTIdeal.Facts] [hMixTRefIdeal : Cert.MixTRefIdeal.Facts] [hPre_finite_mix : Cert.Pre_finite_mix.Facts] : Prop :=
  ∀ (m : (ℓ : Loc Cert.MixTIdeal.nD Cert.MixTIdeal.τ Cert.MixTIdeal.sig) → Buf (Elt Ideal) ℓ) (g : Dev Cert.MixTIdeal.nD → PrngReg)
    (m' : (ℓ : Loc Cert.MixTRefIdeal.nD Cert.MixTRefIdeal.τ Cert.MixTRefIdeal.sig) → Buf (Elt Ideal) ℓ) (g' : Dev Cert.MixTRefIdeal.nD → PrngReg), Pre_MixTIdeal_finite_mix m →
    (∀ c : Dev Cert.MixTIdeal.nD,
      m' ((c.tc : Thread Cert.MixTRefIdeal.nD Cert.MixTRefIdeal.τ).loc Cert.MixTRefIdeal.main_arg0) = m ((c.tc : Thread Cert.MixTIdeal.nD Cert.MixTIdeal.τ).loc Cert.MixTIdeal.main_arg0)
      ∧ m' ((c.tc : Thread Cert.MixTRefIdeal.nD Cert.MixTRefIdeal.τ).loc Cert.MixTRefIdeal.main_arg1) = m ((c.tc : Thread Cert.MixTIdeal.nD Cert.MixTIdeal.τ).loc Cert.MixTIdeal.main_arg1)
      ∧ m' ((c.tc : Thread Cert.MixTRefIdeal.nD Cert.MixTRefIdeal.τ).loc Cert.MixTRefIdeal.main_arg2) = m ((c.tc : Thread Cert.MixTIdeal.nD Cert.MixTIdeal.τ).loc Cert.MixTIdeal.main_arg2)
      ∧ m' ((c.tc : Thread Cert.MixTRefIdeal.nD Cert.MixTRefIdeal.τ).loc Cert.MixTRefIdeal.main_arg3) = m ((c.tc : Thread Cert.MixTIdeal.nD Cert.MixTIdeal.τ).loc Cert.MixTIdeal.main_arg3)
      ∧ m' ((c.tc : Thread Cert.MixTRefIdeal.nD Cert.MixTRefIdeal.τ).loc Cert.MixTRefIdeal.main_arg4) = m ((c.tc : Thread Cert.MixTIdeal.nD Cert.MixTIdeal.τ).loc Cert.MixTIdeal.main_arg4)
      ∧ m' ((c.tc : Thread Cert.MixTRefIdeal.nD Cert.MixTRefIdeal.τ).loc Cert.MixTRefIdeal.main_arg5) = m ((c.tc : Thread Cert.MixTIdeal.nD Cert.MixTIdeal.τ).loc Cert.MixTIdeal.main_arg5)) →
    ∃ (v0 : (c : Dev Cert.MixTIdeal.nD) → Buf (Elt Ideal) ((c.tc : Thread Cert.MixTIdeal.nD Cert.MixTIdeal.τ).loc Cert.MixTIdeal.main_v1_0)) (v1 : (c : Dev Cert.MixTIdeal.nD) → Buf (Elt Ideal) ((c.tc : Thread Cert.MixTIdeal.nD Cert.MixTIdeal.τ).loc Cert.MixTIdeal.main_v1_1)) (v2 : (c : Dev Cert.MixTIdeal.nD) → Buf (Elt Ideal) ((c.tc : Thread Cert.MixTIdeal.nD Cert.MixTIdeal.τ).loc Cert.MixTIdeal.main_v1_2)) (v3 : (c : Dev Cert.MixTIdeal.nD) → Buf (Elt Ideal) ((c.tc : Thread Cert.MixTIdeal.nD Cert.MixTIdeal.τ).loc Cert.MixTIdeal.main_v1_3)),
      θ_run (Cert.MixTIdeal.defs (F := Ideal)) (onTc (τ := Cert.MixTIdeal.τ) (Cert.MixTIdeal.main (F := Ideal))) ⟨m, fun _ => 0, g⟩ (fun r => ∀ c : Dev Cert.MixTIdeal.nD,
          r.2.mem ((c.tc : Thread Cert.MixTIdeal.nD Cert.MixTIdeal.τ).loc Cert.MixTIdeal.main_v1_0) = v0 c
          ∧ r.2.mem ((c.tc : Thread Cert.MixTIdeal.nD Cert.MixTIdeal.τ).loc Cert.MixTIdeal.main_v1_1) = v1 c
          ∧ r.2.mem ((c.tc : Thread Cert.MixTIdeal.nD Cert.MixTIdeal.τ).loc Cert.MixTIdeal.main_v1_2) = v2 c
          ∧ r.2.mem ((c.tc : Thread Cert.MixTIdeal.nD Cert.MixTIdeal.τ).loc Cert.MixTIdeal.main_v1_3) = v3 c
          ∧ r.2.mem ((c.tc : Thread Cert.MixTIdeal.nD Cert.MixTIdeal.τ).loc Cert.MixTIdeal.main_arg0) = m ((c.tc : Thread Cert.MixTIdeal.nD Cert.MixTIdeal.τ).loc Cert.MixTIdeal.main_arg0)
          ∧ r.2.mem ((c.tc : Thread Cert.MixTIdeal.nD Cert.MixTIdeal.τ).loc Cert.MixTIdeal.main_arg1) = m ((c.tc : Thread Cert.MixTIdeal.nD Cert.MixTIdeal.τ).loc Cert.MixTIdeal.main_arg1)
          ∧ r.2.mem ((c.tc : Thread Cert.MixTIdeal.nD Cert.MixTIdeal.τ).loc Cert.MixTIdeal.main_arg2) = m ((c.tc : Thread Cert.MixTIdeal.nD Cert.MixTIdeal.τ).loc Cert.MixTIdeal.main_arg2)
          ∧ r.2.mem ((c.tc : Thread Cert.MixTIdeal.nD Cert.MixTIdeal.τ).loc Cert.MixTIdeal.main_arg3) = m ((c.tc : Thread Cert.MixTIdeal.nD Cert.MixTIdeal.τ).loc Cert.MixTIdeal.main_arg3)
          ∧ r.2.mem ((c.tc : Thread Cert.MixTIdeal.nD Cert.MixTIdeal.τ).loc Cert.MixTIdeal.main_arg4) = m ((c.tc : Thread Cert.MixTIdeal.nD Cert.MixTIdeal.τ).loc Cert.MixTIdeal.main_arg4)
          ∧ r.2.mem ((c.tc : Thread Cert.MixTIdeal.nD Cert.MixTIdeal.τ).loc Cert.MixTIdeal.main_arg5) = m ((c.tc : Thread Cert.MixTIdeal.nD Cert.MixTIdeal.τ).loc Cert.MixTIdeal.main_arg5))
      ∧ θ_run (Cert.MixTRefIdeal.defs (F := Ideal)) (onTc (τ := Cert.MixTRefIdeal.τ) (Cert.MixTRefIdeal.main (F := Ideal))) ⟨m', fun _ => 0, g'⟩ (fun r => ∀ c : Dev Cert.MixTRefIdeal.nD,
          r.2.mem ((c.tc : Thread Cert.MixTRefIdeal.nD Cert.MixTRefIdeal.τ).loc Cert.MixTRefIdeal.main_v96) = v0 c
          ∧ r.2.mem ((c.tc : Thread Cert.MixTRefIdeal.nD Cert.MixTRefIdeal.τ).loc Cert.MixTRefIdeal.main_v82) = v1 c
          ∧ r.2.mem ((c.tc : Thread Cert.MixTRefIdeal.nD Cert.MixTRefIdeal.τ).loc Cert.MixTRefIdeal.main_v68) = v2 c
          ∧ r.2.mem ((c.tc : Thread Cert.MixTRefIdeal.nD Cert.MixTRefIdeal.τ).loc Cert.MixTRefIdeal.main_v97) = v3 c
          ∧ r.2.mem ((c.tc : Thread Cert.MixTRefIdeal.nD Cert.MixTRefIdeal.τ).loc Cert.MixTRefIdeal.main_arg0) = m' ((c.tc : Thread Cert.MixTRefIdeal.nD Cert.MixTRefIdeal.τ).loc Cert.MixTRefIdeal.main_arg0)
          ∧ r.2.mem ((c.tc : Thread Cert.MixTRefIdeal.nD Cert.MixTRefIdeal.τ).loc Cert.MixTRefIdeal.main_arg1) = m' ((c.tc : Thread Cert.MixTRefIdeal.nD Cert.MixTRefIdeal.τ).loc Cert.MixTRefIdeal.main_arg1)
          ∧ r.2.mem ((c.tc : Thread Cert.MixTRefIdeal.nD Cert.MixTRefIdeal.τ).loc Cert.MixTRefIdeal.main_arg2) = m' ((c.tc : Thread Cert.MixTRefIdeal.nD Cert.MixTRefIdeal.τ).loc Cert.MixTRefIdeal.main_arg2)
          ∧ r.2.mem ((c.tc : Thread Cert.MixTRefIdeal.nD Cert.MixTRefIdeal.τ).loc Cert.MixTRefIdeal.main_arg3) = m' ((c.tc : Thread Cert.MixTRefIdeal.nD Cert.MixTRefIdeal.τ).loc Cert.MixTRefIdeal.main_arg3)
          ∧ r.2.mem ((c.tc : Thread Cert.MixTRefIdeal.nD Cert.MixTRefIdeal.τ).loc Cert.MixTRefIdeal.main_arg4) = m' ((c.tc : Thread Cert.MixTRefIdeal.nD Cert.MixTRefIdeal.τ).loc Cert.MixTRefIdeal.main_arg4)
          ∧ r.2.mem ((c.tc : Thread Cert.MixTRefIdeal.nD Cert.MixTRefIdeal.τ).loc Cert.MixTRefIdeal.main_arg5) = m' ((c.tc : Thread Cert.MixTRefIdeal.nD Cert.MixTRefIdeal.τ).loc Cert.MixTRefIdeal.main_arg5))

def Claim : Prop :=
  ∃ (hKernel : Cert.Kernel.Facts) (hKernelIdeal : Cert.KernelIdeal.Facts) (hReferenceIdeal : Cert.ReferenceIdeal.Facts) (hDUp : Cert.DUp.Facts) (hDUpIdeal : Cert.DUpIdeal.Facts) (hDUpRefIdeal : Cert.DUpRefIdeal.Facts) (hDDown : Cert.DDown.Facts) (hDDownIdeal : Cert.DDownIdeal.Facts) (hDDownRefIdeal : Cert.DDownRefIdeal.Facts) (hDIn : Cert.DIn.Facts) (hDInIdeal : Cert.DInIdeal.Facts) (hDInRefIdeal : Cert.DInRefIdeal.Facts) (hDGate : Cert.DGate.Facts) (hDGateIdeal : Cert.DGateIdeal.Facts) (hDGateRefIdeal : Cert.DGateRefIdeal.Facts) (hDOut : Cert.DOut.Facts) (hDOutIdeal : Cert.DOutIdeal.Facts) (hDOutRefIdeal : Cert.DOutRefIdeal.Facts) (hDProj : Cert.DProj.Facts) (hDProjIdeal : Cert.DProjIdeal.Facts) (hDProjRefIdeal : Cert.DProjRefIdeal.Facts) (hDGlu : Cert.DGlu.Facts) (hDGluIdeal : Cert.DGluIdeal.Facts) (hDGluRefIdeal : Cert.DGluRefIdeal.Facts) (hUpT : Cert.UpT.Facts) (hUpTIdeal : Cert.UpTIdeal.Facts) (hUpTRefIdeal : Cert.UpTRefIdeal.Facts) (hInT : Cert.InT.Facts) (hInTIdeal : Cert.InTIdeal.Facts) (hInTRefIdeal : Cert.InTRefIdeal.Facts) (hGateT : Cert.GateT.Facts) (hGateTIdeal : Cert.GateTIdeal.Facts) (hGateTRefIdeal : Cert.GateTRefIdeal.Facts) (hDownT : Cert.DownT.Facts) (hDownTIdeal : Cert.DownTIdeal.Facts) (hDownTRefIdeal : Cert.DownTRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hInProj : Cert.InProj.Facts) (hInProjIdeal : Cert.InProjIdeal.Facts) (hInProjRefIdeal : Cert.InProjRefIdeal.Facts) (hGate : Cert.Gate.Facts) (hGateIdeal : Cert.GateIdeal.Facts) (hGateRefIdeal : Cert.GateRefIdeal.Facts) (hProj : Cert.Proj.Facts) (hProjIdeal : Cert.ProjIdeal.Facts) (hProjRefIdeal : Cert.ProjRefIdeal.Facts) (hAIn : Cert.AIn.Facts) (hAInIdeal : Cert.AInIdeal.Facts) (hAInRefIdeal : Cert.AInRefIdeal.Facts) (hAUp : Cert.AUp.Facts) (hAUpIdeal : Cert.AUpIdeal.Facts) (hAUpRefIdeal : Cert.AUpRefIdeal.Facts) (hADown : Cert.ADown.Facts) (hADownIdeal : Cert.ADownIdeal.Facts) (hADownRefIdeal : Cert.ADownRefIdeal.Facts) (hAOut : Cert.AOut.Facts) (hAOutIdeal : Cert.AOutIdeal.Facts) (hAOutRefIdeal : Cert.AOutRefIdeal.Facts) (hAGate : Cert.AGate.Facts) (hAGateIdeal : Cert.AGateIdeal.Facts) (hAGateRefIdeal : Cert.AGateRefIdeal.Facts) (hAProj : Cert.AProj.Facts) (hAProjIdeal : Cert.AProjIdeal.Facts) (hAProjRefIdeal : Cert.AProjRefIdeal.Facts) (hAGlu : Cert.AGlu.Facts) (hAGluIdeal : Cert.AGluIdeal.Facts) (hAGluRefIdeal : Cert.AGluRefIdeal.Facts) (hASmall : Cert.ASmall.Facts) (hASmallIdeal : Cert.ASmallIdeal.Facts) (hASmallRefIdeal : Cert.ASmallRefIdeal.Facts) (hMix : Cert.Mix.Facts) (hMixIdeal : Cert.MixIdeal.Facts) (hMixRefIdeal : Cert.MixRefIdeal.Facts) (hMixT : Cert.MixT.Facts) (hMixTIdeal : Cert.MixTIdeal.Facts) (hMixTRefIdeal : Cert.MixTRefIdeal.Facts) (hPre_finite : Cert.Pre_finite.Facts) (hPre_finite_up : Cert.Pre_finite_up.Facts) (hPre_finite_in : Cert.Pre_finite_in.Facts) (hPre_finite_gate : Cert.Pre_finite_gate.Facts) (hPre_finite_mix : Cert.Pre_finite_mix.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DUp (hDUp := hDUp)
    ∧ quiescent_DUpIdeal (hDUpIdeal := hDUpIdeal)
    ∧ quiescent_DUpRefIdeal (hDUpRefIdeal := hDUpRefIdeal)
    ∧ quiescent_DDown (hDDown := hDDown)
    ∧ quiescent_DDownIdeal (hDDownIdeal := hDDownIdeal)
    ∧ quiescent_DDownRefIdeal (hDDownRefIdeal := hDDownRefIdeal)
    ∧ quiescent_DIn (hDIn := hDIn)
    ∧ quiescent_DInIdeal (hDInIdeal := hDInIdeal)
    ∧ quiescent_DInRefIdeal (hDInRefIdeal := hDInRefIdeal)
    ∧ quiescent_DGate (hDGate := hDGate)
    ∧ quiescent_DGateIdeal (hDGateIdeal := hDGateIdeal)
    ∧ quiescent_DGateRefIdeal (hDGateRefIdeal := hDGateRefIdeal)
    ∧ quiescent_DOut (hDOut := hDOut)
    ∧ quiescent_DOutIdeal (hDOutIdeal := hDOutIdeal)
    ∧ quiescent_DOutRefIdeal (hDOutRefIdeal := hDOutRefIdeal)
    ∧ quiescent_DProj (hDProj := hDProj)
    ∧ quiescent_DProjIdeal (hDProjIdeal := hDProjIdeal)
    ∧ quiescent_DProjRefIdeal (hDProjRefIdeal := hDProjRefIdeal)
    ∧ quiescent_DGlu (hDGlu := hDGlu)
    ∧ quiescent_DGluIdeal (hDGluIdeal := hDGluIdeal)
    ∧ quiescent_DGluRefIdeal (hDGluRefIdeal := hDGluRefIdeal)
    ∧ quiescent_UpT (hUpT := hUpT)
    ∧ quiescent_UpTIdeal (hUpTIdeal := hUpTIdeal)
    ∧ quiescent_UpTIdeal_pre_finite_up (hUpTIdeal := hUpTIdeal) (hPre_finite_up := hPre_finite_up)
    ∧ quiescent_UpTRefIdeal (hUpTRefIdeal := hUpTRefIdeal)
    ∧ quiescent_UpTRefIdeal_pre_finite_up (hUpTRefIdeal := hUpTRefIdeal) (hPre_finite_up := hPre_finite_up)
    ∧ quiescent_InT (hInT := hInT)
    ∧ quiescent_InTIdeal (hInTIdeal := hInTIdeal)
    ∧ quiescent_InTIdeal_pre_finite_in (hInTIdeal := hInTIdeal) (hPre_finite_in := hPre_finite_in)
    ∧ quiescent_InTRefIdeal (hInTRefIdeal := hInTRefIdeal)
    ∧ quiescent_InTRefIdeal_pre_finite_in (hInTRefIdeal := hInTRefIdeal) (hPre_finite_in := hPre_finite_in)
    ∧ quiescent_GateT (hGateT := hGateT)
    ∧ quiescent_GateTIdeal (hGateTIdeal := hGateTIdeal)
    ∧ quiescent_GateTIdeal_pre_finite_gate (hGateTIdeal := hGateTIdeal) (hPre_finite_gate := hPre_finite_gate)
    ∧ quiescent_GateTRefIdeal (hGateTRefIdeal := hGateTRefIdeal)
    ∧ quiescent_GateTRefIdeal_pre_finite_gate (hGateTRefIdeal := hGateTRefIdeal) (hPre_finite_gate := hPre_finite_gate)
    ∧ quiescent_DownT (hDownT := hDownT)
    ∧ quiescent_DownTIdeal (hDownTIdeal := hDownTIdeal)
    ∧ quiescent_DownTRefIdeal (hDownTRefIdeal := hDownTRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_InProj (hInProj := hInProj)
    ∧ quiescent_InProjIdeal (hInProjIdeal := hInProjIdeal)
    ∧ quiescent_InProjRefIdeal (hInProjRefIdeal := hInProjRefIdeal)
    ∧ quiescent_Gate (hGate := hGate)
    ∧ quiescent_GateIdeal (hGateIdeal := hGateIdeal)
    ∧ quiescent_GateRefIdeal (hGateRefIdeal := hGateRefIdeal)
    ∧ quiescent_Proj (hProj := hProj)
    ∧ quiescent_ProjIdeal (hProjIdeal := hProjIdeal)
    ∧ quiescent_ProjRefIdeal (hProjRefIdeal := hProjRefIdeal)
    ∧ quiescent_AIn (hAIn := hAIn)
    ∧ quiescent_AInIdeal (hAInIdeal := hAInIdeal)
    ∧ quiescent_AInRefIdeal (hAInRefIdeal := hAInRefIdeal)
    ∧ quiescent_AUp (hAUp := hAUp)
    ∧ quiescent_AUpIdeal (hAUpIdeal := hAUpIdeal)
    ∧ quiescent_AUpRefIdeal (hAUpRefIdeal := hAUpRefIdeal)
    ∧ quiescent_ADown (hADown := hADown)
    ∧ quiescent_ADownIdeal (hADownIdeal := hADownIdeal)
    ∧ quiescent_ADownRefIdeal (hADownRefIdeal := hADownRefIdeal)
    ∧ quiescent_AOut (hAOut := hAOut)
    ∧ quiescent_AOutIdeal (hAOutIdeal := hAOutIdeal)
    ∧ quiescent_AOutRefIdeal (hAOutRefIdeal := hAOutRefIdeal)
    ∧ quiescent_AGate (hAGate := hAGate)
    ∧ quiescent_AGateIdeal (hAGateIdeal := hAGateIdeal)
    ∧ quiescent_AGateRefIdeal (hAGateRefIdeal := hAGateRefIdeal)
    ∧ quiescent_AProj (hAProj := hAProj)
    ∧ quiescent_AProjIdeal (hAProjIdeal := hAProjIdeal)
    ∧ quiescent_AProjRefIdeal (hAProjRefIdeal := hAProjRefIdeal)
    ∧ quiescent_AGlu (hAGlu := hAGlu)
    ∧ quiescent_AGluIdeal (hAGluIdeal := hAGluIdeal)
    ∧ quiescent_AGluRefIdeal (hAGluRefIdeal := hAGluRefIdeal)
    ∧ quiescent_ASmall (hASmall := hASmall)
    ∧ quiescent_ASmallIdeal (hASmallIdeal := hASmallIdeal)
    ∧ quiescent_ASmallRefIdeal (hASmallRefIdeal := hASmallRefIdeal)
    ∧ quiescent_Mix (hMix := hMix)
    ∧ quiescent_MixIdeal (hMixIdeal := hMixIdeal)
    ∧ quiescent_MixRefIdeal (hMixRefIdeal := hMixRefIdeal)
    ∧ quiescent_MixT (hMixT := hMixT)
    ∧ quiescent_MixTIdeal (hMixTIdeal := hMixTIdeal)
    ∧ quiescent_MixTIdeal_pre_finite_mix (hMixTIdeal := hMixTIdeal) (hPre_finite_mix := hPre_finite_mix)
    ∧ quiescent_MixTRefIdeal (hMixTRefIdeal := hMixTRefIdeal)
    ∧ quiescent_MixTRefIdeal_pre_finite_mix (hMixTRefIdeal := hMixTRefIdeal) (hPre_finite_mix := hPre_finite_mix)
    ∧ preserves_Kernel_KernelIdeal
    ∧ algebraic_KernelIdeal_ReferenceIdeal_pre_finite (hKernelIdeal := hKernelIdeal) (hReferenceIdeal := hReferenceIdeal) (hPre_finite := hPre_finite)
    ∧ preserves_DUp_DUpIdeal
    ∧ algebraic_DUpIdeal_DUpRefIdeal (hDUpIdeal := hDUpIdeal) (hDUpRefIdeal := hDUpRefIdeal)
    ∧ preserves_DDown_DDownIdeal
    ∧ algebraic_DDownIdeal_DDownRefIdeal (hDDownIdeal := hDDownIdeal) (hDDownRefIdeal := hDDownRefIdeal)
    ∧ preserves_DIn_DInIdeal
    ∧ algebraic_DInIdeal_DInRefIdeal (hDInIdeal := hDInIdeal) (hDInRefIdeal := hDInRefIdeal)
    ∧ preserves_DGate_DGateIdeal
    ∧ algebraic_DGateIdeal_DGateRefIdeal (hDGateIdeal := hDGateIdeal) (hDGateRefIdeal := hDGateRefIdeal)
    ∧ preserves_DOut_DOutIdeal
    ∧ algebraic_DOutIdeal_DOutRefIdeal (hDOutIdeal := hDOutIdeal) (hDOutRefIdeal := hDOutRefIdeal)
    ∧ preserves_DProj_DProjIdeal
    ∧ algebraic_DProjIdeal_DProjRefIdeal (hDProjIdeal := hDProjIdeal) (hDProjRefIdeal := hDProjRefIdeal)
    ∧ preserves_DGlu_DGluIdeal
    ∧ algebraic_DGluIdeal_DGluRefIdeal (hDGluIdeal := hDGluIdeal) (hDGluRefIdeal := hDGluRefIdeal)
    ∧ preserves_UpT_UpTIdeal
    ∧ algebraic_UpTIdeal_UpTRefIdeal_pre_finite_up (hUpTIdeal := hUpTIdeal) (hUpTRefIdeal := hUpTRefIdeal) (hPre_finite_up := hPre_finite_up)
    ∧ preserves_InT_InTIdeal
    ∧ algebraic_InTIdeal_InTRefIdeal_pre_finite_in (hInTIdeal := hInTIdeal) (hInTRefIdeal := hInTRefIdeal) (hPre_finite_in := hPre_finite_in)
    ∧ preserves_GateT_GateTIdeal
    ∧ algebraic_GateTIdeal_GateTRefIdeal_pre_finite_gate (hGateTIdeal := hGateTIdeal) (hGateTRefIdeal := hGateTRefIdeal) (hPre_finite_gate := hPre_finite_gate)
    ∧ preserves_DownT_DownTIdeal
    ∧ algebraic_DownTIdeal_DownTRefIdeal (hDownTIdeal := hDownTIdeal) (hDownTRefIdeal := hDownTRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_InProj_InProjIdeal
    ∧ algebraic_InProjIdeal_InProjRefIdeal (hInProjIdeal := hInProjIdeal) (hInProjRefIdeal := hInProjRefIdeal)
    ∧ preserves_Gate_GateIdeal
    ∧ algebraic_GateIdeal_GateRefIdeal (hGateIdeal := hGateIdeal) (hGateRefIdeal := hGateRefIdeal)
    ∧ preserves_Proj_ProjIdeal
    ∧ algebraic_ProjIdeal_ProjRefIdeal (hProjIdeal := hProjIdeal) (hProjRefIdeal := hProjRefIdeal)
    ∧ preserves_AIn_AInIdeal
    ∧ algebraic_AInIdeal_AInRefIdeal (hAInIdeal := hAInIdeal) (hAInRefIdeal := hAInRefIdeal)
    ∧ preserves_AUp_AUpIdeal
    ∧ algebraic_AUpIdeal_AUpRefIdeal (hAUpIdeal := hAUpIdeal) (hAUpRefIdeal := hAUpRefIdeal)
    ∧ preserves_ADown_ADownIdeal
    ∧ algebraic_ADownIdeal_ADownRefIdeal (hADownIdeal := hADownIdeal) (hADownRefIdeal := hADownRefIdeal)
    ∧ preserves_AOut_AOutIdeal
    ∧ algebraic_AOutIdeal_AOutRefIdeal (hAOutIdeal := hAOutIdeal) (hAOutRefIdeal := hAOutRefIdeal)
    ∧ preserves_AGate_AGateIdeal
    ∧ algebraic_AGateIdeal_AGateRefIdeal (hAGateIdeal := hAGateIdeal) (hAGateRefIdeal := hAGateRefIdeal)
    ∧ preserves_AProj_AProjIdeal
    ∧ algebraic_AProjIdeal_AProjRefIdeal (hAProjIdeal := hAProjIdeal) (hAProjRefIdeal := hAProjRefIdeal)
    ∧ preserves_AGlu_AGluIdeal
    ∧ algebraic_AGluIdeal_AGluRefIdeal (hAGluIdeal := hAGluIdeal) (hAGluRefIdeal := hAGluRefIdeal)
    ∧ preserves_ASmall_ASmallIdeal
    ∧ algebraic_ASmallIdeal_ASmallRefIdeal (hASmallIdeal := hASmallIdeal) (hASmallRefIdeal := hASmallRefIdeal)
    ∧ preserves_Mix_MixIdeal
    ∧ algebraic_MixIdeal_MixRefIdeal (hMixIdeal := hMixIdeal) (hMixRefIdeal := hMixRefIdeal)
    ∧ preserves_MixT_MixTIdeal
    ∧ algebraic_MixTIdeal_MixTRefIdeal_pre_finite_mix (hMixTIdeal := hMixTIdeal) (hMixTRefIdeal := hMixTRefIdeal) (hPre_finite_mix := hPre_finite_mix)
-- ==== Pre_finite.lean ====
abbrev S8192x2816 : Shape := ⟨2, ![8192, 2816]⟩
abbrev S8192x5632 : Shape := ⟨2, ![8192, 5632]⟩
abbrev S3x5632 : Shape := ⟨2, ![3, 5632]⟩
abbrev S5632 : Shape := ⟨1, ![5632]⟩
abbrev S_ : Shape := ⟨0, ![]⟩

class Facts : Prop where
  bitsLt_bf16_f32 : FTy.bits .bf16 < FTy.bits .f32
  bcast_S_S8192x2816 : S_.BroadcastsInDim S8192x2816 (![] : Fin 0 → Fin S8192x2816.rank)
  reducesTo_S8192x2816_S_d0_1 : S8192x2816.ReducesTo [0, 1] S_
  h_S_ : 0 < S_.numel
  bcast_S_S8192x5632 : S_.BroadcastsInDim S8192x5632 (![] : Fin 0 → Fin S8192x5632.rank)
  reducesTo_S8192x5632_S_d0_1 : S8192x5632.ReducesTo [0, 1] S_
  bcast_S_S3x5632 : S_.BroadcastsInDim S3x5632 (![] : Fin 0 → Fin S3x5632.rank)
  reducesTo_S3x5632_S_d0_1 : S3x5632.ReducesTo [0, 1] S_
  bcast_S_S5632 : S_.BroadcastsInDim S5632 (![] : Fin 0 → Fin S5632.rank)
  reducesTo_S5632_S_d0 : S5632.ReducesTo [0] S_

variable [Facts]

def fn_part1 {F : FTy → Type} [FloatOps F] (main_v15 : IVec S_ 1) (main_v16 : FVec F S5632 .f32) (main_cst_4 : FVec F S_ .f32) : IVec S_ 1 :=
  let main_v17 : FVec F S5632 .f32 := broadcastInDim S5632 ![] bcast_S_S5632 main_cst_4
  let main_v18 : IVec S5632 1 := cmpf .olt main_v16 main_v17
  let main_c_5 : IVec S_ 1 := constantI S_ 1 1#1
  let main_v19 : IVec S_ 1 := (fun x v => Host.reduce IntOp.andi x v reducesTo_S5632_S_d0 h_S_) main_v18 main_c_5
  let main_v20 : IVec S_ 1 := andi main_v15 main_v19
  main_v20

def fn {F : FTy → Type} [FloatOps F] (main_arg0 : FVec F S8192x2816 .bf16) (main_arg1 : FVec F S8192x5632 .bf16) (main_arg2 : FVec F S3x5632 .f32) (main_arg3 : FVec F S5632 .f32) : IVec S_ 1 :=
  let main_v0 : FVec F S8192x2816 .f32 := (extf .f32 · bitsLt_bf16_f32) main_arg0
  let main_v1 : FVec F S8192x2816 .f32 := Host.absf main_v0
  let main_cst : FVec F S_ .f32 := constant S_ .f32 0x7F800000#32
  let main_v2 : FVec F S8192x2816 .f32 := broadcastInDim S8192x2816 ![] bcast_S_S8192x2816 main_cst
  let main_v3 : IVec S8192x2816 1 := cmpf .olt main_v1 main_v2
  let main_c : IVec S_ 1 := constantI S_ 1 1#1
  let main_v4 : IVec S_ 1 := (fun x v => Host.reduce IntOp.andi x v reducesTo_S8192x2816_S_d0_1 h_S_) main_v3 main_c
  let main_v5 : FVec F S8192x5632 .f32 := (extf .f32 · bitsLt_bf16_f32) main_arg1
  let main_v6 : FVec F S8192x5632 .f32 := Host.absf main_v5
  let main_cst_0 : FVec F S_ .f32 := constant S_ .f32 0x7F800000#32
  let main_v7 : FVec F S8192x5632 .f32 := broadcastInDim S8192x5632 ![] bcast_S_S8192x5632 main_cst_0
  let main_v8 : IVec S8192x5632 1 := cmpf .olt main_v6 main_v7
  let main_c_1 : IVec S_ 1 := constantI S_ 1 1#1
  let main_v9 : IVec S_ 1 := (fun x v => Host.reduce IntOp.andi x v reducesTo_S8192x5632_S_d0_1 h_S_) main_v8 main_c_1
  let main_v10 : IVec S_ 1 := andi main_v4 main_v9
  let main_v11 : FVec F S3x5632 .f32 := Host.absf main_arg2
  let main_cst_2 : FVec F S_ .f32 := constant S_ .f32 0x7F800000#32
  let main_v12 : FVec F S3x5632 .f32 := broadcastInDim S3x5632 ![] bcast_S_S3x5632 main_cst_2
  let main_v13 : IVec S3x5632 1 := cmpf .olt main_v11 main_v12
  let main_c_3 : IVec S_ 1 := constantI S_ 1 1#1
  let main_v14 : IVec S_ 1 := (fun x v => Host.reduce IntOp.andi x v reducesTo_S3x5632_S_d0_1 h_S_) main_v13 main_c_3
  let main_v15 : IVec S_ 1 := andi main_v10 main_v14
  let main_v16 : FVec F S5632 .f32 := Host.absf main_arg3
  let main_cst_4 : FVec F S_ .f32 := constant S_ .f32 0x7F800000#32
  fn_part1 (F := F) main_v15 main_v16 main_cst_4
-- ==== Pre_finite_gate.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v15 : IVec S_ 1) (main_v16 : FVec F S8192x1024 .f32) (main_cst_4 : FVec F S_ .f32) : IVec S_ 1 :=
  let main_v17 : FVec F S8192x1024 .f32 := broadcastInDim S8192x1024 ![] bcast_S_S8192x1024 main_cst_4
  let main_v18 : IVec S8192x1024 1 := cmpf .olt main_v16 main_v17
  let main_c_5 : IVec S_ 1 := constantI S_ 1 1#1
  let main_v19 : IVec S_ 1 := (fun x v => Host.reduce IntOp.andi x v reducesTo_S8192x1024_S_d0_1 h_S_) main_v18 main_c_5
  let main_v20 : IVec S_ 1 := andi main_v15 main_v19
  let main_v21 : FVec F S1024 .f32 := Host.absf main_arg4
  let main_cst_6 : FVec F S_ .f32 := constant S_ .f32 0x7F800000#32
  let main_v22 : FVec F S1024 .f32 := broadcastInDim S1024 ![] bcast_S_S1024 main_cst_6
  let main_v23 : IVec S1024 1 := cmpf .olt main_v21 main_v22
  let main_c_7 : IVec S_ 1 := constantI S_ 1 1#1
  let main_v24 : IVec S_ 1 := (fun x v => Host.reduce IntOp.andi x v reducesTo_S1024_S_d0 h_S_) main_v23 main_c_7
  let main_v25 : IVec S_ 1 := andi main_v20 main_v24
  main_v25

def fn {F : FTy → Type} [FloatOps F] (main_arg0 : FVec F S8192x1024 .bf16) (main_arg1 : FVec F S1024x1024 .bf16) (main_arg2 : FVec F S8192x1024 .f32) (main_arg3 : FVec F S8192x1024 .f32) (main_arg4 : FVec F S1024 .f32) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S1024x1024 .f32 := (extf .f32 · bitsLt_bf16_f32) main_arg1
  let main_v6 : FVec F S1024x1024 .f32 := Host.absf main_v5
  let main_cst_0 : FVec F S_ .f32 := constant S_ .f32 0x7F800000#32
  let main_v7 : FVec F S1024x1024 .f32 := broadcastInDim S1024x1024 ![] bcast_S_S1024x1024 main_cst_0
  let main_v8 : IVec S1024x1024 1 := cmpf .olt main_v6 main_v7
  let main_c_1 : IVec S_ 1 := constantI S_ 1 1#1
  let main_v9 : IVec S_ 1 := (fun x v => Host.reduce IntOp.andi x v reducesTo_S1024x1024_S_d0_1 h_S_) main_v8 main_c_1
  let main_v10 : IVec S_ 1 := andi main_v4 main_v9
  let main_v11 : FVec F S8192x1024 .f32 := Host.absf main_arg2
  let main_cst_2 : FVec F S_ .f32 := constant S_ .f32 0x7F800000#32
  let main_v12 : FVec F S8192x1024 .f32 := broadcastInDim S8192x1024 ![] bcast_S_S8192x1024 main_cst_2
  let main_v13 : IVec S8192x1024 1 := cmpf .olt main_v11 main_v12
  let main_c_3 : IVec S_ 1 := constantI S_ 1 1#1
  let main_v14 : IVec S_ 1 := (fun x v => Host.reduce IntOp.andi x v reducesTo_S8192x1024_S_d0_1 h_S_) main_v13 main_c_3
  let main_v15 : IVec S_ 1 := andi main_v10 main_v14
  let main_v16 : FVec F S8192x1024 .f32 := Host.absf main_arg3
  let main_cst_4 : FVec F S_ .f32 := constant S_ .f32 0x7F800000#32
  fn_part1 (F := F) main_arg4 main_v15 main_v16 main_cst_4
-- ==== Pre_finite_in.lean ====
abbrev S8192x2304 : Shape := ⟨2, ![8192, 2304]⟩
abbrev S2304x1024 : Shape := ⟨2, ![2304, 1024]⟩
abbrev S8192x1024 : Shape := ⟨2, ![8192, 1024]⟩
abbrev S1024 : Shape := ⟨1, ![1024]⟩
abbrev S_ : Shape := ⟨0, ![]⟩

class Facts : Prop where
  bitsLt_bf16_f32 : FTy.bits .bf16 < FTy.bits .f32
  bcast_S_S8192x2304 : S_.BroadcastsInDim S8192x2304 (![] : Fin 0 → Fin S8192x2304.rank)
  reducesTo_S8192x2304_S_d0_1 : S8192x2304.ReducesTo [0, 1] S_
  h_S_ : 0 < S_.numel
  bcast_S_S2304x1024 : S_.BroadcastsInDim S2304x1024 (![] : Fin 0 → Fin S2304x1024.rank)
  reducesTo_S2304x1024_S_d0_1 : S2304x1024.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v15 : IVec S_ 1) (main_v16 : FVec F S8192x1024 .f32) (main_cst_4 : FVec F S_ .f32) : IVec S_ 1 :=
  let main_v17 : FVec F S8192x1024 .f32 := broadcastInDim S8192x1024 ![] bcast_S_S8192x1024 main_cst_4
  let main_v18 : IVec S8192x1024 1 := cmpf .olt main_v16 main_v17
  let main_c_5 : IVec S_ 1 := constantI S_ 1 1#1
  let main_v19 : IVec S_ 1 := (fun x v => Host.reduce IntOp.andi x v reducesTo_S8192x1024_S_d0_1 h_S_) main_v18 main_c_5
  let main_v20 : IVec S_ 1 := andi main_v15 main_v19
  let main_v21 : FVec F S1024 .f32 := Host.absf main_arg4
  let main_cst_6 : FVec F S_ .f32 := constant S_ .f32 0x7F800000#32
  let main_v22 : FVec F S1024 .f32 := broadcastInDim S1024 ![] bcast_S_S1024 main_cst_6
  let main_v23 : IVec S1024 1 := cmpf .olt main_v21 main_v22
  let main_c_7 : IVec S_ 1 := constantI S_ 1 1#1
  let main_v24 : IVec S_ 1 := (fun x v => Host.reduce IntOp.andi x v reducesTo_S1024_S_d0 h_S_) main_v23 main_c_7
  let main_v25 : IVec S_ 1 := andi main_v20 main_v24
  main_v25

def fn {F : FTy → Type} [FloatOps F] (main_arg0 : FVec F S8192x2304 .bf16) (main_arg1 : FVec F S2304x1024 .bf16) (main_arg2 : FVec F S8192x1024 .f32) (main_arg3 : FVec F S8192x1024 .f32) (main_arg4 : FVec F S1024 .f32) : IVec S_ 1 :=
  let main_v0 : FVec F S8192x2304 .f32 := (extf .f32 · bitsLt_bf16_f32) main_arg0
  let main_v1 : FVec F S8192x2304 .f32 := Host.absf main_v0
  let main_cst : FVec F S_ .f32 := constant S_ .f32 0x7F800000#32
  let main_v2 : FVec F S8192x2304 .f32 := broadcastInDim S8192x2304 ![] bcast_S_S8192x2304 main_cst
  let main_v3 : IVec S8192x2304 1 := cmpf .olt main_v1 main_v2
  let main_c : IVec S_ 1 := constantI S_ 1 1#1
  let main_v4 : IVec S_ 1 := (fun x v => Host.reduce IntOp.andi x v reducesTo_S8192x2304_S_d0_1 h_S_) main_v3 main_c
  let main_v5 : FVec F S2304x1024 .f32 := (extf .f32 · bitsLt_bf16_f32) main_arg1
  let main_v6 : FVec F S2304x1024 .f32 := Host.absf main_v5
  let main_cst_0 : FVec F S_ .f32 := constant S_ .f32 0x7F800000#32
  let main_v7 : FVec F S2304x1024 .f32 := broadcastInDim S2304x1024 ![] bcast_S_S2304x1024 main_cst_0
  let main_v8 : IVec S2304x1024 1 := cmpf .olt main_v6 main_v7
  let main_c_1 : IVec S_ 1 := constantI S_ 1 1#1
  let main_v9 : IVec S_ 1 := (fun x v => Host.reduce IntOp.andi x v reducesTo_S2304x1024_S_d0_1 h_S_) main_v8 main_c_1
  let main_v10 : IVec S_ 1 := andi main_v4 main_v9
  let main_v11 : FVec F S8192x1024 .f32 := Host.absf main_arg2
  let main_cst_2 : FVec F S_ .f32 := constant S_ .f32 0x7F800000#32
  let main_v12 : FVec F S8192x1024 .f32 := broadcastInDim S8192x1024 ![] bcast_S_S8192x1024 main_cst_2
  let main_v13 : IVec S8192x1024 1 := cmpf .olt main_v11 main_v12
  let main_c_3 : IVec S_ 1 := constantI S_ 1 1#1
  let main_v14 : IVec S_ 1 := (fun x v => Host.reduce IntOp.andi x v reducesTo_S8192x1024_S_d0_1 h_S_) main_v13 main_c_3
  let main_v15 : IVec S_ 1 := andi main_v10 main_v14
  let main_v16 : FVec F S8192x1024 .f32 := Host.absf main_arg3
  let main_cst_4 : FVec F S_ .f32 := constant S_ .f32 0x7F800000#32
  fn_part1 (F := F) main_arg4 main_v15 main_v16 main_cst_4
-- ==== Pre_finite_mix.lean ====
abbrev S8192x1024 : Shape := ⟨2, ![8192, 1024]⟩
abbrev S1024x1024 : Shape := ⟨2, ![1024, 1024]⟩
abbrev S8192x512 : Shape := ⟨2, ![8192, 512]⟩
abbrev S8192x256 : Shape := ⟨2, ![8192, 256]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bitsLt_bf16_f32 : FTy.bits .bf16 < FTy.bits .f32
  bcast_S_S1024x1024 : S_.BroadcastsInDim S1024x1024 (![] : Fin 0 → Fin S1024x1024.rank)
  reducesTo_S1024x1024_S_d0_1 : S1024x1024.ReducesTo [0, 1] S_
  bcast_S_S8192x512 : S_.BroadcastsInDim S8192x512 (![] : Fin 0 → Fin S8192x512.rank)
  reducesTo_S8192x512_S_d0_1 : S8192x512.ReducesTo [0, 1] S_
  bcast_S_S8192x256 : S_.BroadcastsInDim S8192x256 (![] : Fin 0 → Fin S8192x256.rank)
  reducesTo_S8192x256_S_d0_1 : S8192x256.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S8192x256 .f32) (main_arg5 : FVec F S1024 .f32) (main_v14 : IVec S_ 1) (main_v15 : FVec F S8192x256 .f32) (main_v16 : FVec F S8192x256 .f32) : IVec S_ 1 :=
  let main_v17 : IVec S8192x256 1 := cmpf .olt main_v15 main_v16
  let main_c_5 : IVec S_ 1 := constantI S_ 1 1#1
  let main_v18 : IVec S_ 1 := (fun x v => Host.reduce IntOp.andi x v reducesTo_S8192x256_S_d0_1 h_S_) main_v17 main_c_5
  let main_v19 : IVec S_ 1 := andi main_v14 main_v18
  let main_v20 : FVec F S8192x256 .f32 := Host.absf main_arg4
  let main_cst_6 : FVec F S_ .f32 := constant S_ .f32 0x7F800000#32
  let main_v21 : FVec F S8192x256 .f32 := broadcastInDim S8192x256 ![] bcast_S_S8192x256 main_cst_6
  let main_v22 : IVec S8192x256 1 := cmpf .olt main_v20 main_v21
  let main_c_7 : IVec S_ 1 := constantI S_ 1 1#1
  let main_v23 : IVec S_ 1 := (fun x v => Host.reduce IntOp.andi x v reducesTo_S8192x256_S_d0_1 h_S_) main_v22 main_c_7
  let main_v24 : IVec S_ 1 := andi main_v19 main_v23
  let main_v25 : FVec F S1024 .f32 := Host.absf main_arg5
  let main_cst_8 : FVec F S_ .f32 := constant S_ .f32 0x7F800000#32
  let main_v26 : FVec F S1024 .f32 := broadcastInDim S1024 ![] bcast_S_S1024 main_cst_8
  let main_v27 : IVec S1024 1 := cmpf .olt main_v25 main_v26
  let main_c_9 : IVec S_ 1 := constantI S_ 1 1#1
  let main_v28 : IVec S_ 1 := (fun x v => Host.reduce IntOp.andi x v reducesTo_S1024_S_d0 h_S_) main_v27 main_c_9
  let main_v29 : IVec S_ 1 := andi main_v24 main_v28
  main_v29

def fn {F : FTy → Type} [FloatOps F] (main_arg0 : FVec F S8192x1024 .f32) (main_arg1 : FVec F S1024x1024 .bf16) (main_arg2 : FVec F S8192x512 .f32) (main_arg3 : FVec F S8192x256 .f32) (main_arg4 : FVec F S8192x256 .f32) (main_arg5 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x1024 .f32 := (extf .f32 · bitsLt_bf16_f32) main_arg1
  let main_v5 : FVec F S1024x1024 .f32 := Host.absf main_v4
  let main_cst_0 : FVec F S_ .f32 := constant S_ .f32 0x7F800000#32
  let main_v6 : FVec F S1024x1024 .f32 := broadcastInDim S1024x1024 ![] bcast_S_S1024x1024 main_cst_0
  let main_v7 : IVec S1024x1024 1 := cmpf .olt main_v5 main_v6
  let main_c_1 : IVec S_ 1 := constantI S_ 1 1#1
  let main_v8 : IVec S_ 1 := (fun x v => Host.reduce IntOp.andi x v reducesTo_S1024x1024_S_d0_1 h_S_) main_v7 main_c_1
  let main_v9 : IVec S_ 1 := andi main_v3 main_v8
  let main_v10 : FVec F S8192x512 .f32 := Host.absf main_arg2
  let main_cst_2 : FVec F S_ .f32 := constant S_ .f32 0x7F800000#32
  let main_v11 : FVec F S8192x512 .f32 := broadcastInDim S8192x512 ![] bcast_S_S8192x512 main_cst_2
  let main_v12 : IVec S8192x512 1 := cmpf .olt main_v10 main_v11
  let main_c_3 : IVec S_ 1 := constantI S_ 1 1#1
  let main_v13 : IVec S_ 1 := (fun x v => Host.reduce IntOp.andi x v reducesTo_S8192x512_S_d0_1 h_S_) main_v12 main_c_3
  let main_v14 : IVec S_ 1 := andi main_v9 main_v13
  let main_v15 : FVec F S8192x256 .f32 := Host.absf main_arg3
  let main_cst_4 : FVec F S_ .f32 := constant S_ .f32 0x7F800000#32
  let main_v16 : FVec F S8192x256 .f32 := broadcastInDim S8192x256 ![] bcast_S_S8192x256 main_cst_4
  fn_part1 (F := F) main_arg4 main_arg5 main_v14 main_v15 main_v16
-- ==== Pre_finite_up.lean ====
abbrev S8192x5632 : Shape := ⟨2, ![8192, 5632]⟩
abbrev S5632x1024 : Shape := ⟨2, ![5632, 1024]⟩
abbrev S8192x1024 : Shape := ⟨2, ![8192, 1024]⟩
abbrev S1024 : Shape := ⟨1, ![1024]⟩
abbrev S_ : Shape := ⟨0, ![]⟩

class Facts : Prop where
  bitsLt_bf16_f32 : FTy.bits .bf16 < FTy.bits .f32
  bcast_S_S8192x5632 : S_.BroadcastsInDim S8192x5632 (![] : Fin 0 → Fin S8192x5632.rank)
  reducesTo_S8192x5632_S_d0_1 : S8192x5632.ReducesTo [0, 1] S_
  h_S_ : 0 < S_.numel
  bcast_S_S5632x1024 : S_.BroadcastsInDim S5632x1024 (![] : Fin 0 → Fin S5632x1024.rank)
  reducesTo_S5632x1024_S_d0_1 : S5632x1024.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v15 : IVec S_ 1) (main_v16 : FVec F S8192x1024 .f32) (main_cst_4 : FVec F S_ .f32) : IVec S_ 1 :=
  let main_v17 : FVec F S8192x1024 .f32 := broadcastInDim S8192x1024 ![] bcast_S_S8192x1024 main_cst_4
  let main_v18 : IVec S8192x1024 1 := cmpf .olt main_v16 main_v17
  let main_c_5 : IVec S_ 1 := constantI S_ 1 1#1
  let main_v19 : IVec S_ 1 := (fun x v => Host.reduce IntOp.andi x v reducesTo_S8192x1024_S_d0_1 h_S_) main_v18 main_c_5
  let main_v20 : IVec S_ 1 := andi main_v15 main_v19
  let main_v21 : FVec F S1024 .f32 := Host.absf main_arg4
  let main_cst_6 : FVec F S_ .f32 := constant S_ .f32 0x7F800000#32
  let main_v22 : FVec F S1024 .f32 := broadcastInDim S1024 ![] bcast_S_S1024 main_cst_6
  let main_v23 : IVec S1024 1 := cmpf .olt main_v21 main_v22
  let main_c_7 : IVec S_ 1 := constantI S_ 1 1#1
  let main_v24 : IVec S_ 1 := (fun x v => Host.reduce IntOp.andi x v reducesTo_S1024_S_d0 h_S_) main_v23 main_c_7
  let main_v25 : IVec S_ 1 := andi main_v20 main_v24
  main_v25

def fn {F : FTy → Type} [FloatOps F] (main_arg0 : FVec F S8192x5632 .bf16) (main_arg1 : FVec F S5632x1024 .bf16) (main_arg2 : FVec F S8192x1024 .f32) (main_arg3 : FVec F S8192x1024 .f32) (main_arg4 : FVec F S1024 .f32) : IVec S_ 1 :=
  let main_v0 : FVec F S8192x5632 .f32 := (extf .f32 · bitsLt_bf16_f32) main_arg0
  let main_v1 : FVec F S8192x5632 .f32 := Host.absf main_v0
  let main_cst : FVec F S_ .f32 := constant S_ .f32 0x7F800000#32
  let main_v2 : FVec F S8192x5632 .f32 := broadcastInDim S8192x5632 ![] bcast_S_S8192x5632 main_cst
  let main_v3 : IVec S8192x5632 1 := cmpf .olt main_v1 main_v2
  let main_c : IVec S_ 1 := constantI S_ 1 1#1
  let main_v4 : IVec S_ 1 := (fun x v => Host.reduce IntOp.andi x v reducesTo_S8192x5632_S_d0_1 h_S_) main_v3 main_c
  let main_v5 : FVec F S5632x1024 .f32 := (extf .f32 · bitsLt_bf16_f32) main_arg1
  let main_v6 : FVec F S5632x1024 .f32 := Host.absf main_v5
  let main_cst_0 : FVec F S_ .f32 := constant S_ .f32 0x7F800000#32
  let main_v7 : FVec F S5632x1024 .f32 := broadcastInDim S5632x1024 ![] bcast_S_S5632x1024 main_cst_0
  let main_v8 : IVec S5632x1024 1 := cmpf .olt main_v6 main_v7
  let main_c_1 : IVec S_ 1 := constantI S_ 1 1#1
  let main_v9 : IVec S_ 1 := (fun x v => Host.reduce IntOp.andi x v reducesTo_S5632x1024_S_d0_1 h_S_) main_v8 main_c_1
  let main_v10 : IVec S_ 1 := andi main_v4 main_v9
  let main_v11 : FVec F S8192x1024 .f32 := Host.absf main_arg2
  let main_cst_2 : FVec F S_ .f32 := constant S_ .f32 0x7F800000#32
  let main_v12 : FVec F S8192x1024 .f32 := broadcastInDim S8192x1024 ![] bcast_S_S8192x1024 main_cst_2
  let main_v13 : IVec S8192x1024 1 := cmpf .olt main_v11 main_v12
  let main_c_3 : IVec S_ 1 := constantI S_ 1 1#1
  let main_v14 : IVec S_ 1 := (fun x v => Host.reduce IntOp.andi x v reducesTo_S8192x1024_S_d0_1 h_S_) main_v13 main_c_3
  let main_v15 : IVec S_ 1 := andi main_v10 main_v14
  let main_v16 : FVec F S8192x1024 .f32 := Host.absf main_arg3
  let main_cst_4 : FVec F S_ .f32 := constant S_ .f32 0x7F800000#32
  fn_part1 (F := F) main_arg4 main_v15 main_v16 main_cst_4
-- ==== Kernel.lean ====
abbrev S8192x2816 : Shape := ⟨2, ![8192, 2816]⟩
abbrev S8192x5632 : Shape := ⟨2, ![8192, 5632]⟩
abbrev S3x5632 : Shape := ⟨2, ![3, 5632]⟩
abbrev S5632 : Shape := ⟨1, ![5632]⟩
abbrev S_ : Shape := ⟨0, ![]⟩
abbrev S2x5632 : Shape := ⟨2, ![2, 5632]⟩
abbrev S8194x5632 : Shape := ⟨2, ![8194, 5632]⟩
abbrev S1x5632 : Shape := ⟨2, ![1, 5632]⟩
abbrev S512x1408 : Shape := ⟨2, ![512, 1408]⟩
abbrev S16x1408 : Shape := ⟨2, ![16, 1408]⟩
abbrev S3x1408 : Shape := ⟨2, ![3, 1408]⟩
abbrev S1x1408 : Shape := ⟨2, ![1, 1408]⟩
abbrev S528x1408 : Shape := ⟨2, ![528, 1408]⟩
abbrev S1408 : Shape := ⟨1, ![1408]⟩
abbrev S8x1408 : Shape := ⟨2, ![8, 1408]⟩

abbrev nBuf : Space → Nat
  | .hbm => 38
  | .vmem => 25
  | .smem => 0
  | _ => 0

abbrev bufTy : (tb : Table) → Fin (tcTables nBuf tb) → BufTy
  | .hbm, ⟨0, _⟩ => ⟨S8192x2816, .bf16⟩
  | .hbm, ⟨1, _⟩ => ⟨S8192x5632, .bf16⟩
  | .hbm, ⟨2, _⟩ => ⟨S3x5632, .f32⟩
  | .hbm, ⟨3, _⟩ => ⟨S5632, .f32⟩
  | .hbm, ⟨4, _⟩ => ⟨S8192x5632, .f32⟩
  | .hbm, ⟨5, _⟩ => ⟨S_, .f32⟩
  | .hbm, ⟨6, _⟩ => ⟨S2x5632, .f32⟩
  | .hbm, ⟨7, _⟩ => ⟨S8194x5632, .f32⟩
  | .hbm, ⟨8, _⟩ => ⟨S1x5632, .f32⟩
  | .hbm, ⟨9, _⟩ => ⟨S5632, .f32⟩
  | .hbm, ⟨10, _⟩ => ⟨S8192x5632, .f32⟩
  | .hbm, ⟨11, _⟩ => ⟨S1x5632, .f32⟩
  | .hbm, ⟨12, _⟩ => ⟨S8192x5632, .f32⟩
  | .hbm, ⟨13, _⟩ => ⟨S8192x5632, .f32⟩
  | .hbm, ⟨14, _⟩ => ⟨S1x5632, .f32⟩
  | .hbm, ⟨15, _⟩ => ⟨S5632, .f32⟩
  | .hbm, ⟨16, _⟩ => ⟨S8192x5632, .f32⟩
  | .hbm, ⟨17, _⟩ => ⟨S1x5632, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S1x5632, .f32⟩
  | .hbm, ⟨22, _⟩ => ⟨S5632, .f32⟩
  | .hbm, ⟨23, _⟩ => ⟨S8192x5632, .f32⟩
  | .hbm, ⟨24, _⟩ => ⟨S1x5632, .f32⟩
  | .hbm, ⟨25, _⟩ => ⟨S8192x5632, .f32⟩
  | .hbm, ⟨26, _⟩ => ⟨S8192x5632, .f32⟩
  | .hbm, ⟨27, _⟩ => ⟨S8192x5632, .f32⟩
  | .hbm, ⟨28, _⟩ => ⟨S1x5632, .f32⟩
  | .hbm, ⟨29, _⟩ => ⟨S8192x5632, .f32⟩
  | .hbm, ⟨30, _⟩ => ⟨S8192x5632, .f32⟩
  | .hbm, ⟨31, _⟩ => ⟨S8192x2816, .f32⟩
  | .hbm, ⟨32, _⟩ => ⟨S8192x2816, .f32⟩
  | .hbm, ⟨33, _⟩ => ⟨S8192x2816, .bf16⟩
  | .hbm, ⟨34, _⟩ => ⟨S8192x2816, .bf16⟩
  | .hbm, ⟨35, _⟩ => ⟨S8192x5632, .bf16⟩
  | .hbm, ⟨36, _⟩ => ⟨S3x5632, .f32⟩
  | .hbm, ⟨37, _⟩ => ⟨S1x5632, .f32⟩
  | .local _ .vmem, ⟨0, _⟩ => ⟨S512x1408, .bf16⟩
  | .local _ .vmem, ⟨1, _⟩ => ⟨S512x1408, .bf16⟩
  | .local _ .vmem, ⟨2, _⟩ => ⟨S16x1408, .bf16⟩
  | .local _ .vmem, ⟨3, _⟩ => ⟨S16x1408, .bf16⟩
  | .local _ .vmem, ⟨4, _⟩ => ⟨S512x1408, .bf16⟩
  | .local _ .vmem, ⟨5, _⟩ => ⟨S512x1408, .bf16⟩
  | .local _ .vmem, ⟨6, _⟩ => ⟨S16x1408, .bf16⟩
  | .local _ .vmem, ⟨7, _⟩ => ⟨S16x1408, .bf16⟩
  | .local _ .vmem, ⟨8, _⟩ => ⟨S512x1408, .bf16⟩
  | .local _ .vmem, ⟨9, _⟩ => ⟨S512x1408, .bf16⟩
  | .local _ .vmem, ⟨10, _⟩ => ⟨S16x1408, .bf16⟩
  | .local _ .vmem, ⟨11, _⟩ => ⟨S16x1408, .bf16⟩
  | .local _ .vmem, ⟨12, _⟩ => ⟨S512x1408, .bf16⟩
  | .local _ .vmem, ⟨13, _⟩ => ⟨S512x1408, .bf16⟩
  | .local _ .vmem, ⟨14, _⟩ => ⟨S16x1408, .bf16⟩
  | .local _ .vmem, ⟨15, _⟩ => ⟨S16x1408, .bf16⟩
  | .local _ .vmem, ⟨16, _⟩ => ⟨S3x1408, .f32⟩
  | .local _ .vmem, ⟨17, _⟩ => ⟨S3x1408, .f32⟩
  | .local _ .vmem, ⟨18, _⟩ => ⟨S512x1408, .bf16⟩
  | .local _ .vmem, ⟨19, _⟩ => ⟨S512x1408, .bf16⟩
  | .local _ .vmem, ⟨20, _⟩ => ⟨S3x1408, .f32⟩
  | .local _ .vmem, ⟨21, _⟩ => ⟨S3x1408, .f32⟩
  | .local _ .vmem, ⟨22, _⟩ => ⟨S1x1408, .f32⟩
  | .local _ .vmem, ⟨23, _⟩ => ⟨S1x1408, .f32⟩
  | .local _ .vmem, ⟨24, _⟩ => ⟨S528x1408, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30_0 : Ref sig .tc := ⟨.hbm, 35, rfl⟩
abbrev main_v30_1 : Ref sig .tc := ⟨.hbm, 36, rfl⟩
abbrev main_v30_2 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![arg1.toNat, v9.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi arg0 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let c0_i32_4 : BitVec 32 := 0#32
  ![v2.toNat, v12.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![arg1.toNat, v9.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi arg0 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let c0_i32_4 : BitVec 32 := 0#32
  ![v2.toNat, v12.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![arg1.toNat, v9.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi arg0 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let c0_i32_4 : BitVec 32 := 0#32
  ![v2.toNat, v12.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S16x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S3x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1408 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S3x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1408 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== KernelIdeal.lean ====
variable {F : FTy → Type} [FloatOps F] [Named F]
def κ : String → Option EReal := fun
  | "cube" => some ((8943 / 200000 : ℝ) : EReal)
  | "cube_slope" => some ((26829 / 200000 : ℝ) : EReal)
  | _ => none
-- ==== ReferenceIdeal.lean ====
abbrev S8192x2816 : Shape := ⟨2, ![8192, 2816]⟩
abbrev S8192x5632 : Shape := ⟨2, ![8192, 5632]⟩
abbrev S3x5632 : Shape := ⟨2, ![3, 5632]⟩
abbrev S5632 : Shape := ⟨1, ![5632]⟩
abbrev S_ : Shape := ⟨0, ![]⟩
abbrev S2x5632 : Shape := ⟨2, ![2, 5632]⟩
abbrev S8194x5632 : Shape := ⟨2, ![8194, 5632]⟩
abbrev S1x5632 : Shape := ⟨2, ![1, 5632]⟩

abbrev nBuf : Space → Nat
  | .hbm => 136
  | .vmem => 0
  | .smem => 0
  | _ => 0

abbrev hbmTy0_0 (i : Nat) : BufTy := match i % 128 with
  | 0 => ⟨S8192x2816, .bf16⟩
  | 1 => ⟨S8192x5632, .bf16⟩
  | 2 => ⟨S3x5632, .f32⟩
  | 3 => ⟨S5632, .f32⟩
  | 4 => ⟨S8192x5632, .f32⟩
  | 5 => ⟨S_, .f32⟩
  | 6 => ⟨S2x5632, .f32⟩
  | 7 => ⟨S8194x5632, .f32⟩
  | 8 => ⟨S_, .f32⟩
  | 9 => ⟨S2x5632, .f32⟩
  | 10 => ⟨S1x5632, .f32⟩
  | 11 => ⟨S5632, .f32⟩
  | 12 => ⟨S8192x5632, .f32⟩
  | 13 => ⟨S1x5632, .f32⟩
  | 14 => ⟨S8192x5632, .f32⟩
  | 15 => ⟨S8192x5632, .f32⟩
  | 16 => ⟨S1x5632, .f32⟩
  | 17 => ⟨S5632, .f32⟩
  | 18 => ⟨S8192x5632, .f32⟩
  | 19 => ⟨S1x5632, .f32⟩
  | 20 => ⟨S8192x5632, .f32⟩
  | 21 => ⟨S8192x5632, .f32⟩
  | 22 => ⟨S8192x5632, .f32⟩
  | 23 => ⟨S1x5632, .f32⟩
  | 24 => ⟨S5632, .f32⟩
  | 25 => ⟨S8192x5632, .f32⟩
  | 26 => ⟨S1x5632, .f32⟩
  | 27 => ⟨S8192x5632, .f32⟩
  | 28 => ⟨S8192x5632, .f32⟩
  | 29 => ⟨S8192x5632, .f32⟩
  | 30 => ⟨S1x5632, .f32⟩
  | 31 => ⟨S8192x5632, .f32⟩
  | 32 => ⟨S8192x5632, .f32⟩
  | 33 => ⟨S8192x2816, .f32⟩
  | 34 => ⟨S8192x2816, .f32⟩
  | 35 => ⟨S_, .f32⟩
  | 36 => ⟨S_, .f32⟩
  | 37 => ⟨S_, .f32⟩
  | 38 => ⟨S8192x2816, .f32⟩
  | 39 => ⟨S8192x2816, .f32⟩
  | 40 => ⟨S8192x2816, .f32⟩
  | 41 => ⟨S_, .f32⟩
  | 42 => ⟨S8192x2816, .f32⟩
  | 43 => ⟨S8192x2816, .f32⟩
  | 44 => ⟨S8192x2816, .f32⟩
  | 45 => ⟨S8192x2816, .f32⟩
  | 46 => ⟨S8192x2816, .f32⟩
  | 47 => ⟨S_, .f32⟩
  | 48 => ⟨S8192x2816, .f32⟩
  | 49 => ⟨S8192x2816, .f32⟩
  | 50 => ⟨S8192x2816, .f32⟩
  | 51 => ⟨S_, .f32⟩
  | 52 => ⟨S8192x2816, .f32⟩
  | 53 => ⟨S8192x2816, .f32⟩
  | 54 => ⟨S_, .f32⟩
  | 55 => ⟨S8192x2816, .f32⟩
  | 56 => ⟨S8192x2816, .f32⟩
  | 57 => ⟨S8192x2816, .f32⟩
  | 58 => ⟨S_, .f32⟩
  | 59 => ⟨S8192x2816, .f32⟩
  | 60 => ⟨S8192x2816, .f32⟩
  | 61 => ⟨S_, .f32⟩
  | 62 => ⟨S8192x2816, .f32⟩
  | 63 => ⟨S8192x2816, .f32⟩
  | 64 => ⟨S8192x2816, .f32⟩
  | 65 => ⟨S8192x2816, .f32⟩
  | 66 => ⟨S8192x2816, .f32⟩
  | 67 => ⟨S8192x2816, .f32⟩
  | 68 => ⟨S8192x2816, .f32⟩
  | 69 => ⟨S8192x2816, .f32⟩
  | 70 => ⟨S8192x2816, .f32⟩
  | 71 => ⟨S_, .f32⟩
  | 72 => ⟨S8192x2816, .f32⟩
  | 73 => ⟨S8192x2816, .f32⟩
  | 74 => ⟨S8192x2816, .f32⟩
  | 75 => ⟨S_, .f32⟩
  | 76 => ⟨S8192x2816, .f32⟩
  | 77 => ⟨S8192x2816, .f32⟩
  | 78 => ⟨S8192x2816, .f32⟩
  | 79 => ⟨S8192x2816, .f32⟩
  | 80 => ⟨S8192x2816, .f32⟩
  | 81 => ⟨S8192x2816, .f32⟩
  | 82 => ⟨S8192x2816, .f32⟩
  | 83 => ⟨S8192x5632, .f32⟩
  | 84 => ⟨S_, .f32⟩
  | 85 => ⟨S5632, .f32⟩
  | 86 => ⟨S1x5632, .f32⟩
  | 87 => ⟨S_, .f32⟩
  | 88 => ⟨S5632, .f32⟩
  | 89 => ⟨S8192x5632, .f32⟩
  | 90 => ⟨S8192x5632, .f32⟩
  | 91 => ⟨S8192x5632, .f32⟩
  | 92 => ⟨S_, .f32⟩
  | 93 => ⟨S5632, .f32⟩
  | 94 => ⟨S1x5632, .f32⟩
  | 95 => ⟨S_, .f32⟩
  | 96 => ⟨S5632, .f32⟩
  | 97 => ⟨S_, .f32⟩
  | 98 => ⟨S8194x5632, .f32⟩
  | 99 => ⟨S1x5632, .f32⟩
  | 100 => ⟨S_, .f32⟩
  | 101 => ⟨S3x5632, .f32⟩
  | 102 => ⟨S8192x5632, .f32⟩
  | 103 => ⟨S8192x5632, .f32⟩
  | 104 => ⟨S8192x5632, .f32⟩
  | 105 => ⟨S_, .f32⟩
  | 106 => ⟨S5632, .f32⟩
  | 107 => ⟨S1x5632, .f32⟩
  | 108 => ⟨S_, .f32⟩
  | 109 => ⟨S5632, .f32⟩
  | 110 => ⟨S_, .f32⟩
  | 111 => ⟨S8194x5632, .f32⟩
  | 112 => ⟨S8194x5632, .f32⟩
  | 113 => ⟨S1x5632, .f32⟩
  | 114 => ⟨S_, .f32⟩
  | 115 => ⟨S3x5632, .f32⟩
  | 116 => ⟨S3x5632, .f32⟩
  | 117 => ⟨S8192x5632, .f32⟩
  | 118 => ⟨S8192x5632, .f32⟩
  | 119 => ⟨S8192x5632, .f32⟩
  | 120 => ⟨S_, .f32⟩
  | 121 => ⟨S5632, .f32⟩
  | 122 => ⟨S1x5632, .f32⟩
  | 123 => ⟨S_, .f32⟩
  | 124 => ⟨S5632, .f32⟩
  | 125 => ⟨S_, .f32⟩
  | 126 => ⟨S8194x5632, .f32⟩
  | 127 => ⟨S8194x5632, .f32⟩
  | _ => ⟨S8192x2816, .bf16⟩

abbrev hbmTy0_1 (i : Nat) : BufTy := match i % 128 with
  | 0 => ⟨S1x5632, .f32⟩
  | 1 => ⟨S_, .f32⟩
  | 2 => ⟨S3x5632, .f32⟩
  | 3 => ⟨S3x5632, .f32⟩
  | 4 => ⟨S2x5632, .f32⟩
  | 5 => ⟨S8192x5632, .f32⟩
  | 6 => ⟨S8192x5632, .bf16⟩
  | 7 => ⟨S1x5632, .f32⟩
  | _ => ⟨S8192x2816, .bf16⟩

abbrev hbmTy (i : Nat) : BufTy := match i / 128 with
  | 0 => hbmTy0_0 i
  | 1 => hbmTy0_1 i
  | _ => ⟨S8192x2816, .bf16⟩

abbrev bufTy : (tb : Table) → Fin (tcTables nBuf tb) → BufTy
  | .hbm, ⟨i, _⟩ => hbmTy i
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_1 : Ref sig .tc := ⟨.hbm, 35, rfl⟩
abbrev main_cst_2 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_3 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_4 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_5 : Ref sig .tc := ⟨.hbm, 51, rfl⟩
abbrev main_v41 : Ref sig .tc := ⟨.hbm, 52, rfl⟩
abbrev main_v42 : Ref sig .tc := ⟨.hbm, 53, rfl⟩
abbrev main_cst_6 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_7 : Ref sig .tc := ⟨.hbm, 58, rfl⟩
abbrev main_v46 : Ref sig .tc := ⟨.hbm, 59, rfl⟩
abbrev main_v47 : Ref sig .tc := ⟨.hbm, 60, rfl⟩
abbrev main_cst_8 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_9 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_10 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_11 : Ref sig .tc := ⟨.hbm, 84, rfl⟩
abbrev main_v68 : Ref sig .tc := ⟨.hbm, 85, rfl⟩
abbrev main_v69 : Ref sig .tc := ⟨.hbm, 86, rfl⟩
abbrev main_cst_12 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_cst_13 : Ref sig .tc := ⟨.hbm, 92, rfl⟩
abbrev main_v74 : Ref sig .tc := ⟨.hbm, 93, rfl⟩
abbrev main_v75 : Ref sig .tc := ⟨.hbm, 94, rfl⟩
abbrev main_cst_14 : Ref sig .tc := ⟨.hbm, 95, rfl⟩
abbrev main_v76 : Ref sig .tc := ⟨.hbm, 96, rfl⟩
abbrev main_cst_15 : Ref sig .tc := ⟨.hbm, 97, rfl⟩
abbrev main_v77 : Ref sig .tc := ⟨.hbm, 98, rfl⟩
abbrev main_v78 : Ref sig .tc := ⟨.hbm, 99, rfl⟩
abbrev main_cst_16 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_cst_17 : Ref sig .tc := ⟨.hbm, 105, rfl⟩
abbrev main_v83 : Ref sig .tc := ⟨.hbm, 106, rfl⟩
abbrev main_v84 : Ref sig .tc := ⟨.hbm, 107, rfl⟩
abbrev main_cst_18 : Ref sig .tc := ⟨.hbm, 108, rfl⟩
abbrev main_v85 : Ref sig .tc := ⟨.hbm, 109, rfl⟩
abbrev main_cst_19 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_cst_20 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_cst_21 : Ref sig .tc := ⟨.hbm, 120, rfl⟩
abbrev main_v94 : Ref sig .tc := ⟨.hbm, 121, rfl⟩
abbrev main_v95 : Ref sig .tc := ⟨.hbm, 122, rfl⟩
abbrev main_cst_22 : Ref sig .tc := ⟨.hbm, 123, rfl⟩
abbrev main_v96 : Ref sig .tc := ⟨.hbm, 124, rfl⟩
abbrev main_cst_23 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_cst_24 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩

abbrev nD : Nat := 1
abbrev τ : Topo := Topo.v7x

variable {F : FTy → Type} [FloatOps F]
-- ==== DUp.lean ====
abbrev S8192x5632 : Shape := ⟨2, ![8192, 5632]⟩
abbrev S8192x1024 : Shape := ⟨2, ![8192, 1024]⟩
abbrev S5632x1024 : Shape := ⟨2, ![5632, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .bf16⟩
  | .hbm, ⟨2, _⟩ => ⟨S5632x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond3 (i : grid0.Coords) : BitVec 1 :=
  let arg2 : BitVec 32 := BitVec.ofNat 32 (i 2).val
  let c7_i32_6 : BitVec 32 := 7#32
  let v11 : BitVec 1 := Scalar.cmpi .eq arg2 c7_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DUpRefIdeal.lean ====
abbrev S8192x5632 : Shape := ⟨2, ![8192, 5632]⟩
abbrev S8192x1024 : Shape := ⟨2, ![8192, 1024]⟩
abbrev S_ : Shape := ⟨0, ![]⟩
abbrev S5632x1024 : Shape := ⟨2, ![5632, 1024]⟩
abbrev S1024x5632 : Shape := ⟨2, ![1024, 5632]⟩

abbrev nBuf : Space → Nat
  | .hbm => 13
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .bf16⟩
  | .hbm, ⟨2, _⟩ => ⟨S_, .bf16⟩
  | .hbm, ⟨3, _⟩ => ⟨S5632x1024, .bf16⟩
  | .hbm, ⟨4, _⟩ => ⟨S1024x5632, .bf16⟩
  | .hbm, ⟨5, _⟩ => ⟨S8192x1024, .f32⟩
  | .hbm, ⟨6, _⟩ => ⟨S1024x5632, .f32⟩
  | .hbm, ⟨7, _⟩ => ⟨S8192x5632, .f32⟩
  | .hbm, ⟨8, _⟩ => ⟨S8192x5632, .f32⟩
  | .hbm, ⟨9, _⟩ => ⟨S5632x1024, .f32⟩
  | .hbm, ⟨10, _⟩ => ⟨S1024x5632, .f32⟩
  | .hbm, ⟨11, _⟩ => ⟨S1024x5632, .bf16⟩
  | .hbm, ⟨12, _⟩ => ⟨S5632x1024, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== DDown.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32_6 : BitVec 32 := 7#32
  let v12 : BitVec 1 := Scalar.cmpi .eq arg2 c7_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DDownRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S_, .bf16⟩
  | .hbm, ⟨3, _⟩ => ⟨S2816x1024, .bf16⟩
  | .hbm, ⟨4, _⟩ => ⟨S8192x2816, .f32⟩
  | .hbm, ⟨5, _⟩ => ⟨S2816x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DIn.lean ====
abbrev S8192x2304 : Shape := ⟨2, ![8192, 2304]⟩
abbrev S8192x1024 : Shape := ⟨2, ![8192, 1024]⟩
abbrev S2304x1024 : Shape := ⟨2, ![2304, 1024]⟩
abbrev S1024x1152 : Shape := ⟨2, ![1024, 1152]⟩
abbrev S1024x1024 : Shape := ⟨2, ![1024, 1024]⟩
abbrev S1152x1024 : Shape := ⟨2, ![1152, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2304, .bf16⟩
  | .hbm, ⟨1, _⟩ => ⟨S8192x1024, .bf16⟩
  | .hbm, ⟨2, _⟩ => ⟨S2304x1024, .bf16⟩
  | .local _ .vmem, ⟨0, _⟩ => ⟨S1024x1152, .bf16⟩
  | .local _ .vmem, ⟨1, _⟩ => ⟨S1024x1152, .bf16⟩
  | .local _ .vmem, ⟨2, _⟩ => ⟨S1024x1024, .bf16⟩
  | .local _ .vmem, ⟨3, _⟩ => ⟨S1024x1024, .bf16⟩
  | .local _ .vmem, ⟨4, _⟩ => ⟨S1152x1024, .bf16⟩
  | .local _ .vmem, ⟨5, _⟩ => ⟨S1152x1024, .bf16⟩
  | .local _ .vmem, ⟨6, _⟩ => ⟨S1152x1024, .f32⟩
  | _, _ => ⟨S8192x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32_6 : BitVec 32 := 7#32
  let v11 : BitVec 1 := Scalar.cmpi .eq arg2 c7_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DInRefIdeal.lean ====
abbrev S8192x2304 : Shape := ⟨2, ![8192, 2304]⟩
abbrev S8192x1024 : Shape := ⟨2, ![8192, 1024]⟩
abbrev S_ : Shape := ⟨0, ![]⟩
abbrev S2304x1024 : Shape := ⟨2, ![2304, 1024]⟩
abbrev S1024x2304 : Shape := ⟨2, ![1024, 2304]⟩

abbrev nBuf : Space → Nat
  | .hbm => 13
  | .vmem => 0
  | .smem => 0
  | _ => 0

abbrev bufTy : (tb : Table) → Fin (tcTables nBuf tb) → BufTy
  | .hbm, ⟨0, _⟩ => ⟨S8192x2304, .bf16⟩
  | .hbm, ⟨1, _⟩ => ⟨S8192x1024, .bf16⟩
  | .hbm, ⟨2, _⟩ => ⟨S_, .bf16⟩
  | .hbm, ⟨3, _⟩ => ⟨S2304x1024, .bf16⟩
  | .hbm, ⟨4, _⟩ => ⟨S1024x2304, .bf16⟩
  | .hbm, ⟨5, _⟩ => ⟨S8192x1024, .f32⟩
  | .hbm, ⟨6, _⟩ => ⟨S1024x2304, .f32⟩
  | .hbm, ⟨7, _⟩ => ⟨S8192x2304, .f32⟩
  | .hbm, ⟨8, _⟩ => ⟨S8192x2304, .f32⟩
  | .hbm, ⟨9, _⟩ => ⟨S2304x1024, .f32⟩
  | .hbm, ⟨10, _⟩ => ⟨S1024x2304, .f32⟩
  | .hbm, ⟨11, _⟩ => ⟨S1024x2304, .bf16⟩
  | .hbm, ⟨12, _⟩ => ⟨S2304x1024, .bf16⟩
  | _, _ => ⟨S8192x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== DGate.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32_6 : BitVec 32 := 7#32
  let v11 : BitVec 1 := Scalar.cmpi .eq arg2 c7_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DGateRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .bf16⟩
  | .hbm, ⟨3, _⟩ => ⟨S1024x1024, .bf16⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DOut.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32_6 : BitVec 32 := 7#32
  let v12 : BitVec 1 := Scalar.cmpi .eq arg2 c7_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DOutRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .bf16⟩
  | .hbm, ⟨3, _⟩ => ⟨S1024x1024, .bf16⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DProj.lean ====
abbrev S8192x1024 : Shape := ⟨2, ![8192, 1024]⟩
abbrev S8192x256 : Shape := ⟨2, ![8192, 256]⟩
abbrev S1024x256 : Shape := ⟨2, ![1024, 256]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x256, .f32⟩
  | .hbm, ⟨2, _⟩ => ⟨S1024x256, .bf16⟩
  | .local _ .vmem, ⟨0, _⟩ => ⟨S1024x1024, .bf16⟩
  | .local _ .vmem, ⟨1, _⟩ => ⟨S1024x1024, .bf16⟩
  | .local _ .vmem, ⟨2, _⟩ => ⟨S1024x256, .f32⟩
  | .local _ .vmem, ⟨3, _⟩ => ⟨S1024x256, .f32⟩
  | .local _ .vmem, ⟨4, _⟩ => ⟨S1024x256, .bf16⟩
  | .local _ .vmem, ⟨5, _⟩ => ⟨S1024x256, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32_6 : BitVec 32 := 7#32
  let v12 : BitVec 1 := Scalar.cmpi .eq arg2 c7_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DProjRefIdeal.lean ====
abbrev S8192x1024 : Shape := ⟨2, ![8192, 1024]⟩
abbrev S8192x256 : Shape := ⟨2, ![8192, 256]⟩
abbrev S_ : Shape := ⟨0, ![]⟩
abbrev S1024x256 : Shape := ⟨2, ![1024, 256]⟩
abbrev S256x1024 : Shape := ⟨2, ![256, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x256, .f32⟩
  | .hbm, ⟨2, _⟩ => ⟨S_, .bf16⟩
  | .hbm, ⟨3, _⟩ => ⟨S1024x256, .bf16⟩
  | .hbm, ⟨4, _⟩ => ⟨S256x1024, .bf16⟩
  | .hbm, ⟨5, _⟩ => ⟨S256x1024, .f32⟩
  | .hbm, ⟨6, _⟩ => ⟨S8192x1024, .f32⟩
  | .hbm, ⟨7, _⟩ => ⟨S8192x1024, .f32⟩
  | .hbm, ⟨8, _⟩ => ⟨S1024x256, .f32⟩
  | .hbm, ⟨9, _⟩ => ⟨S256x1024, .f32⟩
  | .hbm, ⟨10, _⟩ => ⟨S256x1024, .bf16⟩
  | .hbm, ⟨11, _⟩ => ⟨S1024x256, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DGlu.lean ====
abbrev S8192x256 : Shape := ⟨2, ![8192, 256]⟩
abbrev S256x256 : Shape := ⟨2, ![256, 256]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .bf16⟩
  | .hbm, ⟨1, _⟩ => ⟨S8192x256, .bf16⟩
  | .hbm, ⟨2, _⟩ => ⟨S256x256, .bf16⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S256x256, .bf16⟩
  | .local _ .vmem, ⟨5, _⟩ => ⟨S256x256, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32_6 : BitVec 32 := 7#32
  let v11 : BitVec 1 := Scalar.cmpi .eq arg2 c7_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DGluRefIdeal.lean ====
abbrev S8192x256 : Shape := ⟨2, ![8192, 256]⟩
abbrev S_ : Shape := ⟨0, ![]⟩
abbrev S256x256 : Shape := ⟨2, ![256, 256]⟩

abbrev nBuf : Space → Nat
  | .hbm => 11
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x256, .bf16⟩
  | .hbm, ⟨2, _⟩ => ⟨S_, .bf16⟩
  | .hbm, ⟨3, _⟩ => ⟨S256x256, .bf16⟩
  | .hbm, ⟨4, _⟩ => ⟨S8192x256, .f32⟩
  | .hbm, ⟨5, _⟩ => ⟨S256x256, .f32⟩
  | .hbm, ⟨6, _⟩ => ⟨S8192x256, .f32⟩
  | .hbm, ⟨7, _⟩ => ⟨S8192x256, .f32⟩
  | .hbm, ⟨8, _⟩ => ⟨S256x256, .f32⟩
  | .hbm, ⟨9, _⟩ => ⟨S256x256, .f32⟩
  | .hbm, ⟨10, _⟩ => ⟨S256x256, .bf16⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== UpT.lean ====
abbrev S8192x5632 : Shape := ⟨2, ![8192, 5632]⟩
abbrev S5632x1024 : Shape := ⟨2, ![5632, 1024]⟩
abbrev S8192x1024 : Shape := ⟨2, ![8192, 1024]⟩
abbrev S1024 : Shape := ⟨1, ![1024]⟩
abbrev S1x1024 : Shape := ⟨2, ![1, 1024]⟩
abbrev S1024x1408 : Shape := ⟨2, ![1024, 1408]⟩
abbrev S1408x1024 : Shape := ⟨2, ![1408, 1024]⟩
abbrev S1024x1024 : Shape := ⟨2, ![1024, 1024]⟩
abbrev S1024x1 : Shape := ⟨2, ![1024, 1]⟩

abbrev nBuf : Space → Nat
  | .hbm => 8
  | .vmem => 13
  | .smem => 0
  | _ => 0

abbrev bufTy : (tb : Table) → Fin (tcTables nBuf tb) → BufTy
  | .hbm, ⟨0, _⟩ => ⟨S8192x5632, .bf16⟩
  | .hbm, ⟨1, _⟩ => ⟨S5632x1024, .bf16⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S1x1024, .f32⟩
  | .hbm, ⟨6, _⟩ => ⟨S8192x1024, .f32⟩
  | .hbm, ⟨7, _⟩ => ⟨S1x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![8, 1, 4], ![false, false, false]⟩

def k0_cond4 (i : grid0.Coords) : BitVec 1 :=
  let arg2 : BitVec 32 := BitVec.ofNat 32 (i 2).val
  let c3_i32_9 : BitVec 32 := 3#32
  let v16 : BitVec 1 := Scalar.cmpi .eq arg2 c3_i32_9
  let v17 : BitVec 32 := Scalar.extui v16
  let c0_i32_10 : BitVec 32 := 0#32
  let v18 : BitVec 1 := Scalar.cmpi .ne v17 c0_i32_10
  v18

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let arg2 : BitVec 32 := BitVec.ofNat 32 (i 2).val
  let c0_i32_3 : BitVec 32 := 0#32
  let v4 : BitVec 1 := Scalar.cmpi .eq arg2 c0_i32_3
  let v5 : BitVec 1 := Scalar.andi v3 v4
  let v6 : BitVec 32 := Scalar.extui v5
  let c0_i32_4 : BitVec 32 := 0#32
  let v7 : BitVec 1 := Scalar.cmpi .ne v6 c0_i32_4
  v7

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== UpTRefIdeal.lean ====
abbrev S8192x5632 : Shape := ⟨2, ![8192, 5632]⟩
abbrev S5632x1024 : Shape := ⟨2, ![5632, 1024]⟩
abbrev S8192x1024 : Shape := ⟨2, ![8192, 1024]⟩
abbrev S1024 : Shape := ⟨1, ![1024]⟩
abbrev S1024x5632 : Shape := ⟨2, ![1024, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 57
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x1024, .bf16⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S1024x5632, .bf16⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S1024x5632, .f32⟩
  | .hbm, ⟨27, _⟩ => ⟨S8192x5632, .f32⟩
  | .hbm, ⟨28, _⟩ => ⟨S8192x5632, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S1x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== InT.lean ====
abbrev S8192x2304 : Shape := ⟨2, ![8192, 2304]⟩
abbrev S2304x1024 : Shape := ⟨2, ![2304, 1024]⟩
abbrev S8192x1024 : Shape := ⟨2, ![8192, 1024]⟩
abbrev S1024 : Shape := ⟨1, ![1024]⟩
abbrev S1x1024 : Shape := ⟨2, ![1, 1024]⟩
abbrev S1024x1152 : Shape := ⟨2, ![1024, 1152]⟩
abbrev S1152x1024 : Shape := ⟨2, ![1152, 1024]⟩
abbrev S1024x1024 : Shape := ⟨2, ![1024, 1024]⟩
abbrev S1024x1 : Shape := ⟨2, ![1024, 1]⟩

abbrev nBuf : Space → Nat
  | .hbm => 8
  | .vmem => 13
  | .smem => 0
  | _ => 0

abbrev bufTy : (tb : Table) → Fin (tcTables nBuf tb) → BufTy
  | .hbm, ⟨0, _⟩ => ⟨S8192x2304, .bf16⟩
  | .hbm, ⟨1, _⟩ => ⟨S2304x1024, .bf16⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S1x1024, .f32⟩
  | .hbm, ⟨6, _⟩ => ⟨S8192x1024, .f32⟩
  | .hbm, ⟨7, _⟩ => ⟨S1x1024, .f32⟩
  | .local _ .vmem, ⟨0, _⟩ => ⟨S1024x1152, .bf16⟩
  | .local _ .vmem, ⟨1, _⟩ => ⟨S1024x1152, .bf16⟩
  | .local _ .vmem, ⟨2, _⟩ => ⟨S1152x1024, .bf16⟩
  | .local _ .vmem, ⟨3, _⟩ => ⟨S1152x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S8192x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![8, 1, 2], ![false, false, false]⟩

def k0_cond4 (i : grid0.Coords) : BitVec 1 :=
  let arg2 : BitVec 32 := BitVec.ofNat 32 (i 2).val
  let c1_i32_9 : BitVec 32 := 1#32
  let v16 : BitVec 1 := Scalar.cmpi .eq arg2 c1_i32_9
  let v17 : BitVec 32 := Scalar.extui v16
  let c0_i32_10 : BitVec 32 := 0#32
  let v18 : BitVec 1 := Scalar.cmpi .ne v17 c0_i32_10
  v18

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let arg2 : BitVec 32 := BitVec.ofNat 32 (i 2).val
  let c0_i32_3 : BitVec 32 := 0#32
  let v4 : BitVec 1 := Scalar.cmpi .eq arg2 c0_i32_3
  let v5 : BitVec 1 := Scalar.andi v3 v4
  let v6 : BitVec 32 := Scalar.extui v5
  let c0_i32_4 : BitVec 32 := 0#32
  let v7 : BitVec 1 := Scalar.cmpi .ne v6 c0_i32_4
  v7

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1152x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== InTRefIdeal.lean ====
abbrev S8192x2304 : Shape := ⟨2, ![8192, 2304]⟩
abbrev S2304x1024 : Shape := ⟨2, ![2304, 1024]⟩
abbrev S8192x1024 : Shape := ⟨2, ![8192, 1024]⟩
abbrev S1024 : Shape := ⟨1, ![1024]⟩
abbrev S1024x2304 : Shape := ⟨2, ![1024, 2304]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 57
  | .vmem => 0
  | .smem => 0
  | _ => 0

abbrev bufTy : (tb : Table) → Fin (tcTables nBuf tb) → BufTy
  | .hbm, ⟨0, _⟩ => ⟨S8192x2304, .bf16⟩
  | .hbm, ⟨1, _⟩ => ⟨S2304x1024, .bf16⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S1024x2304, .bf16⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S1024x2304, .f32⟩
  | .hbm, ⟨27, _⟩ => ⟨S8192x2304, .f32⟩
  | .hbm, ⟨28, _⟩ => ⟨S8192x2304, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S1x1024, .f32⟩
  | _, _ => ⟨S8192x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== GateT.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 8
  | .vmem => 11
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S1x1024, .f32⟩
  | .hbm, ⟨6, _⟩ => ⟨S8192x1024, .f32⟩
  | .hbm, ⟨7, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== GateTRefIdeal.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S1024x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S1x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== DownT.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S8192x2816, .bf16⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownTRefIdeal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S_, .bf16⟩
  | .hbm, ⟨3, _⟩ => ⟨S8192x2816, .bf16⟩
  | .hbm, ⟨4, _⟩ => ⟨S8192x2816, .f32⟩
  | .hbm, ⟨5, _⟩ => ⟨S2816x1024, .f32⟩
  | .hbm, ⟨6, _⟩ => ⟨S8192x1024, .f32⟩
  | .hbm, ⟨7, _⟩ => ⟨S8192x2816, .f32⟩
  | .hbm, ⟨8, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Up.lean ====
abbrev S8192x1024 : Shape := ⟨2, ![8192, 1024]⟩
abbrev S5632x1024 : Shape := ⟨2, ![5632, 1024]⟩
abbrev S8192x5632 : Shape := ⟨2, ![8192, 5632]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S5632x1024, .bf16⟩
  | .hbm, ⟨2, _⟩ => ⟨S8192x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S8192x1024 : Shape := ⟨2, ![8192, 1024]⟩
abbrev S5632x1024 : Shape := ⟨2, ![5632, 1024]⟩
abbrev S1024x5632 : Shape := ⟨2, ![1024, 5632]⟩
abbrev S8192x5632 : Shape := ⟨2, ![8192, 5632]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S5632x1024, .bf16⟩
  | .hbm, ⟨2, _⟩ => ⟨S1024x5632, .bf16⟩
  | .hbm, ⟨3, _⟩ => ⟨S8192x1024, .f32⟩
  | .hbm, ⟨4, _⟩ => ⟨S1024x5632, .f32⟩
  | .hbm, ⟨5, _⟩ => ⟨S8192x5632, .f32⟩
  | .hbm, ⟨6, _⟩ => ⟨S8192x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Down.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S1x1024 : Shape := ⟨2, ![1, 1024]⟩
abbrev S1024x1408 : Shape := ⟨2, ![1024, 1408]⟩
abbrev S1408x1024 : Shape := ⟨2, ![1408, 1024]⟩
abbrev S1024x1024 : Shape := ⟨2, ![1024, 1024]⟩
abbrev S1024x1 : Shape := ⟨2, ![1024, 1]⟩

abbrev nBuf : Space → Nat
  | .hbm => 7
  | .vmem => 12
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1024, .f32⟩
  | .hbm, ⟨4, _⟩ => ⟨S1x1024, .f32⟩
  | .hbm, ⟨5, _⟩ => ⟨S8192x1024, .f32⟩
  | .hbm, ⟨6, _⟩ => ⟨S8192x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== DownRefIdeal.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1024, .f32⟩
  | .hbm, ⟨4, _⟩ => ⟨S8192x2816, .f32⟩
  | .hbm, ⟨5, _⟩ => ⟨S2816x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== InProj.lean ====
abbrev S8192x1024 : Shape := ⟨2, ![8192, 1024]⟩
abbrev S2304x1024 : Shape := ⟨2, ![2304, 1024]⟩
abbrev S8192x2304 : Shape := ⟨2, ![8192, 2304]⟩
abbrev S1024x1024 : Shape := ⟨2, ![1024, 1024]⟩
abbrev S1152x1024 : Shape := ⟨2, ![1152, 1024]⟩
abbrev S1024x1152 : Shape := ⟨2, ![1024, 1152]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2304x1024, .bf16⟩
  | .hbm, ⟨2, _⟩ => ⟨S8192x2304, .f32⟩
  | .local _ .vmem, ⟨0, _⟩ => ⟨S1024x1024, .bf16⟩
  | .local _ .vmem, ⟨1, _⟩ => ⟨S1024x1024, .bf16⟩
  | .local _ .vmem, ⟨2, _⟩ => ⟨S1152x1024, .bf16⟩
  | .local _ .vmem, ⟨3, _⟩ => ⟨S1152x1024, .bf16⟩
  | .local _ .vmem, ⟨4, _⟩ => ⟨S1024x1152, .f32⟩
  | .local _ .vmem, ⟨5, _⟩ => ⟨S1024x1152, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1152x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjRefIdeal.lean ====
abbrev S8192x1024 : Shape := ⟨2, ![8192, 1024]⟩
abbrev S2304x1024 : Shape := ⟨2, ![2304, 1024]⟩
abbrev S1024x2304 : Shape := ⟨2, ![1024, 2304]⟩
abbrev S8192x2304 : Shape := ⟨2, ![8192, 2304]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2304x1024, .bf16⟩
  | .hbm, ⟨2, _⟩ => ⟨S1024x2304, .bf16⟩
  | .hbm, ⟨3, _⟩ => ⟨S8192x1024, .f32⟩
  | .hbm, ⟨4, _⟩ => ⟨S1024x2304, .f32⟩
  | .hbm, ⟨5, _⟩ => ⟨S8192x2304, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Gate.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateRefIdeal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proj.lean ====
abbrev S8192x256 : Shape := ⟨2, ![8192, 256]⟩
abbrev S1024x256 : Shape := ⟨2, ![1024, 256]⟩
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x256, .f32⟩
  | .hbm, ⟨1, _⟩ => ⟨S1024x256, .bf16⟩
  | .hbm, ⟨2, _⟩ => ⟨S8192x1024, .bf16⟩
  | .local _ .vmem, ⟨0, _⟩ => ⟨S1024x256, .f32⟩
  | .local _ .vmem, ⟨1, _⟩ => ⟨S1024x256, .f32⟩
  | .local _ .vmem, ⟨2, _⟩ => ⟨S1024x256, .bf16⟩
  | .local _ .vmem, ⟨3, _⟩ => ⟨S1024x1024, .bf16⟩
  | .local _ .vmem, ⟨4, _⟩ => ⟨S1024x1024, .bf16⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjRefIdeal.lean ====
abbrev S8192x256 : Shape := ⟨2, ![8192, 256]⟩
abbrev S1024x256 : Shape := ⟨2, ![1024, 256]⟩
abbrev S256x1024 : Shape := ⟨2, ![256, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S1024x256, .bf16⟩
  | .hbm, ⟨2, _⟩ => ⟨S256x1024, .bf16⟩
  | .hbm, ⟨3, _⟩ => ⟨S256x1024, .f32⟩
  | .hbm, ⟨4, _⟩ => ⟨S8192x1024, .f32⟩
  | .hbm, ⟨5, _⟩ => ⟨S8192x1024, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== AIn.lean ====
abbrev S8x288x1024 : Shape := ⟨3, ![8, 288, 1024]⟩
abbrev S2x288x1024 : Shape := ⟨3, ![2, 288, 1024]⟩
abbrev S8x144x1024 : Shape := ⟨3, ![8, 144, 1024]⟩
abbrev S1x144x1024 : Shape := ⟨3, ![1, 144, 1024]⟩
abbrev S144x1024 : Shape := ⟨2, ![144, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x288x1024, .bf16⟩
  | .hbm, ⟨1, _⟩ => ⟨S8x288x1024, .bf16⟩
  | .hbm, ⟨2, _⟩ => ⟨S2x288x1024, .f32⟩
  | .hbm, ⟨3, _⟩ => ⟨S2x288x1024, .f32⟩
  | .hbm, ⟨4, _⟩ => ⟨S2x288x1024, .f32⟩
  | .hbm, ⟨5, _⟩ => ⟨S2x288x1024, .f32⟩
  | .hbm, ⟨6, _⟩ => ⟨S2x288x1024, .f32⟩
  | .hbm, ⟨7, _⟩ => ⟨S2x288x1024, .f32⟩
  | .hbm, ⟨8, _⟩ => ⟨S2x288x1024, .f32⟩
  | .local _ .vmem, ⟨0, _⟩ => ⟨S8x144x1024, .bf16⟩
  | .local _ .vmem, ⟨1, _⟩ => ⟨S8x144x1024, .bf16⟩
  | .local _ .vmem, ⟨2, _⟩ => ⟨S8x144x1024, .bf16⟩
  | .local _ .vmem, ⟨3, _⟩ => ⟨S8x144x1024, .bf16⟩
  | .local _ .vmem, ⟨4, _⟩ => ⟨S1x144x1024, .f32⟩
  | .local _ .vmem, ⟨5, _⟩ => ⟨S1x144x1024, .f32⟩
  | .local _ .vmem, ⟨6, _⟩ => ⟨S1x144x1024, .f32⟩
  | .local _ .vmem, ⟨7, _⟩ => ⟨S1x144x1024, .f32⟩
  | .local _ .vmem, ⟨8, _⟩ => ⟨S1x144x1024, .f32⟩
  | .local _ .vmem, ⟨9, _⟩ => ⟨S1x144x1024, .f32⟩
  | .local _ .vmem, ⟨10, _⟩ => ⟨S1x144x1024, .f32⟩
  | .local _ .vmem, ⟨11, _⟩ => ⟨S1x144x1024, .f32⟩
  | .local _ .vmem, ⟨12, _⟩ => ⟨S1x144x1024, .f32⟩
  | .local _ .vmem, ⟨13, _⟩ => ⟨S1x144x1024, .f32⟩
  | .local _ .vmem, ⟨14, _⟩ => ⟨S1x144x1024, .f32⟩
  | .local _ .vmem, ⟨15, _⟩ => ⟨S1x144x1024, .f32⟩
  | .local _ .vmem, ⟨16, _⟩ => ⟨S1x144x1024, .f32⟩
  | .local _ .vmem, ⟨17, _⟩ => ⟨S1x144x1024, .f32⟩
  | _, _ => ⟨S8x288x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x144x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S8x144x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x144x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x144x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x144x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x144x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x144x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x144x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x144x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AInRefIdeal.lean ====
abbrev S8x288x1024 : Shape := ⟨3, ![8, 288, 1024]⟩
abbrev S2x288x1024 : Shape := ⟨3, ![2, 288, 1024]⟩
abbrev S_ : Shape := ⟨0, ![]⟩
abbrev S288x1024 : Shape := ⟨2, ![288, 1024]⟩
abbrev S1x288x1024 : Shape := ⟨3, ![1, 288, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x288x1024, .bf16⟩
  | .hbm, ⟨1, _⟩ => ⟨S8x288x1024, .bf16⟩
  | .hbm, ⟨2, _⟩ => ⟨S2x288x1024, .f32⟩
  | .hbm, ⟨3, _⟩ => ⟨S2x288x1024, .f32⟩
  | .hbm, ⟨4, _⟩ => ⟨S2x288x1024, .f32⟩
  | .hbm, ⟨5, _⟩ => ⟨S8x288x1024, .f32⟩
  | .hbm, ⟨6, _⟩ => ⟨S_, .f32⟩
  | .hbm, ⟨7, _⟩ => ⟨S288x1024, .f32⟩
  | .hbm, ⟨8, _⟩ => ⟨S8x288x1024, .f32⟩
  | .hbm, ⟨9, _⟩ => ⟨S_, .f32⟩
  | .hbm, ⟨10, _⟩ => ⟨S288x1024, .f32⟩
  | .hbm, ⟨11, _⟩ => ⟨S1x288x1024, .f32⟩
  | .hbm, ⟨12, _⟩ => ⟨S1x288x1024, .f32⟩
  | .hbm, ⟨13, _⟩ => ⟨S2x288x1024, .f32⟩
  | .hbm, ⟨14, _⟩ => ⟨S_, .f32⟩
  | .hbm, ⟨15, _⟩ => ⟨S2x288x1024, .f32⟩
  | .hbm, ⟨16, _⟩ => ⟨S2x288x1024, .f32⟩
  | .hbm, ⟨17, _⟩ => ⟨S_, .f32⟩
  | .hbm, ⟨18, _⟩ => ⟨S2x288x1024, .f32⟩
  | .hbm, ⟨19, _⟩ => ⟨S2x288x1024, .f32⟩
  | .hbm, ⟨20, _⟩ => ⟨S2x288x1024, .f32⟩
  | .hbm, ⟨21, _⟩ => ⟨S_, .f32⟩
  | .hbm, ⟨22, _⟩ => ⟨S2x288x1024, .f32⟩
  | .hbm, ⟨23, _⟩ => ⟨S2x288x1024, .f32⟩
  | .hbm, ⟨24, _⟩ => ⟨S2x288x1024, .f32⟩
  | .hbm, ⟨25, _⟩ => ⟨S_, .f32⟩
  | .hbm, ⟨26, _⟩ => ⟨S2x288x1024, .f32⟩
  | .hbm, ⟨27, _⟩ => ⟨S2x288x1024, .f32⟩
  | .hbm, ⟨28, _⟩ => ⟨S2x288x1024, .f32⟩
  | .hbm, ⟨29, _⟩ => ⟨S_, .f32⟩
  | .hbm, ⟨30, _⟩ => ⟨S2x288x1024, .f32⟩
  | .hbm, ⟨31, _⟩ => ⟨S2x288x1024, .f32⟩
  | .hbm, ⟨32, _⟩ => ⟨S_, .f32⟩
  | .hbm, ⟨33, _⟩ => ⟨S2x288x1024, .f32⟩
  | .hbm, ⟨34, _⟩ => ⟨S2x288x1024, .f32⟩
  | .hbm, ⟨35, _⟩ => ⟨S2x288x1024, .f32⟩
  | .hbm, ⟨36, _⟩ => ⟨S_, .f32⟩
  | .hbm, ⟨37, _⟩ => ⟨S2x288x1024, .f32⟩
  | .hbm, ⟨38, _⟩ => ⟨S2x288x1024, .f32⟩
  | .hbm, ⟨39, _⟩ => ⟨S2x288x1024, .f32⟩
  | .hbm, ⟨40, _⟩ => ⟨S_, .f32⟩
  | .hbm, ⟨41, _⟩ => ⟨S2x288x1024, .f32⟩
  | .hbm, ⟨42, _⟩ => ⟨S2x288x1024, .f32⟩
  | .hbm, ⟨43, _⟩ => ⟨S2x288x1024, .f32⟩
  | .hbm, ⟨44, _⟩ => ⟨S_, .f32⟩
  | .hbm, ⟨45, _⟩ => ⟨S2x288x1024, .f32⟩
  | .hbm, ⟨46, _⟩ => ⟨S2x288x1024, .f32⟩
  | _, _ => ⟨S8x288x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AUp.lean ====
abbrev S8x704x1024 : Shape := ⟨3, ![8, 704, 1024]⟩
abbrev S2x704x1024 : Shape := ⟨3, ![2, 704, 1024]⟩
abbrev S8x176x1024 : Shape := ⟨3, ![8, 176, 1024]⟩
abbrev S1x176x1024 : Shape := ⟨3, ![1, 176, 1024]⟩
abbrev S176x1024 : Shape := ⟨2, ![176, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x704x1024, .bf16⟩
  | .hbm, ⟨1, _⟩ => ⟨S8x704x1024, .bf16⟩
  | .hbm, ⟨2, _⟩ => ⟨S2x704x1024, .f32⟩
  | .hbm, ⟨3, _⟩ => ⟨S2x704x1024, .f32⟩
  | .hbm, ⟨4, _⟩ => ⟨S2x704x1024, .f32⟩
  | .hbm, ⟨5, _⟩ => ⟨S2x704x1024, .f32⟩
  | .hbm, ⟨6, _⟩ => ⟨S2x704x1024, .f32⟩
  | .hbm, ⟨7, _⟩ => ⟨S2x704x1024, .f32⟩
  | .hbm, ⟨8, _⟩ => ⟨S2x704x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S8x176x1024, .bf16⟩
  | .local _ .vmem, ⟨3, _⟩ => ⟨S8x176x1024, .bf16⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S8x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AUpRefIdeal.lean ====
abbrev S8x704x1024 : Shape := ⟨3, ![8, 704, 1024]⟩
abbrev S2x704x1024 : Shape := ⟨3, ![2, 704, 1024]⟩
abbrev S_ : Shape := ⟨0, ![]⟩
abbrev S704x1024 : Shape := ⟨2, ![704, 1024]⟩
abbrev S1x704x1024 : Shape := ⟨3, ![1, 704, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x704x1024, .bf16⟩
  | .hbm, ⟨1, _⟩ => ⟨S8x704x1024, .bf16⟩
  | .hbm, ⟨2, _⟩ => ⟨S2x704x1024, .f32⟩
  | .hbm, ⟨3, _⟩ => ⟨S2x704x1024, .f32⟩
  | .hbm, ⟨4, _⟩ => ⟨S2x704x1024, .f32⟩
  | .hbm, ⟨5, _⟩ => ⟨S8x704x1024, .f32⟩
  | .hbm, ⟨6, _⟩ => ⟨S_, .f32⟩
  | .hbm, ⟨7, _⟩ => ⟨S704x1024, .f32⟩
  | .hbm, ⟨8, _⟩ => ⟨S8x704x1024, .f32⟩
  | .hbm, ⟨9, _⟩ => ⟨S_, .f32⟩
  | .hbm, ⟨10, _⟩ => ⟨S704x1024, .f32⟩
  | .hbm, ⟨11, _⟩ => ⟨S1x704x1024, .f32⟩
  | .hbm, ⟨12, _⟩ => ⟨S1x704x1024, .f32⟩
  | .hbm, ⟨13, _⟩ => ⟨S2x704x1024, .f32⟩
  | .hbm, ⟨14, _⟩ => ⟨S_, .f32⟩
  | .hbm, ⟨15, _⟩ => ⟨S2x704x1024, .f32⟩
  | .hbm, ⟨16, _⟩ => ⟨S2x704x1024, .f32⟩
  | .hbm, ⟨17, _⟩ => ⟨S_, .f32⟩
  | .hbm, ⟨18, _⟩ => ⟨S2x704x1024, .f32⟩
  | .hbm, ⟨19, _⟩ => ⟨S2x704x1024, .f32⟩
  | .hbm, ⟨20, _⟩ => ⟨S2x704x1024, .f32⟩
  | .hbm, ⟨21, _⟩ => ⟨S_, .f32⟩
  | .hbm, ⟨22, _⟩ => ⟨S2x704x1024, .f32⟩
  | .hbm, ⟨23, _⟩ => ⟨S2x704x1024, .f32⟩
  | .hbm, ⟨24, _⟩ => ⟨S2x704x1024, .f32⟩
  | .hbm, ⟨25, _⟩ => ⟨S_, .f32⟩
  | .hbm, ⟨26, _⟩ => ⟨S2x704x1024, .f32⟩
  | .hbm, ⟨27, _⟩ => ⟨S2x704x1024, .f32⟩
  | .hbm, ⟨28, _⟩ => ⟨S2x704x1024, .f32⟩
  | .hbm, ⟨29, _⟩ => ⟨S_, .f32⟩
  | .hbm, ⟨30, _⟩ => ⟨S2x704x1024, .f32⟩
  | .hbm, ⟨31, _⟩ => ⟨S2x704x1024, .f32⟩
  | .hbm, ⟨32, _⟩ => ⟨S_, .f32⟩
  | .hbm, ⟨33, _⟩ => ⟨S2x704x1024, .f32⟩
  | .hbm, ⟨34, _⟩ => ⟨S2x704x1024, .f32⟩
  | .hbm, ⟨35, _⟩ => ⟨S2x704x1024, .f32⟩
  | .hbm, ⟨36, _⟩ => ⟨S_, .f32⟩
  | .hbm, ⟨37, _⟩ => ⟨S2x704x1024, .f32⟩
  | .hbm, ⟨38, _⟩ => ⟨S2x704x1024, .f32⟩
  | .hbm, ⟨39, _⟩ => ⟨S2x704x1024, .f32⟩
  | .hbm, ⟨40, _⟩ => ⟨S_, .f32⟩
  | .hbm, ⟨41, _⟩ => ⟨S2x704x1024, .f32⟩
  | .hbm, ⟨42, _⟩ => ⟨S2x704x1024, .f32⟩
  | .hbm, ⟨43, _⟩ => ⟨S2x704x1024, .f32⟩
  | .hbm, ⟨44, _⟩ => ⟨S_, .f32⟩
  | .hbm, ⟨45, _⟩ => ⟨S2x704x1024, .f32⟩
  | .hbm, ⟨46, _⟩ => ⟨S2x704x1024, .f32⟩
  | _, _ => ⟨S8x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== ADown.lean ====
abbrev S8x352x1024 : Shape := ⟨3, ![8, 352, 1024]⟩
abbrev S2x352x1024 : Shape := ⟨3, ![2, 352, 1024]⟩
abbrev S8x176x1024 : Shape := ⟨3, ![8, 176, 1024]⟩
abbrev S1x176x1024 : Shape := ⟨3, ![1, 176, 1024]⟩
abbrev S176x1024 : Shape := ⟨2, ![176, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S2x352x1024, .f32⟩
  | .hbm, ⟨6, _⟩ => ⟨S2x352x1024, .f32⟩
  | .hbm, ⟨7, _⟩ => ⟨S2x352x1024, .f32⟩
  | .hbm, ⟨8, _⟩ => ⟨S2x352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S8x176x1024, .bf16⟩
  | .local _ .vmem, ⟨3, _⟩ => ⟨S8x176x1024, .bf16⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S8x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ADownRefIdeal.lean ====
abbrev S8x352x1024 : Shape := ⟨3, ![8, 352, 1024]⟩
abbrev S2x352x1024 : Shape := ⟨3, ![2, 352, 1024]⟩
abbrev S_ : Shape := ⟨0, ![]⟩
abbrev S352x1024 : Shape := ⟨2, ![352, 1024]⟩
abbrev S1x352x1024 : Shape := ⟨3, ![1, 352, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S8x352x1024, .f32⟩
  | .hbm, ⟨6, _⟩ => ⟨S_, .f32⟩
  | .hbm, ⟨7, _⟩ => ⟨S352x1024, .f32⟩
  | .hbm, ⟨8, _⟩ => ⟨S8x352x1024, .f32⟩
  | .hbm, ⟨9, _⟩ => ⟨S_, .f32⟩
  | .hbm, ⟨10, _⟩ => ⟨S352x1024, .f32⟩
  | .hbm, ⟨11, _⟩ => ⟨S1x352x1024, .f32⟩
  | .hbm, ⟨12, _⟩ => ⟨S1x352x1024, .f32⟩
  | .hbm, ⟨13, _⟩ => ⟨S2x352x1024, .f32⟩
  | .hbm, ⟨14, _⟩ => ⟨S_, .f32⟩
  | .hbm, ⟨15, _⟩ => ⟨S2x352x1024, .f32⟩
  | .hbm, ⟨16, _⟩ => ⟨S2x352x1024, .f32⟩
  | .hbm, ⟨17, _⟩ => ⟨S_, .f32⟩
  | .hbm, ⟨18, _⟩ => ⟨S2x352x1024, .f32⟩
  | .hbm, ⟨19, _⟩ => ⟨S2x352x1024, .f32⟩
  | .hbm, ⟨20, _⟩ => ⟨S2x352x1024, .f32⟩
  | .hbm, ⟨21, _⟩ => ⟨S_, .f32⟩
  | .hbm, ⟨22, _⟩ => ⟨S2x352x1024, .f32⟩
  | .hbm, ⟨23, _⟩ => ⟨S2x352x1024, .f32⟩
  | .hbm, ⟨24, _⟩ => ⟨S2x352x1024, .f32⟩
  | .hbm, ⟨25, _⟩ => ⟨S_, .f32⟩
  | .hbm, ⟨26, _⟩ => ⟨S2x352x1024, .f32⟩
  | .hbm, ⟨27, _⟩ => ⟨S2x352x1024, .f32⟩
  | .hbm, ⟨28, _⟩ => ⟨S2x352x1024, .f32⟩
  | .hbm, ⟨29, _⟩ => ⟨S_, .f32⟩
  | .hbm, ⟨30, _⟩ => ⟨S2x352x1024, .f32⟩
  | .hbm, ⟨31, _⟩ => ⟨S2x352x1024, .f32⟩
  | .hbm, ⟨32, _⟩ => ⟨S_, .f32⟩
  | .hbm, ⟨33, _⟩ => ⟨S2x352x1024, .f32⟩
  | .hbm, ⟨34, _⟩ => ⟨S2x352x1024, .f32⟩
  | .hbm, ⟨35, _⟩ => ⟨S2x352x1024, .f32⟩
  | .hbm, ⟨36, _⟩ => ⟨S_, .f32⟩
  | .hbm, ⟨37, _⟩ => ⟨S2x352x1024, .f32⟩
  | .hbm, ⟨38, _⟩ => ⟨S2x352x1024, .f32⟩
  | .hbm, ⟨39, _⟩ => ⟨S2x352x1024, .f32⟩
  | .hbm, ⟨40, _⟩ => ⟨S_, .f32⟩
  | .hbm, ⟨41, _⟩ => ⟨S2x352x1024, .f32⟩
  | .hbm, ⟨42, _⟩ => ⟨S2x352x1024, .f32⟩
  | .hbm, ⟨43, _⟩ => ⟨S2x352x1024, .f32⟩
  | .hbm, ⟨44, _⟩ => ⟨S_, .f32⟩
  | .hbm, ⟨45, _⟩ => ⟨S2x352x1024, .f32⟩
  | .hbm, ⟨46, _⟩ => ⟨S2x352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AOut.lean ====
abbrev S8x128x1024 : Shape := ⟨3, ![8, 128, 1024]⟩
abbrev S2x128x1024 : Shape := ⟨3, ![2, 128, 1024]⟩
abbrev S1x128x1024 : Shape := ⟨3, ![1, 128, 1024]⟩
abbrev S128x1024 : Shape := ⟨2, ![128, 1024]⟩

abbrev nBuf : Space → Nat
  | .hbm => 9
  | .vmem => 16
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S8x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AOutRefIdeal.lean ====
abbrev S8x128x1024 : Shape := ⟨3, ![8, 128, 1024]⟩
abbrev S2x128x1024 : Shape := ⟨3, ![2, 128, 1024]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S8x128x1024, .f32⟩
  | .hbm, ⟨6, _⟩ => ⟨S_, .f32⟩
  | .hbm, ⟨7, _⟩ => ⟨S128x1024, .f32⟩
  | .hbm, ⟨8, _⟩ => ⟨S8x128x1024, .f32⟩
  | .hbm, ⟨9, _⟩ => ⟨S_, .f32⟩
  | .hbm, ⟨10, _⟩ => ⟨S128x1024, .f32⟩
  | .hbm, ⟨11, _⟩ => ⟨S1x128x1024, .f32⟩
  | .hbm, ⟨12, _⟩ => ⟨S1x128x1024, .f32⟩
  | .hbm, ⟨13, _⟩ => ⟨S2x128x1024, .f32⟩
  | .hbm, ⟨14, _⟩ => ⟨S_, .f32⟩
  | .hbm, ⟨15, _⟩ => ⟨S2x128x1024, .f32⟩
  | .hbm, ⟨16, _⟩ => ⟨S2x128x1024, .f32⟩
  | .hbm, ⟨17, _⟩ => ⟨S_, .f32⟩
  | .hbm, ⟨18, _⟩ => ⟨S2x128x1024, .f32⟩
  | .hbm, ⟨19, _⟩ => ⟨S2x128x1024, .f32⟩
  | .hbm, ⟨20, _⟩ => ⟨S2x128x1024, .f32⟩
  | .hbm, ⟨21, _⟩ => ⟨S_, .f32⟩
  | .hbm, ⟨22, _⟩ => ⟨S2x128x1024, .f32⟩
  | .hbm, ⟨23, _⟩ => ⟨S2x128x1024, .f32⟩
  | .hbm, ⟨24, _⟩ => ⟨S2x128x1024, .f32⟩
  | .hbm, ⟨25, _⟩ => ⟨S_, .f32⟩
  | .hbm, ⟨26, _⟩ => ⟨S2x128x1024, .f32⟩
  | .hbm, ⟨27, _⟩ => ⟨S2x128x1024, .f32⟩
  | .hbm, ⟨28, _⟩ => ⟨S2x128x1024, .f32⟩
  | .hbm, ⟨29, _⟩ => ⟨S_, .f32⟩
  | .hbm, ⟨30, _⟩ => ⟨S2x128x1024, .f32⟩
  | .hbm, ⟨31, _⟩ => ⟨S2x128x1024, .f32⟩
  | .hbm, ⟨32, _⟩ => ⟨S_, .f32⟩
  | .hbm, ⟨33, _⟩ => ⟨S2x128x1024, .f32⟩
  | .hbm, ⟨34, _⟩ => ⟨S2x128x1024, .f32⟩
  | .hbm, ⟨35, _⟩ => ⟨S2x128x1024, .f32⟩
  | .hbm, ⟨36, _⟩ => ⟨S_, .f32⟩
  | .hbm, ⟨37, _⟩ => ⟨S2x128x1024, .f32⟩
  | .hbm, ⟨38, _⟩ => ⟨S2x128x1024, .f32⟩
  | .hbm, ⟨39, _⟩ => ⟨S2x128x1024, .f32⟩
  | .hbm, ⟨40, _⟩ => ⟨S_, .f32⟩
  | .hbm, ⟨41, _⟩ => ⟨S2x128x1024, .f32⟩
  | .hbm, ⟨42, _⟩ => ⟨S2x128x1024, .f32⟩
  | .hbm, ⟨43, _⟩ => ⟨S2x128x1024, .f32⟩
  | .hbm, ⟨44, _⟩ => ⟨S_, .f32⟩
  | .hbm, ⟨45, _⟩ => ⟨S2x128x1024, .f32⟩
  | .hbm, ⟨46, _⟩ => ⟨S2x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AGate.lean ====
abbrev S8x128x1024 : Shape := ⟨3, ![8, 128, 1024]⟩
abbrev S2x128x1024 : Shape := ⟨3, ![2, 128, 1024]⟩
abbrev S1x128x1024 : Shape := ⟨3, ![1, 128, 1024]⟩
abbrev S128x1024 : Shape := ⟨2, ![128, 1024]⟩

abbrev nBuf : Space → Nat
  | .hbm => 9
  | .vmem => 16
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S8x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AGateRefIdeal.lean ====
abbrev S8x128x1024 : Shape := ⟨3, ![8, 128, 1024]⟩
abbrev S2x128x1024 : Shape := ⟨3, ![2, 128, 1024]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S8x128x1024, .f32⟩
  | .hbm, ⟨6, _⟩ => ⟨S_, .f32⟩
  | .hbm, ⟨7, _⟩ => ⟨S128x1024, .f32⟩
  | .hbm, ⟨8, _⟩ => ⟨S8x128x1024, .f32⟩
  | .hbm, ⟨9, _⟩ => ⟨S_, .f32⟩
  | .hbm, ⟨10, _⟩ => ⟨S128x1024, .f32⟩
  | .hbm, ⟨11, _⟩ => ⟨S1x128x1024, .f32⟩
  | .hbm, ⟨12, _⟩ => ⟨S1x128x1024, .f32⟩
  | .hbm, ⟨13, _⟩ => ⟨S2x128x1024, .f32⟩
  | .hbm, ⟨14, _⟩ => ⟨S_, .f32⟩
  | .hbm, ⟨15, _⟩ => ⟨S2x128x1024, .f32⟩
  | .hbm, ⟨16, _⟩ => ⟨S2x128x1024, .f32⟩
  | .hbm, ⟨17, _⟩ => ⟨S_, .f32⟩
  | .hbm, ⟨18, _⟩ => ⟨S2x128x1024, .f32⟩
  | .hbm, ⟨19, _⟩ => ⟨S2x128x1024, .f32⟩
  | .hbm, ⟨20, _⟩ => ⟨S2x128x1024, .f32⟩
  | .hbm, ⟨21, _⟩ => ⟨S_, .f32⟩
  | .hbm, ⟨22, _⟩ => ⟨S2x128x1024, .f32⟩
  | .hbm, ⟨23, _⟩ => ⟨S2x128x1024, .f32⟩
  | .hbm, ⟨24, _⟩ => ⟨S2x128x1024, .f32⟩
  | .hbm, ⟨25, _⟩ => ⟨S_, .f32⟩
  | .hbm, ⟨26, _⟩ => ⟨S2x128x1024, .f32⟩
  | .hbm, ⟨27, _⟩ => ⟨S2x128x1024, .f32⟩
  | .hbm, ⟨28, _⟩ => ⟨S2x128x1024, .f32⟩
  | .hbm, ⟨29, _⟩ => ⟨S_, .f32⟩
  | .hbm, ⟨30, _⟩ => ⟨S2x128x1024, .f32⟩
  | .hbm, ⟨31, _⟩ => ⟨S2x128x1024, .f32⟩
  | .hbm, ⟨32, _⟩ => ⟨S_, .f32⟩
  | .hbm, ⟨33, _⟩ => ⟨S2x128x1024, .f32⟩
  | .hbm, ⟨34, _⟩ => ⟨S2x128x1024, .f32⟩
  | .hbm, ⟨35, _⟩ => ⟨S2x128x1024, .f32⟩
  | .hbm, ⟨36, _⟩ => ⟨S_, .f32⟩
  | .hbm, ⟨37, _⟩ => ⟨S2x128x1024, .f32⟩
  | .hbm, ⟨38, _⟩ => ⟨S2x128x1024, .f32⟩
  | .hbm, ⟨39, _⟩ => ⟨S2x128x1024, .f32⟩
  | .hbm, ⟨40, _⟩ => ⟨S_, .f32⟩
  | .hbm, ⟨41, _⟩ => ⟨S2x128x1024, .f32⟩
  | .hbm, ⟨42, _⟩ => ⟨S2x128x1024, .f32⟩
  | .hbm, ⟨43, _⟩ => ⟨S2x128x1024, .f32⟩
  | .hbm, ⟨44, _⟩ => ⟨S_, .f32⟩
  | .hbm, ⟨45, _⟩ => ⟨S2x128x1024, .f32⟩
  | .hbm, ⟨46, _⟩ => ⟨S2x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AProj.lean ====
abbrev S8x128x256 : Shape := ⟨3, ![8, 128, 256]⟩
abbrev S2x128x256 : Shape := ⟨3, ![2, 128, 256]⟩
abbrev S1x128x256 : Shape := ⟨3, ![1, 128, 256]⟩
abbrev S128x256 : Shape := ⟨2, ![128, 256]⟩

abbrev nBuf : Space → Nat
  | .hbm => 9
  | .vmem => 16
  | .smem => 0
  | _ => 0

abbrev bufTy : (tb : Table) → Fin (tcTables nBuf tb) → BufTy
  | .hbm, ⟨0, _⟩ => ⟨S8x128x256, .bf16⟩
  | .hbm, ⟨1, _⟩ => ⟨S8x128x256, .bf16⟩
  | .hbm, ⟨2, _⟩ => ⟨S2x128x256, .f32⟩
  | .hbm, ⟨3, _⟩ => ⟨S2x128x256, .f32⟩
  | .hbm, ⟨4, _⟩ => ⟨S2x128x256, .f32⟩
  | .hbm, ⟨5, _⟩ => ⟨S2x128x256, .f32⟩
  | .hbm, ⟨6, _⟩ => ⟨S2x128x256, .f32⟩
  | .hbm, ⟨7, _⟩ => ⟨S2x128x256, .f32⟩
  | .hbm, ⟨8, _⟩ => ⟨S2x128x256, .f32⟩
  | .local _ .vmem, ⟨0, _⟩ => ⟨S8x128x256, .bf16⟩
  | .local _ .vmem, ⟨1, _⟩ => ⟨S8x128x256, .bf16⟩
  | .local _ .vmem, ⟨2, _⟩ => ⟨S1x128x256, .f32⟩
  | .local _ .vmem, ⟨3, _⟩ => ⟨S1x128x256, .f32⟩
  | .local _ .vmem, ⟨4, _⟩ => ⟨S1x128x256, .f32⟩
  | .local _ .vmem, ⟨5, _⟩ => ⟨S1x128x256, .f32⟩
  | .local _ .vmem, ⟨6, _⟩ => ⟨S1x128x256, .f32⟩
  | .local _ .vmem, ⟨7, _⟩ => ⟨S1x128x256, .f32⟩
  | .local _ .vmem, ⟨8, _⟩ => ⟨S1x128x256, .f32⟩
  | .local _ .vmem, ⟨9, _⟩ => ⟨S1x128x256, .f32⟩
  | .local _ .vmem, ⟨10, _⟩ => ⟨S1x128x256, .f32⟩
  | .local _ .vmem, ⟨11, _⟩ => ⟨S1x128x256, .f32⟩
  | .local _ .vmem, ⟨12, _⟩ => ⟨S1x128x256, .f32⟩
  | .local _ .vmem, ⟨13, _⟩ => ⟨S1x128x256, .f32⟩
  | .local _ .vmem, ⟨14, _⟩ => ⟨S1x128x256, .f32⟩
  | .local _ .vmem, ⟨15, _⟩ => ⟨S1x128x256, .f32⟩
  | _, _ => ⟨S8x128x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x128x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S8x128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AProjRefIdeal.lean ====
abbrev S8x128x256 : Shape := ⟨3, ![8, 128, 256]⟩
abbrev S2x128x256 : Shape := ⟨3, ![2, 128, 256]⟩
abbrev S_ : Shape := ⟨0, ![]⟩
abbrev S128x256 : Shape := ⟨2, ![128, 256]⟩
abbrev S1x128x256 : Shape := ⟨3, ![1, 128, 256]⟩

abbrev nBuf : Space → Nat
  | .hbm => 47
  | .vmem => 0
  | .smem => 0
  | _ => 0

abbrev bufTy : (tb : Table) → Fin (tcTables nBuf tb) → BufTy
  | .hbm, ⟨0, _⟩ => ⟨S8x128x256, .bf16⟩
  | .hbm, ⟨1, _⟩ => ⟨S8x128x256, .bf16⟩
  | .hbm, ⟨2, _⟩ => ⟨S2x128x256, .f32⟩
  | .hbm, ⟨3, _⟩ => ⟨S2x128x256, .f32⟩
  | .hbm, ⟨4, _⟩ => ⟨S2x128x256, .f32⟩
  | .hbm, ⟨5, _⟩ => ⟨S8x128x256, .f32⟩
  | .hbm, ⟨6, _⟩ => ⟨S_, .f32⟩
  | .hbm, ⟨7, _⟩ => ⟨S128x256, .f32⟩
  | .hbm, ⟨8, _⟩ => ⟨S8x128x256, .f32⟩
  | .hbm, ⟨9, _⟩ => ⟨S_, .f32⟩
  | .hbm, ⟨10, _⟩ => ⟨S128x256, .f32⟩
  | .hbm, ⟨11, _⟩ => ⟨S1x128x256, .f32⟩
  | .hbm, ⟨12, _⟩ => ⟨S1x128x256, .f32⟩
  | .hbm, ⟨13, _⟩ => ⟨S2x128x256, .f32⟩
  | .hbm, ⟨14, _⟩ => ⟨S_, .f32⟩
  | .hbm, ⟨15, _⟩ => ⟨S2x128x256, .f32⟩
  | .hbm, ⟨16, _⟩ => ⟨S2x128x256, .f32⟩
  | .hbm, ⟨17, _⟩ => ⟨S_, .f32⟩
  | .hbm, ⟨18, _⟩ => ⟨S2x128x256, .f32⟩
  | .hbm, ⟨19, _⟩ => ⟨S2x128x256, .f32⟩
  | .hbm, ⟨20, _⟩ => ⟨S2x128x256, .f32⟩
  | .hbm, ⟨21, _⟩ => ⟨S_, .f32⟩
  | .hbm, ⟨22, _⟩ => ⟨S2x128x256, .f32⟩
  | .hbm, ⟨23, _⟩ => ⟨S2x128x256, .f32⟩
  | .hbm, ⟨24, _⟩ => ⟨S2x128x256, .f32⟩
  | .hbm, ⟨25, _⟩ => ⟨S_, .f32⟩
  | .hbm, ⟨26, _⟩ => ⟨S2x128x256, .f32⟩
  | .hbm, ⟨27, _⟩ => ⟨S2x128x256, .f32⟩
  | .hbm, ⟨28, _⟩ => ⟨S2x128x256, .f32⟩
  | .hbm, ⟨29, _⟩ => ⟨S_, .f32⟩
  | .hbm, ⟨30, _⟩ => ⟨S2x128x256, .f32⟩
  | .hbm, ⟨31, _⟩ => ⟨S2x128x256, .f32⟩
  | .hbm, ⟨32, _⟩ => ⟨S_, .f32⟩
  | .hbm, ⟨33, _⟩ => ⟨S2x128x256, .f32⟩
  | .hbm, ⟨34, _⟩ => ⟨S2x128x256, .f32⟩
  | .hbm, ⟨35, _⟩ => ⟨S2x128x256, .f32⟩
  | .hbm, ⟨36, _⟩ => ⟨S_, .f32⟩
  | .hbm, ⟨37, _⟩ => ⟨S2x128x256, .f32⟩
  | .hbm, ⟨38, _⟩ => ⟨S2x128x256, .f32⟩
  | .hbm, ⟨39, _⟩ => ⟨S2x128x256, .f32⟩
  | .hbm, ⟨40, _⟩ => ⟨S_, .f32⟩
  | .hbm, ⟨41, _⟩ => ⟨S2x128x256, .f32⟩
  | .hbm, ⟨42, _⟩ => ⟨S2x128x256, .f32⟩
  | .hbm, ⟨43, _⟩ => ⟨S2x128x256, .f32⟩
  | .hbm, ⟨44, _⟩ => ⟨S_, .f32⟩
  | .hbm, ⟨45, _⟩ => ⟨S2x128x256, .f32⟩
  | .hbm, ⟨46, _⟩ => ⟨S2x128x256, .f32⟩
  | _, _ => ⟨S8x128x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AGlu.lean ====
abbrev S8x32x256 : Shape := ⟨3, ![8, 32, 256]⟩
abbrev S2x32x256 : Shape := ⟨3, ![2, 32, 256]⟩
abbrev S1x32x256 : Shape := ⟨3, ![1, 32, 256]⟩
abbrev S32x256 : Shape := ⟨2, ![32, 256]⟩

abbrev nBuf : Space → Nat
  | .hbm => 9
  | .vmem => 16
  | .smem => 0
  | _ => 0

abbrev bufTy : (tb : Table) → Fin (tcTables nBuf tb) → BufTy
  | .hbm, ⟨0, _⟩ => ⟨S8x32x256, .bf16⟩
  | .hbm, ⟨1, _⟩ => ⟨S8x32x256, .bf16⟩
  | .hbm, ⟨2, _⟩ => ⟨S2x32x256, .f32⟩
  | .hbm, ⟨3, _⟩ => ⟨S2x32x256, .f32⟩
  | .hbm, ⟨4, _⟩ => ⟨S2x32x256, .f32⟩
  | .hbm, ⟨5, _⟩ => ⟨S2x32x256, .f32⟩
  | .hbm, ⟨6, _⟩ => ⟨S2x32x256, .f32⟩
  | .hbm, ⟨7, _⟩ => ⟨S2x32x256, .f32⟩
  | .hbm, ⟨8, _⟩ => ⟨S2x32x256, .f32⟩
  | .local _ .vmem, ⟨0, _⟩ => ⟨S8x32x256, .bf16⟩
  | .local _ .vmem, ⟨1, _⟩ => ⟨S8x32x256, .bf16⟩
  | .local _ .vmem, ⟨2, _⟩ => ⟨S1x32x256, .f32⟩
  | .local _ .vmem, ⟨3, _⟩ => ⟨S1x32x256, .f32⟩
  | .local _ .vmem, ⟨4, _⟩ => ⟨S1x32x256, .f32⟩
  | .local _ .vmem, ⟨5, _⟩ => ⟨S1x32x256, .f32⟩
  | .local _ .vmem, ⟨6, _⟩ => ⟨S1x32x256, .f32⟩
  | .local _ .vmem, ⟨7, _⟩ => ⟨S1x32x256, .f32⟩
  | .local _ .vmem, ⟨8, _⟩ => ⟨S1x32x256, .f32⟩
  | .local _ .vmem, ⟨9, _⟩ => ⟨S1x32x256, .f32⟩
  | .local _ .vmem, ⟨10, _⟩ => ⟨S1x32x256, .f32⟩
  | .local _ .vmem, ⟨11, _⟩ => ⟨S1x32x256, .f32⟩
  | .local _ .vmem, ⟨12, _⟩ => ⟨S1x32x256, .f32⟩
  | .local _ .vmem, ⟨13, _⟩ => ⟨S1x32x256, .f32⟩
  | .local _ .vmem, ⟨14, _⟩ => ⟨S1x32x256, .f32⟩
  | .local _ .vmem, ⟨15, _⟩ => ⟨S1x32x256, .f32⟩
  | _, _ => ⟨S8x32x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x32x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S8x32x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x32x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x32x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AGluRefIdeal.lean ====
abbrev S8x32x256 : Shape := ⟨3, ![8, 32, 256]⟩
abbrev S2x32x256 : Shape := ⟨3, ![2, 32, 256]⟩
abbrev S_ : Shape := ⟨0, ![]⟩
abbrev S32x256 : Shape := ⟨2, ![32, 256]⟩
abbrev S1x32x256 : Shape := ⟨3, ![1, 32, 256]⟩

abbrev nBuf : Space → Nat
  | .hbm => 47
  | .vmem => 0
  | .smem => 0
  | _ => 0

abbrev bufTy : (tb : Table) → Fin (tcTables nBuf tb) → BufTy
  | .hbm, ⟨0, _⟩ => ⟨S8x32x256, .bf16⟩
  | .hbm, ⟨1, _⟩ => ⟨S8x32x256, .bf16⟩
  | .hbm, ⟨2, _⟩ => ⟨S2x32x256, .f32⟩
  | .hbm, ⟨3, _⟩ => ⟨S2x32x256, .f32⟩
  | .hbm, ⟨4, _⟩ => ⟨S2x32x256, .f32⟩
  | .hbm, ⟨5, _⟩ => ⟨S8x32x256, .f32⟩
  | .hbm, ⟨6, _⟩ => ⟨S_, .f32⟩
  | .hbm, ⟨7, _⟩ => ⟨S32x256, .f32⟩
  | .hbm, ⟨8, _⟩ => ⟨S8x32x256, .f32⟩
  | .hbm, ⟨9, _⟩ => ⟨S_, .f32⟩
  | .hbm, ⟨10, _⟩ => ⟨S32x256, .f32⟩
  | .hbm, ⟨11, _⟩ => ⟨S1x32x256, .f32⟩
  | .hbm, ⟨12, _⟩ => ⟨S1x32x256, .f32⟩
  | .hbm, ⟨13, _⟩ => ⟨S2x32x256, .f32⟩
  | .hbm, ⟨14, _⟩ => ⟨S_, .f32⟩
  | .hbm, ⟨15, _⟩ => ⟨S2x32x256, .f32⟩
  | .hbm, ⟨16, _⟩ => ⟨S2x32x256, .f32⟩
  | .hbm, ⟨17, _⟩ => ⟨S_, .f32⟩
  | .hbm, ⟨18, _⟩ => ⟨S2x32x256, .f32⟩
  | .hbm, ⟨19, _⟩ => ⟨S2x32x256, .f32⟩
  | .hbm, ⟨20, _⟩ => ⟨S2x32x256, .f32⟩
  | .hbm, ⟨21, _⟩ => ⟨S_, .f32⟩
  | .hbm, ⟨22, _⟩ => ⟨S2x32x256, .f32⟩
  | .hbm, ⟨23, _⟩ => ⟨S2x32x256, .f32⟩
  | .hbm, ⟨24, _⟩ => ⟨S2x32x256, .f32⟩
  | .hbm, ⟨25, _⟩ => ⟨S_, .f32⟩
  | .hbm, ⟨26, _⟩ => ⟨S2x32x256, .f32⟩
  | .hbm, ⟨27, _⟩ => ⟨S2x32x256, .f32⟩
  | .hbm, ⟨28, _⟩ => ⟨S2x32x256, .f32⟩
  | .hbm, ⟨29, _⟩ => ⟨S_, .f32⟩
  | .hbm, ⟨30, _⟩ => ⟨S2x32x256, .f32⟩
  | .hbm, ⟨31, _⟩ => ⟨S2x32x256, .f32⟩
  | .hbm, ⟨32, _⟩ => ⟨S_, .f32⟩
  | .hbm, ⟨33, _⟩ => ⟨S2x32x256, .f32⟩
  | .hbm, ⟨34, _⟩ => ⟨S2x32x256, .f32⟩
  | .hbm, ⟨35, _⟩ => ⟨S2x32x256, .f32⟩
  | .hbm, ⟨36, _⟩ => ⟨S_, .f32⟩
  | .hbm, ⟨37, _⟩ => ⟨S2x32x256, .f32⟩
  | .hbm, ⟨38, _⟩ => ⟨S2x32x256, .f32⟩
  | .hbm, ⟨39, _⟩ => ⟨S2x32x256, .f32⟩
  | .hbm, ⟨40, _⟩ => ⟨S_, .f32⟩
  | .hbm, ⟨41, _⟩ => ⟨S2x32x256, .f32⟩
  | .hbm, ⟨42, _⟩ => ⟨S2x32x256, .f32⟩
  | .hbm, ⟨43, _⟩ => ⟨S2x32x256, .f32⟩
  | .hbm, ⟨44, _⟩ => ⟨S_, .f32⟩
  | .hbm, ⟨45, _⟩ => ⟨S2x32x256, .f32⟩
  | .hbm, ⟨46, _⟩ => ⟨S2x32x256, .f32⟩
  | _, _ => ⟨S8x32x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== ASmall.lean ====
abbrev S8x640x512 : Shape := ⟨3, ![8, 640, 512]⟩
abbrev S1x640x512 : Shape := ⟨3, ![1, 640, 512]⟩
abbrev S8x64x512 : Shape := ⟨3, ![8, 64, 512]⟩
abbrev S1x64x512 : Shape := ⟨3, ![1, 64, 512]⟩
abbrev S64x512 : Shape := ⟨2, ![64, 512]⟩

abbrev nBuf : Space → Nat
  | .hbm => 8
  | .vmem => 16
  | .smem => 0
  | _ => 0

abbrev bufTy : (tb : Table) → Fin (tcTables nBuf tb) → BufTy
  | .hbm, ⟨0, _⟩ => ⟨S8x640x512, .f32⟩
  | .hbm, ⟨1, _⟩ => ⟨S1x640x512, .f32⟩
  | .hbm, ⟨2, _⟩ => ⟨S1x640x512, .f32⟩
  | .hbm, ⟨3, _⟩ => ⟨S1x640x512, .f32⟩
  | .hbm, ⟨4, _⟩ => ⟨S1x640x512, .f32⟩
  | .hbm, ⟨5, _⟩ => ⟨S1x640x512, .f32⟩
  | .hbm, ⟨6, _⟩ => ⟨S1x640x512, .f32⟩
  | .hbm, ⟨7, _⟩ => ⟨S1x640x512, .f32⟩
  | .local _ .vmem, ⟨0, _⟩ => ⟨S8x64x512, .f32⟩
  | .local _ .vmem, ⟨1, _⟩ => ⟨S8x64x512, .f32⟩
  | .local _ .vmem, ⟨2, _⟩ => ⟨S1x64x512, .f32⟩
  | .local _ .vmem, ⟨3, _⟩ => ⟨S1x64x512, .f32⟩
  | .local _ .vmem, ⟨4, _⟩ => ⟨S1x64x512, .f32⟩
  | .local _ .vmem, ⟨5, _⟩ => ⟨S1x64x512, .f32⟩
  | .local _ .vmem, ⟨6, _⟩ => ⟨S1x64x512, .f32⟩
  | .local _ .vmem, ⟨7, _⟩ => ⟨S1x64x512, .f32⟩
  | .local _ .vmem, ⟨8, _⟩ => ⟨S1x64x512, .f32⟩
  | .local _ .vmem, ⟨9, _⟩ => ⟨S1x64x512, .f32⟩
  | .local _ .vmem, ⟨10, _⟩ => ⟨S1x64x512, .f32⟩
  | .local _ .vmem, ⟨11, _⟩ => ⟨S1x64x512, .f32⟩
  | .local _ .vmem, ⟨12, _⟩ => ⟨S1x64x512, .f32⟩
  | .local _ .vmem, ⟨13, _⟩ => ⟨S1x64x512, .f32⟩
  | .local _ .vmem, ⟨14, _⟩ => ⟨S1x64x512, .f32⟩
  | .local _ .vmem, ⟨15, _⟩ => ⟨S1x64x512, .f32⟩
  | _, _ => ⟨S8x640x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 10], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ASmallRefIdeal.lean ====
abbrev S8x640x512 : Shape := ⟨3, ![8, 640, 512]⟩
abbrev S1x640x512 : Shape := ⟨3, ![1, 640, 512]⟩
abbrev S_ : Shape := ⟨0, ![]⟩
abbrev S640x512 : Shape := ⟨2, ![640, 512]⟩

abbrev nBuf : Space → Nat
  | .hbm => 40
  | .vmem => 0
  | .smem => 0
  | _ => 0

abbrev bufTy : (tb : Table) → Fin (tcTables nBuf tb) → BufTy
  | .hbm, ⟨0, _⟩ => ⟨S8x640x512, .f32⟩
  | .hbm, ⟨1, _⟩ => ⟨S1x640x512, .f32⟩
  | .hbm, ⟨2, _⟩ => ⟨S1x640x512, .f32⟩
  | .hbm, ⟨3, _⟩ => ⟨S1x640x512, .f32⟩
  | .hbm, ⟨4, _⟩ => ⟨S_, .f32⟩
  | .hbm, ⟨5, _⟩ => ⟨S640x512, .f32⟩
  | .hbm, ⟨6, _⟩ => ⟨S1x640x512, .f32⟩
  | .hbm, ⟨7, _⟩ => ⟨S_, .f32⟩
  | .hbm, ⟨8, _⟩ => ⟨S1x640x512, .f32⟩
  | .hbm, ⟨9, _⟩ => ⟨S1x640x512, .f32⟩
  | .hbm, ⟨10, _⟩ => ⟨S_, .f32⟩
  | .hbm, ⟨11, _⟩ => ⟨S1x640x512, .f32⟩
  | .hbm, ⟨12, _⟩ => ⟨S1x640x512, .f32⟩
  | .hbm, ⟨13, _⟩ => ⟨S1x640x512, .f32⟩
  | .hbm, ⟨14, _⟩ => ⟨S_, .f32⟩
  | .hbm, ⟨15, _⟩ => ⟨S1x640x512, .f32⟩
  | .hbm, ⟨16, _⟩ => ⟨S1x640x512, .f32⟩
  | .hbm, ⟨17, _⟩ => ⟨S1x640x512, .f32⟩
  | .hbm, ⟨18, _⟩ => ⟨S_, .f32⟩
  | .hbm, ⟨19, _⟩ => ⟨S1x640x512, .f32⟩
  | .hbm, ⟨20, _⟩ => ⟨S1x640x512, .f32⟩
  | .hbm, ⟨21, _⟩ => ⟨S1x640x512, .f32⟩
  | .hbm, ⟨22, _⟩ => ⟨S_, .f32⟩
  | .hbm, ⟨23, _⟩ => ⟨S1x640x512, .f32⟩
  | .hbm, ⟨24, _⟩ => ⟨S1x640x512, .f32⟩
  | .hbm, ⟨25, _⟩ => ⟨S_, .f32⟩
  | .hbm, ⟨26, _⟩ => ⟨S1x640x512, .f32⟩
  | .hbm, ⟨27, _⟩ => ⟨S1x640x512, .f32⟩
  | .hbm, ⟨28, _⟩ => ⟨S1x640x512, .f32⟩
  | .hbm, ⟨29, _⟩ => ⟨S_, .f32⟩
  | .hbm, ⟨30, _⟩ => ⟨S1x640x512, .f32⟩
  | .hbm, ⟨31, _⟩ => ⟨S1x640x512, .f32⟩
  | .hbm, ⟨32, _⟩ => ⟨S1x640x512, .f32⟩
  | .hbm, ⟨33, _⟩ => ⟨S_, .f32⟩
  | .hbm, ⟨34, _⟩ => ⟨S1x640x512, .f32⟩
  | .hbm, ⟨35, _⟩ => ⟨S1x640x512, .f32⟩
  | .hbm, ⟨36, _⟩ => ⟨S1x640x512, .f32⟩
  | .hbm, ⟨37, _⟩ => ⟨S_, .f32⟩
  | .hbm, ⟨38, _⟩ => ⟨S1x640x512, .f32⟩
  | .hbm, ⟨39, _⟩ => ⟨S1x640x512, .f32⟩
  | _, _ => ⟨S8x640x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Mix.lean ====
abbrev S8192x512 : Shape := ⟨2, ![8192, 512]⟩
abbrev S8192x256 : Shape := ⟨2, ![8192, 256]⟩
abbrev S1024 : Shape := ⟨1, ![1024]⟩
abbrev S1024x1024 : Shape := ⟨2, ![1024, 1024]⟩
abbrev S8192x1024 : Shape := ⟨2, ![8192, 1024]⟩
abbrev S1x1024 : Shape := ⟨2, ![1, 1024]⟩
abbrev S1024x512 : Shape := ⟨2, ![1024, 512]⟩
abbrev S1024x256 : Shape := ⟨2, ![1024, 256]⟩
abbrev S1024x1 : Shape := ⟨2, ![1024, 1]⟩
abbrev S1x512 : Shape := ⟨2, ![1, 512]⟩
abbrev S1x256 : Shape := ⟨2, ![1, 256]⟩

abbrev nBuf : Space → Nat
  | .hbm => 12
  | .vmem => 17
  | .smem => 0
  | _ => 0

abbrev bufTy : (tb : Table) → Fin (tcTables nBuf tb) → BufTy
  | .hbm, ⟨0, _⟩ => ⟨S8192x512, .f32⟩
  | .hbm, ⟨1, _⟩ => ⟨S8192x256, .f32⟩
  | .hbm, ⟨2, _⟩ => ⟨S8192x256, .f32⟩
  | .hbm, ⟨3, _⟩ => ⟨S1024, .f32⟩
  | .hbm, ⟨4, _⟩ => ⟨S1024x1024, .bf16⟩
  | .hbm, ⟨5, _⟩ => ⟨S8192x1024, .f32⟩
  | .hbm, ⟨6, _⟩ => ⟨S1024, .f32⟩
  | .hbm, ⟨7, _⟩ => ⟨S1x1024, .f32⟩
  | .hbm, ⟨8, _⟩ => ⟨S1x1024, .f32⟩
  | .hbm, ⟨9, _⟩ => ⟨S8192x1024, .bf16⟩
  | .hbm, ⟨10, _⟩ => ⟨S8192x1024, .f32⟩
  | .hbm, ⟨11, _⟩ => ⟨S8192x1024, .bf16⟩
  | .local _ .vmem, ⟨0, _⟩ => ⟨S1024x512, .f32⟩
  | .local _ .vmem, ⟨1, _⟩ => ⟨S1024x512, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1x1024, .f32⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .f32⟩
  | .local _ .vmem, ⟨14, _⟩ => ⟨S1024x1024, .f32⟩
  | .local _ .vmem, ⟨15, _⟩ => ⟨S1024x1024, .bf16⟩
  | .local _ .vmem, ⟨16, _⟩ => ⟨S1024x1024, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MixRefIdeal.lean ====
abbrev S8192x512 : Shape := ⟨2, ![8192, 512]⟩
abbrev S8192x256 : Shape := ⟨2, ![8192, 256]⟩
abbrev S1024 : Shape := ⟨1, ![1024]⟩
abbrev S1024x1024 : Shape := ⟨2, ![1024, 1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 71
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x256, .f32⟩
  | .hbm, ⟨2, _⟩ => ⟨S8192x256, .f32⟩
  | .hbm, ⟨3, _⟩ => ⟨S1024, .f32⟩
  | .hbm, ⟨4, _⟩ => ⟨S1024x1024, .bf16⟩
  | .hbm, ⟨5, _⟩ => ⟨S8192x1024, .f32⟩
  | .hbm, ⟨6, _⟩ => ⟨S1024, .f32⟩
  | .hbm, ⟨7, _⟩ => ⟨S8192x512, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x512, .f32⟩
  | .hbm, ⟨19, _⟩ => ⟨S8192x512, .f32⟩
  | .hbm, ⟨20, _⟩ => ⟨S8192x256, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x256, .f32⟩
  | .hbm, ⟨32, _⟩ => ⟨S8192x256, .f32⟩
  | .hbm, ⟨33, _⟩ => ⟨S8192x256, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x1, .f32⟩
  | .hbm, ⟨44, _⟩ => ⟨S8192x256, .f32⟩
  | .hbm, ⟨45, _⟩ => ⟨S8192x256, .f32⟩
  | .hbm, ⟨46, _⟩ => ⟨S8192x1024, .f32⟩
  | .hbm, ⟨47, _⟩ => ⟨S1x1024, .f32⟩
  | .hbm, ⟨48, _⟩ => ⟨S8192x1024, .f32⟩
  | .hbm, ⟨49, _⟩ => ⟨S8192x1024, .f32⟩
  | .hbm, ⟨50, _⟩ => ⟨S1024x1024, .f32⟩
  | .hbm, ⟨51, _⟩ => ⟨S8192x1024, .f32⟩
  | .hbm, ⟨52, _⟩ => ⟨S8192x1024, .f32⟩
  | .hbm, ⟨53, _⟩ => ⟨S8192x1024, .bf16⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S8192x1, .f32⟩
  | .hbm, ⟨65, _⟩ => ⟨S8192x1024, .f32⟩
  | .hbm, ⟨66, _⟩ => ⟨S8192x1024, .f32⟩
  | .hbm, ⟨67, _⟩ => ⟨S1x1024, .f32⟩
  | .hbm, ⟨68, _⟩ => ⟨S8192x1024, .f32⟩
  | .hbm, ⟨69, _⟩ => ⟨S8192x1024, .f32⟩
  | .hbm, ⟨70, _⟩ => ⟨S8192x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩

abbrev nD : Nat := 1
abbrev τ : Topo := Topo.v7x

variable {F : FTy → Type} [FloatOps F]
-- ==== MixT.lean ====
abbrev S8192x1024 : Shape := ⟨2, ![8192, 1024]⟩
abbrev S1024x1024 : Shape := ⟨2, ![1024, 1024]⟩
abbrev S8192x512 : Shape := ⟨2, ![8192, 512]⟩
abbrev S8192x256 : Shape := ⟨2, ![8192, 256]⟩
abbrev S1024 : Shape := ⟨1, ![1024]⟩
abbrev S1x1024 : Shape := ⟨2, ![1, 1024]⟩
abbrev S1024x512 : Shape := ⟨2, ![1024, 512]⟩
abbrev S1024x256 : Shape := ⟨2, ![1024, 256]⟩
abbrev S1024x1 : Shape := ⟨2, ![1024, 1]⟩
abbrev S1x512 : Shape := ⟨2, ![1, 512]⟩
abbrev S512 : Shape := ⟨1, ![512]⟩
abbrev S1x256 : Shape := ⟨2, ![1, 256]⟩
abbrev S256 : Shape := ⟨1, ![256]⟩

abbrev nBuf : Space → Nat
  | .hbm => 11
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x512, .f32⟩
  | .hbm, ⟨3, _⟩ => ⟨S8192x256, .f32⟩
  | .hbm, ⟨4, _⟩ => ⟨S8192x256, .f32⟩
  | .hbm, ⟨5, _⟩ => ⟨S1024, .f32⟩
  | .hbm, ⟨6, _⟩ => ⟨S1x1024, .f32⟩
  | .hbm, ⟨7, _⟩ => ⟨S8192x512, .f32⟩
  | .hbm, ⟨8, _⟩ => ⟨S8192x256, .f32⟩
  | .hbm, ⟨9, _⟩ => ⟨S8192x256, .f32⟩
  | .hbm, ⟨10, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x512, .f32⟩
  | .local _ .vmem, ⟨4, _⟩ => ⟨S1024x512, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1x1024, .f32⟩
  | .local _ .vmem, ⟨10, _⟩ => ⟨S1024x512, .f32⟩
  | .local _ .vmem, ⟨11, _⟩ => ⟨S1024x512, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== MixTRefIdeal.lean ====
abbrev S8192x1024 : Shape := ⟨2, ![8192, 1024]⟩
abbrev S1024x1024 : Shape := ⟨2, ![1024, 1024]⟩
abbrev S8192x512 : Shape := ⟨2, ![8192, 512]⟩
abbrev S8192x256 : Shape := ⟨2, ![8192, 256]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 127
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x512, .f32⟩
  | .hbm, ⟨3, _⟩ => ⟨S8192x256, .f32⟩
  | .hbm, ⟨4, _⟩ => ⟨S8192x256, .f32⟩
  | .hbm, ⟨5, _⟩ => ⟨S1024, .f32⟩
  | .hbm, ⟨6, _⟩ => ⟨S8192x512, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x512, .f32⟩
  | .hbm, ⟨22, _⟩ => ⟨S8192x512, .f32⟩
  | .hbm, ⟨23, _⟩ => ⟨S8192x256, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x256, .f32⟩
  | .hbm, ⟨39, _⟩ => ⟨S8192x256, .f32⟩
  | .hbm, ⟨40, _⟩ => ⟨S8192x256, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S8192x256, .f32⟩
  | .hbm, ⟨56, _⟩ => ⟨S8192x256, .f32⟩
  | .hbm, ⟨57, _⟩ => ⟨S8192x1024, .f32⟩
  | .hbm, ⟨58, _⟩ => ⟨S1x1024, .f32⟩
  | .hbm, ⟨59, _⟩ => ⟨S8192x1024, .f32⟩
  | .hbm, ⟨60, _⟩ => ⟨S8192x1024, .f32⟩
  | .hbm, ⟨61, _⟩ => ⟨S1024x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S8192x1024, .f32⟩
  | .hbm, ⟨69, _⟩ => ⟨S8192x1024, .f32⟩
  | .hbm, ⟨70, _⟩ => ⟨S_, .f32⟩
  | .hbm, ⟨71, _⟩ => ⟨S1024, .f32⟩
  | .hbm, ⟨72, _⟩ => ⟨S8192x512, .f32⟩
  | .hbm, ⟨73, _⟩ => ⟨S8192x256, .f32⟩
  | .hbm, ⟨74, _⟩ => ⟨S8192x256, .f32⟩
  | .hbm, ⟨75, _⟩ => ⟨S8192x256, .f32⟩
  | .hbm, ⟨76, _⟩ => ⟨S_, .f32⟩
  | .hbm, ⟨77, _⟩ => ⟨S8192, .f32⟩
  | .hbm, ⟨78, _⟩ => ⟨S8192x1, .f32⟩
  | .hbm, ⟨79, _⟩ => ⟨S8192x256, .f32⟩
  | .hbm, ⟨80, _⟩ => ⟨S8192x256, .f32⟩
  | .hbm, ⟨81, _⟩ => ⟨S8192x1, .f32⟩
  | .hbm, ⟨82, _⟩ => ⟨S_, .f32⟩
  | .hbm, ⟨83, _⟩ => ⟨S8192x1, .f32⟩
  | .hbm, ⟨84, _⟩ => ⟨S8192x1, .f32⟩
  | .hbm, ⟨85, _⟩ => ⟨S_, .f32⟩
  | .hbm, ⟨86, _⟩ => ⟨S8192, .f32⟩
  | .hbm, ⟨87, _⟩ => ⟨S8192x256, .f32⟩
  | .hbm, ⟨88, _⟩ => ⟨S8192x256, .f32⟩
  | .hbm, ⟨89, _⟩ => ⟨S8192x256, .f32⟩
  | .hbm, ⟨90, _⟩ => ⟨S8192x256, .f32⟩
  | .hbm, ⟨91, _⟩ => ⟨S8192x256, .f32⟩
  | .hbm, ⟨92, _⟩ => ⟨S8192x256, .f32⟩
  | .hbm, ⟨93, _⟩ => ⟨S_, .f32⟩
  | .hbm, ⟨94, _⟩ => ⟨S8192, .f32⟩
  | .hbm, ⟨95, _⟩ => ⟨S8192x1, .f32⟩
  | .hbm, ⟨96, _⟩ => ⟨S8192x256, .f32⟩
  | .hbm, ⟨97, _⟩ => ⟨S8192x256, .f32⟩
  | .hbm, ⟨98, _⟩ => ⟨S8192x1, .f32⟩
  | .hbm, ⟨99, _⟩ => ⟨S_, .f32⟩
  | .hbm, ⟨100, _⟩ => ⟨S8192x1, .f32⟩
  | .hbm, ⟨101, _⟩ => ⟨S8192x1, .f32⟩
  | .hbm, ⟨102, _⟩ => ⟨S_, .f32⟩
  | .hbm, ⟨103, _⟩ => ⟨S8192, .f32⟩
  | .hbm, ⟨104, _⟩ => ⟨S8192x256, .f32⟩
  | .hbm, ⟨105, _⟩ => ⟨S8192x256, .f32⟩
  | .hbm, ⟨106, _⟩ => ⟨S8192x256, .f32⟩
  | .hbm, ⟨107, _⟩ => ⟨S8192x256, .f32⟩
  | .hbm, ⟨108, _⟩ => ⟨S8192x256, .f32⟩
  | .hbm, ⟨109, _⟩ => ⟨S8192x512, .f32⟩
  | .hbm, ⟨110, _⟩ => ⟨S_, .f32⟩
  | .hbm, ⟨111, _⟩ => ⟨S8192, .f32⟩
  | .hbm, ⟨112, _⟩ => ⟨S8192x1, .f32⟩
  | .hbm, ⟨113, _⟩ => ⟨S8192x512, .f32⟩
  | .hbm, ⟨114, _⟩ => ⟨S8192x512, .f32⟩
  | .hbm, ⟨115, _⟩ => ⟨S8192x1, .f32⟩
  | .hbm, ⟨116, _⟩ => ⟨S_, .f32⟩
  | .hbm, ⟨117, _⟩ => ⟨S8192x1, .f32⟩
  | .hbm, ⟨118, _⟩ => ⟨S8192x1, .f32⟩
  | .hbm, ⟨119, _⟩ => ⟨S_, .f32⟩
  | .hbm, ⟨120, _⟩ => ⟨S8192, .f32⟩
  | .hbm, ⟨121, _⟩ => ⟨S8192x512, .f32⟩
  | .hbm, ⟨122, _⟩ => ⟨S8192x512, .f32⟩
  | .hbm, ⟨123, _⟩ => ⟨S8192x512, .f32⟩
  | .hbm, ⟨124, _⟩ => ⟨S8192x512, .f32⟩
  | .hbm, ⟨125, _⟩ => ⟨S8192x512, .f32⟩
  | .hbm, ⟨126, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_cst_8 : Ref sig .tc := ⟨.hbm, 44, rfl⟩
abbrev main_v29 : Ref sig .tc := ⟨.hbm, 45, rfl⟩
abbrev main_v30 : Ref sig .tc := ⟨.hbm, 46, rfl⟩
abbrev main_cst_9 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_10 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_11 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_12 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_13 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_14 : Ref sig .tc := ⟨.hbm, 82, rfl⟩
abbrev main_v61 : Ref sig .tc := ⟨.hbm, 83, rfl⟩
abbrev main_v62 : Ref sig .tc := ⟨.hbm, 84, rfl⟩
abbrev main_cst_15 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_16 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_17 : Ref sig .tc := ⟨.hbm, 99, rfl⟩
abbrev main_v75 : Ref sig .tc := ⟨.hbm, 100, rfl⟩
abbrev main_v76 : Ref sig .tc := ⟨.hbm, 101, rfl⟩
abbrev main_cst_18 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_19 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_cst_20 : Ref sig .tc := ⟨.hbm, 116, rfl⟩
abbrev main_v89 : Ref sig .tc := ⟨.hbm, 117, rfl⟩
abbrev main_v90 : Ref sig .tc := ⟨.hbm, 118, rfl⟩
abbrev main_cst_21 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩

abbrev nD : Nat := 1
abbrev τ : Topo := Topo.v7x

variable {F : FTy → Type} [FloatOps F]
-- ==== Proof.Rows.lean ====
module

public import Idealize.ShloMosaic.Lib.Pipeline.ValueKit
public import Idealize.ShloMosaic.Lib.Pipeline.FrameBody

/-!
What an array written and read in strips of whole rows holds.
-/

@[expose] public section

noncomputable section

namespace Cert.Rows

open Idealize.ShloMosaic

variable {m n k : ℕ} {Val : EltTy → Type} [∀ e, Nonempty (Val e)] {sig : RefSig} {κ : Kind} {sp : Space} {e : EltTy}

/-- Over a strip of rows written last, the strip; elsewhere what was written before. -/
theorem canon_strip (o : ℕ) (inb : ∀ a, (![o, 0] : Fin 2 → ℕ) a + (![k, n] : Fin 2 → ℕ) a ≤ (⟨2, ![m, n]⟩ : Shape).size a)
    (W : (⟨2, ![k, n]⟩ : Shape).Idx → Val e) (L : List (View.Piece Val (⟨2, ![m, n]⟩ : Shape) e)) (r : Fin m) (l : Fin n) :
    View.canon ((⟨Rect.unit (s := (⟨2, ![m, n]⟩ : Shape)) ![o, 0] ![k, n] inb, W⟩ : View.Piece Val (⟨2, ![m, n]⟩ : Shape) e) :: L) (ix2 r l)
      = if h : o ≤ r.val ∧ r.val < o + k then W (ix2 ⟨r.val - o, by omega⟩ l) else View.canon L (ix2 r l) := by
  split
  · rename_i h
    have he : (Rect.unit (s := (⟨2, ![m, n]⟩ : Shape)) ![o, 0] ![k, n] inb).emb (ix2 (⟨r.val - o, by omega⟩ : Fin k) l) = ix2 r l := by
      funext x; apply Fin.ext
      fin_cases x
      · show o + 1 * (r.val - o) = r.val; omega
      · show 0 + 1 * l.val = l.val; omega
    rw [← he]
    exact View.canon_cons_emb (Rect.unit (s := (⟨2, ![m, n]⟩ : Shape)) ![o, 0] ![k, n] inb) W L _
  · rename_i h
    refine View.canon_cons_of_not_mem _ L ?_
    intro hm
    obtain ⟨i, hi, he⟩ := (LoadRect.mem_set _).mp hm (0 : Fin 2)
    have hi1 : i < k := hi
    have he' : r.val = o + 1 * i := he
    exact h ⟨by omega, by omega⟩

/-- A load of a strip of rows, of what was written. -/
theorem readCov_strip (v : View sig κ sp (⟨2, ![m, n]⟩ : Shape) e) (o : ℕ)
    (inb : ∀ a, (![o, 0] : Fin 2 → ℕ) a + (![k, n] : Fin 2 → ℕ) a ≤ (⟨2, ![m, n]⟩ : Shape).size a)
    (L : List (View.Piece Val (⟨2, ![m, n]⟩ : Shape) e)) (r : Fin k) (l : Fin n) (h : o + r.val < m) :
    v.readCov L (Rect.unit (s := (⟨2, ![m, n]⟩ : Shape)) ![o, 0] ![k, n] inb).toLoadRect (ix2 r l)
      = View.canon L (ix2 (⟨o + r.val, h⟩ : Fin m) l) := by
  rw [View.readCov_eq_canon']
  refine congrArg _ ?_
  funext x; apply Fin.ext
  fin_cases x
  · show o + 1 * r.val = o + r.val; omega
  · show 0 + 1 * l.val = l.val; omega

/-- A load of a strip of rows, of a whole block. -/
theorem ld_strip (X : (⟨2, ![m, n]⟩ : Shape).Idx → Val e) (o : ℕ)
    (inb : ∀ a, (![o, 0] : Fin 2 → ℕ) a + (![k, n] : Fin 2 → ℕ) a ≤ (⟨2, ![m, n]⟩ : Shape).size a)
    (r : Fin k) (l : Fin n) (h : o + r.val < m) :
    View.ld X (Rect.unit (s := (⟨2, ![m, n]⟩ : Shape)) ![o, 0] ![k, n] inb) (ix2 r l) = X (ix2 (⟨o + r.val, h⟩ : Fin m) l) := by
  refine congrArg X ?_
  funext x; apply Fin.ext
  fin_cases x
  · show o + 1 * r.val = o + r.val; omega
  · show 0 + 1 * l.val = l.val; omega

end Cert.Rows

end
-- ==== Proof.Real.lean ====
module

public import Idealize.ShloMosaic.Lib.Pointwise

/-!
The channel mixer's gradient over the real numbers, and what the numbers of a program's constants are.
-/

@[expose] public section

noncomputable section

namespace Cert.Conv

open Idealize.ShloMosaic

/-- The real number of the constant √(2/π), rounded to f32. -/
def gc : ℝ := 6693141 / 8388608

/-- The cube's coefficient in gelu. -/
def gk : ℝ := 8943 / 200000

/-- gelu (its tanh form). -/
def gelu (u : ℝ) : ℝ := u * (1 / 2 * (1 + Real.tanh (gc * (u + gk * (u * u * u)))))

/-- The derivative of gelu. -/
def gelu' (u : ℝ) : ℝ :=
  1 / 2 * (1 + Real.tanh (gc * (u + gk * (u * u * u))))
    + 1 / 2 * u * (1 - Real.tanh (gc * (u + gk * (u * u * u))) * Real.tanh (gc * (u + gk * (u * u * u))))
      * (gc * (1 + 3 * gk * (u * u)))

/-- The rows of `x` after two rows of zeros. -/
def before (x : ℕ → ℕ → ℝ) (t c : ℕ) : ℝ := if t < 2 then 0 else x (t - 2) c

/-- The causal convolution of width three. -/
def mixed (x w : ℕ → ℕ → ℝ) (b : ℕ → ℝ) (t c : ℕ) : ℝ :=
  w 0 c * before x t c + w 1 c * before x (t + 1) c + w 2 c * before x (t + 2) c + b c

/-- The gradient of the gate with respect to the convolution's result. -/
def dmix (a x w : ℕ → ℕ → ℝ) (b : ℕ → ℝ) (t c : ℕ) : ℝ :=
  if c < 2816 then a t c * gelu (mixed x w b t (c + 2816))
  else a t (c - 2816) * mixed x w b t (c - 2816) * gelu' (mixed x w b t c)

/-- Row `t` of `d`, zero beyond the last row. -/
def cut (d : ℕ → ℕ → ℝ) (t c : ℕ) : ℝ := if t < 8192 then d t c else 0

/-- The gradient with respect to the convolution's input. -/
def dIn (d w : ℕ → ℕ → ℝ) (t c : ℕ) : ℝ :=
  w 2 c * d t c + w 1 c * cut d (t + 1) c + w 0 c * cut d (t + 2) c

/-- The gradient with respect to the convolution's weights. -/
def dW (d x : ℕ → ℕ → ℝ) (k c : ℕ) : ℝ := ∑ t : Fin 8192, d t.val c * before x (t.val + k) c

/-- The gradient with respect to the convolution's bias. -/
def dB (d : ℕ → ℕ → ℝ) (c : ℕ) : ℝ := ∑ t : Fin 8192, d t.val c

theorem ofBits_zero : Ideal.ofBits .f32 0x00000000#32 = ((0 : ℝ) : EReal) := by
  simp [Ideal.ofBits, Ideal.ieee]
theorem ofBits_half : Ideal.ofBits .f32 0x3F000000#32 = ((1 / 2 : ℝ) : EReal) := by
  simp [Ideal.ofBits, Ideal.ieee]; rw [← EReal.coe_mul]; norm_num
theorem ofBits_one : Ideal.ofBits .f32 0x3F800000#32 = ((1 : ℝ) : EReal) := by
  simp [Ideal.ofBits, Ideal.ieee]; rw [← EReal.coe_mul]; norm_num
theorem ofBits_three : Ideal.ofBits .f32 0x40400000#32 = ((3 : ℝ) : EReal) := by
  simp [Ideal.ofBits, Ideal.ieee]; rw [← EReal.coe_mul]; norm_num
theorem ofBits_gc : Ideal.ofBits .f32 0x3F4C422A#32 = ((gc : ℝ) : EReal) := by
  simp [Ideal.ofBits, Ideal.ieee, gc]; rw [← EReal.coe_mul]; norm_num
theorem ofBits_inf : Ideal.ofBits .f32 0x7F800000#32 = ⊤ := by
  simp [Ideal.ofBits, Ideal.ieee]
theorem ofBits_num : Ideal.ofBits .f32 0x472EAB00#32 = ((44715 : ℝ) : EReal) := by
  simp [Ideal.ofBits, Ideal.ieee]; rw [← EReal.coe_mul]; norm_num
theorem ofBits_den : Ideal.ofBits .f32 0x49742400#32 = ((1000000 : ℝ) : EReal) := by
  simp [Ideal.ofBits, Ideal.ieee]; rw [← EReal.coe_mul]; norm_num

/-- The quotient of the two whole numbers is the coefficient. -/
theorem div_gk : Ideal.div (Ideal.ofBits .f32 0x472EAB00#32) (Ideal.ofBits .f32 0x49742400#32) = ((gk : ℝ) : EReal) := by
  rw [ofBits_num, ofBits_den, Ideal.div_coe (by norm_num), ← EReal.coe_mul]
  norm_num [gk]

/-- The sum of real numbers, taken among the extended reals. -/
theorem coe_sum {n : ℕ} (f : Fin n → ℝ) : (∑ i, ((f i : ℝ) : EReal)) = ((∑ i, f i : ℝ) : EReal) := by
  induction n with
  | zero => simp
  | succ n ih => rw [Fin.sum_univ_succ, Fin.sum_univ_succ, ih, EReal.coe_add]

/-- Of an extended real that is no infinity, the real number. -/
theorem coe_toReal_of_abs_lt (x : EReal) (h : max x (-x) < ⊤) : x = ((x.toReal : ℝ) : EReal) := by
  refine (EReal.coe_toReal ?_ ?_).symm
  · rintro rfl; simp at h
  · rintro rfl; simp at h

end Cert.Conv

end
-- ==== Proof.Body.lean ====
module

public import proofs.«01_k».proof.Proof.Gen.KernelIdeal.Value
public import proofs.«01_k».proof.Proof.Real
public import Idealize.ShloMosaic.Lib.Pipeline.ValueKit

@[expose] public section

set_option maxRecDepth 16384

noncomputable section

namespace Cert.KernelIdeal.Conv

open Cert.KernelIdeal Cert.KernelIdeal.Gen Idealize.ShloMosaic Idealize.ShloMosaic.TcCoe Idealize.SL.Sem
open Cert.Conv

theorem cube_eq : (Named.named κ "cube" 0x3D372713#32 : Ideal .f32) = ((gk : ℝ) : EReal) :=
  IdealRules.named_const.ideal_named_scalar _ _ _ _ rfl

theorem cube_slope_eq : (Named.named κ "cube_slope" 0x3E095D4F#32 : Ideal .f32) = ((3 * gk : ℝ) : EReal) := by
  rw [IdealRules.named_const.ideal_named_scalar κ "cube_slope" _ ((26829 / 200000 : ℝ) : EReal) rfl]
  norm_num [gk]

/-- Choosing by an equality of small numbers. -/
theorem select_eq {α : Type} (n k : ℕ) (hn : n < 4096) (hk : k < 4096) (x y : α) :
    Scalar.select (IntOp.cmpi .eq (BitVec.ofNat 32 n) (BitVec.ofNat 32 k)) x y = if n = k then x else y := by
  have e : (BitVec.ofNat 32 n = BitVec.ofNat 32 k) ↔ n = k := by
    rw [← BitVec.toNat_inj, BitVec.toNat_ofNat, BitVec.toNat_ofNat]; omega
  by_cases h : n = k
  · subst h; simp [Scalar.select, IntOp.cmpi]
  · have h' : ¬ BitVec.ofNat 32 n = BitVec.ofNat 32 k := fun q => h (e.mp q)
    simp [Scalar.select, IntOp.cmpi, h, beq_eq_false_iff_ne.mpr h']

/-- The sum that picks one row. -/
theorem pick {n : ℕ} (k : ℕ) (h : k < n) (hn : n ≤ 4096) (f : Fin n → EReal) :
    (∑ x : Fin n, Scalar.select (IntOp.cmpi .eq (BitVec.ofNat 32 x.val) (BitVec.ofNat 32 k)) (f x) (0 : EReal)) = f ⟨k, h⟩ := by
  rw [Finset.sum_eq_single (⟨k, h⟩ : Fin n)]
  · rw [select_eq _ _ (by show k < 4096; omega) (by omega), if_pos rfl]
  · intro x _ hx
    have := x.isLt
    rw [select_eq _ _ (by omega) (by omega), if_neg (fun e => hx (Fin.ext e))]
  · simp

/-- One where the grid's row block is not the last, else zero. -/
def hasNext (i : ℕ) : ℝ := if i < 15 then 1 else 0

/-- One where the grid's row block is not the first, else zero. -/
def hasPrev (i : ℕ) : ℝ := if 0 < i then 1 else 0

theorem hasPrev_eq (n : ℕ) (h : n < 16) :
    (((Scalar.extui (Scalar.cmpi CmpIPredicate.sgt (BitVec.ofNat 32 n) 0#32) : BitVec 32).toInt : ℝ) : EReal) = ((hasPrev n : ℝ) : EReal) := by
  have e : ∀ i : Fin 16, (Scalar.extui (Scalar.cmpi CmpIPredicate.sgt (BitVec.ofNat 32 i.val) 0#32) : BitVec 32).toInt
      = if 0 < i.val then 1 else 0 := by decide
  rw [e ⟨n, h⟩]; unfold hasPrev; split <;> simp

theorem hasNext_eq (n : ℕ) (h : n < 16) :
    (((Scalar.extui (Scalar.cmpi CmpIPredicate.slt (BitVec.ofNat 32 n) 15#32) : BitVec 32).toInt : ℝ) : EReal) = ((hasNext n : ℝ) : EReal) := by
  have e : ∀ i : Fin 16, (Scalar.extui (Scalar.cmpi CmpIPredicate.slt (BitVec.ofNat 32 i.val) 15#32) : BitVec 32).toInt
      = if i.val < 15 then 1 else 0 := by decide
  rw [e ⟨n, h⟩]; unfold hasNext; split <;> simp

/-- Row `s` of a block with the rows after it: those beyond the block count only where a next block is. -/
def ahead (d : ℕ → ℕ → ℝ) (hn : ℝ) (s l : ℕ) : ℝ := if s < 512 then d s l else hn * d s l

/-- Row `s` of a block moved down by two: its first two rows are the previous block's last two, where there is one. -/
def behind (x t : ℕ → ℕ → ℝ) (hp : ℝ) (s l : ℕ) : ℝ := if s < 2 then hp * t (14 + s) l else x (s - 2) l

theorem sum_rows (f : ℕ → ℝ) : ∑ s : Fin 512, f s = f 0 + f 1 + ∑ s : Fin 510, f (s + 2) := by
  rw [Fin.sum_univ_succ, Fin.sum_univ_succ, ← add_assoc]
  rfl

/-- The value half of a block of rows: the cotangent times gelu of the gate. -/
theorem pay6 (A G : FVec Ideal S512x1408 .bf16) (a g : ℕ → ℕ → ℝ)
    (hA : ∀ r l, A (ix2 r l) = ((a r l : ℝ) : EReal)) (hG : ∀ r l, G (ix2 r l) = ((g r l : ℝ) : EReal)) (r : Fin 512) (l : Fin 1408) :
    (k0_pay6 (F := Ideal) A G (ix2 r l) : EReal) = ((a r l * gelu (g r l) : ℝ) : EReal) := by
  pointwise [k0_pay6]
  simp only [hA, hG, cube_eq, ofBits_half, ofBits_gc, ← EReal.coe_one, ← EReal.coe_mul, ← EReal.coe_add, Ideal.tanh_coe]
  refine congrArg _ ?_
  unfold gelu
  ring

/-- The same of the rows after the block. -/
theorem pay8 (A G : FVec Ideal S16x1408 .bf16) (a g : ℕ → ℕ → ℝ)
    (hA : ∀ r l, A (ix2 r l) = ((a r l : ℝ) : EReal)) (hG : ∀ r l, G (ix2 r l) = ((g r l : ℝ) : EReal)) (r : Fin 16) (l : Fin 1408) :
    (k0_pay8 (F := Ideal) A G (ix2 r l) : EReal) = ((a r l * gelu (g r l) : ℝ) : EReal) := by
  pointwise [k0_pay8]
  simp only [hA, hG, cube_eq, ofBits_half, ofBits_gc, ← EReal.coe_one, ← EReal.coe_mul, ← EReal.coe_add, Ideal.tanh_coe]
  refine congrArg _ ?_
  unfold gelu
  ring

/-- The gate half of a block of rows: the cotangent times the value times the gate's derivative of gelu. -/
theorem pay7 (A Hv G : FVec Ideal S512x1408 .bf16) (a v g : ℕ → ℕ → ℝ)
    (hA : ∀ r l, A (ix2 r l) = ((a r l : ℝ) : EReal)) (hV : ∀ r l, Hv (ix2 r l) = ((v r l : ℝ) : EReal))
    (hG : ∀ r l, G (ix2 r l) = ((g r l : ℝ) : EReal)) (r : Fin 512) (l : Fin 1408) :
    (k0_pay7 (F := Ideal) A Hv G (ix2 r l) : EReal) = ((a r l * v r l * gelu' (g r l) : ℝ) : EReal) := by
  pointwise [k0_pay7]
  simp only [hA, hV, hG, cube_eq, cube_slope_eq, ofBits_half, ofBits_gc, ← EReal.coe_one, ← EReal.coe_mul, ← EReal.coe_add,
    ← EReal.coe_sub, Ideal.tanh_coe]
  refine congrArg _ ?_
  unfold gelu'
  ring

/-- The same of the rows after the block. -/
theorem pay9 (A Hv G : FVec Ideal S16x1408 .bf16) (a v g : ℕ → ℕ → ℝ)
    (hA : ∀ r l, A (ix2 r l) = ((a r l : ℝ) : EReal)) (hV : ∀ r l, Hv (ix2 r l) = ((v r l : ℝ) : EReal))
    (hG : ∀ r l, G (ix2 r l) = ((g r l : ℝ) : EReal)) (r : Fin 16) (l : Fin 1408) :
    (k0_pay9 (F := Ideal) A Hv G (ix2 r l) : EReal) = ((a r l * v r l * gelu' (g r l) : ℝ) : EReal) := by
  pointwise [k0_pay9]
  simp only [hA, hV, hG, cube_eq, cube_slope_eq, ofBits_half, ofBits_gc, ← EReal.coe_one, ← EReal.coe_mul, ← EReal.coe_add,
    ← EReal.coe_sub, Ideal.tanh_coe]
  refine congrArg _ ?_
  unfold gelu'
  ring

section
variable (i : grid0.Coords) (D : FVec Ideal S512x1408 .f32) (N E : FVec Ideal S16x1408 .f32) (H : FVec Ideal S8x1408 .f32)
  (X : FVec Ideal S512x1408 .bf16) (T L : FVec Ideal S16x1408 .bf16) (w0 w1 w2 P : FVec Ideal S1x1408 .f32)
  (d x t w : ℕ → ℕ → ℝ) (p : ℕ → ℝ)
  (hD : ∀ r l, D (ix2 r l) = ((d r l : ℝ) : EReal)) (hN : ∀ r l, N (ix2 r l) = ((d (512 + r) l : ℝ) : EReal))
  (hE : ∀ r l, E (ix2 r l) = ((d (496 + r) l : ℝ) : EReal)) (hH : ∀ r l, H (ix2 r l) = ((d r l : ℝ) : EReal))
  (hX : ∀ r l, X (ix2 r l) = ((x r l : ℝ) : EReal)) (hT : ∀ r l, T (ix2 r l) = ((t r l : ℝ) : EReal))
  (hL : ∀ r l, L (ix2 r l) = ((x (496 + r) l : ℝ) : EReal))
  (h0 : ∀ l, w0 (ix2 0 l) = ((w 0 l : ℝ) : EReal)) (h1 : ∀ l, w1 (ix2 0 l) = ((w 1 l : ℝ) : EReal))
  (h2 : ∀ l, w2 (ix2 0 l) = ((w 2 l : ℝ) : EReal)) (hP : ∀ l, P (ix2 0 l) = ((p l : ℝ) : EReal))

include hD h0 h1 h2 in
/-- The block's rows of the gradient with respect to the input, before the last rows are redone. -/
theorem main9 (r : Fin 512) (l : Fin 1408) (hr : r.val < 496) :
    (k0_pay15 (F := Ideal) (k0_pay12 w1 w2 D) (k0_pay13 D) (k0_pay14 w0) (ix2 r l) : EReal)
      = ((w 2 l * d r l + w 1 l * ahead d (hasNext (i 1).val) (r + 1) l + w 0 l * ahead d (hasNext (i 1).val) (r + 2) l : ℝ) : EReal) := by
  pointwise [k0_pay15, k0_pay12, k0_pay13, k0_pay14]
  simp only [hD, h0, h1, h2, ← EReal.coe_mul, ← EReal.coe_add, ahead, show (r.val + 512 - 511) % 512 = r.val + 1 by omega,
    show (r.val + 512 - 510) % 512 = r.val + 2 by omega, if_pos (show r.val + 1 < 512 by omega), if_pos (show r.val + 2 < 512 by omega)]

include hN hE h0 h1 h2 in
/-- The last rows of the block, redone with the rows after them. -/
theorem edge9 (r : Fin 16) (l : Fin 1408) :
    (k0_pay19 (F := Ideal) w0 w1 w2 E (k0_pay17 (k0_pay11 i) N E) (k0_pay18 (k0_pay11 i) N E) (ix2 r l) : EReal)
      = ((w 2 l * d (496 + r) l + w 1 l * ahead d (hasNext (i 1).val) (496 + r + 1) l + w 0 l * ahead d (hasNext (i 1).val) (496 + r + 2) l : ℝ) : EReal) := by
  pointwise [k0_pay19, k0_pay17, k0_pay18, k0_pay16, k0_pay11]
  have e := r.isLt
  rw [pick 0 (by norm_num) (by norm_num), pick 1 (by norm_num) (by norm_num)]
  repeat rw [select_eq _ _ (by omega) (by omega)]
  rw [hasNext_eq _ (i 1).isLt]
  simp only [hN, hE, h0, h1, h2, ahead]
  by_cases e15 : r.val = 15
  · simp only [e15, if_pos, if_neg (show ¬ (15 : ℕ) = 14 by norm_num), ← EReal.coe_mul, ← EReal.coe_add]
    refine congrArg _ ?_
    norm_num
    ring
  by_cases e14 : r.val = 14
  · simp only [e14, if_pos, if_neg (show ¬ (14 : ℕ) = 15 by norm_num), ← EReal.coe_mul, ← EReal.coe_add]
    refine congrArg _ ?_
    norm_num
    left
    ring
  · simp only [if_neg e15, if_neg e14, ← EReal.coe_mul, ← EReal.coe_add, if_pos (show 496 + r.val + 1 < 512 by omega),
      if_pos (show 496 + r.val + 2 < 512 by omega), show (r.val + 16 - 15) % 16 = r.val + 1 by omega,
      show (r.val + 16 - 14) % 16 = r.val + 2 by omega, ← add_assoc]

include hD hX hT hL hH hP in
/-- The block's part of the gradient with respect to the first row of weights. -/
theorem row0 (l : Fin 1408) :
    (k0_pay27 (F := Ideal) D (k0_pay20 X) (k0_pay22 (k0_pay10 i) T) (k0_pay23 (k0_pay10 i) T) (k0_pay24 L) (k0_pay25 L) (iota Kind.tc S16x1408 32 [0] iota_S16x1408_d0_w32) H P (ix2 0 l) : EReal)
      = ((p l + ∑ s : Fin 512, d s l * behind x t (hasPrev (i 1).val) s l : ℝ) : EReal) := by
  pointwise [k0_pay27, k0_pay20, k0_pay22, k0_pay10, k0_pay23, k0_pay24, k0_pay25, k0_pay26, k0_pay21]
  repeat rw [pick _ (by norm_num) (by norm_num)]
  rw [hasPrev_eq _ (i 1).isLt]
  simp only [hD, hX, hT, hL, hH, hP, ← EReal.coe_mul, ← EReal.coe_add, ← EReal.coe_sub, coe_sum]
  refine congrArg _ ?_
  rw [sum_rows (fun s => d s l * x ((s + 512 - 2) % 512) l), sum_rows (fun s => d s l * behind x t (hasPrev (i 1).val) s l)]
  have e : ∀ s : Fin 510, d (s + 2) l * x ((s.val + 2 + 512 - 2) % 512) l = d (s + 2) l * behind x t (hasPrev (i 1).val) (s.val + 2) l := by
    intro s
    have := s.isLt
    rw [behind, if_neg (by omega), show (s.val + 2 + 512 - 2) % 512 = s.val + 2 - 2 by omega]
  simp only [e]
  simp only [behind]
  norm_num
  ring

include hD hX hT hL hH hP in
/-- The block's part of the gradient with respect to the second row of weights. -/
theorem row1 (l : Fin 1408) :
    (k0_pay1 (F := Ideal) (k0_pay22 (k0_pay10 i) T) (k0_pay25 L) (k0_pay26 H) (k0_pay28 P) (k0_pay29 D (k0_pay20 X)) (ix2 0 l) : EReal)
      = ((p l + ∑ s : Fin 512, d s l * behind x t (hasPrev (i 1).val) (s + 1) l : ℝ) : EReal) := by
  pointwise [k0_pay1, k0_pay20, k0_pay22, k0_pay10, k0_pay25, k0_pay26, k0_pay28, k0_pay29, k0_pay21, k0_pay24]
  repeat rw [pick _ (by norm_num) (by norm_num)]
  rw [hasPrev_eq _ (i 1).isLt]
  simp only [hD, hX, hT, hL, hH, hP, ← EReal.coe_mul, ← EReal.coe_add, ← EReal.coe_sub, coe_sum]
  refine congrArg _ ?_
  rw [sum_rows (fun s => d s l * x ((s + 512 - 1) % 512) l), sum_rows (fun s => d s l * behind x t (hasPrev (i 1).val) (s + 1) l)]
  have e : ∀ s : Fin 510, d (s + 2) l * x ((s.val + 2 + 512 - 1) % 512) l = d (s + 2) l * behind x t (hasPrev (i 1).val) (s.val + 2 + 1) l := by
    intro s
    have := s.isLt
    rw [behind, if_neg (by omega), show (s.val + 2 + 512 - 1) % 512 = s.val + 2 + 1 - 2 by omega]
  simp only [e]
  simp only [behind]
  norm_num
  ring

include hD hX hP in
/-- The block's part of the gradient with respect to the third row of weights. -/
theorem row2 (l : Fin 1408) :
    (k0_pay2 (F := Ideal) D (k0_pay20 X) P (ix2 0 l) : EReal)
      = ((p l + ∑ s : Fin 512, d s l * behind x t (hasPrev (i 1).val) (s + 2) l : ℝ) : EReal) := by
  pointwise [k0_pay2, k0_pay20]
  simp only [hD, hX, hP, ← EReal.coe_mul, ← EReal.coe_add, coe_sum]
  simp [behind]

include hD hP in
/-- The block's part of the gradient with respect to the bias. -/
theorem row3 (l : Fin 1408) : (k0_pay3 (F := Ideal) D P (ix2 0 l) : EReal) = ((p l + ∑ s : Fin 512, d s l : ℝ) : EReal) := by
  pointwise [k0_pay3]
  simp only [hD, hP, ← EReal.coe_add, coe_sum]
end

end Cert.KernelIdeal.Conv

end
-- ==== Proof.Blocks.lean ====
module

public import proofs.«01_k».proof.Proof.Gen.KernelIdeal.Value
public import proofs.«01_k».proof.Proof.Real
public import Idealize.ShloMosaic.Lib.Pipeline.ValueKit
public import Idealize.ShloMosaic.Lib.Claim

@[expose] public section

set_option maxRecDepth 16384

noncomputable section

namespace Cert.KernelIdeal.Conv

open Cert.KernelIdeal Cert.KernelIdeal.Gen Idealize.ShloMosaic Idealize.ShloMosaic.TcCoe Idealize.SL.Sem
open Idealize.ShloMosaic.Pipeline (Dat)
open Cert.Conv

/-- Which block of its array each window holds at each point of the grid. -/
theorem idx : ∀ t : Fin cfg0.N,
    win0_0.index t = ![t.val % 16, t.val / 16 % 2] ∧ win0_1.index t = ![min ((t.val % 16 + 1) * 32) 511, t.val / 16 % 2]
    ∧ win0_2.index t = ![t.val % 16, t.val / 16 % 2] ∧ win0_3.index t = ![min ((t.val % 16 + 1) * 32) 511, t.val / 16 % 2]
    ∧ win0_4.index t = ![t.val % 16, t.val / 16 % 2] ∧ win0_5.index t = ![min ((t.val % 16 + 1) * 32) 511, t.val / 16 % 2]
    ∧ win0_6.index t = ![t.val % 16, t.val / 16] ∧ win0_7.index t = ![t.val % 16 * 32 - 1, t.val / 16]
    ∧ win0_8.index t = ![0, t.val / 16] ∧ win0_9.index t = ![t.val % 16, t.val / 16]
    ∧ win0_10.index t = ![0, t.val / 16] ∧ win0_11.index t = ![0, t.val / 16] ∧ (grid0.coords t 1).val = t.val % 16 :=
  (by decide +kernel : ∀ t : Fin grid0.N,
    win0_0.index t = ![t.val % 16, t.val / 16 % 2] ∧ win0_1.index t = ![min ((t.val % 16 + 1) * 32) 511, t.val / 16 % 2]
    ∧ win0_2.index t = ![t.val % 16, t.val / 16 % 2] ∧ win0_3.index t = ![min ((t.val % 16 + 1) * 32) 511, t.val / 16 % 2]
    ∧ win0_4.index t = ![t.val % 16, t.val / 16 % 2] ∧ win0_5.index t = ![min ((t.val % 16 + 1) * 32) 511, t.val / 16 % 2]
    ∧ win0_6.index t = ![t.val % 16, t.val / 16] ∧ win0_7.index t = ![t.val % 16 * 32 - 1, t.val / 16]
    ∧ win0_8.index t = ![0, t.val / 16] ∧ win0_9.index t = ![t.val % 16, t.val / 16]
    ∧ win0_10.index t = ![0, t.val / 16] ∧ win0_11.index t = ![0, t.val / 16] ∧ (grid0.coords t 1).val = t.val % 16)

section
variable (m : (ℓ : Loc nD τ sig) → Buf (Elt Ideal) ℓ) (c : Dev nD) (a x w : ℕ → ℕ → ℝ) (b : ℕ → ℝ)
  (h0 : ∀ (r : Fin 8192) (l : Fin 2816), m ((c : Thread nD τ).loc main_arg0) (ix2 r l) = ((a r l : ℝ) : EReal))
  (h1 : ∀ (r : Fin 8192) (l : Fin 5632), m ((c : Thread nD τ).loc main_arg1) (ix2 r l) = ((x r l : ℝ) : EReal))
  (h2 : ∀ (r : Fin 3) (l : Fin 5632), m ((c : Thread nD τ).loc main_arg2) (ix2 r l) = ((w r l : ℝ) : EReal))
  (h3 : ∀ (l : Fin 5632), m ((c : Thread nD τ).loc main_arg3) (ix1 l) = ((b l : ℝ) : EReal))
  (t : Fin cfg0.N)

include h1 h2 h3 in
/-- The convolution's value half, as the host computes it. -/
theorem hv (r : Fin 8192) (l : Fin 2816) : (V m c main_v28 (ix2 r l) : EReal) = ((mixed x w b r (l) : ℝ) : EReal) := by
  have e1 : ∀ (r : Fin 8192) (l : Fin 5632), (m (c, Proc.tc.devRef main_arg1) (ix2 r l) : EReal) = ((x r l : ℝ) : EReal) := h1
  have e2 : ∀ (r : Fin 3) (l : Fin 5632), (m (c, Proc.tc.devRef main_arg2) (ix2 r l) : EReal) = ((w r l : ℝ) : EReal) := h2
  have e3 : ∀ (l : Fin 5632), (m (c, Proc.tc.devRef main_arg3) (ix1 l) : EReal) = ((b l : ℝ) : EReal) := h3
  entry_read
  pointwise
  simp only [e1, e2, e3]
  unfold mixed before
  by_cases g : r.val < 2 <;> by_cases g' : r.val + 1 < 2 <;>
    simp [g, g', add_comm 1 r.val, ← EReal.coe_mul, ← EReal.coe_add]

include h1 h2 h3 in
/-- The convolution's gate half, as the host computes it. -/
theorem hg (r : Fin 8192) (l : Fin 2816) : (V m c main_v29 (ix2 r l) : EReal) = ((mixed x w b r (l + 2816) : ℝ) : EReal) := by
  have e1 : ∀ (r : Fin 8192) (l : Fin 5632), (m (c, Proc.tc.devRef main_arg1) (ix2 r l) : EReal) = ((x r l : ℝ) : EReal) := h1
  have e2 : ∀ (r : Fin 3) (l : Fin 5632), (m (c, Proc.tc.devRef main_arg2) (ix2 r l) : EReal) = ((w r l : ℝ) : EReal) := h2
  have e3 : ∀ (l : Fin 5632), (m (c, Proc.tc.devRef main_arg3) (ix1 l) : EReal) = ((b l : ℝ) : EReal) := h3
  entry_read
  pointwise
  simp only [e1, e2, e3]
  unfold mixed before
  by_cases g : r.val < 2 <;> by_cases g' : r.val + 1 < 2 <;>
    simp [g, g', add_comm 1 r.val, ← EReal.coe_mul, ← EReal.coe_add, add_comm 2816 l.val]

include h0 in
/-- The cotangent's rows of window 0. -/
theorem blk0 (r : Fin 512) (l : Fin 1408) :
    ((iblk m c 0 t : FVec Ideal S512x1408 .bf16) (ix2 r l) : EReal) = ((a (t.val % 16 * 512 + r) (t.val / 16 % 2 * 1408 + l) : ℝ) : EReal) := by
  have hN : t.val < 64 := lt_of_lt_of_eq t.isLt N_0
  refine Eq.trans ?_ (h0 ⟨t.val % 16 * 512 + r, by omega⟩ ⟨t.val / 16 % 2 * 1408 + l, by omega⟩)
  blk_ext [iblk, V, idx t]

include h0 in
/-- The cotangent's rows of window 1. -/
theorem blk1 (r : Fin 16) (l : Fin 1408) :
    ((iblk m c 1 t : FVec Ideal S16x1408 .bf16) (ix2 r l) : EReal) = ((a (min ((t.val % 16 + 1) * 32) 511 * 16 + r) (t.val / 16 % 2 * 1408 + l) : ℝ) : EReal) := by
  have hN : t.val < 64 := lt_of_lt_of_eq t.isLt N_0
  refine Eq.trans ?_ (h0 ⟨min ((t.val % 16 + 1) * 32) 511 * 16 + r, by omega⟩ ⟨t.val / 16 % 2 * 1408 + l, by omega⟩)
  blk_ext [iblk, V, idx t]

include h1 h2 h3 in
/-- The value half's rows of window 2. -/
theorem blk2 (r : Fin 512) (l : Fin 1408) :
    ((iblk m c 2 t : FVec Ideal S512x1408 .bf16) (ix2 r l) : EReal) = ((mixed x w b (t.val % 16 * 512 + r) (t.val / 16 % 2 * 1408 + l) : ℝ) : EReal) := by
  have hN : t.val < 64 := lt_of_lt_of_eq t.isLt N_0
  refine Eq.trans ?_ (hv m c x w b h1 h2 h3 ⟨t.val % 16 * 512 + r, by omega⟩ ⟨t.val / 16 % 2 * 1408 + l, by omega⟩)
  blk_ext [iblk, V, idx t]

include h1 h2 h3 in
/-- The value half's rows of window 3. -/
theorem blk3 (r : Fin 16) (l : Fin 1408) :
    ((iblk m c 3 t : FVec Ideal S16x1408 .bf16) (ix2 r l) : EReal) = ((mixed x w b (min ((t.val % 16 + 1) * 32) 511 * 16 + r) (t.val / 16 % 2 * 1408 + l) : ℝ) : EReal) := by
  have hN : t.val < 64 := lt_of_lt_of_eq t.isLt N_0
  refine Eq.trans ?_ (hv m c x w b h1 h2 h3 ⟨min ((t.val % 16 + 1) * 32) 511 * 16 + r, by omega⟩ ⟨t.val / 16 % 2 * 1408 + l, by omega⟩)
  blk_ext [iblk, V, idx t]

include h1 h2 h3 in
/-- The gate half's rows of window 4. -/
theorem blk4 (r : Fin 512) (l : Fin 1408) :
    ((iblk m c 4 t : FVec Ideal S512x1408 .bf16) (ix2 r l) : EReal) = ((mixed x w b (t.val % 16 * 512 + r) (t.val / 16 % 2 * 1408 + l + 2816) : ℝ) : EReal) := by
  have hN : t.val < 64 := lt_of_lt_of_eq t.isLt N_0
  refine Eq.trans ?_ (hg m c x w b h1 h2 h3 ⟨t.val % 16 * 512 + r, by omega⟩ ⟨t.val / 16 % 2 * 1408 + l, by omega⟩)
  blk_ext [iblk, V, idx t]

include h1 h2 h3 in
/-- The gate half's rows of window 5. -/
theorem blk5 (r : Fin 16) (l : Fin 1408) :
    ((iblk m c 5 t : FVec Ideal S16x1408 .bf16) (ix2 r l) : EReal) = ((mixed x w b (min ((t.val % 16 + 1) * 32) 511 * 16 + r) (t.val / 16 % 2 * 1408 + l + 2816) : ℝ) : EReal) := by
  have hN : t.val < 64 := lt_of_lt_of_eq t.isLt N_0
  refine Eq.trans ?_ (hg m c x w b h1 h2 h3 ⟨min ((t.val % 16 + 1) * 32) 511 * 16 + r, by omega⟩ ⟨t.val / 16 % 2 * 1408 + l, by omega⟩)
  blk_ext [iblk, V, idx t]

include h1 in
/-- The convolution's input, the block's rows. -/
theorem blk6 (r : Fin 512) (l : Fin 1408) :
    ((iblk m c 6 t : FVec Ideal S512x1408 .bf16) (ix2 r l) : EReal) = ((x (t.val % 16 * 512 + r) (t.val / 16 * 1408 + l) : ℝ) : EReal) := by
  have hN : t.val < 64 := lt_of_lt_of_eq t.isLt N_0
  refine Eq.trans ?_ (h1 ⟨t.val % 16 * 512 + r, by omega⟩ ⟨t.val / 16 * 1408 + l, by omega⟩)
  blk_ext [iblk, V, idx t]

include h1 in
/-- The convolution's input, the rows before the block. -/
theorem blk7 (r : Fin 16) (l : Fin 1408) :
    ((iblk m c 7 t : FVec Ideal S16x1408 .bf16) (ix2 r l) : EReal) = ((x ((t.val % 16 * 32 - 1) * 16 + r) (t.val / 16 * 1408 + l) : ℝ) : EReal) := by
  have hN : t.val < 64 := lt_of_lt_of_eq t.isLt N_0
  refine Eq.trans ?_ (h1 ⟨(t.val % 16 * 32 - 1) * 16 + r, by omega⟩ ⟨t.val / 16 * 1408 + l, by omega⟩)
  blk_ext [iblk, V, idx t]

include h2 in
/-- The weights. -/
theorem blk8 (r : Fin 3) (l : Fin 1408) :
    ((iblk m c 8 t : FVec Ideal S3x1408 .f32) (ix2 r l) : EReal) = ((w r (t.val / 16 * 1408 + l) : ℝ) : EReal) := by
  have hN : t.val < 64 := lt_of_lt_of_eq t.isLt N_0
  refine Eq.trans ?_ (h2 r ⟨t.val / 16 * 1408 + l, by omega⟩)
  blk_ext [iblk, V, idx t]

end

end Cert.KernelIdeal.Conv

end
-- ==== Proof.Points.lean ====
module

public import proofs.«01_k».proof.Proof.Rows
public import proofs.«01_k».proof.Proof.Body
public import proofs.«01_k».proof.Proof.Blocks

/-!
What each grid point of the convolution's kernel leaves in its three output blocks.
-/

@[expose] public section

set_option maxRecDepth 16384

noncomputable section

namespace Cert.KernelIdeal.Conv

open Cert.KernelIdeal Cert.KernelIdeal.Gen Idealize.ShloMosaic Idealize.ShloMosaic.TcCoe Idealize.SL.Sem
open Idealize.ShloMosaic.Pipeline (Dat)
open Cert.Conv Cert.Rows

/-- The array's row that row `s` of row block `i` and the sixteen rows after it stands for. -/
def row (i s : ℕ) : ℕ := if s < 512 then i * 512 + s else min ((i + 1) * 32) 511 * 16 + (s - 512)

/-- An array's rows and columns as grid point `t` sees them. -/
def loc (d : ℕ → ℕ → ℝ) (t s l : ℕ) : ℝ := d (row (t % 16) s) (t / 16 * 1408 + l)

section
variable (i : grid0.Coords) (M : FVec Ideal S512x1408 .f32) (G : FVec Ideal S16x1408 .f32)
  (X : FVec Ideal S512x1408 .bf16) (T : FVec Ideal S16x1408 .bf16) (W : FVec Ideal S3x1408 .f32)
  (d x tl w : ℕ → ℕ → ℝ)
  (hM : ∀ r l, M (ix2 r l) = ((d r l : ℝ) : EReal)) (hG : ∀ r l, G (ix2 r l) = ((d (512 + r) l : ℝ) : EReal))
  (hX : ∀ r l, X (ix2 r l) = ((x r l : ℝ) : EReal)) (hT : ∀ r l, T (ix2 r l) = ((tl r l : ℝ) : EReal))
  (hW : ∀ r l, W (ix2 r l) = ((w r l : ℝ) : EReal))

/-- The scratch after both halves are stored. -/
def scratch : List (View.Piece (Elt Ideal) S528x1408 .f32) :=
  [⟨Rect.unit ![512, 0] ![16, 1408] inb_S528x1408_S16x1408_512_0, G⟩, ⟨Rect.unit ![0, 0] ![512, 1408] inb_S528x1408_S512x1408_0_0, M⟩]

include hM hG in
/-- A row of the scratch. -/
theorem scratch_row (q : Fin 528) (l : Fin 1408) : View.canon (scratch M G) (ix2 q l) = ((d q l : ℝ) : EReal) := by
  unfold scratch
  refine (canon_strip (Val := Elt Ideal) (e := .f32) (m := 528) (n := 1408) (k := 16) 512 inb_S528x1408_S16x1408_512_0 G _ q l).trans ?_
  by_cases g : 512 ≤ q.val
  · rw [dif_pos ⟨g, q.isLt⟩, hG]
    refine congrArg (fun k => ((d k l : ℝ) : EReal)) ?_
    show 512 + (q.val - 512) = q.val
    omega
  · rw [dif_neg (fun h => g h.1)]
    refine (canon_strip (Val := Elt Ideal) (e := .f32) (m := 528) (n := 1408) (k := 512) 0 inb_S528x1408_S512x1408_0_0 M _ q l).trans ?_
    rw [dif_pos ⟨Nat.zero_le _, by omega⟩, hM]
    rfl

include hM hG in
/-- A strip of the scratch read back. -/
theorem scr (v : View sig .tc .vmem S528x1408 .f32) (o k : ℕ)
    (inb : ∀ a, (![o, 0] : Fin 2 → ℕ) a + (![k, 1408] : Fin 2 → ℕ) a ≤ S528x1408.size a) (h : o + k ≤ 528) (r : Fin k) (l : Fin 1408) :
    v.readCov (scratch M G) (Rect.unit (s := S528x1408) ![o, 0] ![k, 1408] inb).toLoadRect (ix2 r l) = ((d (o + r) l : ℝ) : EReal) :=
  (readCov_strip (m := 528) (n := 1408) (k := k) v o inb (scratch M G) r l (by omega)).trans (scratch_row M G d hM hG _ l)

include hM hG hW in
/-- The first output block. -/
theorem strips9 (v : View sig .tc .vmem S528x1408 .f32) (r : Fin 512) (l : Fin 1408) :
    (View.canon (Val := Elt Ideal) (s := S512x1408) (e := .bf16) [⟨Rect.unit (s := S512x1408) ![496, 0] ![16, 1408] inb_S512x1408_S16x1408_496_0,
          k0_pay19 (F := Ideal) (View.ld (Val := Elt Ideal) (e' := .f32) W (Rect.unit (s := S3x1408) ![0, 0] ![1, 1408] inb_S3x1408_S1x1408_0_0)) (View.ld (Val := Elt Ideal) (e' := .f32) W (Rect.unit (s := S3x1408) ![1, 0] ![1, 1408] inb_S3x1408_S1x1408_1_0))
            (View.ld (Val := Elt Ideal) (e' := .f32) W (Rect.unit (s := S3x1408) ![2, 0] ![1, 1408] inb_S3x1408_S1x1408_2_0))
            (v.readCov (scratch M G) (Rect.unit (s := S528x1408) ![496, 0] ![16, 1408] inb_S528x1408_S16x1408_496_0).toLoadRect)
            (k0_pay17 (k0_pay11 i) (v.readCov (scratch M G) (Rect.unit (s := S528x1408) ![512, 0] ![16, 1408] inb_S528x1408_S16x1408_512_0).toLoadRect)
              (v.readCov (scratch M G) (Rect.unit (s := S528x1408) ![496, 0] ![16, 1408] inb_S528x1408_S16x1408_496_0).toLoadRect))
            (k0_pay18 (k0_pay11 i) (v.readCov (scratch M G) (Rect.unit (s := S528x1408) ![512, 0] ![16, 1408] inb_S528x1408_S16x1408_512_0).toLoadRect)
              (v.readCov (scratch M G) (Rect.unit (s := S528x1408) ![496, 0] ![16, 1408] inb_S528x1408_S16x1408_496_0).toLoadRect))⟩,
        ⟨Rect.unit (s := S512x1408) ![0, 0] ![512, 1408] inb_S512x1408_S512x1408_0_0,
          k0_pay15 (F := Ideal) (k0_pay12 (View.ld (Val := Elt Ideal) (e' := .f32) W (Rect.unit (s := S3x1408) ![1, 0] ![1, 1408] inb_S3x1408_S1x1408_1_0)) (View.ld (Val := Elt Ideal) (e' := .f32) W (Rect.unit (s := S3x1408) ![2, 0] ![1, 1408] inb_S3x1408_S1x1408_2_0))
              (v.readCov (scratch M G) (Rect.unit (s := S528x1408) ![0, 0] ![512, 1408] inb_S528x1408_S512x1408_0_0).toLoadRect))
            (k0_pay13 (v.readCov (scratch M G) (Rect.unit (s := S528x1408) ![0, 0] ![512, 1408] inb_S528x1408_S512x1408_0_0).toLoadRect))
            (k0_pay14 (View.ld (Val := Elt Ideal) (e' := .f32) W (Rect.unit (s := S3x1408) ![0, 0] ![1, 1408] inb_S3x1408_S1x1408_0_0)))⟩] (ix2 r l) : EReal)
      = ((w 2 l * d r l + w 1 l * ahead d (hasNext (i 1).val) (r + 1) l + w 0 l * ahead d (hasNext (i 1).val) (r + 2) l : ℝ) : EReal) := by
  have w0 : ∀ l : Fin 1408, View.ld (Val := Elt Ideal) (e' := .f32) W (Rect.unit (s := S3x1408) ![0, 0] ![1, 1408] inb_S3x1408_S1x1408_0_0) (ix2 0 l) = ((w 0 l : ℝ) : EReal) :=
    fun l => (ld_strip (m := 3) (n := 1408) (k := 1) (Val := Elt Ideal) (e := .f32) W 0 inb_S3x1408_S1x1408_0_0 0 l (by norm_num)).trans (hW _ l)
  have w1 : ∀ l : Fin 1408, View.ld (Val := Elt Ideal) (e' := .f32) W (Rect.unit (s := S3x1408) ![1, 0] ![1, 1408] inb_S3x1408_S1x1408_1_0) (ix2 0 l) = ((w 1 l : ℝ) : EReal) :=
    fun l => (ld_strip (m := 3) (n := 1408) (k := 1) (Val := Elt Ideal) (e := .f32) W 1 inb_S3x1408_S1x1408_1_0 0 l (by norm_num)).trans (hW _ l)
  have w2 : ∀ l : Fin 1408, View.ld (Val := Elt Ideal) (e' := .f32) W (Rect.unit (s := S3x1408) ![2, 0] ![1, 1408] inb_S3x1408_S1x1408_2_0) (ix2 0 l) = ((w 2 l : ℝ) : EReal) :=
    fun l => (ld_strip (m := 3) (n := 1408) (k := 1) (Val := Elt Ideal) (e := .f32) W 2 inb_S3x1408_S1x1408_2_0 0 l (by norm_num)).trans (hW _ l)
  have eD := scr M G d hM hG v 0 512 inb_S528x1408_S512x1408_0_0 (by norm_num)
  have eN := scr M G d hM hG v 512 16 inb_S528x1408_S16x1408_512_0 (by norm_num)
  have eE := scr M G d hM hG v 496 16 inb_S528x1408_S16x1408_496_0 (by norm_num)
  simp only [zero_add] at eD
  have hr := r.isLt
  refine (canon_strip (m := 512) (n := 1408) (k := 16) 496 _ _ _ r l).trans ?_
  split
  · rename_i g
    refine (edge9 i _ _ _ _ _ d w eN eE w0 w1 w2 ⟨r.val - 496, by omega⟩ l).trans ?_
    simp only [show 496 + (r.val - 496) = r.val by omega]
  · rename_i g
    refine (canon_strip (m := 512) (n := 1408) (k := 512) 0 _ _ _ r l).trans ?_
    rw [dif_pos ⟨by omega, by omega⟩]
    exact main9 i _ _ _ _ d w eD w0 w1 w2 r l (by omega)

include hM hG hX hT in
/-- The second output block, its three rows one by one; `p` is what each row held. -/
theorem rows10 (v : View sig .tc .vmem S528x1408 .f32) (P0 P1 P2 : FVec Ideal S1x1408 .f32) (p : ℕ → ℕ → ℝ)
    (L : List (View.Piece (Elt Ideal) S3x1408 .f32))
    (h0 : ∀ l, P0 (ix2 0 l) = ((p 0 l : ℝ) : EReal)) (h1 : ∀ l, P1 (ix2 0 l) = ((p 1 l : ℝ) : EReal))
    (h2 : ∀ l, P2 (ix2 0 l) = ((p 2 l : ℝ) : EReal)) (r : Fin 3) (l : Fin 1408) :
    (View.canon (Val := Elt Ideal) (s := S3x1408) (e := .f32) (⟨Rect.unit (s := S3x1408) ![2, 0] ![1, 1408] inb_S3x1408_S1x1408_2_0,
          k0_pay2 (F := Ideal) (v.readCov (scratch M G) (Rect.unit (s := S528x1408) ![0, 0] ![512, 1408] inb_S528x1408_S512x1408_0_0).toLoadRect)
            (k0_pay20 X) P2⟩ ::
        ⟨Rect.unit (s := S3x1408) ![1, 0] ![1, 1408] inb_S3x1408_S1x1408_1_0,
          k0_pay1 (F := Ideal) (k0_pay22 (k0_pay10 i) T)
            (k0_pay25 (View.ld (Val := Elt Ideal) (e' := .bf16) X (Rect.unit (s := S512x1408) ![496, 0] ![16, 1408] inb_S512x1408_S16x1408_496_0)))
            (k0_pay26 (v.readCov (scratch M G) (Rect.unit (s := S528x1408) ![0, 0] ![8, 1408] inb_S528x1408_S8x1408_0_0).toLoadRect))
            (k0_pay28 P1)
            (k0_pay29 (v.readCov (scratch M G) (Rect.unit (s := S528x1408) ![0, 0] ![512, 1408] inb_S528x1408_S512x1408_0_0).toLoadRect) (k0_pay20 X))⟩ ::
        ⟨Rect.unit (s := S3x1408) ![0, 0] ![1, 1408] inb_S3x1408_S1x1408_0_0,
          k0_pay27 (F := Ideal) (v.readCov (scratch M G) (Rect.unit (s := S528x1408) ![0, 0] ![512, 1408] inb_S528x1408_S512x1408_0_0).toLoadRect)
            (k0_pay20 X) (k0_pay22 (k0_pay10 i) T) (k0_pay23 (k0_pay10 i) T)
            (k0_pay24 (View.ld (Val := Elt Ideal) (e' := .bf16) X (Rect.unit (s := S512x1408) ![496, 0] ![16, 1408] inb_S512x1408_S16x1408_496_0)))
            (k0_pay25 (View.ld (Val := Elt Ideal) (e' := .bf16) X (Rect.unit (s := S512x1408) ![496, 0] ![16, 1408] inb_S512x1408_S16x1408_496_0)))
            (iota Kind.tc S16x1408 32 [0] iota_S16x1408_d0_w32)
            (v.readCov (scratch M G) (Rect.unit (s := S528x1408) ![0, 0] ![8, 1408] inb_S528x1408_S8x1408_0_0).toLoadRect) P0⟩ :: L) (ix2 r l) : EReal)
      = ((p r l + ∑ s : Fin 512, d s l * behind x tl (hasPrev (i 1).val) (s + r) l : ℝ) : EReal) := by
  have eD := scr M G d hM hG v 0 512 inb_S528x1408_S512x1408_0_0 (by norm_num)
  have eH := scr M G d hM hG v 0 8 inb_S528x1408_S8x1408_0_0 (by norm_num)
  have eL : ∀ (r : Fin 16) (l : Fin 1408), View.ld (Val := Elt Ideal) (e' := .bf16) X (Rect.unit (s := S512x1408) ![496, 0] ![16, 1408] inb_S512x1408_S16x1408_496_0) (ix2 r l)
      = ((x (496 + r) l : ℝ) : EReal) := fun r l => (ld_strip (m := 512) (n := 1408) (k := 16) (Val := Elt Ideal) (e := .bf16) X 496 inb_S512x1408_S16x1408_496_0 r l (by omega)).trans (hX _ l)
  simp only [zero_add] at eD eH
  refine (canon_strip (m := 3) (n := 1408) (k := 1) 2 _ _ _ r l).trans ?_
  split
  · rename_i g
    obtain rfl : r = 2 := Fin.ext (show r.val = 2 by omega)
    exact row2 i _ _ _ d x tl (p 2) eD hX h2 l
  rename_i g2
  refine (canon_strip (m := 3) (n := 1408) (k := 1) 1 _ _ _ r l).trans ?_
  split
  · rename_i g
    obtain rfl : r = 1 := Fin.ext (show r.val = 1 by omega)
    exact row1 i _ _ _ _ _ _ d x tl (p 1) eD eH hX hT eL h1 l
  rename_i g1
  refine (canon_strip (m := 3) (n := 1408) (k := 1) 0 _ _ _ r l).trans ?_
  have hr := r.isLt
  obtain rfl : r = 0 := Fin.ext (show r.val = 0 by omega)
  rw [dif_pos ⟨by norm_num, by norm_num⟩]
  exact row0 i _ _ _ _ _ _ d x tl (p 0) eD eH hX hT eL h0 l
end

end Cert.KernelIdeal.Conv

end
-- ==== Proof.Outs.lean ====
module

public import proofs.«01_k».proof.Proof.Points

/-!
The three output blocks of every grid point, as real numbers.
-/

@[expose] public section

set_option maxRecDepth 16384

noncomputable section

namespace Cert.KernelIdeal.Conv

open Cert.KernelIdeal Cert.KernelIdeal.Gen Idealize.ShloMosaic Idealize.ShloMosaic.TcCoe Idealize.SL.Sem
open Idealize.ShloMosaic.Pipeline (Dat)
open Cert.Conv Cert.Rows

section
variable (v : View sig .tc .vmem S3x1408 .f32) (R R' : FVec Ideal S1x1408 .f32) (l : Fin 1408)

theorem zeros4 (q : Fin 3) :
    (View.canon (Val := Elt Ideal) (s := S3x1408) (e := .f32) [⟨Rect.unit (s := S3x1408) ![0, 0] ![3, 1408] inb_S3x1408_S3x1408_0_0, k0_pay4 (F := Ideal)⟩] (ix2 q l) : EReal)
      = ((0 : ℝ) : EReal) := by
  refine (canon_strip (Val := Elt Ideal) (e := .f32) (m := 3) (n := 1408) (k := 3) 0 _ _ _ q l).trans ?_
  rw [dif_pos ⟨Nat.zero_le _, by omega⟩]
  pointwise [k0_pay4]
  simp

/-- The rows read before they are written hold the zeros stored at the start. -/
theorem fresh0 : (v.readCov (Val := Elt Ideal) [⟨Rect.unit (s := S3x1408) ![0, 0] ![3, 1408] inb_S3x1408_S3x1408_0_0, k0_pay4 (F := Ideal)⟩]
    (Rect.unit (s := S3x1408) ![0, 0] ![1, 1408] inb_S3x1408_S1x1408_0_0).toLoadRect (ix2 0 l) : EReal) = ((0 : ℝ) : EReal) :=
  (readCov_strip (m := 3) (n := 1408) (k := 1) v 0 inb_S3x1408_S1x1408_0_0 _ 0 l (by norm_num)).trans (zeros4 l _)

theorem fresh1 : (v.readCov (Val := Elt Ideal) [⟨Rect.unit (s := S3x1408) ![0, 0] ![1, 1408] inb_S3x1408_S1x1408_0_0, R⟩,
      ⟨Rect.unit (s := S3x1408) ![0, 0] ![3, 1408] inb_S3x1408_S3x1408_0_0, k0_pay4 (F := Ideal)⟩]
    (Rect.unit (s := S3x1408) ![1, 0] ![1, 1408] inb_S3x1408_S1x1408_1_0).toLoadRect (ix2 0 l) : EReal) = ((0 : ℝ) : EReal) := by
  refine (readCov_strip (m := 3) (n := 1408) (k := 1) v 1 inb_S3x1408_S1x1408_1_0 _ 0 l (by norm_num)).trans ?_
  refine (canon_strip (Val := Elt Ideal) (e := .f32) (m := 3) (n := 1408) (k := 1) 0 _ _ _ _ l).trans ?_
  rw [dif_neg (by norm_num)]
  exact zeros4 l _

theorem fresh2 : (v.readCov (Val := Elt Ideal) [⟨Rect.unit (s := S3x1408) ![1, 0] ![1, 1408] inb_S3x1408_S1x1408_1_0, R'⟩,
      ⟨Rect.unit (s := S3x1408) ![0, 0] ![1, 1408] inb_S3x1408_S1x1408_0_0, R⟩,
      ⟨Rect.unit (s := S3x1408) ![0, 0] ![3, 1408] inb_S3x1408_S3x1408_0_0, k0_pay4 (F := Ideal)⟩]
    (Rect.unit (s := S3x1408) ![2, 0] ![1, 1408] inb_S3x1408_S1x1408_2_0).toLoadRect (ix2 0 l) : EReal) = ((0 : ℝ) : EReal) := by
  refine (readCov_strip (m := 3) (n := 1408) (k := 1) v 2 inb_S3x1408_S1x1408_2_0 _ 0 l (by norm_num)).trans ?_
  refine (canon_strip (Val := Elt Ideal) (e := .f32) (m := 3) (n := 1408) (k := 1) 1 _ _ _ _ l).trans ?_
  rw [dif_neg (by norm_num)]
  refine (canon_strip (Val := Elt Ideal) (e := .f32) (m := 3) (n := 1408) (k := 1) 0 _ _ _ _ l).trans ?_
  rw [dif_neg (by norm_num)]
  exact zeros4 l _
end

section
variable (m : (ℓ : Loc nD τ sig) → Buf (Elt Ideal) ℓ) (c : Dev nD) (a x w : ℕ → ℕ → ℝ) (b : ℕ → ℝ)
  (h0 : ∀ (r : Fin 8192) (l : Fin 2816), m ((c : Thread nD τ).loc main_arg0) (ix2 r l) = ((a r l : ℝ) : EReal))
  (h1 : ∀ (r : Fin 8192) (l : Fin 5632), m ((c : Thread nD τ).loc main_arg1) (ix2 r l) = ((x r l : ℝ) : EReal))
  (h2 : ∀ (r : Fin 3) (l : Fin 5632), m ((c : Thread nD τ).loc main_arg2) (ix2 r l) = ((w r l : ℝ) : EReal))
  (h3 : ∀ (l : Fin 5632), m ((c : Thread nD τ).loc main_arg3) (ix1 l) = ((b l : ℝ) : EReal))
  (t : Fin cfg0.N)

include h0 h1 h2 h3

/-- The gate's gradient, value half, of the block's own rows. -/
theorem d6 (h : t.val < 32) (r : Fin 512) (l : Fin 1408) :
    (k0_pay6 (F := Ideal) (iblk m c 0 t) (iblk m c 4 t) (ix2 r l) : EReal) = ((loc (dmix a x w b) t r l : ℝ) : EReal) := by
  refine (pay6 _ _ (fun r l => a (t.val % 16 * 512 + r) (t.val / 16 % 2 * 1408 + l))
    (fun r l => mixed x w b (t.val % 16 * 512 + r) (t.val / 16 % 2 * 1408 + l + 2816))
    (blk0 m c a h0 t) (blk4 m c x w b h1 h2 h3 t) r l).trans ?_
  unfold loc row dmix
  rw [if_pos r.isLt, if_pos (by omega), show t.val / 16 % 2 = t.val / 16 by omega]

/-- The same of the rows after the block. -/
theorem d8 (h : t.val < 32) (r : Fin 16) (l : Fin 1408) :
    (k0_pay8 (F := Ideal) (iblk m c 1 t) (iblk m c 5 t) (ix2 r l) : EReal) = ((loc (dmix a x w b) t (512 + r) l : ℝ) : EReal) := by
  refine (pay8 _ _ (fun r l => a (min ((t.val % 16 + 1) * 32) 511 * 16 + r) (t.val / 16 % 2 * 1408 + l))
    (fun r l => mixed x w b (min ((t.val % 16 + 1) * 32) 511 * 16 + r) (t.val / 16 % 2 * 1408 + l + 2816))
    (blk1 m c a h0 t) (blk5 m c x w b h1 h2 h3 t) r l).trans ?_
  unfold loc row dmix
  have hl := l.isLt
  rw [if_neg (show ¬ 512 + r.val < 512 by omega), if_pos (show t.val / 16 * 1408 + l.val < 2816 by omega), show t.val / 16 % 2 = t.val / 16 by omega, show 512 + r.val - 512 = r.val by omega]

/-- The gate's gradient, gate half, of the block's own rows. -/
theorem d7 (h : ¬ t.val < 32) (r : Fin 512) (l : Fin 1408) :
    (k0_pay7 (F := Ideal) (iblk m c 0 t) (iblk m c 2 t) (iblk m c 4 t) (ix2 r l) : EReal) = ((loc (dmix a x w b) t r l : ℝ) : EReal) := by
  have hN : t.val < 64 := lt_of_lt_of_eq t.isLt N_0
  refine (pay7 _ _ _ (fun r l => a (t.val % 16 * 512 + r) (t.val / 16 % 2 * 1408 + l))
    (fun r l => mixed x w b (t.val % 16 * 512 + r) (t.val / 16 % 2 * 1408 + l))
    (fun r l => mixed x w b (t.val % 16 * 512 + r) (t.val / 16 % 2 * 1408 + l + 2816))
    (blk0 m c a h0 t) (blk2 m c x w b h1 h2 h3 t) (blk4 m c x w b h1 h2 h3 t) r l).trans ?_
  unfold loc row dmix
  rw [if_pos r.isLt, if_neg (by omega), show t.val / 16 * 1408 + l.val - 2816 = t.val / 16 % 2 * 1408 + l by omega,
    show t.val / 16 % 2 * 1408 + l.val + 2816 = t.val / 16 * 1408 + l by omega]

/-- The same of the rows after the block. -/
theorem d9 (h : ¬ t.val < 32) (r : Fin 16) (l : Fin 1408) :
    (k0_pay9 (F := Ideal) (iblk m c 1 t) (iblk m c 3 t) (iblk m c 5 t) (ix2 r l) : EReal) = ((loc (dmix a x w b) t (512 + r) l : ℝ) : EReal) := by
  have hN : t.val < 64 := lt_of_lt_of_eq t.isLt N_0
  refine (pay9 _ _ _ (fun r l => a (min ((t.val % 16 + 1) * 32) 511 * 16 + r) (t.val / 16 % 2 * 1408 + l))
    (fun r l => mixed x w b (min ((t.val % 16 + 1) * 32) 511 * 16 + r) (t.val / 16 % 2 * 1408 + l))
    (fun r l => mixed x w b (min ((t.val % 16 + 1) * 32) 511 * 16 + r) (t.val / 16 % 2 * 1408 + l + 2816))
    (blk1 m c a h0 t) (blk3 m c x w b h1 h2 h3 t) (blk5 m c x w b h1 h2 h3 t) r l).trans ?_
  unfold loc row dmix
  rw [if_neg (by omega), if_neg (by omega), show t.val / 16 * 1408 + l.val - 2816 = t.val / 16 % 2 * 1408 + l by omega,
    show t.val / 16 % 2 * 1408 + l.val + 2816 = t.val / 16 * 1408 + l by omega, show 512 + r.val - 512 = r.val by omega]

/-- What a point's first output block holds. -/
theorem out9 (r : Fin 512) (l : Fin 1408) :
    ((outsAt0 m c t.val t.isLt).1 (ix2 r l) : EReal)
      = ((dIn (dmix a x w b) w (t.val % 16 * 512 + r) (t.val / 16 * 1408 + l) : ℝ) : EReal) := by
  have hN : t.val < 64 := lt_of_lt_of_eq t.isLt N_0
  have e : ∀ (s : ℕ), s < 514 → ahead (loc (dmix a x w b) t) (hasNext (grid0.coords t 1).val) s l
      = cut (dmix a x w b) (t.val % 16 * 512 + s) (t.val / 16 * 1408 + l) := by
    intro s hs
    rw [(idx t).2.2.2.2.2.2.2.2.2.2.2.2]
    unfold ahead hasNext cut loc row
    by_cases g : s < 512
    · rw [if_pos g, if_pos g, if_pos (by omega)]
    · rw [if_neg g, if_neg g]
      by_cases g' : t.val % 16 < 15
      · rw [if_pos g', if_pos (by omega), one_mul, show min ((t.val % 16 + 1) * 32) 511 * 16 + (s - 512) = t.val % 16 * 512 + s by omega]
      · rw [if_neg g', if_neg (by omega), zero_mul]
  have hr := r.isLt
  have f : ((w 2 (t.val / 16 * 1408 + l) * loc (dmix a x w b) t r l
        + w 1 (t.val / 16 * 1408 + l) * ahead (loc (dmix a x w b) t) (hasNext (grid0.coords t 1).val) (r + 1) l
        + w 0 (t.val / 16 * 1408 + l) * ahead (loc (dmix a x w b) t) (hasNext (grid0.coords t 1).val) (r + 2) l : ℝ) : EReal)
      = ((dIn (dmix a x w b) w (t.val % 16 * 512 + r) (t.val / 16 * 1408 + l) : ℝ) : EReal) := by
    rw [e _ (by omega), e _ (by omega)]
    unfold dIn loc row
    rw [if_pos r.isLt]
    rfl
  refine Eq.trans ?_ f
  by_cases g : t.val < 32 <;> by_cases g0 : t.val % 16 = 0
  · rw [outsAt0_A m c t g0 g (by omega) g (by omega)]
    frame_out
    exact strips9 (grid0.coords t) _ _ _ (loc (dmix a x w b) t) (fun k l => w k (t.val / 16 * 1408 + l))
      (d6 m c a x w b h0 h1 h2 h3 t g) (d8 m c a x w b h0 h1 h2 h3 t g) (blk8 m c w h2 t) (View.whole cc0_scratch0) r l
  · rw [outsAt0_B m c t g0 g (by omega) g (by omega)]
    frame_out
    exact strips9 (grid0.coords t) _ _ _ (loc (dmix a x w b) t) (fun k l => w k (t.val / 16 * 1408 + l))
      (d6 m c a x w b h0 h1 h2 h3 t g) (d8 m c a x w b h0 h1 h2 h3 t g) (blk8 m c w h2 t) (View.whole cc0_scratch0) r l
  · rw [outsAt0_C m c t g0 g (by omega) g (by omega)]
    frame_out
    exact strips9 (grid0.coords t) _ _ _ (loc (dmix a x w b) t) (fun k l => w k (t.val / 16 * 1408 + l))
      (d7 m c a x w b h0 h1 h2 h3 t g) (d9 m c a x w b h0 h1 h2 h3 t g) (blk8 m c w h2 t) (View.whole cc0_scratch0) r l
  · rw [outsAt0_D m c t g0 g (by omega) g (by omega)]
    frame_out
    exact strips9 (grid0.coords t) _ _ _ (loc (dmix a x w b) t) (fun k l => w k (t.val / 16 * 1408 + l))
      (d7 m c a x w b h0 h1 h2 h3 t g) (d9 m c a x w b h0 h1 h2 h3 t g) (blk8 m c w h2 t) (View.whole cc0_scratch0) r l

/-- The block's summand of row `k` of the gradient with respect to the weights. -/
theorem part10 (k : Fin 3) (l : Fin 1408) :
    ∑ s : Fin 512, loc (dmix a x w b) t s l * behind (fun s l => x (t.val % 16 * 512 + s) (t.val / 16 * 1408 + l))
        (fun s l => x ((t.val % 16 * 32 - 1) * 16 + s) (t.val / 16 * 1408 + l)) (hasPrev (grid0.coords t 1).val) (s + k) l
      = ∑ s : Fin 512, dmix a x w b (t.val % 16 * 512 + s) (t.val / 16 * 1408 + l)
          * before x (t.val % 16 * 512 + s + k) (t.val / 16 * 1408 + l) := by
  refine Finset.sum_congr rfl fun s _ => ?_
  rw [(idx t).2.2.2.2.2.2.2.2.2.2.2.2]
  unfold loc row behind hasPrev before
  beta_reduce
  rw [if_pos s.isLt]
  refine congrArg _ ?_
  by_cases g : s.val + k.val < 2
  · rw [if_pos g]
    by_cases g' : 0 < t.val % 16
    · rw [if_pos g', if_neg (by omega), one_mul, show (t.val % 16 * 32 - 1) * 16 + (14 + (s.val + k.val)) = t.val % 16 * 512 + s + k - 2 by omega]
    · rw [if_neg g', if_pos (by omega), zero_mul]
  · rw [if_neg g, if_neg (by omega), show t.val % 16 * 512 + (s.val + k.val - 2) = t.val % 16 * 512 + s + k - 2 by omega]

/-- The first block of a column leaves its own summand in the second output. -/
theorem reset10 (g0 : t.val % 16 = 0) (k : Fin 3) (l : Fin 1408) :
    ((outsAt0 m c t.val t.isLt).2.1 (ix2 k l) : EReal)
      = ((0 + ∑ s : Fin 512, dmix a x w b (t.val % 16 * 512 + s) (t.val / 16 * 1408 + l)
          * before x (t.val % 16 * 512 + s + k) (t.val / 16 * 1408 + l) : ℝ) : EReal) := by
  rw [← part10 m c a x w b h0 h1 h2 h3 t k l]
  by_cases g : t.val < 32
  · rw [outsAt0_A m c t g0 g (by omega) g (by omega)]
    frame_out
    exact rows10 (grid0.coords t) _ _ _ _ (loc (dmix a x w b) t) _ _
      (d6 m c a x w b h0 h1 h2 h3 t g) (d8 m c a x w b h0 h1 h2 h3 t g) (blk6 m c x h1 t) (blk7 m c x h1 t) (View.whole cc0_scratch0)
      _ _ _ (fun _ _ => 0) _ (fun l => fresh0 _ l) (fun l => fresh1 _ _ l) (fun l => fresh2 _ _ _ l) k l
  · rw [outsAt0_C m c t g0 g (by omega) g (by omega)]
    frame_out
    exact rows10 (grid0.coords t) _ _ _ _ (loc (dmix a x w b) t) _ _
      (d7 m c a x w b h0 h1 h2 h3 t g) (d9 m c a x w b h0 h1 h2 h3 t g) (blk6 m c x h1 t) (blk7 m c x h1 t) (View.whole cc0_scratch0)
      _ _ _ (fun _ _ => 0) _ (fun l => fresh0 _ l) (fun l => fresh1 _ _ l) (fun l => fresh2 _ _ _ l) k l

/-- A later block adds its summand to what the point before left. -/
theorem step10 (g0 : ¬ t.val % 16 = 0) (p : ℕ → ℕ → ℝ)
    (hp : ∀ (k : Fin 3) (l : Fin 1408), ((outsAt0 m c (t.val - 1) (lt_of_le_of_lt (Nat.sub_le _ _) t.isLt)).2.1 (ix2 k l) : EReal) = ((p k l : ℝ) : EReal))
    (k : Fin 3) (l : Fin 1408) :
    ((outsAt0 m c t.val t.isLt).2.1 (ix2 k l) : EReal)
      = ((p k l + ∑ s : Fin 512, dmix a x w b (t.val % 16 * 512 + s) (t.val / 16 * 1408 + l)
          * before x (t.val % 16 * 512 + s + k) (t.val / 16 * 1408 + l) : ℝ) : EReal) := by
  rw [← part10 m c a x w b h0 h1 h2 h3 t k l]
  have e : ∀ (k : ℕ) (hk : k < 3) (inb : ∀ q, (![k, 0] : Fin 2 → ℕ) q + (![1, 1408] : Fin 2 → ℕ) q ≤ S3x1408.size q) (l : Fin 1408),
      (View.ld (Val := Elt Ideal) (e' := .f32) ((outsAt0 m c (t.val - 1) (lt_of_le_of_lt (Nat.sub_le _ _) t.isLt)).2.1)
        (Rect.unit (s := S3x1408) ![k, 0] ![1, 1408] inb) (ix2 0 l) : EReal) = ((p k l : ℝ) : EReal) :=
    fun k hk inb l => (ld_strip (m := 3) (n := 1408) (k := 1) (Val := Elt Ideal) (e := .f32) _ k inb 0 l (by omega)).trans (hp ⟨k, hk⟩ l)
  by_cases g : t.val < 32
  · rw [outsAt0_B m c t g0 g (by omega) g (by omega)]
    frame_out
    exact rows10 (grid0.coords t) _ _ _ _ (loc (dmix a x w b) t) _ _
      (d6 m c a x w b h0 h1 h2 h3 t g) (d8 m c a x w b h0 h1 h2 h3 t g) (blk6 m c x h1 t) (blk7 m c x h1 t) (View.whole cc0_scratch0)
      _ _ _ p _ (e 0 (by norm_num) _) (e 1 (by norm_num) _) (e 2 (by norm_num) _) k l
  · rw [outsAt0_D m c t g0 g (by omega) g (by omega)]
    frame_out
    exact rows10 (grid0.coords t) _ _ _ _ (loc (dmix a x w b) t) _ _
      (d7 m c a x w b h0 h1 h2 h3 t g) (d9 m c a x w b h0 h1 h2 h3 t g) (blk6 m c x h1 t) (blk7 m c x h1 t) (View.whole cc0_scratch0)
      _ _ _ p _ (e 0 (by norm_num) _) (e 1 (by norm_num) _) (e 2 (by norm_num) _) k l

/-- The third output block after the first block of a column. -/
theorem reset11 (g0 : t.val % 16 = 0) (k : Fin 1) (l : Fin 1408) :
    ((outsAt0 m c t.val t.isLt).2.2 (ix2 k l) : EReal)
      = ((0 + ∑ s : Fin 512, dmix a x w b (t.val % 16 * 512 + s) (t.val / 16 * 1408 + l) : ℝ) : EReal) := by
  have z : ∀ (l : Fin 1408), (k0_pay5 (F := Ideal) (ix2 0 l) : EReal) = (((fun _ => 0 : ℕ → ℝ) l : ℝ) : EReal) := by
    intro l; pointwise [k0_pay5]; simp
  obtain rfl : k = 0 := Subsingleton.elim _ _
  have f : ∑ s : Fin 512, dmix a x w b (t.val % 16 * 512 + s) (t.val / 16 * 1408 + l) = ∑ s : Fin 512, loc (dmix a x w b) t s l :=
    Finset.sum_congr rfl fun s _ => by unfold loc row; rw [if_pos s.isLt]
  rw [f]
  by_cases g : t.val < 32
  · rw [outsAt0_A m c t g0 g (by omega) g (by omega)]
    frame_out
    have eD := scr _ _ _ (d6 m c a x w b h0 h1 h2 h3 t g) (d8 m c a x w b h0 h1 h2 h3 t g) (View.whole cc0_scratch0) 0 512 inb_S528x1408_S512x1408_0_0 (by norm_num)
    simp only [zero_add] at eD
    exact (row3 _ _ (loc (dmix a x w b) t) (fun _ => 0) eD z l)
  · rw [outsAt0_C m c t g0 g (by omega) g (by omega)]
    frame_out
    have eD := scr _ _ _ (d7 m c a x w b h0 h1 h2 h3 t g) (d9 m c a x w b h0 h1 h2 h3 t g) (View.whole cc0_scratch0) 0 512 inb_S528x1408_S512x1408_0_0 (by norm_num)
    simp only [zero_add] at eD
    exact (row3 _ _ (loc (dmix a x w b) t) (fun _ => 0) eD z l)

/-- A later block adds its summand to what the point before left. -/
theorem step11 (g0 : ¬ t.val % 16 = 0) (p : ℕ → ℝ)
    (hp : ∀ (l : Fin 1408), ((outsAt0 m c (t.val - 1) (lt_of_le_of_lt (Nat.sub_le _ _) t.isLt)).2.2 (ix2 0 l) : EReal) = ((p l : ℝ) : EReal))
    (k : Fin 1) (l : Fin 1408) :
    ((outsAt0 m c t.val t.isLt).2.2 (ix2 k l) : EReal)
      = ((p l + ∑ s : Fin 512, dmix a x w b (t.val % 16 * 512 + s) (t.val / 16 * 1408 + l) : ℝ) : EReal) := by
  obtain rfl : k = 0 := Subsingleton.elim _ _
  have f : ∑ s : Fin 512, dmix a x w b (t.val % 16 * 512 + s) (t.val / 16 * 1408 + l) = ∑ s : Fin 512, loc (dmix a x w b) t s l :=
    Finset.sum_congr rfl fun s _ => by unfold loc row; rw [if_pos s.isLt]
  rw [f]
  by_cases g : t.val < 32
  · rw [outsAt0_B m c t g0 g (by omega) g (by omega)]
    frame_out
    have eD := scr _ _ _ (d6 m c a x w b h0 h1 h2 h3 t g) (d8 m c a x w b h0 h1 h2 h3 t g) (View.whole cc0_scratch0) 0 512 inb_S528x1408_S512x1408_0_0 (by norm_num)
    simp only [zero_add] at eD
    exact (row3 _ _ (loc (dmix a x w b) t) p eD hp l)
  · rw [outsAt0_D m c t g0 g (by omega) g (by omega)]
    frame_out
    have eD := scr _ _ _ (d7 m c a x w b h0 h1 h2 h3 t g) (d9 m c a x w b h0 h1 h2 h3 t g) (View.whole cc0_scratch0) 0 512 inb_S528x1408_S512x1408_0_0 (by norm_num)
    simp only [zero_add] at eD
    exact (row3 _ _ (loc (dmix a x w b) t) p eD hp l)

omit h0 h1 h2 h3 t in
/-- The rows of the blocks up to row block `q` are the rows before the next. -/
theorem sum_blocks (f : ℕ → ℝ) (q : ℕ) :
    ∑ s ∈ Finset.range ((q + 1) * 512), f s = ∑ s ∈ Finset.range (q * 512), f s + ∑ s : Fin 512, f (q * 512 + s) := by
  rw [add_mul, one_mul, Finset.sum_range_add, Finset.sum_range (n := 512)]

/-- What a point's second output block holds: the sums over the rows so far. -/
theorem out10 : ∀ (n : ℕ) (hn : n < cfg0.N) (k : Fin 3) (l : Fin 1408),
    ((outsAt0 m c n hn).2.1 (ix2 k l) : EReal)
      = ((∑ s ∈ Finset.range ((n % 16 + 1) * 512), dmix a x w b s (n / 16 * 1408 + l) * before x (s + k) (n / 16 * 1408 + l) : ℝ) : EReal) := by
  intro n
  induction n with
  | zero =>
    intro hn k l
    rw [reset10 m c a x w b h0 h1 h2 h3 ⟨0, hn⟩ rfl k l, sum_blocks]
    simp
  | succ n ih =>
    intro hn k l
    rw [sum_blocks]
    by_cases g0 : (n + 1) % 16 = 0
    · rw [reset10 m c a x w b h0 h1 h2 h3 ⟨n + 1, hn⟩ g0 k l, g0, zero_mul, Finset.sum_range_zero]
    · rw [step10 m c a x w b h0 h1 h2 h3 ⟨n + 1, hn⟩ g0
        (fun k l => ∑ s ∈ Finset.range ((n % 16 + 1) * 512), dmix a x w b s (n / 16 * 1408 + l) * before x (s + k) (n / 16 * 1408 + l))
        (fun k l => ih (by omega) k l) k l, show n % 16 + 1 = (n + 1) % 16 by omega, show n / 16 = (n + 1) / 16 by omega]

/-- What a point's third output block holds. -/
theorem out11 : ∀ (n : ℕ) (hn : n < cfg0.N) (k : Fin 1) (l : Fin 1408),
    ((outsAt0 m c n hn).2.2 (ix2 k l) : EReal)
      = ((∑ s ∈ Finset.range ((n % 16 + 1) * 512), dmix a x w b s (n / 16 * 1408 + l) : ℝ) : EReal) := by
  intro n
  induction n with
  | zero =>
    intro hn k l
    rw [reset11 m c a x w b h0 h1 h2 h3 ⟨0, hn⟩ rfl k l, sum_blocks]
    simp
  | succ n ih =>
    intro hn k l
    rw [sum_blocks]
    by_cases g0 : (n + 1) % 16 = 0
    · rw [reset11 m c a x w b h0 h1 h2 h3 ⟨n + 1, hn⟩ g0 k l, g0, zero_mul, Finset.sum_range_zero]
    · rw [step11 m c a x w b h0 h1 h2 h3 ⟨n + 1, hn⟩ g0
        (fun l => ∑ s ∈ Finset.range ((n % 16 + 1) * 512), dmix a x w b s (n / 16 * 1408 + l))
        (fun l => ih (by omega) 0 l) k l, show n % 16 + 1 = (n + 1) % 16 by omega, show n / 16 = (n + 1) / 16 by omega]

end

end Cert.KernelIdeal.Conv

end
-- ==== Proof.Final.lean ====
module

public import proofs.«01_k».proof.Proof.Outs

/-!
The three arrays the convolution's kernel returns.
-/

@[expose] public section

set_option maxRecDepth 16384

noncomputable section

namespace Cert.KernelIdeal.Conv

open Cert.KernelIdeal Cert.KernelIdeal.Gen Idealize.ShloMosaic Idealize.ShloMosaic.TcCoe Idealize.SL.Sem
open Idealize.ShloMosaic.Pipeline (Dat)
open Cert.Conv Cert.Rows

section
variable (m : (ℓ : Loc nD τ sig) → Buf (Elt Ideal) ℓ) (c : Dev nD) (a x w : ℕ → ℕ → ℝ) (b : ℕ → ℝ)
  (h0 : ∀ (r : Fin 8192) (l : Fin 2816), m ((c : Thread nD τ).loc main_arg0) (ix2 r l) = ((a r l : ℝ) : EReal))
  (h1 : ∀ (r : Fin 8192) (l : Fin 5632), m ((c : Thread nD τ).loc main_arg1) (ix2 r l) = ((x r l : ℝ) : EReal))
  (h2 : ∀ (r : Fin 3) (l : Fin 5632), m ((c : Thread nD τ).loc main_arg2) (ix2 r l) = ((w r l : ℝ) : EReal))
  (h3 : ∀ (l : Fin 5632), m ((c : Thread nD τ).loc main_arg3) (ix1 l) = ((b l : ℝ) : EReal))

include h0 h1 h2 h3

/-- The first result is the gradient with respect to the convolution's input. -/
theorem final9 : ((dats m 0 c).arrAt 9 cfg0.N : FVec Ideal S8192x5632 .bf16)
    = fun i => ((dIn (dmix a x w b) w (i 0).val (i 1).val : ℝ) : EReal) := by
  refine (dats m 0 c).arrAt_eq_of_covers 9 _ (by decide +kernel) fun t hf y => ?_
  blk_simp
  rw [after0_9]
  idx_vars y
  refine (out9 m c a x w b h0 h1 h2 h3 t y0 y1).trans ?_
  rw [(idx t).2.2.2.2.2.2.2.2.2.1]
  rfl

/-- The second result is the gradient with respect to the weights. -/
theorem final10 : ((dats m 0 c).arrAt 10 cfg0.N : FVec Ideal S3x5632 .f32)
    = fun i => ((dW (dmix a x w b) x (i 0).val (i 1).val : ℝ) : EReal) := by
  refine (dats m 0 c).arrAt_eq_of_covers 10 _ (by decide +kernel) fun t hf y => ?_
  blk_simp
  rw [after0_10]
  idx_vars y
  refine (out10 m c a x w b h0 h1 h2 h3 t.val t.isLt y0 y1).trans ?_
  have e : t.val % 16 = 15 := (flush0_10 t).mp hf
  rw [(idx t).2.2.2.2.2.2.2.2.2.2.1, e, Finset.sum_range]
  show ((dW (dmix a x w b) x y0 (t.val / 16 * 1408 + y1) : ℝ) : EReal) = ((dW (dmix a x w b) x (0 * 3 + y0) (t.val / 16 * 1408 + y1) : ℝ) : EReal)
  rw [zero_mul, zero_add]

/-- The third result is the gradient with respect to the bias. -/
theorem final11 : ((dats m 0 c).arrAt 11 cfg0.N : FVec Ideal S1x5632 .f32)
    = fun i => ((dB (dmix a x w b) (i 1).val : ℝ) : EReal) := by
  refine (dats m 0 c).arrAt_eq_of_covers 11 _ (by decide +kernel) fun t hf y => ?_
  blk_simp
  rw [after0_11]
  idx_vars y
  refine (out11 m c a x w b h0 h1 h2 h3 t.val t.isLt y0 y1).trans ?_
  have e : t.val % 16 = 15 := (flush0_11 t).mp hf
  rw [(idx t).2.2.2.2.2.2.2.2.2.2.2.1, e, Finset.sum_range]
  rfl
end

end Cert.KernelIdeal.Conv

end
-- ==== Proof.Finite.lean ====
module

public import proofs.«01_k».proof.Pre_finite
public import proofs.«01_k».proof.Proof.Gen.Pre_finite
public import proofs.«01_k».proof.Proof.Real
public import Idealize.ShloMosaic.Lib.ReduceAll
public import Idealize.ShloMosaic.Lib.Pipeline.ValueKit

/-!
What the precondition says: every entry of the four arrays is a real number.
-/

@[expose] public section

set_option maxRecDepth 16384

noncomputable section

namespace Cert.Pre_finite.Conv

open Cert.Pre_finite Idealize.ShloMosaic
open Cert.Conv

theorem entry_real (x : EReal) (h : FloatOps.cmpf (F := Ideal) .olt (φ := .f32) (max x (-x)) (Ideal.ofBits .f32 0x7F800000#32) = 1#1) :
    x = ((x.toReal : ℝ) : EReal) := by
  refine coe_toReal_of_abs_lt x ?_
  rw [ofBits_inf] at h
  by_contra g
  have e : FloatOps.cmpf (F := Ideal) .olt (φ := .f32) (max x (-x)) (⊤ : EReal) = 0#1 := by
    show Ideal.cmp .olt _ _ = _
    simp [Ideal.cmp, g]
  rw [e] at h
  exact absurd h (by decide)

variable [Facts]

theorem real (A : FVec Ideal S8192x2816 .bf16) (X : FVec Ideal S8192x5632 .bf16) (W : FVec Ideal S3x5632 .f32) (B : FVec Ideal S5632 .f32)
    (h : fn (F := Ideal) A X W B = fun _ => 1#1) :
    (∀ i, (A i : EReal) = ((A i : EReal).toReal : EReal)) ∧ (∀ i, (X i : EReal) = ((X i : EReal).toReal : EReal))
      ∧ (∀ i, (W i : EReal) = ((W i : EReal).toReal : EReal)) ∧ (∀ i, (B i : EReal) = ((B i : EReal).toReal : EReal)) := by
  haveI : Subsingleton S_.Idx := ⟨fun x y => funext fun a => Fin.elim0 a⟩
  have h' := congrFun h (fun a => Fin.elim0 a)
  unfold fn fn_part1 at h'
  dsimp only at h'
  obtain ⟨h123, h4⟩ := IntOp.andi_eq_one.1 h'
  obtain ⟨h12, h3⟩ := IntOp.andi_eq_one.1 h123
  obtain ⟨h1, h2⟩ := IntOp.andi_eq_one.1 h12
  exact ⟨fun i => entry_real _ (Host.reduce_andi_all _ _ _ _ _ h1 i), fun i => entry_real _ (Host.reduce_andi_all _ _ _ _ _ h2 i),
    fun i => entry_real _ (Host.reduce_andi_all _ _ _ _ _ h3 i), fun i => entry_real _ (Host.reduce_andi_all _ _ _ _ _ h4 i)⟩

end Cert.Pre_finite.Conv

end
-- ==== Proof.Ref.lean ====
module

public import proofs.«01_k».proof.Proof.Gen.ReferenceIdeal.Run
public import proofs.«01_k».proof.Proof.Real

@[expose] public section

set_option maxRecDepth 16384

noncomputable section

namespace Cert.ReferenceIdeal.Conv

open Cert.ReferenceIdeal Cert.ReferenceIdeal.Gen Cert.ReferenceIdeal.Value Idealize.ShloMosaic Idealize.ShloMosaic.TcCoe
open Cert.Conv

section
variable (V0 : Valuation τ sig (Elt Ideal)) (a x w : ℕ → ℕ → ℝ) (b : ℕ → ℝ)
  (h0 : ∀ (r : Fin 8192) (l : Fin 2816), V0 (Proc.devRef .tc main_arg0) (ix2 r l) = ((a r l : ℝ) : EReal))
  (h1 : ∀ (r : Fin 8192) (l : Fin 5632), V0 (Proc.devRef .tc main_arg1) (ix2 r l) = ((x r l : ℝ) : EReal))
  (h2 : ∀ (r : Fin 3) (l : Fin 5632), V0 (Proc.devRef .tc main_arg2) (ix2 r l) = ((w r l : ℝ) : EReal))
  (h3 : ∀ (l : Fin 5632), V0 (Proc.devRef .tc main_arg3) (ix1 l) = ((b l : ℝ) : EReal))

include h1 in
theorem v2 (r : Fin 8194) (l : Fin 5632) : (res_main_v2 V0 (ix2 r l) : EReal) = ((before x r l : ℝ) : EReal) := by
  unfold res_main_v2 before
  pointwise
  split <;> simp_all

include h1 h2 h3 in
theorem v26 (r : Fin 8192) (l : Fin 5632) : (res_main_v26 V0 (ix2 r l) : EReal) = ((mixed x w b r l : ℝ) : EReal) := by
  unfold res_main_v26 res_main_v6 res_main_v7 res_main_v12 res_main_v13 res_main_v19 res_main_v20 mixed
  pointwise
  simp only [v2 V0 x h1, h2, h3, ← EReal.coe_mul, ← EReal.coe_add, add_comm 1 (r : ℕ), add_comm 2 (r : ℕ)]
  rfl

include h1 h2 h3 in
theorem v40 (r : Fin 8192) (l : Fin 2816) : (res_main_v40 V0 (ix2 r l) : EReal)
    = ((Real.tanh (gc * (mixed x w b r (l + 2816) + gk * (mixed x w b r (l + 2816) * mixed x w b r (l + 2816) * mixed x w b r (l + 2816)))) : ℝ) : EReal) := by
  unfold res_main_v40 res_main_v28 res_main_v29
  pointwise
  have e : 2816 + l.val = l.val + 2816 := by omega
  simp only [v26 V0 x w b h1 h2 h3, ofBits_gc, div_gk,
    ← EReal.coe_mul, ← EReal.coe_add, Ideal.tanh_coe, e]

include h0 h1 h2 h3 in
theorem v67 (r : Fin 8192) (l : Fin 5632) : (res_main_v67 V0 (ix2 r l) : EReal) = ((dmix a x w b r l : ℝ) : EReal) := by
  unfold res_main_v67 res_main_v61 res_main_v54 res_main_v52 res_main_v50 res_main_v49 res_main_v28 res_main_v27 res_main_v29
  pointwise
  have e := v40 V0 x w b h1 h2 h3
  unfold dmix gelu gelu'
  split
  · rename_i hl
    simp only [if_pos hl, e, v26 V0 x w b h1 h2 h3, h0, ofBits_half, ← EReal.coe_one, ← EReal.coe_mul, ← EReal.coe_add,
      add_comm 2816 (l : ℕ)]
    refine congrArg _ ?_
    ring
  · rename_i hl
    have hl' : l.val - 2816 + 2816 = l.val := by omega
    have hl'' : 2816 + (l.val - 2816) = l.val := by omega
    simp only [if_neg hl, e, v26 V0 x w b h1 h2 h3, h0, ofBits_half, ofBits_gc, ofBits_three, div_gk, ← EReal.coe_one, ← EReal.coe_mul, ← EReal.coe_add, ← EReal.coe_sub,
      hl', hl'']
    refine congrArg _ ?_
    ring

include h0 h1 h2 h3 in
theorem v104 (r : Fin 8192) (l : Fin 5632) : (truncf .bf16 (extractStridedSlice S8192x5632 ![2, 0] (res_main_v98 V0) slices_S8194x5632_S8192x5632_2_0) bitsLt_bf16_f32 (ix2 r l) : EReal) = ((dIn (dmix a x w b) w r l : ℝ) : EReal) := by
  unfold res_main_v98 res_main_v7 res_main_v13 res_main_v20
  pointwise
  unfold dIn cut
  simp only [v67 V0 a x w b h0 h1 h2 h3, h2]
  by_cases e1 : r.val + 1 < 8192 <;> by_cases e2 : r.val + 2 < 8192 <;>
    simp [e1, e2, show 2 + r.val - 1 = r.val + 1 by omega, add_comm 2 r.val]

include h0 h1 h2 h3 in
theorem v101 (r : Fin 3) (l : Fin 5632) : (addf (addf (pad S3x5632 ![2, 0] ![0, 0] ![0, 0] (broadcastInDim S1x5632 ![1] bcast_S5632_S1x5632_1 (Host.reduceAdd (shapeCast _ (Host.reduceAdd (mulf (res_main_v67 V0) (res_main_v19 V0)) (constant S_ .f32 0x00000000#32) reducesTo_S8192x5632_S5632_d0 h_S_) shapeCasts_S5632_S1x5632) (constant S_ .f32 0x00000000#32) reducesTo_S1x5632_S5632_d0 h_S_)) (constant S_ .f32 0x00000000#32) pads_S1x5632_S3x5632_200_000 h_S_) (pad S3x5632 ![1, 0] ![1, 0] ![0, 0] (broadcastInDim S1x5632 ![1] bcast_S5632_S1x5632_1 (Host.reduceAdd (shapeCast _ (Host.reduceAdd (mulf (res_main_v67 V0) (res_main_v12 V0)) (constant S_ .f32 0x00000000#32) reducesTo_S8192x5632_S5632_d0 h_S_) shapeCasts_S5632_S1x5632) (constant S_ .f32 0x00000000#32) reducesTo_S1x5632_S5632_d0 h_S_)) (constant S_ .f32 0x00000000#32) pads_S1x5632_S3x5632_110_000 h_S_)) (pad S3x5632 ![0, 0] ![2, 0] ![0, 0] (broadcastInDim S1x5632 ![1] bcast_S5632_S1x5632_1 (Host.reduceAdd (shapeCast _ (Host.reduceAdd (mulf (res_main_v67 V0) (res_main_v6 V0)) (constant S_ .f32 0x00000000#32) reducesTo_S8192x5632_S5632_d0 h_S_) shapeCasts_S5632_S1x5632) (constant S_ .f32 0x00000000#32) reducesTo_S1x5632_S5632_d0 h_S_)) (constant S_ .f32 0x00000000#32) pads_S1x5632_S3x5632_020_000 h_S_) (ix2 r l) : EReal)
    = ((dW (dmix a x w b) x r l : ℝ) : EReal) := by
  unfold res_main_v6 res_main_v12 res_main_v19
  pointwise
  unfold dW
  simp only [v67 V0 a x w b h0 h1 h2 h3, v2 V0 x h1, ← EReal.coe_mul, coe_sum]
  fin_cases r <;> simp [add_comm]

include h0 h1 h2 h3 in
theorem v105 (r : Fin 1) (l : Fin 5632) : (shapeCast S1x5632 (Host.reduceAdd (shapeCast S1x5632 (Host.reduceAdd (res_main_v67 V0) (constant S_ .f32 0x00000000#32) reducesTo_S8192x5632_S5632_d0 h_S_) shapeCasts_S5632_S1x5632) (constant S_ .f32 0x00000000#32) reducesTo_S1x5632_S5632_d0 h_S_) shapeCasts_S5632_S1x5632 (ix2 r l) : EReal)
    = ((dB (dmix a x w b) l : ℝ) : EReal) := by
  pointwise
  unfold dB
  simp only [v67 V0 a x w b h0 h1 h2 h3, coe_sum]
  simp
end

end Cert.ReferenceIdeal.Conv

end
-- ==== Proof.ConvClaim.lean ====
module

public import proofs.«01_k».proof.Defs
public import proofs.«01_k».proof.Proof.Final
public import proofs.«01_k».proof.Proof.Finite
public import proofs.«01_k».proof.Proof.Ref
public import proofs.«01_k».proof.Proof.Gen.ReferenceIdeal
public import proofs.«01_k».proof.Proof.Gen.ReferenceIdeal.Run

/-!
The convolution's backward call: the kernel returns what the reference returns.
-/

@[expose] public section

set_option maxRecDepth 16384

noncomputable section

namespace Cert.Conv

open Idealize.ShloMosaic Idealize.ShloMosaic.TcCoe Idealize.SL.Sem

/-- A matrix of real numbers read at two natural numbers, zero outside. -/
def real2 {m n : ℕ} (X : (⟨2, ![m, n]⟩ : Shape).Idx → EReal) (r l : ℕ) : ℝ :=
  if h : r < m ∧ l < n then (X (ix2 ⟨r, h.1⟩ ⟨l, h.2⟩)).toReal else 0

/-- A row of real numbers read at a natural number, zero outside. -/
def real1 {n : ℕ} (X : (⟨1, ![n]⟩ : Shape).Idx → EReal) (l : ℕ) : ℝ := if h : l < n then (X (ix1 ⟨l, h⟩)).toReal else 0

theorem real2_eq {m n : ℕ} (X : (⟨2, ![m, n]⟩ : Shape).Idx → EReal) (h : ∀ i, X i = ((X i).toReal : EReal)) (r : Fin m) (l : Fin n) :
    X (ix2 r l) = ((real2 X r l : ℝ) : EReal) := by
  unfold real2
  rw [dif_pos ⟨r.isLt, l.isLt⟩]
  exact h _

theorem real1_eq {n : ℕ} (X : (⟨1, ![n]⟩ : Shape).Idx → EReal) (h : ∀ i, X i = ((X i).toReal : EReal)) (l : Fin n) :
    X (ix1 l) = ((real1 X l : ℝ) : EReal) := by
  unfold real1
  rw [dif_pos l.isLt]
  exact h _

/-- The kernel and the reference return the same three arrays. -/
theorem claim : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' hpre hag
  have hr := fun c => Cert.Pre_finite.Conv.real _ _ _ _ (hpre c)
  refine ⟨fun c => (Cert.KernelIdeal.Gen.dats m 0 c).arrAt 9 Cert.KernelIdeal.cfg0.N,
    fun c => (Cert.KernelIdeal.Gen.dats m 0 c).arrAt 10 Cert.KernelIdeal.cfg0.N,
    fun c => (Cert.KernelIdeal.Gen.dats m 0 c).arrAt 11 Cert.KernelIdeal.cfg0.N,
    (θ_run Cert.KernelIdeal.defs _ _).mono (fun r h c => ?_) (Cert.KernelIdeal.Value.run_blocks m ρ),
    (θ_run Cert.ReferenceIdeal.defs _ _).mono (fun r h c => ?_) (Cert.ReferenceIdeal.Value.run m' ρ')⟩
  · exact h c
  · obtain ⟨hA, hX, hW, hB⟩ := hr c
    obtain ⟨g0, g1, g2, g3⟩ := hag c
    obtain ⟨k1, k2, k3, k4⟩ := h c
    have e0 := real2_eq (m := 8192) (n := 2816) _ hA
    have e1 := real2_eq (m := 8192) (n := 5632) _ hX
    have e2 := real2_eq (m := 3) (n := 5632) _ hW
    have e3 := real1_eq (n := 5632) _ hB
    have f0 : ∀ r l, _ = _ := fun r l => (congrFun g0 (ix2 r l)).trans (e0 r l)
    have f1 : ∀ r l, _ = _ := fun r l => (congrFun g1 (ix2 r l)).trans (e1 r l)
    have f2 : ∀ r l, _ = _ := fun r l => (congrFun g2 (ix2 r l)).trans (e2 r l)
    have f3 : ∀ l, _ = _ := fun l => (congrFun g3 (ix1 l)).trans (e3 l)
    refine ⟨k1.trans ?_, k2.trans ?_, k3.trans ?_, k4⟩
    · refine Eq.trans ?_ (Cert.KernelIdeal.Conv.final9 m c _ _ _ _ e0 e1 e2 e3).symm
      funext i
      idx_vars i
      exact Cert.ReferenceIdeal.Conv.v104 (StableHlo.launchContents m' c) _ _ _ _ f0 f1 f2 f3 i0 i1
    · refine Eq.trans ?_ (Cert.KernelIdeal.Conv.final10 m c _ _ _ _ e0 e1 e2 e3).symm
      funext i
      idx_vars i
      exact Cert.ReferenceIdeal.Conv.v101 (StableHlo.launchContents m' c) _ _ _ _ f0 f1 f2 f3 i0 i1
    · refine Eq.trans ?_ (Cert.KernelIdeal.Conv.final11 m c _ _ _ _ e0 e1 e2 e3).symm
      funext i
      idx_vars i
      exact Cert.ReferenceIdeal.Conv.v105 (StableHlo.launchContents m' c) _ _ _ _ f0 f1 f2 f3 i0 i1

end Cert.Conv

end
-- ==== Proof.Sum.lean ====
module

public import Idealize.ShloMosaic.PureOps.Ideal
public import Idealize.ShloMosaic.Lib.Pipeline.ValueKit

/-!
Sums taken chunk by chunk, and arrays read at natural numbers.
-/

@[expose] public section

noncomputable section

namespace Cert.Sum

open Idealize.ShloMosaic

/-- The terms of the chunks up to chunk `q` are the terms before it and its own. -/
theorem chunk {M : Type} [AddCommMonoid M] (k : ℕ) (f : ℕ → M) (q : ℕ) :
    ∑ s ∈ Finset.range ((q + 1) * k), f s = ∑ s ∈ Finset.range (q * k), f s + ∑ s : Fin k, f (q * k + s) := by
  rw [add_mul, one_mul, Finset.sum_range_add, Finset.sum_range (n := k)]

/-- The terms of the first chunk. -/
theorem first {M : Type} [AddCommMonoid M] (k : ℕ) (f : ℕ → M) :
    ∑ s ∈ Finset.range ((0 + 1) * k), f s = ∑ s : Fin k, f (0 * k + s) := by
  rw [chunk, zero_mul, Finset.range_zero, Finset.sum_empty, zero_add]

/-- A matrix read at two natural numbers, zero outside. -/
def at2 {m n : ℕ} (X : (⟨2, ![m, n]⟩ : Shape).Idx → EReal) (r l : ℕ) : EReal :=
  if h : r < m ∧ l < n then X (ix2 ⟨r, h.1⟩ ⟨l, h.2⟩) else 0

theorem at2_eq {m n : ℕ} (X : (⟨2, ![m, n]⟩ : Shape).Idx → EReal) (r : Fin m) (l : Fin n) : X (ix2 r l) = at2 X r l := by
  unfold at2
  rw [dif_pos ⟨r.isLt, l.isLt⟩]

end Cert.Sum

end
-- ==== Proof.DDownValue.lean ====
module

public import proofs.«01_k».proof.Proof.Gen.DDownIdeal.Value
public import proofs.«01_k».proof.Proof.Sum
public import Idealize.ShloMosaic.Lib.Pipeline.ValueKit
public import Idealize.ShloMosaic.Lib.Claim

@[expose] public section

set_option maxRecDepth 16384

noncomputable section

namespace Cert.DDownIdeal.Prod

open Cert.DDownIdeal Cert.DDownIdeal.Gen Idealize.ShloMosaic Idealize.ShloMosaic.TcCoe Idealize.SL.Sem
open Idealize.ShloMosaic.Pipeline (Dat)
open Cert.Sum

/-- Which block of its array each window holds at each point of the grid. -/
theorem idx : ∀ t : Fin cfg0.N,
    win0_0.index t = ![t.val % 8, t.val / 8] ∧ win0_1.index t = ![t.val % 8, 0] ∧ win0_2.index t = ![t.val / 8, 0] :=
  (by decide +kernel : ∀ t : Fin grid0.N,
    win0_0.index t = ![t.val % 8, t.val / 8] ∧ win0_1.index t = ![t.val % 8, 0] ∧ win0_2.index t = ![t.val / 8, 0])

section
variable (m : (ℓ : Loc nD τ sig) → Buf (Elt Ideal) ℓ) (c : Dev nD) (x y : ℕ → ℕ → EReal)
  (h0 : ∀ (r : Fin 8192) (l : Fin 2816), m ((c : Thread nD τ).loc main_arg0) (ix2 r l) = x r l)
  (h1 : ∀ (r : Fin 8192) (l : Fin 1024), m ((c : Thread nD τ).loc main_arg1) (ix2 r l) = y r l)
  (t : Fin cfg0.N)

include h0 in
/-- The block of the first factor. -/
theorem blk0 (r : Fin 1024) (l : Fin 1408) :
    ((iblk m c 0 t : FVec Ideal S1024x1408 .bf16) (ix2 r l) : EReal) = x (t.val % 8 * 1024 + r) (t.val / 8 * 1408 + l) := by
  have hN : t.val < 16 := lt_of_lt_of_eq t.isLt N_0
  refine Eq.trans ?_ (h0 ⟨t.val % 8 * 1024 + r, by omega⟩ ⟨t.val / 8 * 1408 + l, by omega⟩)
  blk_ext [iblk, V, idx t]

include h1 in
/-- The block of the second factor. -/
theorem blk1 (r : Fin 1024) (l : Fin 1024) :
    ((iblk m c 1 t : FVec Ideal S1024x1024 .f32) (ix2 r l) : EReal) = y (t.val % 8 * 1024 + r) l := by
  have hN : t.val < 16 := lt_of_lt_of_eq t.isLt N_0
  refine Eq.trans ?_ (h1 ⟨t.val % 8 * 1024 + r, by omega⟩ l)
  blk_ext [iblk, V, idx t]

include h0 h1 in
/-- The product of the two blocks. -/
theorem part (k : Fin 1408) (l : Fin 1024) :
    (k0_pay1 (F := Ideal) (iblk m c 0 t) (iblk m c 1 t) (ix2 k l) : EReal)
      = ∑ s : Fin 1024, x (t.val % 8 * 1024 + s) (t.val / 8 * 1408 + k) * y (t.val % 8 * 1024 + s) l := by
  pointwise [k0_pay1]
  simp only [blk0 m c x h0 t, blk1 m c y h1 t]

include h0 h1 in
/-- The first chunk is stored. -/
theorem reset (g : t.val % 8 = 0) (k : Fin 1408) (l : Fin 1024) :
    ((outsAt0 m c t.val t.isLt).2 (ix2 k l) : EReal)
      = ∑ s : Fin 1024, x (t.val % 8 * 1024 + s) (t.val / 8 * 1408 + k) * y (t.val % 8 * 1024 + s) l := by
  rw [← part m c x y h0 h1 t k l, outsAt0_A m c t g (by omega) (by omega)]
  frame_out
  pointwise [k0_pay2]

include h0 h1 in
/-- A middle chunk is added. -/
theorem step (g : ¬ t.val % 8 = 0) (g' : ¬ t.val % 8 = 7) (k : Fin 1408) (l : Fin 1024) :
    ((outsAt0 m c t.val t.isLt).2 (ix2 k l) : EReal)
      = (outsAt0 m c (t.val - 1) (lt_of_le_of_lt (Nat.sub_le _ _) t.isLt)).2 (ix2 k l)
        + ∑ s : Fin 1024, x (t.val % 8 * 1024 + s) (t.val / 8 * 1408 + k) * y (t.val % 8 * 1024 + s) l := by
  rw [← part m c x y h0 h1 t k l, outsAt0_B m c t g (by omega) g']
  frame_out
  pointwise [k0_pay3]
  exact congrArg (· + _) (congrFun (Memref.IsWhole.read_unread (Val := Elt Ideal) (Memref.isWhole_whole cc0_scratch0) _) _)

include h0 h1 in
/-- The last chunk is added and the sum stored. -/
theorem last (g : t.val % 8 = 7) (k : Fin 1408) (l : Fin 1024) :
    ((outsAt0 m c t.val t.isLt).1 (ix2 k l) : EReal)
      = (outsAt0 m c (t.val - 1) (lt_of_le_of_lt (Nat.sub_le _ _) t.isLt)).2 (ix2 k l)
        + ∑ s : Fin 1024, x (t.val % 8 * 1024 + s) (t.val / 8 * 1408 + k) * y (t.val % 8 * 1024 + s) l := by
  rw [← part m c x y h0 h1 t k l, outsAt0_C m c t (by omega) (by omega) g]
  frame_out
  pointwise [k0_pay4]
  exact congrArg (· + _) (congrFun (Memref.IsWhole.read_unread (Val := Elt Ideal) (Memref.isWhole_whole cc0_scratch0) _) _)

include h0 h1 in
/-- What is carried between the points: the chunks so far. -/
theorem carried : ∀ (n : ℕ) (hn : n < cfg0.N) (_ : ¬ n % 8 = 7) (k : Fin 1408) (l : Fin 1024),
    ((outsAt0 m c n hn).2 (ix2 k l) : EReal)
      = ∑ s ∈ Finset.range ((n % 8 + 1) * 1024), x s (n / 8 * 1408 + k) * y s l := by
  intro n
  induction n with
  | zero =>
    intro hn _ k l
    refine (reset m c x y h0 h1 ⟨0, hn⟩ rfl k l).trans ?_
    exact (first 1024 (fun s => x s (0 / 8 * 1408 + k) * y s l)).symm
  | succ n ih =>
    intro hn g k l
    by_cases g0 : (n + 1) % 8 = 0
    · refine (reset m c x y h0 h1 ⟨n + 1, hn⟩ g0 k l).trans ?_
      simp only [g0]
      exact (first 1024 (fun s => x s ((n + 1) / 8 * 1408 + k) * y s l)).symm
    · refine (step m c x y h0 h1 ⟨n + 1, hn⟩ g0 g k l).trans ?_
      have e := ih (by omega) (by omega) k l
      simp only [Nat.add_sub_cancel]
      rw [e, chunk 1024 _ ((n + 1) % 8), show (n + 1) % 8 = n % 8 + 1 by omega, show (n + 1) / 8 = n / 8 by omega]

include h0 h1 in
/-- What the last point of a block stores: the whole sum. -/
theorem out (g : t.val % 8 = 7) (k : Fin 1408) (l : Fin 1024) :
    ((outsAt0 m c t.val t.isLt).1 (ix2 k l) : EReal)
      = ∑ s ∈ Finset.range 8192, x s (t.val / 8 * 1408 + k) * y s l := by
  have hN : t.val < 16 := lt_of_lt_of_eq t.isLt N_0
  rw [last m c x y h0 h1 t g k l, carried m c x y h0 h1 (t.val - 1) (lt_of_le_of_lt (Nat.sub_le _ _) t.isLt) (by omega) k l,
    show (t.val - 1) % 8 = 6 by omega, show (t.val - 1) / 8 = t.val / 8 by omega, g]
  exact (chunk 1024 (fun s => x s (t.val / 8 * 1408 + k) * y s l) 7).symm

include h0 h1 in
/-- The array the kernel returns is the product. -/
theorem final : ((dats m 0 c).arrAt 2 cfg0.N : FVec Ideal S2816x1024 .bf16)
    = fun i => ∑ s ∈ Finset.range 8192, x s (i 0).val * y s (i 1).val := by
  refine (dats m 0 c).arrAt_eq_of_covers 2 _ (by decide +kernel) fun t hf z => ?_
  blk_simp
  rw [after0_2]
  idx_vars z
  refine (out m c x y h0 h1 t ((flush0_2 t).mp hf) z0 z1).trans ?_
  rw [(idx t).2.2]
  simp
end

end Cert.DDownIdeal.Prod

end
-- ==== Proof.DDownClaim.lean ====
module

public import proofs.«01_k».proof.Defs
public import proofs.«01_k».proof.Proof.DDownValue
public import proofs.«01_k».proof.Proof.Gen.DDownRefIdeal
public import proofs.«01_k».proof.Proof.Gen.DDownRefIdeal.Run

/-!
The gradient with respect to the feed-forward block's second weights: the kernel returns what the reference returns.
-/

@[expose] public section

set_option maxRecDepth 16384

noncomputable section

namespace Cert.DDown

open Idealize.ShloMosaic Idealize.ShloMosaic.TcCoe Idealize.SL.Sem
open Cert.Sum

/-- The kernel and the reference return the same array. -/
theorem claim : Cert.algebraic_DDownIdeal_DDownRefIdeal (hDDownIdeal := Cert.DDownIdeal.Gen.facts) (hDDownRefIdeal := Cert.DDownRefIdeal.Gen.facts) := by
  intro m ρ m' ρ' _ hag
  refine ⟨fun c => (Cert.DDownIdeal.Gen.dats m 0 c).arrAt 2 Cert.DDownIdeal.cfg0.N,
    (θ_run Cert.DDownIdeal.defs _ _).mono (fun r h c => ?_) (Cert.DDownIdeal.Value.run_blocks m ρ),
    (θ_run Cert.DDownRefIdeal.defs _ _).mono (fun r h c => ?_) (Cert.DDownRefIdeal.Value.run m' ρ')⟩
  · exact h c
  · obtain ⟨g0, g1⟩ := hag c
    obtain ⟨k1, k2⟩ := h c
    refine ⟨k1.trans ?_, k2⟩
    refine Eq.trans ?_ (Cert.DDownIdeal.Prod.final m c _ _ (fun r l => at2_eq _ r l) (fun r l => at2_eq _ r l)).symm
    funext i
    idx_vars i
    pointwise
    rw [Finset.sum_range]
    refine Finset.sum_congr rfl fun s _ => ?_
    rw [mul_comm]
    exact congrArg₂ (· * ·) ((congrFun g0 (ix2 s i0)).trans (at2_eq _ s i0)) ((congrFun g1 (ix2 s i1)).trans (at2_eq _ s i1))

end Cert.DDown

end
-- ==== Proof.DGateValue.lean ====
module

public import proofs.«01_k».proof.Proof.Gen.DGateIdeal.Value
public import proofs.«01_k».proof.Proof.Sum
public import Idealize.ShloMosaic.Lib.Pipeline.ValueKit
public import Idealize.ShloMosaic.Lib.Claim

@[expose] public section

set_option maxRecDepth 16384

noncomputable section

namespace Cert.DGateIdeal.Prod

open Cert.DGateIdeal Cert.DGateIdeal.Gen Idealize.ShloMosaic Idealize.ShloMosaic.TcCoe Idealize.SL.Sem
open Idealize.ShloMosaic.Pipeline (Dat)
open Cert.Sum

/-- Which block of its array each window holds at each point of the grid. -/
theorem idx : ∀ t : Fin cfg0.N,
    win0_0.index t = ![t.val % 8, t.val / 8] ∧ win0_1.index t = ![t.val % 8, 0] ∧ win0_2.index t = ![t.val / 8, 0] :=
  (by decide +kernel : ∀ t : Fin grid0.N,
    win0_0.index t = ![t.val % 8, t.val / 8] ∧ win0_1.index t = ![t.val % 8, 0] ∧ win0_2.index t = ![t.val / 8, 0])

section
variable (m : (ℓ : Loc nD τ sig) → Buf (Elt Ideal) ℓ) (c : Dev nD) (x y : ℕ → ℕ → EReal)
  (h0 : ∀ (r : Fin 8192) (l : Fin 1024), m ((c : Thread nD τ).loc main_arg0) (ix2 r l) = x r l)
  (h1 : ∀ (r : Fin 8192) (l : Fin 1024), m ((c : Thread nD τ).loc main_arg1) (ix2 r l) = y r l)
  (t : Fin cfg0.N)

include h0 in
/-- The block of the first factor. -/
theorem blk0 (r : Fin 1024) (l : Fin 1024) :
    ((iblk m c 0 t : FVec Ideal S1024x1024 .bf16) (ix2 r l) : EReal) = x (t.val % 8 * 1024 + r) (t.val / 8 * 1024 + l) := by
  have hN : t.val < 8 := lt_of_lt_of_eq t.isLt N_0
  refine Eq.trans ?_ (h0 ⟨t.val % 8 * 1024 + r, by omega⟩ ⟨t.val / 8 * 1024 + l, by omega⟩)
  blk_ext [iblk, V, idx t]

include h1 in
/-- The block of the second factor. -/
theorem blk1 (r : Fin 1024) (l : Fin 1024) :
    ((iblk m c 1 t : FVec Ideal S1024x1024 .bf16) (ix2 r l) : EReal) = y (t.val % 8 * 1024 + r) l := by
  have hN : t.val < 8 := lt_of_lt_of_eq t.isLt N_0
  refine Eq.trans ?_ (h1 ⟨t.val % 8 * 1024 + r, by omega⟩ l)
  blk_ext [iblk, V, idx t]

include h0 h1 in
/-- The product of the two blocks. -/
theorem part (k : Fin 1024) (l : Fin 1024) :
    (k0_pay1 (F := Ideal) (iblk m c 0 t) (iblk m c 1 t) (ix2 k l) : EReal)
      = ∑ s : Fin 1024, x (t.val % 8 * 1024 + s) (t.val / 8 * 1024 + k) * y (t.val % 8 * 1024 + s) l := by
  pointwise [k0_pay1]
  simp only [blk0 m c x h0 t, blk1 m c y h1 t]

include h0 h1 in
/-- The first chunk is stored. -/
theorem reset (g : t.val % 8 = 0) (k : Fin 1024) (l : Fin 1024) :
    ((outsAt0 m c t.val t.isLt).2 (ix2 k l) : EReal)
      = ∑ s : Fin 1024, x (t.val % 8 * 1024 + s) (t.val / 8 * 1024 + k) * y (t.val % 8 * 1024 + s) l := by
  rw [← part m c x y h0 h1 t k l, outsAt0_A m c t g (by omega) (by omega)]
  frame_out
  pointwise [k0_pay2]

include h0 h1 in
/-- A middle chunk is added. -/
theorem step (g : ¬ t.val % 8 = 0) (g' : ¬ t.val % 8 = 7) (k : Fin 1024) (l : Fin 1024) :
    ((outsAt0 m c t.val t.isLt).2 (ix2 k l) : EReal)
      = (outsAt0 m c (t.val - 1) (lt_of_le_of_lt (Nat.sub_le _ _) t.isLt)).2 (ix2 k l)
        + ∑ s : Fin 1024, x (t.val % 8 * 1024 + s) (t.val / 8 * 1024 + k) * y (t.val % 8 * 1024 + s) l := by
  rw [← part m c x y h0 h1 t k l, outsAt0_B m c t g (by omega) g']
  frame_out
  pointwise [k0_pay3]
  exact congrArg (· + _) (congrFun (Memref.IsWhole.read_unread (Val := Elt Ideal) (Memref.isWhole_whole cc0_scratch0) _) _)

include h0 h1 in
/-- The last chunk is added and the sum stored. -/
theorem last (g : t.val % 8 = 7) (k : Fin 1024) (l : Fin 1024) :
    ((outsAt0 m c t.val t.isLt).1 (ix2 k l) : EReal)
      = (outsAt0 m c (t.val - 1) (lt_of_le_of_lt (Nat.sub_le _ _) t.isLt)).2 (ix2 k l)
        + ∑ s : Fin 1024, x (t.val % 8 * 1024 + s) (t.val / 8 * 1024 + k) * y (t.val % 8 * 1024 + s) l := by
  rw [← part m c x y h0 h1 t k l, outsAt0_C m c t (by omega) (by omega) g]
  frame_out
  pointwise [k0_pay4]
  exact congrArg (· + _) (congrFun (Memref.IsWhole.read_unread (Val := Elt Ideal) (Memref.isWhole_whole cc0_scratch0) _) _)

include h0 h1 in
/-- What is carried between the points: the chunks so far. -/
theorem carried : ∀ (n : ℕ) (hn : n < cfg0.N) (_ : ¬ n % 8 = 7) (k : Fin 1024) (l : Fin 1024),
    ((outsAt0 m c n hn).2 (ix2 k l) : EReal)
      = ∑ s ∈ Finset.range ((n % 8 + 1) * 1024), x s (n / 8 * 1024 + k) * y s l := by
  intro n
  induction n with
  | zero =>
    intro hn _ k l
    refine (reset m c x y h0 h1 ⟨0, hn⟩ rfl k l).trans ?_
    exact (first 1024 (fun s => x s (0 / 8 * 1024 + k) * y s l)).symm
  | succ n ih =>
    intro hn g k l
    by_cases g0 : (n + 1) % 8 = 0
    · refine (reset m c x y h0 h1 ⟨n + 1, hn⟩ g0 k l).trans ?_
      simp only [g0]
      exact (first 1024 (fun s => x s ((n + 1) / 8 * 1024 + k) * y s l)).symm
    · refine (step m c x y h0 h1 ⟨n + 1, hn⟩ g0 g k l).trans ?_
      have e := ih (by omega) (by omega) k l
      simp only [Nat.add_sub_cancel]
      rw [e, chunk 1024 _ ((n + 1) % 8), show (n + 1) % 8 = n % 8 + 1 by omega, show (n + 1) / 8 = n / 8 by omega]

include h0 h1 in
/-- What the last point of a block stores: the whole sum. -/
theorem out (g : t.val % 8 = 7) (k : Fin 1024) (l : Fin 1024) :
    ((outsAt0 m c t.val t.isLt).1 (ix2 k l) : EReal)
      = ∑ s ∈ Finset.range 8192, x s (t.val / 8 * 1024 + k) * y s l := by
  have hN : t.val < 8 := lt_of_lt_of_eq t.isLt N_0
  rw [last m c x y h0 h1 t g k l, carried m c x y h0 h1 (t.val - 1) (lt_of_le_of_lt (Nat.sub_le _ _) t.isLt) (by omega) k l,
    show (t.val - 1) % 8 = 6 by omega, show (t.val - 1) / 8 = t.val / 8 by omega, g]
  exact (chunk 1024 (fun s => x s (t.val / 8 * 1024 + k) * y s l) 7).symm

include h0 h1 in
/-- The array the kernel returns is the product. -/
theorem final : ((dats m 0 c).arrAt 2 cfg0.N : FVec Ideal S1024x1024 .bf16)
    = fun i => ∑ s ∈ Finset.range 8192, x s (i 0).val * y s (i 1).val := by
  refine (dats m 0 c).arrAt_eq_of_covers 2 _ (by decide +kernel) fun t hf z => ?_
  blk_simp
  rw [after0_2]
  idx_vars z
  refine (out m c x y h0 h1 t ((flush0_2 t).mp hf) z0 z1).trans ?_
  rw [(idx t).2.2]
  simp
end

end Cert.DGateIdeal.Prod

end
-- ==== Proof.DGateClaim.lean ====
module

public import proofs.«01_k».proof.Defs
public import proofs.«01_k».proof.Proof.DGateValue
public import proofs.«01_k».proof.Proof.Gen.DGateRefIdeal
public import proofs.«01_k».proof.Proof.Gen.DGateRefIdeal.Run

/-!
The gradient with respect to the weights of the layer input's gate: the kernel returns what the reference returns.
-/

@[expose] public section

set_option maxRecDepth 16384

noncomputable section

namespace Cert.DGate

open Idealize.ShloMosaic Idealize.ShloMosaic.TcCoe Idealize.SL.Sem
open Cert.Sum

/-- The kernel and the reference return the same array. -/
theorem claim : Cert.algebraic_DGateIdeal_DGateRefIdeal (hDGateIdeal := Cert.DGateIdeal.Gen.facts) (hDGateRefIdeal := Cert.DGateRefIdeal.Gen.facts) := by
  intro m ρ m' ρ' _ hag
  refine ⟨fun c => (Cert.DGateIdeal.Gen.dats m 0 c).arrAt 2 Cert.DGateIdeal.cfg0.N,
    (θ_run Cert.DGateIdeal.defs _ _).mono (fun r h c => ?_) (Cert.DGateIdeal.Value.run_blocks m ρ),
    (θ_run Cert.DGateRefIdeal.defs _ _).mono (fun r h c => ?_) (Cert.DGateRefIdeal.Value.run m' ρ')⟩
  · exact h c
  · obtain ⟨g0, g1⟩ := hag c
    obtain ⟨k1, k2⟩ := h c
    refine ⟨k1.trans ?_, k2⟩
    refine Eq.trans ?_ (Cert.DGateIdeal.Prod.final m c _ _ (fun r l => at2_eq _ r l) (fun r l => at2_eq _ r l)).symm
    funext i
    idx_vars i
    pointwise
    rw [Finset.sum_range]
    refine Finset.sum_congr rfl fun s _ => ?_
    rw [mul_comm]
    exact congrArg₂ (· * ·) ((congrFun g0 (ix2 s i0)).trans (at2_eq _ s i0)) ((congrFun g1 (ix2 s i1)).trans (at2_eq _ s i1))

end Cert.DGate

end
-- ==== Proof.DGluValue.lean ====
module

public import proofs.«01_k».proof.Proof.Gen.DGluIdeal.Value
public import proofs.«01_k».proof.Proof.Sum
public import Idealize.ShloMosaic.Lib.Pipeline.ValueKit
public import Idealize.ShloMosaic.Lib.Claim

@[expose] public section

set_option maxRecDepth 16384

noncomputable section

namespace Cert.DGluIdeal.Prod

open Cert.DGluIdeal Cert.DGluIdeal.Gen Idealize.ShloMosaic Idealize.ShloMosaic.TcCoe Idealize.SL.Sem
open Idealize.ShloMosaic.Pipeline (Dat)
open Cert.Sum

/-- Which block of its array each window holds at each point of the grid. -/
theorem idx : ∀ t : Fin cfg0.N,
    win0_0.index t = ![t.val % 8, t.val / 8] ∧ win0_1.index t = ![t.val % 8, 0] ∧ win0_2.index t = ![t.val / 8, 0] :=
  (by decide +kernel : ∀ t : Fin grid0.N,
    win0_0.index t = ![t.val % 8, t.val / 8] ∧ win0_1.index t = ![t.val % 8, 0] ∧ win0_2.index t = ![t.val / 8, 0])

section
variable (m : (ℓ : Loc nD τ sig) → Buf (Elt Ideal) ℓ) (c : Dev nD) (x y : ℕ → ℕ → EReal)
  (h0 : ∀ (r : Fin 8192) (l : Fin 256), m ((c : Thread nD τ).loc main_arg0) (ix2 r l) = x r l)
  (h1 : ∀ (r : Fin 8192) (l : Fin 256), m ((c : Thread nD τ).loc main_arg1) (ix2 r l) = y r l)
  (t : Fin cfg0.N)

include h0 in
/-- The block of the first factor. -/
theorem blk0 (r : Fin 1024) (l : Fin 256) :
    ((iblk m c 0 t : FVec Ideal S1024x256 .bf16) (ix2 r l) : EReal) = x (t.val % 8 * 1024 + r) (t.val / 8 * 256 + l) := by
  have hN : t.val < 8 := lt_of_lt_of_eq t.isLt N_0
  refine Eq.trans ?_ (h0 ⟨t.val % 8 * 1024 + r, by omega⟩ ⟨t.val / 8 * 256 + l, by omega⟩)
  blk_ext [iblk, V, idx t]

include h1 in
/-- The block of the second factor. -/
theorem blk1 (r : Fin 1024) (l : Fin 256) :
    ((iblk m c 1 t : FVec Ideal S1024x256 .bf16) (ix2 r l) : EReal) = y (t.val % 8 * 1024 + r) l := by
  have hN : t.val < 8 := lt_of_lt_of_eq t.isLt N_0
  refine Eq.trans ?_ (h1 ⟨t.val % 8 * 1024 + r, by omega⟩ l)
  blk_ext [iblk, V, idx t]

include h0 h1 in
/-- The product of the two blocks. -/
theorem part (k : Fin 256) (l : Fin 256) :
    (k0_pay1 (F := Ideal) (iblk m c 0 t) (iblk m c 1 t) (ix2 k l) : EReal)
      = ∑ s : Fin 1024, x (t.val % 8 * 1024 + s) (t.val / 8 * 256 + k) * y (t.val % 8 * 1024 + s) l := by
  pointwise [k0_pay1]
  simp only [blk0 m c x h0 t, blk1 m c y h1 t]

include h0 h1 in
/-- The first chunk is stored. -/
theorem reset (g : t.val % 8 = 0) (k : Fin 256) (l : Fin 256) :
    ((outsAt0 m c t.val t.isLt).2 (ix2 k l) : EReal)
      = ∑ s : Fin 1024, x (t.val % 8 * 1024 + s) (t.val / 8 * 256 + k) * y (t.val % 8 * 1024 + s) l := by
  rw [← part m c x y h0 h1 t k l, outsAt0_A m c t g (by omega) (by omega)]
  frame_out
  pointwise [k0_pay2]

include h0 h1 in
/-- A middle chunk is added. -/
theorem step (g : ¬ t.val % 8 = 0) (g' : ¬ t.val % 8 = 7) (k : Fin 256) (l : Fin 256) :
    ((outsAt0 m c t.val t.isLt).2 (ix2 k l) : EReal)
      = (outsAt0 m c (t.val - 1) (lt_of_le_of_lt (Nat.sub_le _ _) t.isLt)).2 (ix2 k l)
        + ∑ s : Fin 1024, x (t.val % 8 * 1024 + s) (t.val / 8 * 256 + k) * y (t.val % 8 * 1024 + s) l := by
  rw [← part m c x y h0 h1 t k l, outsAt0_B m c t g (by omega) g']
  frame_out
  pointwise [k0_pay3]
  exact congrArg (· + _) (congrFun (Memref.IsWhole.read_unread (Val := Elt Ideal) (Memref.isWhole_whole cc0_scratch0) _) _)

include h0 h1 in
/-- The last chunk is added and the sum stored. -/
theorem last (g : t.val % 8 = 7) (k : Fin 256) (l : Fin 256) :
    ((outsAt0 m c t.val t.isLt).1 (ix2 k l) : EReal)
      = (outsAt0 m c (t.val - 1) (lt_of_le_of_lt (Nat.sub_le _ _) t.isLt)).2 (ix2 k l)
        + ∑ s : Fin 1024, x (t.val % 8 * 1024 + s) (t.val / 8 * 256 + k) * y (t.val % 8 * 1024 + s) l := by
  rw [← part m c x y h0 h1 t k l, outsAt0_C m c t (by omega) (by omega) g]
  frame_out
  pointwise [k0_pay4]
  exact congrArg (· + _) (congrFun (Memref.IsWhole.read_unread (Val := Elt Ideal) (Memref.isWhole_whole cc0_scratch0) _) _)

include h0 h1 in
/-- What is carried between the points: the chunks so far. -/
theorem carried : ∀ (n : ℕ) (hn : n < cfg0.N) (_ : ¬ n % 8 = 7) (k : Fin 256) (l : Fin 256),
    ((outsAt0 m c n hn).2 (ix2 k l) : EReal)
      = ∑ s ∈ Finset.range ((n % 8 + 1) * 1024), x s (n / 8 * 256 + k) * y s l := by
  intro n
  induction n with
  | zero =>
    intro hn _ k l
    refine (reset m c x y h0 h1 ⟨0, hn⟩ rfl k l).trans ?_
    exact (first 1024 (fun s => x s (0 / 8 * 256 + k) * y s l)).symm
  | succ n ih =>
    intro hn g k l
    by_cases g0 : (n + 1) % 8 = 0
    · refine (reset m c x y h0 h1 ⟨n + 1, hn⟩ g0 k l).trans ?_
      simp only [g0]
      exact (first 1024 (fun s => x s ((n + 1) / 8 * 256 + k) * y s l)).symm
    · refine (step m c x y h0 h1 ⟨n + 1, hn⟩ g0 g k l).trans ?_
      have e := ih (by omega) (by omega) k l
      simp only [Nat.add_sub_cancel]
      rw [e, chunk 1024 _ ((n + 1) % 8), show (n + 1) % 8 = n % 8 + 1 by omega, show (n + 1) / 8 = n / 8 by omega]

include h0 h1 in
/-- What the last point of a block stores: the whole sum. -/
theorem out (g : t.val % 8 = 7) (k : Fin 256) (l : Fin 256) :
    ((outsAt0 m c t.val t.isLt).1 (ix2 k l) : EReal)
      = ∑ s ∈ Finset.range 8192, x s (t.val / 8 * 256 + k) * y s l := by
  have hN : t.val < 8 := lt_of_lt_of_eq t.isLt N_0
  rw [last m c x y h0 h1 t g k l, carried m c x y h0 h1 (t.val - 1) (lt_of_le_of_lt (Nat.sub_le _ _) t.isLt) (by omega) k l,
    show (t.val - 1) % 8 = 6 by omega, show (t.val - 1) / 8 = t.val / 8 by omega, g]
  exact (chunk 1024 (fun s => x s (t.val / 8 * 256 + k) * y s l) 7).symm

include h0 h1 in
/-- The array the kernel returns is the product. -/
theorem final : ((dats m 0 c).arrAt 2 cfg0.N : FVec Ideal S256x256 .bf16)
    = fun i => ∑ s ∈ Finset.range 8192, x s (i 0).val * y s (i 1).val := by
  refine (dats m 0 c).arrAt_eq_of_covers 2 _ (by decide +kernel) fun t hf z => ?_
  blk_simp
  rw [after0_2]
  idx_vars z
  refine (out m c x y h0 h1 t ((flush0_2 t).mp hf) z0 z1).trans ?_
  rw [(idx t).2.2]
  simp
end

end Cert.DGluIdeal.Prod

end
-- ==== Proof.DGluClaim.lean ====
module

public import proofs.«01_k».proof.Defs
public import proofs.«01_k».proof.Proof.DGluValue
public import proofs.«01_k».proof.Proof.Gen.DGluRefIdeal
public import proofs.«01_k».proof.Proof.Gen.DGluRefIdeal.Run

/-!
The gradient with respect to the state-space branch's gate weights: the kernel returns what the reference returns.
-/

@[expose] public section

set_option maxRecDepth 16384

noncomputable section

namespace Cert.DGlu

open Idealize.ShloMosaic Idealize.ShloMosaic.TcCoe Idealize.SL.Sem
open Cert.Sum

/-- The kernel and the reference return the same array. -/
theorem claim : Cert.algebraic_DGluIdeal_DGluRefIdeal (hDGluIdeal := Cert.DGluIdeal.Gen.facts) (hDGluRefIdeal := Cert.DGluRefIdeal.Gen.facts) := by
  intro m ρ m' ρ' _ hag
  refine ⟨fun c => (Cert.DGluIdeal.Gen.dats m 0 c).arrAt 2 Cert.DGluIdeal.cfg0.N,
    (θ_run Cert.DGluIdeal.defs _ _).mono (fun r h c => ?_) (Cert.DGluIdeal.Value.run_blocks m ρ),
    (θ_run Cert.DGluRefIdeal.defs _ _).mono (fun r h c => ?_) (Cert.DGluRefIdeal.Value.run m' ρ')⟩
  · exact h c
  · obtain ⟨g0, g1⟩ := hag c
    obtain ⟨k1, k2⟩ := h c
    refine ⟨k1.trans ?_, k2⟩
    refine Eq.trans ?_ (Cert.DGluIdeal.Prod.final m c _ _ (fun r l => at2_eq _ r l) (fun r l => at2_eq _ r l)).symm
    funext i
    idx_vars i
    pointwise
    rw [Finset.sum_range]
    refine Finset.sum_congr rfl fun s _ => ?_
    rw [mul_comm]
    exact congrArg₂ (· * ·) ((congrFun g0 (ix2 s i0)).trans (at2_eq _ s i0)) ((congrFun g1 (ix2 s i1)).trans (at2_eq _ s i1))

end Cert.DGlu

end
-- ==== Proof.DInValue.lean ====
module

public import proofs.«01_k».proof.Proof.Gen.DInIdeal.Value
public import proofs.«01_k».proof.Proof.Sum
public import Idealize.ShloMosaic.Lib.Pipeline.ValueKit
public import Idealize.ShloMosaic.Lib.Claim

@[expose] public section

set_option maxRecDepth 16384

noncomputable section

namespace Cert.DInIdeal.Prod

open Cert.DInIdeal Cert.DInIdeal.Gen Idealize.ShloMosaic Idealize.ShloMosaic.TcCoe Idealize.SL.Sem
open Idealize.ShloMosaic.Pipeline (Dat)
open Cert.Sum

/-- Which block of its array each window holds at each point of the grid. -/
theorem idx : ∀ t : Fin cfg0.N,
    win0_0.index t = ![t.val % 8, t.val / 8] ∧ win0_1.index t = ![t.val % 8, 0] ∧ win0_2.index t = ![t.val / 8, 0] :=
  (by decide +kernel : ∀ t : Fin grid0.N,
    win0_0.index t = ![t.val % 8, t.val / 8] ∧ win0_1.index t = ![t.val % 8, 0] ∧ win0_2.index t = ![t.val / 8, 0])

section
variable (m : (ℓ : Loc nD τ sig) → Buf (Elt Ideal) ℓ) (c : Dev nD) (x y : ℕ → ℕ → EReal)
  (h0 : ∀ (r : Fin 8192) (l : Fin 2304), m ((c : Thread nD τ).loc main_arg0) (ix2 r l) = x r l)
  (h1 : ∀ (r : Fin 8192) (l : Fin 1024), m ((c : Thread nD τ).loc main_arg1) (ix2 r l) = y r l)
  (t : Fin cfg0.N)

include h0 in
/-- The block of the first factor. -/
theorem blk0 (r : Fin 1024) (l : Fin 1152) :
    ((iblk m c 0 t : FVec Ideal S1024x1152 .bf16) (ix2 r l) : EReal) = x (t.val % 8 * 1024 + r) (t.val / 8 * 1152 + l) := by
  have hN : t.val < 16 := lt_of_lt_of_eq t.isLt N_0
  refine Eq.trans ?_ (h0 ⟨t.val % 8 * 1024 + r, by omega⟩ ⟨t.val / 8 * 1152 + l, by omega⟩)
  blk_ext [iblk, V, idx t]

include h1 in
/-- The block of the second factor. -/
theorem blk1 (r : Fin 1024) (l : Fin 1024) :
    ((iblk m c 1 t : FVec Ideal S1024x1024 .bf16) (ix2 r l) : EReal) = y (t.val % 8 * 1024 + r) l := by
  have hN : t.val < 16 := lt_of_lt_of_eq t.isLt N_0
  refine Eq.trans ?_ (h1 ⟨t.val % 8 * 1024 + r, by omega⟩ l)
  blk_ext [iblk, V, idx t]

include h0 h1 in
/-- The product of the two blocks. -/
theorem part (k : Fin 1152) (l : Fin 1024) :
    (k0_pay1 (F := Ideal) (iblk m c 0 t) (iblk m c 1 t) (ix2 k l) : EReal)
      = ∑ s : Fin 1024, x (t.val % 8 * 1024 + s) (t.val / 8 * 1152 + k) * y (t.val % 8 * 1024 + s) l := by
  pointwise [k0_pay1]
  simp only [blk0 m c x h0 t, blk1 m c y h1 t]

include h0 h1 in
/-- The first chunk is stored. -/
theorem reset (g : t.val % 8 = 0) (k : Fin 1152) (l : Fin 1024) :
    ((outsAt0 m c t.val t.isLt).2 (ix2 k l) : EReal)
      = ∑ s : Fin 1024, x (t.val % 8 * 1024 + s) (t.val / 8 * 1152 + k) * y (t.val % 8 * 1024 + s) l := by
  rw [← part m c x y h0 h1 t k l, outsAt0_A m c t g (by omega) (by omega)]
  frame_out
  pointwise [k0_pay2]

include h0 h1 in
/-- A middle chunk is added. -/
theorem step (g : ¬ t.val % 8 = 0) (g' : ¬ t.val % 8 = 7) (k : Fin 1152) (l : Fin 1024) :
    ((outsAt0 m c t.val t.isLt).2 (ix2 k l) : EReal)
      = (outsAt0 m c (t.val - 1) (lt_of_le_of_lt (Nat.sub_le _ _) t.isLt)).2 (ix2 k l)
        + ∑ s : Fin 1024, x (t.val % 8 * 1024 + s) (t.val / 8 * 1152 + k) * y (t.val % 8 * 1024 + s) l := by
  rw [← part m c x y h0 h1 t k l, outsAt0_B m c t g (by omega) g']
  frame_out
  pointwise [k0_pay3]
  exact congrArg (· + _) (congrFun (Memref.IsWhole.read_unread (Val := Elt Ideal) (Memref.isWhole_whole cc0_scratch0) _) _)

include h0 h1 in
/-- The last chunk is added and the sum stored. -/
theorem last (g : t.val % 8 = 7) (k : Fin 1152) (l : Fin 1024) :
    ((outsAt0 m c t.val t.isLt).1 (ix2 k l) : EReal)
      = (outsAt0 m c (t.val - 1) (lt_of_le_of_lt (Nat.sub_le _ _) t.isLt)).2 (ix2 k l)
        + ∑ s : Fin 1024, x (t.val % 8 * 1024 + s) (t.val / 8 * 1152 + k) * y (t.val % 8 * 1024 + s) l := by
  rw [← part m c x y h0 h1 t k l, outsAt0_C m c t (by omega) (by omega) g]
  frame_out
  pointwise [k0_pay4]
  exact congrArg (· + _) (congrFun (Memref.IsWhole.read_unread (Val := Elt Ideal) (Memref.isWhole_whole cc0_scratch0) _) _)

include h0 h1 in
/-- What is carried between the points: the chunks so far. -/
theorem carried : ∀ (n : ℕ) (hn : n < cfg0.N) (_ : ¬ n % 8 = 7) (k : Fin 1152) (l : Fin 1024),
    ((outsAt0 m c n hn).2 (ix2 k l) : EReal)
      = ∑ s ∈ Finset.range ((n % 8 + 1) * 1024), x s (n / 8 * 1152 + k) * y s l := by
  intro n
  induction n with
  | zero =>
    intro hn _ k l
    refine (reset m c x y h0 h1 ⟨0, hn⟩ rfl k l).trans ?_
    exact (first 1024 (fun s => x s (0 / 8 * 1152 + k) * y s l)).symm
  | succ n ih =>
    intro hn g k l
    by_cases g0 : (n + 1) % 8 = 0
    · refine (reset m c x y h0 h1 ⟨n + 1, hn⟩ g0 k l).trans ?_
      simp only [g0]
      exact (first 1024 (fun s => x s ((n + 1) / 8 * 1152 + k) * y s l)).symm
    · refine (step m c x y h0 h1 ⟨n + 1, hn⟩ g0 g k l).trans ?_
      have e := ih (by omega) (by omega) k l
      simp only [Nat.add_sub_cancel]
      rw [e, chunk 1024 _ ((n + 1) % 8), show (n + 1) % 8 = n % 8 + 1 by omega, show (n + 1) / 8 = n / 8 by omega]

include h0 h1 in
/-- What the last point of a block stores: the whole sum. -/
theorem out (g : t.val % 8 = 7) (k : Fin 1152) (l : Fin 1024) :
    ((outsAt0 m c t.val t.isLt).1 (ix2 k l) : EReal)
      = ∑ s ∈ Finset.range 8192, x s (t.val / 8 * 1152 + k) * y s l := by
  have hN : t.val < 16 := lt_of_lt_of_eq t.isLt N_0
  rw [last m c x y h0 h1 t g k l, carried m c x y h0 h1 (t.val - 1) (lt_of_le_of_lt (Nat.sub_le _ _) t.isLt) (by omega) k l,
    show (t.val - 1) % 8 = 6 by omega, show (t.val - 1) / 8 = t.val / 8 by omega, g]
  exact (chunk 1024 (fun s => x s (t.val / 8 * 1152 + k) * y s l) 7).symm

include h0 h1 in
/-- The array the kernel returns is the product. -/
theorem final : ((dats m 0 c).arrAt 2 cfg0.N : FVec Ideal S2304x1024 .bf16)
    = fun i => ∑ s ∈ Finset.range 8192, x s (i 0).val * y s (i 1).val := by
  refine (dats m 0 c).arrAt_eq_of_covers 2 _ (by decide +kernel) fun t hf z => ?_
  blk_simp
  rw [after0_2]
  idx_vars z
  refine (out m c x y h0 h1 t ((flush0_2 t).mp hf) z0 z1).trans ?_
  rw [(idx t).2.2]
  simp
end

end Cert.DInIdeal.Prod

end
-- ==== Proof.DInClaim.lean ====
module

public import proofs.«01_k».proof.Defs
public import proofs.«01_k».proof.Proof.DInValue
public import proofs.«01_k».proof.Proof.Gen.DInRefIdeal
public import proofs.«01_k».proof.Proof.Gen.DInRefIdeal.Run

/-!
The gradient with respect to the input projection's weights: the kernel returns what the reference returns.
-/

@[expose] public section

set_option maxRecDepth 16384

noncomputable section

namespace Cert.DIn

open Idealize.ShloMosaic Idealize.ShloMosaic.TcCoe Idealize.SL.Sem
open Cert.Sum

/-- The kernel and the reference return the same array. -/
theorem claim : Cert.algebraic_DInIdeal_DInRefIdeal (hDInIdeal := Cert.DInIdeal.Gen.facts) (hDInRefIdeal := Cert.DInRefIdeal.Gen.facts) := by
  intro m ρ m' ρ' _ hag
  refine ⟨fun c => (Cert.DInIdeal.Gen.dats m 0 c).arrAt 2 Cert.DInIdeal.cfg0.N,
    (θ_run Cert.DInIdeal.defs _ _).mono (fun r h c => ?_) (Cert.DInIdeal.Value.run_blocks m ρ),
    (θ_run Cert.DInRefIdeal.defs _ _).mono (fun r h c => ?_) (Cert.DInRefIdeal.Value.run m' ρ')⟩
  · exact h c
  · obtain ⟨g0, g1⟩ := hag c
    obtain ⟨k1, k2⟩ := h c
    refine ⟨k1.trans ?_, k2⟩
    refine Eq.trans ?_ (Cert.DInIdeal.Prod.final m c _ _ (fun r l => at2_eq _ r l) (fun r l => at2_eq _ r l)).symm
    funext i
    idx_vars i
    pointwise
    rw [Finset.sum_range]
    refine Finset.sum_congr rfl fun s _ => ?_
    exact congrArg₂ (· * ·) ((congrFun g0 (ix2 s i0)).trans (at2_eq _ s i0)) ((congrFun g1 (ix2 s i1)).trans (at2_eq _ s i1))

end Cert.DIn

end
-- ==== Proof.DOutValue.lean ====
module

public import proofs.«01_k».proof.Proof.Gen.DOutIdeal.Value
public import proofs.«01_k».proof.Proof.Sum
public import Idealize.ShloMosaic.Lib.Pipeline.ValueKit
public import Idealize.ShloMosaic.Lib.Claim

@[expose] public section

set_option maxRecDepth 16384

noncomputable section

namespace Cert.DOutIdeal.Prod

open Cert.DOutIdeal Cert.DOutIdeal.Gen Idealize.ShloMosaic Idealize.ShloMosaic.TcCoe Idealize.SL.Sem
open Idealize.ShloMosaic.Pipeline (Dat)
open Cert.Sum

/-- Which block of its array each window holds at each point of the grid. -/
theorem idx : ∀ t : Fin cfg0.N,
    win0_0.index t = ![t.val % 8, t.val / 8] ∧ win0_1.index t = ![t.val % 8, 0] ∧ win0_2.index t = ![t.val / 8, 0] :=
  (by decide +kernel : ∀ t : Fin grid0.N,
    win0_0.index t = ![t.val % 8, t.val / 8] ∧ win0_1.index t = ![t.val % 8, 0] ∧ win0_2.index t = ![t.val / 8, 0])

section
variable (m : (ℓ : Loc nD τ sig) → Buf (Elt Ideal) ℓ) (c : Dev nD) (x y : ℕ → ℕ → EReal)
  (h0 : ∀ (r : Fin 8192) (l : Fin 1024), m ((c : Thread nD τ).loc main_arg0) (ix2 r l) = x r l)
  (h1 : ∀ (r : Fin 8192) (l : Fin 1024), m ((c : Thread nD τ).loc main_arg1) (ix2 r l) = y r l)
  (t : Fin cfg0.N)

include h0 in
/-- The block of the first factor. -/
theorem blk0 (r : Fin 1024) (l : Fin 1024) :
    ((iblk m c 0 t : FVec Ideal S1024x1024 .bf16) (ix2 r l) : EReal) = x (t.val % 8 * 1024 + r) (t.val / 8 * 1024 + l) := by
  have hN : t.val < 8 := lt_of_lt_of_eq t.isLt N_0
  refine Eq.trans ?_ (h0 ⟨t.val % 8 * 1024 + r, by omega⟩ ⟨t.val / 8 * 1024 + l, by omega⟩)
  blk_ext [iblk, V, idx t]

include h1 in
/-- The block of the second factor. -/
theorem blk1 (r : Fin 1024) (l : Fin 1024) :
    ((iblk m c 1 t : FVec Ideal S1024x1024 .f32) (ix2 r l) : EReal) = y (t.val % 8 * 1024 + r) l := by
  have hN : t.val < 8 := lt_of_lt_of_eq t.isLt N_0
  refine Eq.trans ?_ (h1 ⟨t.val % 8 * 1024 + r, by omega⟩ l)
  blk_ext [iblk, V, idx t]

include h0 h1 in
/-- The product of the two blocks. -/
theorem part (k : Fin 1024) (l : Fin 1024) :
    (k0_pay1 (F := Ideal) (iblk m c 0 t) (iblk m c 1 t) (ix2 k l) : EReal)
      = ∑ s : Fin 1024, x (t.val % 8 * 1024 + s) (t.val / 8 * 1024 + k) * y (t.val % 8 * 1024 + s) l := by
  pointwise [k0_pay1]
  simp only [blk0 m c x h0 t, blk1 m c y h1 t]

include h0 h1 in
/-- The first chunk is stored. -/
theorem reset (g : t.val % 8 = 0) (k : Fin 1024) (l : Fin 1024) :
    ((outsAt0 m c t.val t.isLt).2 (ix2 k l) : EReal)
      = ∑ s : Fin 1024, x (t.val % 8 * 1024 + s) (t.val / 8 * 1024 + k) * y (t.val % 8 * 1024 + s) l := by
  rw [← part m c x y h0 h1 t k l, outsAt0_A m c t g (by omega) (by omega)]
  frame_out
  pointwise [k0_pay2]

include h0 h1 in
/-- A middle chunk is added. -/
theorem step (g : ¬ t.val % 8 = 0) (g' : ¬ t.val % 8 = 7) (k : Fin 1024) (l : Fin 1024) :
    ((outsAt0 m c t.val t.isLt).2 (ix2 k l) : EReal)
      = (outsAt0 m c (t.val - 1) (lt_of_le_of_lt (Nat.sub_le _ _) t.isLt)).2 (ix2 k l)
        + ∑ s : Fin 1024, x (t.val % 8 * 1024 + s) (t.val / 8 * 1024 + k) * y (t.val % 8 * 1024 + s) l := by
  rw [← part m c x y h0 h1 t k l, outsAt0_B m c t g (by omega) g']
  frame_out
  pointwise [k0_pay3]
  exact congrArg (· + _) (congrFun (Memref.IsWhole.read_unread (Val := Elt Ideal) (Memref.isWhole_whole cc0_scratch0) _) _)

include h0 h1 in
/-- The last chunk is added and the sum stored. -/
theorem last (g : t.val % 8 = 7) (k : Fin 1024) (l : Fin 1024) :
    ((outsAt0 m c t.val t.isLt).1 (ix2 k l) : EReal)
      = (outsAt0 m c (t.val - 1) (lt_of_le_of_lt (Nat.sub_le _ _) t.isLt)).2 (ix2 k l)
        + ∑ s : Fin 1024, x (t.val % 8 * 1024 + s) (t.val / 8 * 1024 + k) * y (t.val % 8 * 1024 + s) l := by
  rw [← part m c x y h0 h1 t k l, outsAt0_C m c t (by omega) (by omega) g]
  frame_out
  pointwise [k0_pay4]
  exact congrArg (· + _) (congrFun (Memref.IsWhole.read_unread (Val := Elt Ideal) (Memref.isWhole_whole cc0_scratch0) _) _)

include h0 h1 in
/-- What is carried between the points: the chunks so far. -/
theorem carried : ∀ (n : ℕ) (hn : n < cfg0.N) (_ : ¬ n % 8 = 7) (k : Fin 1024) (l : Fin 1024),
    ((outsAt0 m c n hn).2 (ix2 k l) : EReal)
      = ∑ s ∈ Finset.range ((n % 8 + 1) * 1024), x s (n / 8 * 1024 + k) * y s l := by
  intro n
  induction n with
  | zero =>
    intro hn _ k l
    refine (reset m c x y h0 h1 ⟨0, hn⟩ rfl k l).trans ?_
    exact (first 1024 (fun s => x s (0 / 8 * 1024 + k) * y s l)).symm
  | succ n ih =>
    intro hn g k l
    by_cases g0 : (n + 1) % 8 = 0
    · refine (reset m c x y h0 h1 ⟨n + 1, hn⟩ g0 k l).trans ?_
      simp only [g0]
      exact (first 1024 (fun s => x s ((n + 1) / 8 * 1024 + k) * y s l)).symm
    · refine (step m c x y h0 h1 ⟨n + 1, hn⟩ g0 g k l).trans ?_
      have e := ih (by omega) (by omega) k l
      simp only [Nat.add_sub_cancel]
      rw [e, chunk 1024 _ ((n + 1) % 8), show (n + 1) % 8 = n % 8 + 1 by omega, show (n + 1) / 8 = n / 8 by omega]

include h0 h1 in
/-- What the last point of a block stores: the whole sum. -/
theorem out (g : t.val % 8 = 7) (k : Fin 1024) (l : Fin 1024) :
    ((outsAt0 m c t.val t.isLt).1 (ix2 k l) : EReal)
      = ∑ s ∈ Finset.range 8192, x s (t.val / 8 * 1024 + k) * y s l := by
  have hN : t.val < 8 := lt_of_lt_of_eq t.isLt N_0
  rw [last m c x y h0 h1 t g k l, carried m c x y h0 h1 (t.val - 1) (lt_of_le_of_lt (Nat.sub_le _ _) t.isLt) (by omega) k l,
    show (t.val - 1) % 8 = 6 by omega, show (t.val - 1) / 8 = t.val / 8 by omega, g]
  exact (chunk 1024 (fun s => x s (t.val / 8 * 1024 + k) * y s l) 7).symm

include h0 h1 in
/-- The array the kernel returns is the product. -/
theorem final : ((dats m 0 c).arrAt 2 cfg0.N : FVec Ideal S1024x1024 .f32)
    = fun i => ∑ s ∈ Finset.range 8192, x s (i 0).val * y s (i 1).val := by
  refine (dats m 0 c).arrAt_eq_of_covers 2 _ (by decide +kernel) fun t hf z => ?_
  blk_simp
  rw [after0_2]
  idx_vars z
  refine (out m c x y h0 h1 t ((flush0_2 t).mp hf) z0 z1).trans ?_
  rw [(idx t).2.2]
  simp
end

end Cert.DOutIdeal.Prod

end
-- ==== Proof.DOutClaim.lean ====
module

public import proofs.«01_k».proof.Defs
public import proofs.«01_k».proof.Proof.DOutValue
public import proofs.«01_k».proof.Proof.Gen.DOutRefIdeal
public import proofs.«01_k».proof.Proof.Gen.DOutRefIdeal.Run

/-!
The gradient with respect to the output projection's weights: the kernel returns what the reference returns.
-/

@[expose] public section

set_option maxRecDepth 16384

noncomputable section

namespace Cert.DOut

open Idealize.ShloMosaic Idealize.ShloMosaic.TcCoe Idealize.SL.Sem
open Cert.Sum

/-- The kernel and the reference return the same array. -/
theorem claim : Cert.algebraic_DOutIdeal_DOutRefIdeal (hDOutIdeal := Cert.DOutIdeal.Gen.facts) (hDOutRefIdeal := Cert.DOutRefIdeal.Gen.facts) := by
  intro m ρ m' ρ' _ hag
  refine ⟨fun c => (Cert.DOutIdeal.Gen.dats m 0 c).arrAt 2 Cert.DOutIdeal.cfg0.N,
    (θ_run Cert.DOutIdeal.defs _ _).mono (fun r h c => ?_) (Cert.DOutIdeal.Value.run_blocks m ρ),
    (θ_run Cert.DOutRefIdeal.defs _ _).mono (fun r h c => ?_) (Cert.DOutRefIdeal.Value.run m' ρ')⟩
  · exact h c
  · obtain ⟨g0, g1⟩ := hag c
    obtain ⟨k1, k2⟩ := h c
    refine ⟨k1.trans ?_, k2⟩
    refine Eq.trans ?_ (Cert.DOutIdeal.Prod.final m c _ _ (fun r l => at2_eq _ r l) (fun r l => at2_eq _ r l)).symm
    funext i
    idx_vars i
    pointwise
    rw [Finset.sum_range]
    refine Finset.sum_congr rfl fun s _ => ?_
    rw [mul_comm]
    exact congrArg₂ (· * ·) ((congrFun g0 (ix2 s i0)).trans (at2_eq _ s i0)) ((congrFun g1 (ix2 s i1)).trans (at2_eq _ s i1))

end Cert.DOut

end
-- ==== Proof.DProjValue.lean ====
module

public import proofs.«01_k».proof.Proof.Gen.DProjIdeal.Value
public import proofs.«01_k».proof.Proof.Sum
public import Idealize.ShloMosaic.Lib.Pipeline.ValueKit
public import Idealize.ShloMosaic.Lib.Claim

@[expose] public section

set_option maxRecDepth 16384

noncomputable section

namespace Cert.DProjIdeal.Prod

open Cert.DProjIdeal Cert.DProjIdeal.Gen Idealize.ShloMosaic Idealize.ShloMosaic.TcCoe Idealize.SL.Sem
open Idealize.ShloMosaic.Pipeline (Dat)
open Cert.Sum

/-- Which block of its array each window holds at each point of the grid. -/
theorem idx : ∀ t : Fin cfg0.N,
    win0_0.index t = ![t.val % 8, t.val / 8] ∧ win0_1.index t = ![t.val % 8, 0] ∧ win0_2.index t = ![t.val / 8, 0] :=
  (by decide +kernel : ∀ t : Fin grid0.N,
    win0_0.index t = ![t.val % 8, t.val / 8] ∧ win0_1.index t = ![t.val % 8, 0] ∧ win0_2.index t = ![t.val / 8, 0])

section
variable (m : (ℓ : Loc nD τ sig) → Buf (Elt Ideal) ℓ) (c : Dev nD) (x y : ℕ → ℕ → EReal)
  (h0 : ∀ (r : Fin 8192) (l : Fin 1024), m ((c : Thread nD τ).loc main_arg0) (ix2 r l) = x r l)
  (h1 : ∀ (r : Fin 8192) (l : Fin 256), m ((c : Thread nD τ).loc main_arg1) (ix2 r l) = y r l)
  (t : Fin cfg0.N)

include h0 in
/-- The block of the first factor. -/
theorem blk0 (r : Fin 1024) (l : Fin 1024) :
    ((iblk m c 0 t : FVec Ideal S1024x1024 .bf16) (ix2 r l) : EReal) = x (t.val % 8 * 1024 + r) (t.val / 8 * 1024 + l) := by
  have hN : t.val < 8 := lt_of_lt_of_eq t.isLt N_0
  refine Eq.trans ?_ (h0 ⟨t.val % 8 * 1024 + r, by omega⟩ ⟨t.val / 8 * 1024 + l, by omega⟩)
  blk_ext [iblk, V, idx t]

include h1 in
/-- The block of the second factor. -/
theorem blk1 (r : Fin 1024) (l : Fin 256) :
    ((iblk m c 1 t : FVec Ideal S1024x256 .f32) (ix2 r l) : EReal) = y (t.val % 8 * 1024 + r) l := by
  have hN : t.val < 8 := lt_of_lt_of_eq t.isLt N_0
  refine Eq.trans ?_ (h1 ⟨t.val % 8 * 1024 + r, by omega⟩ l)
  blk_ext [iblk, V, idx t]

include h0 h1 in
/-- The product of the two blocks. -/
theorem part (k : Fin 1024) (l : Fin 256) :
    (k0_pay1 (F := Ideal) (iblk m c 0 t) (iblk m c 1 t) (ix2 k l) : EReal)
      = ∑ s : Fin 1024, x (t.val % 8 * 1024 + s) (t.val / 8 * 1024 + k) * y (t.val % 8 * 1024 + s) l := by
  pointwise [k0_pay1]
  simp only [blk0 m c x h0 t, blk1 m c y h1 t]

include h0 h1 in
/-- The first chunk is stored. -/
theorem reset (g : t.val % 8 = 0) (k : Fin 1024) (l : Fin 256) :
    ((outsAt0 m c t.val t.isLt).2 (ix2 k l) : EReal)
      = ∑ s : Fin 1024, x (t.val % 8 * 1024 + s) (t.val / 8 * 1024 + k) * y (t.val % 8 * 1024 + s) l := by
  rw [← part m c x y h0 h1 t k l, outsAt0_A m c t g (by omega) (by omega)]
  frame_out
  pointwise [k0_pay2]

include h0 h1 in
/-- A middle chunk is added. -/
theorem step (g : ¬ t.val % 8 = 0) (g' : ¬ t.val % 8 = 7) (k : Fin 1024) (l : Fin 256) :
    ((outsAt0 m c t.val t.isLt).2 (ix2 k l) : EReal)
      = (outsAt0 m c (t.val - 1) (lt_of_le_of_lt (Nat.sub_le _ _) t.isLt)).2 (ix2 k l)
        + ∑ s : Fin 1024, x (t.val % 8 * 1024 + s) (t.val / 8 * 1024 + k) * y (t.val % 8 * 1024 + s) l := by
  rw [← part m c x y h0 h1 t k l, outsAt0_B m c t g (by omega) g']
  frame_out
  pointwise [k0_pay3]
  exact congrArg (· + _) (congrFun (Memref.IsWhole.read_unread (Val := Elt Ideal) (Memref.isWhole_whole cc0_scratch0) _) _)

include h0 h1 in
/-- The last chunk is added and the sum stored. -/
theorem last (g : t.val % 8 = 7) (k : Fin 1024) (l : Fin 256) :
    ((outsAt0 m c t.val t.isLt).1 (ix2 k l) : EReal)
      = (outsAt0 m c (t.val - 1) (lt_of_le_of_lt (Nat.sub_le _ _) t.isLt)).2 (ix2 k l)
        + ∑ s : Fin 1024, x (t.val % 8 * 1024 + s) (t.val / 8 * 1024 + k) * y (t.val % 8 * 1024 + s) l := by
  rw [← part m c x y h0 h1 t k l, outsAt0_C m c t (by omega) (by omega) g]
  frame_out
  pointwise [k0_pay4]
  exact congrArg (· + _) (congrFun (Memref.IsWhole.read_unread (Val := Elt Ideal) (Memref.isWhole_whole cc0_scratch0) _) _)

include h0 h1 in
/-- What is carried between the points: the chunks so far. -/
theorem carried : ∀ (n : ℕ) (hn : n < cfg0.N) (_ : ¬ n % 8 = 7) (k : Fin 1024) (l : Fin 256),
    ((outsAt0 m c n hn).2 (ix2 k l) : EReal)
      = ∑ s ∈ Finset.range ((n % 8 + 1) * 1024), x s (n / 8 * 1024 + k) * y s l := by
  intro n
  induction n with
  | zero =>
    intro hn _ k l
    refine (reset m c x y h0 h1 ⟨0, hn⟩ rfl k l).trans ?_
    exact (first 1024 (fun s => x s (0 / 8 * 1024 + k) * y s l)).symm
  | succ n ih =>
    intro hn g k l
    by_cases g0 : (n + 1) % 8 = 0
    · refine (reset m c x y h0 h1 ⟨n + 1, hn⟩ g0 k l).trans ?_
      simp only [g0]
      exact (first 1024 (fun s => x s ((n + 1) / 8 * 1024 + k) * y s l)).symm
    · refine (step m c x y h0 h1 ⟨n + 1, hn⟩ g0 g k l).trans ?_
      have e := ih (by omega) (by omega) k l
      simp only [Nat.add_sub_cancel]
      rw [e, chunk 1024 _ ((n + 1) % 8), show (n + 1) % 8 = n % 8 + 1 by omega, show (n + 1) / 8 = n / 8 by omega]

include h0 h1 in
/-- What the last point of a block stores: the whole sum. -/
theorem out (g : t.val % 8 = 7) (k : Fin 1024) (l : Fin 256) :
    ((outsAt0 m c t.val t.isLt).1 (ix2 k l) : EReal)
      = ∑ s ∈ Finset.range 8192, x s (t.val / 8 * 1024 + k) * y s l := by
  have hN : t.val < 8 := lt_of_lt_of_eq t.isLt N_0
  rw [last m c x y h0 h1 t g k l, carried m c x y h0 h1 (t.val - 1) (lt_of_le_of_lt (Nat.sub_le _ _) t.isLt) (by omega) k l,
    show (t.val - 1) % 8 = 6 by omega, show (t.val - 1) / 8 = t.val / 8 by omega, g]
  exact (chunk 1024 (fun s => x s (t.val / 8 * 1024 + k) * y s l) 7).symm

include h0 h1 in
/-- The array the kernel returns is the product. -/
theorem final : ((dats m 0 c).arrAt 2 cfg0.N : FVec Ideal S1024x256 .bf16)
    = fun i => ∑ s ∈ Finset.range 8192, x s (i 0).val * y s (i 1).val := by
  refine (dats m 0 c).arrAt_eq_of_covers 2 _ (by decide +kernel) fun t hf z => ?_
  blk_simp
  rw [after0_2]
  idx_vars z
  refine (out m c x y h0 h1 t ((flush0_2 t).mp hf) z0 z1).trans ?_
  rw [(idx t).2.2]
  simp
end

end Cert.DProjIdeal.Prod

end
-- ==== Proof.DProjClaim.lean ====
module

public import proofs.«01_k».proof.Defs
public import proofs.«01_k».proof.Proof.DProjValue
public import proofs.«01_k».proof.Proof.Gen.DProjRefIdeal
public import proofs.«01_k».proof.Proof.Gen.DProjRefIdeal.Run

/-!
The gradient with respect to the weights of the layer input's projection: the kernel returns what the reference returns.
-/

@[expose] public section

set_option maxRecDepth 16384

noncomputable section

namespace Cert.DProj

open Idealize.ShloMosaic Idealize.ShloMosaic.TcCoe Idealize.SL.Sem
open Cert.Sum

/-- The kernel and the reference return the same array. -/
theorem claim : Cert.algebraic_DProjIdeal_DProjRefIdeal (hDProjIdeal := Cert.DProjIdeal.Gen.facts) (hDProjRefIdeal := Cert.DProjRefIdeal.Gen.facts) := by
  intro m ρ m' ρ' _ hag
  refine ⟨fun c => (Cert.DProjIdeal.Gen.dats m 0 c).arrAt 2 Cert.DProjIdeal.cfg0.N,
    (θ_run Cert.DProjIdeal.defs _ _).mono (fun r h c => ?_) (Cert.DProjIdeal.Value.run_blocks m ρ),
    (θ_run Cert.DProjRefIdeal.defs _ _).mono (fun r h c => ?_) (Cert.DProjRefIdeal.Value.run m' ρ')⟩
  · exact h c
  · obtain ⟨g0, g1⟩ := hag c
    obtain ⟨k1, k2⟩ := h c
    refine ⟨k1.trans ?_, k2⟩
    refine Eq.trans ?_ (Cert.DProjIdeal.Prod.final m c _ _ (fun r l => at2_eq _ r l) (fun r l => at2_eq _ r l)).symm
    funext i
    idx_vars i
    pointwise
    rw [Finset.sum_range]
    refine Finset.sum_congr rfl fun s _ => ?_
    exact congrArg₂ (· * ·) ((congrFun g0 (ix2 s i0)).trans (at2_eq _ s i0)) ((congrFun g1 (ix2 s i1)).trans (at2_eq _ s i1))

end Cert.DProj

end
-- ==== Proof.DUpValue.lean ====
module

public import proofs.«01_k».proof.Proof.Gen.DUpIdeal.Value
public import proofs.«01_k».proof.Proof.Sum
public import Idealize.ShloMosaic.Lib.Pipeline.ValueKit
public import Idealize.ShloMosaic.Lib.Claim

@[expose] public section

set_option maxRecDepth 16384

noncomputable section

namespace Cert.DUpIdeal.Prod

open Cert.DUpIdeal Cert.DUpIdeal.Gen Idealize.ShloMosaic Idealize.ShloMosaic.TcCoe Idealize.SL.Sem
open Idealize.ShloMosaic.Pipeline (Dat)
open Cert.Sum

/-- Which block of its array each window holds at each point of the grid. -/
theorem idx : ∀ t : Fin cfg0.N,
    win0_0.index t = ![t.val % 8, t.val / 8] ∧ win0_1.index t = ![t.val % 8, 0] ∧ win0_2.index t = ![t.val / 8, 0] :=
  (by decide +kernel : ∀ t : Fin grid0.N,
    win0_0.index t = ![t.val % 8, t.val / 8] ∧ win0_1.index t = ![t.val % 8, 0] ∧ win0_2.index t = ![t.val / 8, 0])

section
variable (m : (ℓ : Loc nD τ sig) → Buf (Elt Ideal) ℓ) (c : Dev nD) (x y : ℕ → ℕ → EReal)
  (h0 : ∀ (r : Fin 8192) (l : Fin 5632), m ((c : Thread nD τ).loc main_arg0) (ix2 r l) = x r l)
  (h1 : ∀ (r : Fin 8192) (l : Fin 1024), m ((c : Thread nD τ).loc main_arg1) (ix2 r l) = y r l)
  (t : Fin cfg0.N)

include h0 in
/-- The block of the first factor. -/
theorem blk0 (r : Fin 1024) (l : Fin 1408) :
    ((iblk m c 0 t : FVec Ideal S1024x1408 .bf16) (ix2 r l) : EReal) = x (t.val % 8 * 1024 + r) (t.val / 8 * 1408 + l) := by
  have hN : t.val < 32 := lt_of_lt_of_eq t.isLt N_0
  refine Eq.trans ?_ (h0 ⟨t.val % 8 * 1024 + r, by omega⟩ ⟨t.val / 8 * 1408 + l, by omega⟩)
  blk_ext [iblk, V, idx t]

include h1 in
/-- The block of the second factor. -/
theorem blk1 (r : Fin 1024) (l : Fin 1024) :
    ((iblk m c 1 t : FVec Ideal S1024x1024 .bf16) (ix2 r l) : EReal) = y (t.val % 8 * 1024 + r) l := by
  have hN : t.val < 32 := lt_of_lt_of_eq t.isLt N_0
  refine Eq.trans ?_ (h1 ⟨t.val % 8 * 1024 + r, by omega⟩ l)
  blk_ext [iblk, V, idx t]

include h0 h1 in
/-- The product of the two blocks. -/
theorem part (k : Fin 1408) (l : Fin 1024) :
    (k0_pay1 (F := Ideal) (iblk m c 0 t) (iblk m c 1 t) (ix2 k l) : EReal)
      = ∑ s : Fin 1024, x (t.val % 8 * 1024 + s) (t.val / 8 * 1408 + k) * y (t.val % 8 * 1024 + s) l := by
  pointwise [k0_pay1]
  simp only [blk0 m c x h0 t, blk1 m c y h1 t]

include h0 h1 in
/-- The first chunk is stored. -/
theorem reset (g : t.val % 8 = 0) (k : Fin 1408) (l : Fin 1024) :
    ((outsAt0 m c t.val t.isLt).2 (ix2 k l) : EReal)
      = ∑ s : Fin 1024, x (t.val % 8 * 1024 + s) (t.val / 8 * 1408 + k) * y (t.val % 8 * 1024 + s) l := by
  rw [← part m c x y h0 h1 t k l, outsAt0_A m c t g (by omega) (by omega)]
  frame_out
  pointwise [k0_pay2]

include h0 h1 in
/-- A middle chunk is added. -/
theorem step (g : ¬ t.val % 8 = 0) (g' : ¬ t.val % 8 = 7) (k : Fin 1408) (l : Fin 1024) :
    ((outsAt0 m c t.val t.isLt).2 (ix2 k l) : EReal)
      = (outsAt0 m c (t.val - 1) (lt_of_le_of_lt (Nat.sub_le _ _) t.isLt)).2 (ix2 k l)
        + ∑ s : Fin 1024, x (t.val % 8 * 1024 + s) (t.val / 8 * 1408 + k) * y (t.val % 8 * 1024 + s) l := by
  rw [← part m c x y h0 h1 t k l, outsAt0_B m c t g (by omega) g']
  frame_out
  pointwise [k0_pay3]
  exact congrArg (· + _) (congrFun (Memref.IsWhole.read_unread (Val := Elt Ideal) (Memref.isWhole_whole cc0_scratch0) _) _)

include h0 h1 in
/-- The last chunk is added and the sum stored. -/
theorem last (g : t.val % 8 = 7) (k : Fin 1408) (l : Fin 1024) :
    ((outsAt0 m c t.val t.isLt).1 (ix2 k l) : EReal)
      = (outsAt0 m c (t.val - 1) (lt_of_le_of_lt (Nat.sub_le _ _) t.isLt)).2 (ix2 k l)
        + ∑ s : Fin 1024, x (t.val % 8 * 1024 + s) (t.val / 8 * 1408 + k) * y (t.val % 8 * 1024 + s) l := by
  rw [← part m c x y h0 h1 t k l, outsAt0_C m c t (by omega) (by omega) g]
  frame_out
  pointwise [k0_pay4]
  exact congrArg (· + _) (congrFun (Memref.IsWhole.read_unread (Val := Elt Ideal) (Memref.isWhole_whole cc0_scratch0) _) _)

include h0 h1 in
/-- What is carried between the points: the chunks so far. -/
theorem carried : ∀ (n : ℕ) (hn : n < cfg0.N) (_ : ¬ n % 8 = 7) (k : Fin 1408) (l : Fin 1024),
    ((outsAt0 m c n hn).2 (ix2 k l) : EReal)
      = ∑ s ∈ Finset.range ((n % 8 + 1) * 1024), x s (n / 8 * 1408 + k) * y s l := by
  intro n
  induction n with
  | zero =>
    intro hn _ k l
    refine (reset m c x y h0 h1 ⟨0, hn⟩ rfl k l).trans ?_
    exact (first 1024 (fun s => x s (0 / 8 * 1408 + k) * y s l)).symm
  | succ n ih =>
    intro hn g k l
    by_cases g0 : (n + 1) % 8 = 0
    · refine (reset m c x y h0 h1 ⟨n + 1, hn⟩ g0 k l).trans ?_
      simp only [g0]
      exact (first 1024 (fun s => x s ((n + 1) / 8 * 1408 + k) * y s l)).symm
    · refine (step m c x y h0 h1 ⟨n + 1, hn⟩ g0 g k l).trans ?_
      have e := ih (by omega) (by omega) k l
      simp only [Nat.add_sub_cancel]
      rw [e, chunk 1024 _ ((n + 1) % 8), show (n + 1) % 8 = n % 8 + 1 by omega, show (n + 1) / 8 = n / 8 by omega]

include h0 h1 in
/-- What the last point of a block stores: the whole sum. -/
theorem out (g : t.val % 8 = 7) (k : Fin 1408) (l : Fin 1024) :
    ((outsAt0 m c t.val t.isLt).1 (ix2 k l) : EReal)
      = ∑ s ∈ Finset.range 8192, x s (t.val / 8 * 1408 + k) * y s l := by
  have hN : t.val < 32 := lt_of_lt_of_eq t.isLt N_0
  rw [last m c x y h0 h1 t g k l, carried m c x y h0 h1 (t.val - 1) (lt_of_le_of_lt (Nat.sub_le _ _) t.isLt) (by omega) k l,
    show (t.val - 1) % 8 = 6 by omega, show (t.val - 1) / 8 = t.val / 8 by omega, g]
  exact (chunk 1024 (fun s => x s (t.val / 8 * 1408 + k) * y s l) 7).symm

include h0 h1 in
/-- The array the kernel returns is the product. -/
theorem final : ((dats m 0 c).arrAt 2 cfg0.N : FVec Ideal S5632x1024 .bf16)
    = fun i => ∑ s ∈ Finset.range 8192, x s (i 0).val * y s (i 1).val := by
  refine (dats m 0 c).arrAt_eq_of_covers 2 _ (by decide +kernel) fun t hf z => ?_
  blk_simp
  rw [after0_2]
  idx_vars z
  refine (out m c x y h0 h1 t ((flush0_2 t).mp hf) z0 z1).trans ?_
  rw [(idx t).2.2]
  simp
end

end Cert.DUpIdeal.Prod

end
-- ==== Proof.DUpClaim.lean ====
module

public import proofs.«01_k».proof.Defs
public import proofs.«01_k».proof.Proof.DUpValue
public import proofs.«01_k».proof.Proof.Gen.DUpRefIdeal
public import proofs.«01_k».proof.Proof.Gen.DUpRefIdeal.Run

/-!
The gradient with respect to the feed-forward block's first weights: the kernel returns what the reference returns.
-/

@[expose] public section

set_option maxRecDepth 16384

noncomputable section

namespace Cert.DUp

open Idealize.ShloMosaic Idealize.ShloMosaic.TcCoe Idealize.SL.Sem
open Cert.Sum

/-- The kernel and the reference return the same array. -/
theorem claim : Cert.algebraic_DUpIdeal_DUpRefIdeal (hDUpIdeal := Cert.DUpIdeal.Gen.facts) (hDUpRefIdeal := Cert.DUpRefIdeal.Gen.facts) := by
  intro m ρ m' ρ' _ hag
  refine ⟨fun c => (Cert.DUpIdeal.Gen.dats m 0 c).arrAt 2 Cert.DUpIdeal.cfg0.N,
    (θ_run Cert.DUpIdeal.defs _ _).mono (fun r h c => ?_) (Cert.DUpIdeal.Value.run_blocks m ρ),
    (θ_run Cert.DUpRefIdeal.defs _ _).mono (fun r h c => ?_) (Cert.DUpRefIdeal.Value.run m' ρ')⟩
  · exact h c
  · obtain ⟨g0, g1⟩ := hag c
    obtain ⟨k1, k2⟩ := h c
    refine ⟨k1.trans ?_, k2⟩
    refine Eq.trans ?_ (Cert.DUpIdeal.Prod.final m c _ _ (fun r l => at2_eq _ r l) (fun r l => at2_eq _ r l)).symm
    funext i
    idx_vars i
    pointwise
    rw [Finset.sum_range]
    refine Finset.sum_congr rfl fun s _ => ?_
    exact congrArg₂ (· * ·) ((congrFun g0 (ix2 s i0)).trans (at2_eq _ s i0)) ((congrFun g1 (ix2 s i1)).trans (at2_eq _ s i1))

end Cert.DUp

end
-- ==== Proof.Norm.lean ====
module

public import proofs.«01_k».proof.Proof.Real
public import proofs.«01_k».proof.Proof.Sum

/-!
The gradient of the root-mean-square norm of a row of 1024 real numbers, as the kernels spell it and as the
references spell it.
-/

@[expose] public section

noncomputable section

namespace Cert.Norm

open Idealize.ShloMosaic
open Cert.Conv (coe_sum)

/-- The small number added to the mean square: the float next to a millionth. -/
def eps : ℝ := 8796093 / 8796093022208

theorem ofBits_eps : Ideal.ofBits .f32 897988541#32 = ((eps : ℝ) : EReal) := by
  simp [Ideal.ofBits, Ideal.ieee, eps]; rw [← EReal.coe_mul]; norm_num
theorem ofBits_n : Ideal.ofBits .f32 1149239296#32 = ((1024 : ℝ) : EReal) := by
  simp [Ideal.ofBits, Ideal.ieee]; rw [← EReal.coe_mul]; norm_num
theorem ofBits_neg_half : Ideal.ofBits .f32 3204448256#32 = ((-(1 / 2) : ℝ) : EReal) := by
  simp [Ideal.ofBits, Ideal.ieee]; rw [← EReal.coe_mul]; norm_num

/-- The mean square of a row, and the small number. -/
def ms (x : ℕ → ℝ) : ℝ := (∑ s : Fin 1024, x s * x s) * (1 / 1024) + eps

theorem ms_pos (x : ℕ → ℝ) : 0 < ms x := by
  have h : 0 ≤ ∑ s : Fin 1024, x s * x s := Finset.sum_nonneg fun s _ => mul_self_nonneg _
  have e : 0 < eps := by norm_num [eps]
  unfold ms
  positivity

/-- The scale of a row. -/
def sc (x : ℕ → ℝ) : ℝ := (Real.sqrt (ms x))⁻¹

theorem sc_cube (x : ℕ → ℝ) : sc x * (1 / ms x) = sc x * sc x * sc x := by
  have h : Real.sqrt (ms x) * Real.sqrt (ms x) = ms x := Real.mul_self_sqrt (ms_pos x).le
  have e : 1 / ms x = sc x * sc x := by unfold sc; rw [← mul_inv, h, one_div]
  rw [e, mul_assoc]

/-- The gradient with respect to entry `l` of a row `x`, the cotangent being `d` past the norm and `r` at its output. -/
def dx (d r g x : ℕ → ℝ) (l : ℕ) : ℝ :=
  sc x * (r l * g l - x l * sc x * ((∑ s : Fin 1024, r s * g s * (x s * sc x)) * (1 / 1024))) + d l

theorem ideal_ms (X : Fin 1024 → EReal) (x : ℕ → ℝ) (h : ∀ s, X s = ((x s : ℝ) : EReal)) :
    Ideal.div (∑ s, X s * X s) (Ideal.ofBits .f32 1149239296#32) + Ideal.ofBits .f32 897988541#32 = ((ms x : ℝ) : EReal) := by
  simp only [h, ofBits_eps, ofBits_n, Ideal.div_coe (show (1024 : ℝ) ≠ 0 by norm_num), ← EReal.coe_mul, ← EReal.coe_add, coe_sum]
  rfl

theorem ideal_sc (X : Fin 1024 → EReal) (x : ℕ → ℝ) (h : ∀ s, X s = ((x s : ℝ) : EReal)) :
    Ideal.rsqrt (Ideal.div (∑ s, X s * X s) (Ideal.ofBits .f32 1149239296#32) + Ideal.ofBits .f32 897988541#32) = ((sc x : ℝ) : EReal) := by
  rw [ideal_ms X x h, Ideal.rsqrt_coe, if_neg (not_lt.2 (ms_pos x).le), if_neg (ms_pos x).ne']
  rfl

/-- The kernels' spelling. -/
theorem kernel_dx (R G X Y D : Fin 1024 → EReal) (d r g x : ℕ → ℝ) (hR : ∀ s, R s = ((r s : ℝ) : EReal)) (hG : ∀ s, G s = ((g s : ℝ) : EReal))
    (hX : ∀ s, X s = ((x s : ℝ) : EReal)) (hY : ∀ s, Y s = ((x s * sc x : ℝ) : EReal)) (hD : ∀ s, D s = ((d s : ℝ) : EReal)) (l : Fin 1024) :
    Ideal.rsqrt (Ideal.div (∑ s, X s * X s) (Ideal.ofBits .f32 1149239296#32) + Ideal.ofBits .f32 897988541#32)
        * (R l * G l - Y l * Ideal.div (∑ s, R s * G s * Y s) (Ideal.ofBits .f32 1149239296#32)) + D l
      = ((dx d r g x l : ℝ) : EReal) := by
  rw [ideal_sc X x hX]
  simp only [hR, hG, hY, hD, ofBits_n, Ideal.div_coe (show (1024 : ℝ) ≠ 0 by norm_num), ← EReal.coe_mul, ← EReal.coe_sub, ← EReal.coe_add, coe_sum]
  rfl

/-- The references' spelling. -/
theorem ref_dx (R G X D : Fin 1024 → EReal) (d r g x : ℕ → ℝ) (hR : ∀ s, R s = ((r s : ℝ) : EReal)) (hG : ∀ s, G s = ((g s : ℝ) : EReal))
    (hX : ∀ s, X s = ((x s : ℝ) : EReal)) (hD : ∀ s, D s = ((d s : ℝ) : EReal)) (l : Fin 1024) :
    D l + R l * G l * Ideal.rsqrt (Ideal.div (∑ s, X s * X s) (Ideal.ofBits .f32 1149239296#32) + Ideal.ofBits .f32 897988541#32)
      + X l * ∑ _k : Fin 1, Ideal.div ((∑ s, X s * (R s * G s)) * (Ideal.ofBits .f32 3204448256#32
          * Ideal.div (Ideal.rsqrt (Ideal.div (∑ s, X s * X s) (Ideal.ofBits .f32 1149239296#32) + Ideal.ofBits .f32 897988541#32))
              (Ideal.div (∑ s, X s * X s) (Ideal.ofBits .f32 1149239296#32) + Ideal.ofBits .f32 897988541#32)))
          (Ideal.ofBits .f32 1149239296#32)
      + (∑ _k : Fin 1, Ideal.div ((∑ s, X s * (R s * G s)) * (Ideal.ofBits .f32 3204448256#32
          * Ideal.div (Ideal.rsqrt (Ideal.div (∑ s, X s * X s) (Ideal.ofBits .f32 1149239296#32) + Ideal.ofBits .f32 897988541#32))
              (Ideal.div (∑ s, X s * X s) (Ideal.ofBits .f32 1149239296#32) + Ideal.ofBits .f32 897988541#32)))
          (Ideal.ofBits .f32 1149239296#32)) * X l
      = ((dx d r g x l : ℝ) : EReal) := by
  rw [ideal_sc X x hX, ideal_ms X x hX]
  simp only [Fin.sum_univ_one, hR, hG, hX, hD, ofBits_n, ofBits_neg_half, Ideal.div_coe (show (1024 : ℝ) ≠ 0 by norm_num), Ideal.div_coe (ms_pos x).ne',
    ← EReal.coe_mul, ← EReal.coe_add, coe_sum, sc_cube]
  refine congrArg _ ?_
  unfold dx
  have e : ∑ s : Fin 1024, r s * g s * (x s * sc x) = (∑ s : Fin 1024, x s * (r s * g s)) * sc x := by
    rw [Finset.sum_mul]
    exact Finset.sum_congr rfl fun s _ => by ring
  rw [e]
  ring

/-- The references' spelling, of real numbers. -/
theorem ref_coe_dx (d r g x : ℕ → ℝ) (l : Fin 1024) :
    ((d l : ℝ) : EReal) + ((r l : ℝ) : EReal) * ((g l : ℝ) : EReal) * Ideal.rsqrt (Ideal.div (∑ s : Fin 1024, ((x s : ℝ) : EReal) * ((x s : ℝ) : EReal)) (Ideal.ofBits .f32 1149239296#32) + Ideal.ofBits .f32 897988541#32)
      + ((x l : ℝ) : EReal) * ∑ _k : Fin 1, Ideal.div ((∑ s : Fin 1024, ((x s : ℝ) : EReal) * (((r s : ℝ) : EReal) * ((g s : ℝ) : EReal))) * (Ideal.ofBits .f32 3204448256#32
          * Ideal.div (Ideal.rsqrt (Ideal.div (∑ s : Fin 1024, ((x s : ℝ) : EReal) * ((x s : ℝ) : EReal)) (Ideal.ofBits .f32 1149239296#32) + Ideal.ofBits .f32 897988541#32))
              (Ideal.div (∑ s : Fin 1024, ((x s : ℝ) : EReal) * ((x s : ℝ) : EReal)) (Ideal.ofBits .f32 1149239296#32) + Ideal.ofBits .f32 897988541#32)))
          (Ideal.ofBits .f32 1149239296#32)
      + (∑ _k : Fin 1, Ideal.div ((∑ s : Fin 1024, ((x s : ℝ) : EReal) * (((r s : ℝ) : EReal) * ((g s : ℝ) : EReal))) * (Ideal.ofBits .f32 3204448256#32
          * Ideal.div (Ideal.rsqrt (Ideal.div (∑ s : Fin 1024, ((x s : ℝ) : EReal) * ((x s : ℝ) : EReal)) (Ideal.ofBits .f32 1149239296#32) + Ideal.ofBits .f32 897988541#32))
              (Ideal.div (∑ s : Fin 1024, ((x s : ℝ) : EReal) * ((x s : ℝ) : EReal)) (Ideal.ofBits .f32 1149239296#32) + Ideal.ofBits .f32 897988541#32)))
          (Ideal.ofBits .f32 1149239296#32)) * ((x l : ℝ) : EReal)
      = ((dx d r g x l : ℝ) : EReal) := by
  exact ref_dx (fun s => ((r s : ℝ) : EReal)) (fun s => ((g s : ℝ) : EReal)) (fun s => ((x s : ℝ) : EReal)) (fun s => ((d s : ℝ) : EReal))
    d r g x (fun _ => rfl) (fun _ => rfl) (fun _ => rfl) (fun _ => rfl) l

end Cert.Norm

end
-- ==== Proof.DownValue.lean ====
module

public import proofs.«01_k».proof.Proof.Gen.DownIdeal.Value
public import proofs.«01_k».proof.Proof.Norm
public import Idealize.ShloMosaic.Lib.Pipeline.ValueKit
public import Idealize.ShloMosaic.Lib.Pipeline.ReadBack
public import Idealize.ShloMosaic.Lib.Claim

@[expose] public section

set_option maxRecDepth 16384

noncomputable section

namespace Cert.DownIdeal.Prod

open Cert.DownIdeal Cert.DownIdeal.Gen Idealize.ShloMosaic Idealize.ShloMosaic.TcCoe Idealize.SL.Sem
open Idealize.ShloMosaic.Pipeline (Dat)
open Cert.Sum Cert.Norm

/-- Which block of its array each window holds at each point of the grid. -/
theorem idx : ∀ t : Fin cfg0.N,
    win0_0.index t = ![t.val / 2, t.val % 2] ∧ win0_1.index t = ![t.val % 2, 0] ∧ win0_2.index t = ![t.val / 2, 0]
    ∧ win0_3.index t = ![0, 0] ∧ win0_4.index t = ![t.val / 2, 0] ∧ win0_5.index t = ![t.val / 2, 0] :=
  (by decide +kernel : ∀ t : Fin grid0.N,
    win0_0.index t = ![t.val / 2, t.val % 2] ∧ win0_1.index t = ![t.val % 2, 0] ∧ win0_2.index t = ![t.val / 2, 0]
    ∧ win0_3.index t = ![0, 0] ∧ win0_4.index t = ![t.val / 2, 0] ∧ win0_5.index t = ![t.val / 2, 0])

section
variable (m : (ℓ : Loc nD τ sig) → Buf (Elt Ideal) ℓ) (c : Dev nD) (a w x : ℕ → ℕ → EReal) (g : ℕ → EReal)
  (h0 : ∀ (r : Fin 8192) (l : Fin 2816), m ((c : Thread nD τ).loc main_arg0) (ix2 r l) = a r l)
  (h1 : ∀ (r : Fin 2816) (l : Fin 1024), m ((c : Thread nD τ).loc main_arg1) (ix2 r l) = w r l)
  (h2 : ∀ (r : Fin 8192) (l : Fin 1024), m ((c : Thread nD τ).loc main_arg2) (ix2 r l) = x r l)
  (h3 : ∀ (l : Fin 1024), m ((c : Thread nD τ).loc main_arg3) (ix1 l) = g l)
  (t : Fin cfg0.N)

include h0 in
/-- The block of the first factor. -/
theorem blk0 (r : Fin 1024) (l : Fin 1408) :
    ((iblk m c 0 t : FVec Ideal S1024x1408 .bf16) (ix2 r l) : EReal) = a (t.val / 2 * 1024 + r) (t.val % 2 * 1408 + l) := by
  have hN : t.val < 16 := lt_of_lt_of_eq t.isLt N_0
  refine Eq.trans ?_ (h0 ⟨t.val / 2 * 1024 + r, by omega⟩ ⟨t.val % 2 * 1408 + l, by omega⟩)
  blk_ext [iblk, V, idx t]

include h1 in
/-- The block of the second factor. -/
theorem blk1 (r : Fin 1408) (l : Fin 1024) :
    ((iblk m c 1 t : FVec Ideal S1408x1024 .bf16) (ix2 r l) : EReal) = w (t.val % 2 * 1408 + r) l := by
  have hN : t.val < 16 := lt_of_lt_of_eq t.isLt N_0
  refine Eq.trans ?_ (h1 ⟨t.val % 2 * 1408 + r, by omega⟩ l)
  blk_ext [iblk, V, idx t]

include h2 in
/-- The block of the rows the product is added to. -/
theorem blk2 (r : Fin 1024) (l : Fin 1024) :
    ((iblk m c 2 t : FVec Ideal S1024x1024 .f32) (ix2 r l) : EReal) = x (t.val / 2 * 1024 + r) l := by
  have hN : t.val < 16 := lt_of_lt_of_eq t.isLt N_0
  refine Eq.trans ?_ (h2 ⟨t.val / 2 * 1024 + r, by omega⟩ l)
  blk_ext [iblk, V, idx t]

include h3 in
/-- The norm's gains. -/
theorem blk3 (l : Fin 1024) :
    ((iblk m c 3 t : FVec Ideal S1x1024 .f32) (ix2 0 l) : EReal) = g l := by
  have hN : t.val < 16 := lt_of_lt_of_eq t.isLt N_0
  have e : (V m c main_v0 (ix2 0 l) : EReal) = g l := by
    refine Eq.trans ?_ (h3 l)
    entry_read
    pointwise
  refine Eq.trans ?_ e
  blk_ext [iblk, idx t]

include h0 h1 in
/-- The product of the two blocks. -/
theorem part (k : Fin 1024) (l : Fin 1024) :
    (k0_pay1 (F := Ideal) (iblk m c 0 t) (iblk m c 1 t) (ix2 k l) : EReal)
      = ∑ s : Fin 1408, a (t.val / 2 * 1024 + k) (t.val % 2 * 1408 + s) * w (t.val % 2 * 1408 + s) l := by
  pointwise [k0_pay1]
  simp only [blk0 m c a h0 t, blk1 m c w h1 t]

include h0 h1 in
/-- The first chunk is stored. -/
theorem reset (e : t.val % 2 = 0) (k : Fin 1024) (l : Fin 1024) :
    ((outsAt0 m c t.val t.isLt).2.2 (ix2 k l) : EReal)
      = ∑ s : Fin 1408, a (t.val / 2 * 1024 + k) (t.val % 2 * 1408 + s) * w (t.val % 2 * 1408 + s) l := by
  rw [← part m c a w h0 h1 t k l, outsAt0_A m c t e (by omega)]
  frame_out
  pointwise [k0_pay2]

/-- An entry of the rows the product is added to, and the product. -/
def row (k l : ℕ) : EReal := (∑ s ∈ Finset.range 2816, a k s * w s l) + x k l

/-- An entry of a normed row. -/
def rms (y : ℕ → EReal) (l : ℕ) : EReal :=
  y l * Ideal.rsqrt (Ideal.div (∑ s : Fin 1024, y s * y s) (Ideal.ofBits .f32 1149239296#32) + Ideal.ofBits .f32 897988541#32) * g l

include h0 h1 h2 in
/-- At the last chunk the carried sum, the chunk and the row are the whole entry. -/
theorem whole (e : t.val % 2 = 1) (k : Fin 1024) (l : Fin 1024) :
    (k0_pay4 (F := Ideal) (iblk m c 0 t) (iblk m c 1 t) ((outsAt0 m c (t.val - 1) (lt_of_le_of_lt (Nat.sub_le _ _) t.isLt)).2.2)
      (iblk m c 2 t) (ix2 k l) : EReal) = row a w x (t.val / 2 * 1024 + k) l := by
  have hN : t.val < 16 := lt_of_lt_of_eq t.isLt N_0
  have f := reset m c a w h0 h1 ⟨t.val - 1, lt_of_le_of_lt (Nat.sub_le _ _) t.isLt⟩ (show (t.val - 1) % 2 = 0 by omega) k l
  have f' := part m c a w h0 h1 t k l
  simp only [show (t.val - 1) % 2 = 0 by omega, show (t.val - 1) / 2 = t.val / 2 by omega] at f
  rw [e] at f'
  pointwise [k0_pay4]
  rw [f, f', blk2 m c x h2 t k l]
  refine congrArg (· + _) (Eq.trans ?_ (chunk 1408 (fun s => a (t.val / 2 * 1024 + k) s * w s l) 1).symm)
  rw [← first 1408 (fun s => a (t.val / 2 * 1024 + k) s * w s l)]

include h0 h1 h2 in
/-- What the last point of a row of blocks stores into the first result. -/
theorem out4 (e : t.val % 2 = 1) (k : Fin 1024) (l : Fin 1024) :
    ((outsAt0 m c t.val t.isLt).1 (ix2 k l) : EReal) = row a w x (t.val / 2 * 1024 + k) l := by
  rw [outsAt0_B m c t (by omega) e]
  frame_out
  rw [read_unread_whole cc0_scratch0]
  exact whole m c a w x h0 h1 h2 t e k l

include h0 h1 h2 h3 in
/-- What it stores into the second result. -/
theorem out5 (e : t.val % 2 = 1) (k : Fin 1024) (l : Fin 1024) :
    ((outsAt0 m c t.val t.isLt).2.1 (ix2 k l) : EReal) = rms g (row a w x (t.val / 2 * 1024 + k)) l := by
  rw [outsAt0_B m c t (by omega) e]
  frame_out
  rw [read_unread_whole cc0_scratch0]
  pointwise [k0_pay5]
  simp only [whole m c a w x h0 h1 h2 t e, blk3 m c g h3 t]
  rfl

include h0 h1 h2 in
/-- The first result: the rows and the product. -/
theorem final4 : ((dats m 0 c).arrAt 4 cfg0.N : FVec Ideal S8192x1024 .f32)
    = fun i => row a w x (i 0).val (i 1).val := by
  refine (dats m 0 c).arrAt_eq_of_covers 4 _ (by decide +kernel) fun t hf z => ?_
  blk_simp
  rw [after0_4]
  idx_vars z
  refine (out4 m c a w x h0 h1 h2 t ((flush0_4 t).mp hf) z0 z1).trans ?_
  rw [(idx t).2.2.2.2.1]
  simp

include h0 h1 h2 h3 in
/-- The second result: the normed rows. -/
theorem final5 : ((dats m 0 c).arrAt 5 cfg0.N : FVec Ideal S8192x1024 .bf16)
    = fun i => rms g (row a w x (i 0).val) (i 1).val := by
  refine (dats m 0 c).arrAt_eq_of_covers 5 _ (by decide +kernel) fun t hf z => ?_
  blk_simp
  rw [after0_5]
  idx_vars z
  refine (out5 m c a w x g h0 h1 h2 h3 t ((flush0_5 t).mp hf) z0 z1).trans ?_
  rw [(idx t).2.2.2.2.2]
  simp

end

end Cert.DownIdeal.Prod

end
-- ==== Proof.DownClaim.lean ====
module

public import proofs.«01_k».proof.Defs
public import proofs.«01_k».proof.Proof.DownValue
public import proofs.«01_k».proof.Proof.Gen.DownRefIdeal
public import proofs.«01_k».proof.Proof.Gen.DownRefIdeal.Run

/-!
The feed-forward block's second product with the addition and the norm after it: the kernel returns what the reference
returns.
-/

@[expose] public section

set_option maxRecDepth 16384

noncomputable section

namespace Cert.Down

open Idealize.ShloMosaic Idealize.ShloMosaic.TcCoe Idealize.SL.Sem
open Cert.Sum

/-- A row read at a natural number, zero outside. -/
def at1 {n : ℕ} (X : (⟨1, ![n]⟩ : Shape).Idx → EReal) (l : ℕ) : EReal := if h : l < n then X (ix1 ⟨l, h⟩) else 0

theorem at1_eq {n : ℕ} (X : (⟨1, ![n]⟩ : Shape).Idx → EReal) (l : Fin n) : X (ix1 l) = at1 X l := by
  unfold at1
  rw [dif_pos l.isLt]

/-- The reference's rows. -/
theorem ref_row (a w x : ℕ → ℕ → EReal) (k l : ℕ) :
    x k l + ∑ s : Fin 2816, a k s * w s l = Cert.DownIdeal.Prod.row a w x k l := by
  unfold Cert.DownIdeal.Prod.row
  rw [Finset.sum_range, add_comm]

/-- The kernel and the reference return the same two arrays. -/
theorem claim : Cert.algebraic_DownIdeal_DownRefIdeal (hDownIdeal := Cert.DownIdeal.Gen.facts) (hDownRefIdeal := Cert.DownRefIdeal.Gen.facts) := by
  intro m ρ m' ρ' _ hag
  refine ⟨fun c => (Cert.DownIdeal.Gen.dats m 0 c).arrAt 4 Cert.DownIdeal.cfg0.N,
    fun c => (Cert.DownIdeal.Gen.dats m 0 c).arrAt 5 Cert.DownIdeal.cfg0.N,
    (θ_run Cert.DownIdeal.defs _ _).mono (fun r h c => ?_) (Cert.DownIdeal.Value.run_blocks m ρ),
    (θ_run Cert.DownRefIdeal.defs _ _).mono (fun r h c => ?_) (Cert.DownRefIdeal.Value.run m' ρ')⟩
  · exact h c
  · obtain ⟨g0, g1, g2, g3⟩ := hag c
    obtain ⟨k1, k2, k3⟩ := h c
    have e0 := at2_eq (m := 8192) (n := 2816) (m ((c : Thread Cert.DownIdeal.nD Cert.DownIdeal.τ).loc Cert.DownIdeal.main_arg0))
    have e1 := at2_eq (m := 2816) (n := 1024) (m ((c : Thread Cert.DownIdeal.nD Cert.DownIdeal.τ).loc Cert.DownIdeal.main_arg1))
    have e2 := at2_eq (m := 8192) (n := 1024) (m ((c : Thread Cert.DownIdeal.nD Cert.DownIdeal.τ).loc Cert.DownIdeal.main_arg2))
    have e3 := at1_eq (n := 1024) (m ((c : Thread Cert.DownIdeal.nD Cert.DownIdeal.τ).loc Cert.DownIdeal.main_arg3))
    have f0 : ∀ r l, _ = _ := fun r l => (congrFun g0 (ix2 r l)).trans (e0 r l)
    have f1 : ∀ r l, _ = _ := fun r l => (congrFun g1 (ix2 r l)).trans (e1 r l)
    have f2 : ∀ r l, _ = _ := fun r l => (congrFun g2 (ix2 r l)).trans (e2 r l)
    have f3 : ∀ l, _ = _ := fun l => (congrFun g3 (ix1 l)).trans (e3 l)
    refine ⟨k1.trans ?_, k2.trans ?_, k3⟩
    · refine Eq.trans ?_ (Cert.DownIdeal.Prod.final4 m c _ _ _ e0 e1 e2).symm
      funext i
      idx_vars i
      pointwise
      simp only [f0, f1, f2]
      exact ref_row _ _ _ i0 i1
    · refine Eq.trans ?_ (Cert.DownIdeal.Prod.final5 m c _ _ _ _ e0 e1 e2 e3).symm
      funext i
      idx_vars i
      pointwise
      simp only [f0, f1, f2, f3, ref_row]
      rfl

end Cert.Down

end
-- ==== Proof.DownTValue.lean ====
module

public import proofs.«01_k».proof.Proof.Gen.DownTIdeal.Value
public import proofs.«01_k».proof.Proof.Sum
public import Idealize.ShloMosaic.Lib.Pipeline.ValueKit
public import Idealize.ShloMosaic.Lib.Claim

@[expose] public section

set_option maxRecDepth 16384

noncomputable section

namespace Cert.DownTIdeal.Prod

open Cert.DownTIdeal Cert.DownTIdeal.Gen Idealize.ShloMosaic Idealize.ShloMosaic.TcCoe Idealize.SL.Sem
open Idealize.ShloMosaic.Pipeline (Dat)
open Cert.Sum

/-- Which block of its array each window holds at each point of the grid. -/
theorem idx : ∀ t : Fin cfg0.N,
    win0_0.index t = ![t.val / 2, 0] ∧ win0_1.index t = ![t.val % 2, 0] ∧ win0_2.index t = ![t.val / 2, t.val % 2] :=
  (by decide +kernel : ∀ t : Fin grid0.N,
    win0_0.index t = ![t.val / 2, 0] ∧ win0_1.index t = ![t.val % 2, 0] ∧ win0_2.index t = ![t.val / 2, t.val % 2])

section
variable (m : (ℓ : Loc nD τ sig) → Buf (Elt Ideal) ℓ) (c : Dev nD) (x y : ℕ → ℕ → EReal)
  (h0 : ∀ (r : Fin 8192) (l : Fin 1024), m ((c : Thread nD τ).loc main_arg0) (ix2 r l) = x r l)
  (h1 : ∀ (r : Fin 2816) (l : Fin 1024), m ((c : Thread nD τ).loc main_arg1) (ix2 r l) = y r l)
  (t : Fin cfg0.N)

include h0 in
/-- The block of the first factor. -/
theorem blk0 (r : Fin 1024) (l : Fin 1024) :
    ((iblk m c 0 t : FVec Ideal S1024x1024 .f32) (ix2 r l) : EReal) = x (t.val / 2 * 1024 + r) l := by
  have hN : t.val < 16 := lt_of_lt_of_eq t.isLt N_0
  refine Eq.trans ?_ (h0 ⟨t.val / 2 * 1024 + r, by omega⟩ l)
  blk_ext [iblk, V, idx t]

include h1 in
/-- The block of the second factor. -/
theorem blk1 (r : Fin 1408) (l : Fin 1024) :
    ((iblk m c 1 t : FVec Ideal S1408x1024 .bf16) (ix2 r l) : EReal) = y (t.val % 2 * 1408 + r) l := by
  have hN : t.val < 16 := lt_of_lt_of_eq t.isLt N_0
  refine Eq.trans ?_ (h1 ⟨t.val % 2 * 1408 + r, by omega⟩ l)
  blk_ext [iblk, V, idx t]

include h0 h1 in
/-- What a point of the grid stores: the product of its two blocks. -/
theorem out (k : Fin 1024) (l : Fin 1408) :
    (out0_2 (iblk m c 0 t) (iblk m c 1 t) (ix2 k l) : EReal)
      = ∑ s : Fin 1024, x (t.val / 2 * 1024 + k) s * y (t.val % 2 * 1408 + l) s := by
  unfold out0_2
  frame_out
  pointwise [k0_pay1]
  simp only [blk0 m c x h0 t, blk1 m c y h1 t]

include h0 h1 in
/-- The array the kernel returns is the product. -/
theorem final : ((dats m 0 c).arrAt 2 cfg0.N : FVec Ideal S8192x2816 .bf16)
    = fun i => ∑ s : Fin 1024, x ((i 0).val) s * y ((i 1).val) s := by
  refine (dats m 0 c).arrAt_eq_of_covers 2 _ (by decide +kernel) fun t hf z => ?_
  blk_simp
  rw [after0_2]
  idx_vars z
  refine (out m c x y h0 h1 t z0 z1).trans ?_
  rw [(idx t).2.2]
  simp
end

end Cert.DownTIdeal.Prod

end
-- ==== Proof.DownTClaim.lean ====
module

public import proofs.«01_k».proof.Defs
public import proofs.«01_k».proof.Proof.DownTValue
public import proofs.«01_k».proof.Proof.Gen.DownTRefIdeal
public import proofs.«01_k».proof.Proof.Gen.DownTRefIdeal.Run

/-!
The gradient with respect to the feed-forward block's gated rows: the kernel returns what the reference returns.
-/

@[expose] public section

set_option maxRecDepth 16384

noncomputable section

namespace Cert.DownT

open Idealize.ShloMosaic Idealize.ShloMosaic.TcCoe Idealize.SL.Sem
open Cert.Sum

/-- The kernel and the reference return the same array. -/
theorem claim : Cert.algebraic_DownTIdeal_DownTRefIdeal (hDownTIdeal := Cert.DownTIdeal.Gen.facts) (hDownTRefIdeal := Cert.DownTRefIdeal.Gen.facts) := by
  intro m ρ m' ρ' _ hag
  refine ⟨fun c => (Cert.DownTIdeal.Gen.dats m 0 c).arrAt 2 Cert.DownTIdeal.cfg0.N,
    (θ_run Cert.DownTIdeal.defs _ _).mono (fun r h c => ?_) (Cert.DownTIdeal.Value.run_blocks m ρ),
    (θ_run Cert.DownTRefIdeal.defs _ _).mono (fun r h c => ?_) (Cert.DownTRefIdeal.Value.run m' ρ')⟩
  · exact h c
  · obtain ⟨g0, g1⟩ := hag c
    obtain ⟨k1, k2⟩ := h c
    refine ⟨k1.trans ?_, k2⟩
    refine Eq.trans ?_ (Cert.DownTIdeal.Prod.final m c _ _ (fun r l => at2_eq _ r l) (fun r l => at2_eq _ r l)).symm
    funext i
    idx_vars i
    pointwise
    refine Finset.sum_congr rfl fun s _ => ?_
    exact congrArg₂ (· * ·) ((congrFun g0 (ix2 i0 s)).trans (at2_eq _ i0 s)) ((congrFun g1 (ix2 i1 s)).trans (at2_eq _ i1 s))

end Cert.DownT

end
-- ==== Proof.GateValue.lean ====
module

public import proofs.«01_k».proof.Proof.Gen.GateIdeal.Value
public import proofs.«01_k».proof.Proof.Sum
public import Idealize.ShloMosaic.Lib.Pipeline.ValueKit
public import Idealize.ShloMosaic.Lib.Claim

@[expose] public section

set_option maxRecDepth 16384

noncomputable section

namespace Cert.GateIdeal.Prod

open Cert.GateIdeal Cert.GateIdeal.Gen Idealize.ShloMosaic Idealize.ShloMosaic.TcCoe Idealize.SL.Sem
open Idealize.ShloMosaic.Pipeline (Dat)
open Cert.Sum

/-- Which block of its array each window holds at each point of the grid. -/
theorem idx : ∀ t : Fin cfg0.N,
    win0_0.index t = ![t.val, 0] ∧ win0_1.index t = ![0, 0] ∧ win0_2.index t = ![t.val, 0] :=
  (by decide +kernel : ∀ t : Fin grid0.N,
    win0_0.index t = ![t.val, 0] ∧ win0_1.index t = ![0, 0] ∧ win0_2.index t = ![t.val, 0])

section
variable (m : (ℓ : Loc nD τ sig) → Buf (Elt Ideal) ℓ) (c : Dev nD) (x y : ℕ → ℕ → EReal)
  (h0 : ∀ (r : Fin 8192) (l : Fin 1024), m ((c : Thread nD τ).loc main_arg0) (ix2 r l) = x r l)
  (h1 : ∀ (r : Fin 1024) (l : Fin 1024), m ((c : Thread nD τ).loc main_arg1) (ix2 r l) = y r l)
  (t : Fin cfg0.N)

include h0 in
/-- The block of the first factor. -/
theorem blk0 (r : Fin 1024) (l : Fin 1024) :
    ((iblk m c 0 t : FVec Ideal S1024x1024 .bf16) (ix2 r l) : EReal) = x (t.val * 1024 + r) l := by
  have hN : t.val < 8 := lt_of_lt_of_eq t.isLt N_0
  refine Eq.trans ?_ (h0 ⟨t.val * 1024 + r, by omega⟩ l)
  blk_ext [iblk, V, idx t]

include h1 in
/-- The block of the second factor. -/
theorem blk1 (r : Fin 1024) (l : Fin 1024) :
    ((iblk m c 1 t : FVec Ideal S1024x1024 .bf16) (ix2 r l) : EReal) = y r l := by
  have hN : t.val < 8 := lt_of_lt_of_eq t.isLt N_0
  refine Eq.trans ?_ (h1 r l)
  blk_ext [iblk, V, idx t]

include h0 h1 in
/-- What a point of the grid stores: the product of its two blocks. -/
theorem out (k : Fin 1024) (l : Fin 1024) :
    (out0_2 (iblk m c 0 t) (iblk m c 1 t) (ix2 k l) : EReal)
      = ∑ s : Fin 1024, x (t.val * 1024 + k) s * y s (l) := by
  unfold out0_2
  frame_out
  pointwise [k0_pay1]
  simp only [blk0 m c x h0 t, blk1 m c y h1 t]

include h0 h1 in
/-- The array the kernel returns is the product. -/
theorem final : ((dats m 0 c).arrAt 2 cfg0.N : FVec Ideal S8192x1024 .bf16)
    = fun i => ∑ s : Fin 1024, x ((i 0).val) s * y s ((i 1).val) := by
  refine (dats m 0 c).arrAt_eq_of_covers 2 _ (by decide +kernel) fun t hf z => ?_
  blk_simp
  rw [after0_2]
  idx_vars z
  refine (out m c x y h0 h1 t z0 z1).trans ?_
  rw [(idx t).2.2]
  simp
end

end Cert.GateIdeal.Prod

end
-- ==== Proof.GateClaim.lean ====
module

public import proofs.«01_k».proof.Defs
public import proofs.«01_k».proof.Proof.GateValue
public import proofs.«01_k».proof.Proof.Gen.GateRefIdeal
public import proofs.«01_k».proof.Proof.Gen.GateRefIdeal.Run

/-!
The product of the layer input's gate: the kernel returns what the reference returns.
-/

@[expose] public section

set_option maxRecDepth 16384

noncomputable section

namespace Cert.Gate

open Idealize.ShloMosaic Idealize.ShloMosaic.TcCoe Idealize.SL.Sem
open Cert.Sum

/-- The kernel and the reference return the same array. -/
theorem claim : Cert.algebraic_GateIdeal_GateRefIdeal (hGateIdeal := Cert.GateIdeal.Gen.facts) (hGateRefIdeal := Cert.GateRefIdeal.Gen.facts) := by
  intro m ρ m' ρ' _ hag
  refine ⟨fun c => (Cert.GateIdeal.Gen.dats m 0 c).arrAt 2 Cert.GateIdeal.cfg0.N,
    (θ_run Cert.GateIdeal.defs _ _).mono (fun r h c => ?_) (Cert.GateIdeal.Value.run_blocks m ρ),
    (θ_run Cert.GateRefIdeal.defs _ _).mono (fun r h c => ?_) (Cert.GateRefIdeal.Value.run m' ρ')⟩
  · exact h c
  · obtain ⟨g0, g1⟩ := hag c
    obtain ⟨k1, k2⟩ := h c
    refine ⟨k1.trans ?_, k2⟩
    refine Eq.trans ?_ (Cert.GateIdeal.Prod.final m c _ _ (fun r l => at2_eq _ r l) (fun r l => at2_eq _ r l)).symm
    funext i
    idx_vars i
    pointwise
    refine Finset.sum_congr rfl fun s _ => ?_
    exact congrArg₂ (· * ·) ((congrFun g0 (ix2 i0 s)).trans (at2_eq _ i0 s)) ((congrFun g1 (ix2 s i1)).trans (at2_eq _ s i1))

end Cert.Gate

end
-- ==== Proof.FiniteGate.lean ====
module

public import proofs.«01_k».proof.Pre_finite_gate
public import proofs.«01_k».proof.Proof.Gen.Pre_finite_gate
public import proofs.«01_k».proof.Proof.Finite

/-!
What the precondition of the backward product of the layer input's gate says: every entry of the five arrays is a real number.
-/

@[expose] public section

set_option maxRecDepth 16384

noncomputable section

namespace Cert.Pre_finite_gate.Prod

open Cert.Pre_finite_gate Idealize.ShloMosaic
open Cert.Pre_finite.Conv (entry_real)

variable [Facts]

theorem real (A : FVec Ideal S8192x1024 .bf16) (W : FVec Ideal S1024x1024 .bf16) (D X : FVec Ideal S8192x1024 .f32) (G : FVec Ideal S1024 .f32)
    (h : fn (F := Ideal) A W D X G = fun _ => 1#1) :
    (∀ i, (A i : EReal) = ((A i : EReal).toReal : EReal)) ∧ (∀ i, (W i : EReal) = ((W i : EReal).toReal : EReal))
      ∧ (∀ i, (D i : EReal) = ((D i : EReal).toReal : EReal)) ∧ (∀ i, (X i : EReal) = ((X i : EReal).toReal : EReal))
      ∧ (∀ i, (G i : EReal) = ((G i : EReal).toReal : EReal)) := by
  haveI : Subsingleton S_.Idx := ⟨fun x y => funext fun a => Fin.elim0 a⟩
  have h' := congrFun h (fun a => Fin.elim0 a)
  unfold fn fn_part1 at h'
  dsimp only at h'
  obtain ⟨h1234, h5⟩ := IntOp.andi_eq_one.1 h'
  obtain ⟨h123, h4⟩ := IntOp.andi_eq_one.1 h1234
  obtain ⟨h12, h3⟩ := IntOp.andi_eq_one.1 h123
  obtain ⟨h1, h2⟩ := IntOp.andi_eq_one.1 h12
  exact ⟨fun i => entry_real _ (Host.reduce_andi_all _ _ _ _ _ h1 i), fun i => entry_real _ (Host.reduce_andi_all _ _ _ _ _ h2 i),
    fun i => entry_real _ (Host.reduce_andi_all _ _ _ _ _ h3 i), fun i => entry_real _ (Host.reduce_andi_all _ _ _ _ _ h4 i),
    fun i => entry_real _ (Host.reduce_andi_all _ _ _ _ _ h5 i)⟩

end Cert.Pre_finite_gate.Prod

end
-- ==== Proof.GateTValue.lean ====
module

public import proofs.«01_k».proof.Proof.Gen.GateTIdeal.Value
public import proofs.«01_k».proof.Proof.Norm
public import Idealize.ShloMosaic.Lib.Pipeline.ValueKit
public import Idealize.ShloMosaic.Lib.Pipeline.ReadBack
public import Idealize.ShloMosaic.Lib.Claim

@[expose] public section

set_option maxRecDepth 16384

noncomputable section

namespace Cert.GateTIdeal.Prod

open Cert.GateTIdeal Cert.GateTIdeal.Gen Idealize.ShloMosaic Idealize.ShloMosaic.TcCoe Idealize.SL.Sem
open Idealize.ShloMosaic.Pipeline (Dat)
open Cert.Sum Cert.Norm
open Cert.Conv (coe_sum)

/-- Which block of its array each window holds at each point of the grid. -/
theorem idx : ∀ t : Fin cfg0.N,
    win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![0, 0] :=
  (by decide +kernel : ∀ t : Fin grid0.N,
    win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![0, 0])

section
variable (m : (ℓ : Loc nD τ sig) → Buf (Elt Ideal) ℓ) (c : Dev nD) (a w d x : ℕ → ℕ → ℝ) (g : ℕ → ℝ)
  (h0 : ∀ (r : Fin 8192) (l : Fin 1024), m ((c : Thread nD τ).loc main_arg0) (ix2 r l) = ((a r l : ℝ) : EReal))
  (h1 : ∀ (r : Fin 1024) (l : Fin 1024), m ((c : Thread nD τ).loc main_arg1) (ix2 r l) = ((w r l : ℝ) : EReal))
  (h2 : ∀ (r : Fin 8192) (l : Fin 1024), m ((c : Thread nD τ).loc main_arg2) (ix2 r l) = ((d r l : ℝ) : EReal))
  (h3 : ∀ (r : Fin 8192) (l : Fin 1024), m ((c : Thread nD τ).loc main_arg3) (ix2 r l) = ((x r l : ℝ) : EReal))
  (h4 : ∀ (l : Fin 1024), m ((c : Thread nD τ).loc main_arg4) (ix1 l) = ((g l : ℝ) : EReal))
  (t : Fin cfg0.N)

include h0 in
/-- The block of the first factor. -/
theorem blk0 (r : Fin 1024) (l : Fin 1024) :
    ((iblk m c 0 t : FVec Ideal S1024x1024 .bf16) (ix2 r l) : EReal) = ((a (t.val * 1024 + r) l : ℝ) : EReal) := by
  have hN : t.val < 8 := lt_of_lt_of_eq t.isLt N_0
  refine Eq.trans ?_ (h0 ⟨t.val * 1024 + r, by omega⟩ l)
  blk_ext [iblk, V, idx t]

include h1 in
/-- The block of the second factor. -/
theorem blk1 (r : Fin 1024) (l : Fin 1024) :
    ((iblk m c 1 t : FVec Ideal S1024x1024 .bf16) (ix2 r l) : EReal) = ((w r l : ℝ) : EReal) := by
  have hN : t.val < 8 := lt_of_lt_of_eq t.isLt N_0
  refine Eq.trans ?_ (h1 r l)
  blk_ext [iblk, V, idx t]

include h2 in
/-- The block of the cotangent past the norm. -/
theorem blk2 (r : Fin 1024) (l : Fin 1024) :
    ((iblk m c 2 t : FVec Ideal S1024x1024 .f32) (ix2 r l) : EReal) = ((d (t.val * 1024 + r) l : ℝ) : EReal) := by
  have hN : t.val < 8 := lt_of_lt_of_eq t.isLt N_0
  refine Eq.trans ?_ (h2 ⟨t.val * 1024 + r, by omega⟩ l)
  blk_ext [iblk, V, idx t]

include h3 in
/-- The block of the norm's rows. -/
theorem blk3 (r : Fin 1024) (l : Fin 1024) :
    ((iblk m c 3 t : FVec Ideal S1024x1024 .f32) (ix2 r l) : EReal) = ((x (t.val * 1024 + r) l : ℝ) : EReal) := by
  have hN : t.val < 8 := lt_of_lt_of_eq t.isLt N_0
  refine Eq.trans ?_ (h3 ⟨t.val * 1024 + r, by omega⟩ l)
  blk_ext [iblk, V, idx t]

include h4 in
/-- The norm's gains. -/
theorem blk4 (l : Fin 1024) :
    ((iblk m c 4 t : FVec Ideal S1x1024 .f32) (ix2 0 l) : EReal) = ((g l : ℝ) : EReal) := by
  have hN : t.val < 8 := lt_of_lt_of_eq t.isLt N_0
  have e : (V m c main_v0 (ix2 0 l) : EReal) = ((g l : ℝ) : EReal) := by
    refine Eq.trans ?_ (h4 l)
    entry_read
    pointwise
  refine Eq.trans ?_ e
  blk_ext [iblk, idx t]

/-- The product's entry. -/
def prod (k l : ℕ) : ℝ := ∑ s ∈ Finset.range 1024, a k s * w l s

include h0 h1 in
/-- The product of the two blocks. -/
theorem part (k : Fin 1024) (l : Fin 1024) :
    (k0_pay2 (F := Ideal) (iblk m c 0 t) (iblk m c 1 t) (ix2 k l) : EReal) = ((prod a w (t.val * 1024 + k) l : ℝ) : EReal) := by
  pointwise [k0_pay2]
  unfold prod
  rw [Finset.sum_range]
  simp only [blk0 m c a h0 t, blk1 m c w h1 t, ← EReal.coe_mul, coe_sum]

include h3 in
/-- The normed rows. -/
theorem normed (k : Fin 1024) (l : Fin 1024) :
    (k0_pay5 (F := Ideal) (iblk m c 3 t) (ix2 k l) : EReal)
      = ((x (t.val * 1024 + k) l * sc (x (t.val * 1024 + k)) : ℝ) : EReal) := by
  pointwise [k0_pay5, k0_pay4]
  rw [ideal_sc _ _ (fun s => blk3 m c x h3 t k s), blk3 m c x h3 t k l, EReal.coe_mul]

include h0 h1 h2 h3 h4 in
/-- What a point of the grid stores into the first result. -/
theorem out5 (k : Fin 1024) (l : Fin 1024) :
    ((outsAt0 m c t.val t.isLt).1 (ix2 k l) : EReal)
      = ((dx (d (t.val * 1024 + k)) (prod a w (t.val * 1024 + k)) g (x (t.val * 1024 + k)) l : ℝ) : EReal) := by
  by_cases e : t.val % 8 = 0
  · rw [outsAt0_A m c t e]
    frame_out
    pointwise [k0_pay1, k0_pay4, k0_pay7, k0_pay8]
    exact kernel_dx _ (fun s => iblk m c 4 t (ix2 0 s)) _ _ (fun s => iblk m c 2 t (ix2 k s)) _ _ _ _
      (fun s => part m c a w h0 h1 t k s) (fun s => blk4 m c g h4 t s) (fun s => blk3 m c x h3 t k s)
      (fun s => normed m c x h3 t k s) (fun s => blk2 m c d h2 t k s) l
  · rw [outsAt0_B m c t e]
    frame_out
    pointwise [k0_pay1, k0_pay4, k0_pay7, k0_pay8]
    exact kernel_dx _ (fun s => iblk m c 4 t (ix2 0 s)) _ _ (fun s => iblk m c 2 t (ix2 k s)) _ _ _ _
      (fun s => part m c a w h0 h1 t k s) (fun s => blk4 m c g h4 t s) (fun s => blk3 m c x h3 t k s)
      (fun s => normed m c x h3 t k s) (fun s => blk2 m c d h2 t k s) l

include h0 h1 h3 in
/-- The first row block's summand of the gains' gradient. -/
theorem first6 (e : t.val % 8 = 0) (l : Fin 1024) :
    ((outsAt0 m c t.val t.isLt).2 (ix2 0 l) : EReal)
      = ((∑ s : Fin 1024, prod a w (t.val * 1024 + s) l * (x (t.val * 1024 + s) l * sc (x (t.val * 1024 + s))) : ℝ) : EReal) := by
  rw [outsAt0_A m c t e]
  frame_out
  pointwise [k0_pay6, k0_pay3]
  simp only [part m c a w h0 h1 t, normed m c x h3 t, ← EReal.coe_mul, coe_sum]

include h0 h1 h3 in
/-- A later row block's summand is added. -/
theorem add6 (e : ¬ t.val % 8 = 0) (l : Fin 1024) :
    ((outsAt0 m c t.val t.isLt).2 (ix2 0 l) : EReal)
      = (outsAt0 m c (t.val - 1) (lt_of_le_of_lt (Nat.sub_le _ _) t.isLt)).2 (ix2 0 l)
        + ((∑ s : Fin 1024, prod a w (t.val * 1024 + s) l * (x (t.val * 1024 + s) l * sc (x (t.val * 1024 + s))) : ℝ) : EReal) := by
  rw [outsAt0_B m c t e]
  frame_out
  pointwise [k0_pay6]
  simp only [part m c a w h0 h1 t, normed m c x h3 t, ← EReal.coe_mul, coe_sum]

include h0 h1 h3 in
/-- The gains' gradient so far: the rows of the row blocks that are done. -/
theorem so_far : ∀ (n : ℕ) (hn : n < cfg0.N) (l : Fin 1024),
    ((outsAt0 m c n hn).2 (ix2 0 l) : EReal)
      = ((∑ s ∈ Finset.range ((n + 1) * 1024), prod a w s l * (x s l * sc (x s)) : ℝ) : EReal) := by
  intro n
  induction n with
  | zero =>
    intro hn l
    refine (first6 m c a w x h0 h1 h3 ⟨0, hn⟩ rfl l).trans ?_
    exact congrArg _ (first 1024 (fun s => prod a w s l * (x s l * sc (x s)))).symm
  | succ n ih =>
    intro hn l
    have hN : n + 1 < 8 := lt_of_lt_of_eq hn N_0
    have f := ih (by omega) l
    refine (add6 m c a w x h0 h1 h3 ⟨n + 1, hn⟩ (show ¬ (n + 1) % 8 = 0 by omega) l).trans ?_
    simp only [Nat.add_sub_cancel]
    rw [f, ← EReal.coe_add, chunk 1024 _ (n + 1)]

include h0 h1 h2 h3 h4 in
/-- The first result is the gradient with respect to the rows. -/
theorem final5 : ((dats m 0 c).arrAt 5 cfg0.N : FVec Ideal S8192x1024 .f32)
    = fun i => ((dx (d (i 0).val) (prod a w (i 0).val) g (x (i 0).val) (i 1).val : ℝ) : EReal) := by
  refine (dats m 0 c).arrAt_eq_of_covers 5 _ (by decide +kernel) fun t hf z => ?_
  blk_simp
  rw [after0_5]
  idx_vars z
  refine (out5 m c a w d x g h0 h1 h2 h3 h4 t z0 z1).trans ?_
  rw [(idx t).2.2.2.2.2.1]
  simp

include h0 h1 h3 in
/-- The second result is the gradient with respect to the gains. -/
theorem final6 : ((dats m 0 c).arrAt 6 cfg0.N : FVec Ideal S1x1024 .f32)
    = fun i => ((∑ s ∈ Finset.range 8192, prod a w s (i 1).val * (x s (i 1).val * sc (x s)) : ℝ) : EReal) := by
  refine (dats m 0 c).arrAt_eq_of_covers 6 _ (by decide +kernel) fun t hf z => ?_
  blk_simp
  rw [after0_6]
  idx_vars z
  have hN : t.val < 8 := lt_of_lt_of_eq t.isLt N_0
  have e : t.val % 8 = 7 := (flush0_6 t).mp hf
  obtain rfl : z0 = 0 := Subsingleton.elim _ _
  refine (so_far m c a w x h0 h1 h3 t.val t.isLt z1).trans ?_
  rw [(idx t).2.2.2.2.2.2, show t.val = 7 by omega]
  simp

end

end Cert.GateTIdeal.Prod

end
-- ==== Proof.GateTClaim.lean ====
module

public import proofs.«01_k».proof.Defs
public import proofs.«01_k».proof.Proof.ConvClaim
public import proofs.«01_k».proof.Proof.FiniteGate
public import proofs.«01_k».proof.Proof.GateTValue
public import proofs.«01_k».proof.Proof.Gen.GateTRefIdeal
public import proofs.«01_k».proof.Proof.Gen.GateTRefIdeal.Run

/-!
The backward product of the layer input's gate with the norm's gradient: the kernel returns what the
reference returns.
-/

@[expose] public section

set_option maxRecDepth 16384

noncomputable section

namespace Cert.GateTRefIdeal.Prod

open Cert.GateTRefIdeal Cert.GateTRefIdeal.Value Idealize.ShloMosaic Idealize.ShloMosaic.TcCoe Idealize.SL.Sem
open Cert.Sum Cert.Norm
open Cert.Conv (coe_sum)

/-- The reference's product is the product of real numbers. -/
theorem coe_prod (a w : ℕ → ℕ → ℝ) (k l : ℕ) :
    ∑ s : Fin 1024, ((a k s : ℝ) : EReal) * ((w l s : ℝ) : EReal) = ((Cert.GateTIdeal.Prod.prod a w k l : ℝ) : EReal) := by
  unfold Cert.GateTIdeal.Prod.prod
  rw [Finset.sum_range]
  simp only [← EReal.coe_mul, coe_sum]

end Cert.GateTRefIdeal.Prod

namespace Cert.GateT

open Idealize.ShloMosaic Idealize.ShloMosaic.TcCoe Idealize.SL.Sem
open Cert.Sum Cert.Norm
open Cert.Conv (coe_sum real2 real1 real2_eq real1_eq)

/-- The kernel and the reference return the same two arrays. -/
theorem claim : Cert.algebraic_GateTIdeal_GateTRefIdeal_pre_finite_gate (hGateTIdeal := Cert.GateTIdeal.Gen.facts)
    (hGateTRefIdeal := Cert.GateTRefIdeal.Gen.facts) (hPre_finite_gate := Cert.Pre_finite_gate.Gen.facts) := by
  intro m ρ m' ρ' hpre hag
  have hr := fun c => Cert.Pre_finite_gate.Prod.real _ _ _ _ _ (hpre c)
  refine ⟨fun c => (Cert.GateTIdeal.Gen.dats m 0 c).arrAt 5 Cert.GateTIdeal.cfg0.N,
    fun c => (Cert.GateTIdeal.Gen.dats m 0 c).arrAt 6 Cert.GateTIdeal.cfg0.N,
    (θ_run Cert.GateTIdeal.defs _ _).mono (fun r h c => ?_) (Cert.GateTIdeal.Value.run_blocks m ρ),
    (θ_run Cert.GateTRefIdeal.defs _ _).mono (fun r h c => ?_) (Cert.GateTRefIdeal.Value.run m' ρ')⟩
  · exact h c
  · obtain ⟨hA, hW, hD, hX, hG⟩ := hr c
    obtain ⟨g0, g1, g2, g3, g4⟩ := hag c
    obtain ⟨k1, k2, k3⟩ := h c
    have e0 := real2_eq (m := 8192) (n := 1024) _ hA
    have e1 := real2_eq (m := 1024) (n := 1024) _ hW
    have e2 := real2_eq (m := 8192) (n := 1024) _ hD
    have e3 := real2_eq (m := 8192) (n := 1024) _ hX
    have e4 := real1_eq (n := 1024) _ hG
    have f0 : ∀ r l, _ = _ := fun r l => (congrFun g0 (ix2 r l)).trans (e0 r l)
    have f1 : ∀ r l, _ = _ := fun r l => (congrFun g1 (ix2 r l)).trans (e1 r l)
    have f2 : ∀ r l, _ = _ := fun r l => (congrFun g2 (ix2 r l)).trans (e2 r l)
    have f3 : ∀ r l, _ = _ := fun r l => (congrFun g3 (ix2 r l)).trans (e3 r l)
    have f4 : ∀ l, _ = _ := fun l => (congrFun g4 (ix1 l)).trans (e4 l)
    refine ⟨k1.trans ?_, k2.trans ?_, k3⟩
    · refine Eq.trans ?_ (Cert.GateTIdeal.Prod.final5 m c _ _ _ _ _ e0 e1 e2 e3 e4).symm
      funext i
      idx_vars i
      pointwise [Cert.GateTRefIdeal.Value.res_main_v40]
      simp only [f0, f1, f2, f3, f4, Cert.GateTRefIdeal.Prod.coe_prod]
      exact ref_coe_dx _ _ _ _ i1
    · refine Eq.trans ?_ (Cert.GateTIdeal.Prod.final6 m c _ _ _ e0 e1 e3).symm
      funext i
      idx_vars i
      pointwise
      simp only [f0, f1, Cert.GateTRefIdeal.Prod.coe_prod, ideal_sc _ _ (fun s => f3 _ s)]
      simp only [f3, ← EReal.coe_mul, coe_sum, Fin.sum_univ_one]
      rw [Finset.sum_range]
      refine congrArg _ (Finset.sum_congr rfl fun s _ => ?_)
      ring

end Cert.GateT

end
-- ==== Proof.InProjValue.lean ====
module

public import proofs.«01_k».proof.Proof.Gen.InProjIdeal.Value
public import proofs.«01_k».proof.Proof.Sum
public import Idealize.ShloMosaic.Lib.Pipeline.ValueKit
public import Idealize.ShloMosaic.Lib.Claim

@[expose] public section

set_option maxRecDepth 16384

noncomputable section

namespace Cert.InProjIdeal.Prod

open Cert.InProjIdeal Cert.InProjIdeal.Gen Idealize.ShloMosaic Idealize.ShloMosaic.TcCoe Idealize.SL.Sem
open Idealize.ShloMosaic.Pipeline (Dat)
open Cert.Sum

/-- Which block of its array each window holds at each point of the grid. -/
theorem idx : ∀ t : Fin cfg0.N,
    win0_0.index t = ![t.val / 2, 0] ∧ win0_1.index t = ![t.val % 2, 0] ∧ win0_2.index t = ![t.val / 2, t.val % 2] :=
  (by decide +kernel : ∀ t : Fin grid0.N,
    win0_0.index t = ![t.val / 2, 0] ∧ win0_1.index t = ![t.val % 2, 0] ∧ win0_2.index t = ![t.val / 2, t.val % 2])

section
variable (m : (ℓ : Loc nD τ sig) → Buf (Elt Ideal) ℓ) (c : Dev nD) (x y : ℕ → ℕ → EReal)
  (h0 : ∀ (r : Fin 8192) (l : Fin 1024), m ((c : Thread nD τ).loc main_arg0) (ix2 r l) = x r l)
  (h1 : ∀ (r : Fin 2304) (l : Fin 1024), m ((c : Thread nD τ).loc main_arg1) (ix2 r l) = y r l)
  (t : Fin cfg0.N)

include h0 in
/-- The block of the first factor. -/
theorem blk0 (r : Fin 1024) (l : Fin 1024) :
    ((iblk m c 0 t : FVec Ideal S1024x1024 .bf16) (ix2 r l) : EReal) = x (t.val / 2 * 1024 + r) l := by
  have hN : t.val < 16 := lt_of_lt_of_eq t.isLt N_0
  refine Eq.trans ?_ (h0 ⟨t.val / 2 * 1024 + r, by omega⟩ l)
  blk_ext [iblk, V, idx t]

include h1 in
/-- The block of the second factor. -/
theorem blk1 (r : Fin 1152) (l : Fin 1024) :
    ((iblk m c 1 t : FVec Ideal S1152x1024 .bf16) (ix2 r l) : EReal) = y (t.val % 2 * 1152 + r) l := by
  have hN : t.val < 16 := lt_of_lt_of_eq t.isLt N_0
  refine Eq.trans ?_ (h1 ⟨t.val % 2 * 1152 + r, by omega⟩ l)
  blk_ext [iblk, V, idx t]

include h0 h1 in
/-- What a point of the grid stores: the product of its two blocks. -/
theorem out (k : Fin 1024) (l : Fin 1152) :
    (out0_2 (iblk m c 0 t) (iblk m c 1 t) (ix2 k l) : EReal)
      = ∑ s : Fin 1024, x (t.val / 2 * 1024 + k) s * y (t.val % 2 * 1152 + l) s := by
  unfold out0_2
  frame_out
  pointwise [k0_pay1]
  simp only [blk0 m c x h0 t, blk1 m c y h1 t]

include h0 h1 in
/-- The array the kernel returns is the product. -/
theorem final : ((dats m 0 c).arrAt 2 cfg0.N : FVec Ideal S8192x2304 .f32)
    = fun i => ∑ s : Fin 1024, x ((i 0).val) s * y ((i 1).val) s := by
  refine (dats m 0 c).arrAt_eq_of_covers 2 _ (by decide +kernel) fun t hf z => ?_
  blk_simp
  rw [after0_2]
  idx_vars z
  refine (out m c x y h0 h1 t z0 z1).trans ?_
  rw [(idx t).2.2]
  simp
end

end Cert.InProjIdeal.Prod

end
-- ==== Proof.InProjClaim.lean ====
module

public import proofs.«01_k».proof.Defs
public import proofs.«01_k».proof.Proof.InProjValue
public import proofs.«01_k».proof.Proof.Gen.InProjRefIdeal
public import proofs.«01_k».proof.Proof.Gen.InProjRefIdeal.Run

/-!
The input projection: the kernel returns what the reference returns.
-/

@[expose] public section

set_option maxRecDepth 16384

noncomputable section

namespace Cert.InProj

open Idealize.ShloMosaic Idealize.ShloMosaic.TcCoe Idealize.SL.Sem
open Cert.Sum

/-- The kernel and the reference return the same array. -/
theorem claim : Cert.algebraic_InProjIdeal_InProjRefIdeal (hInProjIdeal := Cert.InProjIdeal.Gen.facts) (hInProjRefIdeal := Cert.InProjRefIdeal.Gen.facts) := by
  intro m ρ m' ρ' _ hag
  refine ⟨fun c => (Cert.InProjIdeal.Gen.dats m 0 c).arrAt 2 Cert.InProjIdeal.cfg0.N,
    (θ_run Cert.InProjIdeal.defs _ _).mono (fun r h c => ?_) (Cert.InProjIdeal.Value.run_blocks m ρ),
    (θ_run Cert.InProjRefIdeal.defs _ _).mono (fun r h c => ?_) (Cert.InProjRefIdeal.Value.run m' ρ')⟩
  · exact h c
  · obtain ⟨g0, g1⟩ := hag c
    obtain ⟨k1, k2⟩ := h c
    refine ⟨k1.trans ?_, k2⟩
    refine Eq.trans ?_ (Cert.InProjIdeal.Prod.final m c _ _ (fun r l => at2_eq _ r l) (fun r l => at2_eq _ r l)).symm
    funext i
    idx_vars i
    pointwise
    refine Finset.sum_congr rfl fun s _ => ?_
    exact congrArg₂ (· * ·) ((congrFun g0 (ix2 i0 s)).trans (at2_eq _ i0 s)) ((congrFun g1 (ix2 i1 s)).trans (at2_eq _ i1 s))

end Cert.InProj

end
-- ==== Proof.FiniteIn.lean ====
module

public import proofs.«01_k».proof.Pre_finite_in
public import proofs.«01_k».proof.Proof.Gen.Pre_finite_in
public import proofs.«01_k».proof.Proof.Finite

/-!
What the precondition of the backward product of the input projection says: every entry of the five arrays is a real number.
-/

@[expose] public section

set_option maxRecDepth 16384

noncomputable section

namespace Cert.Pre_finite_in.Prod

open Cert.Pre_finite_in Idealize.ShloMosaic
open Cert.Pre_finite.Conv (entry_real)

variable [Facts]

theorem real (A : FVec Ideal S8192x2304 .bf16) (W : FVec Ideal S2304x1024 .bf16) (D X : FVec Ideal S8192x1024 .f32) (G : FVec Ideal S1024 .f32)
    (h : fn (F := Ideal) A W D X G = fun _ => 1#1) :
    (∀ i, (A i : EReal) = ((A i : EReal).toReal : EReal)) ∧ (∀ i, (W i : EReal) = ((W i : EReal).toReal : EReal))
      ∧ (∀ i, (D i : EReal) = ((D i : EReal).toReal : EReal)) ∧ (∀ i, (X i : EReal) = ((X i : EReal).toReal : EReal))
      ∧ (∀ i, (G i : EReal) = ((G i : EReal).toReal : EReal)) := by
  haveI : Subsingleton S_.Idx := ⟨fun x y => funext fun a => Fin.elim0 a⟩
  have h' := congrFun h (fun a => Fin.elim0 a)
  unfold fn fn_part1 at h'
  dsimp only at h'
  obtain ⟨h1234, h5⟩ := IntOp.andi_eq_one.1 h'
  obtain ⟨h123, h4⟩ := IntOp.andi_eq_one.1 h1234
  obtain ⟨h12, h3⟩ := IntOp.andi_eq_one.1 h123
  obtain ⟨h1, h2⟩ := IntOp.andi_eq_one.1 h12
  exact ⟨fun i => entry_real _ (Host.reduce_andi_all _ _ _ _ _ h1 i), fun i => entry_real _ (Host.reduce_andi_all _ _ _ _ _ h2 i),
    fun i => entry_real _ (Host.reduce_andi_all _ _ _ _ _ h3 i), fun i => entry_real _ (Host.reduce_andi_all _ _ _ _ _ h4 i),
    fun i => entry_real _ (Host.reduce_andi_all _ _ _ _ _ h5 i)⟩

end Cert.Pre_finite_in.Prod

end
-- ==== Proof.InTValue.lean ====
module

public import proofs.«01_k».proof.Proof.Gen.InTIdeal.Value
public import proofs.«01_k».proof.Proof.Norm
public import Idealize.ShloMosaic.Lib.Pipeline.ValueKit
public import Idealize.ShloMosaic.Lib.Pipeline.ReadBack
public import Idealize.ShloMosaic.Lib.Claim

@[expose] public section

set_option maxRecDepth 16384

noncomputable section

namespace Cert.InTIdeal.Prod

open Cert.InTIdeal Cert.InTIdeal.Gen Idealize.ShloMosaic Idealize.ShloMosaic.TcCoe Idealize.SL.Sem
open Idealize.ShloMosaic.Pipeline (Dat)
open Cert.Sum Cert.Norm
open Cert.Conv (coe_sum)

/-- Which block of its array each window holds at each point of the grid. -/
theorem idx : ∀ t : Fin cfg0.N,
    win0_0.index t = ![t.val / 2, t.val % 2] ∧ win0_1.index t = ![t.val % 2, 0] ∧ win0_2.index t = ![t.val / 2, 0]
    ∧ win0_3.index t = ![t.val / 2, 0] ∧ win0_4.index t = ![0, 0] ∧ win0_5.index t = ![t.val / 2, 0] ∧ win0_6.index t = ![0, 0] :=
  (by decide +kernel : ∀ t : Fin grid0.N,
    win0_0.index t = ![t.val / 2, t.val % 2] ∧ win0_1.index t = ![t.val % 2, 0] ∧ win0_2.index t = ![t.val / 2, 0]
    ∧ win0_3.index t = ![t.val / 2, 0] ∧ win0_4.index t = ![0, 0] ∧ win0_5.index t = ![t.val / 2, 0] ∧ win0_6.index t = ![0, 0])

section
variable (m : (ℓ : Loc nD τ sig) → Buf (Elt Ideal) ℓ) (c : Dev nD) (a w d x : ℕ → ℕ → ℝ) (g : ℕ → ℝ)
  (h0 : ∀ (r : Fin 8192) (l : Fin 2304), m ((c : Thread nD τ).loc main_arg0) (ix2 r l) = ((a r l : ℝ) : EReal))
  (h1 : ∀ (r : Fin 2304) (l : Fin 1024), m ((c : Thread nD τ).loc main_arg1) (ix2 r l) = ((w r l : ℝ) : EReal))
  (h2 : ∀ (r : Fin 8192) (l : Fin 1024), m ((c : Thread nD τ).loc main_arg2) (ix2 r l) = ((d r l : ℝ) : EReal))
  (h3 : ∀ (r : Fin 8192) (l : Fin 1024), m ((c : Thread nD τ).loc main_arg3) (ix2 r l) = ((x r l : ℝ) : EReal))
  (h4 : ∀ (l : Fin 1024), m ((c : Thread nD τ).loc main_arg4) (ix1 l) = ((g l : ℝ) : EReal))
  (t : Fin cfg0.N)

include h0 in
/-- The block of the first factor. -/
theorem blk0 (r : Fin 1024) (l : Fin 1152) :
    ((iblk m c 0 t : FVec Ideal S1024x1152 .bf16) (ix2 r l) : EReal) = ((a (t.val / 2 * 1024 + r) (t.val % 2 * 1152 + l) : ℝ) : EReal) := by
  have hN : t.val < 16 := lt_of_lt_of_eq t.isLt N_0
  refine Eq.trans ?_ (h0 ⟨t.val / 2 * 1024 + r, by omega⟩ ⟨t.val % 2 * 1152 + l, by omega⟩)
  blk_ext [iblk, V, idx t]

include h1 in
/-- The block of the second factor. -/
theorem blk1 (r : Fin 1152) (l : Fin 1024) :
    ((iblk m c 1 t : FVec Ideal S1152x1024 .bf16) (ix2 r l) : EReal) = ((w (t.val % 2 * 1152 + r) l : ℝ) : EReal) := by
  have hN : t.val < 16 := lt_of_lt_of_eq t.isLt N_0
  refine Eq.trans ?_ (h1 ⟨t.val % 2 * 1152 + r, by omega⟩ l)
  blk_ext [iblk, V, idx t]

include h2 in
/-- The block of the cotangent past the norm. -/
theorem blk2 (r : Fin 1024) (l : Fin 1024) :
    ((iblk m c 2 t : FVec Ideal S1024x1024 .f32) (ix2 r l) : EReal) = ((d (t.val / 2 * 1024 + r) l : ℝ) : EReal) := by
  have hN : t.val < 16 := lt_of_lt_of_eq t.isLt N_0
  refine Eq.trans ?_ (h2 ⟨t.val / 2 * 1024 + r, by omega⟩ l)
  blk_ext [iblk, V, idx t]

include h3 in
/-- The block of the norm's rows. -/
theorem blk3 (r : Fin 1024) (l : Fin 1024) :
    ((iblk m c 3 t : FVec Ideal S1024x1024 .f32) (ix2 r l) : EReal) = ((x (t.val / 2 * 1024 + r) l : ℝ) : EReal) := by
  have hN : t.val < 16 := lt_of_lt_of_eq t.isLt N_0
  refine Eq.trans ?_ (h3 ⟨t.val / 2 * 1024 + r, by omega⟩ l)
  blk_ext [iblk, V, idx t]

include h4 in
/-- The norm's gains. -/
theorem blk4 (l : Fin 1024) :
    ((iblk m c 4 t : FVec Ideal S1x1024 .f32) (ix2 0 l) : EReal) = ((g l : ℝ) : EReal) := by
  have hN : t.val < 16 := lt_of_lt_of_eq t.isLt N_0
  have e : (V m c main_v0 (ix2 0 l) : EReal) = ((g l : ℝ) : EReal) := by
    refine Eq.trans ?_ (h4 l)
    entry_read
    pointwise
  refine Eq.trans ?_ e
  blk_ext [iblk, idx t]

include h0 h1 in
/-- The product of the two blocks. -/
theorem part (k : Fin 1024) (l : Fin 1024) :
    (k0_pay1 (F := Ideal) (iblk m c 0 t) (iblk m c 1 t) (ix2 k l) : EReal)
      = ((∑ s : Fin 1152, a (t.val / 2 * 1024 + k) (t.val % 2 * 1152 + s) * w (t.val % 2 * 1152 + s) l : ℝ) : EReal) := by
  pointwise [k0_pay1]
  simp only [blk0 m c a h0 t, blk1 m c w h1 t, ← EReal.coe_mul, coe_sum]

include h0 h1 in
/-- The first chunk is stored. -/
theorem reset (e : t.val % 2 = 0) (k : Fin 1024) (l : Fin 1024) :
    ((outsAt0 m c t.val t.isLt).2.2 (ix2 k l) : EReal)
      = ((∑ s : Fin 1152, a (t.val / 2 * 1024 + k) (t.val % 2 * 1152 + s) * w (t.val % 2 * 1152 + s) l : ℝ) : EReal) := by
  rw [← part m c a w h0 h1 t k l]
  by_cases e' : t.val % 16 = 0
  · rw [outsAt0_A m c t e' e (by omega)]
    frame_out
    pointwise [k0_pay3]
  · rw [outsAt0_C m c t e' e (by omega)]
    frame_out
    pointwise [k0_pay3]

/-- The product's entry. -/
def prod (k l : ℕ) : ℝ := ∑ s ∈ Finset.range 2304, a k s * w s l

include h0 h1 in
/-- At the last chunk the carried sum and the chunk are the whole product. -/
theorem whole (e : t.val % 2 = 1) (k : Fin 1024) (l : Fin 1024) :
    (k0_pay5 (F := Ideal) (iblk m c 0 t) (iblk m c 1 t) ((outsAt0 m c (t.val - 1) (lt_of_le_of_lt (Nat.sub_le _ _) t.isLt)).2.2) (ix2 k l) : EReal)
      = ((prod a w (t.val / 2 * 1024 + k) l : ℝ) : EReal) := by
  have hN : t.val < 16 := lt_of_lt_of_eq t.isLt N_0
  have f := reset m c a w h0 h1 ⟨t.val - 1, lt_of_le_of_lt (Nat.sub_le _ _) t.isLt⟩ (show (t.val - 1) % 2 = 0 by omega) k l
  have f' := part m c a w h0 h1 t k l
  simp only [show (t.val - 1) % 2 = 0 by omega, show (t.val - 1) / 2 = t.val / 2 by omega] at f
  rw [e] at f'
  pointwise [k0_pay5]
  rw [f, f', ← EReal.coe_add]
  refine congrArg _ (Eq.trans ?_ (chunk 1152 (fun s => a (t.val / 2 * 1024 + k) s * w s l) 1).symm)
  rw [← first 1152 (fun s => a (t.val / 2 * 1024 + k) s * w s l)]

include h3 in
/-- The normed rows. -/
theorem normed (k : Fin 1024) (l : Fin 1024) :
    (k0_pay7 (F := Ideal) (iblk m c 3 t) (ix2 k l) : EReal)
      = ((x (t.val / 2 * 1024 + k) l * sc (x (t.val / 2 * 1024 + k)) : ℝ) : EReal) := by
  pointwise [k0_pay7, k0_pay6]
  rw [ideal_sc _ _ (fun s => blk3 m c x h3 t k s), blk3 m c x h3 t k l, EReal.coe_mul]

include h0 h1 h2 h3 h4 in
/-- What the last point of a row of blocks stores into the first result. -/
theorem out5 (e : t.val % 2 = 1) (k : Fin 1024) (l : Fin 1024) :
    ((outsAt0 m c t.val t.isLt).1 (ix2 k l) : EReal)
      = ((dx (d (t.val / 2 * 1024 + k)) (prod a w (t.val / 2 * 1024 + k)) g (x (t.val / 2 * 1024 + k)) l : ℝ) : EReal) := by
  rw [outsAt0_B m c t (by omega) (by omega) e]
  frame_out
  pointwise [k0_pay9, k0_pay6]
  rw [read_unread_whole cc0_scratch0]
  exact kernel_dx _ (fun s => iblk m c 4 t (ix2 0 s)) _ _ (fun s => iblk m c 2 t (ix2 k s)) _ _ _ _
    (fun s => whole m c a w h0 h1 t e k s) (fun s => blk4 m c g h4 t s) (fun s => blk3 m c x h3 t k s)
    (fun s => normed m c x h3 t k s) (fun s => blk2 m c d h2 t k s) l

include h0 h1 h3 in
/-- The row's summand of the gains' gradient is added at the last point of a row of blocks. -/
theorem add6 (e : t.val % 2 = 1) (l : Fin 1024) :
    ((outsAt0 m c t.val t.isLt).2.1 (ix2 0 l) : EReal)
      = (outsAt0 m c (t.val - 1) (lt_of_le_of_lt (Nat.sub_le _ _) t.isLt)).2.1 (ix2 0 l)
        + ((∑ s : Fin 1024, prod a w (t.val / 2 * 1024 + s) l * (x (t.val / 2 * 1024 + s) l * sc (x (t.val / 2 * 1024 + s))) : ℝ) : EReal) := by
  rw [outsAt0_B m c t (by omega) (by omega) e]
  frame_out
  pointwise [k0_pay8]
  rw [read_unread_whole cc0_scratch0]
  simp only [whole m c a w h0 h1 t e, normed m c x h3 t, ← EReal.coe_mul, coe_sum]

theorem zero6 (e : t.val % 16 = 0) (l : Fin 1024) : ((outsAt0 m c t.val t.isLt).2.1 (ix2 0 l) : EReal) = ((0 : ℝ) : EReal) := by
  rw [outsAt0_A m c t e (by omega) (by omega)]
  frame_out
  pointwise [k0_pay2]
  exact EReal.coe_zero.symm

theorem keep6 (e : ¬ t.val % 16 = 0) (e' : ¬ t.val % 2 = 1) : (outsAt0 m c t.val t.isLt).2.1
    = (outsAt0 m c (t.val - 1) (lt_of_le_of_lt (Nat.sub_le _ _) t.isLt)).2.1 := by
  rw [outsAt0_C m c t e (by omega) e']
  rfl

include h0 h1 h3 in
/-- The gains' gradient so far: the rows of the row blocks that are done. -/
theorem so_far : ∀ (n : ℕ) (hn : n < cfg0.N) (l : Fin 1024),
    ((outsAt0 m c n hn).2.1 (ix2 0 l) : EReal)
      = ((∑ s ∈ Finset.range ((n + 1) / 2 * 1024), prod a w s l * (x s l * sc (x s)) : ℝ) : EReal) := by
  intro n
  induction n with
  | zero =>
    intro hn l
    exact (zero6 m c ⟨0, hn⟩ rfl l).trans (congrArg _ (by simp))
  | succ n ih =>
    intro hn l
    have hN : n + 1 < 16 := lt_of_lt_of_eq hn N_0
    have f := ih (by omega) l
    by_cases e : (n + 1) % 2 = 1
    · refine (add6 m c a w x h0 h1 h3 ⟨n + 1, hn⟩ e l).trans ?_
      simp only [Nat.add_sub_cancel]
      rw [f, ← EReal.coe_add, show (n + 1 + 1) / 2 = (n + 1) / 2 + 1 by omega, chunk]
    · refine (congrFun (keep6 m c ⟨n + 1, hn⟩ (show ¬ (n + 1) % 16 = 0 by omega) e) (ix2 0 l)).trans ?_
      simp only [Nat.add_sub_cancel]
      rw [f, show (n + 1 + 1) / 2 = (n + 1) / 2 by omega]

include h0 h1 h2 h3 h4 in
/-- The first result is the gradient with respect to the rows. -/
theorem final5 : ((dats m 0 c).arrAt 5 cfg0.N : FVec Ideal S8192x1024 .f32)
    = fun i => ((dx (d (i 0).val) (prod a w (i 0).val) g (x (i 0).val) (i 1).val : ℝ) : EReal) := by
  refine (dats m 0 c).arrAt_eq_of_covers 5 _ (by decide +kernel) fun t hf z => ?_
  blk_simp
  rw [after0_5]
  idx_vars z
  refine (out5 m c a w d x g h0 h1 h2 h3 h4 t ((flush0_5 t).mp hf) z0 z1).trans ?_
  rw [(idx t).2.2.2.2.2.1]
  simp

include h0 h1 h3 in
/-- The second result is the gradient with respect to the gains. -/
theorem final6 : ((dats m 0 c).arrAt 6 cfg0.N : FVec Ideal S1x1024 .f32)
    = fun i => ((∑ s ∈ Finset.range 8192, prod a w s (i 1).val * (x s (i 1).val * sc (x s)) : ℝ) : EReal) := by
  refine (dats m 0 c).arrAt_eq_of_covers 6 _ (by decide +kernel) fun t hf z => ?_
  blk_simp
  rw [after0_6]
  idx_vars z
  have hN : t.val < 16 := lt_of_lt_of_eq t.isLt N_0
  have e : t.val % 16 = 15 := (flush0_6 t).mp hf
  obtain rfl : z0 = 0 := Subsingleton.elim _ _
  refine (so_far m c a w x h0 h1 h3 t.val t.isLt z1).trans ?_
  rw [(idx t).2.2.2.2.2.2, show (t.val + 1) / 2 = 8 by omega]
  simp

end

end Cert.InTIdeal.Prod

end
-- ==== Proof.InTClaim.lean ====
module

public import proofs.«01_k».proof.Defs
public import proofs.«01_k».proof.Proof.ConvClaim
public import proofs.«01_k».proof.Proof.FiniteIn
public import proofs.«01_k».proof.Proof.InTValue
public import proofs.«01_k».proof.Proof.Gen.InTRefIdeal
public import proofs.«01_k».proof.Proof.Gen.InTRefIdeal.Run

/-!
The backward product of the input projection with the norm's gradient: the kernel returns what the
reference returns.
-/

@[expose] public section

set_option maxRecDepth 16384

noncomputable section

namespace Cert.InTRefIdeal.Prod

open Cert.InTRefIdeal Cert.InTRefIdeal.Value Idealize.ShloMosaic Idealize.ShloMosaic.TcCoe Idealize.SL.Sem
open Cert.Sum Cert.Norm
open Cert.Conv (coe_sum)

/-- The reference's product is the product of real numbers. -/
theorem coe_prod (a w : ℕ → ℕ → ℝ) (k l : ℕ) :
    ∑ s : Fin 2304, ((a k s : ℝ) : EReal) * ((w s l : ℝ) : EReal) = ((Cert.InTIdeal.Prod.prod a w k l : ℝ) : EReal) := by
  unfold Cert.InTIdeal.Prod.prod
  rw [Finset.sum_range]
  simp only [← EReal.coe_mul, coe_sum]

end Cert.InTRefIdeal.Prod

namespace Cert.InT

open Idealize.ShloMosaic Idealize.ShloMosaic.TcCoe Idealize.SL.Sem
open Cert.Sum Cert.Norm
open Cert.Conv (coe_sum real2 real1 real2_eq real1_eq)

/-- The kernel and the reference return the same two arrays. -/
theorem claim : Cert.algebraic_InTIdeal_InTRefIdeal_pre_finite_in (hInTIdeal := Cert.InTIdeal.Gen.facts)
    (hInTRefIdeal := Cert.InTRefIdeal.Gen.facts) (hPre_finite_in := Cert.Pre_finite_in.Gen.facts) := by
  intro m ρ m' ρ' hpre hag
  have hr := fun c => Cert.Pre_finite_in.Prod.real _ _ _ _ _ (hpre c)
  refine ⟨fun c => (Cert.InTIdeal.Gen.dats m 0 c).arrAt 5 Cert.InTIdeal.cfg0.N,
    fun c => (Cert.InTIdeal.Gen.dats m 0 c).arrAt 6 Cert.InTIdeal.cfg0.N,
    (θ_run Cert.InTIdeal.defs _ _).mono (fun r h c => ?_) (Cert.InTIdeal.Value.run_blocks m ρ),
    (θ_run Cert.InTRefIdeal.defs _ _).mono (fun r h c => ?_) (Cert.InTRefIdeal.Value.run m' ρ')⟩
  · exact h c
  · obtain ⟨hA, hW, hD, hX, hG⟩ := hr c
    obtain ⟨g0, g1, g2, g3, g4⟩ := hag c
    obtain ⟨k1, k2, k3⟩ := h c
    have e0 := real2_eq (m := 8192) (n := 2304) _ hA
    have e1 := real2_eq (m := 2304) (n := 1024) _ hW
    have e2 := real2_eq (m := 8192) (n := 1024) _ hD
    have e3 := real2_eq (m := 8192) (n := 1024) _ hX
    have e4 := real1_eq (n := 1024) _ hG
    have f0 : ∀ r l, _ = _ := fun r l => (congrFun g0 (ix2 r l)).trans (e0 r l)
    have f1 : ∀ r l, _ = _ := fun r l => (congrFun g1 (ix2 r l)).trans (e1 r l)
    have f2 : ∀ r l, _ = _ := fun r l => (congrFun g2 (ix2 r l)).trans (e2 r l)
    have f3 : ∀ r l, _ = _ := fun r l => (congrFun g3 (ix2 r l)).trans (e3 r l)
    have f4 : ∀ l, _ = _ := fun l => (congrFun g4 (ix1 l)).trans (e4 l)
    refine ⟨k1.trans ?_, k2.trans ?_, k3⟩
    · refine Eq.trans ?_ (Cert.InTIdeal.Prod.final5 m c _ _ _ _ _ e0 e1 e2 e3 e4).symm
      funext i
      idx_vars i
      pointwise [Cert.InTRefIdeal.Value.res_main_v41]
      simp only [f0, f1, f2, f3, f4, Cert.InTRefIdeal.Prod.coe_prod]
      exact ref_coe_dx _ _ _ _ i1
    · refine Eq.trans ?_ (Cert.InTIdeal.Prod.final6 m c _ _ _ e0 e1 e3).symm
      funext i
      idx_vars i
      pointwise
      simp only [f0, f1, Cert.InTRefIdeal.Prod.coe_prod, ideal_sc _ _ (fun s => f3 _ s)]
      simp only [f3, ← EReal.coe_mul, coe_sum, Fin.sum_univ_one]
      rw [Finset.sum_range]
      refine congrArg _ (Finset.sum_congr rfl fun s _ => ?_)
      ring

end Cert.InT

end
-- ==== Proof.ProjValue.lean ====
module

public import proofs.«01_k».proof.Proof.Gen.ProjIdeal.Value
public import proofs.«01_k».proof.Proof.Sum
public import Idealize.ShloMosaic.Lib.Pipeline.ValueKit
public import Idealize.ShloMosaic.Lib.Claim

@[expose] public section

set_option maxRecDepth 16384

noncomputable section

namespace Cert.ProjIdeal.Prod

open Cert.ProjIdeal Cert.ProjIdeal.Gen Idealize.ShloMosaic Idealize.ShloMosaic.TcCoe Idealize.SL.Sem
open Idealize.ShloMosaic.Pipeline (Dat)
open Cert.Sum

/-- Which block of its array each window holds at each point of the grid. -/
theorem idx : ∀ t : Fin cfg0.N,
    win0_0.index t = ![t.val, 0] ∧ win0_1.index t = ![0, 0] ∧ win0_2.index t = ![t.val, 0] :=
  (by decide +kernel : ∀ t : Fin grid0.N,
    win0_0.index t = ![t.val, 0] ∧ win0_1.index t = ![0, 0] ∧ win0_2.index t = ![t.val, 0])

section
variable (m : (ℓ : Loc nD τ sig) → Buf (Elt Ideal) ℓ) (c : Dev nD) (x y : ℕ → ℕ → EReal)
  (h0 : ∀ (r : Fin 8192) (l : Fin 256), m ((c : Thread nD τ).loc main_arg0) (ix2 r l) = x r l)
  (h1 : ∀ (r : Fin 1024) (l : Fin 256), m ((c : Thread nD τ).loc main_arg1) (ix2 r l) = y r l)
  (t : Fin cfg0.N)

include h0 in
/-- The block of the first factor. -/
theorem blk0 (r : Fin 1024) (l : Fin 256) :
    ((iblk m c 0 t : FVec Ideal S1024x256 .f32) (ix2 r l) : EReal) = x (t.val * 1024 + r) l := by
  have hN : t.val < 8 := lt_of_lt_of_eq t.isLt N_0
  refine Eq.trans ?_ (h0 ⟨t.val * 1024 + r, by omega⟩ l)
  blk_ext [iblk, V, idx t]

include h1 in
/-- The block of the second factor. -/
theorem blk1 (r : Fin 1024) (l : Fin 256) :
    ((iblk m c 1 t : FVec Ideal S1024x256 .bf16) (ix2 r l) : EReal) = y r l := by
  have hN : t.val < 8 := lt_of_lt_of_eq t.isLt N_0
  refine Eq.trans ?_ (h1 r l)
  blk_ext [iblk, V, idx t]

include h0 h1 in
/-- What a point of the grid stores: the product of its two blocks. -/
theorem out (k : Fin 1024) (l : Fin 1024) :
    (out0_2 (iblk m c 0 t) (iblk m c 1 t) (ix2 k l) : EReal)
      = ∑ s : Fin 256, x (t.val * 1024 + k) s * y (l) s := by
  unfold out0_2
  frame_out
  pointwise [k0_pay1]
  simp only [blk0 m c x h0 t, blk1 m c y h1 t]

include h0 h1 in
/-- The array the kernel returns is the product. -/
theorem final : ((dats m 0 c).arrAt 2 cfg0.N : FVec Ideal S8192x1024 .bf16)
    = fun i => ∑ s : Fin 256, x ((i 0).val) s * y ((i 1).val) s := by
  refine (dats m 0 c).arrAt_eq_of_covers 2 _ (by decide +kernel) fun t hf z => ?_
  blk_simp
  rw [after0_2]
  idx_vars z
  refine (out m c x y h0 h1 t z0 z1).trans ?_
  rw [(idx t).2.2]
  simp
end

end Cert.ProjIdeal.Prod

end
-- ==== Proof.ProjClaim.lean ====
module

public import proofs.«01_k».proof.Defs
public import proofs.«01_k».proof.Proof.ProjValue
public import proofs.«01_k».proof.Proof.Gen.ProjRefIdeal
public import proofs.«01_k».proof.Proof.Gen.ProjRefIdeal.Run

/-!
The projection of the layer input: the kernel returns what the reference returns.
-/

@[expose] public section

set_option maxRecDepth 16384

noncomputable section

namespace Cert.Proj

open Idealize.ShloMosaic Idealize.ShloMosaic.TcCoe Idealize.SL.Sem
open Cert.Sum

/-- The kernel and the reference return the same array. -/
theorem claim : Cert.algebraic_ProjIdeal_ProjRefIdeal (hProjIdeal := Cert.ProjIdeal.Gen.facts) (hProjRefIdeal := Cert.ProjRefIdeal.Gen.facts) := by
  intro m ρ m' ρ' _ hag
  refine ⟨fun c => (Cert.ProjIdeal.Gen.dats m 0 c).arrAt 2 Cert.ProjIdeal.cfg0.N,
    (θ_run Cert.ProjIdeal.defs _ _).mono (fun r h c => ?_) (Cert.ProjIdeal.Value.run_blocks m ρ),
    (θ_run Cert.ProjRefIdeal.defs _ _).mono (fun r h c => ?_) (Cert.ProjRefIdeal.Value.run m' ρ')⟩
  · exact h c
  · obtain ⟨g0, g1⟩ := hag c
    obtain ⟨k1, k2⟩ := h c
    refine ⟨k1.trans ?_, k2⟩
    refine Eq.trans ?_ (Cert.ProjIdeal.Prod.final m c _ _ (fun r l => at2_eq _ r l) (fun r l => at2_eq _ r l)).symm
    funext i
    idx_vars i
    pointwise
    refine Finset.sum_congr rfl fun s _ => ?_
    exact congrArg₂ (· * ·) ((congrFun g0 (ix2 i0 s)).trans (at2_eq _ i0 s)) ((congrFun g1 (ix2 i1 s)).trans (at2_eq _ i1 s))

end Cert.Proj

end
-- ==== Proof.UpValue.lean ====
module

public import proofs.«01_k».proof.Proof.Gen.UpIdeal.Value
public import proofs.«01_k».proof.Proof.Sum
public import Idealize.ShloMosaic.Lib.Pipeline.ValueKit
public import Idealize.ShloMosaic.Lib.Claim

@[expose] public section

set_option maxRecDepth 16384

noncomputable section

namespace Cert.UpIdeal.Prod

open Cert.UpIdeal Cert.UpIdeal.Gen Idealize.ShloMosaic Idealize.ShloMosaic.TcCoe Idealize.SL.Sem
open Idealize.ShloMosaic.Pipeline (Dat)
open Cert.Sum

/-- Which block of its array each window holds at each point of the grid. -/
theorem idx : ∀ t : Fin cfg0.N,
    win0_0.index t = ![t.val / 4, 0] ∧ win0_1.index t = ![t.val % 4, 0] ∧ win0_2.index t = ![t.val / 4, t.val % 4] :=
  (by decide +kernel : ∀ t : Fin grid0.N,
    win0_0.index t = ![t.val / 4, 0] ∧ win0_1.index t = ![t.val % 4, 0] ∧ win0_2.index t = ![t.val / 4, t.val % 4])

section
variable (m : (ℓ : Loc nD τ sig) → Buf (Elt Ideal) ℓ) (c : Dev nD) (x y : ℕ → ℕ → EReal)
  (h0 : ∀ (r : Fin 8192) (l : Fin 1024), m ((c : Thread nD τ).loc main_arg0) (ix2 r l) = x r l)
  (h1 : ∀ (r : Fin 5632) (l : Fin 1024), m ((c : Thread nD τ).loc main_arg1) (ix2 r l) = y r l)
  (t : Fin cfg0.N)

include h0 in
/-- The block of the first factor. -/
theorem blk0 (r : Fin 1024) (l : Fin 1024) :
    ((iblk m c 0 t : FVec Ideal S1024x1024 .bf16) (ix2 r l) : EReal) = x (t.val / 4 * 1024 + r) l := by
  have hN : t.val < 32 := lt_of_lt_of_eq t.isLt N_0
  refine Eq.trans ?_ (h0 ⟨t.val / 4 * 1024 + r, by omega⟩ l)
  blk_ext [iblk, V, idx t]

include h1 in
/-- The block of the second factor. -/
theorem blk1 (r : Fin 1408) (l : Fin 1024) :
    ((iblk m c 1 t : FVec Ideal S1408x1024 .bf16) (ix2 r l) : EReal) = y (t.val % 4 * 1408 + r) l := by
  have hN : t.val < 32 := lt_of_lt_of_eq t.isLt N_0
  refine Eq.trans ?_ (h1 ⟨t.val % 4 * 1408 + r, by omega⟩ l)
  blk_ext [iblk, V, idx t]

include h0 h1 in
/-- What a point of the grid stores: the product of its two blocks. -/
theorem out (k : Fin 1024) (l : Fin 1408) :
    (out0_2 (iblk m c 0 t) (iblk m c 1 t) (ix2 k l) : EReal)
      = ∑ s : Fin 1024, x (t.val / 4 * 1024 + k) s * y (t.val % 4 * 1408 + l) s := by
  unfold out0_2
  frame_out
  pointwise [k0_pay1]
  simp only [blk0 m c x h0 t, blk1 m c y h1 t]

include h0 h1 in
/-- The array the kernel returns is the product. -/
theorem final : ((dats m 0 c).arrAt 2 cfg0.N : FVec Ideal S8192x5632 .bf16)
    = fun i => ∑ s : Fin 1024, x ((i 0).val) s * y ((i 1).val) s := by
  refine (dats m 0 c).arrAt_eq_of_covers 2 _ (by decide +kernel) fun t hf z => ?_
  blk_simp
  rw [after0_2]
  idx_vars z
  refine (out m c x y h0 h1 t z0 z1).trans ?_
  rw [(idx t).2.2]
  simp
end

end Cert.UpIdeal.Prod

end
-- ==== Proof.UpClaim.lean ====
module

public import proofs.«01_k».proof.Defs
public import proofs.«01_k».proof.Proof.UpValue
public import proofs.«01_k».proof.Proof.Gen.UpRefIdeal
public import proofs.«01_k».proof.Proof.Gen.UpRefIdeal.Run

/-!
The feed-forward block's first product: the kernel returns what the reference returns.
-/

@[expose] public section

set_option maxRecDepth 16384

noncomputable section

namespace Cert.Up

open Idealize.ShloMosaic Idealize.ShloMosaic.TcCoe Idealize.SL.Sem
open Cert.Sum

/-- The kernel and the reference return the same array. -/
theorem claim : Cert.algebraic_UpIdeal_UpRefIdeal (hUpIdeal := Cert.UpIdeal.Gen.facts) (hUpRefIdeal := Cert.UpRefIdeal.Gen.facts) := by
  intro m ρ m' ρ' _ hag
  refine ⟨fun c => (Cert.UpIdeal.Gen.dats m 0 c).arrAt 2 Cert.UpIdeal.cfg0.N,
    (θ_run Cert.UpIdeal.defs _ _).mono (fun r h c => ?_) (Cert.UpIdeal.Value.run_blocks m ρ),
    (θ_run Cert.UpRefIdeal.defs _ _).mono (fun r h c => ?_) (Cert.UpRefIdeal.Value.run m' ρ')⟩
  · exact h c
  · obtain ⟨g0, g1⟩ := hag c
    obtain ⟨k1, k2⟩ := h c
    refine ⟨k1.trans ?_, k2⟩
    refine Eq.trans ?_ (Cert.UpIdeal.Prod.final m c _ _ (fun r l => at2_eq _ r l) (fun r l => at2_eq _ r l)).symm
    funext i
    idx_vars i
    pointwise
    refine Finset.sum_congr rfl fun s _ => ?_
    exact congrArg₂ (· * ·) ((congrFun g0 (ix2 i0 s)).trans (at2_eq _ i0 s)) ((congrFun g1 (ix2 i1 s)).trans (at2_eq _ i1 s))

end Cert.Up

end
-- ==== Proof.FiniteUp.lean ====
module

public import proofs.«01_k».proof.Pre_finite_up
public import proofs.«01_k».proof.Proof.Gen.Pre_finite_up
public import proofs.«01_k».proof.Proof.Finite

/-!
What the precondition of the backward product of the feed-forward block's first weights says: every entry of the five arrays is a real number.
-/

@[expose] public section

set_option maxRecDepth 16384

noncomputable section

namespace Cert.Pre_finite_up.Prod

open Cert.Pre_finite_up Idealize.ShloMosaic
open Cert.Pre_finite.Conv (entry_real)

variable [Facts]

theorem real (A : FVec Ideal S8192x5632 .bf16) (W : FVec Ideal S5632x1024 .bf16) (D X : FVec Ideal S8192x1024 .f32) (G : FVec Ideal S1024 .f32)
    (h : fn (F := Ideal) A W D X G = fun _ => 1#1) :
    (∀ i, (A i : EReal) = ((A i : EReal).toReal : EReal)) ∧ (∀ i, (W i : EReal) = ((W i : EReal).toReal : EReal))
      ∧ (∀ i, (D i : EReal) = ((D i : EReal).toReal : EReal)) ∧ (∀ i, (X i : EReal) = ((X i : EReal).toReal : EReal))
      ∧ (∀ i, (G i : EReal) = ((G i : EReal).toReal : EReal)) := by
  haveI : Subsingleton S_.Idx := ⟨fun x y => funext fun a => Fin.elim0 a⟩
  have h' := congrFun h (fun a => Fin.elim0 a)
  unfold fn fn_part1 at h'
  dsimp only at h'
  obtain ⟨h1234, h5⟩ := IntOp.andi_eq_one.1 h'
  obtain ⟨h123, h4⟩ := IntOp.andi_eq_one.1 h1234
  obtain ⟨h12, h3⟩ := IntOp.andi_eq_one.1 h123
  obtain ⟨h1, h2⟩ := IntOp.andi_eq_one.1 h12
  exact ⟨fun i => entry_real _ (Host.reduce_andi_all _ _ _ _ _ h1 i), fun i => entry_real _ (Host.reduce_andi_all _ _ _ _ _ h2 i),
    fun i => entry_real _ (Host.reduce_andi_all _ _ _ _ _ h3 i), fun i => entry_real _ (Host.reduce_andi_all _ _ _ _ _ h4 i),
    fun i => entry_real _ (Host.reduce_andi_all _ _ _ _ _ h5 i)⟩

end Cert.Pre_finite_up.Prod

end
-- ==== Proof.UpTValue.lean ====
module

public import proofs.«01_k».proof.Proof.Gen.UpTIdeal.Value
public import proofs.«01_k».proof.Proof.Norm
public import Idealize.ShloMosaic.Lib.Pipeline.ValueKit
public import Idealize.ShloMosaic.Lib.Pipeline.ReadBack
public import Idealize.ShloMosaic.Lib.Claim

@[expose] public section

set_option maxRecDepth 16384

noncomputable section

namespace Cert.UpTIdeal.Prod

open Cert.UpTIdeal Cert.UpTIdeal.Gen Idealize.ShloMosaic Idealize.ShloMosaic.TcCoe Idealize.SL.Sem
open Idealize.ShloMosaic.Pipeline (Dat)
open Cert.Sum Cert.Norm
open Cert.Conv (coe_sum)

/-- Which block of its array each window holds at each point of the grid. -/
theorem idx : ∀ t : Fin cfg0.N,
    win0_0.index t = ![t.val / 4, t.val % 4] ∧ win0_1.index t = ![t.val % 4, 0] ∧ win0_2.index t = ![t.val / 4, 0]
    ∧ win0_3.index t = ![t.val / 4, 0] ∧ win0_4.index t = ![0, 0] ∧ win0_5.index t = ![t.val / 4, 0] ∧ win0_6.index t = ![0, 0] :=
  (by decide +kernel : ∀ t : Fin grid0.N,
    win0_0.index t = ![t.val / 4, t.val % 4] ∧ win0_1.index t = ![t.val % 4, 0] ∧ win0_2.index t = ![t.val / 4, 0]
    ∧ win0_3.index t = ![t.val / 4, 0] ∧ win0_4.index t = ![0, 0] ∧ win0_5.index t = ![t.val / 4, 0] ∧ win0_6.index t = ![0, 0])

section
variable (m : (ℓ : Loc nD τ sig) → Buf (Elt Ideal) ℓ) (c : Dev nD) (a w d x : ℕ → ℕ → ℝ) (g : ℕ → ℝ)
  (h0 : ∀ (r : Fin 8192) (l : Fin 5632), m ((c : Thread nD τ).loc main_arg0) (ix2 r l) = ((a r l : ℝ) : EReal))
  (h1 : ∀ (r : Fin 5632) (l : Fin 1024), m ((c : Thread nD τ).loc main_arg1) (ix2 r l) = ((w r l : ℝ) : EReal))
  (h2 : ∀ (r : Fin 8192) (l : Fin 1024), m ((c : Thread nD τ).loc main_arg2) (ix2 r l) = ((d r l : ℝ) : EReal))
  (h3 : ∀ (r : Fin 8192) (l : Fin 1024), m ((c : Thread nD τ).loc main_arg3) (ix2 r l) = ((x r l : ℝ) : EReal))
  (h4 : ∀ (l : Fin 1024), m ((c : Thread nD τ).loc main_arg4) (ix1 l) = ((g l : ℝ) : EReal))
  (t : Fin cfg0.N)

include h0 in
/-- The block of the first factor. -/
theorem blk0 (r : Fin 1024) (l : Fin 1408) :
    ((iblk m c 0 t : FVec Ideal S1024x1408 .bf16) (ix2 r l) : EReal) = ((a (t.val / 4 * 1024 + r) (t.val % 4 * 1408 + l) : ℝ) : EReal) := by
  have hN : t.val < 32 := lt_of_lt_of_eq t.isLt N_0
  refine Eq.trans ?_ (h0 ⟨t.val / 4 * 1024 + r, by omega⟩ ⟨t.val % 4 * 1408 + l, by omega⟩)
  blk_ext [iblk, V, idx t]

include h1 in
/-- The block of the second factor. -/
theorem blk1 (r : Fin 1408) (l : Fin 1024) :
    ((iblk m c 1 t : FVec Ideal S1408x1024 .bf16) (ix2 r l) : EReal) = ((w (t.val % 4 * 1408 + r) l : ℝ) : EReal) := by
  have hN : t.val < 32 := lt_of_lt_of_eq t.isLt N_0
  refine Eq.trans ?_ (h1 ⟨t.val % 4 * 1408 + r, by omega⟩ l)
  blk_ext [iblk, V, idx t]

include h2 in
/-- The block of the cotangent past the norm. -/
theorem blk2 (r : Fin 1024) (l : Fin 1024) :
    ((iblk m c 2 t : FVec Ideal S1024x1024 .f32) (ix2 r l) : EReal) = ((d (t.val / 4 * 1024 + r) l : ℝ) : EReal) := by
  have hN : t.val < 32 := lt_of_lt_of_eq t.isLt N_0
  refine Eq.trans ?_ (h2 ⟨t.val / 4 * 1024 + r, by omega⟩ l)
  blk_ext [iblk, V, idx t]

include h3 in
/-- The block of the norm's rows. -/
theorem blk3 (r : Fin 1024) (l : Fin 1024) :
    ((iblk m c 3 t : FVec Ideal S1024x1024 .f32) (ix2 r l) : EReal) = ((x (t.val / 4 * 1024 + r) l : ℝ) : EReal) := by
  have hN : t.val < 32 := lt_of_lt_of_eq t.isLt N_0
  refine Eq.trans ?_ (h3 ⟨t.val / 4 * 1024 + r, by omega⟩ l)
  blk_ext [iblk, V, idx t]

include h4 in
/-- The norm's gains. -/
theorem blk4 (l : Fin 1024) :
    ((iblk m c 4 t : FVec Ideal S1x1024 .f32) (ix2 0 l) : EReal) = ((g l : ℝ) : EReal) := by
  have hN : t.val < 32 := lt_of_lt_of_eq t.isLt N_0
  have e : (V m c main_v0 (ix2 0 l) : EReal) = ((g l : ℝ) : EReal) := by
    refine Eq.trans ?_ (h4 l)
    entry_read
    pointwise
  refine Eq.trans ?_ e
  blk_ext [iblk, idx t]

include h0 h1 in
/-- The product of the two blocks. -/
theorem part (k : Fin 1024) (l : Fin 1024) :
    (k0_pay1 (F := Ideal) (iblk m c 0 t) (iblk m c 1 t) (ix2 k l) : EReal)
      = ((∑ s : Fin 1408, a (t.val / 4 * 1024 + k) (t.val % 4 * 1408 + s) * w (t.val % 4 * 1408 + s) l : ℝ) : EReal) := by
  pointwise [k0_pay1]
  simp only [blk0 m c a h0 t, blk1 m c w h1 t, ← EReal.coe_mul, coe_sum]

include h0 h1 in
/-- The first chunk is stored. -/
theorem reset (e : t.val % 4 = 0) (k : Fin 1024) (l : Fin 1024) :
    ((outsAt0 m c t.val t.isLt).2.2 (ix2 k l) : EReal)
      = ((∑ s : Fin 1408, a (t.val / 4 * 1024 + k) (t.val % 4 * 1408 + s) * w (t.val % 4 * 1408 + s) l : ℝ) : EReal) := by
  rw [← part m c a w h0 h1 t k l]
  by_cases e' : t.val % 32 = 0
  · rw [outsAt0_A m c t e' e (by omega) (by omega)]
    frame_out
    pointwise [k0_pay3]
  · rw [outsAt0_D m c t e' e (by omega) (by omega)]
    frame_out
    pointwise [k0_pay3]

include h0 h1 in
/-- A middle chunk is added. -/
theorem step (e : ¬ t.val % 4 = 0) (e' : ¬ t.val % 4 = 3) (k : Fin 1024) (l : Fin 1024) :
    ((outsAt0 m c t.val t.isLt).2.2 (ix2 k l) : EReal)
      = (outsAt0 m c (t.val - 1) (lt_of_le_of_lt (Nat.sub_le _ _) t.isLt)).2.2 (ix2 k l)
        + ((∑ s : Fin 1408, a (t.val / 4 * 1024 + k) (t.val % 4 * 1408 + s) * w (t.val % 4 * 1408 + s) l : ℝ) : EReal) := by
  rw [← part m c a w h0 h1 t k l, outsAt0_B m c t (by omega) e (by omega) e']
  frame_out
  pointwise [k0_pay4]
  exact congrArg (· + _) (congrFun (Memref.IsWhole.read_unread (Val := Elt Ideal) (Memref.isWhole_whole cc0_scratch0) _) _)

/-- The product's entry. -/
def prod (k l : ℕ) : ℝ := ∑ s ∈ Finset.range 5632, a k s * w s l

include h0 h1 in
/-- What is carried between the points: the chunks so far. -/
theorem carried : ∀ (n : ℕ) (hn : n < cfg0.N) (_ : ¬ n % 4 = 3) (k : Fin 1024) (l : Fin 1024),
    ((outsAt0 m c n hn).2.2 (ix2 k l) : EReal)
      = ((∑ s ∈ Finset.range ((n % 4 + 1) * 1408), a (n / 4 * 1024 + k) s * w s l : ℝ) : EReal) := by
  intro n
  induction n with
  | zero =>
    intro hn _ k l
    refine (reset m c a w h0 h1 ⟨0, hn⟩ rfl k l).trans ?_
    exact congrArg _ (first 1408 (fun s => a (0 / 4 * 1024 + k) s * w s l)).symm
  | succ n ih =>
    intro hn e k l
    by_cases e0 : (n + 1) % 4 = 0
    · refine (reset m c a w h0 h1 ⟨n + 1, hn⟩ e0 k l).trans ?_
      simp only [e0]
      exact congrArg _ (first 1408 (fun s => a ((n + 1) / 4 * 1024 + k) s * w s l)).symm
    · refine (step m c a w h0 h1 ⟨n + 1, hn⟩ e0 e k l).trans ?_
      have f := ih (by omega) (by omega) k l
      simp only [Nat.add_sub_cancel]
      rw [f, chunk 1408 _ ((n + 1) % 4), show (n + 1) % 4 = n % 4 + 1 by omega, show (n + 1) / 4 = n / 4 by omega, EReal.coe_add]

include h0 h1 in
/-- At the last chunk the carried sum and the chunk are the whole product. -/
theorem whole (e : t.val % 4 = 3) (k : Fin 1024) (l : Fin 1024) :
    (k0_pay5 (F := Ideal) (iblk m c 0 t) (iblk m c 1 t) ((outsAt0 m c (t.val - 1) (lt_of_le_of_lt (Nat.sub_le _ _) t.isLt)).2.2) (ix2 k l) : EReal)
      = ((prod a w (t.val / 4 * 1024 + k) l : ℝ) : EReal) := by
  have hN : t.val < 32 := lt_of_lt_of_eq t.isLt N_0
  have f := carried m c a w h0 h1 (t.val - 1) (lt_of_le_of_lt (Nat.sub_le _ _) t.isLt) (by omega) k l
  have f' := part m c a w h0 h1 t k l
  rw [show (t.val - 1) % 4 = 2 by omega, show (t.val - 1) / 4 = t.val / 4 by omega] at f
  rw [e] at f'
  pointwise [k0_pay5]
  rw [f, f', ← EReal.coe_add]
  exact congrArg _ (chunk 1408 (fun s => a (t.val / 4 * 1024 + k) s * w s l) 3).symm

include h3 in
/-- The normed rows. -/
theorem normed (k : Fin 1024) (l : Fin 1024) :
    (k0_pay7 (F := Ideal) (iblk m c 3 t) (ix2 k l) : EReal)
      = ((x (t.val / 4 * 1024 + k) l * sc (x (t.val / 4 * 1024 + k)) : ℝ) : EReal) := by
  pointwise [k0_pay7, k0_pay6]
  rw [ideal_sc _ _ (fun s => blk3 m c x h3 t k s), blk3 m c x h3 t k l, EReal.coe_mul]

include h0 h1 h2 h3 h4 in
/-- What the last point of a row of blocks stores into the first result. -/
theorem out5 (e : t.val % 4 = 3) (k : Fin 1024) (l : Fin 1024) :
    ((outsAt0 m c t.val t.isLt).1 (ix2 k l) : EReal)
      = ((dx (d (t.val / 4 * 1024 + k)) (prod a w (t.val / 4 * 1024 + k)) g (x (t.val / 4 * 1024 + k)) l : ℝ) : EReal) := by
  rw [outsAt0_C m c t (by omega) (by omega) (by omega) e]
  frame_out
  pointwise [k0_pay9, k0_pay6]
  rw [read_unread_whole cc0_scratch0]
  exact kernel_dx _ (fun s => iblk m c 4 t (ix2 0 s)) _ _ (fun s => iblk m c 2 t (ix2 k s)) _ _ _ _
    (fun s => whole m c a w h0 h1 t e k s) (fun s => blk4 m c g h4 t s) (fun s => blk3 m c x h3 t k s)
    (fun s => normed m c x h3 t k s) (fun s => blk2 m c d h2 t k s) l

include h0 h1 h3 in
/-- The row's summand of the gains' gradient is added at the last point of a row of blocks. -/
theorem add6 (e : t.val % 4 = 3) (l : Fin 1024) :
    ((outsAt0 m c t.val t.isLt).2.1 (ix2 0 l) : EReal)
      = (outsAt0 m c (t.val - 1) (lt_of_le_of_lt (Nat.sub_le _ _) t.isLt)).2.1 (ix2 0 l)
        + ((∑ s : Fin 1024, prod a w (t.val / 4 * 1024 + s) l * (x (t.val / 4 * 1024 + s) l * sc (x (t.val / 4 * 1024 + s))) : ℝ) : EReal) := by
  rw [outsAt0_C m c t (by omega) (by omega) (by omega) e]
  frame_out
  pointwise [k0_pay8]
  rw [read_unread_whole cc0_scratch0]
  simp only [whole m c a w h0 h1 t e, normed m c x h3 t, ← EReal.coe_mul, coe_sum]

theorem zero6 (e : t.val % 32 = 0) (l : Fin 1024) : ((outsAt0 m c t.val t.isLt).2.1 (ix2 0 l) : EReal) = ((0 : ℝ) : EReal) := by
  rw [outsAt0_A m c t e (by omega) (by omega) (by omega)]
  frame_out
  pointwise [k0_pay2]
  exact EReal.coe_zero.symm

theorem keep6 (e : ¬ t.val % 32 = 0) (e' : ¬ t.val % 4 = 3) : (outsAt0 m c t.val t.isLt).2.1
    = (outsAt0 m c (t.val - 1) (lt_of_le_of_lt (Nat.sub_le _ _) t.isLt)).2.1 := by
  by_cases e0 : t.val % 4 = 0
  · rw [outsAt0_D m c t e e0 (by omega) (by omega)]
    rfl
  · rw [outsAt0_B m c t e e0 (by omega) (by omega)]
    rfl

include h0 h1 h3 in
/-- The gains' gradient so far: the rows of the row blocks that are done. -/
theorem so_far : ∀ (n : ℕ) (hn : n < cfg0.N) (l : Fin 1024),
    ((outsAt0 m c n hn).2.1 (ix2 0 l) : EReal)
      = ((∑ s ∈ Finset.range ((n + 1) / 4 * 1024), prod a w s l * (x s l * sc (x s)) : ℝ) : EReal) := by
  intro n
  induction n with
  | zero =>
    intro hn l
    exact (zero6 m c ⟨0, hn⟩ rfl l).trans (congrArg _ (by simp))
  | succ n ih =>
    intro hn l
    have hN : n + 1 < 32 := lt_of_lt_of_eq hn N_0
    have f := ih (by omega) l
    by_cases e : (n + 1) % 4 = 3
    · refine (add6 m c a w x h0 h1 h3 ⟨n + 1, hn⟩ e l).trans ?_
      simp only [Nat.add_sub_cancel]
      rw [f, ← EReal.coe_add, show (n + 1 + 1) / 4 = (n + 1) / 4 + 1 by omega, chunk]
    · refine (congrFun (keep6 m c ⟨n + 1, hn⟩ (show ¬ (n + 1) % 32 = 0 by omega) e) (ix2 0 l)).trans ?_
      simp only [Nat.add_sub_cancel]
      rw [f, show (n + 1 + 1) / 4 = (n + 1) / 4 by omega]

include h0 h1 h2 h3 h4 in
/-- The first result is the gradient with respect to the rows. -/
theorem final5 : ((dats m 0 c).arrAt 5 cfg0.N : FVec Ideal S8192x1024 .f32)
    = fun i => ((dx (d (i 0).val) (prod a w (i 0).val) g (x (i 0).val) (i 1).val : ℝ) : EReal) := by
  refine (dats m 0 c).arrAt_eq_of_covers 5 _ (by decide +kernel) fun t hf z => ?_
  blk_simp
  rw [after0_5]
  idx_vars z
  refine (out5 m c a w d x g h0 h1 h2 h3 h4 t ((flush0_5 t).mp hf) z0 z1).trans ?_
  rw [(idx t).2.2.2.2.2.1]
  simp

include h0 h1 h3 in
/-- The second result is the gradient with respect to the gains. -/
theorem final6 : ((dats m 0 c).arrAt 6 cfg0.N : FVec Ideal S1x1024 .f32)
    = fun i => ((∑ s ∈ Finset.range 8192, prod a w s (i 1).val * (x s (i 1).val * sc (x s)) : ℝ) : EReal) := by
  refine (dats m 0 c).arrAt_eq_of_covers 6 _ (by decide +kernel) fun t hf z => ?_
  blk_simp
  rw [after0_6]
  idx_vars z
  have hN : t.val < 32 := lt_of_lt_of_eq t.isLt N_0
  have e : t.val % 32 = 31 := (flush0_6 t).mp hf
  obtain rfl : z0 = 0 := Subsingleton.elim _ _
  refine (so_far m c a w x h0 h1 h3 t.val t.isLt z1).trans ?_
  rw [(idx t).2.2.2.2.2.2, show (t.val + 1) / 4 = 8 by omega]
  simp

end

end Cert.UpTIdeal.Prod

end
-- ==== Proof.UpTClaim.lean ====
module

public import proofs.«01_k».proof.Defs
public import proofs.«01_k».proof.Proof.ConvClaim
public import proofs.«01_k».proof.Proof.FiniteUp
public import proofs.«01_k».proof.Proof.UpTValue
public import proofs.«01_k».proof.Proof.Gen.UpTRefIdeal
public import proofs.«01_k».proof.Proof.Gen.UpTRefIdeal.Run

/-!
The backward product of the feed-forward block's first weights with the norm's gradient: the kernel returns what the
reference returns.
-/

@[expose] public section

set_option maxRecDepth 16384

noncomputable section

namespace Cert.UpTRefIdeal.Prod

open Cert.UpTRefIdeal Cert.UpTRefIdeal.Value Idealize.ShloMosaic Idealize.ShloMosaic.TcCoe Idealize.SL.Sem
open Cert.Sum Cert.Norm
open Cert.Conv (coe_sum)

/-- The reference's product is the product of real numbers. -/
theorem coe_prod (a w : ℕ → ℕ → ℝ) (k l : ℕ) :
    ∑ s : Fin 5632, ((a k s : ℝ) : EReal) * ((w s l : ℝ) : EReal) = ((Cert.UpTIdeal.Prod.prod a w k l : ℝ) : EReal) := by
  unfold Cert.UpTIdeal.Prod.prod
  rw [Finset.sum_range]
  simp only [← EReal.coe_mul, coe_sum]

end Cert.UpTRefIdeal.Prod

namespace Cert.UpT

open Idealize.ShloMosaic Idealize.ShloMosaic.TcCoe Idealize.SL.Sem
open Cert.Sum Cert.Norm
open Cert.Conv (coe_sum real2 real1 real2_eq real1_eq)

/-- The kernel and the reference return the same two arrays. -/
theorem claim : Cert.algebraic_UpTIdeal_UpTRefIdeal_pre_finite_up (hUpTIdeal := Cert.UpTIdeal.Gen.facts)
    (hUpTRefIdeal := Cert.UpTRefIdeal.Gen.facts) (hPre_finite_up := Cert.Pre_finite_up.Gen.facts) := by
  intro m ρ m' ρ' hpre hag
  have hr := fun c => Cert.Pre_finite_up.Prod.real _ _ _ _ _ (hpre c)
  refine ⟨fun c => (Cert.UpTIdeal.Gen.dats m 0 c).arrAt 5 Cert.UpTIdeal.cfg0.N,
    fun c => (Cert.UpTIdeal.Gen.dats m 0 c).arrAt 6 Cert.UpTIdeal.cfg0.N,
    (θ_run Cert.UpTIdeal.defs _ _).mono (fun r h c => ?_) (Cert.UpTIdeal.Value.run_blocks m ρ),
    (θ_run Cert.UpTRefIdeal.defs _ _).mono (fun r h c => ?_) (Cert.UpTRefIdeal.Value.run m' ρ')⟩
  · exact h c
  · obtain ⟨hA, hW, hD, hX, hG⟩ := hr c
    obtain ⟨g0, g1, g2, g3, g4⟩ := hag c
    obtain ⟨k1, k2, k3⟩ := h c
    have e0 := real2_eq (m := 8192) (n := 5632) _ hA
    have e1 := real2_eq (m := 5632) (n := 1024) _ hW
    have e2 := real2_eq (m := 8192) (n := 1024) _ hD
    have e3 := real2_eq (m := 8192) (n := 1024) _ hX
    have e4 := real1_eq (n := 1024) _ hG
    have f0 : ∀ r l, _ = _ := fun r l => (congrFun g0 (ix2 r l)).trans (e0 r l)
    have f1 : ∀ r l, _ = _ := fun r l => (congrFun g1 (ix2 r l)).trans (e1 r l)
    have f2 : ∀ r l, _ = _ := fun r l => (congrFun g2 (ix2 r l)).trans (e2 r l)
    have f3 : ∀ r l, _ = _ := fun r l => (congrFun g3 (ix2 r l)).trans (e3 r l)
    have f4 : ∀ l, _ = _ := fun l => (congrFun g4 (ix1 l)).trans (e4 l)
    refine ⟨k1.trans ?_, k2.trans ?_, k3⟩
    · refine Eq.trans ?_ (Cert.UpTIdeal.Prod.final5 m c _ _ _ _ _ e0 e1 e2 e3 e4).symm
      funext i
      idx_vars i
      pointwise [Cert.UpTRefIdeal.Value.res_main_v41]
      simp only [f0, f1, f2, f3, f4, Cert.UpTRefIdeal.Prod.coe_prod]
      exact ref_coe_dx _ _ _ _ i1
    · refine Eq.trans ?_ (Cert.UpTIdeal.Prod.final6 m c _ _ _ e0 e1 e3).symm
      funext i
      idx_vars i
      pointwise
      simp only [f0, f1, Cert.UpTRefIdeal.Prod.coe_prod, ideal_sc _ _ (fun s => f3 _ s)]
      simp only [f3, ← EReal.coe_mul, coe_sum, Fin.sum_univ_one]
      rw [Finset.sum_range]
      refine congrArg _ (Finset.sum_congr rfl fun s _ => ?_)
      ring

end Cert.UpT

end
-- ==== Proof.Adam.lean ====
module

public import Idealize.ShloMosaic.Lib.Claim
public import Idealize.ShloMosaic.Lib.Pipeline.ValueKit

/-!
One step of AdamW with decoupled weight decay, entry by entry: the gradient is the sum of the eight devices' parts,
the two moments are moving averages of the gradient and of its square, and the step divides the first by the root of
the second. Both sides of every claim about an update are these functions of the arguments' entries; the constants
are the single precision numbers the programs print.
-/

@[expose] public section

noncomputable section

namespace Cert.Adam

open Idealize.ShloMosaic

/-- The sum of the eight devices' parts of one entry of the gradient. -/
def total (p : ℕ → ℕ → ℕ → EReal) (r l : ℕ) : EReal := ∑ s : Fin 8, p s r l

/-- The gradient's entry in layer `a`: the first layer's parts are in one array, the second's in another. -/
def grad (p q : ℕ → ℕ → ℕ → EReal) (a r l : ℕ) : EReal := if a < 1 then total p r l else total q r l

/-- The new first moment: nine tenths of the old one and one tenth of the gradient. -/
def first (n g : EReal) : EReal := Ideal.ofBits FTy.f32 1063675494#32 * n + Ideal.ofBits FTy.f32 1036831949#32 * g

/-- The new second moment: the moving average of the gradient's square. -/
def second (v g : EReal) : EReal := Ideal.ofBits FTy.f32 1065336439#32 * v + Ideal.ofBits FTy.f32 981668463#32 * (g * g)

/-- The step: the negated learning rate times the corrected first moment over the root of the corrected second one,
plus the weight's decay. -/
def delta (w n v g : EReal) : EReal :=
  Ideal.ofBits FTy.f32 3129152111#32
    * (Ideal.div (Ideal.div (first n g) (Ideal.ofBits FTy.f32 1059503362#32))
        (Ideal.sqrt (Ideal.div (second v g) (Ideal.ofBits FTy.f32 1008933580#32)) + Ideal.ofBits FTy.f32 841731191#32)
      + Ideal.ofBits FTy.f32 1008981770#32 * w)

/-- The sum of the parts, term by term. -/
theorem total_eq (p : ℕ → ℕ → ℕ → EReal) (r l : ℕ) :
    total p r l = p 0 r l + p 1 r l + p 2 r l + p 3 r l + p 4 r l + p 5 r l + p 6 r l + p 7 r l :=
  Fin.sum_univ_eight _

/-- The first layer's gradient is the sum of the first array's parts. -/
theorem grad_zero (p q : ℕ → ℕ → ℕ → EReal) (r l : ℕ) : grad p q 0 r l = total p r l := if_pos one_pos

/-- The second layer's gradient is the sum of the second array's parts. -/
theorem grad_one (p q : ℕ → ℕ → ℕ → EReal) (r l : ℕ) : grad p q 1 r l = total q r l := if_neg (lt_irrefl 1)

/-- The entries of an array with three axes, as a function of natural numbers. -/
def at3 {a b c : ℕ} (x : (⟨3, ![a, b, c]⟩ : Shape).Idx → EReal) (i j k : ℕ) : EReal :=
  if h : i < a ∧ j < b ∧ k < c then x (ValueIdx.ix3 ⟨i, h.1⟩ ⟨j, h.2.1⟩ ⟨k, h.2.2⟩) else 0

/-- Inside the array they are the array's entries. -/
theorem at3_eq {a b c : ℕ} (x : (⟨3, ![a, b, c]⟩ : Shape).Idx → EReal) (i : Fin a) (j : Fin b) (k : Fin c) :
    x (ValueIdx.ix3 i j k) = at3 x i j k := by
  unfold at3
  rw [dif_pos ⟨i.isLt, j.isLt, k.isLt⟩]

end Cert.Adam

end
-- ==== Proof.ADownValue.lean ====
module

public import proofs.«01_k».proof.Proof.Gen.ADownIdeal.Value
public import proofs.«01_k».proof.Proof.Adam
public import Idealize.ShloMosaic.Lib.Pipeline.ValueKit
public import Idealize.ShloMosaic.Lib.Claim

/-!
What the update of the channel mixer's second weights leaves in its four results: the gradient, the step and the two moments.
-/

@[expose] public section

set_option maxRecDepth 16384

noncomputable section

namespace Cert.ADownIdeal.Upd

open Cert.ADownIdeal Cert.ADownIdeal.Gen Idealize.ShloMosaic Idealize.ShloMosaic.TcCoe Idealize.SL.Sem
open Idealize.ShloMosaic.Pipeline (Dat)
open Cert.Adam

/-- Which block of its array each window holds at each point of the grid. -/
theorem idx : ∀ t : Fin cfg0.N, win0_0.index t = ![0, t.val % 2, 0]
    ∧ win0_1.index t = ![0, t.val % 2, 0]
    ∧ win0_2.index t = ![t.val / 2, t.val % 2, 0]
    ∧ win0_3.index t = ![t.val / 2, t.val % 2, 0]
    ∧ win0_4.index t = ![t.val / 2, t.val % 2, 0]
    ∧ win0_5.index t = ![t.val / 2, t.val % 2, 0]
    ∧ win0_6.index t = ![t.val / 2, t.val % 2, 0]
    ∧ win0_7.index t = ![t.val / 2, t.val % 2, 0]
    ∧ win0_8.index t = ![t.val / 2, t.val % 2, 0] :=
  (by decide +kernel : ∀ t : Fin grid0.N, win0_0.index t = ![0, t.val % 2, 0]
    ∧ win0_1.index t = ![0, t.val % 2, 0]
    ∧ win0_2.index t = ![t.val / 2, t.val % 2, 0]
    ∧ win0_3.index t = ![t.val / 2, t.val % 2, 0]
    ∧ win0_4.index t = ![t.val / 2, t.val % 2, 0]
    ∧ win0_5.index t = ![t.val / 2, t.val % 2, 0]
    ∧ win0_6.index t = ![t.val / 2, t.val % 2, 0]
    ∧ win0_7.index t = ![t.val / 2, t.val % 2, 0]
    ∧ win0_8.index t = ![t.val / 2, t.val % 2, 0])

section
variable (m : (ℓ : Loc nD τ sig) → Buf (Elt Ideal) ℓ) (c : Dev nD) (p q w n v : ℕ → ℕ → ℕ → EReal)
  (h0 : ∀ (s : Fin 8) (r : Fin 352) (l : Fin 1024), m ((c : Thread nD τ).loc main_arg0) (ix3 s r l) = p s r l)
  (h1 : ∀ (s : Fin 8) (r : Fin 352) (l : Fin 1024), m ((c : Thread nD τ).loc main_arg1) (ix3 s r l) = q s r l)
  (h2 : ∀ (s : Fin 2) (r : Fin 352) (l : Fin 1024), m ((c : Thread nD τ).loc main_arg2) (ix3 s r l) = w s r l)
  (h3 : ∀ (s : Fin 2) (r : Fin 352) (l : Fin 1024), m ((c : Thread nD τ).loc main_arg3) (ix3 s r l) = n s r l)
  (h4 : ∀ (s : Fin 2) (r : Fin 352) (l : Fin 1024), m ((c : Thread nD τ).loc main_arg4) (ix3 s r l) = v s r l)
  (t : Fin cfg0.N)

include h0 in
/-- The block of the first layer's parts. -/
theorem blk0 (s : Fin 8) (r : Fin 176) (l : Fin 1024) :
    ((iblk m c 0 t : FVec Ideal S8x176x1024 .bf16) (ix3 s r l) : EReal) = p s (t.val % 2 * 176 + r) l := by
  have hN : t.val < 4 := lt_of_lt_of_eq t.isLt N_0
  refine Eq.trans ?_ (h0 s ⟨t.val % 2 * 176 + r, by omega⟩ l)
  blk_ext [iblk, V, idx t]

include h1 in
/-- The block of the second layer's parts. -/
theorem blk1 (s : Fin 8) (r : Fin 176) (l : Fin 1024) :
    ((iblk m c 1 t : FVec Ideal S8x176x1024 .bf16) (ix3 s r l) : EReal) = q s (t.val % 2 * 176 + r) l := by
  have hN : t.val < 4 := lt_of_lt_of_eq t.isLt N_0
  refine Eq.trans ?_ (h1 s ⟨t.val % 2 * 176 + r, by omega⟩ l)
  blk_ext [iblk, V, idx t]

include h2 in
/-- The block of the weights. -/
theorem blk2 (r : Fin 176) (l : Fin 1024) :
    ((iblk m c 2 t : FVec Ideal S1x176x1024 .f32) (ix3 0 r l) : EReal) = w (t.val / 2) (t.val % 2 * 176 + r) l := by
  have hN : t.val < 4 := lt_of_lt_of_eq t.isLt N_0
  refine Eq.trans ?_ (h2 ⟨t.val / 2, by omega⟩ ⟨t.val % 2 * 176 + r, by omega⟩ l)
  blk_ext [iblk, V, idx t]

include h3 in
/-- The block of the first moment. -/
theorem blk3 (r : Fin 176) (l : Fin 1024) :
    ((iblk m c 3 t : FVec Ideal S1x176x1024 .f32) (ix3 0 r l) : EReal) = n (t.val / 2) (t.val % 2 * 176 + r) l := by
  have hN : t.val < 4 := lt_of_lt_of_eq t.isLt N_0
  refine Eq.trans ?_ (h3 ⟨t.val / 2, by omega⟩ ⟨t.val % 2 * 176 + r, by omega⟩ l)
  blk_ext [iblk, V, idx t]

include h4 in
/-- The block of the second moment. -/
theorem blk4 (r : Fin 176) (l : Fin 1024) :
    ((iblk m c 4 t : FVec Ideal S1x176x1024 .f32) (ix3 0 r l) : EReal) = v (t.val / 2) (t.val % 2 * 176 + r) l := by
  have hN : t.val < 4 := lt_of_lt_of_eq t.isLt N_0
  refine Eq.trans ?_ (h4 ⟨t.val / 2, by omega⟩ ⟨t.val % 2 * 176 + r, by omega⟩ l)
  blk_ext [iblk, V, idx t]

include h0 h1 in
/-- What a point of the grid stores of the gradient. -/
theorem out5 (k : Fin 176) (l : Fin 1024) :
    ((outsAt0 m c t.val t.isLt).1 (ix3 0 k l) : EReal) = grad p q (t.val / 2) (t.val % 2 * 176 + k) l := by
  have hN : t.val < 4 := lt_of_lt_of_eq t.isLt N_0
  by_cases e : t.val < 2
  · rw [outsAt0_A m c t (by omega) (by omega)]
    frame_out
    pointwise [k0_pay9, k0_pay5]
    simp only [blk0 m c p h0 t, show t.val / 2 = 0 by omega, grad_zero, total_eq]
    rfl
  · rw [outsAt0_B m c t (by omega) (by omega)]
    frame_out
    pointwise [k0_pay15, k0_pay11]
    simp only [blk1 m c q h1 t, show t.val / 2 = 1 by omega, grad_one, total_eq]
    rfl

include h0 h1 in
/-- The array of the gradient. -/
theorem final5 : ((dats m 0 c).arrAt 5 cfg0.N : FVec Ideal S2x352x1024 .f32)
    = fun i => grad p q (i 0).val (i 1).val (i 2).val := by
  refine (dats m 0 c).arrAt_eq_of_covers 5 _ (by decide +kernel) fun t hf z => ?_
  blk_simp
  rw [after0_5]
  idx_vars z
  obtain rfl : z0 = 0 := Subsingleton.elim _ _
  refine (out5 m c p q h0 h1 t z1 z2).trans ?_
  rw [(idx t).2.2.2.2.2.1]
  simp

include h0 h1 h2 h3 h4 in
/-- What a point of the grid stores of the step. -/
theorem out6 (k : Fin 176) (l : Fin 1024) :
    ((outsAt0 m c t.val t.isLt).2.1 (ix3 0 k l) : EReal) = delta (w (t.val / 2) (t.val % 2 * 176 + k) l) (n (t.val / 2) (t.val % 2 * 176 + k) l) (v (t.val / 2) (t.val % 2 * 176 + k) l) (grad p q (t.val / 2) (t.val % 2 * 176 + k) l) := by
  have hN : t.val < 4 := lt_of_lt_of_eq t.isLt N_0
  by_cases e : t.val < 2
  · rw [outsAt0_A m c t (by omega) (by omega)]
    frame_out
    pointwise [k0_pay10, k0_pay7, k0_pay8, k0_pay6, k0_pay5]
    simp only [delta, first, second, blk0 m c p h0 t, blk2 m c w h2 t, blk3 m c n h3 t, blk4 m c v h4 t, show t.val / 2 = 0 by omega, grad_zero, total_eq]
    rfl
  · rw [outsAt0_B m c t (by omega) (by omega)]
    frame_out
    pointwise [k0_pay16, k0_pay13, k0_pay14, k0_pay12, k0_pay11]
    simp only [delta, first, second, blk1 m c q h1 t, blk2 m c w h2 t, blk3 m c n h3 t, blk4 m c v h4 t, show t.val / 2 = 1 by omega, grad_one, total_eq]
    rfl

include h0 h1 h2 h3 h4 in
/-- The array of the step. -/
theorem final6 : ((dats m 0 c).arrAt 6 cfg0.N : FVec Ideal S2x352x1024 .f32)
    = fun i => delta (w (i 0).val (i 1).val (i 2).val) (n (i 0).val (i 1).val (i 2).val) (v (i 0).val (i 1).val (i 2).val) (grad p q (i 0).val (i 1).val (i 2).val) := by
  refine (dats m 0 c).arrAt_eq_of_covers 6 _ (by decide +kernel) fun t hf z => ?_
  blk_simp
  rw [after0_6]
  idx_vars z
  obtain rfl : z0 = 0 := Subsingleton.elim _ _
  refine (out6 m c p q w n v h0 h1 h2 h3 h4 t z1 z2).trans ?_
  rw [(idx t).2.2.2.2.2.2.1]
  simp

include h0 h1 h3 in
/-- What a point of the grid stores of the new first moment. -/
theorem out7 (k : Fin 176) (l : Fin 1024) :
    ((outsAt0 m c t.val t.isLt).2.2.1 (ix3 0 k l) : EReal) = first (n (t.val / 2) (t.val % 2 * 176 + k) l) (grad p q (t.val / 2) (t.val % 2 * 176 + k) l) := by
  have hN : t.val < 4 := lt_of_lt_of_eq t.isLt N_0
  by_cases e : t.val < 2
  · rw [outsAt0_A m c t (by omega) (by omega)]
    frame_out
    pointwise [k0_pay1, k0_pay7, k0_pay6, k0_pay5]
    simp only [first, blk0 m c p h0 t, blk3 m c n h3 t, show t.val / 2 = 0 by omega, grad_zero, total_eq]
    rfl
  · rw [outsAt0_B m c t (by omega) (by omega)]
    frame_out
    pointwise [k0_pay3, k0_pay13, k0_pay12, k0_pay11]
    simp only [first, blk1 m c q h1 t, blk3 m c n h3 t, show t.val / 2 = 1 by omega, grad_one, total_eq]
    rfl

include h0 h1 h3 in
/-- The array of the new first moment. -/
theorem final7 : ((dats m 0 c).arrAt 7 cfg0.N : FVec Ideal S2x352x1024 .f32)
    = fun i => first (n (i 0).val (i 1).val (i 2).val) (grad p q (i 0).val (i 1).val (i 2).val) := by
  refine (dats m 0 c).arrAt_eq_of_covers 7 _ (by decide +kernel) fun t hf z => ?_
  blk_simp
  rw [after0_7]
  idx_vars z
  obtain rfl : z0 = 0 := Subsingleton.elim _ _
  refine (out7 m c p q n h0 h1 h3 t z1 z2).trans ?_
  rw [(idx t).2.2.2.2.2.2.2.1]
  simp

include h0 h1 h4 in
/-- What a point of the grid stores of the new second moment. -/
theorem out8 (k : Fin 176) (l : Fin 1024) :
    ((outsAt0 m c t.val t.isLt).2.2.2 (ix3 0 k l) : EReal) = second (v (t.val / 2) (t.val % 2 * 176 + k) l) (grad p q (t.val / 2) (t.val % 2 * 176 + k) l) := by
  have hN : t.val < 4 := lt_of_lt_of_eq t.isLt N_0
  by_cases e : t.val < 2
  · rw [outsAt0_A m c t (by omega) (by omega)]
    frame_out
    pointwise [k0_pay2, k0_pay8, k0_pay5]
    simp only [second, blk0 m c p h0 t, blk4 m c v h4 t, show t.val / 2 = 0 by omega, grad_zero, total_eq]
    rfl
  · rw [outsAt0_B m c t (by omega) (by omega)]
    frame_out
    pointwise [k0_pay4, k0_pay14, k0_pay11]
    simp only [second, blk1 m c q h1 t, blk4 m c v h4 t, show t.val / 2 = 1 by omega, grad_one, total_eq]
    rfl

include h0 h1 h4 in
/-- The array of the new second moment. -/
theorem final8 : ((dats m 0 c).arrAt 8 cfg0.N : FVec Ideal S2x352x1024 .f32)
    = fun i => second (v (i 0).val (i 1).val (i 2).val) (grad p q (i 0).val (i 1).val (i 2).val) := by
  refine (dats m 0 c).arrAt_eq_of_covers 8 _ (by decide +kernel) fun t hf z => ?_
  blk_simp
  rw [after0_8]
  idx_vars z
  obtain rfl : z0 = 0 := Subsingleton.elim _ _
  refine (out8 m c p q v h0 h1 h4 t z1 z2).trans ?_
  rw [(idx t).2.2.2.2.2.2.2.2]
  simp

end

end Cert.ADownIdeal.Upd

end
-- ==== Proof.ADownClaim.lean ====
module

public import proofs.«01_k».proof.Defs
public import proofs.«01_k».proof.Proof.ADownValue
public import proofs.«01_k».proof.Proof.Gen.ADownRefIdeal
public import proofs.«01_k».proof.Proof.Gen.ADownRefIdeal.Run

/-!
The update of the channel mixer's second weights: the kernel returns what the reference returns.
-/

@[expose] public section

set_option maxRecDepth 16384

noncomputable section

namespace Cert.ADown

open Idealize.ShloMosaic Idealize.ShloMosaic.TcCoe Idealize.SL.Sem
open Cert.Adam

/-- The kernel and the reference return the same gradient, step and moments. -/
theorem claim : Cert.algebraic_ADownIdeal_ADownRefIdeal (hADownIdeal := Cert.ADownIdeal.Gen.facts) (hADownRefIdeal := Cert.ADownRefIdeal.Gen.facts) := by
  intro m ρ m' ρ' _ hag
  refine ⟨fun c => (Cert.ADownIdeal.Gen.dats m 0 c).arrAt 5 Cert.ADownIdeal.cfg0.N, fun c => (Cert.ADownIdeal.Gen.dats m 0 c).arrAt 6 Cert.ADownIdeal.cfg0.N,
    fun c => (Cert.ADownIdeal.Gen.dats m 0 c).arrAt 7 Cert.ADownIdeal.cfg0.N, fun c => (Cert.ADownIdeal.Gen.dats m 0 c).arrAt 8 Cert.ADownIdeal.cfg0.N,
    (θ_run Cert.ADownIdeal.defs _ _).mono (fun r h c => ?_) (Cert.ADownIdeal.Value.run_blocks m ρ),
    (θ_run Cert.ADownRefIdeal.defs _ _).mono (fun r h c => ?_) (Cert.ADownRefIdeal.Value.run m' ρ')⟩
  · exact h c
  · obtain ⟨g0, g1, g2, g3, g4⟩ := hag c
    obtain ⟨k1, k2, k3, k4, k5⟩ := h c
    have a0 := at3_eq (m ((c : Thread Cert.ADownIdeal.nD Cert.ADownIdeal.τ).loc Cert.ADownIdeal.main_arg0))
    have a1 := at3_eq (m ((c : Thread Cert.ADownIdeal.nD Cert.ADownIdeal.τ).loc Cert.ADownIdeal.main_arg1))
    have a2 := at3_eq (m ((c : Thread Cert.ADownIdeal.nD Cert.ADownIdeal.τ).loc Cert.ADownIdeal.main_arg2))
    have a3 := at3_eq (m ((c : Thread Cert.ADownIdeal.nD Cert.ADownIdeal.τ).loc Cert.ADownIdeal.main_arg3))
    have a4 := at3_eq (m ((c : Thread Cert.ADownIdeal.nD Cert.ADownIdeal.τ).loc Cert.ADownIdeal.main_arg4))
    have f0 := fun s r l => (congrFun g0 (ix3 s r l)).trans (a0 s r l)
    have f1 := fun s r l => (congrFun g1 (ix3 s r l)).trans (a1 s r l)
    have f2 := fun s r l => (congrFun g2 (ix3 s r l)).trans (a2 s r l)
    have f3 := fun s r l => (congrFun g3 (ix3 s r l)).trans (a3 s r l)
    have f4 := fun s r l => (congrFun g4 (ix3 s r l)).trans (a4 s r l)
    refine ⟨k1.trans ?_, k2.trans ?_, k3.trans ?_, k4.trans ?_, k5⟩
    · refine Eq.trans ?_ (Cert.ADownIdeal.Upd.final5 m c _ _ a0 a1).symm
      funext i
      idx_vars i
      pointwise
      simp only [f0, f1, dite_eq_ite]
      rfl
    · refine Eq.trans ?_ (Cert.ADownIdeal.Upd.final6 m c _ _ _ _ _ a0 a1 a2 a3 a4).symm
      funext i
      idx_vars i
      pointwise
      simp only [f0, f1, f2, f3, f4, dite_eq_ite]
      rfl
    · refine Eq.trans ?_ (Cert.ADownIdeal.Upd.final7 m c _ _ _ a0 a1 a3).symm
      funext i
      idx_vars i
      pointwise
      simp only [f0, f1, f3, dite_eq_ite]
      rfl
    · refine Eq.trans ?_ (Cert.ADownIdeal.Upd.final8 m c _ _ _ a0 a1 a4).symm
      funext i
      idx_vars i
      pointwise
      simp only [f0, f1, f4, dite_eq_ite]
      rfl

end Cert.ADown

end
-- ==== Proof.AGateValue.lean ====
module

public import proofs.«01_k».proof.Proof.Gen.AGateIdeal.Value
public import proofs.«01_k».proof.Proof.Adam
public import Idealize.ShloMosaic.Lib.Pipeline.ValueKit
public import Idealize.ShloMosaic.Lib.Claim

/-!
What the update of the gate's weights leaves in its four results: the gradient, the step and the two moments.
-/

@[expose] public section

set_option maxRecDepth 16384

noncomputable section

namespace Cert.AGateIdeal.Upd

open Cert.AGateIdeal Cert.AGateIdeal.Gen Idealize.ShloMosaic Idealize.ShloMosaic.TcCoe Idealize.SL.Sem
open Idealize.ShloMosaic.Pipeline (Dat)
open Cert.Adam

/-- Which block of its array each window holds at each point of the grid. -/
theorem idx : ∀ t : Fin cfg0.N, win0_0.index t = ![0, 0, 0]
    ∧ win0_1.index t = ![0, 0, 0]
    ∧ win0_2.index t = ![t.val, 0, 0]
    ∧ win0_3.index t = ![t.val, 0, 0]
    ∧ win0_4.index t = ![t.val, 0, 0]
    ∧ win0_5.index t = ![t.val, 0, 0]
    ∧ win0_6.index t = ![t.val, 0, 0]
    ∧ win0_7.index t = ![t.val, 0, 0]
    ∧ win0_8.index t = ![t.val, 0, 0] :=
  (by decide +kernel : ∀ t : Fin grid0.N, win0_0.index t = ![0, 0, 0]
    ∧ win0_1.index t = ![0, 0, 0]
    ∧ win0_2.index t = ![t.val, 0, 0]
    ∧ win0_3.index t = ![t.val, 0, 0]
    ∧ win0_4.index t = ![t.val, 0, 0]
    ∧ win0_5.index t = ![t.val, 0, 0]
    ∧ win0_6.index t = ![t.val, 0, 0]
    ∧ win0_7.index t = ![t.val, 0, 0]
    ∧ win0_8.index t = ![t.val, 0, 0])

section
variable (m : (ℓ : Loc nD τ sig) → Buf (Elt Ideal) ℓ) (c : Dev nD) (p q w n v : ℕ → ℕ → ℕ → EReal)
  (h0 : ∀ (s : Fin 8) (r : Fin 128) (l : Fin 1024), m ((c : Thread nD τ).loc main_arg0) (ix3 s r l) = p s r l)
  (h1 : ∀ (s : Fin 8) (r : Fin 128) (l : Fin 1024), m ((c : Thread nD τ).loc main_arg1) (ix3 s r l) = q s r l)
  (h2 : ∀ (s : Fin 2) (r : Fin 128) (l : Fin 1024), m ((c : Thread nD τ).loc main_arg2) (ix3 s r l) = w s r l)
  (h3 : ∀ (s : Fin 2) (r : Fin 128) (l : Fin 1024), m ((c : Thread nD τ).loc main_arg3) (ix3 s r l) = n s r l)
  (h4 : ∀ (s : Fin 2) (r : Fin 128) (l : Fin 1024), m ((c : Thread nD τ).loc main_arg4) (ix3 s r l) = v s r l)
  (t : Fin cfg0.N)

include h0 in
/-- The block of the first layer's parts. -/
theorem blk0 (s : Fin 8) (r : Fin 128) (l : Fin 1024) :
    ((iblk m c 0 t : FVec Ideal S8x128x1024 .bf16) (ix3 s r l) : EReal) = p s r l := by
  have hN : t.val < 2 := lt_of_lt_of_eq t.isLt N_0
  refine Eq.trans ?_ (h0 s r l)
  blk_ext [iblk, V, idx t]

include h1 in
/-- The block of the second layer's parts. -/
theorem blk1 (s : Fin 8) (r : Fin 128) (l : Fin 1024) :
    ((iblk m c 1 t : FVec Ideal S8x128x1024 .bf16) (ix3 s r l) : EReal) = q s r l := by
  have hN : t.val < 2 := lt_of_lt_of_eq t.isLt N_0
  refine Eq.trans ?_ (h1 s r l)
  blk_ext [iblk, V, idx t]

include h2 in
/-- The block of the weights. -/
theorem blk2 (r : Fin 128) (l : Fin 1024) :
    ((iblk m c 2 t : FVec Ideal S1x128x1024 .f32) (ix3 0 r l) : EReal) = w (t.val) r l := by
  have hN : t.val < 2 := lt_of_lt_of_eq t.isLt N_0
  refine Eq.trans ?_ (h2 ⟨t.val, by omega⟩ r l)
  blk_ext [iblk, V, idx t]

include h3 in
/-- The block of the first moment. -/
theorem blk3 (r : Fin 128) (l : Fin 1024) :
    ((iblk m c 3 t : FVec Ideal S1x128x1024 .f32) (ix3 0 r l) : EReal) = n (t.val) r l := by
  have hN : t.val < 2 := lt_of_lt_of_eq t.isLt N_0
  refine Eq.trans ?_ (h3 ⟨t.val, by omega⟩ r l)
  blk_ext [iblk, V, idx t]

include h4 in
/-- The block of the second moment. -/
theorem blk4 (r : Fin 128) (l : Fin 1024) :
    ((iblk m c 4 t : FVec Ideal S1x128x1024 .f32) (ix3 0 r l) : EReal) = v (t.val) r l := by
  have hN : t.val < 2 := lt_of_lt_of_eq t.isLt N_0
  refine Eq.trans ?_ (h4 ⟨t.val, by omega⟩ r l)
  blk_ext [iblk, V, idx t]

include h0 h1 in
/-- What a point of the grid stores of the gradient. -/
theorem out5 (k : Fin 128) (l : Fin 1024) :
    ((outsAt0 m c t.val t.isLt).1 (ix3 0 k l) : EReal) = grad p q (t.val) k l := by
  have hN : t.val < 2 := lt_of_lt_of_eq t.isLt N_0
  by_cases e : t.val < 1
  · rw [outsAt0_A m c t (by omega) (by omega)]
    frame_out
    pointwise [k0_pay9, k0_pay5]
    simp only [blk0 m c p h0 t, show t.val = 0 by omega, grad_zero, total_eq]
    rfl
  · rw [outsAt0_B m c t (by omega) (by omega)]
    frame_out
    pointwise [k0_pay15, k0_pay11]
    simp only [blk1 m c q h1 t, show t.val = 1 by omega, grad_one, total_eq]
    rfl

include h0 h1 in
/-- The array of the gradient. -/
theorem final5 : ((dats m 0 c).arrAt 5 cfg0.N : FVec Ideal S2x128x1024 .f32)
    = fun i => grad p q (i 0).val (i 1).val (i 2).val := by
  refine (dats m 0 c).arrAt_eq_of_covers 5 _ (by decide +kernel) fun t hf z => ?_
  blk_simp
  rw [after0_5]
  idx_vars z
  obtain rfl : z0 = 0 := Subsingleton.elim _ _
  refine (out5 m c p q h0 h1 t z1 z2).trans ?_
  rw [(idx t).2.2.2.2.2.1]
  simp

include h0 h1 h2 h3 h4 in
/-- What a point of the grid stores of the step. -/
theorem out6 (k : Fin 128) (l : Fin 1024) :
    ((outsAt0 m c t.val t.isLt).2.1 (ix3 0 k l) : EReal) = delta (w (t.val) k l) (n (t.val) k l) (v (t.val) k l) (grad p q (t.val) k l) := by
  have hN : t.val < 2 := lt_of_lt_of_eq t.isLt N_0
  by_cases e : t.val < 1
  · rw [outsAt0_A m c t (by omega) (by omega)]
    frame_out
    pointwise [k0_pay10, k0_pay7, k0_pay8, k0_pay6, k0_pay5]
    simp only [delta, first, second, blk0 m c p h0 t, blk2 m c w h2 t, blk3 m c n h3 t, blk4 m c v h4 t, show t.val = 0 by omega, grad_zero, total_eq]
    rfl
  · rw [outsAt0_B m c t (by omega) (by omega)]
    frame_out
    pointwise [k0_pay16, k0_pay13, k0_pay14, k0_pay12, k0_pay11]
    simp only [delta, first, second, blk1 m c q h1 t, blk2 m c w h2 t, blk3 m c n h3 t, blk4 m c v h4 t, show t.val = 1 by omega, grad_one, total_eq]
    rfl

include h0 h1 h2 h3 h4 in
/-- The array of the step. -/
theorem final6 : ((dats m 0 c).arrAt 6 cfg0.N : FVec Ideal S2x128x1024 .f32)
    = fun i => delta (w (i 0).val (i 1).val (i 2).val) (n (i 0).val (i 1).val (i 2).val) (v (i 0).val (i 1).val (i 2).val) (grad p q (i 0).val (i 1).val (i 2).val) := by
  refine (dats m 0 c).arrAt_eq_of_covers 6 _ (by decide +kernel) fun t hf z => ?_
  blk_simp
  rw [after0_6]
  idx_vars z
  obtain rfl : z0 = 0 := Subsingleton.elim _ _
  refine (out6 m c p q w n v h0 h1 h2 h3 h4 t z1 z2).trans ?_
  rw [(idx t).2.2.2.2.2.2.1]
  simp

include h0 h1 h3 in
/-- What a point of the grid stores of the new first moment. -/
theorem out7 (k : Fin 128) (l : Fin 1024) :
    ((outsAt0 m c t.val t.isLt).2.2.1 (ix3 0 k l) : EReal) = first (n (t.val) k l) (grad p q (t.val) k l) := by
  have hN : t.val < 2 := lt_of_lt_of_eq t.isLt N_0
  by_cases e : t.val < 1
  · rw [outsAt0_A m c t (by omega) (by omega)]
    frame_out
    pointwise [k0_pay1, k0_pay7, k0_pay6, k0_pay5]
    simp only [first, blk0 m c p h0 t, blk3 m c n h3 t, show t.val = 0 by omega, grad_zero, total_eq]
    rfl
  · rw [outsAt0_B m c t (by omega) (by omega)]
    frame_out
    pointwise [k0_pay3, k0_pay13, k0_pay12, k0_pay11]
    simp only [first, blk1 m c q h1 t, blk3 m c n h3 t, show t.val = 1 by omega, grad_one, total_eq]
    rfl

include h0 h1 h3 in
/-- The array of the new first moment. -/
theorem final7 : ((dats m 0 c).arrAt 7 cfg0.N : FVec Ideal S2x128x1024 .f32)
    = fun i => first (n (i 0).val (i 1).val (i 2).val) (grad p q (i 0).val (i 1).val (i 2).val) := by
  refine (dats m 0 c).arrAt_eq_of_covers 7 _ (by decide +kernel) fun t hf z => ?_
  blk_simp
  rw [after0_7]
  idx_vars z
  obtain rfl : z0 = 0 := Subsingleton.elim _ _
  refine (out7 m c p q n h0 h1 h3 t z1 z2).trans ?_
  rw [(idx t).2.2.2.2.2.2.2.1]
  simp

include h0 h1 h4 in
/-- What a point of the grid stores of the new second moment. -/
theorem out8 (k : Fin 128) (l : Fin 1024) :
    ((outsAt0 m c t.val t.isLt).2.2.2 (ix3 0 k l) : EReal) = second (v (t.val) k l) (grad p q (t.val) k l) := by
  have hN : t.val < 2 := lt_of_lt_of_eq t.isLt N_0
  by_cases e : t.val < 1
  · rw [outsAt0_A m c t (by omega) (by omega)]
    frame_out
    pointwise [k0_pay2, k0_pay8, k0_pay5]
    simp only [second, blk0 m c p h0 t, blk4 m c v h4 t, show t.val = 0 by omega, grad_zero, total_eq]
    rfl
  · rw [outsAt0_B m c t (by omega) (by omega)]
    frame_out
    pointwise [k0_pay4, k0_pay14, k0_pay11]
    simp only [second, blk1 m c q h1 t, blk4 m c v h4 t, show t.val = 1 by omega, grad_one, total_eq]
    rfl

include h0 h1 h4 in
/-- The array of the new second moment. -/
theorem final8 : ((dats m 0 c).arrAt 8 cfg0.N : FVec Ideal S2x128x1024 .f32)
    = fun i => second (v (i 0).val (i 1).val (i 2).val) (grad p q (i 0).val (i 1).val (i 2).val) := by
  refine (dats m 0 c).arrAt_eq_of_covers 8 _ (by decide +kernel) fun t hf z => ?_
  blk_simp
  rw [after0_8]
  idx_vars z
  obtain rfl : z0 = 0 := Subsingleton.elim _ _
  refine (out8 m c p q v h0 h1 h4 t z1 z2).trans ?_
  rw [(idx t).2.2.2.2.2.2.2.2]
  simp

end

end Cert.AGateIdeal.Upd

end
-- ==== Proof.AGateClaim.lean ====
module

public import proofs.«01_k».proof.Defs
public import proofs.«01_k».proof.Proof.AGateValue
public import proofs.«01_k».proof.Proof.Gen.AGateRefIdeal
public import proofs.«01_k».proof.Proof.Gen.AGateRefIdeal.Run

/-!
The update of the gate's weights: the kernel returns what the reference returns.
-/

@[expose] public section

set_option maxRecDepth 16384

noncomputable section

namespace Cert.AGate

open Idealize.ShloMosaic Idealize.ShloMosaic.TcCoe Idealize.SL.Sem
open Cert.Adam

/-- The kernel and the reference return the same gradient, step and moments. -/
theorem claim : Cert.algebraic_AGateIdeal_AGateRefIdeal (hAGateIdeal := Cert.AGateIdeal.Gen.facts) (hAGateRefIdeal := Cert.AGateRefIdeal.Gen.facts) := by
  intro m ρ m' ρ' _ hag
  refine ⟨fun c => (Cert.AGateIdeal.Gen.dats m 0 c).arrAt 5 Cert.AGateIdeal.cfg0.N, fun c => (Cert.AGateIdeal.Gen.dats m 0 c).arrAt 6 Cert.AGateIdeal.cfg0.N,
    fun c => (Cert.AGateIdeal.Gen.dats m 0 c).arrAt 7 Cert.AGateIdeal.cfg0.N, fun c => (Cert.AGateIdeal.Gen.dats m 0 c).arrAt 8 Cert.AGateIdeal.cfg0.N,
    (θ_run Cert.AGateIdeal.defs _ _).mono (fun r h c => ?_) (Cert.AGateIdeal.Value.run_blocks m ρ),
    (θ_run Cert.AGateRefIdeal.defs _ _).mono (fun r h c => ?_) (Cert.AGateRefIdeal.Value.run m' ρ')⟩
  · exact h c
  · obtain ⟨g0, g1, g2, g3, g4⟩ := hag c
    obtain ⟨k1, k2, k3, k4, k5⟩ := h c
    have a0 := at3_eq (m ((c : Thread Cert.AGateIdeal.nD Cert.AGateIdeal.τ).loc Cert.AGateIdeal.main_arg0))
    have a1 := at3_eq (m ((c : Thread Cert.AGateIdeal.nD Cert.AGateIdeal.τ).loc Cert.AGateIdeal.main_arg1))
    have a2 := at3_eq (m ((c : Thread Cert.AGateIdeal.nD Cert.AGateIdeal.τ).loc Cert.AGateIdeal.main_arg2))
    have a3 := at3_eq (m ((c : Thread Cert.AGateIdeal.nD Cert.AGateIdeal.τ).loc Cert.AGateIdeal.main_arg3))
    have a4 := at3_eq (m ((c : Thread Cert.AGateIdeal.nD Cert.AGateIdeal.τ).loc Cert.AGateIdeal.main_arg4))
    have f0 := fun s r l => (congrFun g0 (ix3 s r l)).trans (a0 s r l)
    have f1 := fun s r l => (congrFun g1 (ix3 s r l)).trans (a1 s r l)
    have f2 := fun s r l => (congrFun g2 (ix3 s r l)).trans (a2 s r l)
    have f3 := fun s r l => (congrFun g3 (ix3 s r l)).trans (a3 s r l)
    have f4 := fun s r l => (congrFun g4 (ix3 s r l)).trans (a4 s r l)
    refine ⟨k1.trans ?_, k2.trans ?_, k3.trans ?_, k4.trans ?_, k5⟩
    · refine Eq.trans ?_ (Cert.AGateIdeal.Upd.final5 m c _ _ a0 a1).symm
      funext i
      idx_vars i
      pointwise
      simp only [f0, f1, dite_eq_ite]
      rfl
    · refine Eq.trans ?_ (Cert.AGateIdeal.Upd.final6 m c _ _ _ _ _ a0 a1 a2 a3 a4).symm
      funext i
      idx_vars i
      pointwise
      simp only [f0, f1, f2, f3, f4, dite_eq_ite]
      rfl
    · refine Eq.trans ?_ (Cert.AGateIdeal.Upd.final7 m c _ _ _ a0 a1 a3).symm
      funext i
      idx_vars i
      pointwise
      simp only [f0, f1, f3, dite_eq_ite]
      rfl
    · refine Eq.trans ?_ (Cert.AGateIdeal.Upd.final8 m c _ _ _ a0 a1 a4).symm
      funext i
      idx_vars i
      pointwise
      simp only [f0, f1, f4, dite_eq_ite]
      rfl

end Cert.AGate

end
-- ==== Proof.AGluValue.lean ====
module

public import proofs.«01_k».proof.Proof.Gen.AGluIdeal.Value
public import proofs.«01_k».proof.Proof.Adam
public import Idealize.ShloMosaic.Lib.Pipeline.ValueKit
public import Idealize.ShloMosaic.Lib.Claim

/-!
What the update of the state-space branch's gate weights leaves in its four results: the gradient, the step and the two moments.
-/

@[expose] public section

set_option maxRecDepth 16384

noncomputable section

namespace Cert.AGluIdeal.Upd

open Cert.AGluIdeal Cert.AGluIdeal.Gen Idealize.ShloMosaic Idealize.ShloMosaic.TcCoe Idealize.SL.Sem
open Idealize.ShloMosaic.Pipeline (Dat)
open Cert.Adam

/-- Which block of its array each window holds at each point of the grid. -/
theorem idx : ∀ t : Fin cfg0.N, win0_0.index t = ![0, 0, 0]
    ∧ win0_1.index t = ![0, 0, 0]
    ∧ win0_2.index t = ![t.val, 0, 0]
    ∧ win0_3.index t = ![t.val, 0, 0]
    ∧ win0_4.index t = ![t.val, 0, 0]
    ∧ win0_5.index t = ![t.val, 0, 0]
    ∧ win0_6.index t = ![t.val, 0, 0]
    ∧ win0_7.index t = ![t.val, 0, 0]
    ∧ win0_8.index t = ![t.val, 0, 0] :=
  (by decide +kernel : ∀ t : Fin grid0.N, win0_0.index t = ![0, 0, 0]
    ∧ win0_1.index t = ![0, 0, 0]
    ∧ win0_2.index t = ![t.val, 0, 0]
    ∧ win0_3.index t = ![t.val, 0, 0]
    ∧ win0_4.index t = ![t.val, 0, 0]
    ∧ win0_5.index t = ![t.val, 0, 0]
    ∧ win0_6.index t = ![t.val, 0, 0]
    ∧ win0_7.index t = ![t.val, 0, 0]
    ∧ win0_8.index t = ![t.val, 0, 0])

section
variable (m : (ℓ : Loc nD τ sig) → Buf (Elt Ideal) ℓ) (c : Dev nD) (p q w n v : ℕ → ℕ → ℕ → EReal)
  (h0 : ∀ (s : Fin 8) (r : Fin 32) (l : Fin 256), m ((c : Thread nD τ).loc main_arg0) (ix3 s r l) = p s r l)
  (h1 : ∀ (s : Fin 8) (r : Fin 32) (l : Fin 256), m ((c : Thread nD τ).loc main_arg1) (ix3 s r l) = q s r l)
  (h2 : ∀ (s : Fin 2) (r : Fin 32) (l : Fin 256), m ((c : Thread nD τ).loc main_arg2) (ix3 s r l) = w s r l)
  (h3 : ∀ (s : Fin 2) (r : Fin 32) (l : Fin 256), m ((c : Thread nD τ).loc main_arg3) (ix3 s r l) = n s r l)
  (h4 : ∀ (s : Fin 2) (r : Fin 32) (l : Fin 256), m ((c : Thread nD τ).loc main_arg4) (ix3 s r l) = v s r l)
  (t : Fin cfg0.N)

include h0 in
/-- The block of the first layer's parts. -/
theorem blk0 (s : Fin 8) (r : Fin 32) (l : Fin 256) :
    ((iblk m c 0 t : FVec Ideal S8x32x256 .bf16) (ix3 s r l) : EReal) = p s r l := by
  have hN : t.val < 2 := lt_of_lt_of_eq t.isLt N_0
  refine Eq.trans ?_ (h0 s r l)
  blk_ext [iblk, V, idx t]

include h1 in
/-- The block of the second layer's parts. -/
theorem blk1 (s : Fin 8) (r : Fin 32) (l : Fin 256) :
    ((iblk m c 1 t : FVec Ideal S8x32x256 .bf16) (ix3 s r l) : EReal) = q s r l := by
  have hN : t.val < 2 := lt_of_lt_of_eq t.isLt N_0
  refine Eq.trans ?_ (h1 s r l)
  blk_ext [iblk, V, idx t]

include h2 in
/-- The block of the weights. -/
theorem blk2 (r : Fin 32) (l : Fin 256) :
    ((iblk m c 2 t : FVec Ideal S1x32x256 .f32) (ix3 0 r l) : EReal) = w (t.val) r l := by
  have hN : t.val < 2 := lt_of_lt_of_eq t.isLt N_0
  refine Eq.trans ?_ (h2 ⟨t.val, by omega⟩ r l)
  blk_ext [iblk, V, idx t]

include h3 in
/-- The block of the first moment. -/
theorem blk3 (r : Fin 32) (l : Fin 256) :
    ((iblk m c 3 t : FVec Ideal S1x32x256 .f32) (ix3 0 r l) : EReal) = n (t.val) r l := by
  have hN : t.val < 2 := lt_of_lt_of_eq t.isLt N_0
  refine Eq.trans ?_ (h3 ⟨t.val, by omega⟩ r l)
  blk_ext [iblk, V, idx t]

include h4 in
/-- The block of the second moment. -/
theorem blk4 (r : Fin 32) (l : Fin 256) :
    ((iblk m c 4 t : FVec Ideal S1x32x256 .f32) (ix3 0 r l) : EReal) = v (t.val) r l := by
  have hN : t.val < 2 := lt_of_lt_of_eq t.isLt N_0
  refine Eq.trans ?_ (h4 ⟨t.val, by omega⟩ r l)
  blk_ext [iblk, V, idx t]

include h0 h1 in
/-- What a point of the grid stores of the gradient. -/
theorem out5 (k : Fin 32) (l : Fin 256) :
    ((outsAt0 m c t.val t.isLt).1 (ix3 0 k l) : EReal) = grad p q (t.val) k l := by
  have hN : t.val < 2 := lt_of_lt_of_eq t.isLt N_0
  by_cases e : t.val < 1
  · rw [outsAt0_A m c t (by omega) (by omega)]
    frame_out
    pointwise [k0_pay9, k0_pay5]
    simp only [blk0 m c p h0 t, show t.val = 0 by omega, grad_zero, total_eq]
    rfl
  · rw [outsAt0_B m c t (by omega) (by omega)]
    frame_out
    pointwise [k0_pay15, k0_pay11]
    simp only [blk1 m c q h1 t, show t.val = 1 by omega, grad_one, total_eq]
    rfl

include h0 h1 in
/-- The array of the gradient. -/
theorem final5 : ((dats m 0 c).arrAt 5 cfg0.N : FVec Ideal S2x32x256 .f32)
    = fun i => grad p q (i 0).val (i 1).val (i 2).val := by
  refine (dats m 0 c).arrAt_eq_of_covers 5 _ (by decide +kernel) fun t hf z => ?_
  blk_simp
  rw [after0_5]
  idx_vars z
  obtain rfl : z0 = 0 := Subsingleton.elim _ _
  refine (out5 m c p q h0 h1 t z1 z2).trans ?_
  rw [(idx t).2.2.2.2.2.1]
  simp

include h0 h1 h2 h3 h4 in
/-- What a point of the grid stores of the step. -/
theorem out6 (k : Fin 32) (l : Fin 256) :
    ((outsAt0 m c t.val t.isLt).2.1 (ix3 0 k l) : EReal) = delta (w (t.val) k l) (n (t.val) k l) (v (t.val) k l) (grad p q (t.val) k l) := by
  have hN : t.val < 2 := lt_of_lt_of_eq t.isLt N_0
  by_cases e : t.val < 1
  · rw [outsAt0_A m c t (by omega) (by omega)]
    frame_out
    pointwise [k0_pay10, k0_pay7, k0_pay8, k0_pay6, k0_pay5]
    simp only [delta, first, second, blk0 m c p h0 t, blk2 m c w h2 t, blk3 m c n h3 t, blk4 m c v h4 t, show t.val = 0 by omega, grad_zero, total_eq]
    rfl
  · rw [outsAt0_B m c t (by omega) (by omega)]
    frame_out
    pointwise [k0_pay16, k0_pay13, k0_pay14, k0_pay12, k0_pay11]
    simp only [delta, first, second, blk1 m c q h1 t, blk2 m c w h2 t, blk3 m c n h3 t, blk4 m c v h4 t, show t.val = 1 by omega, grad_one, total_eq]
    rfl

include h0 h1 h2 h3 h4 in
/-- The array of the step. -/
theorem final6 : ((dats m 0 c).arrAt 6 cfg0.N : FVec Ideal S2x32x256 .f32)
    = fun i => delta (w (i 0).val (i 1).val (i 2).val) (n (i 0).val (i 1).val (i 2).val) (v (i 0).val (i 1).val (i 2).val) (grad p q (i 0).val (i 1).val (i 2).val) := by
  refine (dats m 0 c).arrAt_eq_of_covers 6 _ (by decide +kernel) fun t hf z => ?_
  blk_simp
  rw [after0_6]
  idx_vars z
  obtain rfl : z0 = 0 := Subsingleton.elim _ _
  refine (out6 m c p q w n v h0 h1 h2 h3 h4 t z1 z2).trans ?_
  rw [(idx t).2.2.2.2.2.2.1]
  simp

include h0 h1 h3 in
/-- What a point of the grid stores of the new first moment. -/
theorem out7 (k : Fin 32) (l : Fin 256) :
    ((outsAt0 m c t.val t.isLt).2.2.1 (ix3 0 k l) : EReal) = first (n (t.val) k l) (grad p q (t.val) k l) := by
  have hN : t.val < 2 := lt_of_lt_of_eq t.isLt N_0
  by_cases e : t.val < 1
  · rw [outsAt0_A m c t (by omega) (by omega)]
    frame_out
    pointwise [k0_pay1, k0_pay7, k0_pay6, k0_pay5]
    simp only [first, blk0 m c p h0 t, blk3 m c n h3 t, show t.val = 0 by omega, grad_zero, total_eq]
    rfl
  · rw [outsAt0_B m c t (by omega) (by omega)]
    frame_out
    pointwise [k0_pay3, k0_pay13, k0_pay12, k0_pay11]
    simp only [first, blk1 m c q h1 t, blk3 m c n h3 t, show t.val = 1 by omega, grad_one, total_eq]
    rfl

include h0 h1 h3 in
/-- The array of the new first moment. -/
theorem final7 : ((dats m 0 c).arrAt 7 cfg0.N : FVec Ideal S2x32x256 .f32)
    = fun i => first (n (i 0).val (i 1).val (i 2).val) (grad p q (i 0).val (i 1).val (i 2).val) := by
  refine (dats m 0 c).arrAt_eq_of_covers 7 _ (by decide +kernel) fun t hf z => ?_
  blk_simp
  rw [after0_7]
  idx_vars z
  obtain rfl : z0 = 0 := Subsingleton.elim _ _
  refine (out7 m c p q n h0 h1 h3 t z1 z2).trans ?_
  rw [(idx t).2.2.2.2.2.2.2.1]
  simp

include h0 h1 h4 in
/-- What a point of the grid stores of the new second moment. -/
theorem out8 (k : Fin 32) (l : Fin 256) :
    ((outsAt0 m c t.val t.isLt).2.2.2 (ix3 0 k l) : EReal) = second (v (t.val) k l) (grad p q (t.val) k l) := by
  have hN : t.val < 2 := lt_of_lt_of_eq t.isLt N_0
  by_cases e : t.val < 1
  · rw [outsAt0_A m c t (by omega) (by omega)]
    frame_out
    pointwise [k0_pay2, k0_pay8, k0_pay5]
    simp only [second, blk0 m c p h0 t, blk4 m c v h4 t, show t.val = 0 by omega, grad_zero, total_eq]
    rfl
  · rw [outsAt0_B m c t (by omega) (by omega)]
    frame_out
    pointwise [k0_pay4, k0_pay14, k0_pay11]
    simp only [second, blk1 m c q h1 t, blk4 m c v h4 t, show t.val = 1 by omega, grad_one, total_eq]
    rfl

include h0 h1 h4 in
/-- The array of the new second moment. -/
theorem final8 : ((dats m 0 c).arrAt 8 cfg0.N : FVec Ideal S2x32x256 .f32)
    = fun i => second (v (i 0).val (i 1).val (i 2).val) (grad p q (i 0).val (i 1).val (i 2).val) := by
  refine (dats m 0 c).arrAt_eq_of_covers 8 _ (by decide +kernel) fun t hf z => ?_
  blk_simp
  rw [after0_8]
  idx_vars z
  obtain rfl : z0 = 0 := Subsingleton.elim _ _
  refine (out8 m c p q v h0 h1 h4 t z1 z2).trans ?_
  rw [(idx t).2.2.2.2.2.2.2.2]
  simp

end

end Cert.AGluIdeal.Upd

end
-- ==== Proof.AGluClaim.lean ====
module

public import proofs.«01_k».proof.Defs
public import proofs.«01_k».proof.Proof.AGluValue
public import proofs.«01_k».proof.Proof.Gen.AGluRefIdeal
public import proofs.«01_k».proof.Proof.Gen.AGluRefIdeal.Run

/-!
The update of the state-space branch's gate weights: the kernel returns what the reference returns.
-/

@[expose] public section

set_option maxRecDepth 16384

noncomputable section

namespace Cert.AGlu

open Idealize.ShloMosaic Idealize.ShloMosaic.TcCoe Idealize.SL.Sem
open Cert.Adam

/-- The kernel and the reference return the same gradient, step and moments. -/
theorem claim : Cert.algebraic_AGluIdeal_AGluRefIdeal (hAGluIdeal := Cert.AGluIdeal.Gen.facts) (hAGluRefIdeal := Cert.AGluRefIdeal.Gen.facts) := by
  intro m ρ m' ρ' _ hag
  refine ⟨fun c => (Cert.AGluIdeal.Gen.dats m 0 c).arrAt 5 Cert.AGluIdeal.cfg0.N, fun c => (Cert.AGluIdeal.Gen.dats m 0 c).arrAt 6 Cert.AGluIdeal.cfg0.N,
    fun c => (Cert.AGluIdeal.Gen.dats m 0 c).arrAt 7 Cert.AGluIdeal.cfg0.N, fun c => (Cert.AGluIdeal.Gen.dats m 0 c).arrAt 8 Cert.AGluIdeal.cfg0.N,
    (θ_run Cert.AGluIdeal.defs _ _).mono (fun r h c => ?_) (Cert.AGluIdeal.Value.run_blocks m ρ),
    (θ_run Cert.AGluRefIdeal.defs _ _).mono (fun r h c => ?_) (Cert.AGluRefIdeal.Value.run m' ρ')⟩
  · exact h c
  · obtain ⟨g0, g1, g2, g3, g4⟩ := hag c
    obtain ⟨k1, k2, k3, k4, k5⟩ := h c
    have a0 := at3_eq (m ((c : Thread Cert.AGluIdeal.nD Cert.AGluIdeal.τ).loc Cert.AGluIdeal.main_arg0))
    have a1 := at3_eq (m ((c : Thread Cert.AGluIdeal.nD Cert.AGluIdeal.τ).loc Cert.AGluIdeal.main_arg1))
    have a2 := at3_eq (m ((c : Thread Cert.AGluIdeal.nD Cert.AGluIdeal.τ).loc Cert.AGluIdeal.main_arg2))
    have a3 := at3_eq (m ((c : Thread Cert.AGluIdeal.nD Cert.AGluIdeal.τ).loc Cert.AGluIdeal.main_arg3))
    have a4 := at3_eq (m ((c : Thread Cert.AGluIdeal.nD Cert.AGluIdeal.τ).loc Cert.AGluIdeal.main_arg4))
    have f0 := fun s r l => (congrFun g0 (ix3 s r l)).trans (a0 s r l)
    have f1 := fun s r l => (congrFun g1 (ix3 s r l)).trans (a1 s r l)
    have f2 := fun s r l => (congrFun g2 (ix3 s r l)).trans (a2 s r l)
    have f3 := fun s r l => (congrFun g3 (ix3 s r l)).trans (a3 s r l)
    have f4 := fun s r l => (congrFun g4 (ix3 s r l)).trans (a4 s r l)
    refine ⟨k1.trans ?_, k2.trans ?_, k3.trans ?_, k4.trans ?_, k5⟩
    · refine Eq.trans ?_ (Cert.AGluIdeal.Upd.final5 m c _ _ a0 a1).symm
      funext i
      idx_vars i
      pointwise
      simp only [f0, f1, dite_eq_ite]
      rfl
    · refine Eq.trans ?_ (Cert.AGluIdeal.Upd.final6 m c _ _ _ _ _ a0 a1 a2 a3 a4).symm
      funext i
      idx_vars i
      pointwise
      simp only [f0, f1, f2, f3, f4, dite_eq_ite]
      rfl
    · refine Eq.trans ?_ (Cert.AGluIdeal.Upd.final7 m c _ _ _ a0 a1 a3).symm
      funext i
      idx_vars i
      pointwise
      simp only [f0, f1, f3, dite_eq_ite]
      rfl
    · refine Eq.trans ?_ (Cert.AGluIdeal.Upd.final8 m c _ _ _ a0 a1 a4).symm
      funext i
      idx_vars i
      pointwise
      simp only [f0, f1, f4, dite_eq_ite]
      rfl

end Cert.AGlu

end
-- ==== Proof.AInValue.lean ====
module

public import proofs.«01_k».proof.Proof.Gen.AInIdeal.Value
public import proofs.«01_k».proof.Proof.Adam
public import Idealize.ShloMosaic.Lib.Pipeline.ValueKit
public import Idealize.ShloMosaic.Lib.Claim

/-!
What the update of the input projection's weights leaves in its four results: the gradient, the step and the two moments.
-/

@[expose] public section

set_option maxRecDepth 16384

noncomputable section

namespace Cert.AInIdeal.Upd

open Cert.AInIdeal Cert.AInIdeal.Gen Idealize.ShloMosaic Idealize.ShloMosaic.TcCoe Idealize.SL.Sem
open Idealize.ShloMosaic.Pipeline (Dat)
open Cert.Adam

/-- Which block of its array each window holds at each point of the grid. -/
theorem idx : ∀ t : Fin cfg0.N, win0_0.index t = ![0, t.val % 2, 0]
    ∧ win0_1.index t = ![0, t.val % 2, 0]
    ∧ win0_2.index t = ![t.val / 2, t.val % 2, 0]
    ∧ win0_3.index t = ![t.val / 2, t.val % 2, 0]
    ∧ win0_4.index t = ![t.val / 2, t.val % 2, 0]
    ∧ win0_5.index t = ![t.val / 2, t.val % 2, 0]
    ∧ win0_6.index t = ![t.val / 2, t.val % 2, 0]
    ∧ win0_7.index t = ![t.val / 2, t.val % 2, 0]
    ∧ win0_8.index t = ![t.val / 2, t.val % 2, 0] :=
  (by decide +kernel : ∀ t : Fin grid0.N, win0_0.index t = ![0, t.val % 2, 0]
    ∧ win0_1.index t = ![0, t.val % 2, 0]
    ∧ win0_2.index t = ![t.val / 2, t.val % 2, 0]
    ∧ win0_3.index t = ![t.val / 2, t.val % 2, 0]
    ∧ win0_4.index t = ![t.val / 2, t.val % 2, 0]
    ∧ win0_5.index t = ![t.val / 2, t.val % 2, 0]
    ∧ win0_6.index t = ![t.val / 2, t.val % 2, 0]
    ∧ win0_7.index t = ![t.val / 2, t.val % 2, 0]
    ∧ win0_8.index t = ![t.val / 2, t.val % 2, 0])

section
variable (m : (ℓ : Loc nD τ sig) → Buf (Elt Ideal) ℓ) (c : Dev nD) (p q w n v : ℕ → ℕ → ℕ → EReal)
  (h0 : ∀ (s : Fin 8) (r : Fin 288) (l : Fin 1024), m ((c : Thread nD τ).loc main_arg0) (ix3 s r l) = p s r l)
  (h1 : ∀ (s : Fin 8) (r : Fin 288) (l : Fin 1024), m ((c : Thread nD τ).loc main_arg1) (ix3 s r l) = q s r l)
  (h2 : ∀ (s : Fin 2) (r : Fin 288) (l : Fin 1024), m ((c : Thread nD τ).loc main_arg2) (ix3 s r l) = w s r l)
  (h3 : ∀ (s : Fin 2) (r : Fin 288) (l : Fin 1024), m ((c : Thread nD τ).loc main_arg3) (ix3 s r l) = n s r l)
  (h4 : ∀ (s : Fin 2) (r : Fin 288) (l : Fin 1024), m ((c : Thread nD τ).loc main_arg4) (ix3 s r l) = v s r l)
  (t : Fin cfg0.N)

include h0 in
/-- The block of the first layer's parts. -/
theorem blk0 (s : Fin 8) (r : Fin 144) (l : Fin 1024) :
    ((iblk m c 0 t : FVec Ideal S8x144x1024 .bf16) (ix3 s r l) : EReal) = p s (t.val % 2 * 144 + r) l := by
  have hN : t.val < 4 := lt_of_lt_of_eq t.isLt N_0
  refine Eq.trans ?_ (h0 s ⟨t.val % 2 * 144 + r, by omega⟩ l)
  blk_ext [iblk, V, idx t]

include h1 in
/-- The block of the second layer's parts. -/
theorem blk1 (s : Fin 8) (r : Fin 144) (l : Fin 1024) :
    ((iblk m c 1 t : FVec Ideal S8x144x1024 .bf16) (ix3 s r l) : EReal) = q s (t.val % 2 * 144 + r) l := by
  have hN : t.val < 4 := lt_of_lt_of_eq t.isLt N_0
  refine Eq.trans ?_ (h1 s ⟨t.val % 2 * 144 + r, by omega⟩ l)
  blk_ext [iblk, V, idx t]

include h2 in
/-- The block of the weights. -/
theorem blk2 (r : Fin 144) (l : Fin 1024) :
    ((iblk m c 2 t : FVec Ideal S1x144x1024 .f32) (ix3 0 r l) : EReal) = w (t.val / 2) (t.val % 2 * 144 + r) l := by
  have hN : t.val < 4 := lt_of_lt_of_eq t.isLt N_0
  refine Eq.trans ?_ (h2 ⟨t.val / 2, by omega⟩ ⟨t.val % 2 * 144 + r, by omega⟩ l)
  blk_ext [iblk, V, idx t]

include h3 in
/-- The block of the first moment. -/
theorem blk3 (r : Fin 144) (l : Fin 1024) :
    ((iblk m c 3 t : FVec Ideal S1x144x1024 .f32) (ix3 0 r l) : EReal) = n (t.val / 2) (t.val % 2 * 144 + r) l := by
  have hN : t.val < 4 := lt_of_lt_of_eq t.isLt N_0
  refine Eq.trans ?_ (h3 ⟨t.val / 2, by omega⟩ ⟨t.val % 2 * 144 + r, by omega⟩ l)
  blk_ext [iblk, V, idx t]

include h4 in
/-- The block of the second moment. -/
theorem blk4 (r : Fin 144) (l : Fin 1024) :
    ((iblk m c 4 t : FVec Ideal S1x144x1024 .f32) (ix3 0 r l) : EReal) = v (t.val / 2) (t.val % 2 * 144 + r) l := by
  have hN : t.val < 4 := lt_of_lt_of_eq t.isLt N_0
  refine Eq.trans ?_ (h4 ⟨t.val / 2, by omega⟩ ⟨t.val % 2 * 144 + r, by omega⟩ l)
  blk_ext [iblk, V, idx t]

include h0 h1 in
/-- What a point of the grid stores of the gradient. -/
theorem out5 (k : Fin 144) (l : Fin 1024) :
    ((outsAt0 m c t.val t.isLt).1 (ix3 0 k l) : EReal) = grad p q (t.val / 2) (t.val % 2 * 144 + k) l := by
  have hN : t.val < 4 := lt_of_lt_of_eq t.isLt N_0
  by_cases e : t.val < 2
  · rw [outsAt0_A m c t (by omega) (by omega)]
    frame_out
    pointwise [k0_pay9, k0_pay5]
    simp only [blk0 m c p h0 t, show t.val / 2 = 0 by omega, grad_zero, total_eq]
    rfl
  · rw [outsAt0_B m c t (by omega) (by omega)]
    frame_out
    pointwise [k0_pay15, k0_pay11]
    simp only [blk1 m c q h1 t, show t.val / 2 = 1 by omega, grad_one, total_eq]
    rfl

include h0 h1 in
/-- The array of the gradient. -/
theorem final5 : ((dats m 0 c).arrAt 5 cfg0.N : FVec Ideal S2x288x1024 .f32)
    = fun i => grad p q (i 0).val (i 1).val (i 2).val := by
  refine (dats m 0 c).arrAt_eq_of_covers 5 _ (by decide +kernel) fun t hf z => ?_
  blk_simp
  rw [after0_5]
  idx_vars z
  obtain rfl : z0 = 0 := Subsingleton.elim _ _
  refine (out5 m c p q h0 h1 t z1 z2).trans ?_
  rw [(idx t).2.2.2.2.2.1]
  simp

include h0 h1 h2 h3 h4 in
/-- What a point of the grid stores of the step. -/
theorem out6 (k : Fin 144) (l : Fin 1024) :
    ((outsAt0 m c t.val t.isLt).2.1 (ix3 0 k l) : EReal) = delta (w (t.val / 2) (t.val % 2 * 144 + k) l) (n (t.val / 2) (t.val % 2 * 144 + k) l) (v (t.val / 2) (t.val % 2 * 144 + k) l) (grad p q (t.val / 2) (t.val % 2 * 144 + k) l) := by
  have hN : t.val < 4 := lt_of_lt_of_eq t.isLt N_0
  by_cases e : t.val < 2
  · rw [outsAt0_A m c t (by omega) (by omega)]
    frame_out
    pointwise [k0_pay10, k0_pay7, k0_pay8, k0_pay6, k0_pay5]
    simp only [delta, first, second, blk0 m c p h0 t, blk2 m c w h2 t, blk3 m c n h3 t, blk4 m c v h4 t, show t.val / 2 = 0 by omega, grad_zero, total_eq]
    rfl
  · rw [outsAt0_B m c t (by omega) (by omega)]
    frame_out
    pointwise [k0_pay16, k0_pay13, k0_pay14, k0_pay12, k0_pay11]
    simp only [delta, first, second, blk1 m c q h1 t, blk2 m c w h2 t, blk3 m c n h3 t, blk4 m c v h4 t, show t.val / 2 = 1 by omega, grad_one, total_eq]
    rfl

include h0 h1 h2 h3 h4 in
/-- The array of the step. -/
theorem final6 : ((dats m 0 c).arrAt 6 cfg0.N : FVec Ideal S2x288x1024 .f32)
    = fun i => delta (w (i 0).val (i 1).val (i 2).val) (n (i 0).val (i 1).val (i 2).val) (v (i 0).val (i 1).val (i 2).val) (grad p q (i 0).val (i 1).val (i 2).val) := by
  refine (dats m 0 c).arrAt_eq_of_covers 6 _ (by decide +kernel) fun t hf z => ?_
  blk_simp
  rw [after0_6]
  idx_vars z
  obtain rfl : z0 = 0 := Subsingleton.elim _ _
  refine (out6 m c p q w n v h0 h1 h2 h3 h4 t z1 z2).trans ?_
  rw [(idx t).2.2.2.2.2.2.1]
  simp

include h0 h1 h3 in
/-- What a point of the grid stores of the new first moment. -/
theorem out7 (k : Fin 144) (l : Fin 1024) :
    ((outsAt0 m c t.val t.isLt).2.2.1 (ix3 0 k l) : EReal) = first (n (t.val / 2) (t.val % 2 * 144 + k) l) (grad p q (t.val / 2) (t.val % 2 * 144 + k) l) := by
  have hN : t.val < 4 := lt_of_lt_of_eq t.isLt N_0
  by_cases e : t.val < 2
  · rw [outsAt0_A m c t (by omega) (by omega)]
    frame_out
    pointwise [k0_pay1, k0_pay7, k0_pay6, k0_pay5]
    simp only [first, blk0 m c p h0 t, blk3 m c n h3 t, show t.val / 2 = 0 by omega, grad_zero, total_eq]
    rfl
  · rw [outsAt0_B m c t (by omega) (by omega)]
    frame_out
    pointwise [k0_pay3, k0_pay13, k0_pay12, k0_pay11]
    simp only [first, blk1 m c q h1 t, blk3 m c n h3 t, show t.val / 2 = 1 by omega, grad_one, total_eq]
    rfl

include h0 h1 h3 in
/-- The array of the new first moment. -/
theorem final7 : ((dats m 0 c).arrAt 7 cfg0.N : FVec Ideal S2x288x1024 .f32)
    = fun i => first (n (i 0).val (i 1).val (i 2).val) (grad p q (i 0).val (i 1).val (i 2).val) := by
  refine (dats m 0 c).arrAt_eq_of_covers 7 _ (by decide +kernel) fun t hf z => ?_
  blk_simp
  rw [after0_7]
  idx_vars z
  obtain rfl : z0 = 0 := Subsingleton.elim _ _
  refine (out7 m c p q n h0 h1 h3 t z1 z2).trans ?_
  rw [(idx t).2.2.2.2.2.2.2.1]
  simp

include h0 h1 h4 in
/-- What a point of the grid stores of the new second moment. -/
theorem out8 (k : Fin 144) (l : Fin 1024) :
    ((outsAt0 m c t.val t.isLt).2.2.2 (ix3 0 k l) : EReal) = second (v (t.val / 2) (t.val % 2 * 144 + k) l) (grad p q (t.val / 2) (t.val % 2 * 144 + k) l) := by
  have hN : t.val < 4 := lt_of_lt_of_eq t.isLt N_0
  by_cases e : t.val < 2
  · rw [outsAt0_A m c t (by omega) (by omega)]
    frame_out
    pointwise [k0_pay2, k0_pay8, k0_pay5]
    simp only [second, blk0 m c p h0 t, blk4 m c v h4 t, show t.val / 2 = 0 by omega, grad_zero, total_eq]
    rfl
  · rw [outsAt0_B m c t (by omega) (by omega)]
    frame_out
    pointwise [k0_pay4, k0_pay14, k0_pay11]
    simp only [second, blk1 m c q h1 t, blk4 m c v h4 t, show t.val / 2 = 1 by omega, grad_one, total_eq]
    rfl

include h0 h1 h4 in
/-- The array of the new second moment. -/
theorem final8 : ((dats m 0 c).arrAt 8 cfg0.N : FVec Ideal S2x288x1024 .f32)
    = fun i => second (v (i 0).val (i 1).val (i 2).val) (grad p q (i 0).val (i 1).val (i 2).val) := by
  refine (dats m 0 c).arrAt_eq_of_covers 8 _ (by decide +kernel) fun t hf z => ?_
  blk_simp
  rw [after0_8]
  idx_vars z
  obtain rfl : z0 = 0 := Subsingleton.elim _ _
  refine (out8 m c p q v h0 h1 h4 t z1 z2).trans ?_
  rw [(idx t).2.2.2.2.2.2.2.2]
  simp

end

end Cert.AInIdeal.Upd

end
-- ==== Proof.AInClaim.lean ====
module

public import proofs.«01_k».proof.Defs
public import proofs.«01_k».proof.Proof.AInValue
public import proofs.«01_k».proof.Proof.Gen.AInRefIdeal
public import proofs.«01_k».proof.Proof.Gen.AInRefIdeal.Run

/-!
The update of the input projection's weights: the kernel returns what the reference returns.
-/

@[expose] public section

set_option maxRecDepth 16384

noncomputable section

namespace Cert.AIn

open Idealize.ShloMosaic Idealize.ShloMosaic.TcCoe Idealize.SL.Sem
open Cert.Adam

/-- The kernel and the reference return the same gradient, step and moments. -/
theorem claim : Cert.algebraic_AInIdeal_AInRefIdeal (hAInIdeal := Cert.AInIdeal.Gen.facts) (hAInRefIdeal := Cert.AInRefIdeal.Gen.facts) := by
  intro m ρ m' ρ' _ hag
  refine ⟨fun c => (Cert.AInIdeal.Gen.dats m 0 c).arrAt 5 Cert.AInIdeal.cfg0.N, fun c => (Cert.AInIdeal.Gen.dats m 0 c).arrAt 6 Cert.AInIdeal.cfg0.N,
    fun c => (Cert.AInIdeal.Gen.dats m 0 c).arrAt 7 Cert.AInIdeal.cfg0.N, fun c => (Cert.AInIdeal.Gen.dats m 0 c).arrAt 8 Cert.AInIdeal.cfg0.N,
    (θ_run Cert.AInIdeal.defs _ _).mono (fun r h c => ?_) (Cert.AInIdeal.Value.run_blocks m ρ),
    (θ_run Cert.AInRefIdeal.defs _ _).mono (fun r h c => ?_) (Cert.AInRefIdeal.Value.run m' ρ')⟩
  · exact h c
  · obtain ⟨g0, g1, g2, g3, g4⟩ := hag c
    obtain ⟨k1, k2, k3, k4, k5⟩ := h c
    have a0 := at3_eq (m ((c : Thread Cert.AInIdeal.nD Cert.AInIdeal.τ).loc Cert.AInIdeal.main_arg0))
    have a1 := at3_eq (m ((c : Thread Cert.AInIdeal.nD Cert.AInIdeal.τ).loc Cert.AInIdeal.main_arg1))
    have a2 := at3_eq (m ((c : Thread Cert.AInIdeal.nD Cert.AInIdeal.τ).loc Cert.AInIdeal.main_arg2))
    have a3 := at3_eq (m ((c : Thread Cert.AInIdeal.nD Cert.AInIdeal.τ).loc Cert.AInIdeal.main_arg3))
    have a4 := at3_eq (m ((c : Thread Cert.AInIdeal.nD Cert.AInIdeal.τ).loc Cert.AInIdeal.main_arg4))
    have f0 := fun s r l => (congrFun g0 (ix3 s r l)).trans (a0 s r l)
    have f1 := fun s r l => (congrFun g1 (ix3 s r l)).trans (a1 s r l)
    have f2 := fun s r l => (congrFun g2 (ix3 s r l)).trans (a2 s r l)
    have f3 := fun s r l => (congrFun g3 (ix3 s r l)).trans (a3 s r l)
    have f4 := fun s r l => (congrFun g4 (ix3 s r l)).trans (a4 s r l)
    refine ⟨k1.trans ?_, k2.trans ?_, k3.trans ?_, k4.trans ?_, k5⟩
    · refine Eq.trans ?_ (Cert.AInIdeal.Upd.final5 m c _ _ a0 a1).symm
      funext i
      idx_vars i
      pointwise
      simp only [f0, f1, dite_eq_ite]
      rfl
    · refine Eq.trans ?_ (Cert.AInIdeal.Upd.final6 m c _ _ _ _ _ a0 a1 a2 a3 a4).symm
      funext i
      idx_vars i
      pointwise
      simp only [f0, f1, f2, f3, f4, dite_eq_ite]
      rfl
    · refine Eq.trans ?_ (Cert.AInIdeal.Upd.final7 m c _ _ _ a0 a1 a3).symm
      funext i
      idx_vars i
      pointwise
      simp only [f0, f1, f3, dite_eq_ite]
      rfl
    · refine Eq.trans ?_ (Cert.AInIdeal.Upd.final8 m c _ _ _ a0 a1 a4).symm
      funext i
      idx_vars i
      pointwise
      simp only [f0, f1, f4, dite_eq_ite]
      rfl

end Cert.AIn

end
-- ==== Proof.AOutValue.lean ====
module

public import proofs.«01_k».proof.Proof.Gen.AOutIdeal.Value
public import proofs.«01_k».proof.Proof.Adam
public import Idealize.ShloMosaic.Lib.Pipeline.ValueKit
public import Idealize.ShloMosaic.Lib.Claim

/-!
What the update of the output projection's weights leaves in its four results: the gradient, the step and the two moments.
-/

@[expose] public section

set_option maxRecDepth 16384

noncomputable section

namespace Cert.AOutIdeal.Upd

open Cert.AOutIdeal Cert.AOutIdeal.Gen Idealize.ShloMosaic Idealize.ShloMosaic.TcCoe Idealize.SL.Sem
open Idealize.ShloMosaic.Pipeline (Dat)
open Cert.Adam

/-- Which block of its array each window holds at each point of the grid. -/
theorem idx : ∀ t : Fin cfg0.N, win0_0.index t = ![0, 0, 0]
    ∧ win0_1.index t = ![0, 0, 0]
    ∧ win0_2.index t = ![t.val, 0, 0]
    ∧ win0_3.index t = ![t.val, 0, 0]
    ∧ win0_4.index t = ![t.val, 0, 0]
    ∧ win0_5.index t = ![t.val, 0, 0]
    ∧ win0_6.index t = ![t.val, 0, 0]
    ∧ win0_7.index t = ![t.val, 0, 0]
    ∧ win0_8.index t = ![t.val, 0, 0] :=
  (by decide +kernel : ∀ t : Fin grid0.N, win0_0.index t = ![0, 0, 0]
    ∧ win0_1.index t = ![0, 0, 0]
    ∧ win0_2.index t = ![t.val, 0, 0]
    ∧ win0_3.index t = ![t.val, 0, 0]
    ∧ win0_4.index t = ![t.val, 0, 0]
    ∧ win0_5.index t = ![t.val, 0, 0]
    ∧ win0_6.index t = ![t.val, 0, 0]
    ∧ win0_7.index t = ![t.val, 0, 0]
    ∧ win0_8.index t = ![t.val, 0, 0])

section
variable (m : (ℓ : Loc nD τ sig) → Buf (Elt Ideal) ℓ) (c : Dev nD) (p q w n v : ℕ → ℕ → ℕ → EReal)
  (h0 : ∀ (s : Fin 8) (r : Fin 128) (l : Fin 1024), m ((c : Thread nD τ).loc main_arg0) (ix3 s r l) = p s r l)
  (h1 : ∀ (s : Fin 8) (r : Fin 128) (l : Fin 1024), m ((c : Thread nD τ).loc main_arg1) (ix3 s r l) = q s r l)
  (h2 : ∀ (s : Fin 2) (r : Fin 128) (l : Fin 1024), m ((c : Thread nD τ).loc main_arg2) (ix3 s r l) = w s r l)
  (h3 : ∀ (s : Fin 2) (r : Fin 128) (l : Fin 1024), m ((c : Thread nD τ).loc main_arg3) (ix3 s r l) = n s r l)
  (h4 : ∀ (s : Fin 2) (r : Fin 128) (l : Fin 1024), m ((c : Thread nD τ).loc main_arg4) (ix3 s r l) = v s r l)
  (t : Fin cfg0.N)

include h0 in
/-- The block of the first layer's parts. -/
theorem blk0 (s : Fin 8) (r : Fin 128) (l : Fin 1024) :
    ((iblk m c 0 t : FVec Ideal S8x128x1024 .bf16) (ix3 s r l) : EReal) = p s r l := by
  have hN : t.val < 2 := lt_of_lt_of_eq t.isLt N_0
  refine Eq.trans ?_ (h0 s r l)
  blk_ext [iblk, V, idx t]

include h1 in
/-- The block of the second layer's parts. -/
theorem blk1 (s : Fin 8) (r : Fin 128) (l : Fin 1024) :
    ((iblk m c 1 t : FVec Ideal S8x128x1024 .bf16) (ix3 s r l) : EReal) = q s r l := by
  have hN : t.val < 2 := lt_of_lt_of_eq t.isLt N_0
  refine Eq.trans ?_ (h1 s r l)
  blk_ext [iblk, V, idx t]

include h2 in
/-- The block of the weights. -/
theorem blk2 (r : Fin 128) (l : Fin 1024) :
    ((iblk m c 2 t : FVec Ideal S1x128x1024 .f32) (ix3 0 r l) : EReal) = w (t.val) r l := by
  have hN : t.val < 2 := lt_of_lt_of_eq t.isLt N_0
  refine Eq.trans ?_ (h2 ⟨t.val, by omega⟩ r l)
  blk_ext [iblk, V, idx t]

include h3 in
/-- The block of the first moment. -/
theorem blk3 (r : Fin 128) (l : Fin 1024) :
    ((iblk m c 3 t : FVec Ideal S1x128x1024 .f32) (ix3 0 r l) : EReal) = n (t.val) r l := by
  have hN : t.val < 2 := lt_of_lt_of_eq t.isLt N_0
  refine Eq.trans ?_ (h3 ⟨t.val, by omega⟩ r l)
  blk_ext [iblk, V, idx t]

include h4 in
/-- The block of the second moment. -/
theorem blk4 (r : Fin 128) (l : Fin 1024) :
    ((iblk m c 4 t : FVec Ideal S1x128x1024 .f32) (ix3 0 r l) : EReal) = v (t.val) r l := by
  have hN : t.val < 2 := lt_of_lt_of_eq t.isLt N_0
  refine Eq.trans ?_ (h4 ⟨t.val, by omega⟩ r l)
  blk_ext [iblk, V, idx t]

include h0 h1 in
/-- What a point of the grid stores of the gradient. -/
theorem out5 (k : Fin 128) (l : Fin 1024) :
    ((outsAt0 m c t.val t.isLt).1 (ix3 0 k l) : EReal) = grad p q (t.val) k l := by
  have hN : t.val < 2 := lt_of_lt_of_eq t.isLt N_0
  by_cases e : t.val < 1
  · rw [outsAt0_A m c t (by omega) (by omega)]
    frame_out
    pointwise [k0_pay9, k0_pay5]
    simp only [blk0 m c p h0 t, show t.val = 0 by omega, grad_zero, total_eq]
    rfl
  · rw [outsAt0_B m c t (by omega) (by omega)]
    frame_out
    pointwise [k0_pay15, k0_pay11]
    simp only [blk1 m c q h1 t, show t.val = 1 by omega, grad_one, total_eq]
    rfl

include h0 h1 in
/-- The array of the gradient. -/
theorem final5 : ((dats m 0 c).arrAt 5 cfg0.N : FVec Ideal S2x128x1024 .f32)
    = fun i => grad p q (i 0).val (i 1).val (i 2).val := by
  refine (dats m 0 c).arrAt_eq_of_covers 5 _ (by decide +kernel) fun t hf z => ?_
  blk_simp
  rw [after0_5]
  idx_vars z
  obtain rfl : z0 = 0 := Subsingleton.elim _ _
  refine (out5 m c p q h0 h1 t z1 z2).trans ?_
  rw [(idx t).2.2.2.2.2.1]
  simp

include h0 h1 h2 h3 h4 in
/-- What a point of the grid stores of the step. -/
theorem out6 (k : Fin 128) (l : Fin 1024) :
    ((outsAt0 m c t.val t.isLt).2.1 (ix3 0 k l) : EReal) = delta (w (t.val) k l) (n (t.val) k l) (v (t.val) k l) (grad p q (t.val) k l) := by
  have hN : t.val < 2 := lt_of_lt_of_eq t.isLt N_0
  by_cases e : t.val < 1
  · rw [outsAt0_A m c t (by omega) (by omega)]
    frame_out
    pointwise [k0_pay10, k0_pay7, k0_pay8, k0_pay6, k0_pay5]
    simp only [delta, first, second, blk0 m c p h0 t, blk2 m c w h2 t, blk3 m c n h3 t, blk4 m c v h4 t, show t.val = 0 by omega, grad_zero, total_eq]
    rfl
  · rw [outsAt0_B m c t (by omega) (by omega)]
    frame_out
    pointwise [k0_pay16, k0_pay13, k0_pay14, k0_pay12, k0_pay11]
    simp only [delta, first, second, blk1 m c q h1 t, blk2 m c w h2 t, blk3 m c n h3 t, blk4 m c v h4 t, show t.val = 1 by omega, grad_one, total_eq]
    rfl

include h0 h1 h2 h3 h4 in
/-- The array of the step. -/
theorem final6 : ((dats m 0 c).arrAt 6 cfg0.N : FVec Ideal S2x128x1024 .f32)
    = fun i => delta (w (i 0).val (i 1).val (i 2).val) (n (i 0).val (i 1).val (i 2).val) (v (i 0).val (i 1).val (i 2).val) (grad p q (i 0).val (i 1).val (i 2).val) := by
  refine (dats m 0 c).arrAt_eq_of_covers 6 _ (by decide +kernel) fun t hf z => ?_
  blk_simp
  rw [after0_6]
  idx_vars z
  obtain rfl : z0 = 0 := Subsingleton.elim _ _
  refine (out6 m c p q w n v h0 h1 h2 h3 h4 t z1 z2).trans ?_
  rw [(idx t).2.2.2.2.2.2.1]
  simp

include h0 h1 h3 in
/-- What a point of the grid stores of the new first moment. -/
theorem out7 (k : Fin 128) (l : Fin 1024) :
    ((outsAt0 m c t.val t.isLt).2.2.1 (ix3 0 k l) : EReal) = first (n (t.val) k l) (grad p q (t.val) k l) := by
  have hN : t.val < 2 := lt_of_lt_of_eq t.isLt N_0
  by_cases e : t.val < 1
  · rw [outsAt0_A m c t (by omega) (by omega)]
    frame_out
    pointwise [k0_pay1, k0_pay7, k0_pay6, k0_pay5]
    simp only [first, blk0 m c p h0 t, blk3 m c n h3 t, show t.val = 0 by omega, grad_zero, total_eq]
    rfl
  · rw [outsAt0_B m c t (by omega) (by omega)]
    frame_out
    pointwise [k0_pay3, k0_pay13, k0_pay12, k0_pay11]
    simp only [first, blk1 m c q h1 t, blk3 m c n h3 t, show t.val = 1 by omega, grad_one, total_eq]
    rfl

include h0 h1 h3 in
/-- The array of the new first moment. -/
theorem final7 : ((dats m 0 c).arrAt 7 cfg0.N : FVec Ideal S2x128x1024 .f32)
    = fun i => first (n (i 0).val (i 1).val (i 2).val) (grad p q (i 0).val (i 1).val (i 2).val) := by
  refine (dats m 0 c).arrAt_eq_of_covers 7 _ (by decide +kernel) fun t hf z => ?_
  blk_simp
  rw [after0_7]
  idx_vars z
  obtain rfl : z0 = 0 := Subsingleton.elim _ _
  refine (out7 m c p q n h0 h1 h3 t z1 z2).trans ?_
  rw [(idx t).2.2.2.2.2.2.2.1]
  simp

include h0 h1 h4 in
/-- What a point of the grid stores of the new second moment. -/
theorem out8 (k : Fin 128) (l : Fin 1024) :
    ((outsAt0 m c t.val t.isLt).2.2.2 (ix3 0 k l) : EReal) = second (v (t.val) k l) (grad p q (t.val) k l) := by
  have hN : t.val < 2 := lt_of_lt_of_eq t.isLt N_0
  by_cases e : t.val < 1
  · rw [outsAt0_A m c t (by omega) (by omega)]
    frame_out
    pointwise [k0_pay2, k0_pay8, k0_pay5]
    simp only [second, blk0 m c p h0 t, blk4 m c v h4 t, show t.val = 0 by omega, grad_zero, total_eq]
    rfl
  · rw [outsAt0_B m c t (by omega) (by omega)]
    frame_out
    pointwise [k0_pay4, k0_pay14, k0_pay11]
    simp only [second, blk1 m c q h1 t, blk4 m c v h4 t, show t.val = 1 by omega, grad_one, total_eq]
    rfl

include h0 h1 h4 in
/-- The array of the new second moment. -/
theorem final8 : ((dats m 0 c).arrAt 8 cfg0.N : FVec Ideal S2x128x1024 .f32)
    = fun i => second (v (i 0).val (i 1).val (i 2).val) (grad p q (i 0).val (i 1).val (i 2).val) := by
  refine (dats m 0 c).arrAt_eq_of_covers 8 _ (by decide +kernel) fun t hf z => ?_
  blk_simp
  rw [after0_8]
  idx_vars z
  obtain rfl : z0 = 0 := Subsingleton.elim _ _
  refine (out8 m c p q v h0 h1 h4 t z1 z2).trans ?_
  rw [(idx t).2.2.2.2.2.2.2.2]
  simp

end

end Cert.AOutIdeal.Upd

end
-- ==== Proof.AOutClaim.lean ====
module

public import proofs.«01_k».proof.Defs
public import proofs.«01_k».proof.Proof.AOutValue
public import proofs.«01_k».proof.Proof.Gen.AOutRefIdeal
public import proofs.«01_k».proof.Proof.Gen.AOutRefIdeal.Run

/-!
The update of the output projection's weights: the kernel returns what the reference returns.
-/

@[expose] public section

set_option maxRecDepth 16384

noncomputable section

namespace Cert.AOut

open Idealize.ShloMosaic Idealize.ShloMosaic.TcCoe Idealize.SL.Sem
open Cert.Adam

/-- The kernel and the reference return the same gradient, step and moments. -/
theorem claim : Cert.algebraic_AOutIdeal_AOutRefIdeal (hAOutIdeal := Cert.AOutIdeal.Gen.facts) (hAOutRefIdeal := Cert.AOutRefIdeal.Gen.facts) := by
  intro m ρ m' ρ' _ hag
  refine ⟨fun c => (Cert.AOutIdeal.Gen.dats m 0 c).arrAt 5 Cert.AOutIdeal.cfg0.N, fun c => (Cert.AOutIdeal.Gen.dats m 0 c).arrAt 6 Cert.AOutIdeal.cfg0.N,
    fun c => (Cert.AOutIdeal.Gen.dats m 0 c).arrAt 7 Cert.AOutIdeal.cfg0.N, fun c => (Cert.AOutIdeal.Gen.dats m 0 c).arrAt 8 Cert.AOutIdeal.cfg0.N,
    (θ_run Cert.AOutIdeal.defs _ _).mono (fun r h c => ?_) (Cert.AOutIdeal.Value.run_blocks m ρ),
    (θ_run Cert.AOutRefIdeal.defs _ _).mono (fun r h c => ?_) (Cert.AOutRefIdeal.Value.run m' ρ')⟩
  · exact h c
  · obtain ⟨g0, g1, g2, g3, g4⟩ := hag c
    obtain ⟨k1, k2, k3, k4, k5⟩ := h c
    have a0 := at3_eq (m ((c : Thread Cert.AOutIdeal.nD Cert.AOutIdeal.τ).loc Cert.AOutIdeal.main_arg0))
    have a1 := at3_eq (m ((c : Thread Cert.AOutIdeal.nD Cert.AOutIdeal.τ).loc Cert.AOutIdeal.main_arg1))
    have a2 := at3_eq (m ((c : Thread Cert.AOutIdeal.nD Cert.AOutIdeal.τ).loc Cert.AOutIdeal.main_arg2))
    have a3 := at3_eq (m ((c : Thread Cert.AOutIdeal.nD Cert.AOutIdeal.τ).loc Cert.AOutIdeal.main_arg3))
    have a4 := at3_eq (m ((c : Thread Cert.AOutIdeal.nD Cert.AOutIdeal.τ).loc Cert.AOutIdeal.main_arg4))
    have f0 := fun s r l => (congrFun g0 (ix3 s r l)).trans (a0 s r l)
    have f1 := fun s r l => (congrFun g1 (ix3 s r l)).trans (a1 s r l)
    have f2 := fun s r l => (congrFun g2 (ix3 s r l)).trans (a2 s r l)
    have f3 := fun s r l => (congrFun g3 (ix3 s r l)).trans (a3 s r l)
    have f4 := fun s r l => (congrFun g4 (ix3 s r l)).trans (a4 s r l)
    refine ⟨k1.trans ?_, k2.trans ?_, k3.trans ?_, k4.trans ?_, k5⟩
    · refine Eq.trans ?_ (Cert.AOutIdeal.Upd.final5 m c _ _ a0 a1).symm
      funext i
      idx_vars i
      pointwise
      simp only [f0, f1, dite_eq_ite]
      rfl
    · refine Eq.trans ?_ (Cert.AOutIdeal.Upd.final6 m c _ _ _ _ _ a0 a1 a2 a3 a4).symm
      funext i
      idx_vars i
      pointwise
      simp only [f0, f1, f2, f3, f4, dite_eq_ite]
      rfl
    · refine Eq.trans ?_ (Cert.AOutIdeal.Upd.final7 m c _ _ _ a0 a1 a3).symm
      funext i
      idx_vars i
      pointwise
      simp only [f0, f1, f3, dite_eq_ite]
      rfl
    · refine Eq.trans ?_ (Cert.AOutIdeal.Upd.final8 m c _ _ _ a0 a1 a4).symm
      funext i
      idx_vars i
      pointwise
      simp only [f0, f1, f4, dite_eq_ite]
      rfl

end Cert.AOut

end
-- ==== Proof.AProjValue.lean ====
module

public import proofs.«01_k».proof.Proof.Gen.AProjIdeal.Value
public import proofs.«01_k».proof.Proof.Adam
public import Idealize.ShloMosaic.Lib.Pipeline.ValueKit
public import Idealize.ShloMosaic.Lib.Claim

/-!
What the update of the per-layer embedding's projection leaves in its four results: the gradient, the step and the two moments.
-/

@[expose] public section

set_option maxRecDepth 16384

noncomputable section

namespace Cert.AProjIdeal.Upd

open Cert.AProjIdeal Cert.AProjIdeal.Gen Idealize.ShloMosaic Idealize.ShloMosaic.TcCoe Idealize.SL.Sem
open Idealize.ShloMosaic.Pipeline (Dat)
open Cert.Adam

/-- Which block of its array each window holds at each point of the grid. -/
theorem idx : ∀ t : Fin cfg0.N, win0_0.index t = ![0, 0, 0]
    ∧ win0_1.index t = ![0, 0, 0]
    ∧ win0_2.index t = ![t.val, 0, 0]
    ∧ win0_3.index t = ![t.val, 0, 0]
    ∧ win0_4.index t = ![t.val, 0, 0]
    ∧ win0_5.index t = ![t.val, 0, 0]
    ∧ win0_6.index t = ![t.val, 0, 0]
    ∧ win0_7.index t = ![t.val, 0, 0]
    ∧ win0_8.index t = ![t.val, 0, 0] :=
  (by decide +kernel : ∀ t : Fin grid0.N, win0_0.index t = ![0, 0, 0]
    ∧ win0_1.index t = ![0, 0, 0]
    ∧ win0_2.index t = ![t.val, 0, 0]
    ∧ win0_3.index t = ![t.val, 0, 0]
    ∧ win0_4.index t = ![t.val, 0, 0]
    ∧ win0_5.index t = ![t.val, 0, 0]
    ∧ win0_6.index t = ![t.val, 0, 0]
    ∧ win0_7.index t = ![t.val, 0, 0]
    ∧ win0_8.index t = ![t.val, 0, 0])

section
variable (m : (ℓ : Loc nD τ sig) → Buf (Elt Ideal) ℓ) (c : Dev nD) (p q w n v : ℕ → ℕ → ℕ → EReal)
  (h0 : ∀ (s : Fin 8) (r : Fin 128) (l : Fin 256), m ((c : Thread nD τ).loc main_arg0) (ix3 s r l) = p s r l)
  (h1 : ∀ (s : Fin 8) (r : Fin 128) (l : Fin 256), m ((c : Thread nD τ).loc main_arg1) (ix3 s r l) = q s r l)
  (h2 : ∀ (s : Fin 2) (r : Fin 128) (l : Fin 256), m ((c : Thread nD τ).loc main_arg2) (ix3 s r l) = w s r l)
  (h3 : ∀ (s : Fin 2) (r : Fin 128) (l : Fin 256), m ((c : Thread nD τ).loc main_arg3) (ix3 s r l) = n s r l)
  (h4 : ∀ (s : Fin 2) (r : Fin 128) (l : Fin 256), m ((c : Thread nD τ).loc main_arg4) (ix3 s r l) = v s r l)
  (t : Fin cfg0.N)

include h0 in
/-- The block of the first layer's parts. -/
theorem blk0 (s : Fin 8) (r : Fin 128) (l : Fin 256) :
    ((iblk m c 0 t : FVec Ideal S8x128x256 .bf16) (ix3 s r l) : EReal) = p s r l := by
  have hN : t.val < 2 := lt_of_lt_of_eq t.isLt N_0
  refine Eq.trans ?_ (h0 s r l)
  blk_ext [iblk, V, idx t]

include h1 in
/-- The block of the second layer's parts. -/
theorem blk1 (s : Fin 8) (r : Fin 128) (l : Fin 256) :
    ((iblk m c 1 t : FVec Ideal S8x128x256 .bf16) (ix3 s r l) : EReal) = q s r l := by
  have hN : t.val < 2 := lt_of_lt_of_eq t.isLt N_0
  refine Eq.trans ?_ (h1 s r l)
  blk_ext [iblk, V, idx t]

include h2 in
/-- The block of the weights. -/
theorem blk2 (r : Fin 128) (l : Fin 256) :
    ((iblk m c 2 t : FVec Ideal S1x128x256 .f32) (ix3 0 r l) : EReal) = w (t.val) r l := by
  have hN : t.val < 2 := lt_of_lt_of_eq t.isLt N_0
  refine Eq.trans ?_ (h2 ⟨t.val, by omega⟩ r l)
  blk_ext [iblk, V, idx t]

include h3 in
/-- The block of the first moment. -/
theorem blk3 (r : Fin 128) (l : Fin 256) :
    ((iblk m c 3 t : FVec Ideal S1x128x256 .f32) (ix3 0 r l) : EReal) = n (t.val) r l := by
  have hN : t.val < 2 := lt_of_lt_of_eq t.isLt N_0
  refine Eq.trans ?_ (h3 ⟨t.val, by omega⟩ r l)
  blk_ext [iblk, V, idx t]

include h4 in
/-- The block of the second moment. -/
theorem blk4 (r : Fin 128) (l : Fin 256) :
    ((iblk m c 4 t : FVec Ideal S1x128x256 .f32) (ix3 0 r l) : EReal) = v (t.val) r l := by
  have hN : t.val < 2 := lt_of_lt_of_eq t.isLt N_0
  refine Eq.trans ?_ (h4 ⟨t.val, by omega⟩ r l)
  blk_ext [iblk, V, idx t]

include h0 h1 in
/-- What a point of the grid stores of the gradient. -/
theorem out5 (k : Fin 128) (l : Fin 256) :
    ((outsAt0 m c t.val t.isLt).1 (ix3 0 k l) : EReal) = grad p q (t.val) k l := by
  have hN : t.val < 2 := lt_of_lt_of_eq t.isLt N_0
  by_cases e : t.val < 1
  · rw [outsAt0_A m c t (by omega) (by omega)]
    frame_out
    pointwise [k0_pay9, k0_pay5]
    simp only [blk0 m c p h0 t, show t.val = 0 by omega, grad_zero, total_eq]
    rfl
  · rw [outsAt0_B m c t (by omega) (by omega)]
    frame_out
    pointwise [k0_pay15, k0_pay11]
    simp only [blk1 m c q h1 t, show t.val = 1 by omega, grad_one, total_eq]
    rfl

include h0 h1 in
/-- The array of the gradient. -/
theorem final5 : ((dats m 0 c).arrAt 5 cfg0.N : FVec Ideal S2x128x256 .f32)
    = fun i => grad p q (i 0).val (i 1).val (i 2).val := by
  refine (dats m 0 c).arrAt_eq_of_covers 5 _ (by decide +kernel) fun t hf z => ?_
  blk_simp
  rw [after0_5]
  idx_vars z
  obtain rfl : z0 = 0 := Subsingleton.elim _ _
  refine (out5 m c p q h0 h1 t z1 z2).trans ?_
  rw [(idx t).2.2.2.2.2.1]
  simp

include h0 h1 h2 h3 h4 in
/-- What a point of the grid stores of the step. -/
theorem out6 (k : Fin 128) (l : Fin 256) :
    ((outsAt0 m c t.val t.isLt).2.1 (ix3 0 k l) : EReal) = delta (w (t.val) k l) (n (t.val) k l) (v (t.val) k l) (grad p q (t.val) k l) := by
  have hN : t.val < 2 := lt_of_lt_of_eq t.isLt N_0
  by_cases e : t.val < 1
  · rw [outsAt0_A m c t (by omega) (by omega)]
    frame_out
    pointwise [k0_pay10, k0_pay7, k0_pay8, k0_pay6, k0_pay5]
    simp only [delta, first, second, blk0 m c p h0 t, blk2 m c w h2 t, blk3 m c n h3 t, blk4 m c v h4 t, show t.val = 0 by omega, grad_zero, total_eq]
    rfl
  · rw [outsAt0_B m c t (by omega) (by omega)]
    frame_out
    pointwise [k0_pay16, k0_pay13, k0_pay14, k0_pay12, k0_pay11]
    simp only [delta, first, second, blk1 m c q h1 t, blk2 m c w h2 t, blk3 m c n h3 t, blk4 m c v h4 t, show t.val = 1 by omega, grad_one, total_eq]
    rfl

include h0 h1 h2 h3 h4 in
/-- The array of the step. -/
theorem final6 : ((dats m 0 c).arrAt 6 cfg0.N : FVec Ideal S2x128x256 .f32)
    = fun i => delta (w (i 0).val (i 1).val (i 2).val) (n (i 0).val (i 1).val (i 2).val) (v (i 0).val (i 1).val (i 2).val) (grad p q (i 0).val (i 1).val (i 2).val) := by
  refine (dats m 0 c).arrAt_eq_of_covers 6 _ (by decide +kernel) fun t hf z => ?_
  blk_simp
  rw [after0_6]
  idx_vars z
  obtain rfl : z0 = 0 := Subsingleton.elim _ _
  refine (out6 m c p q w n v h0 h1 h2 h3 h4 t z1 z2).trans ?_
  rw [(idx t).2.2.2.2.2.2.1]
  simp

include h0 h1 h3 in
/-- What a point of the grid stores of the new first moment. -/
theorem out7 (k : Fin 128) (l : Fin 256) :
    ((outsAt0 m c t.val t.isLt).2.2.1 (ix3 0 k l) : EReal) = first (n (t.val) k l) (grad p q (t.val) k l) := by
  have hN : t.val < 2 := lt_of_lt_of_eq t.isLt N_0
  by_cases e : t.val < 1
  · rw [outsAt0_A m c t (by omega) (by omega)]
    frame_out
    pointwise [k0_pay1, k0_pay7, k0_pay6, k0_pay5]
    simp only [first, blk0 m c p h0 t, blk3 m c n h3 t, show t.val = 0 by omega, grad_zero, total_eq]
    rfl
  · rw [outsAt0_B m c t (by omega) (by omega)]
    frame_out
    pointwise [k0_pay3, k0_pay13, k0_pay12, k0_pay11]
    simp only [first, blk1 m c q h1 t, blk3 m c n h3 t, show t.val = 1 by omega, grad_one, total_eq]
    rfl

include h0 h1 h3 in
/-- The array of the new first moment. -/
theorem final7 : ((dats m 0 c).arrAt 7 cfg0.N : FVec Ideal S2x128x256 .f32)
    = fun i => first (n (i 0).val (i 1).val (i 2).val) (grad p q (i 0).val (i 1).val (i 2).val) := by
  refine (dats m 0 c).arrAt_eq_of_covers 7 _ (by decide +kernel) fun t hf z => ?_
  blk_simp
  rw [after0_7]
  idx_vars z
  obtain rfl : z0 = 0 := Subsingleton.elim _ _
  refine (out7 m c p q n h0 h1 h3 t z1 z2).trans ?_
  rw [(idx t).2.2.2.2.2.2.2.1]
  simp

include h0 h1 h4 in
/-- What a point of the grid stores of the new second moment. -/
theorem out8 (k : Fin 128) (l : Fin 256) :
    ((outsAt0 m c t.val t.isLt).2.2.2 (ix3 0 k l) : EReal) = second (v (t.val) k l) (grad p q (t.val) k l) := by
  have hN : t.val < 2 := lt_of_lt_of_eq t.isLt N_0
  by_cases e : t.val < 1
  · rw [outsAt0_A m c t (by omega) (by omega)]
    frame_out
    pointwise [k0_pay2, k0_pay8, k0_pay5]
    simp only [second, blk0 m c p h0 t, blk4 m c v h4 t, show t.val = 0 by omega, grad_zero, total_eq]
    rfl
  · rw [outsAt0_B m c t (by omega) (by omega)]
    frame_out
    pointwise [k0_pay4, k0_pay14, k0_pay11]
    simp only [second, blk1 m c q h1 t, blk4 m c v h4 t, show t.val = 1 by omega, grad_one, total_eq]
    rfl

include h0 h1 h4 in
/-- The array of the new second moment. -/
theorem final8 : ((dats m 0 c).arrAt 8 cfg0.N : FVec Ideal S2x128x256 .f32)
    = fun i => second (v (i 0).val (i 1).val (i 2).val) (grad p q (i 0).val (i 1).val (i 2).val) := by
  refine (dats m 0 c).arrAt_eq_of_covers 8 _ (by decide +kernel) fun t hf z => ?_
  blk_simp
  rw [after0_8]
  idx_vars z
  obtain rfl : z0 = 0 := Subsingleton.elim _ _
  refine (out8 m c p q v h0 h1 h4 t z1 z2).trans ?_
  rw [(idx t).2.2.2.2.2.2.2.2]
  simp

end

end Cert.AProjIdeal.Upd

end
-- ==== Proof.AProjClaim.lean ====
module

public import proofs.«01_k».proof.Defs
public import proofs.«01_k».proof.Proof.AProjValue
public import proofs.«01_k».proof.Proof.Gen.AProjRefIdeal
public import proofs.«01_k».proof.Proof.Gen.AProjRefIdeal.Run

/-!
The update of the per-layer embedding's projection: the kernel returns what the reference returns.
-/

@[expose] public section

set_option maxRecDepth 16384

noncomputable section

namespace Cert.AProj

open Idealize.ShloMosaic Idealize.ShloMosaic.TcCoe Idealize.SL.Sem
open Cert.Adam

/-- The kernel and the reference return the same gradient, step and moments. -/
theorem claim : Cert.algebraic_AProjIdeal_AProjRefIdeal (hAProjIdeal := Cert.AProjIdeal.Gen.facts) (hAProjRefIdeal := Cert.AProjRefIdeal.Gen.facts) := by
  intro m ρ m' ρ' _ hag
  refine ⟨fun c => (Cert.AProjIdeal.Gen.dats m 0 c).arrAt 5 Cert.AProjIdeal.cfg0.N, fun c => (Cert.AProjIdeal.Gen.dats m 0 c).arrAt 6 Cert.AProjIdeal.cfg0.N,
    fun c => (Cert.AProjIdeal.Gen.dats m 0 c).arrAt 7 Cert.AProjIdeal.cfg0.N, fun c => (Cert.AProjIdeal.Gen.dats m 0 c).arrAt 8 Cert.AProjIdeal.cfg0.N,
    (θ_run Cert.AProjIdeal.defs _ _).mono (fun r h c => ?_) (Cert.AProjIdeal.Value.run_blocks m ρ),
    (θ_run Cert.AProjRefIdeal.defs _ _).mono (fun r h c => ?_) (Cert.AProjRefIdeal.Value.run m' ρ')⟩
  · exact h c
  · obtain ⟨g0, g1, g2, g3, g4⟩ := hag c
    obtain ⟨k1, k2, k3, k4, k5⟩ := h c
    have a0 := at3_eq (m ((c : Thread Cert.AProjIdeal.nD Cert.AProjIdeal.τ).loc Cert.AProjIdeal.main_arg0))
    have a1 := at3_eq (m ((c : Thread Cert.AProjIdeal.nD Cert.AProjIdeal.τ).loc Cert.AProjIdeal.main_arg1))
    have a2 := at3_eq (m ((c : Thread Cert.AProjIdeal.nD Cert.AProjIdeal.τ).loc Cert.AProjIdeal.main_arg2))
    have a3 := at3_eq (m ((c : Thread Cert.AProjIdeal.nD Cert.AProjIdeal.τ).loc Cert.AProjIdeal.main_arg3))
    have a4 := at3_eq (m ((c : Thread Cert.AProjIdeal.nD Cert.AProjIdeal.τ).loc Cert.AProjIdeal.main_arg4))
    have f0 := fun s r l => (congrFun g0 (ix3 s r l)).trans (a0 s r l)
    have f1 := fun s r l => (congrFun g1 (ix3 s r l)).trans (a1 s r l)
    have f2 := fun s r l => (congrFun g2 (ix3 s r l)).trans (a2 s r l)
    have f3 := fun s r l => (congrFun g3 (ix3 s r l)).trans (a3 s r l)
    have f4 := fun s r l => (congrFun g4 (ix3 s r l)).trans (a4 s r l)
    refine ⟨k1.trans ?_, k2.trans ?_, k3.trans ?_, k4.trans ?_, k5⟩
    · refine Eq.trans ?_ (Cert.AProjIdeal.Upd.final5 m c _ _ a0 a1).symm
      funext i
      idx_vars i
      pointwise
      simp only [f0, f1, dite_eq_ite]
      rfl
    · refine Eq.trans ?_ (Cert.AProjIdeal.Upd.final6 m c _ _ _ _ _ a0 a1 a2 a3 a4).symm
      funext i
      idx_vars i
      pointwise
      simp only [f0, f1, f2, f3, f4, dite_eq_ite]
      rfl
    · refine Eq.trans ?_ (Cert.AProjIdeal.Upd.final7 m c _ _ _ a0 a1 a3).symm
      funext i
      idx_vars i
      pointwise
      simp only [f0, f1, f3, dite_eq_ite]
      rfl
    · refine Eq.trans ?_ (Cert.AProjIdeal.Upd.final8 m c _ _ _ a0 a1 a4).symm
      funext i
      idx_vars i
      pointwise
      simp only [f0, f1, f4, dite_eq_ite]
      rfl

end Cert.AProj

end
-- ==== Proof.ASmallValue.lean ====
module

public import proofs.«01_k».proof.Proof.Gen.ASmallIdeal.Value
public import proofs.«01_k».proof.Proof.Adam
public import Idealize.ShloMosaic.Lib.Pipeline.ValueKit
public import Idealize.ShloMosaic.Lib.Claim

/-!
What the update of the weights every device holds whole, laid out as one array leaves in its four results: the gradient, the step and the two moments.
-/

@[expose] public section

set_option maxRecDepth 16384

noncomputable section

namespace Cert.ASmallIdeal.Upd

open Cert.ASmallIdeal Cert.ASmallIdeal.Gen Idealize.ShloMosaic Idealize.ShloMosaic.TcCoe Idealize.SL.Sem
open Idealize.ShloMosaic.Pipeline (Dat)
open Cert.Adam

/-- Which block of its array each window holds at each point of the grid. -/
theorem idx : ∀ t : Fin cfg0.N, win0_0.index t = ![0, t.val, 0]
    ∧ win0_1.index t = ![0, t.val, 0]
    ∧ win0_2.index t = ![0, t.val, 0]
    ∧ win0_3.index t = ![0, t.val, 0]
    ∧ win0_4.index t = ![0, t.val, 0]
    ∧ win0_5.index t = ![0, t.val, 0]
    ∧ win0_6.index t = ![0, t.val, 0]
    ∧ win0_7.index t = ![0, t.val, 0] :=
  (by decide +kernel : ∀ t : Fin grid0.N, win0_0.index t = ![0, t.val, 0]
    ∧ win0_1.index t = ![0, t.val, 0]
    ∧ win0_2.index t = ![0, t.val, 0]
    ∧ win0_3.index t = ![0, t.val, 0]
    ∧ win0_4.index t = ![0, t.val, 0]
    ∧ win0_5.index t = ![0, t.val, 0]
    ∧ win0_6.index t = ![0, t.val, 0]
    ∧ win0_7.index t = ![0, t.val, 0])

section
variable (m : (ℓ : Loc nD τ sig) → Buf (Elt Ideal) ℓ) (c : Dev nD) (p w n v : ℕ → ℕ → ℕ → EReal)
  (h0 : ∀ (s : Fin 8) (r : Fin 640) (l : Fin 512), m ((c : Thread nD τ).loc main_arg0) (ix3 s r l) = p s r l)
  (h1 : ∀ (s : Fin 1) (r : Fin 640) (l : Fin 512), m ((c : Thread nD τ).loc main_arg1) (ix3 s r l) = w s r l)
  (h2 : ∀ (s : Fin 1) (r : Fin 640) (l : Fin 512), m ((c : Thread nD τ).loc main_arg2) (ix3 s r l) = n s r l)
  (h3 : ∀ (s : Fin 1) (r : Fin 640) (l : Fin 512), m ((c : Thread nD τ).loc main_arg3) (ix3 s r l) = v s r l)
  (t : Fin cfg0.N)

include h0 in
/-- The block of the parts. -/
theorem blk0 (s : Fin 8) (r : Fin 64) (l : Fin 512) :
    ((iblk m c 0 t : FVec Ideal S8x64x512 .f32) (ix3 s r l) : EReal) = p s (t.val * 64 + r) l := by
  have hN : t.val < 10 := lt_of_lt_of_eq t.isLt N_0
  refine Eq.trans ?_ (h0 s ⟨t.val * 64 + r, by omega⟩ l)
  blk_ext [iblk, V, idx t]

include h1 in
/-- The block of the weights. -/
theorem blk1 (r : Fin 64) (l : Fin 512) :
    ((iblk m c 1 t : FVec Ideal S1x64x512 .f32) (ix3 0 r l) : EReal) = w 0 (t.val * 64 + r) l := by
  have hN : t.val < 10 := lt_of_lt_of_eq t.isLt N_0
  refine Eq.trans ?_ (h1 0 ⟨t.val * 64 + r, by omega⟩ l)
  blk_ext [iblk, V, idx t]

include h2 in
/-- The block of the first moment. -/
theorem blk2 (r : Fin 64) (l : Fin 512) :
    ((iblk m c 2 t : FVec Ideal S1x64x512 .f32) (ix3 0 r l) : EReal) = n 0 (t.val * 64 + r) l := by
  have hN : t.val < 10 := lt_of_lt_of_eq t.isLt N_0
  refine Eq.trans ?_ (h2 0 ⟨t.val * 64 + r, by omega⟩ l)
  blk_ext [iblk, V, idx t]

include h3 in
/-- The block of the second moment. -/
theorem blk3 (r : Fin 64) (l : Fin 512) :
    ((iblk m c 3 t : FVec Ideal S1x64x512 .f32) (ix3 0 r l) : EReal) = v 0 (t.val * 64 + r) l := by
  have hN : t.val < 10 := lt_of_lt_of_eq t.isLt N_0
  refine Eq.trans ?_ (h3 0 ⟨t.val * 64 + r, by omega⟩ l)
  blk_ext [iblk, V, idx t]

include h0 in
/-- What a point of the grid stores of the gradient. -/
theorem out4 (k : Fin 64) (l : Fin 512) :
    ((outsAt0 m c t).1 (ix3 0 k l) : EReal) = total p (t.val * 64 + k) l := by
  unfold outsAt0
  frame_out
  pointwise [k0_pay1, k0_pay2, k0_pay3, k0_pay4, k0_pay5, k0_pay6, k0_pay7]
  simp only [blk0 m c p h0 t, total_eq]
  rfl

include h0 in
/-- The array of the gradient. -/
theorem final4 : ((dats m 0 c).arrAt 4 cfg0.N : FVec Ideal S1x640x512 .f32)
    = fun i => total p (i 1).val (i 2).val := by
  refine (dats m 0 c).arrAt_eq_of_covers 4 _ (by decide +kernel) fun t hf z => ?_
  blk_simp
  rw [after0_4]
  idx_vars z
  obtain rfl : z0 = 0 := Subsingleton.elim _ _
  refine (out4 m c p h0 t z1 z2).trans ?_
  rw [(idx t).2.2.2.2.1]
  simp

include h0 h1 h2 h3 in
/-- What a point of the grid stores of the step. -/
theorem out5 (k : Fin 64) (l : Fin 512) :
    ((outsAt0 m c t).2.1 (ix3 0 k l) : EReal) = delta (w 0 (t.val * 64 + k) l) (n 0 (t.val * 64 + k) l) (v 0 (t.val * 64 + k) l) (total p (t.val * 64 + k) l) := by
  unfold outsAt0
  frame_out
  pointwise [k0_pay1, k0_pay2, k0_pay3, k0_pay4, k0_pay5, k0_pay6, k0_pay7]
  simp only [delta, first, second, blk0 m c p h0 t, blk1 m c w h1 t, blk2 m c n h2 t, blk3 m c v h3 t, total_eq]
  rfl

include h0 h1 h2 h3 in
/-- The array of the step. -/
theorem final5 : ((dats m 0 c).arrAt 5 cfg0.N : FVec Ideal S1x640x512 .f32)
    = fun i => delta (w 0 (i 1).val (i 2).val) (n 0 (i 1).val (i 2).val) (v 0 (i 1).val (i 2).val) (total p (i 1).val (i 2).val) := by
  refine (dats m 0 c).arrAt_eq_of_covers 5 _ (by decide +kernel) fun t hf z => ?_
  blk_simp
  rw [after0_5]
  idx_vars z
  obtain rfl : z0 = 0 := Subsingleton.elim _ _
  refine (out5 m c p w n v h0 h1 h2 h3 t z1 z2).trans ?_
  rw [(idx t).2.2.2.2.2.1]
  simp

include h0 h2 in
/-- What a point of the grid stores of the new first moment. -/
theorem out6 (k : Fin 64) (l : Fin 512) :
    ((outsAt0 m c t).2.2.1 (ix3 0 k l) : EReal) = first (n 0 (t.val * 64 + k) l) (total p (t.val * 64 + k) l) := by
  unfold outsAt0
  frame_out
  pointwise [k0_pay1, k0_pay2, k0_pay3, k0_pay4, k0_pay5, k0_pay6, k0_pay7]
  simp only [first, blk0 m c p h0 t, blk2 m c n h2 t, total_eq]
  rfl

include h0 h2 in
/-- The array of the new first moment. -/
theorem final6 : ((dats m 0 c).arrAt 6 cfg0.N : FVec Ideal S1x640x512 .f32)
    = fun i => first (n 0 (i 1).val (i 2).val) (total p (i 1).val (i 2).val) := by
  refine (dats m 0 c).arrAt_eq_of_covers 6 _ (by decide +kernel) fun t hf z => ?_
  blk_simp
  rw [after0_6]
  idx_vars z
  obtain rfl : z0 = 0 := Subsingleton.elim _ _
  refine (out6 m c p n h0 h2 t z1 z2).trans ?_
  rw [(idx t).2.2.2.2.2.2.1]
  simp

include h0 h3 in
/-- What a point of the grid stores of the new second moment. -/
theorem out7 (k : Fin 64) (l : Fin 512) :
    ((outsAt0 m c t).2.2.2 (ix3 0 k l) : EReal) = second (v 0 (t.val * 64 + k) l) (total p (t.val * 64 + k) l) := by
  unfold outsAt0
  frame_out
  pointwise [k0_pay1, k0_pay2, k0_pay3, k0_pay4, k0_pay5, k0_pay6, k0_pay7]
  simp only [second, blk0 m c p h0 t, blk3 m c v h3 t, total_eq]
  rfl

include h0 h3 in
/-- The array of the new second moment. -/
theorem final7 : ((dats m 0 c).arrAt 7 cfg0.N : FVec Ideal S1x640x512 .f32)
    = fun i => second (v 0 (i 1).val (i 2).val) (total p (i 1).val (i 2).val) := by
  refine (dats m 0 c).arrAt_eq_of_covers 7 _ (by decide +kernel) fun t hf z => ?_
  blk_simp
  rw [after0_7]
  idx_vars z
  obtain rfl : z0 = 0 := Subsingleton.elim _ _
  refine (out7 m c p v h0 h3 t z1 z2).trans ?_
  rw [(idx t).2.2.2.2.2.2.2]
  simp

end

end Cert.ASmallIdeal.Upd

end
-- ==== Proof.ASmallClaim.lean ====
module

public import proofs.«01_k».proof.Defs
public import proofs.«01_k».proof.Proof.ASmallValue
public import proofs.«01_k».proof.Proof.Gen.ASmallRefIdeal
public import proofs.«01_k».proof.Proof.Gen.ASmallRefIdeal.Run

/-!
The update of the weights every device holds whole, laid out as one array: the kernel returns what the reference returns.
-/

@[expose] public section

set_option maxRecDepth 16384

noncomputable section

namespace Cert.ASmall

open Idealize.ShloMosaic Idealize.ShloMosaic.TcCoe Idealize.SL.Sem
open Cert.Adam

/-- The kernel and the reference return the same gradient, step and moments. -/
theorem claim : Cert.algebraic_ASmallIdeal_ASmallRefIdeal (hASmallIdeal := Cert.ASmallIdeal.Gen.facts) (hASmallRefIdeal := Cert.ASmallRefIdeal.Gen.facts) := by
  intro m ρ m' ρ' _ hag
  refine ⟨fun c => (Cert.ASmallIdeal.Gen.dats m 0 c).arrAt 4 Cert.ASmallIdeal.cfg0.N, fun c => (Cert.ASmallIdeal.Gen.dats m 0 c).arrAt 5 Cert.ASmallIdeal.cfg0.N,
    fun c => (Cert.ASmallIdeal.Gen.dats m 0 c).arrAt 6 Cert.ASmallIdeal.cfg0.N, fun c => (Cert.ASmallIdeal.Gen.dats m 0 c).arrAt 7 Cert.ASmallIdeal.cfg0.N,
    (θ_run Cert.ASmallIdeal.defs _ _).mono (fun r h c => ?_) (Cert.ASmallIdeal.Value.run_blocks m ρ),
    (θ_run Cert.ASmallRefIdeal.defs _ _).mono (fun r h c => ?_) (Cert.ASmallRefIdeal.Value.run m' ρ')⟩
  · exact h c
  · obtain ⟨g0, g1, g2, g3⟩ := hag c
    obtain ⟨k1, k2, k3, k4, k5⟩ := h c
    have a0 := at3_eq (m ((c : Thread Cert.ASmallIdeal.nD Cert.ASmallIdeal.τ).loc Cert.ASmallIdeal.main_arg0))
    have a1 := at3_eq (m ((c : Thread Cert.ASmallIdeal.nD Cert.ASmallIdeal.τ).loc Cert.ASmallIdeal.main_arg1))
    have a2 := at3_eq (m ((c : Thread Cert.ASmallIdeal.nD Cert.ASmallIdeal.τ).loc Cert.ASmallIdeal.main_arg2))
    have a3 := at3_eq (m ((c : Thread Cert.ASmallIdeal.nD Cert.ASmallIdeal.τ).loc Cert.ASmallIdeal.main_arg3))
    have f0 := fun s r l => (congrFun g0 (ix3 s r l)).trans (a0 s r l)
    have f1 := fun s r l => (congrFun g1 (ix3 s r l)).trans (a1 s r l)
    have f2 := fun s r l => (congrFun g2 (ix3 s r l)).trans (a2 s r l)
    have f3 := fun s r l => (congrFun g3 (ix3 s r l)).trans (a3 s r l)
    refine ⟨k1.trans ?_, k2.trans ?_, k3.trans ?_, k4.trans ?_, k5⟩
    · refine Eq.trans ?_ (Cert.ASmallIdeal.Upd.final4 m c _ a0).symm
      funext i
      idx_vars i
      obtain rfl : i0 = 0 := Subsingleton.elim _ _
      pointwise
      simp only [f0]
      rfl
    · refine Eq.trans ?_ (Cert.ASmallIdeal.Upd.final5 m c _ _ _ _ a0 a1 a2 a3).symm
      funext i
      idx_vars i
      obtain rfl : i0 = 0 := Subsingleton.elim _ _
      pointwise
      simp only [f0, f1, f2, f3]
      rfl
    · refine Eq.trans ?_ (Cert.ASmallIdeal.Upd.final6 m c _ _ a0 a2).symm
      funext i
      idx_vars i
      obtain rfl : i0 = 0 := Subsingleton.elim _ _
      pointwise
      simp only [f0, f2]
      rfl
    · refine Eq.trans ?_ (Cert.ASmallIdeal.Upd.final7 m c _ _ a0 a3).symm
      funext i
      idx_vars i
      obtain rfl : i0 = 0 := Subsingleton.elim _ _
      pointwise
      simp only [f0, f3]
      rfl

end Cert.ASmall

end
-- ==== Proof.AUpValue.lean ====
module

public import proofs.«01_k».proof.Proof.Gen.AUpIdeal.Value
public import proofs.«01_k».proof.Proof.Adam
public import Idealize.ShloMosaic.Lib.Pipeline.ValueKit
public import Idealize.ShloMosaic.Lib.Claim

/-!
What the update of the channel mixer's first weights leaves in its four results: the gradient, the step and the two moments.
-/

@[expose] public section

set_option maxRecDepth 16384

noncomputable section

namespace Cert.AUpIdeal.Upd

open Cert.AUpIdeal Cert.AUpIdeal.Gen Idealize.ShloMosaic Idealize.ShloMosaic.TcCoe Idealize.SL.Sem
open Idealize.ShloMosaic.Pipeline (Dat)
open Cert.Adam

/-- Which block of its array each window holds at each point of the grid. -/
theorem idx : ∀ t : Fin cfg0.N, win0_0.index t = ![0, t.val % 4, 0]
    ∧ win0_1.index t = ![0, t.val % 4, 0]
    ∧ win0_2.index t = ![t.val / 4, t.val % 4, 0]
    ∧ win0_3.index t = ![t.val / 4, t.val % 4, 0]
    ∧ win0_4.index t = ![t.val / 4, t.val % 4, 0]
    ∧ win0_5.index t = ![t.val / 4, t.val % 4, 0]
    ∧ win0_6.index t = ![t.val / 4, t.val % 4, 0]
    ∧ win0_7.index t = ![t.val / 4, t.val % 4, 0]
    ∧ win0_8.index t = ![t.val / 4, t.val % 4, 0] :=
  (by decide +kernel : ∀ t : Fin grid0.N, win0_0.index t = ![0, t.val % 4, 0]
    ∧ win0_1.index t = ![0, t.val % 4, 0]
    ∧ win0_2.index t = ![t.val / 4, t.val % 4, 0]
    ∧ win0_3.index t = ![t.val / 4, t.val % 4, 0]
    ∧ win0_4.index t = ![t.val / 4, t.val % 4, 0]
    ∧ win0_5.index t = ![t.val / 4, t.val % 4, 0]
    ∧ win0_6.index t = ![t.val / 4, t.val % 4, 0]
    ∧ win0_7.index t = ![t.val / 4, t.val % 4, 0]
    ∧ win0_8.index t = ![t.val / 4, t.val % 4, 0])

section
variable (m : (ℓ : Loc nD τ sig) → Buf (Elt Ideal) ℓ) (c : Dev nD) (p q w n v : ℕ → ℕ → ℕ → EReal)
  (h0 : ∀ (s : Fin 8) (r : Fin 704) (l : Fin 1024), m ((c : Thread nD τ).loc main_arg0) (ix3 s r l) = p s r l)
  (h1 : ∀ (s : Fin 8) (r : Fin 704) (l : Fin 1024), m ((c : Thread nD τ).loc main_arg1) (ix3 s r l) = q s r l)
  (h2 : ∀ (s : Fin 2) (r : Fin 704) (l : Fin 1024), m ((c : Thread nD τ).loc main_arg2) (ix3 s r l) = w s r l)
  (h3 : ∀ (s : Fin 2) (r : Fin 704) (l : Fin 1024), m ((c : Thread nD τ).loc main_arg3) (ix3 s r l) = n s r l)
  (h4 : ∀ (s : Fin 2) (r : Fin 704) (l : Fin 1024), m ((c : Thread nD τ).loc main_arg4) (ix3 s r l) = v s r l)
  (t : Fin cfg0.N)

include h0 in
/-- The block of the first layer's parts. -/
theorem blk0 (s : Fin 8) (r : Fin 176) (l : Fin 1024) :
    ((iblk m c 0 t : FVec Ideal S8x176x1024 .bf16) (ix3 s r l) : EReal) = p s (t.val % 4 * 176 + r) l := by
  have hN : t.val < 8 := lt_of_lt_of_eq t.isLt N_0
  refine Eq.trans ?_ (h0 s ⟨t.val % 4 * 176 + r, by omega⟩ l)
  blk_ext [iblk, V, idx t]

include h1 in
/-- The block of the second layer's parts. -/
theorem blk1 (s : Fin 8) (r : Fin 176) (l : Fin 1024) :
    ((iblk m c 1 t : FVec Ideal S8x176x1024 .bf16) (ix3 s r l) : EReal) = q s (t.val % 4 * 176 + r) l := by
  have hN : t.val < 8 := lt_of_lt_of_eq t.isLt N_0
  refine Eq.trans ?_ (h1 s ⟨t.val % 4 * 176 + r, by omega⟩ l)
  blk_ext [iblk, V, idx t]

include h2 in
/-- The block of the weights. -/
theorem blk2 (r : Fin 176) (l : Fin 1024) :
    ((iblk m c 2 t : FVec Ideal S1x176x1024 .f32) (ix3 0 r l) : EReal) = w (t.val / 4) (t.val % 4 * 176 + r) l := by
  have hN : t.val < 8 := lt_of_lt_of_eq t.isLt N_0
  refine Eq.trans ?_ (h2 ⟨t.val / 4, by omega⟩ ⟨t.val % 4 * 176 + r, by omega⟩ l)
  blk_ext [iblk, V, idx t]

include h3 in
/-- The block of the first moment. -/
theorem blk3 (r : Fin 176) (l : Fin 1024) :
    ((iblk m c 3 t : FVec Ideal S1x176x1024 .f32) (ix3 0 r l) : EReal) = n (t.val / 4) (t.val % 4 * 176 + r) l := by
  have hN : t.val < 8 := lt_of_lt_of_eq t.isLt N_0
  refine Eq.trans ?_ (h3 ⟨t.val / 4, by omega⟩ ⟨t.val % 4 * 176 + r, by omega⟩ l)
  blk_ext [iblk, V, idx t]

include h4 in
/-- The block of the second moment. -/
theorem blk4 (r : Fin 176) (l : Fin 1024) :
    ((iblk m c 4 t : FVec Ideal S1x176x1024 .f32) (ix3 0 r l) : EReal) = v (t.val / 4) (t.val % 4 * 176 + r) l := by
  have hN : t.val < 8 := lt_of_lt_of_eq t.isLt N_0
  refine Eq.trans ?_ (h4 ⟨t.val / 4, by omega⟩ ⟨t.val % 4 * 176 + r, by omega⟩ l)
  blk_ext [iblk, V, idx t]

include h0 h1 in
/-- What a point of the grid stores of the gradient. -/
theorem out5 (k : Fin 176) (l : Fin 1024) :
    ((outsAt0 m c t.val t.isLt).1 (ix3 0 k l) : EReal) = grad p q (t.val / 4) (t.val % 4 * 176 + k) l := by
  have hN : t.val < 8 := lt_of_lt_of_eq t.isLt N_0
  by_cases e : t.val < 4
  · rw [outsAt0_A m c t (by omega) (by omega)]
    frame_out
    pointwise [k0_pay9, k0_pay5]
    simp only [blk0 m c p h0 t, show t.val / 4 = 0 by omega, grad_zero, total_eq]
    rfl
  · rw [outsAt0_B m c t (by omega) (by omega)]
    frame_out
    pointwise [k0_pay15, k0_pay11]
    simp only [blk1 m c q h1 t, show t.val / 4 = 1 by omega, grad_one, total_eq]
    rfl

include h0 h1 in
/-- The array of the gradient. -/
theorem final5 : ((dats m 0 c).arrAt 5 cfg0.N : FVec Ideal S2x704x1024 .f32)
    = fun i => grad p q (i 0).val (i 1).val (i 2).val := by
  refine (dats m 0 c).arrAt_eq_of_covers 5 _ (by decide +kernel) fun t hf z => ?_
  blk_simp
  rw [after0_5]
  idx_vars z
  obtain rfl : z0 = 0 := Subsingleton.elim _ _
  refine (out5 m c p q h0 h1 t z1 z2).trans ?_
  rw [(idx t).2.2.2.2.2.1]
  simp

include h0 h1 h2 h3 h4 in
/-- What a point of the grid stores of the step. -/
theorem out6 (k : Fin 176) (l : Fin 1024) :
    ((outsAt0 m c t.val t.isLt).2.1 (ix3 0 k l) : EReal) = delta (w (t.val / 4) (t.val % 4 * 176 + k) l) (n (t.val / 4) (t.val % 4 * 176 + k) l) (v (t.val / 4) (t.val % 4 * 176 + k) l) (grad p q (t.val / 4) (t.val % 4 * 176 + k) l) := by
  have hN : t.val < 8 := lt_of_lt_of_eq t.isLt N_0
  by_cases e : t.val < 4
  · rw [outsAt0_A m c t (by omega) (by omega)]
    frame_out
    pointwise [k0_pay10, k0_pay7, k0_pay8, k0_pay6, k0_pay5]
    simp only [delta, first, second, blk0 m c p h0 t, blk2 m c w h2 t, blk3 m c n h3 t, blk4 m c v h4 t, show t.val / 4 = 0 by omega, grad_zero, total_eq]
    rfl
  · rw [outsAt0_B m c t (by omega) (by omega)]
    frame_out
    pointwise [k0_pay16, k0_pay13, k0_pay14, k0_pay12, k0_pay11]
    simp only [delta, first, second, blk1 m c q h1 t, blk2 m c w h2 t, blk3 m c n h3 t, blk4 m c v h4 t, show t.val / 4 = 1 by omega, grad_one, total_eq]
    rfl

include h0 h1 h2 h3 h4 in
/-- The array of the step. -/
theorem final6 : ((dats m 0 c).arrAt 6 cfg0.N : FVec Ideal S2x704x1024 .f32)
    = fun i => delta (w (i 0).val (i 1).val (i 2).val) (n (i 0).val (i 1).val (i 2).val) (v (i 0).val (i 1).val (i 2).val) (grad p q (i 0).val (i 1).val (i 2).val) := by
  refine (dats m 0 c).arrAt_eq_of_covers 6 _ (by decide +kernel) fun t hf z => ?_
  blk_simp
  rw [after0_6]
  idx_vars z
  obtain rfl : z0 = 0 := Subsingleton.elim _ _
  refine (out6 m c p q w n v h0 h1 h2 h3 h4 t z1 z2).trans ?_
  rw [(idx t).2.2.2.2.2.2.1]
  simp

include h0 h1 h3 in
/-- What a point of the grid stores of the new first moment. -/
theorem out7 (k : Fin 176) (l : Fin 1024) :
    ((outsAt0 m c t.val t.isLt).2.2.1 (ix3 0 k l) : EReal) = first (n (t.val / 4) (t.val % 4 * 176 + k) l) (grad p q (t.val / 4) (t.val % 4 * 176 + k) l) := by
  have hN : t.val < 8 := lt_of_lt_of_eq t.isLt N_0
  by_cases e : t.val < 4
  · rw [outsAt0_A m c t (by omega) (by omega)]
    frame_out
    pointwise [k0_pay1, k0_pay7, k0_pay6, k0_pay5]
    simp only [first, blk0 m c p h0 t, blk3 m c n h3 t, show t.val / 4 = 0 by omega, grad_zero, total_eq]
    rfl
  · rw [outsAt0_B m c t (by omega) (by omega)]
    frame_out
    pointwise [k0_pay3, k0_pay13, k0_pay12, k0_pay11]
    simp only [first, blk1 m c q h1 t, blk3 m c n h3 t, show t.val / 4 = 1 by omega, grad_one, total_eq]
    rfl

include h0 h1 h3 in
/-- The array of the new first moment. -/
theorem final7 : ((dats m 0 c).arrAt 7 cfg0.N : FVec Ideal S2x704x1024 .f32)
    = fun i => first (n (i 0).val (i 1).val (i 2).val) (grad p q (i 0).val (i 1).val (i 2).val) := by
  refine (dats m 0 c).arrAt_eq_of_covers 7 _ (by decide +kernel) fun t hf z => ?_
  blk_simp
  rw [after0_7]
  idx_vars z
  obtain rfl : z0 = 0 := Subsingleton.elim _ _
  refine (out7 m c p q n h0 h1 h3 t z1 z2).trans ?_
  rw [(idx t).2.2.2.2.2.2.2.1]
  simp

include h0 h1 h4 in
/-- What a point of the grid stores of the new second moment. -/
theorem out8 (k : Fin 176) (l : Fin 1024) :
    ((outsAt0 m c t.val t.isLt).2.2.2 (ix3 0 k l) : EReal) = second (v (t.val / 4) (t.val % 4 * 176 + k) l) (grad p q (t.val / 4) (t.val % 4 * 176 + k) l) := by
  have hN : t.val < 8 := lt_of_lt_of_eq t.isLt N_0
  by_cases e : t.val < 4
  · rw [outsAt0_A m c t (by omega) (by omega)]
    frame_out
    pointwise [k0_pay2, k0_pay8, k0_pay5]
    simp only [second, blk0 m c p h0 t, blk4 m c v h4 t, show t.val / 4 = 0 by omega, grad_zero, total_eq]
    rfl
  · rw [outsAt0_B m c t (by omega) (by omega)]
    frame_out
    pointwise [k0_pay4, k0_pay14, k0_pay11]
    simp only [second, blk1 m c q h1 t, blk4 m c v h4 t, show t.val / 4 = 1 by omega, grad_one, total_eq]
    rfl

include h0 h1 h4 in
/-- The array of the new second moment. -/
theorem final8 : ((dats m 0 c).arrAt 8 cfg0.N : FVec Ideal S2x704x1024 .f32)
    = fun i => second (v (i 0).val (i 1).val (i 2).val) (grad p q (i 0).val (i 1).val (i 2).val) := by
  refine (dats m 0 c).arrAt_eq_of_covers 8 _ (by decide +kernel) fun t hf z => ?_
  blk_simp
  rw [after0_8]
  idx_vars z
  obtain rfl : z0 = 0 := Subsingleton.elim _ _
  refine (out8 m c p q v h0 h1 h4 t z1 z2).trans ?_
  rw [(idx t).2.2.2.2.2.2.2.2]
  simp

end

end Cert.AUpIdeal.Upd

end
-- ==== Proof.AUpClaim.lean ====
module

public import proofs.«01_k».proof.Defs
public import proofs.«01_k».proof.Proof.AUpValue
public import proofs.«01_k».proof.Proof.Gen.AUpRefIdeal
public import proofs.«01_k».proof.Proof.Gen.AUpRefIdeal.Run

/-!
The update of the channel mixer's first weights: the kernel returns what the reference returns.
-/

@[expose] public section

set_option maxRecDepth 16384

noncomputable section

namespace Cert.AUp

open Idealize.ShloMosaic Idealize.ShloMosaic.TcCoe Idealize.SL.Sem
open Cert.Adam

/-- The kernel and the reference return the same gradient, step and moments. -/
theorem claim : Cert.algebraic_AUpIdeal_AUpRefIdeal (hAUpIdeal := Cert.AUpIdeal.Gen.facts) (hAUpRefIdeal := Cert.AUpRefIdeal.Gen.facts) := by
  intro m ρ m' ρ' _ hag
  refine ⟨fun c => (Cert.AUpIdeal.Gen.dats m 0 c).arrAt 5 Cert.AUpIdeal.cfg0.N, fun c => (Cert.AUpIdeal.Gen.dats m 0 c).arrAt 6 Cert.AUpIdeal.cfg0.N,
    fun c => (Cert.AUpIdeal.Gen.dats m 0 c).arrAt 7 Cert.AUpIdeal.cfg0.N, fun c => (Cert.AUpIdeal.Gen.dats m 0 c).arrAt 8 Cert.AUpIdeal.cfg0.N,
    (θ_run Cert.AUpIdeal.defs _ _).mono (fun r h c => ?_) (Cert.AUpIdeal.Value.run_blocks m ρ),
    (θ_run Cert.AUpRefIdeal.defs _ _).mono (fun r h c => ?_) (Cert.AUpRefIdeal.Value.run m' ρ')⟩
  · exact h c
  · obtain ⟨g0, g1, g2, g3, g4⟩ := hag c
    obtain ⟨k1, k2, k3, k4, k5⟩ := h c
    have a0 := at3_eq (m ((c : Thread Cert.AUpIdeal.nD Cert.AUpIdeal.τ).loc Cert.AUpIdeal.main_arg0))
    have a1 := at3_eq (m ((c : Thread Cert.AUpIdeal.nD Cert.AUpIdeal.τ).loc Cert.AUpIdeal.main_arg1))
    have a2 := at3_eq (m ((c : Thread Cert.AUpIdeal.nD Cert.AUpIdeal.τ).loc Cert.AUpIdeal.main_arg2))
    have a3 := at3_eq (m ((c : Thread Cert.AUpIdeal.nD Cert.AUpIdeal.τ).loc Cert.AUpIdeal.main_arg3))
    have a4 := at3_eq (m ((c : Thread Cert.AUpIdeal.nD Cert.AUpIdeal.τ).loc Cert.AUpIdeal.main_arg4))
    have f0 := fun s r l => (congrFun g0 (ix3 s r l)).trans (a0 s r l)
    have f1 := fun s r l => (congrFun g1 (ix3 s r l)).trans (a1 s r l)
    have f2 := fun s r l => (congrFun g2 (ix3 s r l)).trans (a2 s r l)
    have f3 := fun s r l => (congrFun g3 (ix3 s r l)).trans (a3 s r l)
    have f4 := fun s r l => (congrFun g4 (ix3 s r l)).trans (a4 s r l)
    refine ⟨k1.trans ?_, k2.trans ?_, k3.trans ?_, k4.trans ?_, k5⟩
    · refine Eq.trans ?_ (Cert.AUpIdeal.Upd.final5 m c _ _ a0 a1).symm
      funext i
      idx_vars i
      pointwise
      simp only [f0, f1, dite_eq_ite]
      rfl
    · refine Eq.trans ?_ (Cert.AUpIdeal.Upd.final6 m c _ _ _ _ _ a0 a1 a2 a3 a4).symm
      funext i
      idx_vars i
      pointwise
      simp only [f0, f1, f2, f3, f4, dite_eq_ite]
      rfl
    · refine Eq.trans ?_ (Cert.AUpIdeal.Upd.final7 m c _ _ _ a0 a1 a3).symm
      funext i
      idx_vars i
      pointwise
      simp only [f0, f1, f3, dite_eq_ite]
      rfl
    · refine Eq.trans ?_ (Cert.AUpIdeal.Upd.final8 m c _ _ _ a0 a1 a4).symm
      funext i
      idx_vars i
      pointwise
      simp only [f0, f1, f4, dite_eq_ite]
      rfl

end Cert.AUp

end
-- ==== Proof.Cols.lean ====
module

public import Idealize.ShloMosaic.Lib.Pipeline.ValueKit
public import Idealize.ShloMosaic.Lib.Pipeline.FrameBody

/-!
What an array written and read in strips of whole columns holds.
-/

@[expose] public section

noncomputable section

namespace Cert.Cols

open Idealize.ShloMosaic

variable {m n k : ℕ} {Val : EltTy → Type} [∀ e, Nonempty (Val e)] {sig : RefSig} {κ : Kind} {sp : Space} {e : EltTy}

/-- Over a strip of columns written last, the strip; elsewhere what was written before. -/
theorem canon_cols (o : ℕ) (inb : ∀ a, (![0, o] : Fin 2 → ℕ) a + (![m, k] : Fin 2 → ℕ) a ≤ (⟨2, ![m, n]⟩ : Shape).size a)
    (W : (⟨2, ![m, k]⟩ : Shape).Idx → Val e) (L : List (View.Piece Val (⟨2, ![m, n]⟩ : Shape) e)) (r : Fin m) (l : Fin n) :
    View.canon ((⟨Rect.unit (s := (⟨2, ![m, n]⟩ : Shape)) ![0, o] ![m, k] inb, W⟩ : View.Piece Val (⟨2, ![m, n]⟩ : Shape) e) :: L) (ix2 r l)
      = if h : o ≤ l.val ∧ l.val < o + k then W (ix2 r ⟨l.val - o, by omega⟩) else View.canon L (ix2 r l) := by
  split
  · rename_i h
    have he : (Rect.unit (s := (⟨2, ![m, n]⟩ : Shape)) ![0, o] ![m, k] inb).emb (ix2 r (⟨l.val - o, by omega⟩ : Fin k)) = ix2 r l := by
      funext x; apply Fin.ext
      fin_cases x
      · show 0 + 1 * r.val = r.val; omega
      · show o + 1 * (l.val - o) = l.val; omega
    rw [← he]
    exact View.canon_cons_emb (Rect.unit (s := (⟨2, ![m, n]⟩ : Shape)) ![0, o] ![m, k] inb) W L _
  · rename_i h
    refine View.canon_cons_of_not_mem _ L ?_
    intro hm
    obtain ⟨i, hi, he⟩ := (LoadRect.mem_set _).mp hm (1 : Fin 2)
    have hi1 : i < k := hi
    have he' : l.val = o + 1 * i := he
    exact h ⟨by omega, by omega⟩

/-- A load of a strip of columns of an array. -/
theorem ld_cols (o : ℕ) (inb : ∀ a, (![0, o] : Fin 2 → ℕ) a + (![m, k] : Fin 2 → ℕ) a ≤ (⟨2, ![m, n]⟩ : Shape).size a)
    (X : (⟨2, ![m, n]⟩ : Shape).Idx → Val e) (r : Fin m) (l : Fin k) (h : o + l.val < n) :
    View.ld X (Rect.unit (s := (⟨2, ![m, n]⟩ : Shape)) ![0, o] ![m, k] inb) (ix2 r l) = X (ix2 r ⟨o + l.val, h⟩) := by
  refine congrArg X (funext fun x => Fin.ext ?_)
  fin_cases x
  · show 0 + 1 * r.val = r.val; omega
  · show o + 1 * l.val = o + l.val; omega

/-- A load of a strip of columns, of what was written. -/
theorem readCov_cols (v : View sig κ sp (⟨2, ![m, n]⟩ : Shape) e) (o : ℕ)
    (inb : ∀ a, (![0, o] : Fin 2 → ℕ) a + (![m, k] : Fin 2 → ℕ) a ≤ (⟨2, ![m, n]⟩ : Shape).size a)
    (L : List (View.Piece Val (⟨2, ![m, n]⟩ : Shape) e)) (r : Fin m) (l : Fin k) (h : o + l.val < n) :
    v.readCov L (Rect.unit (s := (⟨2, ![m, n]⟩ : Shape)) ![0, o] ![m, k] inb).toLoadRect (ix2 r l) = View.canon L (ix2 r ⟨o + l.val, h⟩) := by
  rw [View.readCov_eq_canon']
  refine congrArg (View.canon L) (funext fun x => Fin.ext ?_)
  fin_cases x
  · show 0 + 1 * r.val = r.val; omega
  · show o + 1 * l.val = o + l.val; omega

end Cert.Cols

end
-- ==== Proof.MixValue.lean ====
module

public import proofs.«01_k».proof.Proof.Gen.MixIdeal.Value
public import proofs.«01_k».proof.Proof.Cols
public import Idealize.ShloMosaic.Lib.Pipeline.ValueKit
public import Idealize.ShloMosaic.Lib.Pipeline.ReadBack
public import Idealize.ShloMosaic.Lib.Claim

/-!
The branches' norms with the output projection and the next norm: what the kernel stores, entry by entry.
-/

@[expose] public section

set_option maxRecDepth 16384

noncomputable section

namespace Cert.MixIdeal.Prod

open Cert.MixIdeal Cert.MixIdeal.Gen Idealize.ShloMosaic Idealize.ShloMosaic.TcCoe Idealize.SL.Sem
open Idealize.ShloMosaic.Pipeline (Dat)

/-- Which block of its array each window holds at each point of the grid. -/
theorem idx : ∀ t : Fin cfg0.N, win0_0.index t = ![t.val, 0]
    ∧ win0_1.index t = ![t.val, 0]
    ∧ win0_2.index t = ![t.val, 0]
    ∧ win0_3.index t = ![0, 0]
    ∧ win0_4.index t = ![0, 0]
    ∧ win0_5.index t = ![t.val, 0]
    ∧ win0_6.index t = ![0, 0]
    ∧ win0_7.index t = ![t.val, 0]
    ∧ win0_8.index t = ![t.val, 0]
    ∧ win0_9.index t = ![t.val, 0] :=
  (by decide +kernel : ∀ t : Fin grid0.N, win0_0.index t = ![t.val, 0]
    ∧ win0_1.index t = ![t.val, 0]
    ∧ win0_2.index t = ![t.val, 0]
    ∧ win0_3.index t = ![0, 0]
    ∧ win0_4.index t = ![0, 0]
    ∧ win0_5.index t = ![t.val, 0]
    ∧ win0_6.index t = ![0, 0]
    ∧ win0_7.index t = ![t.val, 0]
    ∧ win0_8.index t = ![t.val, 0]
    ∧ win0_9.index t = ![t.val, 0])

section
variable (m : (ℓ : Loc nD τ sig) → Buf (Elt Ideal) ℓ) (c : Dev nD) (a b d w x : ℕ → ℕ → EReal) (g n : ℕ → EReal)
  (h0 : ∀ (r : Fin 8192) (l : Fin 512), m ((c : Thread nD τ).loc main_arg0) (ix2 r l) = a r l)
  (h1 : ∀ (r : Fin 8192) (l : Fin 256), m ((c : Thread nD τ).loc main_arg1) (ix2 r l) = b r l)
  (h2 : ∀ (r : Fin 8192) (l : Fin 256), m ((c : Thread nD τ).loc main_arg2) (ix2 r l) = d r l)
  (h3 : ∀ (l : Fin 1024), m ((c : Thread nD τ).loc main_arg3) (ix1 l) = g l)
  (h4 : ∀ (r : Fin 1024) (l : Fin 1024), m ((c : Thread nD τ).loc main_arg4) (ix2 r l) = w r l)
  (h5 : ∀ (r : Fin 8192) (l : Fin 1024), m ((c : Thread nD τ).loc main_arg5) (ix2 r l) = x r l)
  (h6 : ∀ (l : Fin 1024), m ((c : Thread nD τ).loc main_arg6) (ix1 l) = n l)
  (t : Fin cfg0.N)

include h0 in
/-- The block of the first branch's rows. -/
theorem blk0 (r : Fin 1024) (l : Fin 512) :
    ((iblk m c 0 t : FVec Ideal S1024x512 .f32) (ix2 r l) : EReal) = a (t.val * 1024 + r) l := by
  have hN : t.val < 8 := lt_of_lt_of_eq t.isLt N_0
  refine Eq.trans ?_ (h0 ⟨t.val * 1024 + r, by omega⟩ l)
  blk_ext [iblk, V, idx t]

include h1 in
/-- The block of the second branch's rows. -/
theorem blk1 (r : Fin 1024) (l : Fin 256) :
    ((iblk m c 1 t : FVec Ideal S1024x256 .f32) (ix2 r l) : EReal) = b (t.val * 1024 + r) l := by
  have hN : t.val < 8 := lt_of_lt_of_eq t.isLt N_0
  refine Eq.trans ?_ (h1 ⟨t.val * 1024 + r, by omega⟩ l)
  blk_ext [iblk, V, idx t]

include h2 in
/-- The block of the third branch's rows. -/
theorem blk2 (r : Fin 1024) (l : Fin 256) :
    ((iblk m c 2 t : FVec Ideal S1024x256 .f32) (ix2 r l) : EReal) = d (t.val * 1024 + r) l := by
  have hN : t.val < 8 := lt_of_lt_of_eq t.isLt N_0
  refine Eq.trans ?_ (h2 ⟨t.val * 1024 + r, by omega⟩ l)
  blk_ext [iblk, V, idx t]

include h3 in
/-- The branches' gains. -/
theorem blk3 (l : Fin 1024) :
    ((iblk m c 3 t : FVec Ideal S1x1024 .f32) (ix2 0 l) : EReal) = g l := by
  have hN : t.val < 8 := lt_of_lt_of_eq t.isLt N_0
  have e : (V m c main_v0 (ix2 0 l) : EReal) = g l := by
    refine Eq.trans ?_ (h3 l)
    entry_read
    pointwise
  refine Eq.trans ?_ e
  blk_ext [iblk, idx t]

include h4 in
/-- The block of the weights. -/
theorem blk4 (r : Fin 1024) (l : Fin 1024) :
    ((iblk m c 4 t : FVec Ideal S1024x1024 .bf16) (ix2 r l) : EReal) = w r l := by
  have hN : t.val < 8 := lt_of_lt_of_eq t.isLt N_0
  refine Eq.trans ?_ (h4 r l)
  blk_ext [iblk, V, idx t]

include h5 in
/-- The block of the residual's rows. -/
theorem blk5 (r : Fin 1024) (l : Fin 1024) :
    ((iblk m c 5 t : FVec Ideal S1024x1024 .f32) (ix2 r l) : EReal) = x (t.val * 1024 + r) l := by
  have hN : t.val < 8 := lt_of_lt_of_eq t.isLt N_0
  refine Eq.trans ?_ (h5 ⟨t.val * 1024 + r, by omega⟩ l)
  blk_ext [iblk, V, idx t]

include h6 in
/-- The next norm's gains. -/
theorem blk6 (l : Fin 1024) :
    ((iblk m c 6 t : FVec Ideal S1x1024 .f32) (ix2 0 l) : EReal) = n l := by
  have hN : t.val < 8 := lt_of_lt_of_eq t.isLt N_0
  have e : (V m c main_v1 (ix2 0 l) : EReal) = n l := by
    refine Eq.trans ?_ (h6 l)
    entry_read
    pointwise
  refine Eq.trans ?_ e
  blk_ext [iblk, idx t]

/-- The scale of a row of `k` entries, `e` the number of entries. -/
def scale (k : ℕ) (e : BitVec 32) (y : ℕ → EReal) : EReal :=
  Ideal.rsqrt (Ideal.div (∑ s : Fin k, y s * y s) (Ideal.ofBits .f32 e) + Ideal.ofBits .f32 897988541#32)

/-- An entry of the branches' scaled rows, side by side, with their gains. -/
def rows (r l : ℕ) : EReal :=
  if l < 512 then a r l * scale 512 1140850688#32 (a r) * g l
  else if l < 768 then b r (l - 512) * scale 256 1132462080#32 (b r) * g l
  else d r (l - 768) * scale 256 1132462080#32 (d r) * g l

/-- An entry of the residual's rows and the product. -/
def sums (r l : ℕ) : EReal := x r l + ∑ s : Fin 1024, rows a b d g r s * w s l

/-- An entry of a normed row. -/
def rms (y : ℕ → EReal) (l : ℕ) : EReal := y l * scale 1024 1149239296#32 y * n l

/-- The list of the three strips the kernel stores. -/
abbrev strips : List (View.Piece (Elt Ideal) S1024x1024 .bf16) :=
  [⟨Rect.unit (s := S1024x1024) ![0, 768] ![1024, 256] inb_S1024x1024_S1024x256_0_768,
      k0_pay4 (F := Ideal) (iblk m c 2 t) (k0_pay3 (F := Ideal) (iblk m c 2 t))
        (View.ld (iblk m c 3 t) (Rect.unit ![0, 768] ![1, 256] inb_S1x1024_S1x256_0_768))⟩,
    ⟨Rect.unit (s := S1024x1024) ![0, 512] ![1024, 256] inb_S1024x1024_S1024x256_0_512,
      k0_pay2 (F := Ideal) (iblk m c 1 t) (View.ld (iblk m c 3 t) (Rect.unit ![0, 512] ![1, 256] inb_S1x1024_S1x256_0_512))⟩,
    ⟨Rect.unit (s := S1024x1024) ![0, 0] ![1024, 512] inb_S1024x1024_S1024x512_0_0,
      k0_pay1 (F := Ideal) (iblk m c 0 t) (View.ld (iblk m c 3 t) (Rect.unit ![0, 0] ![1, 512] inb_S1x1024_S1x512_0_0))⟩]

include h3 in
/-- The gains a strip takes. -/
theorem gain (k o : ℕ) (inb) (l : Fin k) (h : o + l.val < 1024) :
    (View.ld (iblk m c 3 t : FVec Ideal S1x1024 .f32) (Rect.unit (s := S1x1024) ![0, o] ![1, k] inb) (ix2 0 l) : EReal) = g (o + l.val) :=
  (Cert.Cols.ld_cols (m := 1) (n := 1024) (k := k) o inb _ 0 l h).trans (blk3 m c g h3 t ⟨o + l.val, h⟩)

include h0 h3 in
theorem strip0 (k : Fin 1024) (l : Fin 512) :
    (k0_pay1 (F := Ideal) (iblk m c 0 t) (View.ld (iblk m c 3 t) (Rect.unit ![0, 0] ![1, 512] inb_S1x1024_S1x512_0_0)) (ix2 k l) : EReal)
      = a (t.val * 1024 + k) l * scale 512 1140850688#32 (a (t.val * 1024 + k)) * g (0 + l) := by
  rw [← gain m c g h3 t 512 0 inb_S1x1024_S1x512_0_0 l (by omega)]
  pointwise [k0_pay1]
  simp only [blk0 m c a h0 t]
  rfl

include h1 h3 in
theorem strip1 (k : Fin 1024) (l : Fin 256) :
    (k0_pay2 (F := Ideal) (iblk m c 1 t) (View.ld (iblk m c 3 t) (Rect.unit ![0, 512] ![1, 256] inb_S1x1024_S1x256_0_512)) (ix2 k l) : EReal)
      = b (t.val * 1024 + k) l * scale 256 1132462080#32 (b (t.val * 1024 + k)) * g (512 + l) := by
  rw [← gain m c g h3 t 256 512 inb_S1x1024_S1x256_0_512 l (by omega)]
  pointwise [k0_pay2]
  simp only [blk1 m c b h1 t]
  rfl

include h2 h3 in
theorem strip2 (k : Fin 1024) (l : Fin 256) :
    (k0_pay4 (F := Ideal) (iblk m c 2 t) (k0_pay3 (F := Ideal) (iblk m c 2 t))
        (View.ld (iblk m c 3 t) (Rect.unit ![0, 768] ![1, 256] inb_S1x1024_S1x256_0_768)) (ix2 k l) : EReal)
      = d (t.val * 1024 + k) l * scale 256 1132462080#32 (d (t.val * 1024 + k)) * g (768 + l) := by
  rw [← gain m c g h3 t 256 768 inb_S1x1024_S1x256_0_768 l (by omega)]
  pointwise [k0_pay4, k0_pay3]
  simp only [blk2 m c d h2 t]
  rfl

include h0 h1 h2 h3 in
/-- The three strips are the branches' rows. -/
theorem whole (k : Fin 1024) (l : Fin 1024) :
    (View.canon (strips m c t) (ix2 k l) : EReal) = rows a b d g (t.val * 1024 + k) l := by
  refine (Cert.Cols.canon_cols (m := 1024) (n := 1024) (k := 256) 768 _ _ _ k l).trans ?_
  unfold rows
  split
  · rename_i h
    rw [if_neg (by omega), if_neg (by omega)]
    refine (strip2 m c d g h2 h3 t k _).trans ?_
    simp only [show 768 + (l.val - 768) = l.val by omega]
  refine (Cert.Cols.canon_cols (m := 1024) (n := 1024) (k := 256) 512 _ _ _ k l).trans ?_
  split
  · rename_i h
    rw [if_neg (by omega), if_pos (by omega)]
    refine (strip1 m c b g h1 h3 t k _).trans ?_
    simp only [show 512 + (l.val - 512) = l.val by omega]
  refine (Cert.Cols.canon_cols (m := 1024) (n := 1024) (k := 512) 0 _ _ _ k l).trans ?_
  rw [dif_pos ⟨by omega, by omega⟩, if_pos (by omega)]
  refine (strip0 m c a g h0 h3 t k _).trans ?_
  simp only [Nat.zero_add, Nat.sub_zero]

include h0 h1 h2 h3 in
/-- What a point stores into the first result. -/
theorem out7 (k : Fin 1024) (l : Fin 1024) : ((outsAt0 m c t).1 (ix2 k l) : EReal) = rows a b d g (t.val * 1024 + k) l := by
  unfold outsAt0
  frame_out
  exact whole m c a b d g h0 h1 h2 h3 t k l

include h0 h1 h2 h3 in
/-- The same rows, as the kernel reads them back. -/
theorem back (k : Fin 1024) (l : Fin 1024) :
    ((ms0_7 t).view.readCov (strips m c t) (Rect.unit (s := S1024x1024) ![0, 0] ![1024, 1024] inb_S1024x1024_S1024x1024_0_0).toLoadRect (ix2 k l) : EReal)
      = rows a b d g (t.val * 1024 + k) l := by
  refine (Cert.Cols.readCov_cols (m := 1024) (n := 1024) (k := 1024) _ 0 _ _ k l (by omega)).trans ?_
  refine (whole m c a b d g h0 h1 h2 h3 t k _).trans ?_
  simp only [Nat.zero_add]

include h0 h1 h2 h3 h4 h5 in
theorem summed (k : Fin 1024) (l : Fin 1024) :
    (k0_pay5 (F := Ideal) (iblk m c 5 t) ((ms0_7 t).view.readCov (strips m c t)
        (Rect.unit (s := S1024x1024) ![0, 0] ![1024, 1024] inb_S1024x1024_S1024x1024_0_0).toLoadRect) (iblk m c 4 t) (ix2 k l) : EReal)
      = sums a b d w x g (t.val * 1024 + k) l := by
  pointwise [k0_pay5]
  rw [blk5 m c x h5 t]
  refine congrArg (_ + ·) (Finset.sum_congr rfl fun s _ => ?_)
  rw [blk4 m c w h4 t]
  exact congrArg (· * _) (back m c a b d g h0 h1 h2 h3 t k s)

include h0 h1 h2 h3 h4 h5 in
/-- What a point stores into the second result. -/
theorem out8 (k : Fin 1024) (l : Fin 1024) : ((outsAt0 m c t).2.1 (ix2 k l) : EReal) = sums a b d w x g (t.val * 1024 + k) l := by
  unfold outsAt0
  frame_out
  exact summed m c a b d w x g h0 h1 h2 h3 h4 h5 t k l

include h0 h1 h2 h3 h4 h5 h6 in
/-- What a point stores into the third result. -/
theorem out9 (k : Fin 1024) (l : Fin 1024) : ((outsAt0 m c t).2.2 (ix2 k l) : EReal) = rms n (sums a b d w x g (t.val * 1024 + k)) l := by
  unfold outsAt0
  frame_out
  refine Eq.trans (b := (k0_pay6 (F := Ideal) (iblk m c 5 t) ((ms0_7 t).view.readCov (strips m c t)
        (Rect.unit (s := S1024x1024) ![0, 0] ![1024, 1024] inb_S1024x1024_S1024x1024_0_0).toLoadRect) (iblk m c 4 t) (iblk m c 6 t) (ix2 k l) : EReal)) rfl ?_
  have e := summed m c a b d w x g h0 h1 h2 h3 h4 h5 t k
  generalize hY : (ms0_7 t).view.readCov (strips m c t)
        (Rect.unit (s := S1024x1024) ![0, 0] ![1024, 1024] inb_S1024x1024_S1024x1024_0_0).toLoadRect = Y at e ⊢
  pointwise [k0_pay6]
  simp only [e, blk6 m c n h6 t]
  rfl

include h0 h1 h2 h3 in
/-- The first result. -/
theorem final7 : ((dats m 0 c).arrAt 7 cfg0.N : FVec Ideal S8192x1024 .bf16) = fun i => rows a b d g (i 0).val (i 1).val := by
  refine (dats m 0 c).arrAt_eq_of_covers 7 _ (by decide +kernel) fun t hf z => ?_
  blk_simp
  rw [after0_7]
  idx_vars z
  refine (out7 m c a b d g h0 h1 h2 h3 t z0 z1).trans ?_
  rw [(idx t).2.2.2.2.2.2.2.1]
  simp

include h0 h1 h2 h3 h4 h5 in
/-- The second result. -/
theorem final8 : ((dats m 0 c).arrAt 8 cfg0.N : FVec Ideal S8192x1024 .f32) = fun i => sums a b d w x g (i 0).val (i 1).val := by
  refine (dats m 0 c).arrAt_eq_of_covers 8 _ (by decide +kernel) fun t hf z => ?_
  blk_simp
  rw [after0_8]
  idx_vars z
  refine (out8 m c a b d w x g h0 h1 h2 h3 h4 h5 t z0 z1).trans ?_
  rw [(idx t).2.2.2.2.2.2.2.2.1]
  simp

include h0 h1 h2 h3 h4 h5 h6 in
/-- The third result. -/
theorem final9 : ((dats m 0 c).arrAt 9 cfg0.N : FVec Ideal S8192x1024 .bf16) = fun i => rms n (sums a b d w x g (i 0).val) (i 1).val := by
  refine (dats m 0 c).arrAt_eq_of_covers 9 _ (by decide +kernel) fun t hf z => ?_
  blk_simp
  rw [after0_9]
  idx_vars z
  refine (out9 m c a b d w x g n h0 h1 h2 h3 h4 h5 h6 t z0 z1).trans ?_
  rw [(idx t).2.2.2.2.2.2.2.2.2]
  simp

end

end Cert.MixIdeal.Prod

end
-- ==== Proof.MixClaim.lean ====
module

public import proofs.«01_k».proof.Defs
public import proofs.«01_k».proof.Proof.MixValue
public import proofs.«01_k».proof.Proof.DownClaim
public import proofs.«01_k».proof.Proof.Gen.MixRefIdeal
public import proofs.«01_k».proof.Proof.Gen.MixRefIdeal.Run

/-!
The branches' norms with the output projection and the next norm: the kernel returns what the reference returns.
-/

@[expose] public section

set_option maxRecDepth 16384

noncomputable section

namespace Cert.Mix

open Idealize.ShloMosaic Idealize.ShloMosaic.TcCoe Idealize.SL.Sem
open Cert.Sum (at2_eq)
open Cert.Down (at1_eq)

/-- The reference's rows. -/
theorem ref_rows (a b d : ℕ → ℕ → EReal) (g : ℕ → EReal) (r l : ℕ) :
    (if _h : l < 512 then a r l * Ideal.rsqrt (Ideal.div (∑ s : Fin 512, a r s * a r s) (Ideal.ofBits .f32 1140850688#32) + Ideal.ofBits .f32 897988541#32)
      else if _h : l - 512 < 256 then b r (l - 512) * Ideal.rsqrt (Ideal.div (∑ s : Fin 256, b r s * b r s) (Ideal.ofBits .f32 1132462080#32) + Ideal.ofBits .f32 897988541#32)
      else d r (l - 512 - 256) * Ideal.rsqrt (Ideal.div (∑ s : Fin 256, d r s * d r s) (Ideal.ofBits .f32 1132462080#32) + Ideal.ofBits .f32 897988541#32)) * g l
      = Cert.MixIdeal.Prod.rows a b d g r l := by
  unfold Cert.MixIdeal.Prod.rows
  by_cases h : l < 512
  · rw [dif_pos h, if_pos h]
    rfl
  rw [dif_neg h, if_neg h]
  by_cases h' : l < 768
  · rw [dif_pos (by omega), if_pos h']
    rfl
  rw [dif_neg (by omega), if_neg h', show l - 512 - 256 = l - 768 by omega]
  rfl

/-- The kernel and the reference return the same three arrays. -/
theorem claim : Cert.algebraic_MixIdeal_MixRefIdeal (hMixIdeal := Cert.MixIdeal.Gen.facts) (hMixRefIdeal := Cert.MixRefIdeal.Gen.facts) := by
  intro m ρ m' ρ' _ hag
  refine ⟨fun c => (Cert.MixIdeal.Gen.dats m 0 c).arrAt 7 Cert.MixIdeal.cfg0.N,
    fun c => (Cert.MixIdeal.Gen.dats m 0 c).arrAt 8 Cert.MixIdeal.cfg0.N,
    fun c => (Cert.MixIdeal.Gen.dats m 0 c).arrAt 9 Cert.MixIdeal.cfg0.N,
    (θ_run Cert.MixIdeal.defs _ _).mono (fun r h c => ?_) (Cert.MixIdeal.Value.run_blocks m ρ),
    (θ_run Cert.MixRefIdeal.defs _ _).mono (fun r h c => ?_) (Cert.MixRefIdeal.Value.run m' ρ')⟩
  · exact h c
  · obtain ⟨g0, g1, g2, g3, g4, g5, g6⟩ := hag c
    obtain ⟨k1, k2, k3, k4⟩ := h c
    have e0 := at2_eq (m := 8192) (n := 512) (m ((c : Thread Cert.MixIdeal.nD Cert.MixIdeal.τ).loc Cert.MixIdeal.main_arg0))
    have e1 := at2_eq (m := 8192) (n := 256) (m ((c : Thread Cert.MixIdeal.nD Cert.MixIdeal.τ).loc Cert.MixIdeal.main_arg1))
    have e2 := at2_eq (m := 8192) (n := 256) (m ((c : Thread Cert.MixIdeal.nD Cert.MixIdeal.τ).loc Cert.MixIdeal.main_arg2))
    have e3 := at1_eq (n := 1024) (m ((c : Thread Cert.MixIdeal.nD Cert.MixIdeal.τ).loc Cert.MixIdeal.main_arg3))
    have e4 := at2_eq (m := 1024) (n := 1024) (m ((c : Thread Cert.MixIdeal.nD Cert.MixIdeal.τ).loc Cert.MixIdeal.main_arg4))
    have e5 := at2_eq (m := 8192) (n := 1024) (m ((c : Thread Cert.MixIdeal.nD Cert.MixIdeal.τ).loc Cert.MixIdeal.main_arg5))
    have e6 := at1_eq (n := 1024) (m ((c : Thread Cert.MixIdeal.nD Cert.MixIdeal.τ).loc Cert.MixIdeal.main_arg6))
    have f0 : ∀ r l, _ = _ := fun r l => (congrFun g0 (ix2 r l)).trans (e0 r l)
    have f1 : ∀ r l, _ = _ := fun r l => (congrFun g1 (ix2 r l)).trans (e1 r l)
    have f2 : ∀ r l, _ = _ := fun r l => (congrFun g2 (ix2 r l)).trans (e2 r l)
    have f3 : ∀ l, _ = _ := fun l => (congrFun g3 (ix1 l)).trans (e3 l)
    have f4 : ∀ r l, _ = _ := fun r l => (congrFun g4 (ix2 r l)).trans (e4 r l)
    have f5 : ∀ r l, _ = _ := fun r l => (congrFun g5 (ix2 r l)).trans (e5 r l)
    have f6 : ∀ l, _ = _ := fun l => (congrFun g6 (ix1 l)).trans (e6 l)
    refine ⟨k1.trans ?_, k2.trans ?_, k3.trans ?_, k4⟩
    · refine Eq.trans ?_ (Cert.MixIdeal.Prod.final7 m c _ _ _ _ e0 e1 e2 e3).symm
      funext i
      idx_vars i
      pointwise
      simp only [f0, f1, f2, f3, f4, f5, f6, ref_rows]
    · refine Eq.trans ?_ (Cert.MixIdeal.Prod.final8 m c _ _ _ _ _ _ e0 e1 e2 e3 e4 e5).symm
      funext i
      idx_vars i
      pointwise
      simp only [f0, f1, f2, f3, f4, f5, f6, ref_rows]
      rfl
    · refine Eq.trans ?_ (Cert.MixIdeal.Prod.final9 m c _ _ _ _ _ _ _ e0 e1 e2 e3 e4 e5 e6).symm
      funext i
      idx_vars i
      pointwise [Cert.MixRefIdeal.Value.res_main_v51]
      simp only [f0, f1, f2, f3, f4, f5, f6, ref_rows]
      rfl

end Cert.Mix

end
-- ==== Proof.FiniteMix.lean ====
module

public import proofs.«01_k».proof.Pre_finite_mix
public import proofs.«01_k».proof.Proof.Gen.Pre_finite_mix
public import proofs.«01_k».proof.Proof.Finite

/-!
What the precondition of the backward pass of the branches' norms says: every entry of the six arrays is a real number.
-/

@[expose] public section

set_option maxRecDepth 16384

noncomputable section

namespace Cert.Pre_finite_mix.Prod

open Cert.Pre_finite_mix Idealize.ShloMosaic
open Cert.Pre_finite.Conv (entry_real)

variable [Facts]

theorem real (D : FVec Ideal S8192x1024 .f32) (W : FVec Ideal S1024x1024 .bf16) (A : FVec Ideal S8192x512 .f32)
    (B C : FVec Ideal S8192x256 .f32) (G : FVec Ideal S1024 .f32)
    (h : fn (F := Ideal) D W A B C G = fun _ => 1#1) :
    (∀ i, (D i : EReal) = ((D i : EReal).toReal : EReal)) ∧ (∀ i, (W i : EReal) = ((W i : EReal).toReal : EReal))
      ∧ (∀ i, (A i : EReal) = ((A i : EReal).toReal : EReal)) ∧ (∀ i, (B i : EReal) = ((B i : EReal).toReal : EReal))
      ∧ (∀ i, (C i : EReal) = ((C i : EReal).toReal : EReal)) ∧ (∀ i, (G i : EReal) = ((G i : EReal).toReal : EReal)) := by
  haveI : Subsingleton S_.Idx := ⟨fun x y => funext fun a => Fin.elim0 a⟩
  have h' := congrFun h (fun a => Fin.elim0 a)
  unfold fn fn_part1 at h'
  dsimp only at h'
  obtain ⟨h12345, h6⟩ := IntOp.andi_eq_one.1 h'
  obtain ⟨h1234, h5⟩ := IntOp.andi_eq_one.1 h12345
  obtain ⟨h123, h4⟩ := IntOp.andi_eq_one.1 h1234
  obtain ⟨h12, h3⟩ := IntOp.andi_eq_one.1 h123
  obtain ⟨h1, h2⟩ := IntOp.andi_eq_one.1 h12
  exact ⟨fun i => entry_real _ (Host.reduce_andi_all _ _ _ _ _ h1 i), fun i => entry_real _ (Host.reduce_andi_all _ _ _ _ _ h2 i),
    fun i => entry_real _ (Host.reduce_andi_all _ _ _ _ _ h3 i), fun i => entry_real _ (Host.reduce_andi_all _ _ _ _ _ h4 i),
    fun i => entry_real _ (Host.reduce_andi_all _ _ _ _ _ h5 i), fun i => entry_real _ (Host.reduce_andi_all _ _ _ _ _ h6 i)⟩

end Cert.Pre_finite_mix.Prod

end
-- ==== Proof.Width.lean ====
module

public import proofs.«01_k».proof.Proof.Norm

/-!
The gradient of the root-mean-square norm of a row of `n` real numbers, for the widths of the three branches of the
mixer, as the kernel spells it and as the reference spells it.
-/

@[expose] public section

noncomputable section

namespace Cert.Width

open Idealize.ShloMosaic
open Cert.Conv (coe_sum)
open Cert.Norm (eps ofBits_eps ofBits_neg_half)

theorem ofBits_512 : Ideal.ofBits .f32 1140850688#32 = (((512 : ℕ) : ℝ) : EReal) := by
  simp [Ideal.ofBits, Ideal.ieee]; rw [← EReal.coe_mul]; norm_num
theorem ofBits_256 : Ideal.ofBits .f32 1132462080#32 = (((256 : ℕ) : ℝ) : EReal) := by
  simp [Ideal.ofBits, Ideal.ieee]; rw [← EReal.coe_mul]; norm_num

section
variable (n : ℕ)

/-- The mean square of a row, and the small number. -/
def ms (x : ℕ → ℝ) : ℝ := (∑ s : Fin n, x s * x s) * (1 / (n : ℝ)) + eps

theorem ms_pos (x : ℕ → ℝ) : 0 < ms n x := by
  have h : 0 ≤ ∑ s : Fin n, x s * x s := Finset.sum_nonneg fun s _ => mul_self_nonneg _
  have e : 0 < eps := by norm_num [eps]
  unfold ms
  positivity

/-- The scale of a row. -/
def sc (x : ℕ → ℝ) : ℝ := (Real.sqrt (ms n x))⁻¹

theorem sc_cube (x : ℕ → ℝ) : sc n x * (1 / ms n x) = sc n x * sc n x * sc n x := by
  have h : Real.sqrt (ms n x) * Real.sqrt (ms n x) = ms n x := Real.mul_self_sqrt (ms_pos n x).le
  have e : 1 / ms n x = sc n x * sc n x := by unfold sc; rw [← mul_inv, h, one_div]
  rw [e, mul_assoc]

/-- The gradient with respect to entry `l` of a row `x`, the cotangent at the scaled row being `u`. -/
def dx (u x : ℕ → ℝ) (l : ℕ) : ℝ :=
  sc n x * (u l - x l * sc n x * ((∑ s : Fin n, u s * (x s * sc n x)) * (1 / (n : ℝ))))

variable (b : BitVec 32) (hb : Ideal.ofBits .f32 b = ((n : ℝ) : EReal)) (hn : (n : ℝ) ≠ 0)
include hb hn

theorem ideal_ms (X : Fin n → EReal) (x : ℕ → ℝ) (h : ∀ s, X s = ((x s : ℝ) : EReal)) :
    Ideal.div (∑ s, X s * X s) (Ideal.ofBits .f32 b) + Ideal.ofBits .f32 897988541#32 = ((ms n x : ℝ) : EReal) := by
  simp only [h, ofBits_eps, hb, Ideal.div_coe hn, ← EReal.coe_mul, ← EReal.coe_add, coe_sum]
  rfl

theorem ideal_sc (X : Fin n → EReal) (x : ℕ → ℝ) (h : ∀ s, X s = ((x s : ℝ) : EReal)) :
    Ideal.rsqrt (Ideal.div (∑ s, X s * X s) (Ideal.ofBits .f32 b) + Ideal.ofBits .f32 897988541#32) = ((sc n x : ℝ) : EReal) := by
  rw [ideal_ms n b hb hn X x h, Ideal.rsqrt_coe, if_neg (not_lt.2 (ms_pos n x).le), if_neg (ms_pos n x).ne']
  rfl

/-- The kernel's spelling: the cotangent at the scaled row is the product of the cotangent and the gain. -/
theorem kernel_dx (R G X Y : Fin n → EReal) (u x : ℕ → ℝ) (hR : ∀ s, R s * G s = ((u s : ℝ) : EReal))
    (hX : ∀ s, X s = ((x s : ℝ) : EReal)) (hY : ∀ s, Y s = ((x s * sc n x : ℝ) : EReal)) (l : Fin n) :
    Ideal.rsqrt (Ideal.div (∑ s, X s * X s) (Ideal.ofBits .f32 b) + Ideal.ofBits .f32 897988541#32)
        * (R l * G l - Y l * Ideal.div (∑ s, R s * G s * Y s) (Ideal.ofBits .f32 b))
      = ((dx n u x l : ℝ) : EReal) := by
  rw [ideal_sc n b hb hn X x hX]
  simp only [hR, hY, hb, Ideal.div_coe hn, ← EReal.coe_mul, ← EReal.coe_sub, coe_sum]
  rfl

/-- The reference's spelling, of real numbers. -/
theorem ref_dx (u x : ℕ → ℝ) (l : Fin n) :
    ((u l : ℝ) : EReal) * Ideal.rsqrt (Ideal.div (∑ s : Fin n, ((x s : ℝ) : EReal) * ((x s : ℝ) : EReal)) (Ideal.ofBits .f32 b) + Ideal.ofBits .f32 897988541#32)
      + ((x l : ℝ) : EReal) * ∑ _k : Fin 1, Ideal.div ((∑ s : Fin n, ((x s : ℝ) : EReal) * ((u s : ℝ) : EReal)) * (Ideal.ofBits .f32 3204448256#32
          * Ideal.div (Ideal.rsqrt (Ideal.div (∑ s : Fin n, ((x s : ℝ) : EReal) * ((x s : ℝ) : EReal)) (Ideal.ofBits .f32 b) + Ideal.ofBits .f32 897988541#32))
              (Ideal.div (∑ s : Fin n, ((x s : ℝ) : EReal) * ((x s : ℝ) : EReal)) (Ideal.ofBits .f32 b) + Ideal.ofBits .f32 897988541#32)))
          (Ideal.ofBits .f32 b)
      + (∑ _k : Fin 1, Ideal.div ((∑ s : Fin n, ((x s : ℝ) : EReal) * ((u s : ℝ) : EReal)) * (Ideal.ofBits .f32 3204448256#32
          * Ideal.div (Ideal.rsqrt (Ideal.div (∑ s : Fin n, ((x s : ℝ) : EReal) * ((x s : ℝ) : EReal)) (Ideal.ofBits .f32 b) + Ideal.ofBits .f32 897988541#32))
              (Ideal.div (∑ s : Fin n, ((x s : ℝ) : EReal) * ((x s : ℝ) : EReal)) (Ideal.ofBits .f32 b) + Ideal.ofBits .f32 897988541#32)))
          (Ideal.ofBits .f32 b)) * ((x l : ℝ) : EReal)
      = ((dx n u x l : ℝ) : EReal) := by
  rw [ideal_sc n b hb hn _ x (fun _ => rfl), ideal_ms n b hb hn _ x (fun _ => rfl)]
  simp only [Fin.sum_univ_one, hb, ofBits_neg_half, Ideal.div_coe hn, Ideal.div_coe (ms_pos n x).ne',
    ← EReal.coe_mul, ← EReal.coe_add, coe_sum, sc_cube]
  refine congrArg _ ?_
  unfold dx
  have e : ∑ s : Fin n, u s * (x s * sc n x) = (∑ s : Fin n, x s * u s) * sc n x := by
    rw [Finset.sum_mul]
    exact Finset.sum_congr rfl fun s _ => by ring
  rw [e]
  ring

end

end Cert.Width

end
-- ==== Proof.MixTValue.lean ====
module

public import proofs.«01_k».proof.Proof.Gen.MixTIdeal.Value
public import proofs.«01_k».proof.Proof.Width
public import proofs.«01_k».proof.Proof.Cols
public import proofs.«01_k».proof.Proof.Sum
public import Idealize.ShloMosaic.Lib.Pipeline.ValueKit
public import Idealize.ShloMosaic.Lib.Pipeline.ReadBack
public import Idealize.ShloMosaic.Lib.Claim

/-!
The backward pass of the branches' norms and of the output projection's product: what the kernel stores, entry by
entry, for arguments that are real numbers.
-/

@[expose] public section

set_option maxRecDepth 16384

noncomputable section

namespace Cert.MixTIdeal.Prod

open Cert.MixTIdeal Cert.MixTIdeal.Gen Idealize.ShloMosaic Idealize.ShloMosaic.TcCoe Idealize.SL.Sem
open Idealize.ShloMosaic.Pipeline (Dat)
open Cert.Sum (chunk first)
open Cert.Width
open Cert.Conv (coe_sum)

/-- Which block of its array each window holds at each point of the grid. -/
theorem idx : ∀ t : Fin cfg0.N, win0_0.index t = ![t.val, 0]
    ∧ win0_1.index t = ![0, 0]
    ∧ win0_2.index t = ![t.val, 0]
    ∧ win0_3.index t = ![t.val, 0]
    ∧ win0_4.index t = ![t.val, 0]
    ∧ win0_5.index t = ![0, 0]
    ∧ win0_6.index t = ![t.val, 0]
    ∧ win0_7.index t = ![t.val, 0]
    ∧ win0_8.index t = ![t.val, 0]
    ∧ win0_9.index t = ![0, 0] :=
  (by decide +kernel : ∀ t : Fin grid0.N, win0_0.index t = ![t.val, 0]
    ∧ win0_1.index t = ![0, 0]
    ∧ win0_2.index t = ![t.val, 0]
    ∧ win0_3.index t = ![t.val, 0]
    ∧ win0_4.index t = ![t.val, 0]
    ∧ win0_5.index t = ![0, 0]
    ∧ win0_6.index t = ![t.val, 0]
    ∧ win0_7.index t = ![t.val, 0]
    ∧ win0_8.index t = ![t.val, 0]
    ∧ win0_9.index t = ![0, 0])

section
variable (m : (ℓ : Loc nD τ sig) → Buf (Elt Ideal) ℓ) (c : Dev nD) (dh w a b d : ℕ → ℕ → ℝ) (g : ℕ → ℝ)
  (h0 : ∀ (r : Fin 8192) (l : Fin 1024), m ((c : Thread nD τ).loc main_arg0) (ix2 r l) = ((dh r l : ℝ) : EReal))
  (h1 : ∀ (r : Fin 1024) (l : Fin 1024), m ((c : Thread nD τ).loc main_arg1) (ix2 r l) = ((w r l : ℝ) : EReal))
  (h2 : ∀ (r : Fin 8192) (l : Fin 512), m ((c : Thread nD τ).loc main_arg2) (ix2 r l) = ((a r l : ℝ) : EReal))
  (h3 : ∀ (r : Fin 8192) (l : Fin 256), m ((c : Thread nD τ).loc main_arg3) (ix2 r l) = ((b r l : ℝ) : EReal))
  (h4 : ∀ (r : Fin 8192) (l : Fin 256), m ((c : Thread nD τ).loc main_arg4) (ix2 r l) = ((d r l : ℝ) : EReal))
  (h5 : ∀ (l : Fin 1024), m ((c : Thread nD τ).loc main_arg5) (ix1 l) = ((g l : ℝ) : EReal))
  (t : Fin cfg0.N)

include h0 in
/-- The block of the cotangent's rows. -/
theorem blk0 (r : Fin 1024) (l : Fin 1024) :
    ((iblk m c 0 t : FVec Ideal S1024x1024 .f32) (ix2 r l) : EReal) = ((dh (t.val * 1024 + r) l : ℝ) : EReal) := by
  have hN : t.val < 8 := lt_of_lt_of_eq t.isLt N_0
  refine Eq.trans ?_ (h0 ⟨t.val * 1024 + r, by omega⟩ l)
  blk_ext [iblk, V, idx t]

include h1 in
/-- The block of the weights. -/
theorem blk1 (r : Fin 1024) (l : Fin 1024) :
    ((iblk m c 1 t : FVec Ideal S1024x1024 .bf16) (ix2 r l) : EReal) = ((w r l : ℝ) : EReal) := by
  have hN : t.val < 8 := lt_of_lt_of_eq t.isLt N_0
  refine Eq.trans ?_ (h1 r l)
  blk_ext [iblk, V, idx t]

include h2 in
/-- The block of the first branch's rows. -/
theorem blk2 (r : Fin 1024) (l : Fin 512) :
    ((iblk m c 2 t : FVec Ideal S1024x512 .f32) (ix2 r l) : EReal) = ((a (t.val * 1024 + r) l : ℝ) : EReal) := by
  have hN : t.val < 8 := lt_of_lt_of_eq t.isLt N_0
  refine Eq.trans ?_ (h2 ⟨t.val * 1024 + r, by omega⟩ l)
  blk_ext [iblk, V, idx t]

include h3 in
/-- The block of the second branch's rows. -/
theorem blk3 (r : Fin 1024) (l : Fin 256) :
    ((iblk m c 3 t : FVec Ideal S1024x256 .f32) (ix2 r l) : EReal) = ((b (t.val * 1024 + r) l : ℝ) : EReal) := by
  have hN : t.val < 8 := lt_of_lt_of_eq t.isLt N_0
  refine Eq.trans ?_ (h3 ⟨t.val * 1024 + r, by omega⟩ l)
  blk_ext [iblk, V, idx t]

include h4 in
/-- The block of the third branch's rows. -/
theorem blk4 (r : Fin 1024) (l : Fin 256) :
    ((iblk m c 4 t : FVec Ideal S1024x256 .f32) (ix2 r l) : EReal) = ((d (t.val * 1024 + r) l : ℝ) : EReal) := by
  have hN : t.val < 8 := lt_of_lt_of_eq t.isLt N_0
  refine Eq.trans ?_ (h4 ⟨t.val * 1024 + r, by omega⟩ l)
  blk_ext [iblk, V, idx t]

include h5 in
/-- The branches' gains. -/
theorem blk5 (l : Fin 1024) :
    ((iblk m c 5 t : FVec Ideal S1x1024 .f32) (ix2 0 l) : EReal) = ((g l : ℝ) : EReal) := by
  have hN : t.val < 8 := lt_of_lt_of_eq t.isLt N_0
  have e : (V m c main_v0 (ix2 0 l) : EReal) = ((g l : ℝ) : EReal) := by
    refine Eq.trans ?_ (h5 l)
    entry_read
    pointwise
  refine Eq.trans ?_ e
  blk_ext [iblk, idx t]

/-- An entry of the product of the cotangent and the transposed weights. -/
def prod (k l : ℕ) : ℝ := ∑ s ∈ Finset.range 1024, dh k s * w l s

include h0 h1 in
/-- The product of the two blocks. -/
theorem part (k : Fin 1024) (l : Fin 1024) :
    (k0_pay7 (F := Ideal) (iblk m c 0 t) (iblk m c 1 t) (ix2 k l) : EReal) = ((prod dh w (t.val * 1024 + k) l : ℝ) : EReal) := by
  pointwise [k0_pay7]
  unfold prod
  rw [Finset.sum_range]
  simp only [blk0 m c dh h0 t, blk1 m c w h1 t, ← EReal.coe_mul, coe_sum]

include h5 in
/-- The gains a strip takes. -/
theorem gain (k o : ℕ) (inb) (l : Fin k) (h : o + l.val < 1024) :
    (View.ld (iblk m c 5 t : FVec Ideal S1x1024 .f32) (Rect.unit (s := S1x1024) ![0, o] ![1, k] inb) (ix2 0 l) : EReal) = ((g (o + l.val) : ℝ) : EReal) :=
  (Cert.Cols.ld_cols (m := 1) (n := 1024) (k := k) o inb _ 0 l h).trans (blk5 m c g h5 t ⟨o + l.val, h⟩)

include h2 in
/-- The first branch's scaled rows. -/
theorem normed0 (k : Fin 1024) (l : Fin 512) :
    (k0_pay9 (F := Ideal) (iblk m c 2 t) (ix2 k l) : EReal)
      = ((a (t.val * 1024 + k) l * sc 512 (a (t.val * 1024 + k)) : ℝ) : EReal) := by
  pointwise [k0_pay9, k0_pay8]
  rw [ideal_sc 512 _ ofBits_512 (by norm_num) _ _ (fun s => blk2 m c a h2 t k s), blk2 m c a h2 t k l, EReal.coe_mul]

include h0 h1 h2 in
/-- The gradient with respect to the first branch's rows, for gains `G` of its columns. -/
theorem grad0 (G : FVec Ideal S1x512 .f32) (hG : ∀ l : Fin 512, (G (ix2 0 l) : EReal) = ((g l.val : ℝ) : EReal))
    (k : Fin 1024) (l : Fin 512) :
    (k0_pay14 (F := Ideal) (k0_pay8 (F := Ideal) (iblk m c 2 t)) (k0_pay9 (F := Ideal) (iblk m c 2 t)) (k0_pay12 (F := Ideal) (iblk m c 0 t) (iblk m c 1 t) G)
        (k0_pay13 (F := Ideal) (iblk m c 0 t) (iblk m c 1 t) (iblk m c 2 t) G) (ix2 k l) : EReal)
      = ((dx 512 (fun s => prod dh w (t.val * 1024 + k) s * g s) (a (t.val * 1024 + k)) l : ℝ) : EReal) := by
  pointwise [k0_pay14, k0_pay8, k0_pay12, k0_pay13, k0_pay10]
  simp only [part m c dh w h0 h1 t, hG, normed0 m c a h2 t, blk2 m c a h2 t]
  exact kernel_dx 512 _ ofBits_512 (by norm_num) (fun s => ((prod dh w (t.val * 1024 + k) s.val : ℝ) : EReal))
    (fun s => ((g s.val : ℝ) : EReal)) (fun s => ((a (t.val * 1024 + k) s : ℝ) : EReal))
    (fun s => ((a (t.val * 1024 + k) s * sc 512 (a (t.val * 1024 + k)) : ℝ) : EReal))
    (fun s => prod dh w (t.val * 1024 + k) s * g s) (a (t.val * 1024 + k))
    (fun _ => (EReal.coe_mul _ _).symm) (fun _ => rfl) (fun _ => rfl) l

include h0 h1 h2 h5 in
/-- What a point of the grid stores into the first result. -/
theorem out6 (k : Fin 1024) (l : Fin 512) :
    ((outsAt0 m c t.val t.isLt).1 (ix2 k l) : EReal)
      = ((dx 512 (fun s => prod dh w (t.val * 1024 + k) s * g s) (a (t.val * 1024 + k)) l : ℝ) : EReal) := by
  by_cases e : t.val % 8 = 0
  · rw [outsAt0_A m c t e]
    frame_out
    exact grad0 m c dh w a g h0 h1 h2 t _ (fun l => (gain m c g h5 t 512 0 _ l (by omega)).trans (by rw [Nat.zero_add])) k l
  · rw [outsAt0_B m c t e]
    frame_out
    exact grad0 m c dh w a g h0 h1 h2 t _ (fun l => (gain m c g h5 t 512 0 _ l (by omega)).trans (by rw [Nat.zero_add])) k l

include h3 in
/-- The second branch's scaled rows. -/
theorem normed1 (k : Fin 1024) (l : Fin 256) :
    (k0_pay16 (F := Ideal) (iblk m c 3 t) (ix2 k l) : EReal)
      = ((b (t.val * 1024 + k) l * sc 256 (b (t.val * 1024 + k)) : ℝ) : EReal) := by
  pointwise [k0_pay16, k0_pay15]
  rw [ideal_sc 256 _ ofBits_256 (by norm_num) _ _ (fun s => blk3 m c b h3 t k s), blk3 m c b h3 t k l, EReal.coe_mul]

include h0 h1 h3 in
/-- The gradient with respect to the second branch's rows, for gains `G` of its columns. -/
theorem grad1 (G : FVec Ideal S1x256 .f32) (hG : ∀ l : Fin 256, (G (ix2 0 l) : EReal) = ((g (512 + l.val) : ℝ) : EReal))
    (k : Fin 1024) (l : Fin 256) :
    (k0_pay19 (F := Ideal) (k0_pay7 (F := Ideal) (iblk m c 0 t) (iblk m c 1 t)) (iblk m c 3 t) G (ix2 k l) : EReal)
      = ((dx 256 (fun s => prod dh w (t.val * 1024 + k) (512 + s) * g (512 + s)) (b (t.val * 1024 + k)) l : ℝ) : EReal) := by
  pointwise [k0_pay19, k0_pay15, k0_pay17]
  simp only [part m c dh w h0 h1 t, hG, normed1 m c b h3 t, blk3 m c b h3 t]
  exact kernel_dx 256 _ ofBits_256 (by norm_num) (fun s => ((prod dh w (t.val * 1024 + k) (512 + s.val) : ℝ) : EReal))
    (fun s => ((g (512 + s.val) : ℝ) : EReal)) (fun s => ((b (t.val * 1024 + k) s : ℝ) : EReal))
    (fun s => ((b (t.val * 1024 + k) s * sc 256 (b (t.val * 1024 + k)) : ℝ) : EReal))
    (fun s => prod dh w (t.val * 1024 + k) (512 + s) * g (512 + s)) (b (t.val * 1024 + k))
    (fun _ => (EReal.coe_mul _ _).symm) (fun _ => rfl) (fun _ => rfl) l

include h0 h1 h3 h5 in
/-- What a point of the grid stores into the second result. -/
theorem out7 (k : Fin 1024) (l : Fin 256) :
    ((outsAt0 m c t.val t.isLt).2.1 (ix2 k l) : EReal)
      = ((dx 256 (fun s => prod dh w (t.val * 1024 + k) (512 + s) * g (512 + s)) (b (t.val * 1024 + k)) l : ℝ) : EReal) := by
  by_cases e : t.val % 8 = 0
  · rw [outsAt0_A m c t e]
    frame_out
    exact grad1 m c dh w b g h0 h1 h3 t _ (fun l => (gain m c g h5 t 256 512 _ l (by omega))) k l
  · rw [outsAt0_B m c t e]
    frame_out
    exact grad1 m c dh w b g h0 h1 h3 t _ (fun l => (gain m c g h5 t 256 512 _ l (by omega))) k l

include h4 in
/-- The third branch's scaled rows. -/
theorem normed2 (k : Fin 1024) (l : Fin 256) :
    (k0_pay2 (F := Ideal) (iblk m c 4 t) (ix2 k l) : EReal)
      = ((d (t.val * 1024 + k) l * sc 256 (d (t.val * 1024 + k)) : ℝ) : EReal) := by
  pointwise [k0_pay2, k0_pay1]
  rw [ideal_sc 256 _ ofBits_256 (by norm_num) _ _ (fun s => blk4 m c d h4 t k s), blk4 m c d h4 t k l, EReal.coe_mul]

include h0 h1 h4 in
/-- The gradient with respect to the third branch's rows, for gains `G` of its columns. -/
theorem grad2 (G : FVec Ideal S1x256 .f32) (hG : ∀ l : Fin 256, (G (ix2 0 l) : EReal) = ((g (768 + l.val) : ℝ) : EReal))
    (k : Fin 1024) (l : Fin 256) :
    (k0_pay5 (F := Ideal) (k0_pay7 (F := Ideal) (iblk m c 0 t) (iblk m c 1 t)) (iblk m c 4 t) G (ix2 k l) : EReal)
      = ((dx 256 (fun s => prod dh w (t.val * 1024 + k) (768 + s) * g (768 + s)) (d (t.val * 1024 + k)) l : ℝ) : EReal) := by
  pointwise [k0_pay5, k0_pay1, k0_pay3]
  simp only [part m c dh w h0 h1 t, hG, normed2 m c d h4 t, blk4 m c d h4 t]
  exact kernel_dx 256 _ ofBits_256 (by norm_num) (fun s => ((prod dh w (t.val * 1024 + k) (768 + s.val) : ℝ) : EReal))
    (fun s => ((g (768 + s.val) : ℝ) : EReal)) (fun s => ((d (t.val * 1024 + k) s : ℝ) : EReal))
    (fun s => ((d (t.val * 1024 + k) s * sc 256 (d (t.val * 1024 + k)) : ℝ) : EReal))
    (fun s => prod dh w (t.val * 1024 + k) (768 + s) * g (768 + s)) (d (t.val * 1024 + k))
    (fun _ => (EReal.coe_mul _ _).symm) (fun _ => rfl) (fun _ => rfl) l

include h0 h1 h4 h5 in
/-- What a point of the grid stores into the third result. -/
theorem out8 (k : Fin 1024) (l : Fin 256) :
    ((outsAt0 m c t.val t.isLt).2.2.1 (ix2 k l) : EReal)
      = ((dx 256 (fun s => prod dh w (t.val * 1024 + k) (768 + s) * g (768 + s)) (d (t.val * 1024 + k)) l : ℝ) : EReal) := by
  by_cases e : t.val % 8 = 0
  · rw [outsAt0_A m c t e]
    frame_out
    exact grad2 m c dh w d g h0 h1 h4 t _ (fun l => (gain m c g h5 t 256 768 _ l (by omega))) k l
  · rw [outsAt0_B m c t e]
    frame_out
    exact grad2 m c dh w d g h0 h1 h4 t _ (fun l => (gain m c g h5 t 256 768 _ l (by omega))) k l

/-- An entry of the branches' scaled rows, side by side. -/
def scaled (r l : ℕ) : ℝ :=
  if l < 512 then a r l * sc 512 (a r) else if l < 768 then b r (l - 512) * sc 256 (b r) else d r (l - 768) * sc 256 (d r)

/-- The summand of the gains' gradient. -/
def term (l s : ℕ) : ℝ := prod dh w s l * scaled a b d s l

include h0 h1 h2 in
/-- A row block's summands of the gains' gradient of the first branch's columns are added. -/
theorem add0 (A : FVec Ideal S1x512 .f32) (l : Fin 512) :
    (k0_pay11 (F := Ideal) (iblk m c 0 t) (iblk m c 1 t) (iblk m c 2 t) A (ix2 0 l) : EReal)
      = A (ix2 0 l) + ((∑ k : Fin 1024, term dh w a b d l.val (t.val * 1024 + k) : ℝ) : EReal) := by
  pointwise [k0_pay11, k0_pay10]
  simp only [part m c dh w h0 h1 t, normed0 m c a h2 t]
  rw [← coe_sum]
  refine congrArg (_ + ·) (Finset.sum_congr rfl fun k _ => ?_)
  unfold term scaled
  rw [if_pos l.isLt]
  exact (EReal.coe_mul _ _).symm

include h0 h1 h3 in
/-- A row block's summands of the gains' gradient of the second branch's columns are added. -/
theorem add1 (A : FVec Ideal S1x256 .f32) (l : Fin 256) :
    (k0_pay18 (F := Ideal) (k0_pay7 (F := Ideal) (iblk m c 0 t) (iblk m c 1 t)) (iblk m c 3 t) A (ix2 0 l) : EReal)
      = A (ix2 0 l) + ((∑ k : Fin 1024, term dh w a b d (512 + l.val) (t.val * 1024 + k) : ℝ) : EReal) := by
  pointwise [k0_pay18, k0_pay17]
  simp only [part m c dh w h0 h1 t, normed1 m c b h3 t]
  rw [← coe_sum]
  refine congrArg (_ + ·) (Finset.sum_congr rfl fun k _ => ?_)
  unfold term scaled
  rw [if_neg (by omega), if_pos (by omega), Nat.add_sub_cancel_left]
  exact (EReal.coe_mul _ _).symm

include h0 h1 h4 in
/-- A row block's summands of the gains' gradient of the third branch's columns are added. -/
theorem add2 (A : FVec Ideal S1x256 .f32) (l : Fin 256) :
    (k0_pay4 (F := Ideal) (k0_pay7 (F := Ideal) (iblk m c 0 t) (iblk m c 1 t)) (iblk m c 4 t) A (ix2 0 l) : EReal)
      = A (ix2 0 l) + ((∑ k : Fin 1024, term dh w a b d (768 + l.val) (t.val * 1024 + k) : ℝ) : EReal) := by
  pointwise [k0_pay4, k0_pay3]
  simp only [part m c dh w h0 h1 t, normed2 m c d h4 t]
  rw [← coe_sum]
  refine congrArg (_ + ·) (Finset.sum_congr rfl fun k _ => ?_)
  unfold term scaled
  rw [if_neg (by omega), if_neg (by omega), Nat.add_sub_cancel_left]
  exact (EReal.coe_mul _ _).symm

include h0 h1 h2 h3 h4 in
/-- The gains' gradient after a point that found `o` there. -/
theorem step (A0 : FVec Ideal S1x512 .f32) (A1 A2 : FVec Ideal S1x256 .f32) (L : List (View.Piece (Elt Ideal) S1x1024 .f32)) (o : ℕ → EReal)
    (hA0 : ∀ l : Fin 512, (A0 (ix2 0 l) : EReal) = o (0 + l)) (hA1 : ∀ l : Fin 256, (A1 (ix2 0 l) : EReal) = o (512 + l))
    (hA2 : ∀ l : Fin 256, (A2 (ix2 0 l) : EReal) = o (768 + l)) (l : Fin 1024) :
    (View.canon (⟨Rect.unit (s := S1x1024) ![0, 768] ![1, 256] inb_S1x1024_S1x256_0_768,
        k0_pay4 (F := Ideal) (k0_pay7 (F := Ideal) (iblk m c 0 t) (iblk m c 1 t)) (iblk m c 4 t) A2⟩
      :: ⟨Rect.unit (s := S1x1024) ![0, 512] ![1, 256] inb_S1x1024_S1x256_0_512,
        k0_pay18 (F := Ideal) (k0_pay7 (F := Ideal) (iblk m c 0 t) (iblk m c 1 t)) (iblk m c 3 t) A1⟩
      :: ⟨Rect.unit (s := S1x1024) ![0, 0] ![1, 512] inb_S1x1024_S1x512_0_0,
        k0_pay11 (F := Ideal) (iblk m c 0 t) (iblk m c 1 t) (iblk m c 2 t) A0⟩ :: L) (ix2 0 l) : EReal)
      = o l + ((∑ k : Fin 1024, term dh w a b d l (t.val * 1024 + k) : ℝ) : EReal) := by
  refine (Cert.Cols.canon_cols (Val := Elt Ideal) (e := .f32) (m := 1) (n := 1024) (k := 256) 768 _ _ _ 0 l).trans ?_
  split
  · refine (add2 m c dh w a b d h0 h1 h4 t A2 _).trans ?_
    simp only [hA2, show 768 + (l.val - 768) = l.val by omega]
  refine (Cert.Cols.canon_cols (Val := Elt Ideal) (e := .f32) (m := 1) (n := 1024) (k := 256) 512 _ _ _ 0 l).trans ?_
  split
  · refine (add1 m c dh w a b d h0 h1 h3 t A1 _).trans ?_
    simp only [hA1, show 512 + (l.val - 512) = l.val by omega]
  refine (Cert.Cols.canon_cols (Val := Elt Ideal) (e := .f32) (m := 1) (n := 1024) (k := 512) 0 _ _ _ 0 l).trans ?_
  rw [dif_pos ⟨by omega, by omega⟩]
  refine (add0 m c dh w a b d h0 h1 h2 t A0 _).trans ?_
  simp only [hA0, Nat.zero_add, Nat.sub_zero]

/-- The zeros the gains' gradient begins with. -/
theorem zeros (l : Fin 1024) (L : List (View.Piece (Elt Ideal) S1x1024 .f32)) :
    (View.canon ((⟨Rect.unit (s := S1x1024) ![0, 0] ![1, 1024] inb_S1x1024_S1x1024_0_0, k0_pay6 (F := Ideal)⟩ : View.Piece (Elt Ideal) S1x1024 .f32) :: L) (ix2 0 l) : EReal) = 0 := by
  refine (Cert.Cols.canon_cols (Val := Elt Ideal) (e := .f32) (m := 1) (n := 1024) (k := 1024) 0 _ _ _ 0 l).trans ?_
  rw [dif_pos ⟨by omega, by omega⟩]
  pointwise [k0_pay6]

include h0 h1 h2 h3 h4 in
/-- The first row block's summands. -/
theorem first9 (e : t.val % 8 = 0) (l : Fin 1024) :
    ((outsAt0 m c t.val t.isLt).2.2.2 (ix2 0 l) : EReal)
      = ((∑ k : Fin 1024, term dh w a b d l (t.val * 1024 + k) : ℝ) : EReal) := by
  rw [outsAt0_A m c t e]
  frame_out
  refine (step m c dh w a b d h0 h1 h2 h3 h4 t _ _ _ _ (fun _ => 0) (fun l => ?_) (fun l => ?_) (fun l => ?_) l).trans (zero_add _)
  · exact (Cert.Cols.readCov_cols (Val := Elt Ideal) (e := .f32) (m := 1) (n := 1024) (k := 512) _ 0 _ _ 0 l (by omega)).trans (zeros _ _)
  · refine (Cert.Cols.readCov_cols (Val := Elt Ideal) (e := .f32) (m := 1) (n := 1024) (k := 256) _ 512 _ _ 0 l (by omega)).trans ?_
    refine (Cert.Cols.canon_cols (Val := Elt Ideal) (e := .f32) (m := 1) (n := 1024) (k := 512) 0 _ _ _ 0 _).trans ?_
    rw [dif_neg (fun h => absurd h.2 (by simp))]
    exact zeros _ _
  · refine (Cert.Cols.readCov_cols (Val := Elt Ideal) (e := .f32) (m := 1) (n := 1024) (k := 256) _ 768 _ _ 0 l (by omega)).trans ?_
    refine (Cert.Cols.canon_cols (Val := Elt Ideal) (e := .f32) (m := 1) (n := 1024) (k := 256) 512 _ _ _ 0 _).trans ?_
    rw [dif_neg (fun h => absurd h.2 (by show ¬ 768 + l.val < 512 + 256; omega))]
    refine (Cert.Cols.canon_cols (Val := Elt Ideal) (e := .f32) (m := 1) (n := 1024) (k := 512) 0 _ _ _ 0 _).trans ?_
    rw [dif_neg (fun h => absurd h.2 (by show ¬ 768 + l.val < 0 + 512; omega))]
    exact zeros _ _

include h0 h1 h2 h3 h4 in
/-- A later row block's summands are added. -/
theorem add9 (e : ¬ t.val % 8 = 0) (o : ℕ → EReal)
    (ho : ∀ l : Fin 1024, ((outsAt0 m c (t.val - 1) (lt_of_le_of_lt (Nat.sub_le _ _) t.isLt)).2.2.2 (ix2 0 l) : EReal) = o l) (l : Fin 1024) :
    ((outsAt0 m c t.val t.isLt).2.2.2 (ix2 0 l) : EReal)
      = o l + ((∑ k : Fin 1024, term dh w a b d l (t.val * 1024 + k) : ℝ) : EReal) := by
  rw [outsAt0_B m c t e]
  frame_out
  refine step m c dh w a b d h0 h1 h2 h3 h4 t _ _ _ _ o (fun l => ?_) (fun l => ?_) (fun l => ?_) l
  · exact (Cert.Cols.ld_cols (Val := Elt Ideal) (e := .f32) (m := 1) (n := 1024) (k := 512) 0 _ _ 0 l (by omega)).trans (ho ⟨0 + l.val, by omega⟩)
  · exact (Cert.Cols.ld_cols (Val := Elt Ideal) (e := .f32) (m := 1) (n := 1024) (k := 256) 512 _ _ 0 l (by omega)).trans (ho ⟨512 + l.val, by omega⟩)
  · exact (Cert.Cols.ld_cols (Val := Elt Ideal) (e := .f32) (m := 1) (n := 1024) (k := 256) 768 _ _ 0 l (by omega)).trans (ho ⟨768 + l.val, by omega⟩)

include h0 h1 h2 h3 h4 in
/-- The gains' gradient so far: the rows of the row blocks that are done. -/
theorem so_far : ∀ (n : ℕ) (hn : n < cfg0.N) (l : Fin 1024),
    ((outsAt0 m c n hn).2.2.2 (ix2 0 l) : EReal) = ((∑ s ∈ Finset.range ((n + 1) * 1024), term dh w a b d l s : ℝ) : EReal) := by
  intro n
  induction n with
  | zero =>
    intro hn l
    refine (first9 m c dh w a b d h0 h1 h2 h3 h4 ⟨0, hn⟩ rfl l).trans ?_
    exact congrArg _ (first 1024 (term dh w a b d l)).symm
  | succ n ih =>
    intro hn l
    have hN : n + 1 < 8 := lt_of_lt_of_eq hn N_0
    refine (add9 m c dh w a b d h0 h1 h2 h3 h4 ⟨n + 1, hn⟩ (show ¬ (n + 1) % 8 = 0 by omega)
      (fun l => ((∑ s ∈ Finset.range ((n + 1) * 1024), term dh w a b d l s : ℝ) : EReal)) (fun l => ih (by omega) l) l).trans ?_
    rw [← EReal.coe_add, chunk 1024 _ (n + 1)]

include h0 h1 h2 h5 in
/-- The first result is the gradient with respect to the first branch's rows. -/
theorem final6 : ((dats m 0 c).arrAt 6 cfg0.N : FVec Ideal S8192x512 .f32)
    = fun i => ((dx 512 (fun s => prod dh w (i 0).val s * g s) (a (i 0).val) (i 1).val : ℝ) : EReal) := by
  refine (dats m 0 c).arrAt_eq_of_covers 6 _ (by decide +kernel) fun t hf z => ?_
  blk_simp
  rw [after0_6]
  idx_vars z
  refine (out6 m c dh w a g h0 h1 h2 h5 t z0 z1).trans ?_
  rw [(idx t).2.2.2.2.2.2.1]
  simp

include h0 h1 h3 h5 in
/-- The second result is the gradient with respect to the second branch's rows. -/
theorem final7 : ((dats m 0 c).arrAt 7 cfg0.N : FVec Ideal S8192x256 .f32)
    = fun i => ((dx 256 (fun s => prod dh w (i 0).val (512 + s) * g (512 + s)) (b (i 0).val) (i 1).val : ℝ) : EReal) := by
  refine (dats m 0 c).arrAt_eq_of_covers 7 _ (by decide +kernel) fun t hf z => ?_
  blk_simp
  rw [after0_7]
  idx_vars z
  refine (out7 m c dh w b g h0 h1 h3 h5 t z0 z1).trans ?_
  rw [(idx t).2.2.2.2.2.2.2.1]
  simp

include h0 h1 h4 h5 in
/-- The third result is the gradient with respect to the third branch's rows. -/
theorem final8 : ((dats m 0 c).arrAt 8 cfg0.N : FVec Ideal S8192x256 .f32)
    = fun i => ((dx 256 (fun s => prod dh w (i 0).val (768 + s) * g (768 + s)) (d (i 0).val) (i 1).val : ℝ) : EReal) := by
  refine (dats m 0 c).arrAt_eq_of_covers 8 _ (by decide +kernel) fun t hf z => ?_
  blk_simp
  rw [after0_8]
  idx_vars z
  refine (out8 m c dh w d g h0 h1 h4 h5 t z0 z1).trans ?_
  rw [(idx t).2.2.2.2.2.2.2.2.1]
  simp

include h0 h1 h2 h3 h4 in
/-- The fourth result is the gradient with respect to the gains. -/
theorem final9 : ((dats m 0 c).arrAt 9 cfg0.N : FVec Ideal S1x1024 .f32)
    = fun i => ((∑ s ∈ Finset.range 8192, term dh w a b d (i 1).val s : ℝ) : EReal) := by
  refine (dats m 0 c).arrAt_eq_of_covers 9 _ (by decide +kernel) fun t hf z => ?_
  blk_simp
  rw [after0_9]
  idx_vars z
  have hN : t.val < 8 := lt_of_lt_of_eq t.isLt N_0
  have e : t.val % 8 = 7 := (flush0_9 t).mp hf
  obtain rfl : z0 = 0 := Subsingleton.elim _ _
  refine (so_far m c dh w a b d h0 h1 h2 h3 h4 t.val t.isLt z1).trans ?_
  rw [(idx t).2.2.2.2.2.2.2.2.2, show t.val = 7 by omega]
  simp

end

end Cert.MixTIdeal.Prod

end
-- ==== Proof.MixTClaim.lean ====
module

public import proofs.«01_k».proof.Defs
public import proofs.«01_k».proof.Proof.ConvClaim
public import proofs.«01_k».proof.Proof.FiniteMix
public import proofs.«01_k».proof.Proof.MixTValue
public import proofs.«01_k».proof.Proof.Gen.MixTRefIdeal
public import proofs.«01_k».proof.Proof.Gen.MixTRefIdeal.Run

/-!
The backward pass of the branches' norms and of the output projection's product: the kernel returns what the reference
returns.
-/

@[expose] public section

set_option maxRecDepth 16384

noncomputable section

namespace Cert.MixT

open Idealize.ShloMosaic Idealize.ShloMosaic.TcCoe Idealize.SL.Sem
open Cert.Width
open Cert.Conv (coe_sum real2 real1 real2_eq real1_eq)

/-- The reference's product is the product of real numbers. -/
theorem coe_prod (a w : ℕ → ℕ → ℝ) (k l : ℕ) :
    ∑ s : Fin 1024, ((a k s : ℝ) : EReal) * ((w l s : ℝ) : EReal) = ((Cert.MixTIdeal.Prod.prod a w k l : ℝ) : EReal) := by
  unfold Cert.MixTIdeal.Prod.prod
  rw [Finset.sum_range]
  simp only [← EReal.coe_mul, coe_sum]

/-- The cotangent at the scaled rows. -/
theorem coe_u (a w : ℕ → ℕ → ℝ) (X : (⟨1, ![1024]⟩ : Shape).Idx → EReal) (k l : ℕ) :
    ((Cert.MixTIdeal.Prod.prod a w k l : ℝ) : EReal) * ((real1 X l : ℝ) : EReal) = ((Cert.MixTIdeal.Prod.prod a w k l * real1 X l : ℝ) : EReal) :=
  (EReal.coe_mul _ _).symm

/-- The reference's summand of the gains' gradient. -/
theorem ref_term (dh w a b d : ℕ → ℕ → ℝ) (l r : ℕ) :
    (if _h : l < 512 then ((a r l : ℝ) : EReal) * Ideal.rsqrt (Ideal.div (∑ s : Fin 512, ((a r s : ℝ) : EReal) * ((a r s : ℝ) : EReal)) (Ideal.ofBits .f32 1140850688#32) + Ideal.ofBits .f32 897988541#32)
      else if _h : l - 512 < 256 then ((b r (l - 512) : ℝ) : EReal) * Ideal.rsqrt (Ideal.div (∑ s : Fin 256, ((b r s : ℝ) : EReal) * ((b r s : ℝ) : EReal)) (Ideal.ofBits .f32 1132462080#32) + Ideal.ofBits .f32 897988541#32)
      else ((d r (l - 512 - 256) : ℝ) : EReal) * Ideal.rsqrt (Ideal.div (∑ s : Fin 256, ((d r s : ℝ) : EReal) * ((d r s : ℝ) : EReal)) (Ideal.ofBits .f32 1132462080#32) + Ideal.ofBits .f32 897988541#32))
        * ((Cert.MixTIdeal.Prod.prod dh w r l : ℝ) : EReal)
      = ((Cert.MixTIdeal.Prod.term dh w a b d l r : ℝ) : EReal) := by
  rw [ideal_sc 512 _ ofBits_512 (by norm_num) _ (a r) (fun _ => rfl), ideal_sc 256 _ ofBits_256 (by norm_num) _ (b r) (fun _ => rfl),
    ideal_sc 256 _ ofBits_256 (by norm_num) _ (d r) (fun _ => rfl)]
  unfold Cert.MixTIdeal.Prod.term Cert.MixTIdeal.Prod.scaled
  by_cases h : l < 512
  · rw [dif_pos h, if_pos h, ← EReal.coe_mul, ← EReal.coe_mul, mul_comm]
  rw [dif_neg h, if_neg h]
  by_cases h' : l < 768
  · rw [dif_pos (by omega), if_pos h', ← EReal.coe_mul, ← EReal.coe_mul, mul_comm]
  rw [dif_neg (by omega), if_neg h', show l - 512 - 256 = l - 768 by omega, ← EReal.coe_mul, ← EReal.coe_mul, mul_comm]

/-- The kernel and the reference return the same four arrays. -/
theorem claim : Cert.algebraic_MixTIdeal_MixTRefIdeal_pre_finite_mix (hMixTIdeal := Cert.MixTIdeal.Gen.facts)
    (hMixTRefIdeal := Cert.MixTRefIdeal.Gen.facts) (hPre_finite_mix := Cert.Pre_finite_mix.Gen.facts) := by
  intro m ρ m' ρ' hpre hag
  have hr := fun c => Cert.Pre_finite_mix.Prod.real _ _ _ _ _ _ (hpre c)
  refine ⟨fun c => (Cert.MixTIdeal.Gen.dats m 0 c).arrAt 6 Cert.MixTIdeal.cfg0.N,
    fun c => (Cert.MixTIdeal.Gen.dats m 0 c).arrAt 7 Cert.MixTIdeal.cfg0.N,
    fun c => (Cert.MixTIdeal.Gen.dats m 0 c).arrAt 8 Cert.MixTIdeal.cfg0.N,
    fun c => (Cert.MixTIdeal.Gen.dats m 0 c).arrAt 9 Cert.MixTIdeal.cfg0.N,
    (θ_run Cert.MixTIdeal.defs _ _).mono (fun r h c => ?_) (Cert.MixTIdeal.Value.run_blocks m ρ),
    (θ_run Cert.MixTRefIdeal.defs _ _).mono (fun r h c => ?_) (Cert.MixTRefIdeal.Value.run m' ρ')⟩
  · exact h c
  · obtain ⟨hD, hW, hA, hB, hC, hG⟩ := hr c
    obtain ⟨g0, g1, g2, g3, g4, g5⟩ := hag c
    obtain ⟨k1, k2, k3, k4, k5⟩ := h c
    have e0 := real2_eq (m := 8192) (n := 1024) _ hD
    have e1 := real2_eq (m := 1024) (n := 1024) _ hW
    have e2 := real2_eq (m := 8192) (n := 512) _ hA
    have e3 := real2_eq (m := 8192) (n := 256) _ hB
    have e4 := real2_eq (m := 8192) (n := 256) _ hC
    have e5 := real1_eq (n := 1024) _ hG
    have f0 : ∀ r l, _ = _ := fun r l => (congrFun g0 (ix2 r l)).trans (e0 r l)
    have f1 : ∀ r l, _ = _ := fun r l => (congrFun g1 (ix2 r l)).trans (e1 r l)
    have f2 : ∀ r l, _ = _ := fun r l => (congrFun g2 (ix2 r l)).trans (e2 r l)
    have f3 : ∀ r l, _ = _ := fun r l => (congrFun g3 (ix2 r l)).trans (e3 r l)
    have f4 : ∀ r l, _ = _ := fun r l => (congrFun g4 (ix2 r l)).trans (e4 r l)
    have f5 : ∀ l, _ = _ := fun l => (congrFun g5 (ix1 l)).trans (e5 l)
    refine ⟨k1.trans ?_, k2.trans ?_, k3.trans ?_, k4.trans ?_, k5⟩
    · refine Eq.trans ?_ (Cert.MixTIdeal.Prod.final6 m c _ _ _ _ e0 e1 e2 e5).symm
      funext i
      idx_vars i
      pointwise [Cert.MixTRefIdeal.Value.res_main_v96]
      simp only [f0, f1, f2, f3, f4, f5, coe_prod, coe_u]
      exact ref_dx 512 _ ofBits_512 (by norm_num) (fun s => Cert.MixTIdeal.Prod.prod _ _ i0 s * real1 _ s) _ i1
    · refine Eq.trans ?_ (Cert.MixTIdeal.Prod.final7 m c _ _ _ _ e0 e1 e3 e5).symm
      funext i
      idx_vars i
      pointwise [Cert.MixTRefIdeal.Value.res_main_v82]
      simp only [f0, f1, f2, f3, f4, f5, coe_prod, coe_u]
      exact ref_dx 256 _ ofBits_256 (by norm_num) (fun s => Cert.MixTIdeal.Prod.prod _ _ i0 (512 + s) * real1 _ (512 + s)) _ i1
    · refine Eq.trans ?_ (Cert.MixTIdeal.Prod.final8 m c _ _ _ _ e0 e1 e4 e5).symm
      funext i
      idx_vars i
      pointwise [Cert.MixTRefIdeal.Value.res_main_v68]
      simp only [f0, f1, f2, f3, f4, f5, coe_prod, coe_u]
      exact ref_dx 256 _ ofBits_256 (by norm_num) (fun s => Cert.MixTIdeal.Prod.prod _ _ i0 (768 + s) * real1 _ (768 + s)) _ i1
    · refine Eq.trans ?_ (Cert.MixTIdeal.Prod.final9 m c _ _ _ _ _ e0 e1 e2 e3 e4).symm
      funext i
      idx_vars i
      pointwise
      simp only [f0, f1, f2, f3, f4, f5, coe_prod, ref_term, coe_sum, Fin.sum_univ_one, Finset.sum_range]

end Cert.MixT

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.DUp
public import proofs.«01_k».proof.Proof.Gen.DUp.Frame
public import proofs.«01_k».proof.Proof.Gen.DUpIdeal
public import proofs.«01_k».proof.Proof.Gen.DUpIdeal.Frame
public import proofs.«01_k».proof.Proof.Gen.DUpIdeal.Value
public import proofs.«01_k».proof.Proof.Gen.DUpRefIdeal
public import proofs.«01_k».proof.Proof.Gen.DUpRefIdeal.Run
public import proofs.«01_k».proof.Proof.Gen.DDown
public import proofs.«01_k».proof.Proof.Gen.DDown.Frame
public import proofs.«01_k».proof.Proof.Gen.DDownIdeal
public import proofs.«01_k».proof.Proof.Gen.DDownIdeal.Frame
public import proofs.«01_k».proof.Proof.Gen.DDownIdeal.Value
public import proofs.«01_k».proof.Proof.Gen.DDownRefIdeal
public import proofs.«01_k».proof.Proof.Gen.DDownRefIdeal.Run
public import proofs.«01_k».proof.Proof.Gen.DIn
public import proofs.«01_k».proof.Proof.Gen.DIn.Frame
public import proofs.«01_k».proof.Proof.Gen.DInIdeal
public import proofs.«01_k».proof.Proof.Gen.DInIdeal.Frame
public import proofs.«01_k».proof.Proof.Gen.DInIdeal.Value
public import proofs.«01_k».proof.Proof.Gen.DInRefIdeal
public import proofs.«01_k».proof.Proof.Gen.DInRefIdeal.Run
public import proofs.«01_k».proof.Proof.Gen.DGate
public import proofs.«01_k».proof.Proof.Gen.DGate.Frame
public import proofs.«01_k».proof.Proof.Gen.DGateIdeal
public import proofs.«01_k».proof.Proof.Gen.DGateIdeal.Frame
public import proofs.«01_k».proof.Proof.Gen.DGateIdeal.Value
public import proofs.«01_k».proof.Proof.Gen.DGateRefIdeal
public import proofs.«01_k».proof.Proof.Gen.DGateRefIdeal.Run
public import proofs.«01_k».proof.Proof.Gen.DOut
public import proofs.«01_k».proof.Proof.Gen.DOut.Frame
public import proofs.«01_k».proof.Proof.Gen.DOutIdeal
public import proofs.«01_k».proof.Proof.Gen.DOutIdeal.Frame
public import proofs.«01_k».proof.Proof.Gen.DOutIdeal.Value
public import proofs.«01_k».proof.Proof.Gen.DOutRefIdeal
public import proofs.«01_k».proof.Proof.Gen.DOutRefIdeal.Run
public import proofs.«01_k».proof.Proof.Gen.DProj
public import proofs.«01_k».proof.Proof.Gen.DProj.Frame
public import proofs.«01_k».proof.Proof.Gen.DProjIdeal
public import proofs.«01_k».proof.Proof.Gen.DProjIdeal.Frame
public import proofs.«01_k».proof.Proof.Gen.DProjIdeal.Value
public import proofs.«01_k».proof.Proof.Gen.DProjRefIdeal
public import proofs.«01_k».proof.Proof.Gen.DProjRefIdeal.Run
public import proofs.«01_k».proof.Proof.Gen.DGlu
public import proofs.«01_k».proof.Proof.Gen.DGlu.Frame
public import proofs.«01_k».proof.Proof.Gen.DGluIdeal
public import proofs.«01_k».proof.Proof.Gen.DGluIdeal.Frame
public import proofs.«01_k».proof.Proof.Gen.DGluIdeal.Value
public import proofs.«01_k».proof.Proof.Gen.DGluRefIdeal
public import proofs.«01_k».proof.Proof.Gen.DGluRefIdeal.Run
public import proofs.«01_k».proof.Proof.Gen.UpT
public import proofs.«01_k».proof.Proof.Gen.UpT.Frame
public import proofs.«01_k».proof.Proof.Gen.UpTIdeal
public import proofs.«01_k».proof.Proof.Gen.UpTIdeal.Frame
public import proofs.«01_k».proof.Proof.Gen.UpTIdeal.Value
public import proofs.«01_k».proof.Proof.Gen.UpTRefIdeal
public import proofs.«01_k».proof.Proof.Gen.UpTRefIdeal.Run
public import proofs.«01_k».proof.Proof.Gen.InT
public import proofs.«01_k».proof.Proof.Gen.InT.Frame
public import proofs.«01_k».proof.Proof.Gen.InTIdeal
public import proofs.«01_k».proof.Proof.Gen.InTIdeal.Frame
public import proofs.«01_k».proof.Proof.Gen.InTIdeal.Value
public import proofs.«01_k».proof.Proof.Gen.InTRefIdeal
public import proofs.«01_k».proof.Proof.Gen.InTRefIdeal.Run
public import proofs.«01_k».proof.Proof.Gen.GateT
public import proofs.«01_k».proof.Proof.Gen.GateT.Frame
public import proofs.«01_k».proof.Proof.Gen.GateTIdeal
public import proofs.«01_k».proof.Proof.Gen.GateTIdeal.Frame
public import proofs.«01_k».proof.Proof.Gen.GateTIdeal.Value
public import proofs.«01_k».proof.Proof.Gen.GateTRefIdeal
public import proofs.«01_k».proof.Proof.Gen.GateTRefIdeal.Run
public import proofs.«01_k».proof.Proof.Gen.DownT
public import proofs.«01_k».proof.Proof.Gen.DownT.Frame
public import proofs.«01_k».proof.Proof.Gen.DownTIdeal
public import proofs.«01_k».proof.Proof.Gen.DownTIdeal.Frame
public import proofs.«01_k».proof.Proof.Gen.DownTIdeal.Value
public import proofs.«01_k».proof.Proof.Gen.DownTRefIdeal
public import proofs.«01_k».proof.Proof.Gen.DownTRefIdeal.Run
public import proofs.«01_k».proof.Proof.Gen.Up
public import proofs.«01_k».proof.Proof.Gen.Up.Frame
public import proofs.«01_k».proof.Proof.Gen.UpIdeal
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.Gate
public import proofs.«01_k».proof.Proof.Gen.Gate.Frame
public import proofs.«01_k».proof.Proof.Gen.GateIdeal
public import proofs.«01_k».proof.Proof.Gen.GateIdeal.Frame
public import proofs.«01_k».proof.Proof.Gen.GateIdeal.Value
public import proofs.«01_k».proof.Proof.Gen.GateRefIdeal
public import proofs.«01_k».proof.Proof.Gen.GateRefIdeal.Run
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.Pre_finite_up
public import proofs.«01_k».proof.Proof.Gen.Pre_finite_in
public import proofs.«01_k».proof.Proof.Gen.Pre_finite_gate
public import proofs.«01_k».proof.Proof.Gen.AIn
public import proofs.«01_k».proof.Proof.Gen.AIn.Frame
public import proofs.«01_k».proof.Proof.Gen.AInIdeal
public import proofs.«01_k».proof.Proof.Gen.AInIdeal.Frame
public import proofs.«01_k».proof.Proof.Gen.AInIdeal.Value
public import proofs.«01_k».proof.Proof.Gen.AInRefIdeal
public import proofs.«01_k».proof.Proof.Gen.AInRefIdeal.Run
public import proofs.«01_k».proof.Proof.Gen.AUp
public import proofs.«01_k».proof.Proof.Gen.AUp.Frame
public import proofs.«01_k».proof.Proof.Gen.AUpIdeal
public import proofs.«01_k».proof.Proof.Gen.AUpIdeal.Frame
public import proofs.«01_k».proof.Proof.Gen.AUpIdeal.Value
public import proofs.«01_k».proof.Proof.Gen.AUpRefIdeal
public import proofs.«01_k».proof.Proof.Gen.AUpRefIdeal.Run
public import proofs.«01_k».proof.Proof.Gen.ADown
public import proofs.«01_k».proof.Proof.Gen.ADown.Frame
public import proofs.«01_k».proof.Proof.Gen.ADownIdeal
public import proofs.«01_k».proof.Proof.Gen.ADownIdeal.Frame
public import proofs.«01_k».proof.Proof.Gen.ADownIdeal.Value
public import proofs.«01_k».proof.Proof.Gen.ADownRefIdeal
public import proofs.«01_k».proof.Proof.Gen.ADownRefIdeal.Run
public import proofs.«01_k».proof.Proof.Gen.AOut
public import proofs.«01_k».proof.Proof.Gen.AOut.Frame
public import proofs.«01_k».proof.Proof.Gen.AOutIdeal
public import proofs.«01_k».proof.Proof.Gen.AOutIdeal.Frame
public import proofs.«01_k».proof.Proof.Gen.AOutIdeal.Value
public import proofs.«01_k».proof.Proof.Gen.AOutRefIdeal
public import proofs.«01_k».proof.Proof.Gen.AOutRefIdeal.Run
public import proofs.«01_k».proof.Proof.Gen.AGate
public import proofs.«01_k».proof.Proof.Gen.AGate.Frame
public import proofs.«01_k».proof.Proof.Gen.AGateIdeal
public import proofs.«01_k».proof.Proof.Gen.AGateIdeal.Frame
public import proofs.«01_k».proof.Proof.Gen.AGateIdeal.Value
public import proofs.«01_k».proof.Proof.Gen.AGateRefIdeal
public import proofs.«01_k».proof.Proof.Gen.AGateRefIdeal.Run
public import proofs.«01_k».proof.Proof.Gen.AProj
public import proofs.«01_k».proof.Proof.Gen.AProj.Frame
public import proofs.«01_k».proof.Proof.Gen.AProjIdeal
public import proofs.«01_k».proof.Proof.Gen.AProjIdeal.Frame
public import proofs.«01_k».proof.Proof.Gen.AProjIdeal.Value
public import proofs.«01_k».proof.Proof.Gen.AProjRefIdeal
public import proofs.«01_k».proof.Proof.Gen.AProjRefIdeal.Run
public import proofs.«01_k».proof.Proof.Gen.AGlu
public import proofs.«01_k».proof.Proof.Gen.AGlu.Frame
public import proofs.«01_k».proof.Proof.Gen.AGluIdeal
public import proofs.«01_k».proof.Proof.Gen.AGluIdeal.Frame
public import proofs.«01_k».proof.Proof.Gen.AGluIdeal.Value
public import proofs.«01_k».proof.Proof.Gen.AGluRefIdeal
public import proofs.«01_k».proof.Proof.Gen.AGluRefIdeal.Run
public import proofs.«01_k».proof.Proof.Gen.ASmall
public import proofs.«01_k».proof.Proof.Gen.ASmall.Frame
public import proofs.«01_k».proof.Proof.Gen.ASmallIdeal
public import proofs.«01_k».proof.Proof.Gen.ASmallIdeal.Frame
public import proofs.«01_k».proof.Proof.Gen.ASmallIdeal.Value
public import proofs.«01_k».proof.Proof.Gen.ASmallRefIdeal
public import proofs.«01_k».proof.Proof.Gen.ASmallRefIdeal.Run
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixIdeal.Value
public import proofs.«01_k».proof.Proof.Gen.MixRefIdeal
public import proofs.«01_k».proof.Proof.Gen.MixRefIdeal.Run
public import proofs.«01_k».proof.Proof.Gen.MixT
public import proofs.«01_k».proof.Proof.Gen.MixT.Frame
public import proofs.«01_k».proof.Proof.Gen.MixTIdeal
public import proofs.«01_k».proof.Proof.Gen.MixTIdeal.Frame
public import proofs.«01_k».proof.Proof.Gen.MixTIdeal.Value
public import proofs.«01_k».proof.Proof.Gen.MixTRefIdeal
public import proofs.«01_k».proof.Proof.Gen.MixTRefIdeal.Run
public import proofs.«01_k».proof.Proof.Gen.Pre_finite_mix
public import proofs.«01_k».proof.Proof.ConvClaim
public import Idealize.ShloMosaic.Adequacy
public import Idealize.ShloMosaic.Init
public import proofs.«01_k».proof.Proof.DDownClaim
public import proofs.«01_k».proof.Proof.DGateClaim
public import proofs.«01_k».proof.Proof.DGluClaim
public import proofs.«01_k».proof.Proof.DInClaim
public import proofs.«01_k».proof.Proof.DOutClaim
public import proofs.«01_k».proof.Proof.DProjClaim
public import proofs.«01_k».proof.Proof.DUpClaim
public import proofs.«01_k».proof.Proof.DownClaim
public import proofs.«01_k».proof.Proof.DownTClaim
public import proofs.«01_k».proof.Proof.GateClaim
public import proofs.«01_k».proof.Proof.GateTClaim
public import proofs.«01_k».proof.Proof.InProjClaim
public import proofs.«01_k».proof.Proof.InTClaim
public import proofs.«01_k».proof.Proof.ProjClaim
public import proofs.«01_k».proof.Proof.UpClaim
public import proofs.«01_k».proof.Proof.UpTClaim
public import proofs.«01_k».proof.Proof.ADownClaim
public import proofs.«01_k».proof.Proof.AGateClaim
public import proofs.«01_k».proof.Proof.AGluClaim
public import proofs.«01_k».proof.Proof.AInClaim
public import proofs.«01_k».proof.Proof.AOutClaim
public import proofs.«01_k».proof.Proof.AProjClaim
public import proofs.«01_k».proof.Proof.ASmallClaim
public import proofs.«01_k».proof.Proof.AUpClaim
public import proofs.«01_k».proof.Proof.MixClaim
public import proofs.«01_k».proof.Proof.MixTClaim

@[expose] public section

noncomputable section

namespace Cert.Proof

open Idealize.ShloMosaic Idealize.SL.Sem Cert.Kernel

/-- The reference is quiescent: it has no kernel, so no semaphore is ever touched. -/
theorem frame_ReferenceIdeal : Cert.quiescent_ReferenceIdeal (hReferenceIdeal := Cert.ReferenceIdeal.Gen.facts) := fun m ρ _ =>
  (θ_run Cert.ReferenceIdeal.defs _ _).mono (fun r h => ⟨fun c => (h c).2.2.2,
    sem_eq_zero_of_no_sems (by decide) r.2⟩) (Cert.ReferenceIdeal.Value.run m ρ)

/-- The reference is quiescent: it has no kernel, so no semaphore is ever touched. -/
theorem frame_DUpRefIdeal : Cert.quiescent_DUpRefIdeal (hDUpRefIdeal := Cert.DUpRefIdeal.Gen.facts) := fun m ρ _ =>
  (θ_run Cert.DUpRefIdeal.defs _ _).mono (fun r h => ⟨fun c => (h c).2,
    sem_eq_zero_of_no_sems (by decide) r.2⟩) (Cert.DUpRefIdeal.Value.run m ρ)

/-- The reference is quiescent: it has no kernel, so no semaphore is ever touched. -/
theorem frame_DDownRefIdeal : Cert.quiescent_DDownRefIdeal (hDDownRefIdeal := Cert.DDownRefIdeal.Gen.facts) := fun m ρ _ =>
  (θ_run Cert.DDownRefIdeal.defs _ _).mono (fun r h => ⟨fun c => (h c).2,
    sem_eq_zero_of_no_sems (by decide) r.2⟩) (Cert.DDownRefIdeal.Value.run m ρ)

/-- The reference is quiescent: it has no kernel, so no semaphore is ever touched. -/
theorem frame_DInRefIdeal : Cert.quiescent_DInRefIdeal (hDInRefIdeal := Cert.DInRefIdeal.Gen.facts) := fun m ρ _ =>
  (θ_run Cert.DInRefIdeal.defs _ _).mono (fun r h => ⟨fun c => (h c).2,
    sem_eq_zero_of_no_sems (by decide) r.2⟩) (Cert.DInRefIdeal.Value.run m ρ)

/-- The reference is quiescent: it has no kernel, so no semaphore is ever touched. -/
theorem frame_DGateRefIdeal : Cert.quiescent_DGateRefIdeal (hDGateRefIdeal := Cert.DGateRefIdeal.Gen.facts) := fun m ρ _ =>
  (θ_run Cert.DGateRefIdeal.defs _ _).mono (fun r h => ⟨fun c => (h c).2,
    sem_eq_zero_of_no_sems (by decide) r.2⟩) (Cert.DGateRefIdeal.Value.run m ρ)

/-- The reference is quiescent: it has no kernel, so no semaphore is ever touched. -/
theorem frame_DOutRefIdeal : Cert.quiescent_DOutRefIdeal (hDOutRefIdeal := Cert.DOutRefIdeal.Gen.facts) := fun m ρ _ =>
  (θ_run Cert.DOutRefIdeal.defs _ _).mono (fun r h => ⟨fun c => (h c).2,
    sem_eq_zero_of_no_sems (by decide) r.2⟩) (Cert.DOutRefIdeal.Value.run m ρ)

/-- The reference is quiescent: it has no kernel, so no semaphore is ever touched. -/
theorem frame_DProjRefIdeal : Cert.quiescent_DProjRefIdeal (hDProjRefIdeal := Cert.DProjRefIdeal.Gen.facts) := fun m ρ _ =>
  (θ_run Cert.DProjRefIdeal.defs _ _).mono (fun r h => ⟨fun c => (h c).2,
    sem_eq_zero_of_no_sems (by decide) r.2⟩) (Cert.DProjRefIdeal.Value.run m ρ)

/-- The reference is quiescent: it has no kernel, so no semaphore is ever touched. -/
theorem frame_DGluRefIdeal : Cert.quiescent_DGluRefIdeal (hDGluRefIdeal := Cert.DGluRefIdeal.Gen.facts) := fun m ρ _ =>
  (θ_run Cert.DGluRefIdeal.defs _ _).mono (fun r h => ⟨fun c => (h c).2,
    sem_eq_zero_of_no_sems (by decide) r.2⟩) (Cert.DGluRefIdeal.Value.run m ρ)

/-- The reference is quiescent: it has no kernel, so no semaphore is ever touched. -/
theorem frame_UpTRefIdeal : Cert.quiescent_UpTRefIdeal (hUpTRefIdeal := Cert.UpTRefIdeal.Gen.facts) := fun m ρ _ =>
  (θ_run Cert.UpTRefIdeal.defs _ _).mono (fun r h => ⟨fun c => (h c).2.2,
    sem_eq_zero_of_no_sems (by decide) r.2⟩) (Cert.UpTRefIdeal.Value.run m ρ)

/-- The reference is quiescent: it has no kernel, so no semaphore is ever touched. -/
theorem frame_InTRefIdeal : Cert.quiescent_InTRefIdeal (hInTRefIdeal := Cert.InTRefIdeal.Gen.facts) := fun m ρ _ =>
  (θ_run Cert.InTRefIdeal.defs _ _).mono (fun r h => ⟨fun c => (h c).2.2,
    sem_eq_zero_of_no_sems (by decide) r.2⟩) (Cert.InTRefIdeal.Value.run m ρ)

/-- The reference is quiescent: it has no kernel, so no semaphore is ever touched. -/
theorem frame_GateTRefIdeal : Cert.quiescent_GateTRefIdeal (hGateTRefIdeal := Cert.GateTRefIdeal.Gen.facts) := fun m ρ _ =>
  (θ_run Cert.GateTRefIdeal.defs _ _).mono (fun r h => ⟨fun c => (h c).2.2,
    sem_eq_zero_of_no_sems (by decide) r.2⟩) (Cert.GateTRefIdeal.Value.run m ρ)

/-- The reference is quiescent: it has no kernel, so no semaphore is ever touched. -/
theorem frame_DownTRefIdeal : Cert.quiescent_DownTRefIdeal (hDownTRefIdeal := Cert.DownTRefIdeal.Gen.facts) := fun m ρ _ =>
  (θ_run Cert.DownTRefIdeal.defs _ _).mono (fun r h => ⟨fun c => (h c).2,
    sem_eq_zero_of_no_sems (by decide) r.2⟩) (Cert.DownTRefIdeal.Value.run m ρ)

/-- The reference is quiescent: it has no kernel, so no semaphore is ever touched. -/
theorem frame_UpRefIdeal : Cert.quiescent_UpRefIdeal (hUpRefIdeal := Cert.UpRefIdeal.Gen.facts) := fun m ρ _ =>
  (θ_run Cert.UpRefIdeal.defs _ _).mono (fun r h => ⟨fun c => (h c).2,
    sem_eq_zero_of_no_sems (by decide) r.2⟩) (Cert.UpRefIdeal.Value.run m ρ)

/-- The reference is quiescent: it has no kernel, so no semaphore is ever touched. -/
theorem frame_DownRefIdeal : Cert.quiescent_DownRefIdeal (hDownRefIdeal := Cert.DownRefIdeal.Gen.facts) := fun m ρ _ =>
  (θ_run Cert.DownRefIdeal.defs _ _).mono (fun r h => ⟨fun c => (h c).2.2,
    sem_eq_zero_of_no_sems (by decide) r.2⟩) (Cert.DownRefIdeal.Value.run m ρ)

/-- The reference is quiescent: it has no kernel, so no semaphore is ever touched. -/
theorem frame_InProjRefIdeal : Cert.quiescent_InProjRefIdeal (hInProjRefIdeal := Cert.InProjRefIdeal.Gen.facts) := fun m ρ _ =>
  (θ_run Cert.InProjRefIdeal.defs _ _).mono (fun r h => ⟨fun c => (h c).2,
    sem_eq_zero_of_no_sems (by decide) r.2⟩) (Cert.InProjRefIdeal.Value.run m ρ)

/-- The reference is quiescent: it has no kernel, so no semaphore is ever touched. -/
theorem frame_GateRefIdeal : Cert.quiescent_GateRefIdeal (hGateRefIdeal := Cert.GateRefIdeal.Gen.facts) := fun m ρ _ =>
  (θ_run Cert.GateRefIdeal.defs _ _).mono (fun r h => ⟨fun c => (h c).2,
    sem_eq_zero_of_no_sems (by decide) r.2⟩) (Cert.GateRefIdeal.Value.run m ρ)

/-- The reference is quiescent: it has no kernel, so no semaphore is ever touched. -/
theorem frame_ProjRefIdeal : Cert.quiescent_ProjRefIdeal (hProjRefIdeal := Cert.ProjRefIdeal.Gen.facts) := fun m ρ _ =>
  (θ_run Cert.ProjRefIdeal.defs _ _).mono (fun r h => ⟨fun c => (h c).2,
    sem_eq_zero_of_no_sems (by decide) r.2⟩) (Cert.ProjRefIdeal.Value.run m ρ)

/-- The reference is quiescent: it has no kernel, so no semaphore is ever touched. -/
theorem frame_AInRefIdeal : Cert.quiescent_AInRefIdeal (hAInRefIdeal := Cert.AInRefIdeal.Gen.facts) := fun m ρ _ =>
  (θ_run Cert.AInRefIdeal.defs _ _).mono (fun r h => ⟨fun c => (h c).2.2.2.2,
    sem_eq_zero_of_no_sems (by decide) r.2⟩) (Cert.AInRefIdeal.Value.run m ρ)

/-- The reference is quiescent: it has no kernel, so no semaphore is ever touched. -/
theorem frame_AUpRefIdeal : Cert.quiescent_AUpRefIdeal (hAUpRefIdeal := Cert.AUpRefIdeal.Gen.facts) := fun m ρ _ =>
  (θ_run Cert.AUpRefIdeal.defs _ _).mono (fun r h => ⟨fun c => (h c).2.2.2.2,
    sem_eq_zero_of_no_sems (by decide) r.2⟩) (Cert.AUpRefIdeal.Value.run m ρ)

/-- The reference is quiescent: it has no kernel, so no semaphore is ever touched. -/
theorem frame_ADownRefIdeal : Cert.quiescent_ADownRefIdeal (hADownRefIdeal := Cert.ADownRefIdeal.Gen.facts) := fun m ρ _ =>
  (θ_run Cert.ADownRefIdeal.defs _ _).mono (fun r h => ⟨fun c => (h c).2.2.2.2,
    sem_eq_zero_of_no_sems (by decide) r.2⟩) (Cert.ADownRefIdeal.Value.run m ρ)

/-- The reference is quiescent: it has no kernel, so no semaphore is ever touched. -/
theorem frame_AOutRefIdeal : Cert.quiescent_AOutRefIdeal (hAOutRefIdeal := Cert.AOutRefIdeal.Gen.facts) := fun m ρ _ =>
  (θ_run Cert.AOutRefIdeal.defs _ _).mono (fun r h => ⟨fun c => (h c).2.2.2.2,
    sem_eq_zero_of_no_sems (by decide) r.2⟩) (Cert.AOutRefIdeal.Value.run m ρ)

/-- The reference is quiescent: it has no kernel, so no semaphore is ever touched. -/
theorem frame_AGateRefIdeal : Cert.quiescent_AGateRefIdeal (hAGateRefIdeal := Cert.AGateRefIdeal.Gen.facts) := fun m ρ _ =>
  (θ_run Cert.AGateRefIdeal.defs _ _).mono (fun r h => ⟨fun c => (h c).2.2.2.2,
    sem_eq_zero_of_no_sems (by decide) r.2⟩) (Cert.AGateRefIdeal.Value.run m ρ)

/-- The reference is quiescent: it has no kernel, so no semaphore is ever touched. -/
theorem frame_AProjRefIdeal : Cert.quiescent_AProjRefIdeal (hAProjRefIdeal := Cert.AProjRefIdeal.Gen.facts) := fun m ρ _ =>
  (θ_run Cert.AProjRefIdeal.defs _ _).mono (fun r h => ⟨fun c => (h c).2.2.2.2,
    sem_eq_zero_of_no_sems (by decide) r.2⟩) (Cert.AProjRefIdeal.Value.run m ρ)

/-- The reference is quiescent: it has no kernel, so no semaphore is ever touched. -/
theorem frame_AGluRefIdeal : Cert.quiescent_AGluRefIdeal (hAGluRefIdeal := Cert.AGluRefIdeal.Gen.facts) := fun m ρ _ =>
  (θ_run Cert.AGluRefIdeal.defs _ _).mono (fun r h => ⟨fun c => (h c).2.2.2.2,
    sem_eq_zero_of_no_sems (by decide) r.2⟩) (Cert.AGluRefIdeal.Value.run m ρ)

/-- The reference is quiescent: it has no kernel, so no semaphore is ever touched. -/
theorem frame_ASmallRefIdeal : Cert.quiescent_ASmallRefIdeal (hASmallRefIdeal := Cert.ASmallRefIdeal.Gen.facts) := fun m ρ _ =>
  (θ_run Cert.ASmallRefIdeal.defs _ _).mono (fun r h => ⟨fun c => (h c).2.2.2.2,
    sem_eq_zero_of_no_sems (by decide) r.2⟩) (Cert.ASmallRefIdeal.Value.run m ρ)

/-- The reference is quiescent: it has no kernel, so no semaphore is ever touched. -/
theorem frame_MixRefIdeal : Cert.quiescent_MixRefIdeal (hMixRefIdeal := Cert.MixRefIdeal.Gen.facts) := fun m ρ _ =>
  (θ_run Cert.MixRefIdeal.defs _ _).mono (fun r h => ⟨fun c => (h c).2.2.2,
    sem_eq_zero_of_no_sems (by decide) r.2⟩) (Cert.MixRefIdeal.Value.run m ρ)

/-- The reference is quiescent: it has no kernel, so no semaphore is ever touched. -/
theorem frame_MixTRefIdeal : Cert.quiescent_MixTRefIdeal (hMixTRefIdeal := Cert.MixTRefIdeal.Gen.facts) := fun m ρ _ =>
  (θ_run Cert.MixTRefIdeal.defs _ _).mono (fun r h => ⟨fun c => (h c).2.2.2.2,
    sem_eq_zero_of_no_sems (by decide) r.2⟩) (Cert.MixTRefIdeal.Value.run m ρ)

/-- Every claim of the certificate. -/
theorem claim : Cert.Claim := ⟨Cert.Kernel.Gen.facts, Cert.KernelIdeal.Gen.facts, Cert.ReferenceIdeal.Gen.facts, Cert.DUp.Gen.facts, Cert.DUpIdeal.Gen.facts, Cert.DUpRefIdeal.Gen.facts, Cert.DDown.Gen.facts, Cert.DDownIdeal.Gen.facts, Cert.DDownRefIdeal.Gen.facts, Cert.DIn.Gen.facts, Cert.DInIdeal.Gen.facts, Cert.DInRefIdeal.Gen.facts, Cert.DGate.Gen.facts, Cert.DGateIdeal.Gen.facts, Cert.DGateRefIdeal.Gen.facts, Cert.DOut.Gen.facts, Cert.DOutIdeal.Gen.facts, Cert.DOutRefIdeal.Gen.facts, Cert.DProj.Gen.facts, Cert.DProjIdeal.Gen.facts, Cert.DProjRefIdeal.Gen.facts, Cert.DGlu.Gen.facts, Cert.DGluIdeal.Gen.facts, Cert.DGluRefIdeal.Gen.facts, Cert.UpT.Gen.facts, Cert.UpTIdeal.Gen.facts, Cert.UpTRefIdeal.Gen.facts, Cert.InT.Gen.facts, Cert.InTIdeal.Gen.facts, Cert.InTRefIdeal.Gen.facts, Cert.GateT.Gen.facts, Cert.GateTIdeal.Gen.facts, Cert.GateTRefIdeal.Gen.facts, Cert.DownT.Gen.facts, Cert.DownTIdeal.Gen.facts, Cert.DownTRefIdeal.Gen.facts, Cert.Up.Gen.facts, Cert.UpIdeal.Gen.facts, Cert.UpRefIdeal.Gen.facts, Cert.Down.Gen.facts, Cert.DownIdeal.Gen.facts, Cert.DownRefIdeal.Gen.facts, Cert.InProj.Gen.facts, Cert.InProjIdeal.Gen.facts, Cert.InProjRefIdeal.Gen.facts, Cert.Gate.Gen.facts, Cert.GateIdeal.Gen.facts, Cert.GateRefIdeal.Gen.facts, Cert.Proj.Gen.facts, Cert.ProjIdeal.Gen.facts, Cert.ProjRefIdeal.Gen.facts, Cert.AIn.Gen.facts, Cert.AInIdeal.Gen.facts, Cert.AInRefIdeal.Gen.facts, Cert.AUp.Gen.facts, Cert.AUpIdeal.Gen.facts, Cert.AUpRefIdeal.Gen.facts, Cert.ADown.Gen.facts, Cert.ADownIdeal.Gen.facts, Cert.ADownRefIdeal.Gen.facts, Cert.AOut.Gen.facts, Cert.AOutIdeal.Gen.facts, Cert.AOutRefIdeal.Gen.facts, Cert.AGate.Gen.facts, Cert.AGateIdeal.Gen.facts, Cert.AGateRefIdeal.Gen.facts, Cert.AProj.Gen.facts, Cert.AProjIdeal.Gen.facts, Cert.AProjRefIdeal.Gen.facts, Cert.AGlu.Gen.facts, Cert.AGluIdeal.Gen.facts, Cert.AGluRefIdeal.Gen.facts, Cert.ASmall.Gen.facts, Cert.ASmallIdeal.Gen.facts, Cert.ASmallRefIdeal.Gen.facts, Cert.Mix.Gen.facts, Cert.MixIdeal.Gen.facts, Cert.MixRefIdeal.Gen.facts, Cert.MixT.Gen.facts, Cert.MixTIdeal.Gen.facts, Cert.MixTRefIdeal.Gen.facts, Cert.Pre_finite.Gen.facts, Cert.Pre_finite_up.Gen.facts, Cert.Pre_finite_in.Gen.facts, Cert.Pre_finite_gate.Gen.facts, Cert.Pre_finite_mix.Gen.facts,
  fun m ρ _ => Cert.Kernel.Gen.frame m ρ,
  fun m ρ _ => Cert.KernelIdeal.Gen.frame m ρ,
  fun m ρ _ => Cert.KernelIdeal.Gen.frame m ρ,
  frame_ReferenceIdeal,
  fun m ρ _ => frame_ReferenceIdeal m ρ trivial,
  fun m ρ _ => Cert.DUp.Gen.frame m ρ,
  fun m ρ _ => Cert.DUpIdeal.Gen.frame m ρ,
  frame_DUpRefIdeal,
  fun m ρ _ => Cert.DDown.Gen.frame m ρ,
  fun m ρ _ => Cert.DDownIdeal.Gen.frame m ρ,
  frame_DDownRefIdeal,
  fun m ρ _ => Cert.DIn.Gen.frame m ρ,
  fun m ρ _ => Cert.DInIdeal.Gen.frame m ρ,
  frame_DInRefIdeal,
  fun m ρ _ => Cert.DGate.Gen.frame m ρ,
  fun m ρ _ => Cert.DGateIdeal.Gen.frame m ρ,
  frame_DGateRefIdeal,
  fun m ρ _ => Cert.DOut.Gen.frame m ρ,
  fun m ρ _ => Cert.DOutIdeal.Gen.frame m ρ,
  frame_DOutRefIdeal,
  fun m ρ _ => Cert.DProj.Gen.frame m ρ,
  fun m ρ _ => Cert.DProjIdeal.Gen.frame m ρ,
  frame_DProjRefIdeal,
  fun m ρ _ => Cert.DGlu.Gen.frame m ρ,
  fun m ρ _ => Cert.DGluIdeal.Gen.frame m ρ,
  frame_DGluRefIdeal,
  fun m ρ _ => Cert.UpT.Gen.frame m ρ,
  fun m ρ _ => Cert.UpTIdeal.Gen.frame m ρ,
  fun m ρ _ => Cert.UpTIdeal.Gen.frame m ρ,
  frame_UpTRefIdeal,
  fun m ρ _ => frame_UpTRefIdeal m ρ trivial,
  fun m ρ _ => Cert.InT.Gen.frame m ρ,
  fun m ρ _ => Cert.InTIdeal.Gen.frame m ρ,
  fun m ρ _ => Cert.InTIdeal.Gen.frame m ρ,
  frame_InTRefIdeal,
  fun m ρ _ => frame_InTRefIdeal m ρ trivial,
  fun m ρ _ => Cert.GateT.Gen.frame m ρ,
  fun m ρ _ => Cert.GateTIdeal.Gen.frame m ρ,
  fun m ρ _ => Cert.GateTIdeal.Gen.frame m ρ,
  frame_GateTRefIdeal,
  fun m ρ _ => frame_GateTRefIdeal m ρ trivial,
  fun m ρ _ => Cert.DownT.Gen.frame m ρ,
  fun m ρ _ => Cert.DownTIdeal.Gen.frame m ρ,
  frame_DownTRefIdeal,
  fun m ρ _ => Cert.Up.Gen.frame m ρ,
  fun m ρ _ => Cert.UpIdeal.Gen.frame m ρ,
  frame_UpRefIdeal,
  fun m ρ _ => Cert.Down.Gen.frame m ρ,
  fun m ρ _ => Cert.DownIdeal.Gen.frame m ρ,
  frame_DownRefIdeal,
  fun m ρ _ => Cert.InProj.Gen.frame m ρ,
  fun m ρ _ => Cert.InProjIdeal.Gen.frame m ρ,
  frame_InProjRefIdeal,
  fun m ρ _ => Cert.Gate.Gen.frame m ρ,
  fun m ρ _ => Cert.GateIdeal.Gen.frame m ρ,
  frame_GateRefIdeal,
  fun m ρ _ => Cert.Proj.Gen.frame m ρ,
  fun m ρ _ => Cert.ProjIdeal.Gen.frame m ρ,
  frame_ProjRefIdeal,
  fun m ρ _ => Cert.AIn.Gen.frame m ρ,
  fun m ρ _ => Cert.AInIdeal.Gen.frame m ρ,
  frame_AInRefIdeal,
  fun m ρ _ => Cert.AUp.Gen.frame m ρ,
  fun m ρ _ => Cert.AUpIdeal.Gen.frame m ρ,
  frame_AUpRefIdeal,
  fun m ρ _ => Cert.ADown.Gen.frame m ρ,
  fun m ρ _ => Cert.ADownIdeal.Gen.frame m ρ,
  frame_ADownRefIdeal,
  fun m ρ _ => Cert.AOut.Gen.frame m ρ,
  fun m ρ _ => Cert.AOutIdeal.Gen.frame m ρ,
  frame_AOutRefIdeal,
  fun m ρ _ => Cert.AGate.Gen.frame m ρ,
  fun m ρ _ => Cert.AGateIdeal.Gen.frame m ρ,
  frame_AGateRefIdeal,
  fun m ρ _ => Cert.AProj.Gen.frame m ρ,
  fun m ρ _ => Cert.AProjIdeal.Gen.frame m ρ,
  frame_AProjRefIdeal,
  fun m ρ _ => Cert.AGlu.Gen.frame m ρ,
  fun m ρ _ => Cert.AGluIdeal.Gen.frame m ρ,
  frame_AGluRefIdeal,
  fun m ρ _ => Cert.ASmall.Gen.frame m ρ,
  fun m ρ _ => Cert.ASmallIdeal.Gen.frame m ρ,
  frame_ASmallRefIdeal,
  fun m ρ _ => Cert.Mix.Gen.frame m ρ,
  fun m ρ _ => Cert.MixIdeal.Gen.frame m ρ,
  frame_MixRefIdeal,
  fun m ρ _ => Cert.MixT.Gen.frame m ρ,
  fun m ρ _ => Cert.MixTIdeal.Gen.frame m ρ,
  fun m ρ _ => Cert.MixTIdeal.Gen.frame m ρ,
  frame_MixTRefIdeal,
  fun m ρ _ => frame_MixTRefIdeal m ρ trivial,
  ⟨IdealRules.named_const.statement Cert.KernelIdeal.κ "cube" .f32 0x3D372713#32 ((8943 / 200000 : ℝ) : EReal) rfl,
    IdealRules.named_const.statement Cert.KernelIdeal.κ "cube_slope" .f32 0x3E095D4F#32 ((26829 / 200000 : ℝ) : EReal) rfl⟩,
  Cert.Conv.claim,
  trivial,
  Cert.DUp.claim,
  trivial,
  Cert.DDown.claim,
  trivial,
  Cert.DIn.claim,
  trivial,
  Cert.DGate.claim,
  trivial,
  Cert.DOut.claim,
  trivial,
  Cert.DProj.claim,
  trivial,
  Cert.DGlu.claim,
  trivial,
  Cert.UpT.claim,
  trivial,
  Cert.InT.claim,
  trivial,
  Cert.GateT.claim,
  trivial,
  Cert.DownT.claim,
  trivial,
  Cert.Up.claim,
  trivial,
  Cert.Down.claim,
  trivial,
  Cert.InProj.claim,
  trivial,
  Cert.Gate.claim,
  trivial,
  Cert.Proj.claim,
  trivial,
  Cert.AIn.claim,
  trivial,
  Cert.AUp.claim,
  trivial,
  Cert.ADown.claim,
  trivial,
  Cert.AOut.claim,
  trivial,
  Cert.AGate.claim,
  trivial,
  Cert.AProj.claim,
  trivial,
  Cert.AGlu.claim,
  trivial,
  Cert.ASmall.claim,
  trivial,
  Cert.Mix.claim,
  trivial,
  Cert.MixT.claim⟩

end Cert.Proof

end
